-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ffn00 (m : (ℓ : Loc Cert.Ffn00.nD Cert.Ffn00.τ Cert.Ffn00.sig) → Buf (Elt Bits) ℓ) : Prop :=
  True

def Pre_Ffn00Ideal (m : (ℓ : Loc Cert.Ffn00Ideal.nD Cert.Ffn00Ideal.τ Cert.Ffn00Ideal.sig) → Buf (Elt Ideal) ℓ) : Prop :=
  True

def Pre_Ffn00ReferenceIdeal (m : (ℓ : Loc Cert.Ffn00ReferenceIdeal.nD Cert.Ffn00ReferenceIdeal.τ Cert.Ffn00ReferenceIdeal.sig) → Buf (Elt Ideal) ℓ) : Prop :=
  True

def Pre_Ffn01 (m : (ℓ : Loc Cert.Ffn01.nD Cert.Ffn01.τ Cert.Ffn01.sig) → Buf (Elt Bits) ℓ) : Prop :=
  True

def Pre_Ffn01Ideal (m : (ℓ : Loc Cert.Ffn01Ideal.nD Cert.Ffn01Ideal.τ Cert.Ffn01Ideal.sig) → Buf (Elt Ideal) ℓ) : Prop :=
  True

def Pre_Ffn01ReferenceIdeal (m : (ℓ : Loc Cert.Ffn01ReferenceIdeal.nD Cert.Ffn01ReferenceIdeal.τ Cert.Ffn01ReferenceIdeal.sig) → Buf (Elt Ideal) ℓ) : Prop :=
  True

def Pre_Ffn10 (m : (ℓ : Loc Cert.Ffn10.nD Cert.Ffn10.τ Cert.Ffn10.sig) → Buf (Elt Bits) ℓ) : Prop :=
  True

def Pre_Ffn10Ideal (m : (ℓ : Loc Cert.Ffn10Ideal.nD Cert.Ffn10Ideal.τ Cert.Ffn10Ideal.sig) → Buf (Elt Ideal) ℓ) : Prop :=
  True

def Pre_Ffn10ReferenceIdeal (m : (ℓ : Loc Cert.Ffn10ReferenceIdeal.nD Cert.Ffn10ReferenceIdeal.τ Cert.Ffn10ReferenceIdeal.sig) → Buf (Elt Ideal) ℓ) : Prop :=
  True

def Pre_Ffn11 (m : (ℓ : Loc Cert.Ffn11.nD Cert.Ffn11.τ Cert.Ffn11.sig) → Buf (Elt Bits) ℓ) : Prop :=
  True

def Pre_Ffn11Ideal (m : (ℓ : Loc Cert.Ffn11Ideal.nD Cert.Ffn11Ideal.τ Cert.Ffn11Ideal.sig) → Buf (Elt Ideal) ℓ) : Prop :=
  True

def Pre_Ffn11ReferenceIdeal (m : (ℓ : Loc Cert.Ffn11ReferenceIdeal.nD Cert.Ffn11ReferenceIdeal.τ Cert.Ffn11ReferenceIdeal.sig) → Buf (Elt Ideal) ℓ) : Prop :=
  True

def Pre_Ffn20 (m : (ℓ : Loc Cert.Ffn20.nD Cert.Ffn20.τ Cert.Ffn20.sig) → Buf (Elt Bits) ℓ) : Prop :=
  True

def Pre_Ffn20Ideal (m : (ℓ : Loc Cert.Ffn20Ideal.nD Cert.Ffn20Ideal.τ Cert.Ffn20Ideal.sig) → Buf (Elt Ideal) ℓ) : Prop :=
  True

def Pre_Ffn20ReferenceIdeal (m : (ℓ : Loc Cert.Ffn20ReferenceIdeal.nD Cert.Ffn20ReferenceIdeal.τ Cert.Ffn20ReferenceIdeal.sig) → Buf (Elt Ideal) ℓ) : Prop :=
  True

def Pre_Ffn21 (m : (ℓ : Loc Cert.Ffn21.nD Cert.Ffn21.τ Cert.Ffn21.sig) → Buf (Elt Bits) ℓ) : Prop :=
  True

def Pre_Ffn21Ideal (m : (ℓ : Loc Cert.Ffn21Ideal.nD Cert.Ffn21Ideal.τ Cert.Ffn21Ideal.sig) → Buf (Elt Ideal) ℓ) : Prop :=
  True

def Pre_Ffn21ReferenceIdeal (m : (ℓ : Loc Cert.Ffn21ReferenceIdeal.nD Cert.Ffn21ReferenceIdeal.τ Cert.Ffn21ReferenceIdeal.sig) → Buf (Elt Ideal) ℓ) : Prop :=
  True

def Pre_Ffn30 (m : (ℓ : Loc Cert.Ffn30.nD Cert.Ffn30.τ Cert.Ffn30.sig) → Buf (Elt Bits) ℓ) : Prop :=
  True

def Pre_Ffn30Ideal (m : (ℓ : Loc Cert.Ffn30Ideal.nD Cert.Ffn30Ideal.τ Cert.Ffn30Ideal.sig) → Buf (Elt Ideal) ℓ) : Prop :=
  True

def Pre_Ffn30ReferenceIdeal (m : (ℓ : Loc Cert.Ffn30ReferenceIdeal.nD Cert.Ffn30ReferenceIdeal.τ Cert.Ffn30ReferenceIdeal.sig) → Buf (Elt Ideal) ℓ) : Prop :=
  True

def Pre_AbIn0 (m : (ℓ : Loc Cert.AbIn0.nD Cert.AbIn0.τ Cert.AbIn0.sig) → Buf (Elt Bits) ℓ) : Prop :=
  True

def Pre_AbIn0Ideal (m : (ℓ : Loc Cert.AbIn0Ideal.nD Cert.AbIn0Ideal.τ Cert.AbIn0Ideal.sig) → Buf (Elt Ideal) ℓ) : Prop :=
  True

def Pre_AbIn0ReferenceIdeal (m : (ℓ : Loc Cert.AbIn0ReferenceIdeal.nD Cert.AbIn0ReferenceIdeal.τ Cert.AbIn0ReferenceIdeal.sig) → Buf (Elt Ideal) ℓ) : Prop :=
  True

def Pre_AbIn2 (m : (ℓ : Loc Cert.AbIn2.nD Cert.AbIn2.τ Cert.AbIn2.sig) → Buf (Elt Bits) ℓ) : Prop :=
  True

def Pre_AbIn2Ideal (m : (ℓ : Loc Cert.AbIn2Ideal.nD Cert.AbIn2Ideal.τ Cert.AbIn2Ideal.sig) → Buf (Elt Ideal) ℓ) : Prop :=
  True

def Pre_AbIn2ReferenceIdeal (m : (ℓ : Loc Cert.AbIn2ReferenceIdeal.nD Cert.AbIn2ReferenceIdeal.τ Cert.AbIn2ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_Ffn00 [hFfn00 : Cert.Ffn00.Facts] : Prop :=
  ∀ (m : (ℓ : Loc Cert.Ffn00.nD Cert.Ffn00.τ Cert.Ffn00.sig) → Buf (Elt Bits) ℓ) (g : Dev Cert.Ffn00.nD → PrngReg), Pre_Ffn00 m →
    θ_run (Cert.Ffn00.defs (F := Bits)) (onTc (τ := Cert.Ffn00.τ) (Cert.Ffn00.main (F := Bits))) ⟨m, fun _ => 0, g⟩ (fun r => (∀ c : Dev Cert.Ffn00.nD,
      r.2.mem ((c.tc : Thread Cert.Ffn00.nD Cert.Ffn00.τ).loc Cert.Ffn00.main_arg0) = m ((c.tc : Thread Cert.Ffn00.nD Cert.Ffn00.τ).loc Cert.Ffn00.main_arg0)
      ∧ r.2.mem ((c.tc : Thread Cert.Ffn00.nD Cert.Ffn00.τ).loc Cert.Ffn00.main_arg1) = m ((c.tc : Thread Cert.Ffn00.nD Cert.Ffn00.τ).loc Cert.Ffn00.main_arg1)
      ∧ r.2.mem ((c.tc : Thread Cert.Ffn00.nD Cert.Ffn00.τ).loc Cert.Ffn00.main_arg2) = m ((c.tc : Thread Cert.Ffn00.nD Cert.Ffn00.τ).loc Cert.Ffn00.main_arg2)
      ∧ r.2.mem ((c.tc : Thread Cert.Ffn00.nD Cert.Ffn00.τ).loc Cert.Ffn00.main_arg3) = m ((c.tc : Thread Cert.Ffn00.nD Cert.Ffn00.τ).loc Cert.Ffn00.main_arg3)
      ∧ r.2.mem ((c.tc : Thread Cert.Ffn00.nD Cert.Ffn00.τ).loc Cert.Ffn00.main_arg4) = m ((c.tc : Thread Cert.Ffn00.nD Cert.Ffn00.τ).loc Cert.Ffn00.main_arg4)
      ∧ r.2.mem ((c.tc : Thread Cert.Ffn00.nD Cert.Ffn00.τ).loc Cert.Ffn00.main_arg5) = m ((c.tc : Thread Cert.Ffn00.nD Cert.Ffn00.τ).loc Cert.Ffn00.main_arg5)
      ∧ r.2.mem ((c.tc : Thread Cert.Ffn00.nD Cert.Ffn00.τ).loc Cert.Ffn00.main_arg6) = m ((c.tc : Thread Cert.Ffn00.nD Cert.Ffn00.τ).loc Cert.Ffn00.main_arg6))
      ∧ r.2.sem = fun _ => 0)

def quiescent_Ffn00Ideal [hFfn00Ideal : Cert.Ffn00Ideal.Facts] : Prop :=
  ∀ (m : (ℓ : Loc Cert.Ffn00Ideal.nD Cert.Ffn00Ideal.τ Cert.Ffn00Ideal.sig) → Buf (Elt Ideal) ℓ) (g : Dev Cert.Ffn00Ideal.nD → PrngReg), Pre_Ffn00Ideal m →
    θ_run (Cert.Ffn00Ideal.defs (F := Ideal)) (onTc (τ := Cert.Ffn00Ideal.τ) (Cert.Ffn00Ideal.main (F := Ideal))) ⟨m, fun _ => 0, g⟩ (fun r => (∀ c : Dev Cert.Ffn00Ideal.nD,
      r.2.mem ((c.tc : Thread Cert.Ffn00Ideal.nD Cert.Ffn00Ideal.τ).loc Cert.Ffn00Ideal.main_arg0) = m ((c.tc : Thread Cert.Ffn00Ideal.nD Cert.Ffn00Ideal.τ).loc Cert.Ffn00Ideal.main_arg0)
      ∧ r.2.mem ((c.tc : Thread Cert.Ffn00Ideal.nD Cert.Ffn00Ideal.τ).loc Cert.Ffn00Ideal.main_arg1) = m ((c.tc : Thread Cert.Ffn00Ideal.nD Cert.Ffn00Ideal.τ).loc Cert.Ffn00Ideal.main_arg1)
      ∧ r.2.mem ((c.tc : Thread Cert.Ffn00Ideal.nD Cert.Ffn00Ideal.τ).loc Cert.Ffn00Ideal.main_arg2) = m ((c.tc : Thread Cert.Ffn00Ideal.nD Cert.Ffn00Ideal.τ).loc Cert.Ffn00Ideal.main_arg2)
      ∧ r.2.mem ((c.tc : Thread Cert.Ffn00Ideal.nD Cert.Ffn00Ideal.τ).loc Cert.Ffn00Ideal.main_arg3) = m ((c.tc : Thread Cert.Ffn00Ideal.nD Cert.Ffn00Ideal.τ).loc Cert.Ffn00Ideal.main_arg3)
      ∧ r.2.mem ((c.tc : Thread Cert.Ffn00Ideal.nD Cert.Ffn00Ideal.τ).loc Cert.Ffn00Ideal.main_arg4) = m ((c.tc : Thread Cert.Ffn00Ideal.nD Cert.Ffn00Ideal.τ).loc Cert.Ffn00Ideal.main_arg4)
      ∧ r.2.mem ((c.tc : Thread Cert.Ffn00Ideal.nD Cert.Ffn00Ideal.τ).loc Cert.Ffn00Ideal.main_arg5) = m ((c.tc : Thread Cert.Ffn00Ideal.nD Cert.Ffn00Ideal.τ).loc Cert.Ffn00Ideal.main_arg5)
      ∧ r.2.mem ((c.tc : Thread Cert.Ffn00Ideal.nD Cert.Ffn00Ideal.τ).loc Cert.Ffn00Ideal.main_arg6) = m ((c.tc : Thread Cert.Ffn00Ideal.nD Cert.Ffn00Ideal.τ).loc Cert.Ffn00Ideal.main_arg6))
      ∧ r.2.sem = fun _ => 0)

def quiescent_Ffn00ReferenceIdeal [hFfn00ReferenceIdeal : Cert.Ffn00ReferenceIdeal.Facts] : Prop :=
  ∀ (m : (ℓ : Loc Cert.Ffn00ReferenceIdeal.nD Cert.Ffn00ReferenceIdeal.τ Cert.Ffn00ReferenceIdeal.sig) → Buf (Elt Ideal) ℓ) (g : Dev Cert.Ffn00ReferenceIdeal.nD → PrngReg), Pre_Ffn00ReferenceIdeal m →
    θ_run (Cert.Ffn00ReferenceIdeal.defs (F := Ideal)) (onTc (τ := Cert.Ffn00ReferenceIdeal.τ) (Cert.Ffn00ReferenceIdeal.main (F := Ideal))) ⟨m, fun _ => 0, g⟩ (fun r => (∀ c : Dev Cert.Ffn00ReferenceIdeal.nD,
      r.2.mem ((c.tc : Thread Cert.Ffn00ReferenceIdeal.nD Cert.Ffn00ReferenceIdeal.τ).loc Cert.Ffn00ReferenceIdeal.main_arg0) = m ((c.tc : Thread Cert.Ffn00ReferenceIdeal.nD Cert.Ffn00ReferenceIdeal.τ).loc Cert.Ffn00ReferenceIdeal.main_arg0)
      ∧ r.2.mem ((c.tc : Thread Cert.Ffn00ReferenceIdeal.nD Cert.Ffn00ReferenceIdeal.τ).loc Cert.Ffn00ReferenceIdeal.main_arg1) = m ((c.tc : Thread Cert.Ffn00ReferenceIdeal.nD Cert.Ffn00ReferenceIdeal.τ).loc Cert.Ffn00ReferenceIdeal.main_arg1)
      ∧ r.2.mem ((c.tc : Thread Cert.Ffn00ReferenceIdeal.nD Cert.Ffn00ReferenceIdeal.τ).loc Cert.Ffn00ReferenceIdeal.main_arg2) = m ((c.tc : Thread Cert.Ffn00ReferenceIdeal.nD Cert.Ffn00ReferenceIdeal.τ).loc Cert.Ffn00ReferenceIdeal.main_arg2)
      ∧ r.2.mem ((c.tc : Thread Cert.Ffn00ReferenceIdeal.nD Cert.Ffn00ReferenceIdeal.τ).loc Cert.Ffn00ReferenceIdeal.main_arg3) = m ((c.tc : Thread Cert.Ffn00ReferenceIdeal.nD Cert.Ffn00ReferenceIdeal.τ).loc Cert.Ffn00ReferenceIdeal.main_arg3)
      ∧ r.2.mem ((c.tc : Thread Cert.Ffn00ReferenceIdeal.nD Cert.Ffn00ReferenceIdeal.τ).loc Cert.Ffn00ReferenceIdeal.main_arg4) = m ((c.tc : Thread Cert.Ffn00ReferenceIdeal.nD Cert.Ffn00ReferenceIdeal.τ).loc Cert.Ffn00ReferenceIdeal.main_arg4)
      ∧ r.2.mem ((c.tc : Thread Cert.Ffn00ReferenceIdeal.nD Cert.Ffn00ReferenceIdeal.τ).loc Cert.Ffn00ReferenceIdeal.main_arg5) = m ((c.tc : Thread Cert.Ffn00ReferenceIdeal.nD Cert.Ffn00ReferenceIdeal.τ).loc Cert.Ffn00ReferenceIdeal.main_arg5)
      ∧ r.2.mem ((c.tc : Thread Cert.Ffn00ReferenceIdeal.nD Cert.Ffn00ReferenceIdeal.τ).loc Cert.Ffn00ReferenceIdeal.main_arg6) = m ((c.tc : Thread Cert.Ffn00ReferenceIdeal.nD Cert.Ffn00ReferenceIdeal.τ).loc Cert.Ffn00ReferenceIdeal.main_arg6))
      ∧ r.2.sem = fun _ => 0)

def quiescent_Ffn01 [hFfn01 : Cert.Ffn01.Facts] : Prop :=
  ∀ (m : (ℓ : Loc Cert.Ffn01.nD Cert.Ffn01.τ Cert.Ffn01.sig) → Buf (Elt Bits) ℓ) (g : Dev Cert.Ffn01.nD → PrngReg), Pre_Ffn01 m →
    θ_run (Cert.Ffn01.defs (F := Bits)) (onTc (τ := Cert.Ffn01.τ) (Cert.Ffn01.main (F := Bits))) ⟨m, fun _ => 0, g⟩ (fun r => (∀ c : Dev Cert.Ffn01.nD,
      r.2.mem ((c.tc : Thread Cert.Ffn01.nD Cert.Ffn01.τ).loc Cert.Ffn01.main_arg0) = m ((c.tc : Thread Cert.Ffn01.nD Cert.Ffn01.τ).loc Cert.Ffn01.main_arg0)
      ∧ r.2.mem ((c.tc : Thread Cert.Ffn01.nD Cert.Ffn01.τ).loc Cert.Ffn01.main_arg1) = m ((c.tc : Thread Cert.Ffn01.nD Cert.Ffn01.τ).loc Cert.Ffn01.main_arg1)
      ∧ r.2.mem ((c.tc : Thread Cert.Ffn01.nD Cert.Ffn01.τ).loc Cert.Ffn01.main_arg2) = m ((c.tc : Thread Cert.Ffn01.nD Cert.Ffn01.τ).loc Cert.Ffn01.main_arg2)
      ∧ r.2.mem ((c.tc : Thread Cert.Ffn01.nD Cert.Ffn01.τ).loc Cert.Ffn01.main_arg3) = m ((c.tc : Thread Cert.Ffn01.nD Cert.Ffn01.τ).loc Cert.Ffn01.main_arg3)
      ∧ r.2.mem ((c.tc : Thread Cert.Ffn01.nD Cert.Ffn01.τ).loc Cert.Ffn01.main_arg4) = m ((c.tc : Thread Cert.Ffn01.nD Cert.Ffn01.τ).loc Cert.Ffn01.main_arg4)
      ∧ r.2.mem ((c.tc : Thread Cert.Ffn01.nD Cert.Ffn01.τ).loc Cert.Ffn01.main_arg5) = m ((c.tc : Thread Cert.Ffn01.nD Cert.Ffn01.τ).loc Cert.Ffn01.main_arg5)
      ∧ r.2.mem ((c.tc : Thread Cert.Ffn01.nD Cert.Ffn01.τ).loc Cert.Ffn01.main_arg6) = m ((c.tc : Thread Cert.Ffn01.nD Cert.Ffn01.τ).loc Cert.Ffn01.main_arg6))
      ∧ r.2.sem = fun _ => 0)

def quiescent_Ffn01Ideal [hFfn01Ideal : Cert.Ffn01Ideal.Facts] : Prop :=
  ∀ (m : (ℓ : Loc Cert.Ffn01Ideal.nD Cert.Ffn01Ideal.τ Cert.Ffn01Ideal.sig) → Buf (Elt Ideal) ℓ) (g : Dev Cert.Ffn01Ideal.nD → PrngReg), Pre_Ffn01Ideal m →
    θ_run (Cert.Ffn01Ideal.defs (F := Ideal)) (onTc (τ := Cert.Ffn01Ideal.τ) (Cert.Ffn01Ideal.main (F := Ideal))) ⟨m, fun _ => 0, g⟩ (fun r => (∀ c : Dev Cert.Ffn01Ideal.nD,
      r.2.mem ((c.tc : Thread Cert.Ffn01Ideal.nD Cert.Ffn01Ideal.τ).loc Cert.Ffn01Ideal.main_arg0) = m ((c.tc : Thread Cert.Ffn01Ideal.nD Cert.Ffn01Ideal.τ).loc Cert.Ffn01Ideal.main_arg0)
      ∧ r.2.mem ((c.tc : Thread Cert.Ffn01Ideal.nD Cert.Ffn01Ideal.τ).loc Cert.Ffn01Ideal.main_arg1) = m ((c.tc : Thread Cert.Ffn01Ideal.nD Cert.Ffn01Ideal.τ).loc Cert.Ffn01Ideal.main_arg1)
      ∧ r.2.mem ((c.tc : Thread Cert.Ffn01Ideal.nD Cert.Ffn01Ideal.τ).loc Cert.Ffn01Ideal.main_arg2) = m ((c.tc : Thread Cert.Ffn01Ideal.nD Cert.Ffn01Ideal.τ).loc Cert.Ffn01Ideal.main_arg2)
      ∧ r.2.mem ((c.tc : Thread Cert.Ffn01Ideal.nD Cert.Ffn01Ideal.τ).loc Cert.Ffn01Ideal.main_arg3) = m ((c.tc : Thread Cert.Ffn01Ideal.nD Cert.Ffn01Ideal.τ).loc Cert.Ffn01Ideal.main_arg3)
      ∧ r.2.mem ((c.tc : Thread Cert.Ffn01Ideal.nD Cert.Ffn01Ideal.τ).loc Cert.Ffn01Ideal.main_arg4) = m ((c.tc : Thread Cert.Ffn01Ideal.nD Cert.Ffn01Ideal.τ).loc Cert.Ffn01Ideal.main_arg4)
      ∧ r.2.mem ((c.tc : Thread Cert.Ffn01Ideal.nD Cert.Ffn01Ideal.τ).loc Cert.Ffn01Ideal.main_arg5) = m ((c.tc : Thread Cert.Ffn01Ideal.nD Cert.Ffn01Ideal.τ).loc Cert.Ffn01Ideal.main_arg5)
      ∧ r.2.mem ((c.tc : Thread Cert.Ffn01Ideal.nD Cert.Ffn01Ideal.τ).loc Cert.Ffn01Ideal.main_arg6) = m ((c.tc : Thread Cert.Ffn01Ideal.nD Cert.Ffn01Ideal.τ).loc Cert.Ffn01Ideal.main_arg6))
      ∧ r.2.sem = fun _ => 0)

def quiescent_Ffn01ReferenceIdeal [hFfn01ReferenceIdeal : Cert.Ffn01ReferenceIdeal.Facts] : Prop :=
  ∀ (m : (ℓ : Loc Cert.Ffn01ReferenceIdeal.nD Cert.Ffn01ReferenceIdeal.τ Cert.Ffn01ReferenceIdeal.sig) → Buf (Elt Ideal) ℓ) (g : Dev Cert.Ffn01ReferenceIdeal.nD → PrngReg), Pre_Ffn01ReferenceIdeal m →
    θ_run (Cert.Ffn01ReferenceIdeal.defs (F := Ideal)) (onTc (τ := Cert.Ffn01ReferenceIdeal.τ) (Cert.Ffn01ReferenceIdeal.main (F := Ideal))) ⟨m, fun _ => 0, g⟩ (fun r => (∀ c : Dev Cert.Ffn01ReferenceIdeal.nD,
      r.2.mem ((c.tc : Thread Cert.Ffn01ReferenceIdeal.nD Cert.Ffn01ReferenceIdeal.τ).loc Cert.Ffn01ReferenceIdeal.main_arg0) = m ((c.tc : Thread Cert.Ffn01ReferenceIdeal.nD Cert.Ffn01ReferenceIdeal.τ).loc Cert.Ffn01ReferenceIdeal.main_arg0)
      ∧ r.2.mem ((c.tc : Thread Cert.Ffn01ReferenceIdeal.nD Cert.Ffn01ReferenceIdeal.τ).loc Cert.Ffn01ReferenceIdeal.main_arg1) = m ((c.tc : Thread Cert.Ffn01ReferenceIdeal.nD Cert.Ffn01ReferenceIdeal.τ).loc Cert.Ffn01ReferenceIdeal.main_arg1)
      ∧ r.2.mem ((c.tc : Thread Cert.Ffn01ReferenceIdeal.nD Cert.Ffn01ReferenceIdeal.τ).loc Cert.Ffn01ReferenceIdeal.main_arg2) = m ((c.tc : Thread Cert.Ffn01ReferenceIdeal.nD Cert.Ffn01ReferenceIdeal.τ).loc Cert.Ffn01ReferenceIdeal.main_arg2)
      ∧ r.2.mem ((c.tc : Thread Cert.Ffn01ReferenceIdeal.nD Cert.Ffn01ReferenceIdeal.τ).loc Cert.Ffn01ReferenceIdeal.main_arg3) = m ((c.tc : Thread Cert.Ffn01ReferenceIdeal.nD Cert.Ffn01ReferenceIdeal.τ).loc Cert.Ffn01ReferenceIdeal.main_arg3)
      ∧ r.2.mem ((c.tc : Thread Cert.Ffn01ReferenceIdeal.nD Cert.Ffn01ReferenceIdeal.τ).loc Cert.Ffn01ReferenceIdeal.main_arg4) = m ((c.tc : Thread Cert.Ffn01ReferenceIdeal.nD Cert.Ffn01ReferenceIdeal.τ).loc Cert.Ffn01ReferenceIdeal.main_arg4)
      ∧ r.2.mem ((c.tc : Thread Cert.Ffn01ReferenceIdeal.nD Cert.Ffn01ReferenceIdeal.τ).loc Cert.Ffn01ReferenceIdeal.main_arg5) = m ((c.tc : Thread Cert.Ffn01ReferenceIdeal.nD Cert.Ffn01ReferenceIdeal.τ).loc Cert.Ffn01ReferenceIdeal.main_arg5)
      ∧ r.2.mem ((c.tc : Thread Cert.Ffn01ReferenceIdeal.nD Cert.Ffn01ReferenceIdeal.τ).loc Cert.Ffn01ReferenceIdeal.main_arg6) = m ((c.tc : Thread Cert.Ffn01ReferenceIdeal.nD Cert.Ffn01ReferenceIdeal.τ).loc Cert.Ffn01ReferenceIdeal.main_arg6))
      ∧ r.2.sem = fun _ => 0)

def quiescent_Ffn10 [hFfn10 : Cert.Ffn10.Facts] : Prop :=
  ∀ (m : (ℓ : Loc Cert.Ffn10.nD Cert.Ffn10.τ Cert.Ffn10.sig) → Buf (Elt Bits) ℓ) (g : Dev Cert.Ffn10.nD → PrngReg), Pre_Ffn10 m →
    θ_run (Cert.Ffn10.defs (F := Bits)) (onTc (τ := Cert.Ffn10.τ) (Cert.Ffn10.main (F := Bits))) ⟨m, fun _ => 0, g⟩ (fun r => (∀ c : Dev Cert.Ffn10.nD,
      r.2.mem ((c.tc : Thread Cert.Ffn10.nD Cert.Ffn10.τ).loc Cert.Ffn10.main_arg0) = m ((c.tc : Thread Cert.Ffn10.nD Cert.Ffn10.τ).loc Cert.Ffn10.main_arg0)
      ∧ r.2.mem ((c.tc : Thread Cert.Ffn10.nD Cert.Ffn10.τ).loc Cert.Ffn10.main_arg1) = m ((c.tc : Thread Cert.Ffn10.nD Cert.Ffn10.τ).loc Cert.Ffn10.main_arg1)
      ∧ r.2.mem ((c.tc : Thread Cert.Ffn10.nD Cert.Ffn10.τ).loc Cert.Ffn10.main_arg2) = m ((c.tc : Thread Cert.Ffn10.nD Cert.Ffn10.τ).loc Cert.Ffn10.main_arg2)
      ∧ r.2.mem ((c.tc : Thread Cert.Ffn10.nD Cert.Ffn10.τ).loc Cert.Ffn10.main_arg3) = m ((c.tc : Thread Cert.Ffn10.nD Cert.Ffn10.τ).loc Cert.Ffn10.main_arg3)
      ∧ r.2.mem ((c.tc : Thread Cert.Ffn10.nD Cert.Ffn10.τ).loc Cert.Ffn10.main_arg4) = m ((c.tc : Thread Cert.Ffn10.nD Cert.Ffn10.τ).loc Cert.Ffn10.main_arg4)
      ∧ r.2.mem ((c.tc : Thread Cert.Ffn10.nD Cert.Ffn10.τ).loc Cert.Ffn10.main_arg5) = m ((c.tc : Thread Cert.Ffn10.nD Cert.Ffn10.τ).loc Cert.Ffn10.main_arg5)
      ∧ r.2.mem ((c.tc : Thread Cert.Ffn10.nD Cert.Ffn10.τ).loc Cert.Ffn10.main_arg6) = m ((c.tc : Thread Cert.Ffn10.nD Cert.Ffn10.τ).loc Cert.Ffn10.main_arg6))
      ∧ r.2.sem = fun _ => 0)

def quiescent_Ffn10Ideal [hFfn10Ideal : Cert.Ffn10Ideal.Facts] : Prop :=
  ∀ (m : (ℓ : Loc Cert.Ffn10Ideal.nD Cert.Ffn10Ideal.τ Cert.Ffn10Ideal.sig) → Buf (Elt Ideal) ℓ) (g : Dev Cert.Ffn10Ideal.nD → PrngReg), Pre_Ffn10Ideal m →
    θ_run (Cert.Ffn10Ideal.defs (F := Ideal)) (onTc (τ := Cert.Ffn10Ideal.τ) (Cert.Ffn10Ideal.main (F := Ideal))) ⟨m, fun _ => 0, g⟩ (fun r => (∀ c : Dev Cert.Ffn10Ideal.nD,
      r.2.mem ((c.tc : Thread Cert.Ffn10Ideal.nD Cert.Ffn10Ideal.τ).loc Cert.Ffn10Ideal.main_arg0) = m ((c.tc : Thread Cert.Ffn10Ideal.nD Cert.Ffn10Ideal.τ).loc Cert.Ffn10Ideal.main_arg0)
      ∧ r.2.mem ((c.tc : Thread Cert.Ffn10Ideal.nD Cert.Ffn10Ideal.τ).loc Cert.Ffn10Ideal.main_arg1) = m ((c.tc : Thread Cert.Ffn10Ideal.nD Cert.Ffn10Ideal.τ).loc Cert.Ffn10Ideal.main_arg1)
      ∧ r.2.mem ((c.tc : Thread Cert.Ffn10Ideal.nD Cert.Ffn10Ideal.τ).loc Cert.Ffn10Ideal.main_arg2) = m ((c.tc : Thread Cert.Ffn10Ideal.nD Cert.Ffn10Ideal.τ).loc Cert.Ffn10Ideal.main_arg2)
      ∧ r.2.mem ((c.tc : Thread Cert.Ffn10Ideal.nD Cert.Ffn10Ideal.τ).loc Cert.Ffn10Ideal.main_arg3) = m ((c.tc : Thread Cert.Ffn10Ideal.nD Cert.Ffn10Ideal.τ).loc Cert.Ffn10Ideal.main_arg3)
      ∧ r.2.mem ((c.tc : Thread Cert.Ffn10Ideal.nD Cert.Ffn10Ideal.τ).loc Cert.Ffn10Ideal.main_arg4) = m ((c.tc : Thread Cert.Ffn10Ideal.nD Cert.Ffn10Ideal.τ).loc Cert.Ffn10Ideal.main_arg4)
      ∧ r.2.mem ((c.tc : Thread Cert.Ffn10Ideal.nD Cert.Ffn10Ideal.τ).loc Cert.Ffn10Ideal.main_arg5) = m ((c.tc : Thread Cert.Ffn10Ideal.nD Cert.Ffn10Ideal.τ).loc Cert.Ffn10Ideal.main_arg5)
      ∧ r.2.mem ((c.tc : Thread Cert.Ffn10Ideal.nD Cert.Ffn10Ideal.τ).loc Cert.Ffn10Ideal.main_arg6) = m ((c.tc : Thread Cert.Ffn10Ideal.nD Cert.Ffn10Ideal.τ).loc Cert.Ffn10Ideal.main_arg6))
      ∧ r.2.sem = fun _ => 0)

def quiescent_Ffn10ReferenceIdeal [hFfn10ReferenceIdeal : Cert.Ffn10ReferenceIdeal.Facts] : Prop :=
  ∀ (m : (ℓ : Loc Cert.Ffn10ReferenceIdeal.nD Cert.Ffn10ReferenceIdeal.τ Cert.Ffn10ReferenceIdeal.sig) → Buf (Elt Ideal) ℓ) (g : Dev Cert.Ffn10ReferenceIdeal.nD → PrngReg), Pre_Ffn10ReferenceIdeal m →
    θ_run (Cert.Ffn10ReferenceIdeal.defs (F := Ideal)) (onTc (τ := Cert.Ffn10ReferenceIdeal.τ) (Cert.Ffn10ReferenceIdeal.main (F := Ideal))) ⟨m, fun _ => 0, g⟩ (fun r => (∀ c : Dev Cert.Ffn10ReferenceIdeal.nD,
      r.2.mem ((c.tc : Thread Cert.Ffn10ReferenceIdeal.nD Cert.Ffn10ReferenceIdeal.τ).loc Cert.Ffn10ReferenceIdeal.main_arg0) = m ((c.tc : Thread Cert.Ffn10ReferenceIdeal.nD Cert.Ffn10ReferenceIdeal.τ).loc Cert.Ffn10ReferenceIdeal.main_arg0)
      ∧ r.2.mem ((c.tc : Thread Cert.Ffn10ReferenceIdeal.nD Cert.Ffn10ReferenceIdeal.τ).loc Cert.Ffn10ReferenceIdeal.main_arg1) = m ((c.tc : Thread Cert.Ffn10ReferenceIdeal.nD Cert.Ffn10ReferenceIdeal.τ).loc Cert.Ffn10ReferenceIdeal.main_arg1)
      ∧ r.2.mem ((c.tc : Thread Cert.Ffn10ReferenceIdeal.nD Cert.Ffn10ReferenceIdeal.τ).loc Cert.Ffn10ReferenceIdeal.main_arg2) = m ((c.tc : Thread Cert.Ffn10ReferenceIdeal.nD Cert.Ffn10ReferenceIdeal.τ).loc Cert.Ffn10ReferenceIdeal.main_arg2)
      ∧ r.2.mem ((c.tc : Thread Cert.Ffn10ReferenceIdeal.nD Cert.Ffn10ReferenceIdeal.τ).loc Cert.Ffn10ReferenceIdeal.main_arg3) = m ((c.tc : Thread Cert.Ffn10ReferenceIdeal.nD Cert.Ffn10ReferenceIdeal.τ).loc Cert.Ffn10ReferenceIdeal.main_arg3)
      ∧ r.2.mem ((c.tc : Thread Cert.Ffn10ReferenceIdeal.nD Cert.Ffn10ReferenceIdeal.τ).loc Cert.Ffn10ReferenceIdeal.main_arg4) = m ((c.tc : Thread Cert.Ffn10ReferenceIdeal.nD Cert.Ffn10ReferenceIdeal.τ).loc Cert.Ffn10ReferenceIdeal.main_arg4)
      ∧ r.2.mem ((c.tc : Thread Cert.Ffn10ReferenceIdeal.nD Cert.Ffn10ReferenceIdeal.τ).loc Cert.Ffn10ReferenceIdeal.main_arg5) = m ((c.tc : Thread Cert.Ffn10ReferenceIdeal.nD Cert.Ffn10ReferenceIdeal.τ).loc Cert.Ffn10ReferenceIdeal.main_arg5)
      ∧ r.2.mem ((c.tc : Thread Cert.Ffn10ReferenceIdeal.nD Cert.Ffn10ReferenceIdeal.τ).loc Cert.Ffn10ReferenceIdeal.main_arg6) = m ((c.tc : Thread Cert.Ffn10ReferenceIdeal.nD Cert.Ffn10ReferenceIdeal.τ).loc Cert.Ffn10ReferenceIdeal.main_arg6))
      ∧ r.2.sem = fun _ => 0)

def quiescent_Ffn11 [hFfn11 : Cert.Ffn11.Facts] : Prop :=
  ∀ (m : (ℓ : Loc Cert.Ffn11.nD Cert.Ffn11.τ Cert.Ffn11.sig) → Buf (Elt Bits) ℓ) (g : Dev Cert.Ffn11.nD → PrngReg), Pre_Ffn11 m →
    θ_run (Cert.Ffn11.defs (F := Bits)) (onTc (τ := Cert.Ffn11.τ) (Cert.Ffn11.main (F := Bits))) ⟨m, fun _ => 0, g⟩ (fun r => (∀ c : Dev Cert.Ffn11.nD,
      r.2.mem ((c.tc : Thread Cert.Ffn11.nD Cert.Ffn11.τ).loc Cert.Ffn11.main_arg0) = m ((c.tc : Thread Cert.Ffn11.nD Cert.Ffn11.τ).loc Cert.Ffn11.main_arg0)
      ∧ r.2.mem ((c.tc : Thread Cert.Ffn11.nD Cert.Ffn11.τ).loc Cert.Ffn11.main_arg1) = m ((c.tc : Thread Cert.Ffn11.nD Cert.Ffn11.τ).loc Cert.Ffn11.main_arg1)
      ∧ r.2.mem ((c.tc : Thread Cert.Ffn11.nD Cert.Ffn11.τ).loc Cert.Ffn11.main_arg2) = m ((c.tc : Thread Cert.Ffn11.nD Cert.Ffn11.τ).loc Cert.Ffn11.main_arg2)
      ∧ r.2.mem ((c.tc : Thread Cert.Ffn11.nD Cert.Ffn11.τ).loc Cert.Ffn11.main_arg3) = m ((c.tc : Thread Cert.Ffn11.nD Cert.Ffn11.τ).loc Cert.Ffn11.main_arg3)
      ∧ r.2.mem ((c.tc : Thread Cert.Ffn11.nD Cert.Ffn11.τ).loc Cert.Ffn11.main_arg4) = m ((c.tc : Thread Cert.Ffn11.nD Cert.Ffn11.τ).loc Cert.Ffn11.main_arg4)
      ∧ r.2.mem ((c.tc : Thread Cert.Ffn11.nD Cert.Ffn11.τ).loc Cert.Ffn11.main_arg5) = m ((c.tc : Thread Cert.Ffn11.nD Cert.Ffn11.τ).loc Cert.Ffn11.main_arg5)
      ∧ r.2.mem ((c.tc : Thread Cert.Ffn11.nD Cert.Ffn11.τ).loc Cert.Ffn11.main_arg6) = m ((c.tc : Thread Cert.Ffn11.nD Cert.Ffn11.τ).loc Cert.Ffn11.main_arg6)
      ∧ r.2.mem ((c.tc : Thread Cert.Ffn11.nD Cert.Ffn11.τ).loc Cert.Ffn11.main_arg7) = m ((c.tc : Thread Cert.Ffn11.nD Cert.Ffn11.τ).loc Cert.Ffn11.main_arg7)
      ∧ r.2.mem ((c.tc : Thread Cert.Ffn11.nD Cert.Ffn11.τ).loc Cert.Ffn11.main_arg8) = m ((c.tc : Thread Cert.Ffn11.nD Cert.Ffn11.τ).loc Cert.Ffn11.main_arg8))
      ∧ r.2.sem = fun _ => 0)

def quiescent_Ffn11Ideal [hFfn11Ideal : Cert.Ffn11Ideal.Facts] : Prop :=
  ∀ (m : (ℓ : Loc Cert.Ffn11Ideal.nD Cert.Ffn11Ideal.τ Cert.Ffn11Ideal.sig) → Buf (Elt Ideal) ℓ) (g : Dev Cert.Ffn11Ideal.nD → PrngReg), Pre_Ffn11Ideal m →
    θ_run (Cert.Ffn11Ideal.defs (F := Ideal)) (onTc (τ := Cert.Ffn11Ideal.τ) (Cert.Ffn11Ideal.main (F := Ideal))) ⟨m, fun _ => 0, g⟩ (fun r => (∀ c : Dev Cert.Ffn11Ideal.nD,
      r.2.mem ((c.tc : Thread Cert.Ffn11Ideal.nD Cert.Ffn11Ideal.τ).loc Cert.Ffn11Ideal.main_arg0) = m ((c.tc : Thread Cert.Ffn11Ideal.nD Cert.Ffn11Ideal.τ).loc Cert.Ffn11Ideal.main_arg0)
      ∧ r.2.mem ((c.tc : Thread Cert.Ffn11Ideal.nD Cert.Ffn11Ideal.τ).loc Cert.Ffn11Ideal.main_arg1) = m ((c.tc : Thread Cert.Ffn11Ideal.nD Cert.Ffn11Ideal.τ).loc Cert.Ffn11Ideal.main_arg1)
      ∧ r.2.mem ((c.tc : Thread Cert.Ffn11Ideal.nD Cert.Ffn11Ideal.τ).loc Cert.Ffn11Ideal.main_arg2) = m ((c.tc : Thread Cert.Ffn11Ideal.nD Cert.Ffn11Ideal.τ).loc Cert.Ffn11Ideal.main_arg2)
      ∧ r.2.mem ((c.tc : Thread Cert.Ffn11Ideal.nD Cert.Ffn11Ideal.τ).loc Cert.Ffn11Ideal.main_arg3) = m ((c.tc : Thread Cert.Ffn11Ideal.nD Cert.Ffn11Ideal.τ).loc Cert.Ffn11Ideal.main_arg3)
      ∧ r.2.mem ((c.tc : Thread Cert.Ffn11Ideal.nD Cert.Ffn11Ideal.τ).loc Cert.Ffn11Ideal.main_arg4) = m ((c.tc : Thread Cert.Ffn11Ideal.nD Cert.Ffn11Ideal.τ).loc Cert.Ffn11Ideal.main_arg4)
      ∧ r.2.mem ((c.tc : Thread Cert.Ffn11Ideal.nD Cert.Ffn11Ideal.τ).loc Cert.Ffn11Ideal.main_arg5) = m ((c.tc : Thread Cert.Ffn11Ideal.nD Cert.Ffn11Ideal.τ).loc Cert.Ffn11Ideal.main_arg5)
      ∧ r.2.mem ((c.tc : Thread Cert.Ffn11Ideal.nD Cert.Ffn11Ideal.τ).loc Cert.Ffn11Ideal.main_arg6) = m ((c.tc : Thread Cert.Ffn11Ideal.nD Cert.Ffn11Ideal.τ).loc Cert.Ffn11Ideal.main_arg6)
      ∧ r.2.mem ((c.tc : Thread Cert.Ffn11Ideal.nD Cert.Ffn11Ideal.τ).loc Cert.Ffn11Ideal.main_arg7) = m ((c.tc : Thread Cert.Ffn11Ideal.nD Cert.Ffn11Ideal.τ).loc Cert.Ffn11Ideal.main_arg7)
      ∧ r.2.mem ((c.tc : Thread Cert.Ffn11Ideal.nD Cert.Ffn11Ideal.τ).loc Cert.Ffn11Ideal.main_arg8) = m ((c.tc : Thread Cert.Ffn11Ideal.nD Cert.Ffn11Ideal.τ).loc Cert.Ffn11Ideal.main_arg8))
      ∧ r.2.sem = fun _ => 0)

def quiescent_Ffn11ReferenceIdeal [hFfn11ReferenceIdeal : Cert.Ffn11ReferenceIdeal.Facts] : Prop :=
  ∀ (m : (ℓ : Loc Cert.Ffn11ReferenceIdeal.nD Cert.Ffn11ReferenceIdeal.τ Cert.Ffn11ReferenceIdeal.sig) → Buf (Elt Ideal) ℓ) (g : Dev Cert.Ffn11ReferenceIdeal.nD → PrngReg), Pre_Ffn11ReferenceIdeal m →
    θ_run (Cert.Ffn11ReferenceIdeal.defs (F := Ideal)) (onTc (τ := Cert.Ffn11ReferenceIdeal.τ) (Cert.Ffn11ReferenceIdeal.main (F := Ideal))) ⟨m, fun _ => 0, g⟩ (fun r => (∀ c : Dev Cert.Ffn11ReferenceIdeal.nD,
      r.2.mem ((c.tc : Thread Cert.Ffn11ReferenceIdeal.nD Cert.Ffn11ReferenceIdeal.τ).loc Cert.Ffn11ReferenceIdeal.main_arg0) = m ((c.tc : Thread Cert.Ffn11ReferenceIdeal.nD Cert.Ffn11ReferenceIdeal.τ).loc Cert.Ffn11ReferenceIdeal.main_arg0)
      ∧ r.2.mem ((c.tc : Thread Cert.Ffn11ReferenceIdeal.nD Cert.Ffn11ReferenceIdeal.τ).loc Cert.Ffn11ReferenceIdeal.main_arg1) = m ((c.tc : Thread Cert.Ffn11ReferenceIdeal.nD Cert.Ffn11ReferenceIdeal.τ).loc Cert.Ffn11ReferenceIdeal.main_arg1)
      ∧ r.2.mem ((c.tc : Thread Cert.Ffn11ReferenceIdeal.nD Cert.Ffn11ReferenceIdeal.τ).loc Cert.Ffn11ReferenceIdeal.main_arg2) = m ((c.tc : Thread Cert.Ffn11ReferenceIdeal.nD Cert.Ffn11ReferenceIdeal.τ).loc Cert.Ffn11ReferenceIdeal.main_arg2)
      ∧ r.2.mem ((c.tc : Thread Cert.Ffn11ReferenceIdeal.nD Cert.Ffn11ReferenceIdeal.τ).loc Cert.Ffn11ReferenceIdeal.main_arg3) = m ((c.tc : Thread Cert.Ffn11ReferenceIdeal.nD Cert.Ffn11ReferenceIdeal.τ).loc Cert.Ffn11ReferenceIdeal.main_arg3)
      ∧ r.2.mem ((c.tc : Thread Cert.Ffn11ReferenceIdeal.nD Cert.Ffn11ReferenceIdeal.τ).loc Cert.Ffn11ReferenceIdeal.main_arg4) = m ((c.tc : Thread Cert.Ffn11ReferenceIdeal.nD Cert.Ffn11ReferenceIdeal.τ).loc Cert.Ffn11ReferenceIdeal.main_arg4)
      ∧ r.2.mem ((c.tc : Thread Cert.Ffn11ReferenceIdeal.nD Cert.Ffn11ReferenceIdeal.τ).loc Cert.Ffn11ReferenceIdeal.main_arg5) = m ((c.tc : Thread Cert.Ffn11ReferenceIdeal.nD Cert.Ffn11ReferenceIdeal.τ).loc Cert.Ffn11ReferenceIdeal.main_arg5)
      ∧ r.2.mem ((c.tc : Thread Cert.Ffn11ReferenceIdeal.nD Cert.Ffn11ReferenceIdeal.τ).loc Cert.Ffn11ReferenceIdeal.main_arg6) = m ((c.tc : Thread Cert.Ffn11ReferenceIdeal.nD Cert.Ffn11ReferenceIdeal.τ).loc Cert.Ffn11ReferenceIdeal.main_arg6)
      ∧ r.2.mem ((c.tc : Thread Cert.Ffn11ReferenceIdeal.nD Cert.Ffn11ReferenceIdeal.τ).loc Cert.Ffn11ReferenceIdeal.main_arg7) = m ((c.tc : Thread Cert.Ffn11ReferenceIdeal.nD Cert.Ffn11ReferenceIdeal.τ).loc Cert.Ffn11ReferenceIdeal.main_arg7)
      ∧ r.2.mem ((c.tc : Thread Cert.Ffn11ReferenceIdeal.nD Cert.Ffn11ReferenceIdeal.τ).loc Cert.Ffn11ReferenceIdeal.main_arg8) = m ((c.tc : Thread Cert.Ffn11ReferenceIdeal.nD Cert.Ffn11ReferenceIdeal.τ).loc Cert.Ffn11ReferenceIdeal.main_arg8))
      ∧ r.2.sem = fun _ => 0)

def quiescent_Ffn20 [hFfn20 : Cert.Ffn20.Facts] : Prop :=
  ∀ (m : (ℓ : Loc Cert.Ffn20.nD Cert.Ffn20.τ Cert.Ffn20.sig) → Buf (Elt Bits) ℓ) (g : Dev Cert.Ffn20.nD → PrngReg), Pre_Ffn20 m →
    θ_run (Cert.Ffn20.defs (F := Bits)) (onTc (τ := Cert.Ffn20.τ) (Cert.Ffn20.main (F := Bits))) ⟨m, fun _ => 0, g⟩ (fun r => (∀ c : Dev Cert.Ffn20.nD,
      r.2.mem ((c.tc : Thread Cert.Ffn20.nD Cert.Ffn20.τ).loc Cert.Ffn20.main_arg0) = m ((c.tc : Thread Cert.Ffn20.nD Cert.Ffn20.τ).loc Cert.Ffn20.main_arg0)
      ∧ r.2.mem ((c.tc : Thread Cert.Ffn20.nD Cert.Ffn20.τ).loc Cert.Ffn20.main_arg1) = m ((c.tc : Thread Cert.Ffn20.nD Cert.Ffn20.τ).loc Cert.Ffn20.main_arg1)
      ∧ r.2.mem ((c.tc : Thread Cert.Ffn20.nD Cert.Ffn20.τ).loc Cert.Ffn20.main_arg2) = m ((c.tc : Thread Cert.Ffn20.nD Cert.Ffn20.τ).loc Cert.Ffn20.main_arg2)
      ∧ r.2.mem ((c.tc : Thread Cert.Ffn20.nD Cert.Ffn20.τ).loc Cert.Ffn20.main_arg3) = m ((c.tc : Thread Cert.Ffn20.nD Cert.Ffn20.τ).loc Cert.Ffn20.main_arg3)
      ∧ r.2.mem ((c.tc : Thread Cert.Ffn20.nD Cert.Ffn20.τ).loc Cert.Ffn20.main_arg4) = m ((c.tc : Thread Cert.Ffn20.nD Cert.Ffn20.τ).loc Cert.Ffn20.main_arg4)
      ∧ r.2.mem ((c.tc : Thread Cert.Ffn20.nD Cert.Ffn20.τ).loc Cert.Ffn20.main_arg5) = m ((c.tc : Thread Cert.Ffn20.nD Cert.Ffn20.τ).loc Cert.Ffn20.main_arg5)
      ∧ r.2.mem ((c.tc : Thread Cert.Ffn20.nD Cert.Ffn20.τ).loc Cert.Ffn20.main_arg6) = m ((c.tc : Thread Cert.Ffn20.nD Cert.Ffn20.τ).loc Cert.Ffn20.main_arg6))
      ∧ r.2.sem = fun _ => 0)

def quiescent_Ffn20Ideal [hFfn20Ideal : Cert.Ffn20Ideal.Facts] : Prop :=
  ∀ (m : (ℓ : Loc Cert.Ffn20Ideal.nD Cert.Ffn20Ideal.τ Cert.Ffn20Ideal.sig) → Buf (Elt Ideal) ℓ) (g : Dev Cert.Ffn20Ideal.nD → PrngReg), Pre_Ffn20Ideal m →
    θ_run (Cert.Ffn20Ideal.defs (F := Ideal)) (onTc (τ := Cert.Ffn20Ideal.τ) (Cert.Ffn20Ideal.main (F := Ideal))) ⟨m, fun _ => 0, g⟩ (fun r => (∀ c : Dev Cert.Ffn20Ideal.nD,
      r.2.mem ((c.tc : Thread Cert.Ffn20Ideal.nD Cert.Ffn20Ideal.τ).loc Cert.Ffn20Ideal.main_arg0) = m ((c.tc : Thread Cert.Ffn20Ideal.nD Cert.Ffn20Ideal.τ).loc Cert.Ffn20Ideal.main_arg0)
      ∧ r.2.mem ((c.tc : Thread Cert.Ffn20Ideal.nD Cert.Ffn20Ideal.τ).loc Cert.Ffn20Ideal.main_arg1) = m ((c.tc : Thread Cert.Ffn20Ideal.nD Cert.Ffn20Ideal.τ).loc Cert.Ffn20Ideal.main_arg1)
      ∧ r.2.mem ((c.tc : Thread Cert.Ffn20Ideal.nD Cert.Ffn20Ideal.τ).loc Cert.Ffn20Ideal.main_arg2) = m ((c.tc : Thread Cert.Ffn20Ideal.nD Cert.Ffn20Ideal.τ).loc Cert.Ffn20Ideal.main_arg2)
      ∧ r.2.mem ((c.tc : Thread Cert.Ffn20Ideal.nD Cert.Ffn20Ideal.τ).loc Cert.Ffn20Ideal.main_arg3) = m ((c.tc : Thread Cert.Ffn20Ideal.nD Cert.Ffn20Ideal.τ).loc Cert.Ffn20Ideal.main_arg3)
      ∧ r.2.mem ((c.tc : Thread Cert.Ffn20Ideal.nD Cert.Ffn20Ideal.τ).loc Cert.Ffn20Ideal.main_arg4) = m ((c.tc : Thread Cert.Ffn20Ideal.nD Cert.Ffn20Ideal.τ).loc Cert.Ffn20Ideal.main_arg4)
      ∧ r.2.mem ((c.tc : Thread Cert.Ffn20Ideal.nD Cert.Ffn20Ideal.τ).loc Cert.Ffn20Ideal.main_arg5) = m ((c.tc : Thread Cert.Ffn20Ideal.nD Cert.Ffn20Ideal.τ).loc Cert.Ffn20Ideal.main_arg5)
      ∧ r.2.mem ((c.tc : Thread Cert.Ffn20Ideal.nD Cert.Ffn20Ideal.τ).loc Cert.Ffn20Ideal.main_arg6) = m ((c.tc : Thread Cert.Ffn20Ideal.nD Cert.Ffn20Ideal.τ).loc Cert.Ffn20Ideal.main_arg6))
      ∧ r.2.sem = fun _ => 0)

def quiescent_Ffn20ReferenceIdeal [hFfn20ReferenceIdeal : Cert.Ffn20ReferenceIdeal.Facts] : Prop :=
  ∀ (m : (ℓ : Loc Cert.Ffn20ReferenceIdeal.nD Cert.Ffn20ReferenceIdeal.τ Cert.Ffn20ReferenceIdeal.sig) → Buf (Elt Ideal) ℓ) (g : Dev Cert.Ffn20ReferenceIdeal.nD → PrngReg), Pre_Ffn20ReferenceIdeal m →
    θ_run (Cert.Ffn20ReferenceIdeal.defs (F := Ideal)) (onTc (τ := Cert.Ffn20ReferenceIdeal.τ) (Cert.Ffn20ReferenceIdeal.main (F := Ideal))) ⟨m, fun _ => 0, g⟩ (fun r => (∀ c : Dev Cert.Ffn20ReferenceIdeal.nD,
      r.2.mem ((c.tc : Thread Cert.Ffn20ReferenceIdeal.nD Cert.Ffn20ReferenceIdeal.τ).loc Cert.Ffn20ReferenceIdeal.main_arg0) = m ((c.tc : Thread Cert.Ffn20ReferenceIdeal.nD Cert.Ffn20ReferenceIdeal.τ).loc Cert.Ffn20ReferenceIdeal.main_arg0)
      ∧ r.2.mem ((c.tc : Thread Cert.Ffn20ReferenceIdeal.nD Cert.Ffn20ReferenceIdeal.τ).loc Cert.Ffn20ReferenceIdeal.main_arg1) = m ((c.tc : Thread Cert.Ffn20ReferenceIdeal.nD Cert.Ffn20ReferenceIdeal.τ).loc Cert.Ffn20ReferenceIdeal.main_arg1)
      ∧ r.2.mem ((c.tc : Thread Cert.Ffn20ReferenceIdeal.nD Cert.Ffn20ReferenceIdeal.τ).loc Cert.Ffn20ReferenceIdeal.main_arg2) = m ((c.tc : Thread Cert.Ffn20ReferenceIdeal.nD Cert.Ffn20ReferenceIdeal.τ).loc Cert.Ffn20ReferenceIdeal.main_arg2)
      ∧ r.2.mem ((c.tc : Thread Cert.Ffn20ReferenceIdeal.nD Cert.Ffn20ReferenceIdeal.τ).loc Cert.Ffn20ReferenceIdeal.main_arg3) = m ((c.tc : Thread Cert.Ffn20ReferenceIdeal.nD Cert.Ffn20ReferenceIdeal.τ).loc Cert.Ffn20ReferenceIdeal.main_arg3)
      ∧ r.2.mem ((c.tc : Thread Cert.Ffn20ReferenceIdeal.nD Cert.Ffn20ReferenceIdeal.τ).loc Cert.Ffn20ReferenceIdeal.main_arg4) = m ((c.tc : Thread Cert.Ffn20ReferenceIdeal.nD Cert.Ffn20ReferenceIdeal.τ).loc Cert.Ffn20ReferenceIdeal.main_arg4)
      ∧ r.2.mem ((c.tc : Thread Cert.Ffn20ReferenceIdeal.nD Cert.Ffn20ReferenceIdeal.τ).loc Cert.Ffn20ReferenceIdeal.main_arg5) = m ((c.tc : Thread Cert.Ffn20ReferenceIdeal.nD Cert.Ffn20ReferenceIdeal.τ).loc Cert.Ffn20ReferenceIdeal.main_arg5)
      ∧ r.2.mem ((c.tc : Thread Cert.Ffn20ReferenceIdeal.nD Cert.Ffn20ReferenceIdeal.τ).loc Cert.Ffn20ReferenceIdeal.main_arg6) = m ((c.tc : Thread Cert.Ffn20ReferenceIdeal.nD Cert.Ffn20ReferenceIdeal.τ).loc Cert.Ffn20ReferenceIdeal.main_arg6))
      ∧ r.2.sem = fun _ => 0)

def quiescent_Ffn21 [hFfn21 : Cert.Ffn21.Facts] : Prop :=
  ∀ (m : (ℓ : Loc Cert.Ffn21.nD Cert.Ffn21.τ Cert.Ffn21.sig) → Buf (Elt Bits) ℓ) (g : Dev Cert.Ffn21.nD → PrngReg), Pre_Ffn21 m →
    θ_run (Cert.Ffn21.defs (F := Bits)) (onTc (τ := Cert.Ffn21.τ) (Cert.Ffn21.main (F := Bits))) ⟨m, fun _ => 0, g⟩ (fun r => (∀ c : Dev Cert.Ffn21.nD,
      r.2.mem ((c.tc : Thread Cert.Ffn21.nD Cert.Ffn21.τ).loc Cert.Ffn21.main_arg0) = m ((c.tc : Thread Cert.Ffn21.nD Cert.Ffn21.τ).loc Cert.Ffn21.main_arg0)
      ∧ r.2.mem ((c.tc : Thread Cert.Ffn21.nD Cert.Ffn21.τ).loc Cert.Ffn21.main_arg1) = m ((c.tc : Thread Cert.Ffn21.nD Cert.Ffn21.τ).loc Cert.Ffn21.main_arg1)
      ∧ r.2.mem ((c.tc : Thread Cert.Ffn21.nD Cert.Ffn21.τ).loc Cert.Ffn21.main_arg2) = m ((c.tc : Thread Cert.Ffn21.nD Cert.Ffn21.τ).loc Cert.Ffn21.main_arg2)
      ∧ r.2.mem ((c.tc : Thread Cert.Ffn21.nD Cert.Ffn21.τ).loc Cert.Ffn21.main_arg3) = m ((c.tc : Thread Cert.Ffn21.nD Cert.Ffn21.τ).loc Cert.Ffn21.main_arg3)
      ∧ r.2.mem ((c.tc : Thread Cert.Ffn21.nD Cert.Ffn21.τ).loc Cert.Ffn21.main_arg4) = m ((c.tc : Thread Cert.Ffn21.nD Cert.Ffn21.τ).loc Cert.Ffn21.main_arg4)
      ∧ r.2.mem ((c.tc : Thread Cert.Ffn21.nD Cert.Ffn21.τ).loc Cert.Ffn21.main_arg5) = m ((c.tc : Thread Cert.Ffn21.nD Cert.Ffn21.τ).loc Cert.Ffn21.main_arg5)
      ∧ r.2.mem ((c.tc : Thread Cert.Ffn21.nD Cert.Ffn21.τ).loc Cert.Ffn21.main_arg6) = m ((c.tc : Thread Cert.Ffn21.nD Cert.Ffn21.τ).loc Cert.Ffn21.main_arg6))
      ∧ r.2.sem = fun _ => 0)

def quiescent_Ffn21Ideal [hFfn21Ideal : Cert.Ffn21Ideal.Facts] : Prop :=
  ∀ (m : (ℓ : Loc Cert.Ffn21Ideal.nD Cert.Ffn21Ideal.τ Cert.Ffn21Ideal.sig) → Buf (Elt Ideal) ℓ) (g : Dev Cert.Ffn21Ideal.nD → PrngReg), Pre_Ffn21Ideal m →
    θ_run (Cert.Ffn21Ideal.defs (F := Ideal)) (onTc (τ := Cert.Ffn21Ideal.τ) (Cert.Ffn21Ideal.main (F := Ideal))) ⟨m, fun _ => 0, g⟩ (fun r => (∀ c : Dev Cert.Ffn21Ideal.nD,
      r.2.mem ((c.tc : Thread Cert.Ffn21Ideal.nD Cert.Ffn21Ideal.τ).loc Cert.Ffn21Ideal.main_arg0) = m ((c.tc : Thread Cert.Ffn21Ideal.nD Cert.Ffn21Ideal.τ).loc Cert.Ffn21Ideal.main_arg0)
      ∧ r.2.mem ((c.tc : Thread Cert.Ffn21Ideal.nD Cert.Ffn21Ideal.τ).loc Cert.Ffn21Ideal.main_arg1) = m ((c.tc : Thread Cert.Ffn21Ideal.nD Cert.Ffn21Ideal.τ).loc Cert.Ffn21Ideal.main_arg1)
      ∧ r.2.mem ((c.tc : Thread Cert.Ffn21Ideal.nD Cert.Ffn21Ideal.τ).loc Cert.Ffn21Ideal.main_arg2) = m ((c.tc : Thread Cert.Ffn21Ideal.nD Cert.Ffn21Ideal.τ).loc Cert.Ffn21Ideal.main_arg2)
      ∧ r.2.mem ((c.tc : Thread Cert.Ffn21Ideal.nD Cert.Ffn21Ideal.τ).loc Cert.Ffn21Ideal.main_arg3) = m ((c.tc : Thread Cert.Ffn21Ideal.nD Cert.Ffn21Ideal.τ).loc Cert.Ffn21Ideal.main_arg3)
      ∧ r.2.mem ((c.tc : Thread Cert.Ffn21Ideal.nD Cert.Ffn21Ideal.τ).loc Cert.Ffn21Ideal.main_arg4) = m ((c.tc : Thread Cert.Ffn21Ideal.nD Cert.Ffn21Ideal.τ).loc Cert.Ffn21Ideal.main_arg4)
      ∧ r.2.mem ((c.tc : Thread Cert.Ffn21Ideal.nD Cert.Ffn21Ideal.τ).loc Cert.Ffn21Ideal.main_arg5) = m ((c.tc : Thread Cert.Ffn21Ideal.nD Cert.Ffn21Ideal.τ).loc Cert.Ffn21Ideal.main_arg5)
      ∧ r.2.mem ((c.tc : Thread Cert.Ffn21Ideal.nD Cert.Ffn21Ideal.τ).loc Cert.Ffn21Ideal.main_arg6) = m ((c.tc : Thread Cert.Ffn21Ideal.nD Cert.Ffn21Ideal.τ).loc Cert.Ffn21Ideal.main_arg6))
      ∧ r.2.sem = fun _ => 0)

def quiescent_Ffn21ReferenceIdeal [hFfn21ReferenceIdeal : Cert.Ffn21ReferenceIdeal.Facts] : Prop :=
  ∀ (m : (ℓ : Loc Cert.Ffn21ReferenceIdeal.nD Cert.Ffn21ReferenceIdeal.τ Cert.Ffn21ReferenceIdeal.sig) → Buf (Elt Ideal) ℓ) (g : Dev Cert.Ffn21ReferenceIdeal.nD → PrngReg), Pre_Ffn21ReferenceIdeal m →
    θ_run (Cert.Ffn21ReferenceIdeal.defs (F := Ideal)) (onTc (τ := Cert.Ffn21ReferenceIdeal.τ) (Cert.Ffn21ReferenceIdeal.main (F := Ideal))) ⟨m, fun _ => 0, g⟩ (fun r => (∀ c : Dev Cert.Ffn21ReferenceIdeal.nD,
      r.2.mem ((c.tc : Thread Cert.Ffn21ReferenceIdeal.nD Cert.Ffn21ReferenceIdeal.τ).loc Cert.Ffn21ReferenceIdeal.main_arg0) = m ((c.tc : Thread Cert.Ffn21ReferenceIdeal.nD Cert.Ffn21ReferenceIdeal.τ).loc Cert.Ffn21ReferenceIdeal.main_arg0)
      ∧ r.2.mem ((c.tc : Thread Cert.Ffn21ReferenceIdeal.nD Cert.Ffn21ReferenceIdeal.τ).loc Cert.Ffn21ReferenceIdeal.main_arg1) = m ((c.tc : Thread Cert.Ffn21ReferenceIdeal.nD Cert.Ffn21ReferenceIdeal.τ).loc Cert.Ffn21ReferenceIdeal.main_arg1)
      ∧ r.2.mem ((c.tc : Thread Cert.Ffn21ReferenceIdeal.nD Cert.Ffn21ReferenceIdeal.τ).loc Cert.Ffn21ReferenceIdeal.main_arg2) = m ((c.tc : Thread Cert.Ffn21ReferenceIdeal.nD Cert.Ffn21ReferenceIdeal.τ).loc Cert.Ffn21ReferenceIdeal.main_arg2)
      ∧ r.2.mem ((c.tc : Thread Cert.Ffn21ReferenceIdeal.nD Cert.Ffn21ReferenceIdeal.τ).loc Cert.Ffn21ReferenceIdeal.main_arg3) = m ((c.tc : Thread Cert.Ffn21ReferenceIdeal.nD Cert.Ffn21ReferenceIdeal.τ).loc Cert.Ffn21ReferenceIdeal.main_arg3)
      ∧ r.2.mem ((c.tc : Thread Cert.Ffn21ReferenceIdeal.nD Cert.Ffn21ReferenceIdeal.τ).loc Cert.Ffn21ReferenceIdeal.main_arg4) = m ((c.tc : Thread Cert.Ffn21ReferenceIdeal.nD Cert.Ffn21ReferenceIdeal.τ).loc Cert.Ffn21ReferenceIdeal.main_arg4)
      ∧ r.2.mem ((c.tc : Thread Cert.Ffn21ReferenceIdeal.nD Cert.Ffn21ReferenceIdeal.τ).loc Cert.Ffn21ReferenceIdeal.main_arg5) = m ((c.tc : Thread Cert.Ffn21ReferenceIdeal.nD Cert.Ffn21ReferenceIdeal.τ).loc Cert.Ffn21ReferenceIdeal.main_arg5)
      ∧ r.2.mem ((c.tc : Thread Cert.Ffn21ReferenceIdeal.nD Cert.Ffn21ReferenceIdeal.τ).loc Cert.Ffn21ReferenceIdeal.main_arg6) = m ((c.tc : Thread Cert.Ffn21ReferenceIdeal.nD Cert.Ffn21ReferenceIdeal.τ).loc Cert.Ffn21ReferenceIdeal.main_arg6))
      ∧ r.2.sem = fun _ => 0)

def quiescent_Ffn30 [hFfn30 : Cert.Ffn30.Facts] : Prop :=
  ∀ (m : (ℓ : Loc Cert.Ffn30.nD Cert.Ffn30.τ Cert.Ffn30.sig) → Buf (Elt Bits) ℓ) (g : Dev Cert.Ffn30.nD → PrngReg), Pre_Ffn30 m →
    θ_run (Cert.Ffn30.defs (F := Bits)) (onTc (τ := Cert.Ffn30.τ) (Cert.Ffn30.main (F := Bits))) ⟨m, fun _ => 0, g⟩ (fun r => (∀ c : Dev Cert.Ffn30.nD,
      r.2.mem ((c.tc : Thread Cert.Ffn30.nD Cert.Ffn30.τ).loc Cert.Ffn30.main_arg0) = m ((c.tc : Thread Cert.Ffn30.nD Cert.Ffn30.τ).loc Cert.Ffn30.main_arg0)
      ∧ r.2.mem ((c.tc : Thread Cert.Ffn30.nD Cert.Ffn30.τ).loc Cert.Ffn30.main_arg1) = m ((c.tc : Thread Cert.Ffn30.nD Cert.Ffn30.τ).loc Cert.Ffn30.main_arg1)
      ∧ r.2.mem ((c.tc : Thread Cert.Ffn30.nD Cert.Ffn30.τ).loc Cert.Ffn30.main_arg2) = m ((c.tc : Thread Cert.Ffn30.nD Cert.Ffn30.τ).loc Cert.Ffn30.main_arg2)
      ∧ r.2.mem ((c.tc : Thread Cert.Ffn30.nD Cert.Ffn30.τ).loc Cert.Ffn30.main_arg3) = m ((c.tc : Thread Cert.Ffn30.nD Cert.Ffn30.τ).loc Cert.Ffn30.main_arg3)
      ∧ r.2.mem ((c.tc : Thread Cert.Ffn30.nD Cert.Ffn30.τ).loc Cert.Ffn30.main_arg4) = m ((c.tc : Thread Cert.Ffn30.nD Cert.Ffn30.τ).loc Cert.Ffn30.main_arg4)
      ∧ r.2.mem ((c.tc : Thread Cert.Ffn30.nD Cert.Ffn30.τ).loc Cert.Ffn30.main_arg5) = m ((c.tc : Thread Cert.Ffn30.nD Cert.Ffn30.τ).loc Cert.Ffn30.main_arg5)
      ∧ r.2.mem ((c.tc : Thread Cert.Ffn30.nD Cert.Ffn30.τ).loc Cert.Ffn30.main_arg6) = m ((c.tc : Thread Cert.Ffn30.nD Cert.Ffn30.τ).loc Cert.Ffn30.main_arg6))
      ∧ r.2.sem = fun _ => 0)

def quiescent_Ffn30Ideal [hFfn30Ideal : Cert.Ffn30Ideal.Facts] : Prop :=
  ∀ (m : (ℓ : Loc Cert.Ffn30Ideal.nD Cert.Ffn30Ideal.τ Cert.Ffn30Ideal.sig) → Buf (Elt Ideal) ℓ) (g : Dev Cert.Ffn30Ideal.nD → PrngReg), Pre_Ffn30Ideal m →
    θ_run (Cert.Ffn30Ideal.defs (F := Ideal)) (onTc (τ := Cert.Ffn30Ideal.τ) (Cert.Ffn30Ideal.main (F := Ideal))) ⟨m, fun _ => 0, g⟩ (fun r => (∀ c : Dev Cert.Ffn30Ideal.nD,
      r.2.mem ((c.tc : Thread Cert.Ffn30Ideal.nD Cert.Ffn30Ideal.τ).loc Cert.Ffn30Ideal.main_arg0) = m ((c.tc : Thread Cert.Ffn30Ideal.nD Cert.Ffn30Ideal.τ).loc Cert.Ffn30Ideal.main_arg0)
      ∧ r.2.mem ((c.tc : Thread Cert.Ffn30Ideal.nD Cert.Ffn30Ideal.τ).loc Cert.Ffn30Ideal.main_arg1) = m ((c.tc : Thread Cert.Ffn30Ideal.nD Cert.Ffn30Ideal.τ).loc Cert.Ffn30Ideal.main_arg1)
      ∧ r.2.mem ((c.tc : Thread Cert.Ffn30Ideal.nD Cert.Ffn30Ideal.τ).loc Cert.Ffn30Ideal.main_arg2) = m ((c.tc : Thread Cert.Ffn30Ideal.nD Cert.Ffn30Ideal.τ).loc Cert.Ffn30Ideal.main_arg2)
      ∧ r.2.mem ((c.tc : Thread Cert.Ffn30Ideal.nD Cert.Ffn30Ideal.τ).loc Cert.Ffn30Ideal.main_arg3) = m ((c.tc : Thread Cert.Ffn30Ideal.nD Cert.Ffn30Ideal.τ).loc Cert.Ffn30Ideal.main_arg3)
      ∧ r.2.mem ((c.tc : Thread Cert.Ffn30Ideal.nD Cert.Ffn30Ideal.τ).loc Cert.Ffn30Ideal.main_arg4) = m ((c.tc : Thread Cert.Ffn30Ideal.nD Cert.Ffn30Ideal.τ).loc Cert.Ffn30Ideal.main_arg4)
      ∧ r.2.mem ((c.tc : Thread Cert.Ffn30Ideal.nD Cert.Ffn30Ideal.τ).loc Cert.Ffn30Ideal.main_arg5) = m ((c.tc : Thread Cert.Ffn30Ideal.nD Cert.Ffn30Ideal.τ).loc Cert.Ffn30Ideal.main_arg5)
      ∧ r.2.mem ((c.tc : Thread Cert.Ffn30Ideal.nD Cert.Ffn30Ideal.τ).loc Cert.Ffn30Ideal.main_arg6) = m ((c.tc : Thread Cert.Ffn30Ideal.nD Cert.Ffn30Ideal.τ).loc Cert.Ffn30Ideal.main_arg6))
      ∧ r.2.sem = fun _ => 0)

def quiescent_Ffn30ReferenceIdeal [hFfn30ReferenceIdeal : Cert.Ffn30ReferenceIdeal.Facts] : Prop :=
  ∀ (m : (ℓ : Loc Cert.Ffn30ReferenceIdeal.nD Cert.Ffn30ReferenceIdeal.τ Cert.Ffn30ReferenceIdeal.sig) → Buf (Elt Ideal) ℓ) (g : Dev Cert.Ffn30ReferenceIdeal.nD → PrngReg), Pre_Ffn30ReferenceIdeal m →
    θ_run (Cert.Ffn30ReferenceIdeal.defs (F := Ideal)) (onTc (τ := Cert.Ffn30ReferenceIdeal.τ) (Cert.Ffn30ReferenceIdeal.main (F := Ideal))) ⟨m, fun _ => 0, g⟩ (fun r => (∀ c : Dev Cert.Ffn30ReferenceIdeal.nD,
      r.2.mem ((c.tc : Thread Cert.Ffn30ReferenceIdeal.nD Cert.Ffn30ReferenceIdeal.τ).loc Cert.Ffn30ReferenceIdeal.main_arg0) = m ((c.tc : Thread Cert.Ffn30ReferenceIdeal.nD Cert.Ffn30ReferenceIdeal.τ).loc Cert.Ffn30ReferenceIdeal.main_arg0)
      ∧ r.2.mem ((c.tc : Thread Cert.Ffn30ReferenceIdeal.nD Cert.Ffn30ReferenceIdeal.τ).loc Cert.Ffn30ReferenceIdeal.main_arg1) = m ((c.tc : Thread Cert.Ffn30ReferenceIdeal.nD Cert.Ffn30ReferenceIdeal.τ).loc Cert.Ffn30ReferenceIdeal.main_arg1)
      ∧ r.2.mem ((c.tc : Thread Cert.Ffn30ReferenceIdeal.nD Cert.Ffn30ReferenceIdeal.τ).loc Cert.Ffn30ReferenceIdeal.main_arg2) = m ((c.tc : Thread Cert.Ffn30ReferenceIdeal.nD Cert.Ffn30ReferenceIdeal.τ).loc Cert.Ffn30ReferenceIdeal.main_arg2)
      ∧ r.2.mem ((c.tc : Thread Cert.Ffn30ReferenceIdeal.nD Cert.Ffn30ReferenceIdeal.τ).loc Cert.Ffn30ReferenceIdeal.main_arg3) = m ((c.tc : Thread Cert.Ffn30ReferenceIdeal.nD Cert.Ffn30ReferenceIdeal.τ).loc Cert.Ffn30ReferenceIdeal.main_arg3)
      ∧ r.2.mem ((c.tc : Thread Cert.Ffn30ReferenceIdeal.nD Cert.Ffn30ReferenceIdeal.τ).loc Cert.Ffn30ReferenceIdeal.main_arg4) = m ((c.tc : Thread Cert.Ffn30ReferenceIdeal.nD Cert.Ffn30ReferenceIdeal.τ).loc Cert.Ffn30ReferenceIdeal.main_arg4)
      ∧ r.2.mem ((c.tc : Thread Cert.Ffn30ReferenceIdeal.nD Cert.Ffn30ReferenceIdeal.τ).loc Cert.Ffn30ReferenceIdeal.main_arg5) = m ((c.tc : Thread Cert.Ffn30ReferenceIdeal.nD Cert.Ffn30ReferenceIdeal.τ).loc Cert.Ffn30ReferenceIdeal.main_arg5)
      ∧ r.2.mem ((c.tc : Thread Cert.Ffn30ReferenceIdeal.nD Cert.Ffn30ReferenceIdeal.τ).loc Cert.Ffn30ReferenceIdeal.main_arg6) = m ((c.tc : Thread Cert.Ffn30ReferenceIdeal.nD Cert.Ffn30ReferenceIdeal.τ).loc Cert.Ffn30ReferenceIdeal.main_arg6))
      ∧ r.2.sem = fun _ => 0)

def quiescent_AbIn0 [hAbIn0 : Cert.AbIn0.Facts] : Prop :=
  ∀ (m : (ℓ : Loc Cert.AbIn0.nD Cert.AbIn0.τ Cert.AbIn0.sig) → Buf (Elt Bits) ℓ) (g : Dev Cert.AbIn0.nD → PrngReg), Pre_AbIn0 m →
    θ_run (Cert.AbIn0.defs (F := Bits)) (onTc (τ := Cert.AbIn0.τ) (Cert.AbIn0.main (F := Bits))) ⟨m, fun _ => 0, g⟩ (fun r => (∀ c : Dev Cert.AbIn0.nD,
      r.2.mem ((c.tc : Thread Cert.AbIn0.nD Cert.AbIn0.τ).loc Cert.AbIn0.main_arg0) = m ((c.tc : Thread Cert.AbIn0.nD Cert.AbIn0.τ).loc Cert.AbIn0.main_arg0)
      ∧ r.2.mem ((c.tc : Thread Cert.AbIn0.nD Cert.AbIn0.τ).loc Cert.AbIn0.main_arg1) = m ((c.tc : Thread Cert.AbIn0.nD Cert.AbIn0.τ).loc Cert.AbIn0.main_arg1)
      ∧ r.2.mem ((c.tc : Thread Cert.AbIn0.nD Cert.AbIn0.τ).loc Cert.AbIn0.main_arg2) = m ((c.tc : Thread Cert.AbIn0.nD Cert.AbIn0.τ).loc Cert.AbIn0.main_arg2)
      ∧ r.2.mem ((c.tc : Thread Cert.AbIn0.nD Cert.AbIn0.τ).loc Cert.AbIn0.main_arg3) = m ((c.tc : Thread Cert.AbIn0.nD Cert.AbIn0.τ).loc Cert.AbIn0.main_arg3)
      ∧ r.2.mem ((c.tc : Thread Cert.AbIn0.nD Cert.AbIn0.τ).loc Cert.AbIn0.main_arg4) = m ((c.tc : Thread Cert.AbIn0.nD Cert.AbIn0.τ).loc Cert.AbIn0.main_arg4)
      ∧ r.2.mem ((c.tc : Thread Cert.AbIn0.nD Cert.AbIn0.τ).loc Cert.AbIn0.main_arg5) = m ((c.tc : Thread Cert.AbIn0.nD Cert.AbIn0.τ).loc Cert.AbIn0.main_arg5)
      ∧ r.2.mem ((c.tc : Thread Cert.AbIn0.nD Cert.AbIn0.τ).loc Cert.AbIn0.main_arg6) = m ((c.tc : Thread Cert.AbIn0.nD Cert.AbIn0.τ).loc Cert.AbIn0.main_arg6)
      ∧ r.2.mem ((c.tc : Thread Cert.AbIn0.nD Cert.AbIn0.τ).loc Cert.AbIn0.main_arg7) = m ((c.tc : Thread Cert.AbIn0.nD Cert.AbIn0.τ).loc Cert.AbIn0.main_arg7))
      ∧ r.2.sem = fun _ => 0)

def quiescent_AbIn0Ideal [hAbIn0Ideal : Cert.AbIn0Ideal.Facts] : Prop :=
  ∀ (m : (ℓ : Loc Cert.AbIn0Ideal.nD Cert.AbIn0Ideal.τ Cert.AbIn0Ideal.sig) → Buf (Elt Ideal) ℓ) (g : Dev Cert.AbIn0Ideal.nD → PrngReg), Pre_AbIn0Ideal m →
    θ_run (Cert.AbIn0Ideal.defs (F := Ideal)) (onTc (τ := Cert.AbIn0Ideal.τ) (Cert.AbIn0Ideal.main (F := Ideal))) ⟨m, fun _ => 0, g⟩ (fun r => (∀ c : Dev Cert.AbIn0Ideal.nD,
      r.2.mem ((c.tc : Thread Cert.AbIn0Ideal.nD Cert.AbIn0Ideal.τ).loc Cert.AbIn0Ideal.main_arg0) = m ((c.tc : Thread Cert.AbIn0Ideal.nD Cert.AbIn0Ideal.τ).loc Cert.AbIn0Ideal.main_arg0)
      ∧ r.2.mem ((c.tc : Thread Cert.AbIn0Ideal.nD Cert.AbIn0Ideal.τ).loc Cert.AbIn0Ideal.main_arg1) = m ((c.tc : Thread Cert.AbIn0Ideal.nD Cert.AbIn0Ideal.τ).loc Cert.AbIn0Ideal.main_arg1)
      ∧ r.2.mem ((c.tc : Thread Cert.AbIn0Ideal.nD Cert.AbIn0Ideal.τ).loc Cert.AbIn0Ideal.main_arg2) = m ((c.tc : Thread Cert.AbIn0Ideal.nD Cert.AbIn0Ideal.τ).loc Cert.AbIn0Ideal.main_arg2)
      ∧ r.2.mem ((c.tc : Thread Cert.AbIn0Ideal.nD Cert.AbIn0Ideal.τ).loc Cert.AbIn0Ideal.main_arg3) = m ((c.tc : Thread Cert.AbIn0Ideal.nD Cert.AbIn0Ideal.τ).loc Cert.AbIn0Ideal.main_arg3)
      ∧ r.2.mem ((c.tc : Thread Cert.AbIn0Ideal.nD Cert.AbIn0Ideal.τ).loc Cert.AbIn0Ideal.main_arg4) = m ((c.tc : Thread Cert.AbIn0Ideal.nD Cert.AbIn0Ideal.τ).loc Cert.AbIn0Ideal.main_arg4)
      ∧ r.2.mem ((c.tc : Thread Cert.AbIn0Ideal.nD Cert.AbIn0Ideal.τ).loc Cert.AbIn0Ideal.main_arg5) = m ((c.tc : Thread Cert.AbIn0Ideal.nD Cert.AbIn0Ideal.τ).loc Cert.AbIn0Ideal.main_arg5)
      ∧ r.2.mem ((c.tc : Thread Cert.AbIn0Ideal.nD Cert.AbIn0Ideal.τ).loc Cert.AbIn0Ideal.main_arg6) = m ((c.tc : Thread Cert.AbIn0Ideal.nD Cert.AbIn0Ideal.τ).loc Cert.AbIn0Ideal.main_arg6)
      ∧ r.2.mem ((c.tc : Thread Cert.AbIn0Ideal.nD Cert.AbIn0Ideal.τ).loc Cert.AbIn0Ideal.main_arg7) = m ((c.tc : Thread Cert.AbIn0Ideal.nD Cert.AbIn0Ideal.τ).loc Cert.AbIn0Ideal.main_arg7))
      ∧ r.2.sem = fun _ => 0)

def quiescent_AbIn0ReferenceIdeal [hAbIn0ReferenceIdeal : Cert.AbIn0ReferenceIdeal.Facts] : Prop :=
  ∀ (m : (ℓ : Loc Cert.AbIn0ReferenceIdeal.nD Cert.AbIn0ReferenceIdeal.τ Cert.AbIn0ReferenceIdeal.sig) → Buf (Elt Ideal) ℓ) (g : Dev Cert.AbIn0ReferenceIdeal.nD → PrngReg), Pre_AbIn0ReferenceIdeal m →
    θ_run (Cert.AbIn0ReferenceIdeal.defs (F := Ideal)) (onTc (τ := Cert.AbIn0ReferenceIdeal.τ) (Cert.AbIn0ReferenceIdeal.main (F := Ideal))) ⟨m, fun _ => 0, g⟩ (fun r => (∀ c : Dev Cert.AbIn0ReferenceIdeal.nD,
      r.2.mem ((c.tc : Thread Cert.AbIn0ReferenceIdeal.nD Cert.AbIn0ReferenceIdeal.τ).loc Cert.AbIn0ReferenceIdeal.main_arg0) = m ((c.tc : Thread Cert.AbIn0ReferenceIdeal.nD Cert.AbIn0ReferenceIdeal.τ).loc Cert.AbIn0ReferenceIdeal.main_arg0)
      ∧ r.2.mem ((c.tc : Thread Cert.AbIn0ReferenceIdeal.nD Cert.AbIn0ReferenceIdeal.τ).loc Cert.AbIn0ReferenceIdeal.main_arg1) = m ((c.tc : Thread Cert.AbIn0ReferenceIdeal.nD Cert.AbIn0ReferenceIdeal.τ).loc Cert.AbIn0ReferenceIdeal.main_arg1)
      ∧ r.2.mem ((c.tc : Thread Cert.AbIn0ReferenceIdeal.nD Cert.AbIn0ReferenceIdeal.τ).loc Cert.AbIn0ReferenceIdeal.main_arg2) = m ((c.tc : Thread Cert.AbIn0ReferenceIdeal.nD Cert.AbIn0ReferenceIdeal.τ).loc Cert.AbIn0ReferenceIdeal.main_arg2)
      ∧ r.2.mem ((c.tc : Thread Cert.AbIn0ReferenceIdeal.nD Cert.AbIn0ReferenceIdeal.τ).loc Cert.AbIn0ReferenceIdeal.main_arg3) = m ((c.tc : Thread Cert.AbIn0ReferenceIdeal.nD Cert.AbIn0ReferenceIdeal.τ).loc Cert.AbIn0ReferenceIdeal.main_arg3)
      ∧ r.2.mem ((c.tc : Thread Cert.AbIn0ReferenceIdeal.nD Cert.AbIn0ReferenceIdeal.τ).loc Cert.AbIn0ReferenceIdeal.main_arg4) = m ((c.tc : Thread Cert.AbIn0ReferenceIdeal.nD Cert.AbIn0ReferenceIdeal.τ).loc Cert.AbIn0ReferenceIdeal.main_arg4)
      ∧ r.2.mem ((c.tc : Thread Cert.AbIn0ReferenceIdeal.nD Cert.AbIn0ReferenceIdeal.τ).loc Cert.AbIn0ReferenceIdeal.main_arg5) = m ((c.tc : Thread Cert.AbIn0ReferenceIdeal.nD Cert.AbIn0ReferenceIdeal.τ).loc Cert.AbIn0ReferenceIdeal.main_arg5)
      ∧ r.2.mem ((c.tc : Thread Cert.AbIn0ReferenceIdeal.nD Cert.AbIn0ReferenceIdeal.τ).loc Cert.AbIn0ReferenceIdeal.main_arg6) = m ((c.tc : Thread Cert.AbIn0ReferenceIdeal.nD Cert.AbIn0ReferenceIdeal.τ).loc Cert.AbIn0ReferenceIdeal.main_arg6)
      ∧ r.2.mem ((c.tc : Thread Cert.AbIn0ReferenceIdeal.nD Cert.AbIn0ReferenceIdeal.τ).loc Cert.AbIn0ReferenceIdeal.main_arg7) = m ((c.tc : Thread Cert.AbIn0ReferenceIdeal.nD Cert.AbIn0ReferenceIdeal.τ).loc Cert.AbIn0ReferenceIdeal.main_arg7))
      ∧ r.2.sem = fun _ => 0)

def quiescent_AbIn2 [hAbIn2 : Cert.AbIn2.Facts] : Prop :=
  ∀ (m : (ℓ : Loc Cert.AbIn2.nD Cert.AbIn2.τ Cert.AbIn2.sig) → Buf (Elt Bits) ℓ) (g : Dev Cert.AbIn2.nD → PrngReg), Pre_AbIn2 m →
    θ_run (Cert.AbIn2.defs (F := Bits)) (onTc (τ := Cert.AbIn2.τ) (Cert.AbIn2.main (F := Bits))) ⟨m, fun _ => 0, g⟩ (fun r => (∀ c : Dev Cert.AbIn2.nD,
      r.2.mem ((c.tc : Thread Cert.AbIn2.nD Cert.AbIn2.τ).loc Cert.AbIn2.main_arg0) = m ((c.tc : Thread Cert.AbIn2.nD Cert.AbIn2.τ).loc Cert.AbIn2.main_arg0)
      ∧ r.2.mem ((c.tc : Thread Cert.AbIn2.nD Cert.AbIn2.τ).loc Cert.AbIn2.main_arg1) = m ((c.tc : Thread Cert.AbIn2.nD Cert.AbIn2.τ).loc Cert.AbIn2.main_arg1)
      ∧ r.2.mem ((c.tc : Thread Cert.AbIn2.nD Cert.AbIn2.τ).loc Cert.AbIn2.main_arg2) = m ((c.tc : Thread Cert.AbIn2.nD Cert.AbIn2.τ).loc Cert.AbIn2.main_arg2)
      ∧ r.2.mem ((c.tc : Thread Cert.AbIn2.nD Cert.AbIn2.τ).loc Cert.AbIn2.main_arg3) = m ((c.tc : Thread Cert.AbIn2.nD Cert.AbIn2.τ).loc Cert.AbIn2.main_arg3)
      ∧ r.2.mem ((c.tc : Thread Cert.AbIn2.nD Cert.AbIn2.τ).loc Cert.AbIn2.main_arg4) = m ((c.tc : Thread Cert.AbIn2.nD Cert.AbIn2.τ).loc Cert.AbIn2.main_arg4)
      ∧ r.2.mem ((c.tc : Thread Cert.AbIn2.nD Cert.AbIn2.τ).loc Cert.AbIn2.main_arg5) = m ((c.tc : Thread Cert.AbIn2.nD Cert.AbIn2.τ).loc Cert.AbIn2.main_arg5)
      ∧ r.2.mem ((c.tc : Thread Cert.AbIn2.nD Cert.AbIn2.τ).loc Cert.AbIn2.main_arg6) = m ((c.tc : Thread Cert.AbIn2.nD Cert.AbIn2.τ).loc Cert.AbIn2.main_arg6)
      ∧ r.2.mem ((c.tc : Thread Cert.AbIn2.nD Cert.AbIn2.τ).loc Cert.AbIn2.main_arg7) = m ((c.tc : Thread Cert.AbIn2.nD Cert.AbIn2.τ).loc Cert.AbIn2.main_arg7))
      ∧ r.2.sem = fun _ => 0)

def quiescent_AbIn2Ideal [hAbIn2Ideal : Cert.AbIn2Ideal.Facts] : Prop :=
  ∀ (m : (ℓ : Loc Cert.AbIn2Ideal.nD Cert.AbIn2Ideal.τ Cert.AbIn2Ideal.sig) → Buf (Elt Ideal) ℓ) (g : Dev Cert.AbIn2Ideal.nD → PrngReg), Pre_AbIn2Ideal m →
    θ_run (Cert.AbIn2Ideal.defs (F := Ideal)) (onTc (τ := Cert.AbIn2Ideal.τ) (Cert.AbIn2Ideal.main (F := Ideal))) ⟨m, fun _ => 0, g⟩ (fun r => (∀ c : Dev Cert.AbIn2Ideal.nD,
      r.2.mem ((c.tc : Thread Cert.AbIn2Ideal.nD Cert.AbIn2Ideal.τ).loc Cert.AbIn2Ideal.main_arg0) = m ((c.tc : Thread Cert.AbIn2Ideal.nD Cert.AbIn2Ideal.τ).loc Cert.AbIn2Ideal.main_arg0)
      ∧ r.2.mem ((c.tc : Thread Cert.AbIn2Ideal.nD Cert.AbIn2Ideal.τ).loc Cert.AbIn2Ideal.main_arg1) = m ((c.tc : Thread Cert.AbIn2Ideal.nD Cert.AbIn2Ideal.τ).loc Cert.AbIn2Ideal.main_arg1)
      ∧ r.2.mem ((c.tc : Thread Cert.AbIn2Ideal.nD Cert.AbIn2Ideal.τ).loc Cert.AbIn2Ideal.main_arg2) = m ((c.tc : Thread Cert.AbIn2Ideal.nD Cert.AbIn2Ideal.τ).loc Cert.AbIn2Ideal.main_arg2)
      ∧ r.2.mem ((c.tc : Thread Cert.AbIn2Ideal.nD Cert.AbIn2Ideal.τ).loc Cert.AbIn2Ideal.main_arg3) = m ((c.tc : Thread Cert.AbIn2Ideal.nD Cert.AbIn2Ideal.τ).loc Cert.AbIn2Ideal.main_arg3)
      ∧ r.2.mem ((c.tc : Thread Cert.AbIn2Ideal.nD Cert.AbIn2Ideal.τ).loc Cert.AbIn2Ideal.main_arg4) = m ((c.tc : Thread Cert.AbIn2Ideal.nD Cert.AbIn2Ideal.τ).loc Cert.AbIn2Ideal.main_arg4)
      ∧ r.2.mem ((c.tc : Thread Cert.AbIn2Ideal.nD Cert.AbIn2Ideal.τ).loc Cert.AbIn2Ideal.main_arg5) = m ((c.tc : Thread Cert.AbIn2Ideal.nD Cert.AbIn2Ideal.τ).loc Cert.AbIn2Ideal.main_arg5)
      ∧ r.2.mem ((c.tc : Thread Cert.AbIn2Ideal.nD Cert.AbIn2Ideal.τ).loc Cert.AbIn2Ideal.main_arg6) = m ((c.tc : Thread Cert.AbIn2Ideal.nD Cert.AbIn2Ideal.τ).loc Cert.AbIn2Ideal.main_arg6)
      ∧ r.2.mem ((c.tc : Thread Cert.AbIn2Ideal.nD Cert.AbIn2Ideal.τ).loc Cert.AbIn2Ideal.main_arg7) = m ((c.tc : Thread Cert.AbIn2Ideal.nD Cert.AbIn2Ideal.τ).loc Cert.AbIn2Ideal.main_arg7))
      ∧ r.2.sem = fun _ => 0)

def quiescent_AbIn2ReferenceIdeal [hAbIn2ReferenceIdeal : Cert.AbIn2ReferenceIdeal.Facts] : Prop :=
  ∀ (m : (ℓ : Loc Cert.AbIn2ReferenceIdeal.nD Cert.AbIn2ReferenceIdeal.τ Cert.AbIn2ReferenceIdeal.sig) → Buf (Elt Ideal) ℓ) (g : Dev Cert.AbIn2ReferenceIdeal.nD → PrngReg), Pre_AbIn2ReferenceIdeal m →
    θ_run (Cert.AbIn2ReferenceIdeal.defs (F := Ideal)) (onTc (τ := Cert.AbIn2ReferenceIdeal.τ) (Cert.AbIn2ReferenceIdeal.main (F := Ideal))) ⟨m, fun _ => 0, g⟩ (fun r => (∀ c : Dev Cert.AbIn2ReferenceIdeal.nD,
      r.2.mem ((c.tc : Thread Cert.AbIn2ReferenceIdeal.nD Cert.AbIn2ReferenceIdeal.τ).loc Cert.AbIn2ReferenceIdeal.main_arg0) = m ((c.tc : Thread Cert.AbIn2ReferenceIdeal.nD Cert.AbIn2ReferenceIdeal.τ).loc Cert.AbIn2ReferenceIdeal.main_arg0)
      ∧ r.2.mem ((c.tc : Thread Cert.AbIn2ReferenceIdeal.nD Cert.AbIn2ReferenceIdeal.τ).loc Cert.AbIn2ReferenceIdeal.main_arg1) = m ((c.tc : Thread Cert.AbIn2ReferenceIdeal.nD Cert.AbIn2ReferenceIdeal.τ).loc Cert.AbIn2ReferenceIdeal.main_arg1)
      ∧ r.2.mem ((c.tc : Thread Cert.AbIn2ReferenceIdeal.nD Cert.AbIn2ReferenceIdeal.τ).loc Cert.AbIn2ReferenceIdeal.main_arg2) = m ((c.tc : Thread Cert.AbIn2ReferenceIdeal.nD Cert.AbIn2ReferenceIdeal.τ).loc Cert.AbIn2ReferenceIdeal.main_arg2)
      ∧ r.2.mem ((c.tc : Thread Cert.AbIn2ReferenceIdeal.nD Cert.AbIn2ReferenceIdeal.τ).loc Cert.AbIn2ReferenceIdeal.main_arg3) = m ((c.tc : Thread Cert.AbIn2ReferenceIdeal.nD Cert.AbIn2ReferenceIdeal.τ).loc Cert.AbIn2ReferenceIdeal.main_arg3)
      ∧ r.2.mem ((c.tc : Thread Cert.AbIn2ReferenceIdeal.nD Cert.AbIn2ReferenceIdeal.τ).loc Cert.AbIn2ReferenceIdeal.main_arg4) = m ((c.tc : Thread Cert.AbIn2ReferenceIdeal.nD Cert.AbIn2ReferenceIdeal.τ).loc Cert.AbIn2ReferenceIdeal.main_arg4)
      ∧ r.2.mem ((c.tc : Thread Cert.AbIn2ReferenceIdeal.nD Cert.AbIn2ReferenceIdeal.τ).loc Cert.AbIn2ReferenceIdeal.main_arg5) = m ((c.tc : Thread Cert.AbIn2ReferenceIdeal.nD Cert.AbIn2ReferenceIdeal.τ).loc Cert.AbIn2ReferenceIdeal.main_arg5)
      ∧ r.2.mem ((c.tc : Thread Cert.AbIn2ReferenceIdeal.nD Cert.AbIn2ReferenceIdeal.τ).loc Cert.AbIn2ReferenceIdeal.main_arg6) = m ((c.tc : Thread Cert.AbIn2ReferenceIdeal.nD Cert.AbIn2ReferenceIdeal.τ).loc Cert.AbIn2ReferenceIdeal.main_arg6)
      ∧ r.2.mem ((c.tc : Thread Cert.AbIn2ReferenceIdeal.nD Cert.AbIn2ReferenceIdeal.τ).loc Cert.AbIn2ReferenceIdeal.main_arg7) = m ((c.tc : Thread Cert.AbIn2ReferenceIdeal.nD Cert.AbIn2ReferenceIdeal.τ).loc Cert.AbIn2ReferenceIdeal.main_arg7))
      ∧ r.2.sem = fun _ => 0)

def preserves_Kernel_KernelIdeal : Prop :=
  True

def algebraic_KernelIdeal_ReferenceIdeal_on_latent_rows_pre_finite [hKernelIdeal : Cert.KernelIdeal.Facts] [hReferenceIdeal : Cert.ReferenceIdeal.Facts] [hPre_finite : Cert.Pre_finite.Facts] [hOn_latent_rows : Cert.On_latent_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![33792, 1024]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v54) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![33792, 1024]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.ReferenceIdeal.nD Cert.ReferenceIdeal.τ).loc Cert.ReferenceIdeal.main_v21) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v54) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_Ffn00_Ffn00Ideal : Prop :=
  True

def algebraic_Ffn00Ideal_Ffn00ReferenceIdeal [hFfn00Ideal : Cert.Ffn00Ideal.Facts] [hFfn00ReferenceIdeal : Cert.Ffn00ReferenceIdeal.Facts] : Prop :=
  ∀ (m : (ℓ : Loc Cert.Ffn00Ideal.nD Cert.Ffn00Ideal.τ Cert.Ffn00Ideal.sig) → Buf (Elt Ideal) ℓ) (g : Dev Cert.Ffn00Ideal.nD → PrngReg)
    (m' : (ℓ : Loc Cert.Ffn00ReferenceIdeal.nD Cert.Ffn00ReferenceIdeal.τ Cert.Ffn00ReferenceIdeal.sig) → Buf (Elt Ideal) ℓ) (g' : Dev Cert.Ffn00ReferenceIdeal.nD → PrngReg), Pre_Ffn00Ideal m →
    (∀ c : Dev Cert.Ffn00Ideal.nD,
      m' ((c.tc : Thread Cert.Ffn00ReferenceIdeal.nD Cert.Ffn00ReferenceIdeal.τ).loc Cert.Ffn00ReferenceIdeal.main_arg0) = m ((c.tc : Thread Cert.Ffn00Ideal.nD Cert.Ffn00Ideal.τ).loc Cert.Ffn00Ideal.main_arg0)
      ∧ m' ((c.tc : Thread Cert.Ffn00ReferenceIdeal.nD Cert.Ffn00ReferenceIdeal.τ).loc Cert.Ffn00ReferenceIdeal.main_arg1) = m ((c.tc : Thread Cert.Ffn00Ideal.nD Cert.Ffn00Ideal.τ).loc Cert.Ffn00Ideal.main_arg1)
      ∧ m' ((c.tc : Thread Cert.Ffn00ReferenceIdeal.nD Cert.Ffn00ReferenceIdeal.τ).loc Cert.Ffn00ReferenceIdeal.main_arg2) = m ((c.tc : Thread Cert.Ffn00Ideal.nD Cert.Ffn00Ideal.τ).loc Cert.Ffn00Ideal.main_arg2)
      ∧ m' ((c.tc : Thread Cert.Ffn00ReferenceIdeal.nD Cert.Ffn00ReferenceIdeal.τ).loc Cert.Ffn00ReferenceIdeal.main_arg3) = m ((c.tc : Thread Cert.Ffn00Ideal.nD Cert.Ffn00Ideal.τ).loc Cert.Ffn00Ideal.main_arg3)
      ∧ m' ((c.tc : Thread Cert.Ffn00ReferenceIdeal.nD Cert.Ffn00ReferenceIdeal.τ).loc Cert.Ffn00ReferenceIdeal.main_arg4) = m ((c.tc : Thread Cert.Ffn00Ideal.nD Cert.Ffn00Ideal.τ).loc Cert.Ffn00Ideal.main_arg4)
      ∧ m' ((c.tc : Thread Cert.Ffn00ReferenceIdeal.nD Cert.Ffn00ReferenceIdeal.τ).loc Cert.Ffn00ReferenceIdeal.main_arg5) = m ((c.tc : Thread Cert.Ffn00Ideal.nD Cert.Ffn00Ideal.τ).loc Cert.Ffn00Ideal.main_arg5)
      ∧ m' ((c.tc : Thread Cert.Ffn00ReferenceIdeal.nD Cert.Ffn00ReferenceIdeal.τ).loc Cert.Ffn00ReferenceIdeal.main_arg6) = m ((c.tc : Thread Cert.Ffn00Ideal.nD Cert.Ffn00Ideal.τ).loc Cert.Ffn00Ideal.main_arg6)) →
    ∃ (v0 : (c : Dev Cert.Ffn00Ideal.nD) → Buf (Elt Ideal) ((c.tc : Thread Cert.Ffn00Ideal.nD Cert.Ffn00Ideal.τ).loc Cert.Ffn00Ideal.main_v10)),
      θ_run (Cert.Ffn00Ideal.defs (F := Ideal)) (onTc (τ := Cert.Ffn00Ideal.τ) (Cert.Ffn00Ideal.main (F := Ideal))) ⟨m, fun _ => 0, g⟩ (fun r => ∀ c : Dev Cert.Ffn00Ideal.nD,
          r.2.mem ((c.tc : Thread Cert.Ffn00Ideal.nD Cert.Ffn00Ideal.τ).loc Cert.Ffn00Ideal.main_v10) = v0 c
          ∧ r.2.mem ((c.tc : Thread Cert.Ffn00Ideal.nD Cert.Ffn00Ideal.τ).loc Cert.Ffn00Ideal.main_arg0) = m ((c.tc : Thread Cert.Ffn00Ideal.nD Cert.Ffn00Ideal.τ).loc Cert.Ffn00Ideal.main_arg0)
          ∧ r.2.mem ((c.tc : Thread Cert.Ffn00Ideal.nD Cert.Ffn00Ideal.τ).loc Cert.Ffn00Ideal.main_arg1) = m ((c.tc : Thread Cert.Ffn00Ideal.nD Cert.Ffn00Ideal.τ).loc Cert.Ffn00Ideal.main_arg1)
          ∧ r.2.mem ((c.tc : Thread Cert.Ffn00Ideal.nD Cert.Ffn00Ideal.τ).loc Cert.Ffn00Ideal.main_arg2) = m ((c.tc : Thread Cert.Ffn00Ideal.nD Cert.Ffn00Ideal.τ).loc Cert.Ffn00Ideal.main_arg2)
          ∧ r.2.mem ((c.tc : Thread Cert.Ffn00Ideal.nD Cert.Ffn00Ideal.τ).loc Cert.Ffn00Ideal.main_arg3) = m ((c.tc : Thread Cert.Ffn00Ideal.nD Cert.Ffn00Ideal.τ).loc Cert.Ffn00Ideal.main_arg3)
          ∧ r.2.mem ((c.tc : Thread Cert.Ffn00Ideal.nD Cert.Ffn00Ideal.τ).loc Cert.Ffn00Ideal.main_arg4) = m ((c.tc : Thread Cert.Ffn00Ideal.nD Cert.Ffn00Ideal.τ).loc Cert.Ffn00Ideal.main_arg4)
          ∧ r.2.mem ((c.tc : Thread Cert.Ffn00Ideal.nD Cert.Ffn00Ideal.τ).loc Cert.Ffn00Ideal.main_arg5) = m ((c.tc : Thread Cert.Ffn00Ideal.nD Cert.Ffn00Ideal.τ).loc Cert.Ffn00Ideal.main_arg5)
          ∧ r.2.mem ((c.tc : Thread Cert.Ffn00Ideal.nD Cert.Ffn00Ideal.τ).loc Cert.Ffn00Ideal.main_arg6) = m ((c.tc : Thread Cert.Ffn00Ideal.nD Cert.Ffn00Ideal.τ).loc Cert.Ffn00Ideal.main_arg6))
      ∧ θ_run (Cert.Ffn00ReferenceIdeal.defs (F := Ideal)) (onTc (τ := Cert.Ffn00ReferenceIdeal.τ) (Cert.Ffn00ReferenceIdeal.main (F := Ideal))) ⟨m', fun _ => 0, g'⟩ (fun r => ∀ c : Dev Cert.Ffn00ReferenceIdeal.nD,
          r.2.mem ((c.tc : Thread Cert.Ffn00ReferenceIdeal.nD Cert.Ffn00ReferenceIdeal.τ).loc Cert.Ffn00ReferenceIdeal.main_v95) = v0 c
          ∧ r.2.mem ((c.tc : Thread Cert.Ffn00ReferenceIdeal.nD Cert.Ffn00ReferenceIdeal.τ).loc Cert.Ffn00ReferenceIdeal.main_arg0) = m' ((c.tc : Thread Cert.Ffn00ReferenceIdeal.nD Cert.Ffn00ReferenceIdeal.τ).loc Cert.Ffn00ReferenceIdeal.main_arg0)
          ∧ r.2.mem ((c.tc : Thread Cert.Ffn00ReferenceIdeal.nD Cert.Ffn00ReferenceIdeal.τ).loc Cert.Ffn00ReferenceIdeal.main_arg1) = m' ((c.tc : Thread Cert.Ffn00ReferenceIdeal.nD Cert.Ffn00ReferenceIdeal.τ).loc Cert.Ffn00ReferenceIdeal.main_arg1)
          ∧ r.2.mem ((c.tc : Thread Cert.Ffn00ReferenceIdeal.nD Cert.Ffn00ReferenceIdeal.τ).loc Cert.Ffn00ReferenceIdeal.main_arg2) = m' ((c.tc : Thread Cert.Ffn00ReferenceIdeal.nD Cert.Ffn00ReferenceIdeal.τ).loc Cert.Ffn00ReferenceIdeal.main_arg2)
          ∧ r.2.mem ((c.tc : Thread Cert.Ffn00ReferenceIdeal.nD Cert.Ffn00ReferenceIdeal.τ).loc Cert.Ffn00ReferenceIdeal.main_arg3) = m' ((c.tc : Thread Cert.Ffn00ReferenceIdeal.nD Cert.Ffn00ReferenceIdeal.τ).loc Cert.Ffn00ReferenceIdeal.main_arg3)
          ∧ r.2.mem ((c.tc : Thread Cert.Ffn00ReferenceIdeal.nD Cert.Ffn00ReferenceIdeal.τ).loc Cert.Ffn00ReferenceIdeal.main_arg4) = m' ((c.tc : Thread Cert.Ffn00ReferenceIdeal.nD Cert.Ffn00ReferenceIdeal.τ).loc Cert.Ffn00ReferenceIdeal.main_arg4)
          ∧ r.2.mem ((c.tc : Thread Cert.Ffn00ReferenceIdeal.nD Cert.Ffn00ReferenceIdeal.τ).loc Cert.Ffn00ReferenceIdeal.main_arg5) = m' ((c.tc : Thread Cert.Ffn00ReferenceIdeal.nD Cert.Ffn00ReferenceIdeal.τ).loc Cert.Ffn00ReferenceIdeal.main_arg5)
          ∧ r.2.mem ((c.tc : Thread Cert.Ffn00ReferenceIdeal.nD Cert.Ffn00ReferenceIdeal.τ).loc Cert.Ffn00ReferenceIdeal.main_arg6) = m' ((c.tc : Thread Cert.Ffn00ReferenceIdeal.nD Cert.Ffn00ReferenceIdeal.τ).loc Cert.Ffn00ReferenceIdeal.main_arg6))

def preserves_Ffn01_Ffn01Ideal : Prop :=
  True

def algebraic_Ffn01Ideal_Ffn01ReferenceIdeal [hFfn01Ideal : Cert.Ffn01Ideal.Facts] [hFfn01ReferenceIdeal : Cert.Ffn01ReferenceIdeal.Facts] : Prop :=
  ∀ (m : (ℓ : Loc Cert.Ffn01Ideal.nD Cert.Ffn01Ideal.τ Cert.Ffn01Ideal.sig) → Buf (Elt Ideal) ℓ) (g : Dev Cert.Ffn01Ideal.nD → PrngReg)
    (m' : (ℓ : Loc Cert.Ffn01ReferenceIdeal.nD Cert.Ffn01ReferenceIdeal.τ Cert.Ffn01ReferenceIdeal.sig) → Buf (Elt Ideal) ℓ) (g' : Dev Cert.Ffn01ReferenceIdeal.nD → PrngReg), Pre_Ffn01Ideal m →
    (∀ c : Dev Cert.Ffn01Ideal.nD,
      m' ((c.tc : Thread Cert.Ffn01ReferenceIdeal.nD Cert.Ffn01ReferenceIdeal.τ).loc Cert.Ffn01ReferenceIdeal.main_arg0) = m ((c.tc : Thread Cert.Ffn01Ideal.nD Cert.Ffn01Ideal.τ).loc Cert.Ffn01Ideal.main_arg0)
      ∧ m' ((c.tc : Thread Cert.Ffn01ReferenceIdeal.nD Cert.Ffn01ReferenceIdeal.τ).loc Cert.Ffn01ReferenceIdeal.main_arg1) = m ((c.tc : Thread Cert.Ffn01Ideal.nD Cert.Ffn01Ideal.τ).loc Cert.Ffn01Ideal.main_arg1)
      ∧ m' ((c.tc : Thread Cert.Ffn01ReferenceIdeal.nD Cert.Ffn01ReferenceIdeal.τ).loc Cert.Ffn01ReferenceIdeal.main_arg2) = m ((c.tc : Thread Cert.Ffn01Ideal.nD Cert.Ffn01Ideal.τ).loc Cert.Ffn01Ideal.main_arg2)
      ∧ m' ((c.tc : Thread Cert.Ffn01ReferenceIdeal.nD Cert.Ffn01ReferenceIdeal.τ).loc Cert.Ffn01ReferenceIdeal.main_arg3) = m ((c.tc : Thread Cert.Ffn01Ideal.nD Cert.Ffn01Ideal.τ).loc Cert.Ffn01Ideal.main_arg3)
      ∧ m' ((c.tc : Thread Cert.Ffn01ReferenceIdeal.nD Cert.Ffn01ReferenceIdeal.τ).loc Cert.Ffn01ReferenceIdeal.main_arg4) = m ((c.tc : Thread Cert.Ffn01Ideal.nD Cert.Ffn01Ideal.τ).loc Cert.Ffn01Ideal.main_arg4)
      ∧ m' ((c.tc : Thread Cert.Ffn01ReferenceIdeal.nD Cert.Ffn01ReferenceIdeal.τ).loc Cert.Ffn01ReferenceIdeal.main_arg5) = m ((c.tc : Thread Cert.Ffn01Ideal.nD Cert.Ffn01Ideal.τ).loc Cert.Ffn01Ideal.main_arg5)
      ∧ m' ((c.tc : Thread Cert.Ffn01ReferenceIdeal.nD Cert.Ffn01ReferenceIdeal.τ).loc Cert.Ffn01ReferenceIdeal.main_arg6) = m ((c.tc : Thread Cert.Ffn01Ideal.nD Cert.Ffn01Ideal.τ).loc Cert.Ffn01Ideal.main_arg6)) →
    ∃ (v0 : (c : Dev Cert.Ffn01Ideal.nD) → Buf (Elt Ideal) ((c.tc : Thread Cert.Ffn01Ideal.nD Cert.Ffn01Ideal.τ).loc Cert.Ffn01Ideal.main_v11)),
      θ_run (Cert.Ffn01Ideal.defs (F := Ideal)) (onTc (τ := Cert.Ffn01Ideal.τ) (Cert.Ffn01Ideal.main (F := Ideal))) ⟨m, fun _ => 0, g⟩ (fun r => ∀ c : Dev Cert.Ffn01Ideal.nD,
          r.2.mem ((c.tc : Thread Cert.Ffn01Ideal.nD Cert.Ffn01Ideal.τ).loc Cert.Ffn01Ideal.main_v11) = v0 c
          ∧ r.2.mem ((c.tc : Thread Cert.Ffn01Ideal.nD Cert.Ffn01Ideal.τ).loc Cert.Ffn01Ideal.main_arg0) = m ((c.tc : Thread Cert.Ffn01Ideal.nD Cert.Ffn01Ideal.τ).loc Cert.Ffn01Ideal.main_arg0)
          ∧ r.2.mem ((c.tc : Thread Cert.Ffn01Ideal.nD Cert.Ffn01Ideal.τ).loc Cert.Ffn01Ideal.main_arg1) = m ((c.tc : Thread Cert.Ffn01Ideal.nD Cert.Ffn01Ideal.τ).loc Cert.Ffn01Ideal.main_arg1)
          ∧ r.2.mem ((c.tc : Thread Cert.Ffn01Ideal.nD Cert.Ffn01Ideal.τ).loc Cert.Ffn01Ideal.main_arg2) = m ((c.tc : Thread Cert.Ffn01Ideal.nD Cert.Ffn01Ideal.τ).loc Cert.Ffn01Ideal.main_arg2)
          ∧ r.2.mem ((c.tc : Thread Cert.Ffn01Ideal.nD Cert.Ffn01Ideal.τ).loc Cert.Ffn01Ideal.main_arg3) = m ((c.tc : Thread Cert.Ffn01Ideal.nD Cert.Ffn01Ideal.τ).loc Cert.Ffn01Ideal.main_arg3)
          ∧ r.2.mem ((c.tc : Thread Cert.Ffn01Ideal.nD Cert.Ffn01Ideal.τ).loc Cert.Ffn01Ideal.main_arg4) = m ((c.tc : Thread Cert.Ffn01Ideal.nD Cert.Ffn01Ideal.τ).loc Cert.Ffn01Ideal.main_arg4)
          ∧ r.2.mem ((c.tc : Thread Cert.Ffn01Ideal.nD Cert.Ffn01Ideal.τ).loc Cert.Ffn01Ideal.main_arg5) = m ((c.tc : Thread Cert.Ffn01Ideal.nD Cert.Ffn01Ideal.τ).loc Cert.Ffn01Ideal.main_arg5)
          ∧ r.2.mem ((c.tc : Thread Cert.Ffn01Ideal.nD Cert.Ffn01Ideal.τ).loc Cert.Ffn01Ideal.main_arg6) = m ((c.tc : Thread Cert.Ffn01Ideal.nD Cert.Ffn01Ideal.τ).loc Cert.Ffn01Ideal.main_arg6))
      ∧ θ_run (Cert.Ffn01ReferenceIdeal.defs (F := Ideal)) (onTc (τ := Cert.Ffn01ReferenceIdeal.τ) (Cert.Ffn01ReferenceIdeal.main (F := Ideal))) ⟨m', fun _ => 0, g'⟩ (fun r => ∀ c : Dev Cert.Ffn01ReferenceIdeal.nD,
          r.2.mem ((c.tc : Thread Cert.Ffn01ReferenceIdeal.nD Cert.Ffn01ReferenceIdeal.τ).loc Cert.Ffn01ReferenceIdeal.main_v95) = v0 c
          ∧ r.2.mem ((c.tc : Thread Cert.Ffn01ReferenceIdeal.nD Cert.Ffn01ReferenceIdeal.τ).loc Cert.Ffn01ReferenceIdeal.main_arg0) = m' ((c.tc : Thread Cert.Ffn01ReferenceIdeal.nD Cert.Ffn01ReferenceIdeal.τ).loc Cert.Ffn01ReferenceIdeal.main_arg0)
          ∧ r.2.mem ((c.tc : Thread Cert.Ffn01ReferenceIdeal.nD Cert.Ffn01ReferenceIdeal.τ).loc Cert.Ffn01ReferenceIdeal.main_arg1) = m' ((c.tc : Thread Cert.Ffn01ReferenceIdeal.nD Cert.Ffn01ReferenceIdeal.τ).loc Cert.Ffn01ReferenceIdeal.main_arg1)
          ∧ r.2.mem ((c.tc : Thread Cert.Ffn01ReferenceIdeal.nD Cert.Ffn01ReferenceIdeal.τ).loc Cert.Ffn01ReferenceIdeal.main_arg2) = m' ((c.tc : Thread Cert.Ffn01ReferenceIdeal.nD Cert.Ffn01ReferenceIdeal.τ).loc Cert.Ffn01ReferenceIdeal.main_arg2)
          ∧ r.2.mem ((c.tc : Thread Cert.Ffn01ReferenceIdeal.nD Cert.Ffn01ReferenceIdeal.τ).loc Cert.Ffn01ReferenceIdeal.main_arg3) = m' ((c.tc : Thread Cert.Ffn01ReferenceIdeal.nD Cert.Ffn01ReferenceIdeal.τ).loc Cert.Ffn01ReferenceIdeal.main_arg3)
          ∧ r.2.mem ((c.tc : Thread Cert.Ffn01ReferenceIdeal.nD Cert.Ffn01ReferenceIdeal.τ).loc Cert.Ffn01ReferenceIdeal.main_arg4) = m' ((c.tc : Thread Cert.Ffn01ReferenceIdeal.nD Cert.Ffn01ReferenceIdeal.τ).loc Cert.Ffn01ReferenceIdeal.main_arg4)
          ∧ r.2.mem ((c.tc : Thread Cert.Ffn01ReferenceIdeal.nD Cert.Ffn01ReferenceIdeal.τ).loc Cert.Ffn01ReferenceIdeal.main_arg5) = m' ((c.tc : Thread Cert.Ffn01ReferenceIdeal.nD Cert.Ffn01ReferenceIdeal.τ).loc Cert.Ffn01ReferenceIdeal.main_arg5)
          ∧ r.2.mem ((c.tc : Thread Cert.Ffn01ReferenceIdeal.nD Cert.Ffn01ReferenceIdeal.τ).loc Cert.Ffn01ReferenceIdeal.main_arg6) = m' ((c.tc : Thread Cert.Ffn01ReferenceIdeal.nD Cert.Ffn01ReferenceIdeal.τ).loc Cert.Ffn01ReferenceIdeal.main_arg6))

def preserves_Ffn10_Ffn10Ideal : Prop :=
  True

def algebraic_Ffn10Ideal_Ffn10ReferenceIdeal [hFfn10Ideal : Cert.Ffn10Ideal.Facts] [hFfn10ReferenceIdeal : Cert.Ffn10ReferenceIdeal.Facts] : Prop :=
  ∀ (m : (ℓ : Loc Cert.Ffn10Ideal.nD Cert.Ffn10Ideal.τ Cert.Ffn10Ideal.sig) → Buf (Elt Ideal) ℓ) (g : Dev Cert.Ffn10Ideal.nD → PrngReg)
    (m' : (ℓ : Loc Cert.Ffn10ReferenceIdeal.nD Cert.Ffn10ReferenceIdeal.τ Cert.Ffn10ReferenceIdeal.sig) → Buf (Elt Ideal) ℓ) (g' : Dev Cert.Ffn10ReferenceIdeal.nD → PrngReg), Pre_Ffn10Ideal m →
    (∀ c : Dev Cert.Ffn10Ideal.nD,
      m' ((c.tc : Thread Cert.Ffn10ReferenceIdeal.nD Cert.Ffn10ReferenceIdeal.τ).loc Cert.Ffn10ReferenceIdeal.main_arg0) = m ((c.tc : Thread Cert.Ffn10Ideal.nD Cert.Ffn10Ideal.τ).loc Cert.Ffn10Ideal.main_arg0)
      ∧ m' ((c.tc : Thread Cert.Ffn10ReferenceIdeal.nD Cert.Ffn10ReferenceIdeal.τ).loc Cert.Ffn10ReferenceIdeal.main_arg1) = m ((c.tc : Thread Cert.Ffn10Ideal.nD Cert.Ffn10Ideal.τ).loc Cert.Ffn10Ideal.main_arg1)
      ∧ m' ((c.tc : Thread Cert.Ffn10ReferenceIdeal.nD Cert.Ffn10ReferenceIdeal.τ).loc Cert.Ffn10ReferenceIdeal.main_arg2) = m ((c.tc : Thread Cert.Ffn10Ideal.nD Cert.Ffn10Ideal.τ).loc Cert.Ffn10Ideal.main_arg2)
      ∧ m' ((c.tc : Thread Cert.Ffn10ReferenceIdeal.nD Cert.Ffn10ReferenceIdeal.τ).loc Cert.Ffn10ReferenceIdeal.main_arg3) = m ((c.tc : Thread Cert.Ffn10Ideal.nD Cert.Ffn10Ideal.τ).loc Cert.Ffn10Ideal.main_arg3)
      ∧ m' ((c.tc : Thread Cert.Ffn10ReferenceIdeal.nD Cert.Ffn10ReferenceIdeal.τ).loc Cert.Ffn10ReferenceIdeal.main_arg4) = m ((c.tc : Thread Cert.Ffn10Ideal.nD Cert.Ffn10Ideal.τ).loc Cert.Ffn10Ideal.main_arg4)
      ∧ m' ((c.tc : Thread Cert.Ffn10ReferenceIdeal.nD Cert.Ffn10ReferenceIdeal.τ).loc Cert.Ffn10ReferenceIdeal.main_arg5) = m ((c.tc : Thread Cert.Ffn10Ideal.nD Cert.Ffn10Ideal.τ).loc Cert.Ffn10Ideal.main_arg5)
      ∧ m' ((c.tc : Thread Cert.Ffn10ReferenceIdeal.nD Cert.Ffn10ReferenceIdeal.τ).loc Cert.Ffn10ReferenceIdeal.main_arg6) = m ((c.tc : Thread Cert.Ffn10Ideal.nD Cert.Ffn10Ideal.τ).loc Cert.Ffn10Ideal.main_arg6)) →
    ∃ (v0 : (c : Dev Cert.Ffn10Ideal.nD) → Buf (Elt Ideal) ((c.tc : Thread Cert.Ffn10Ideal.nD Cert.Ffn10Ideal.τ).loc Cert.Ffn10Ideal.main_v11)),
      θ_run (Cert.Ffn10Ideal.defs (F := Ideal)) (onTc (τ := Cert.Ffn10Ideal.τ) (Cert.Ffn10Ideal.main (F := Ideal))) ⟨m, fun _ => 0, g⟩ (fun r => ∀ c : Dev Cert.Ffn10Ideal.nD,
          r.2.mem ((c.tc : Thread Cert.Ffn10Ideal.nD Cert.Ffn10Ideal.τ).loc Cert.Ffn10Ideal.main_v11) = v0 c
          ∧ r.2.mem ((c.tc : Thread Cert.Ffn10Ideal.nD Cert.Ffn10Ideal.τ).loc Cert.Ffn10Ideal.main_arg0) = m ((c.tc : Thread Cert.Ffn10Ideal.nD Cert.Ffn10Ideal.τ).loc Cert.Ffn10Ideal.main_arg0)
          ∧ r.2.mem ((c.tc : Thread Cert.Ffn10Ideal.nD Cert.Ffn10Ideal.τ).loc Cert.Ffn10Ideal.main_arg1) = m ((c.tc : Thread Cert.Ffn10Ideal.nD Cert.Ffn10Ideal.τ).loc Cert.Ffn10Ideal.main_arg1)
          ∧ r.2.mem ((c.tc : Thread Cert.Ffn10Ideal.nD Cert.Ffn10Ideal.τ).loc Cert.Ffn10Ideal.main_arg2) = m ((c.tc : Thread Cert.Ffn10Ideal.nD Cert.Ffn10Ideal.τ).loc Cert.Ffn10Ideal.main_arg2)
          ∧ r.2.mem ((c.tc : Thread Cert.Ffn10Ideal.nD Cert.Ffn10Ideal.τ).loc Cert.Ffn10Ideal.main_arg3) = m ((c.tc : Thread Cert.Ffn10Ideal.nD Cert.Ffn10Ideal.τ).loc Cert.Ffn10Ideal.main_arg3)
          ∧ r.2.mem ((c.tc : Thread Cert.Ffn10Ideal.nD Cert.Ffn10Ideal.τ).loc Cert.Ffn10Ideal.main_arg4) = m ((c.tc : Thread Cert.Ffn10Ideal.nD Cert.Ffn10Ideal.τ).loc Cert.Ffn10Ideal.main_arg4)
          ∧ r.2.mem ((c.tc : Thread Cert.Ffn10Ideal.nD Cert.Ffn10Ideal.τ).loc Cert.Ffn10Ideal.main_arg5) = m ((c.tc : Thread Cert.Ffn10Ideal.nD Cert.Ffn10Ideal.τ).loc Cert.Ffn10Ideal.main_arg5)
          ∧ r.2.mem ((c.tc : Thread Cert.Ffn10Ideal.nD Cert.Ffn10Ideal.τ).loc Cert.Ffn10Ideal.main_arg6) = m ((c.tc : Thread Cert.Ffn10Ideal.nD Cert.Ffn10Ideal.τ).loc Cert.Ffn10Ideal.main_arg6))
      ∧ θ_run (Cert.Ffn10ReferenceIdeal.defs (F := Ideal)) (onTc (τ := Cert.Ffn10ReferenceIdeal.τ) (Cert.Ffn10ReferenceIdeal.main (F := Ideal))) ⟨m', fun _ => 0, g'⟩ (fun r => ∀ c : Dev Cert.Ffn10ReferenceIdeal.nD,
          r.2.mem ((c.tc : Thread Cert.Ffn10ReferenceIdeal.nD Cert.Ffn10ReferenceIdeal.τ).loc Cert.Ffn10ReferenceIdeal.main_v95) = v0 c
          ∧ r.2.mem ((c.tc : Thread Cert.Ffn10ReferenceIdeal.nD Cert.Ffn10ReferenceIdeal.τ).loc Cert.Ffn10ReferenceIdeal.main_arg0) = m' ((c.tc : Thread Cert.Ffn10ReferenceIdeal.nD Cert.Ffn10ReferenceIdeal.τ).loc Cert.Ffn10ReferenceIdeal.main_arg0)
          ∧ r.2.mem ((c.tc : Thread Cert.Ffn10ReferenceIdeal.nD Cert.Ffn10ReferenceIdeal.τ).loc Cert.Ffn10ReferenceIdeal.main_arg1) = m' ((c.tc : Thread Cert.Ffn10ReferenceIdeal.nD Cert.Ffn10ReferenceIdeal.τ).loc Cert.Ffn10ReferenceIdeal.main_arg1)
          ∧ r.2.mem ((c.tc : Thread Cert.Ffn10ReferenceIdeal.nD Cert.Ffn10ReferenceIdeal.τ).loc Cert.Ffn10ReferenceIdeal.main_arg2) = m' ((c.tc : Thread Cert.Ffn10ReferenceIdeal.nD Cert.Ffn10ReferenceIdeal.τ).loc Cert.Ffn10ReferenceIdeal.main_arg2)
          ∧ r.2.mem ((c.tc : Thread Cert.Ffn10ReferenceIdeal.nD Cert.Ffn10ReferenceIdeal.τ).loc Cert.Ffn10ReferenceIdeal.main_arg3) = m' ((c.tc : Thread Cert.Ffn10ReferenceIdeal.nD Cert.Ffn10ReferenceIdeal.τ).loc Cert.Ffn10ReferenceIdeal.main_arg3)
          ∧ r.2.mem ((c.tc : Thread Cert.Ffn10ReferenceIdeal.nD Cert.Ffn10ReferenceIdeal.τ).loc Cert.Ffn10ReferenceIdeal.main_arg4) = m' ((c.tc : Thread Cert.Ffn10ReferenceIdeal.nD Cert.Ffn10ReferenceIdeal.τ).loc Cert.Ffn10ReferenceIdeal.main_arg4)
          ∧ r.2.mem ((c.tc : Thread Cert.Ffn10ReferenceIdeal.nD Cert.Ffn10ReferenceIdeal.τ).loc Cert.Ffn10ReferenceIdeal.main_arg5) = m' ((c.tc : Thread Cert.Ffn10ReferenceIdeal.nD Cert.Ffn10ReferenceIdeal.τ).loc Cert.Ffn10ReferenceIdeal.main_arg5)
          ∧ r.2.mem ((c.tc : Thread Cert.Ffn10ReferenceIdeal.nD Cert.Ffn10ReferenceIdeal.τ).loc Cert.Ffn10ReferenceIdeal.main_arg6) = m' ((c.tc : Thread Cert.Ffn10ReferenceIdeal.nD Cert.Ffn10ReferenceIdeal.τ).loc Cert.Ffn10ReferenceIdeal.main_arg6))

def preserves_Ffn11_Ffn11Ideal : Prop :=
  True

def algebraic_Ffn11Ideal_Ffn11ReferenceIdeal [hFfn11Ideal : Cert.Ffn11Ideal.Facts] [hFfn11ReferenceIdeal : Cert.Ffn11ReferenceIdeal.Facts] : Prop :=
  ∀ (m : (ℓ : Loc Cert.Ffn11Ideal.nD Cert.Ffn11Ideal.τ Cert.Ffn11Ideal.sig) → Buf (Elt Ideal) ℓ) (g : Dev Cert.Ffn11Ideal.nD → PrngReg)
    (m' : (ℓ : Loc Cert.Ffn11ReferenceIdeal.nD Cert.Ffn11ReferenceIdeal.τ Cert.Ffn11ReferenceIdeal.sig) → Buf (Elt Ideal) ℓ) (g' : Dev Cert.Ffn11ReferenceIdeal.nD → PrngReg), Pre_Ffn11Ideal m →
    (∀ c : Dev Cert.Ffn11Ideal.nD,
      m' ((c.tc : Thread Cert.Ffn11ReferenceIdeal.nD Cert.Ffn11ReferenceIdeal.τ).loc Cert.Ffn11ReferenceIdeal.main_arg0) = m ((c.tc : Thread Cert.Ffn11Ideal.nD Cert.Ffn11Ideal.τ).loc Cert.Ffn11Ideal.main_arg0)
      ∧ m' ((c.tc : Thread Cert.Ffn11ReferenceIdeal.nD Cert.Ffn11ReferenceIdeal.τ).loc Cert.Ffn11ReferenceIdeal.main_arg1) = m ((c.tc : Thread Cert.Ffn11Ideal.nD Cert.Ffn11Ideal.τ).loc Cert.Ffn11Ideal.main_arg1)
      ∧ m' ((c.tc : Thread Cert.Ffn11ReferenceIdeal.nD Cert.Ffn11ReferenceIdeal.τ).loc Cert.Ffn11ReferenceIdeal.main_arg2) = m ((c.tc : Thread Cert.Ffn11Ideal.nD Cert.Ffn11Ideal.τ).loc Cert.Ffn11Ideal.main_arg2)
      ∧ m' ((c.tc : Thread Cert.Ffn11ReferenceIdeal.nD Cert.Ffn11ReferenceIdeal.τ).loc Cert.Ffn11ReferenceIdeal.main_arg3) = m ((c.tc : Thread Cert.Ffn11Ideal.nD Cert.Ffn11Ideal.τ).loc Cert.Ffn11Ideal.main_arg3)
      ∧ m' ((c.tc : Thread Cert.Ffn11ReferenceIdeal.nD Cert.Ffn11ReferenceIdeal.τ).loc Cert.Ffn11ReferenceIdeal.main_arg4) = m ((c.tc : Thread Cert.Ffn11Ideal.nD Cert.Ffn11Ideal.τ).loc Cert.Ffn11Ideal.main_arg4)
      ∧ m' ((c.tc : Thread Cert.Ffn11ReferenceIdeal.nD Cert.Ffn11ReferenceIdeal.τ).loc Cert.Ffn11ReferenceIdeal.main_arg5) = m ((c.tc : Thread Cert.Ffn11Ideal.nD Cert.Ffn11Ideal.τ).loc Cert.Ffn11Ideal.main_arg5)
      ∧ m' ((c.tc : Thread Cert.Ffn11ReferenceIdeal.nD Cert.Ffn11ReferenceIdeal.τ).loc Cert.Ffn11ReferenceIdeal.main_arg6) = m ((c.tc : Thread Cert.Ffn11Ideal.nD Cert.Ffn11Ideal.τ).loc Cert.Ffn11Ideal.main_arg6)
      ∧ m' ((c.tc : Thread Cert.Ffn11ReferenceIdeal.nD Cert.Ffn11ReferenceIdeal.τ).loc Cert.Ffn11ReferenceIdeal.main_arg7) = m ((c.tc : Thread Cert.Ffn11Ideal.nD Cert.Ffn11Ideal.τ).loc Cert.Ffn11Ideal.main_arg7)
      ∧ m' ((c.tc : Thread Cert.Ffn11ReferenceIdeal.nD Cert.Ffn11ReferenceIdeal.τ).loc Cert.Ffn11ReferenceIdeal.main_arg8) = m ((c.tc : Thread Cert.Ffn11Ideal.nD Cert.Ffn11Ideal.τ).loc Cert.Ffn11Ideal.main_arg8)) →
    ∃ (v0 : (c : Dev Cert.Ffn11Ideal.nD) → Buf (Elt Ideal) ((c.tc : Thread Cert.Ffn11Ideal.nD Cert.Ffn11Ideal.τ).loc Cert.Ffn11Ideal.main_v13)),
      θ_run (Cert.Ffn11Ideal.defs (F := Ideal)) (onTc (τ := Cert.Ffn11Ideal.τ) (Cert.Ffn11Ideal.main (F := Ideal))) ⟨m, fun _ => 0, g⟩ (fun r => ∀ c : Dev Cert.Ffn11Ideal.nD,
          r.2.mem ((c.tc : Thread Cert.Ffn11Ideal.nD Cert.Ffn11Ideal.τ).loc Cert.Ffn11Ideal.main_v13) = v0 c
          ∧ r.2.mem ((c.tc : Thread Cert.Ffn11Ideal.nD Cert.Ffn11Ideal.τ).loc Cert.Ffn11Ideal.main_arg0) = m ((c.tc : Thread Cert.Ffn11Ideal.nD Cert.Ffn11Ideal.τ).loc Cert.Ffn11Ideal.main_arg0)
          ∧ r.2.mem ((c.tc : Thread Cert.Ffn11Ideal.nD Cert.Ffn11Ideal.τ).loc Cert.Ffn11Ideal.main_arg1) = m ((c.tc : Thread Cert.Ffn11Ideal.nD Cert.Ffn11Ideal.τ).loc Cert.Ffn11Ideal.main_arg1)
          ∧ r.2.mem ((c.tc : Thread Cert.Ffn11Ideal.nD Cert.Ffn11Ideal.τ).loc Cert.Ffn11Ideal.main_arg2) = m ((c.tc : Thread Cert.Ffn11Ideal.nD Cert.Ffn11Ideal.τ).loc Cert.Ffn11Ideal.main_arg2)
          ∧ r.2.mem ((c.tc : Thread Cert.Ffn11Ideal.nD Cert.Ffn11Ideal.τ).loc Cert.Ffn11Ideal.main_arg3) = m ((c.tc : Thread Cert.Ffn11Ideal.nD Cert.Ffn11Ideal.τ).loc Cert.Ffn11Ideal.main_arg3)
          ∧ r.2.mem ((c.tc : Thread Cert.Ffn11Ideal.nD Cert.Ffn11Ideal.τ).loc Cert.Ffn11Ideal.main_arg4) = m ((c.tc : Thread Cert.Ffn11Ideal.nD Cert.Ffn11Ideal.τ).loc Cert.Ffn11Ideal.main_arg4)
          ∧ r.2.mem ((c.tc : Thread Cert.Ffn11Ideal.nD Cert.Ffn11Ideal.τ).loc Cert.Ffn11Ideal.main_arg5) = m ((c.tc : Thread Cert.Ffn11Ideal.nD Cert.Ffn11Ideal.τ).loc Cert.Ffn11Ideal.main_arg5)
          ∧ r.2.mem ((c.tc : Thread Cert.Ffn11Ideal.nD Cert.Ffn11Ideal.τ).loc Cert.Ffn11Ideal.main_arg6) = m ((c.tc : Thread Cert.Ffn11Ideal.nD Cert.Ffn11Ideal.τ).loc Cert.Ffn11Ideal.main_arg6)
          ∧ r.2.mem ((c.tc : Thread Cert.Ffn11Ideal.nD Cert.Ffn11Ideal.τ).loc Cert.Ffn11Ideal.main_arg7) = m ((c.tc : Thread Cert.Ffn11Ideal.nD Cert.Ffn11Ideal.τ).loc Cert.Ffn11Ideal.main_arg7)
          ∧ r.2.mem ((c.tc : Thread Cert.Ffn11Ideal.nD Cert.Ffn11Ideal.τ).loc Cert.Ffn11Ideal.main_arg8) = m ((c.tc : Thread Cert.Ffn11Ideal.nD Cert.Ffn11Ideal.τ).loc Cert.Ffn11Ideal.main_arg8))
      ∧ θ_run (Cert.Ffn11ReferenceIdeal.defs (F := Ideal)) (onTc (τ := Cert.Ffn11ReferenceIdeal.τ) (Cert.Ffn11ReferenceIdeal.main (F := Ideal))) ⟨m', fun _ => 0, g'⟩ (fun r => ∀ c : Dev Cert.Ffn11ReferenceIdeal.nD,
          r.2.mem ((c.tc : Thread Cert.Ffn11ReferenceIdeal.nD Cert.Ffn11ReferenceIdeal.τ).loc Cert.Ffn11ReferenceIdeal.main_v114) = v0 c
          ∧ r.2.mem ((c.tc : Thread Cert.Ffn11ReferenceIdeal.nD Cert.Ffn11ReferenceIdeal.τ).loc Cert.Ffn11ReferenceIdeal.main_arg0) = m' ((c.tc : Thread Cert.Ffn11ReferenceIdeal.nD Cert.Ffn11ReferenceIdeal.τ).loc Cert.Ffn11ReferenceIdeal.main_arg0)
          ∧ r.2.mem ((c.tc : Thread Cert.Ffn11ReferenceIdeal.nD Cert.Ffn11ReferenceIdeal.τ).loc Cert.Ffn11ReferenceIdeal.main_arg1) = m' ((c.tc : Thread Cert.Ffn11ReferenceIdeal.nD Cert.Ffn11ReferenceIdeal.τ).loc Cert.Ffn11ReferenceIdeal.main_arg1)
          ∧ r.2.mem ((c.tc : Thread Cert.Ffn11ReferenceIdeal.nD Cert.Ffn11ReferenceIdeal.τ).loc Cert.Ffn11ReferenceIdeal.main_arg2) = m' ((c.tc : Thread Cert.Ffn11ReferenceIdeal.nD Cert.Ffn11ReferenceIdeal.τ).loc Cert.Ffn11ReferenceIdeal.main_arg2)
          ∧ r.2.mem ((c.tc : Thread Cert.Ffn11ReferenceIdeal.nD Cert.Ffn11ReferenceIdeal.τ).loc Cert.Ffn11ReferenceIdeal.main_arg3) = m' ((c.tc : Thread Cert.Ffn11ReferenceIdeal.nD Cert.Ffn11ReferenceIdeal.τ).loc Cert.Ffn11ReferenceIdeal.main_arg3)
          ∧ r.2.mem ((c.tc : Thread Cert.Ffn11ReferenceIdeal.nD Cert.Ffn11ReferenceIdeal.τ).loc Cert.Ffn11ReferenceIdeal.main_arg4) = m' ((c.tc : Thread Cert.Ffn11ReferenceIdeal.nD Cert.Ffn11ReferenceIdeal.τ).loc Cert.Ffn11ReferenceIdeal.main_arg4)
          ∧ r.2.mem ((c.tc : Thread Cert.Ffn11ReferenceIdeal.nD Cert.Ffn11ReferenceIdeal.τ).loc Cert.Ffn11ReferenceIdeal.main_arg5) = m' ((c.tc : Thread Cert.Ffn11ReferenceIdeal.nD Cert.Ffn11ReferenceIdeal.τ).loc Cert.Ffn11ReferenceIdeal.main_arg5)
          ∧ r.2.mem ((c.tc : Thread Cert.Ffn11ReferenceIdeal.nD Cert.Ffn11ReferenceIdeal.τ).loc Cert.Ffn11ReferenceIdeal.main_arg6) = m' ((c.tc : Thread Cert.Ffn11ReferenceIdeal.nD Cert.Ffn11ReferenceIdeal.τ).loc Cert.Ffn11ReferenceIdeal.main_arg6)
          ∧ r.2.mem ((c.tc : Thread Cert.Ffn11ReferenceIdeal.nD Cert.Ffn11ReferenceIdeal.τ).loc Cert.Ffn11ReferenceIdeal.main_arg7) = m' ((c.tc : Thread Cert.Ffn11ReferenceIdeal.nD Cert.Ffn11ReferenceIdeal.τ).loc Cert.Ffn11ReferenceIdeal.main_arg7)
          ∧ r.2.mem ((c.tc : Thread Cert.Ffn11ReferenceIdeal.nD Cert.Ffn11ReferenceIdeal.τ).loc Cert.Ffn11ReferenceIdeal.main_arg8) = m' ((c.tc : Thread Cert.Ffn11ReferenceIdeal.nD Cert.Ffn11ReferenceIdeal.τ).loc Cert.Ffn11ReferenceIdeal.main_arg8))

def preserves_Ffn20_Ffn20Ideal : Prop :=
  True

def algebraic_Ffn20Ideal_Ffn20ReferenceIdeal [hFfn20Ideal : Cert.Ffn20Ideal.Facts] [hFfn20ReferenceIdeal : Cert.Ffn20ReferenceIdeal.Facts] : Prop :=
  ∀ (m : (ℓ : Loc Cert.Ffn20Ideal.nD Cert.Ffn20Ideal.τ Cert.Ffn20Ideal.sig) → Buf (Elt Ideal) ℓ) (g : Dev Cert.Ffn20Ideal.nD → PrngReg)
    (m' : (ℓ : Loc Cert.Ffn20ReferenceIdeal.nD Cert.Ffn20ReferenceIdeal.τ Cert.Ffn20ReferenceIdeal.sig) → Buf (Elt Ideal) ℓ) (g' : Dev Cert.Ffn20ReferenceIdeal.nD → PrngReg), Pre_Ffn20Ideal m →
    (∀ c : Dev Cert.Ffn20Ideal.nD,
      m' ((c.tc : Thread Cert.Ffn20ReferenceIdeal.nD Cert.Ffn20ReferenceIdeal.τ).loc Cert.Ffn20ReferenceIdeal.main_arg0) = m ((c.tc : Thread Cert.Ffn20Ideal.nD Cert.Ffn20Ideal.τ).loc Cert.Ffn20Ideal.main_arg0)
      ∧ m' ((c.tc : Thread Cert.Ffn20ReferenceIdeal.nD Cert.Ffn20ReferenceIdeal.τ).loc Cert.Ffn20ReferenceIdeal.main_arg1) = m ((c.tc : Thread Cert.Ffn20Ideal.nD Cert.Ffn20Ideal.τ).loc Cert.Ffn20Ideal.main_arg1)
      ∧ m' ((c.tc : Thread Cert.Ffn20ReferenceIdeal.nD Cert.Ffn20ReferenceIdeal.τ).loc Cert.Ffn20ReferenceIdeal.main_arg2) = m ((c.tc : Thread Cert.Ffn20Ideal.nD Cert.Ffn20Ideal.τ).loc Cert.Ffn20Ideal.main_arg2)
      ∧ m' ((c.tc : Thread Cert.Ffn20ReferenceIdeal.nD Cert.Ffn20ReferenceIdeal.τ).loc Cert.Ffn20ReferenceIdeal.main_arg3) = m ((c.tc : Thread Cert.Ffn20Ideal.nD Cert.Ffn20Ideal.τ).loc Cert.Ffn20Ideal.main_arg3)
      ∧ m' ((c.tc : Thread Cert.Ffn20ReferenceIdeal.nD Cert.Ffn20ReferenceIdeal.τ).loc Cert.Ffn20ReferenceIdeal.main_arg4) = m ((c.tc : Thread Cert.Ffn20Ideal.nD Cert.Ffn20Ideal.τ).loc Cert.Ffn20Ideal.main_arg4)
      ∧ m' ((c.tc : Thread Cert.Ffn20ReferenceIdeal.nD Cert.Ffn20ReferenceIdeal.τ).loc Cert.Ffn20ReferenceIdeal.main_arg5) = m ((c.tc : Thread Cert.Ffn20Ideal.nD Cert.Ffn20Ideal.τ).loc Cert.Ffn20Ideal.main_arg5)
      ∧ m' ((c.tc : Thread Cert.Ffn20ReferenceIdeal.nD Cert.Ffn20ReferenceIdeal.τ).loc Cert.Ffn20ReferenceIdeal.main_arg6) = m ((c.tc : Thread Cert.Ffn20Ideal.nD Cert.Ffn20Ideal.τ).loc Cert.Ffn20Ideal.main_arg6)) →
    ∃ (v0 : (c : Dev Cert.Ffn20Ideal.nD) → Buf (Elt Ideal) ((c.tc : Thread Cert.Ffn20Ideal.nD Cert.Ffn20Ideal.τ).loc Cert.Ffn20Ideal.main_v11)),
      θ_run (Cert.Ffn20Ideal.defs (F := Ideal)) (onTc (τ := Cert.Ffn20Ideal.τ) (Cert.Ffn20Ideal.main (F := Ideal))) ⟨m, fun _ => 0, g⟩ (fun r => ∀ c : Dev Cert.Ffn20Ideal.nD,
          r.2.mem ((c.tc : Thread Cert.Ffn20Ideal.nD Cert.Ffn20Ideal.τ).loc Cert.Ffn20Ideal.main_v11) = v0 c
          ∧ r.2.mem ((c.tc : Thread Cert.Ffn20Ideal.nD Cert.Ffn20Ideal.τ).loc Cert.Ffn20Ideal.main_arg0) = m ((c.tc : Thread Cert.Ffn20Ideal.nD Cert.Ffn20Ideal.τ).loc Cert.Ffn20Ideal.main_arg0)
          ∧ r.2.mem ((c.tc : Thread Cert.Ffn20Ideal.nD Cert.Ffn20Ideal.τ).loc Cert.Ffn20Ideal.main_arg1) = m ((c.tc : Thread Cert.Ffn20Ideal.nD Cert.Ffn20Ideal.τ).loc Cert.Ffn20Ideal.main_arg1)
          ∧ r.2.mem ((c.tc : Thread Cert.Ffn20Ideal.nD Cert.Ffn20Ideal.τ).loc Cert.Ffn20Ideal.main_arg2) = m ((c.tc : Thread Cert.Ffn20Ideal.nD Cert.Ffn20Ideal.τ).loc Cert.Ffn20Ideal.main_arg2)
          ∧ r.2.mem ((c.tc : Thread Cert.Ffn20Ideal.nD Cert.Ffn20Ideal.τ).loc Cert.Ffn20Ideal.main_arg3) = m ((c.tc : Thread Cert.Ffn20Ideal.nD Cert.Ffn20Ideal.τ).loc Cert.Ffn20Ideal.main_arg3)
          ∧ r.2.mem ((c.tc : Thread Cert.Ffn20Ideal.nD Cert.Ffn20Ideal.τ).loc Cert.Ffn20Ideal.main_arg4) = m ((c.tc : Thread Cert.Ffn20Ideal.nD Cert.Ffn20Ideal.τ).loc Cert.Ffn20Ideal.main_arg4)
          ∧ r.2.mem ((c.tc : Thread Cert.Ffn20Ideal.nD Cert.Ffn20Ideal.τ).loc Cert.Ffn20Ideal.main_arg5) = m ((c.tc : Thread Cert.Ffn20Ideal.nD Cert.Ffn20Ideal.τ).loc Cert.Ffn20Ideal.main_arg5)
          ∧ r.2.mem ((c.tc : Thread Cert.Ffn20Ideal.nD Cert.Ffn20Ideal.τ).loc Cert.Ffn20Ideal.main_arg6) = m ((c.tc : Thread Cert.Ffn20Ideal.nD Cert.Ffn20Ideal.τ).loc Cert.Ffn20Ideal.main_arg6))
      ∧ θ_run (Cert.Ffn20ReferenceIdeal.defs (F := Ideal)) (onTc (τ := Cert.Ffn20ReferenceIdeal.τ) (Cert.Ffn20ReferenceIdeal.main (F := Ideal))) ⟨m', fun _ => 0, g'⟩ (fun r => ∀ c : Dev Cert.Ffn20ReferenceIdeal.nD,
          r.2.mem ((c.tc : Thread Cert.Ffn20ReferenceIdeal.nD Cert.Ffn20ReferenceIdeal.τ).loc Cert.Ffn20ReferenceIdeal.main_v95) = v0 c
          ∧ r.2.mem ((c.tc : Thread Cert.Ffn20ReferenceIdeal.nD Cert.Ffn20ReferenceIdeal.τ).loc Cert.Ffn20ReferenceIdeal.main_arg0) = m' ((c.tc : Thread Cert.Ffn20ReferenceIdeal.nD Cert.Ffn20ReferenceIdeal.τ).loc Cert.Ffn20ReferenceIdeal.main_arg0)
          ∧ r.2.mem ((c.tc : Thread Cert.Ffn20ReferenceIdeal.nD Cert.Ffn20ReferenceIdeal.τ).loc Cert.Ffn20ReferenceIdeal.main_arg1) = m' ((c.tc : Thread Cert.Ffn20ReferenceIdeal.nD Cert.Ffn20ReferenceIdeal.τ).loc Cert.Ffn20ReferenceIdeal.main_arg1)
          ∧ r.2.mem ((c.tc : Thread Cert.Ffn20ReferenceIdeal.nD Cert.Ffn20ReferenceIdeal.τ).loc Cert.Ffn20ReferenceIdeal.main_arg2) = m' ((c.tc : Thread Cert.Ffn20ReferenceIdeal.nD Cert.Ffn20ReferenceIdeal.τ).loc Cert.Ffn20ReferenceIdeal.main_arg2)
          ∧ r.2.mem ((c.tc : Thread Cert.Ffn20ReferenceIdeal.nD Cert.Ffn20ReferenceIdeal.τ).loc Cert.Ffn20ReferenceIdeal.main_arg3) = m' ((c.tc : Thread Cert.Ffn20ReferenceIdeal.nD Cert.Ffn20ReferenceIdeal.τ).loc Cert.Ffn20ReferenceIdeal.main_arg3)
          ∧ r.2.mem ((c.tc : Thread Cert.Ffn20ReferenceIdeal.nD Cert.Ffn20ReferenceIdeal.τ).loc Cert.Ffn20ReferenceIdeal.main_arg4) = m' ((c.tc : Thread Cert.Ffn20ReferenceIdeal.nD Cert.Ffn20ReferenceIdeal.τ).loc Cert.Ffn20ReferenceIdeal.main_arg4)
          ∧ r.2.mem ((c.tc : Thread Cert.Ffn20ReferenceIdeal.nD Cert.Ffn20ReferenceIdeal.τ).loc Cert.Ffn20ReferenceIdeal.main_arg5) = m' ((c.tc : Thread Cert.Ffn20ReferenceIdeal.nD Cert.Ffn20ReferenceIdeal.τ).loc Cert.Ffn20ReferenceIdeal.main_arg5)
          ∧ r.2.mem ((c.tc : Thread Cert.Ffn20ReferenceIdeal.nD Cert.Ffn20ReferenceIdeal.τ).loc Cert.Ffn20ReferenceIdeal.main_arg6) = m' ((c.tc : Thread Cert.Ffn20ReferenceIdeal.nD Cert.Ffn20ReferenceIdeal.τ).loc Cert.Ffn20ReferenceIdeal.main_arg6))

def preserves_Ffn21_Ffn21Ideal : Prop :=
  True

def algebraic_Ffn21Ideal_Ffn21ReferenceIdeal [hFfn21Ideal : Cert.Ffn21Ideal.Facts] [hFfn21ReferenceIdeal : Cert.Ffn21ReferenceIdeal.Facts] : Prop :=
  ∀ (m : (ℓ : Loc Cert.Ffn21Ideal.nD Cert.Ffn21Ideal.τ Cert.Ffn21Ideal.sig) → Buf (Elt Ideal) ℓ) (g : Dev Cert.Ffn21Ideal.nD → PrngReg)
    (m' : (ℓ : Loc Cert.Ffn21ReferenceIdeal.nD Cert.Ffn21ReferenceIdeal.τ Cert.Ffn21ReferenceIdeal.sig) → Buf (Elt Ideal) ℓ) (g' : Dev Cert.Ffn21ReferenceIdeal.nD → PrngReg), Pre_Ffn21Ideal m →
    (∀ c : Dev Cert.Ffn21Ideal.nD,
      m' ((c.tc : Thread Cert.Ffn21ReferenceIdeal.nD Cert.Ffn21ReferenceIdeal.τ).loc Cert.Ffn21ReferenceIdeal.main_arg0) = m ((c.tc : Thread Cert.Ffn21Ideal.nD Cert.Ffn21Ideal.τ).loc Cert.Ffn21Ideal.main_arg0)
      ∧ m' ((c.tc : Thread Cert.Ffn21ReferenceIdeal.nD Cert.Ffn21ReferenceIdeal.τ).loc Cert.Ffn21ReferenceIdeal.main_arg1) = m ((c.tc : Thread Cert.Ffn21Ideal.nD Cert.Ffn21Ideal.τ).loc Cert.Ffn21Ideal.main_arg1)
      ∧ m' ((c.tc : Thread Cert.Ffn21ReferenceIdeal.nD Cert.Ffn21ReferenceIdeal.τ).loc Cert.Ffn21ReferenceIdeal.main_arg2) = m ((c.tc : Thread Cert.Ffn21Ideal.nD Cert.Ffn21Ideal.τ).loc Cert.Ffn21Ideal.main_arg2)
      ∧ m' ((c.tc : Thread Cert.Ffn21ReferenceIdeal.nD Cert.Ffn21ReferenceIdeal.τ).loc Cert.Ffn21ReferenceIdeal.main_arg3) = m ((c.tc : Thread Cert.Ffn21Ideal.nD Cert.Ffn21Ideal.τ).loc Cert.Ffn21Ideal.main_arg3)
      ∧ m' ((c.tc : Thread Cert.Ffn21ReferenceIdeal.nD Cert.Ffn21ReferenceIdeal.τ).loc Cert.Ffn21ReferenceIdeal.main_arg4) = m ((c.tc : Thread Cert.Ffn21Ideal.nD Cert.Ffn21Ideal.τ).loc Cert.Ffn21Ideal.main_arg4)
      ∧ m' ((c.tc : Thread Cert.Ffn21ReferenceIdeal.nD Cert.Ffn21ReferenceIdeal.τ).loc Cert.Ffn21ReferenceIdeal.main_arg5) = m ((c.tc : Thread Cert.Ffn21Ideal.nD Cert.Ffn21Ideal.τ).loc Cert.Ffn21Ideal.main_arg5)
      ∧ m' ((c.tc : Thread Cert.Ffn21ReferenceIdeal.nD Cert.Ffn21ReferenceIdeal.τ).loc Cert.Ffn21ReferenceIdeal.main_arg6) = m ((c.tc : Thread Cert.Ffn21Ideal.nD Cert.Ffn21Ideal.τ).loc Cert.Ffn21Ideal.main_arg6)) →
    ∃ (v0 : (c : Dev Cert.Ffn21Ideal.nD) → Buf (Elt Ideal) ((c.tc : Thread Cert.Ffn21Ideal.nD Cert.Ffn21Ideal.τ).loc Cert.Ffn21Ideal.main_v11)),
      θ_run (Cert.Ffn21Ideal.defs (F := Ideal)) (onTc (τ := Cert.Ffn21Ideal.τ) (Cert.Ffn21Ideal.main (F := Ideal))) ⟨m, fun _ => 0, g⟩ (fun r => ∀ c : Dev Cert.Ffn21Ideal.nD,
          r.2.mem ((c.tc : Thread Cert.Ffn21Ideal.nD Cert.Ffn21Ideal.τ).loc Cert.Ffn21Ideal.main_v11) = v0 c
          ∧ r.2.mem ((c.tc : Thread Cert.Ffn21Ideal.nD Cert.Ffn21Ideal.τ).loc Cert.Ffn21Ideal.main_arg0) = m ((c.tc : Thread Cert.Ffn21Ideal.nD Cert.Ffn21Ideal.τ).loc Cert.Ffn21Ideal.main_arg0)
          ∧ r.2.mem ((c.tc : Thread Cert.Ffn21Ideal.nD Cert.Ffn21Ideal.τ).loc Cert.Ffn21Ideal.main_arg1) = m ((c.tc : Thread Cert.Ffn21Ideal.nD Cert.Ffn21Ideal.τ).loc Cert.Ffn21Ideal.main_arg1)
          ∧ r.2.mem ((c.tc : Thread Cert.Ffn21Ideal.nD Cert.Ffn21Ideal.τ).loc Cert.Ffn21Ideal.main_arg2) = m ((c.tc : Thread Cert.Ffn21Ideal.nD Cert.Ffn21Ideal.τ).loc Cert.Ffn21Ideal.main_arg2)
          ∧ r.2.mem ((c.tc : Thread Cert.Ffn21Ideal.nD Cert.Ffn21Ideal.τ).loc Cert.Ffn21Ideal.main_arg3) = m ((c.tc : Thread Cert.Ffn21Ideal.nD Cert.Ffn21Ideal.τ).loc Cert.Ffn21Ideal.main_arg3)
          ∧ r.2.mem ((c.tc : Thread Cert.Ffn21Ideal.nD Cert.Ffn21Ideal.τ).loc Cert.Ffn21Ideal.main_arg4) = m ((c.tc : Thread Cert.Ffn21Ideal.nD Cert.Ffn21Ideal.τ).loc Cert.Ffn21Ideal.main_arg4)
          ∧ r.2.mem ((c.tc : Thread Cert.Ffn21Ideal.nD Cert.Ffn21Ideal.τ).loc Cert.Ffn21Ideal.main_arg5) = m ((c.tc : Thread Cert.Ffn21Ideal.nD Cert.Ffn21Ideal.τ).loc Cert.Ffn21Ideal.main_arg5)
          ∧ r.2.mem ((c.tc : Thread Cert.Ffn21Ideal.nD Cert.Ffn21Ideal.τ).loc Cert.Ffn21Ideal.main_arg6) = m ((c.tc : Thread Cert.Ffn21Ideal.nD Cert.Ffn21Ideal.τ).loc Cert.Ffn21Ideal.main_arg6))
      ∧ θ_run (Cert.Ffn21ReferenceIdeal.defs (F := Ideal)) (onTc (τ := Cert.Ffn21ReferenceIdeal.τ) (Cert.Ffn21ReferenceIdeal.main (F := Ideal))) ⟨m', fun _ => 0, g'⟩ (fun r => ∀ c : Dev Cert.Ffn21ReferenceIdeal.nD,
          r.2.mem ((c.tc : Thread Cert.Ffn21ReferenceIdeal.nD Cert.Ffn21ReferenceIdeal.τ).loc Cert.Ffn21ReferenceIdeal.main_v95) = v0 c
          ∧ r.2.mem ((c.tc : Thread Cert.Ffn21ReferenceIdeal.nD Cert.Ffn21ReferenceIdeal.τ).loc Cert.Ffn21ReferenceIdeal.main_arg0) = m' ((c.tc : Thread Cert.Ffn21ReferenceIdeal.nD Cert.Ffn21ReferenceIdeal.τ).loc Cert.Ffn21ReferenceIdeal.main_arg0)
          ∧ r.2.mem ((c.tc : Thread Cert.Ffn21ReferenceIdeal.nD Cert.Ffn21ReferenceIdeal.τ).loc Cert.Ffn21ReferenceIdeal.main_arg1) = m' ((c.tc : Thread Cert.Ffn21ReferenceIdeal.nD Cert.Ffn21ReferenceIdeal.τ).loc Cert.Ffn21ReferenceIdeal.main_arg1)
          ∧ r.2.mem ((c.tc : Thread Cert.Ffn21ReferenceIdeal.nD Cert.Ffn21ReferenceIdeal.τ).loc Cert.Ffn21ReferenceIdeal.main_arg2) = m' ((c.tc : Thread Cert.Ffn21ReferenceIdeal.nD Cert.Ffn21ReferenceIdeal.τ).loc Cert.Ffn21ReferenceIdeal.main_arg2)
          ∧ r.2.mem ((c.tc : Thread Cert.Ffn21ReferenceIdeal.nD Cert.Ffn21ReferenceIdeal.τ).loc Cert.Ffn21ReferenceIdeal.main_arg3) = m' ((c.tc : Thread Cert.Ffn21ReferenceIdeal.nD Cert.Ffn21ReferenceIdeal.τ).loc Cert.Ffn21ReferenceIdeal.main_arg3)
          ∧ r.2.mem ((c.tc : Thread Cert.Ffn21ReferenceIdeal.nD Cert.Ffn21ReferenceIdeal.τ).loc Cert.Ffn21ReferenceIdeal.main_arg4) = m' ((c.tc : Thread Cert.Ffn21ReferenceIdeal.nD Cert.Ffn21ReferenceIdeal.τ).loc Cert.Ffn21ReferenceIdeal.main_arg4)
          ∧ r.2.mem ((c.tc : Thread Cert.Ffn21ReferenceIdeal.nD Cert.Ffn21ReferenceIdeal.τ).loc Cert.Ffn21ReferenceIdeal.main_arg5) = m' ((c.tc : Thread Cert.Ffn21ReferenceIdeal.nD Cert.Ffn21ReferenceIdeal.τ).loc Cert.Ffn21ReferenceIdeal.main_arg5)
          ∧ r.2.mem ((c.tc : Thread Cert.Ffn21ReferenceIdeal.nD Cert.Ffn21ReferenceIdeal.τ).loc Cert.Ffn21ReferenceIdeal.main_arg6) = m' ((c.tc : Thread Cert.Ffn21ReferenceIdeal.nD Cert.Ffn21ReferenceIdeal.τ).loc Cert.Ffn21ReferenceIdeal.main_arg6))

def preserves_Ffn30_Ffn30Ideal : Prop :=
  True

def algebraic_Ffn30Ideal_Ffn30ReferenceIdeal [hFfn30Ideal : Cert.Ffn30Ideal.Facts] [hFfn30ReferenceIdeal : Cert.Ffn30ReferenceIdeal.Facts] : Prop :=
  ∀ (m : (ℓ : Loc Cert.Ffn30Ideal.nD Cert.Ffn30Ideal.τ Cert.Ffn30Ideal.sig) → Buf (Elt Ideal) ℓ) (g : Dev Cert.Ffn30Ideal.nD → PrngReg)
    (m' : (ℓ : Loc Cert.Ffn30ReferenceIdeal.nD Cert.Ffn30ReferenceIdeal.τ Cert.Ffn30ReferenceIdeal.sig) → Buf (Elt Ideal) ℓ) (g' : Dev Cert.Ffn30ReferenceIdeal.nD → PrngReg), Pre_Ffn30Ideal m →
    (∀ c : Dev Cert.Ffn30Ideal.nD,
      m' ((c.tc : Thread Cert.Ffn30ReferenceIdeal.nD Cert.Ffn30ReferenceIdeal.τ).loc Cert.Ffn30ReferenceIdeal.main_arg0) = m ((c.tc : Thread Cert.Ffn30Ideal.nD Cert.Ffn30Ideal.τ).loc Cert.Ffn30Ideal.main_arg0)
      ∧ m' ((c.tc : Thread Cert.Ffn30ReferenceIdeal.nD Cert.Ffn30ReferenceIdeal.τ).loc Cert.Ffn30ReferenceIdeal.main_arg1) = m ((c.tc : Thread Cert.Ffn30Ideal.nD Cert.Ffn30Ideal.τ).loc Cert.Ffn30Ideal.main_arg1)
      ∧ m' ((c.tc : Thread Cert.Ffn30ReferenceIdeal.nD Cert.Ffn30ReferenceIdeal.τ).loc Cert.Ffn30ReferenceIdeal.main_arg2) = m ((c.tc : Thread Cert.Ffn30Ideal.nD Cert.Ffn30Ideal.τ).loc Cert.Ffn30Ideal.main_arg2)
      ∧ m' ((c.tc : Thread Cert.Ffn30ReferenceIdeal.nD Cert.Ffn30ReferenceIdeal.τ).loc Cert.Ffn30ReferenceIdeal.main_arg3) = m ((c.tc : Thread Cert.Ffn30Ideal.nD Cert.Ffn30Ideal.τ).loc Cert.Ffn30Ideal.main_arg3)
      ∧ m' ((c.tc : Thread Cert.Ffn30ReferenceIdeal.nD Cert.Ffn30ReferenceIdeal.τ).loc Cert.Ffn30ReferenceIdeal.main_arg4) = m ((c.tc : Thread Cert.Ffn30Ideal.nD Cert.Ffn30Ideal.τ).loc Cert.Ffn30Ideal.main_arg4)
      ∧ m' ((c.tc : Thread Cert.Ffn30ReferenceIdeal.nD Cert.Ffn30ReferenceIdeal.τ).loc Cert.Ffn30ReferenceIdeal.main_arg5) = m ((c.tc : Thread Cert.Ffn30Ideal.nD Cert.Ffn30Ideal.τ).loc Cert.Ffn30Ideal.main_arg5)
      ∧ m' ((c.tc : Thread Cert.Ffn30ReferenceIdeal.nD Cert.Ffn30ReferenceIdeal.τ).loc Cert.Ffn30ReferenceIdeal.main_arg6) = m ((c.tc : Thread Cert.Ffn30Ideal.nD Cert.Ffn30Ideal.τ).loc Cert.Ffn30Ideal.main_arg6)) →
    ∃ (v0 : (c : Dev Cert.Ffn30Ideal.nD) → Buf (Elt Ideal) ((c.tc : Thread Cert.Ffn30Ideal.nD Cert.Ffn30Ideal.τ).loc Cert.Ffn30Ideal.main_v11)),
      θ_run (Cert.Ffn30Ideal.defs (F := Ideal)) (onTc (τ := Cert.Ffn30Ideal.τ) (Cert.Ffn30Ideal.main (F := Ideal))) ⟨m, fun _ => 0, g⟩ (fun r => ∀ c : Dev Cert.Ffn30Ideal.nD,
          r.2.mem ((c.tc : Thread Cert.Ffn30Ideal.nD Cert.Ffn30Ideal.τ).loc Cert.Ffn30Ideal.main_v11) = v0 c
          ∧ r.2.mem ((c.tc : Thread Cert.Ffn30Ideal.nD Cert.Ffn30Ideal.τ).loc Cert.Ffn30Ideal.main_arg0) = m ((c.tc : Thread Cert.Ffn30Ideal.nD Cert.Ffn30Ideal.τ).loc Cert.Ffn30Ideal.main_arg0)
          ∧ r.2.mem ((c.tc : Thread Cert.Ffn30Ideal.nD Cert.Ffn30Ideal.τ).loc Cert.Ffn30Ideal.main_arg1) = m ((c.tc : Thread Cert.Ffn30Ideal.nD Cert.Ffn30Ideal.τ).loc Cert.Ffn30Ideal.main_arg1)
          ∧ r.2.mem ((c.tc : Thread Cert.Ffn30Ideal.nD Cert.Ffn30Ideal.τ).loc Cert.Ffn30Ideal.main_arg2) = m ((c.tc : Thread Cert.Ffn30Ideal.nD Cert.Ffn30Ideal.τ).loc Cert.Ffn30Ideal.main_arg2)
          ∧ r.2.mem ((c.tc : Thread Cert.Ffn30Ideal.nD Cert.Ffn30Ideal.τ).loc Cert.Ffn30Ideal.main_arg3) = m ((c.tc : Thread Cert.Ffn30Ideal.nD Cert.Ffn30Ideal.τ).loc Cert.Ffn30Ideal.main_arg3)
          ∧ r.2.mem ((c.tc : Thread Cert.Ffn30Ideal.nD Cert.Ffn30Ideal.τ).loc Cert.Ffn30Ideal.main_arg4) = m ((c.tc : Thread Cert.Ffn30Ideal.nD Cert.Ffn30Ideal.τ).loc Cert.Ffn30Ideal.main_arg4)
          ∧ r.2.mem ((c.tc : Thread Cert.Ffn30Ideal.nD Cert.Ffn30Ideal.τ).loc Cert.Ffn30Ideal.main_arg5) = m ((c.tc : Thread Cert.Ffn30Ideal.nD Cert.Ffn30Ideal.τ).loc Cert.Ffn30Ideal.main_arg5)
          ∧ r.2.mem ((c.tc : Thread Cert.Ffn30Ideal.nD Cert.Ffn30Ideal.τ).loc Cert.Ffn30Ideal.main_arg6) = m ((c.tc : Thread Cert.Ffn30Ideal.nD Cert.Ffn30Ideal.τ).loc Cert.Ffn30Ideal.main_arg6))
      ∧ θ_run (Cert.Ffn30ReferenceIdeal.defs (F := Ideal)) (onTc (τ := Cert.Ffn30ReferenceIdeal.τ) (Cert.Ffn30ReferenceIdeal.main (F := Ideal))) ⟨m', fun _ => 0, g'⟩ (fun r => ∀ c : Dev Cert.Ffn30ReferenceIdeal.nD,
          r.2.mem ((c.tc : Thread Cert.Ffn30ReferenceIdeal.nD Cert.Ffn30ReferenceIdeal.τ).loc Cert.Ffn30ReferenceIdeal.main_v95) = v0 c
          ∧ r.2.mem ((c.tc : Thread Cert.Ffn30ReferenceIdeal.nD Cert.Ffn30ReferenceIdeal.τ).loc Cert.Ffn30ReferenceIdeal.main_arg0) = m' ((c.tc : Thread Cert.Ffn30ReferenceIdeal.nD Cert.Ffn30ReferenceIdeal.τ).loc Cert.Ffn30ReferenceIdeal.main_arg0)
          ∧ r.2.mem ((c.tc : Thread Cert.Ffn30ReferenceIdeal.nD Cert.Ffn30ReferenceIdeal.τ).loc Cert.Ffn30ReferenceIdeal.main_arg1) = m' ((c.tc : Thread Cert.Ffn30ReferenceIdeal.nD Cert.Ffn30ReferenceIdeal.τ).loc Cert.Ffn30ReferenceIdeal.main_arg1)
          ∧ r.2.mem ((c.tc : Thread Cert.Ffn30ReferenceIdeal.nD Cert.Ffn30ReferenceIdeal.τ).loc Cert.Ffn30ReferenceIdeal.main_arg2) = m' ((c.tc : Thread Cert.Ffn30ReferenceIdeal.nD Cert.Ffn30ReferenceIdeal.τ).loc Cert.Ffn30ReferenceIdeal.main_arg2)
          ∧ r.2.mem ((c.tc : Thread Cert.Ffn30ReferenceIdeal.nD Cert.Ffn30ReferenceIdeal.τ).loc Cert.Ffn30ReferenceIdeal.main_arg3) = m' ((c.tc : Thread Cert.Ffn30ReferenceIdeal.nD Cert.Ffn30ReferenceIdeal.τ).loc Cert.Ffn30ReferenceIdeal.main_arg3)
          ∧ r.2.mem ((c.tc : Thread Cert.Ffn30ReferenceIdeal.nD Cert.Ffn30ReferenceIdeal.τ).loc Cert.Ffn30ReferenceIdeal.main_arg4) = m' ((c.tc : Thread Cert.Ffn30ReferenceIdeal.nD Cert.Ffn30ReferenceIdeal.τ).loc Cert.Ffn30ReferenceIdeal.main_arg4)
          ∧ r.2.mem ((c.tc : Thread Cert.Ffn30ReferenceIdeal.nD Cert.Ffn30ReferenceIdeal.τ).loc Cert.Ffn30ReferenceIdeal.main_arg5) = m' ((c.tc : Thread Cert.Ffn30ReferenceIdeal.nD Cert.Ffn30ReferenceIdeal.τ).loc Cert.Ffn30ReferenceIdeal.main_arg5)
          ∧ r.2.mem ((c.tc : Thread Cert.Ffn30ReferenceIdeal.nD Cert.Ffn30ReferenceIdeal.τ).loc Cert.Ffn30ReferenceIdeal.main_arg6) = m' ((c.tc : Thread Cert.Ffn30ReferenceIdeal.nD Cert.Ffn30ReferenceIdeal.τ).loc Cert.Ffn30ReferenceIdeal.main_arg6))

def preserves_AbIn0_AbIn0Ideal : Prop :=
  True

def algebraic_AbIn0Ideal_AbIn0ReferenceIdeal [hAbIn0Ideal : Cert.AbIn0Ideal.Facts] [hAbIn0ReferenceIdeal : Cert.AbIn0ReferenceIdeal.Facts] : Prop :=
  ∀ (m : (ℓ : Loc Cert.AbIn0Ideal.nD Cert.AbIn0Ideal.τ Cert.AbIn0Ideal.sig) → Buf (Elt Ideal) ℓ) (g : Dev Cert.AbIn0Ideal.nD → PrngReg)
    (m' : (ℓ : Loc Cert.AbIn0ReferenceIdeal.nD Cert.AbIn0ReferenceIdeal.τ Cert.AbIn0ReferenceIdeal.sig) → Buf (Elt Ideal) ℓ) (g' : Dev Cert.AbIn0ReferenceIdeal.nD → PrngReg), Pre_AbIn0Ideal m →
    (∀ c : Dev Cert.AbIn0Ideal.nD,
      m' ((c.tc : Thread Cert.AbIn0ReferenceIdeal.nD Cert.AbIn0ReferenceIdeal.τ).loc Cert.AbIn0ReferenceIdeal.main_arg0) = m ((c.tc : Thread Cert.AbIn0Ideal.nD Cert.AbIn0Ideal.τ).loc Cert.AbIn0Ideal.main_arg0)
      ∧ m' ((c.tc : Thread Cert.AbIn0ReferenceIdeal.nD Cert.AbIn0ReferenceIdeal.τ).loc Cert.AbIn0ReferenceIdeal.main_arg1) = m ((c.tc : Thread Cert.AbIn0Ideal.nD Cert.AbIn0Ideal.τ).loc Cert.AbIn0Ideal.main_arg1)
      ∧ m' ((c.tc : Thread Cert.AbIn0ReferenceIdeal.nD Cert.AbIn0ReferenceIdeal.τ).loc Cert.AbIn0ReferenceIdeal.main_arg2) = m ((c.tc : Thread Cert.AbIn0Ideal.nD Cert.AbIn0Ideal.τ).loc Cert.AbIn0Ideal.main_arg2)
      ∧ m' ((c.tc : Thread Cert.AbIn0ReferenceIdeal.nD Cert.AbIn0ReferenceIdeal.τ).loc Cert.AbIn0ReferenceIdeal.main_arg3) = m ((c.tc : Thread Cert.AbIn0Ideal.nD Cert.AbIn0Ideal.τ).loc Cert.AbIn0Ideal.main_arg3)
      ∧ m' ((c.tc : Thread Cert.AbIn0ReferenceIdeal.nD Cert.AbIn0ReferenceIdeal.τ).loc Cert.AbIn0ReferenceIdeal.main_arg4) = m ((c.tc : Thread Cert.AbIn0Ideal.nD Cert.AbIn0Ideal.τ).loc Cert.AbIn0Ideal.main_arg4)
      ∧ m' ((c.tc : Thread Cert.AbIn0ReferenceIdeal.nD Cert.AbIn0ReferenceIdeal.τ).loc Cert.AbIn0ReferenceIdeal.main_arg5) = m ((c.tc : Thread Cert.AbIn0Ideal.nD Cert.AbIn0Ideal.τ).loc Cert.AbIn0Ideal.main_arg5)
      ∧ m' ((c.tc : Thread Cert.AbIn0ReferenceIdeal.nD Cert.AbIn0ReferenceIdeal.τ).loc Cert.AbIn0ReferenceIdeal.main_arg6) = m ((c.tc : Thread Cert.AbIn0Ideal.nD Cert.AbIn0Ideal.τ).loc Cert.AbIn0Ideal.main_arg6)
      ∧ m' ((c.tc : Thread Cert.AbIn0ReferenceIdeal.nD Cert.AbIn0ReferenceIdeal.τ).loc Cert.AbIn0ReferenceIdeal.main_arg7) = m ((c.tc : Thread Cert.AbIn0Ideal.nD Cert.AbIn0Ideal.τ).loc Cert.AbIn0Ideal.main_arg7)) →
    ∃ (v0 : (c : Dev Cert.AbIn0Ideal.nD) → Buf (Elt Ideal) ((c.tc : Thread Cert.AbIn0Ideal.nD Cert.AbIn0Ideal.τ).loc Cert.AbIn0Ideal.main_v37_0)) (v1 : (c : Dev Cert.AbIn0Ideal.nD) → Buf (Elt Ideal) ((c.tc : Thread Cert.AbIn0Ideal.nD Cert.AbIn0Ideal.τ).loc Cert.AbIn0Ideal.main_v37_1)) (v2 : (c : Dev Cert.AbIn0Ideal.nD) → Buf (Elt Ideal) ((c.tc : Thread Cert.AbIn0Ideal.nD Cert.AbIn0Ideal.τ).loc Cert.AbIn0Ideal.main_v37_2)) (v3 : (c : Dev Cert.AbIn0Ideal.nD) → Buf (Elt Ideal) ((c.tc : Thread Cert.AbIn0Ideal.nD Cert.AbIn0Ideal.τ).loc Cert.AbIn0Ideal.main_v37_3)) (v4 : (c : Dev Cert.AbIn0Ideal.nD) → Buf (Elt Ideal) ((c.tc : Thread Cert.AbIn0Ideal.nD Cert.AbIn0Ideal.τ).loc Cert.AbIn0Ideal.main_v37_4)),
      θ_run (Cert.AbIn0Ideal.defs (F := Ideal)) (onTc (τ := Cert.AbIn0Ideal.τ) (Cert.AbIn0Ideal.main (F := Ideal))) ⟨m, fun _ => 0, g⟩ (fun r => ∀ c : Dev Cert.AbIn0Ideal.nD,
          r.2.mem ((c.tc : Thread Cert.AbIn0Ideal.nD Cert.AbIn0Ideal.τ).loc Cert.AbIn0Ideal.main_v37_0) = v0 c
          ∧ r.2.mem ((c.tc : Thread Cert.AbIn0Ideal.nD Cert.AbIn0Ideal.τ).loc Cert.AbIn0Ideal.main_v37_1) = v1 c
          ∧ r.2.mem ((c.tc : Thread Cert.AbIn0Ideal.nD Cert.AbIn0Ideal.τ).loc Cert.AbIn0Ideal.main_v37_2) = v2 c
          ∧ r.2.mem ((c.tc : Thread Cert.AbIn0Ideal.nD Cert.AbIn0Ideal.τ).loc Cert.AbIn0Ideal.main_v37_3) = v3 c
          ∧ r.2.mem ((c.tc : Thread Cert.AbIn0Ideal.nD Cert.AbIn0Ideal.τ).loc Cert.AbIn0Ideal.main_v37_4) = v4 c
          ∧ r.2.mem ((c.tc : Thread Cert.AbIn0Ideal.nD Cert.AbIn0Ideal.τ).loc Cert.AbIn0Ideal.main_arg0) = m ((c.tc : Thread Cert.AbIn0Ideal.nD Cert.AbIn0Ideal.τ).loc Cert.AbIn0Ideal.main_arg0)
          ∧ r.2.mem ((c.tc : Thread Cert.AbIn0Ideal.nD Cert.AbIn0Ideal.τ).loc Cert.AbIn0Ideal.main_arg1) = m ((c.tc : Thread Cert.AbIn0Ideal.nD Cert.AbIn0Ideal.τ).loc Cert.AbIn0Ideal.main_arg1)
          ∧ r.2.mem ((c.tc : Thread Cert.AbIn0Ideal.nD Cert.AbIn0Ideal.τ).loc Cert.AbIn0Ideal.main_arg2) = m ((c.tc : Thread Cert.AbIn0Ideal.nD Cert.AbIn0Ideal.τ).loc Cert.AbIn0Ideal.main_arg2)
          ∧ r.2.mem ((c.tc : Thread Cert.AbIn0Ideal.nD Cert.AbIn0Ideal.τ).loc Cert.AbIn0Ideal.main_arg3) = m ((c.tc : Thread Cert.AbIn0Ideal.nD Cert.AbIn0Ideal.τ).loc Cert.AbIn0Ideal.main_arg3)
          ∧ r.2.mem ((c.tc : Thread Cert.AbIn0Ideal.nD Cert.AbIn0Ideal.τ).loc Cert.AbIn0Ideal.main_arg4) = m ((c.tc : Thread Cert.AbIn0Ideal.nD Cert.AbIn0Ideal.τ).loc Cert.AbIn0Ideal.main_arg4)
          ∧ r.2.mem ((c.tc : Thread Cert.AbIn0Ideal.nD Cert.AbIn0Ideal.τ).loc Cert.AbIn0Ideal.main_arg5) = m ((c.tc : Thread Cert.AbIn0Ideal.nD Cert.AbIn0Ideal.τ).loc Cert.AbIn0Ideal.main_arg5)
          ∧ r.2.mem ((c.tc : Thread Cert.AbIn0Ideal.nD Cert.AbIn0Ideal.τ).loc Cert.AbIn0Ideal.main_arg6) = m ((c.tc : Thread Cert.AbIn0Ideal.nD Cert.AbIn0Ideal.τ).loc Cert.AbIn0Ideal.main_arg6)
          ∧ r.2.mem ((c.tc : Thread Cert.AbIn0Ideal.nD Cert.AbIn0Ideal.τ).loc Cert.AbIn0Ideal.main_arg7) = m ((c.tc : Thread Cert.AbIn0Ideal.nD Cert.AbIn0Ideal.τ).loc Cert.AbIn0Ideal.main_arg7))
      ∧ θ_run (Cert.AbIn0ReferenceIdeal.defs (F := Ideal)) (onTc (τ := Cert.AbIn0ReferenceIdeal.τ) (Cert.AbIn0ReferenceIdeal.main (F := Ideal))) ⟨m', fun _ => 0, g'⟩ (fun r => ∀ c : Dev Cert.AbIn0ReferenceIdeal.nD,
          r.2.mem ((c.tc : Thread Cert.AbIn0ReferenceIdeal.nD Cert.AbIn0ReferenceIdeal.τ).loc Cert.AbIn0ReferenceIdeal.main_v134) = v0 c
          ∧ r.2.mem ((c.tc : Thread Cert.AbIn0ReferenceIdeal.nD Cert.AbIn0ReferenceIdeal.τ).loc Cert.AbIn0ReferenceIdeal.main_v142) = v1 c
          ∧ r.2.mem ((c.tc : Thread Cert.AbIn0ReferenceIdeal.nD Cert.AbIn0ReferenceIdeal.τ).loc Cert.AbIn0ReferenceIdeal.main_v152) = v2 c
          ∧ r.2.mem ((c.tc : Thread Cert.AbIn0ReferenceIdeal.nD Cert.AbIn0ReferenceIdeal.τ).loc Cert.AbIn0ReferenceIdeal.main_v156) = v3 c
          ∧ r.2.mem ((c.tc : Thread Cert.AbIn0ReferenceIdeal.nD Cert.AbIn0ReferenceIdeal.τ).loc Cert.AbIn0ReferenceIdeal.main_v160) = v4 c
          ∧ r.2.mem ((c.tc : Thread Cert.AbIn0ReferenceIdeal.nD Cert.AbIn0ReferenceIdeal.τ).loc Cert.AbIn0ReferenceIdeal.main_arg0) = m' ((c.tc : Thread Cert.AbIn0ReferenceIdeal.nD Cert.AbIn0ReferenceIdeal.τ).loc Cert.AbIn0ReferenceIdeal.main_arg0)
          ∧ r.2.mem ((c.tc : Thread Cert.AbIn0ReferenceIdeal.nD Cert.AbIn0ReferenceIdeal.τ).loc Cert.AbIn0ReferenceIdeal.main_arg1) = m' ((c.tc : Thread Cert.AbIn0ReferenceIdeal.nD Cert.AbIn0ReferenceIdeal.τ).loc Cert.AbIn0ReferenceIdeal.main_arg1)
          ∧ r.2.mem ((c.tc : Thread Cert.AbIn0ReferenceIdeal.nD Cert.AbIn0ReferenceIdeal.τ).loc Cert.AbIn0ReferenceIdeal.main_arg2) = m' ((c.tc : Thread Cert.AbIn0ReferenceIdeal.nD Cert.AbIn0ReferenceIdeal.τ).loc Cert.AbIn0ReferenceIdeal.main_arg2)
          ∧ r.2.mem ((c.tc : Thread Cert.AbIn0ReferenceIdeal.nD Cert.AbIn0ReferenceIdeal.τ).loc Cert.AbIn0ReferenceIdeal.main_arg3) = m' ((c.tc : Thread Cert.AbIn0ReferenceIdeal.nD Cert.AbIn0ReferenceIdeal.τ).loc Cert.AbIn0ReferenceIdeal.main_arg3)
          ∧ r.2.mem ((c.tc : Thread Cert.AbIn0ReferenceIdeal.nD Cert.AbIn0ReferenceIdeal.τ).loc Cert.AbIn0ReferenceIdeal.main_arg4) = m' ((c.tc : Thread Cert.AbIn0ReferenceIdeal.nD Cert.AbIn0ReferenceIdeal.τ).loc Cert.AbIn0ReferenceIdeal.main_arg4)
          ∧ r.2.mem ((c.tc : Thread Cert.AbIn0ReferenceIdeal.nD Cert.AbIn0ReferenceIdeal.τ).loc Cert.AbIn0ReferenceIdeal.main_arg5) = m' ((c.tc : Thread Cert.AbIn0ReferenceIdeal.nD Cert.AbIn0ReferenceIdeal.τ).loc Cert.AbIn0ReferenceIdeal.main_arg5)
          ∧ r.2.mem ((c.tc : Thread Cert.AbIn0ReferenceIdeal.nD Cert.AbIn0ReferenceIdeal.τ).loc Cert.AbIn0ReferenceIdeal.main_arg6) = m' ((c.tc : Thread Cert.AbIn0ReferenceIdeal.nD Cert.AbIn0ReferenceIdeal.τ).loc Cert.AbIn0ReferenceIdeal.main_arg6)
          ∧ r.2.mem ((c.tc : Thread Cert.AbIn0ReferenceIdeal.nD Cert.AbIn0ReferenceIdeal.τ).loc Cert.AbIn0ReferenceIdeal.main_arg7) = m' ((c.tc : Thread Cert.AbIn0ReferenceIdeal.nD Cert.AbIn0ReferenceIdeal.τ).loc Cert.AbIn0ReferenceIdeal.main_arg7))

def preserves_AbIn2_AbIn2Ideal : Prop :=
  True

def algebraic_AbIn2Ideal_AbIn2ReferenceIdeal [hAbIn2Ideal : Cert.AbIn2Ideal.Facts] [hAbIn2ReferenceIdeal : Cert.AbIn2ReferenceIdeal.Facts] : Prop :=
  ∀ (m : (ℓ : Loc Cert.AbIn2Ideal.nD Cert.AbIn2Ideal.τ Cert.AbIn2Ideal.sig) → Buf (Elt Ideal) ℓ) (g : Dev Cert.AbIn2Ideal.nD → PrngReg)
    (m' : (ℓ : Loc Cert.AbIn2ReferenceIdeal.nD Cert.AbIn2ReferenceIdeal.τ Cert.AbIn2ReferenceIdeal.sig) → Buf (Elt Ideal) ℓ) (g' : Dev Cert.AbIn2ReferenceIdeal.nD → PrngReg), Pre_AbIn2Ideal m →
    (∀ c : Dev Cert.AbIn2Ideal.nD,
      m' ((c.tc : Thread Cert.AbIn2ReferenceIdeal.nD Cert.AbIn2ReferenceIdeal.τ).loc Cert.AbIn2ReferenceIdeal.main_arg0) = m ((c.tc : Thread Cert.AbIn2Ideal.nD Cert.AbIn2Ideal.τ).loc Cert.AbIn2Ideal.main_arg0)
      ∧ m' ((c.tc : Thread Cert.AbIn2ReferenceIdeal.nD Cert.AbIn2ReferenceIdeal.τ).loc Cert.AbIn2ReferenceIdeal.main_arg1) = m ((c.tc : Thread Cert.AbIn2Ideal.nD Cert.AbIn2Ideal.τ).loc Cert.AbIn2Ideal.main_arg1)
      ∧ m' ((c.tc : Thread Cert.AbIn2ReferenceIdeal.nD Cert.AbIn2ReferenceIdeal.τ).loc Cert.AbIn2ReferenceIdeal.main_arg2) = m ((c.tc : Thread Cert.AbIn2Ideal.nD Cert.AbIn2Ideal.τ).loc Cert.AbIn2Ideal.main_arg2)
      ∧ m' ((c.tc : Thread Cert.AbIn2ReferenceIdeal.nD Cert.AbIn2ReferenceIdeal.τ).loc Cert.AbIn2ReferenceIdeal.main_arg3) = m ((c.tc : Thread Cert.AbIn2Ideal.nD Cert.AbIn2Ideal.τ).loc Cert.AbIn2Ideal.main_arg3)
      ∧ m' ((c.tc : Thread Cert.AbIn2ReferenceIdeal.nD Cert.AbIn2ReferenceIdeal.τ).loc Cert.AbIn2ReferenceIdeal.main_arg4) = m ((c.tc : Thread Cert.AbIn2Ideal.nD Cert.AbIn2Ideal.τ).loc Cert.AbIn2Ideal.main_arg4)
      ∧ m' ((c.tc : Thread Cert.AbIn2ReferenceIdeal.nD Cert.AbIn2ReferenceIdeal.τ).loc Cert.AbIn2ReferenceIdeal.main_arg5) = m ((c.tc : Thread Cert.AbIn2Ideal.nD Cert.AbIn2Ideal.τ).loc Cert.AbIn2Ideal.main_arg5)
      ∧ m' ((c.tc : Thread Cert.AbIn2ReferenceIdeal.nD Cert.AbIn2ReferenceIdeal.τ).loc Cert.AbIn2ReferenceIdeal.main_arg6) = m ((c.tc : Thread Cert.AbIn2Ideal.nD Cert.AbIn2Ideal.τ).loc Cert.AbIn2Ideal.main_arg6)
      ∧ m' ((c.tc : Thread Cert.AbIn2ReferenceIdeal.nD Cert.AbIn2ReferenceIdeal.τ).loc Cert.AbIn2ReferenceIdeal.main_arg7) = m ((c.tc : Thread Cert.AbIn2Ideal.nD Cert.AbIn2Ideal.τ).loc Cert.AbIn2Ideal.main_arg7)) →
    ∃ (v0 : (c : Dev Cert.AbIn2Ideal.nD) → Buf (Elt Ideal) ((c.tc : Thread Cert.AbIn2Ideal.nD Cert.AbIn2Ideal.τ).loc Cert.AbIn2Ideal.main_v37_0)) (v1 : (c : Dev Cert.AbIn2Ideal.nD) → Buf (Elt Ideal) ((c.tc : Thread Cert.AbIn2Ideal.nD Cert.AbIn2Ideal.τ).loc Cert.AbIn2Ideal.main_v37_1)) (v2 : (c : Dev Cert.AbIn2Ideal.nD) → Buf (Elt Ideal) ((c.tc : Thread Cert.AbIn2Ideal.nD Cert.AbIn2Ideal.τ).loc Cert.AbIn2Ideal.main_v37_2)) (v3 : (c : Dev Cert.AbIn2Ideal.nD) → Buf (Elt Ideal) ((c.tc : Thread Cert.AbIn2Ideal.nD Cert.AbIn2Ideal.τ).loc Cert.AbIn2Ideal.main_v37_3)) (v4 : (c : Dev Cert.AbIn2Ideal.nD) → Buf (Elt Ideal) ((c.tc : Thread Cert.AbIn2Ideal.nD Cert.AbIn2Ideal.τ).loc Cert.AbIn2Ideal.main_v37_4)),
      θ_run (Cert.AbIn2Ideal.defs (F := Ideal)) (onTc (τ := Cert.AbIn2Ideal.τ) (Cert.AbIn2Ideal.main (F := Ideal))) ⟨m, fun _ => 0, g⟩ (fun r => ∀ c : Dev Cert.AbIn2Ideal.nD,
          r.2.mem ((c.tc : Thread Cert.AbIn2Ideal.nD Cert.AbIn2Ideal.τ).loc Cert.AbIn2Ideal.main_v37_0) = v0 c
          ∧ r.2.mem ((c.tc : Thread Cert.AbIn2Ideal.nD Cert.AbIn2Ideal.τ).loc Cert.AbIn2Ideal.main_v37_1) = v1 c
          ∧ r.2.mem ((c.tc : Thread Cert.AbIn2Ideal.nD Cert.AbIn2Ideal.τ).loc Cert.AbIn2Ideal.main_v37_2) = v2 c
          ∧ r.2.mem ((c.tc : Thread Cert.AbIn2Ideal.nD Cert.AbIn2Ideal.τ).loc Cert.AbIn2Ideal.main_v37_3) = v3 c
          ∧ r.2.mem ((c.tc : Thread Cert.AbIn2Ideal.nD Cert.AbIn2Ideal.τ).loc Cert.AbIn2Ideal.main_v37_4) = v4 c
          ∧ r.2.mem ((c.tc : Thread Cert.AbIn2Ideal.nD Cert.AbIn2Ideal.τ).loc Cert.AbIn2Ideal.main_arg0) = m ((c.tc : Thread Cert.AbIn2Ideal.nD Cert.AbIn2Ideal.τ).loc Cert.AbIn2Ideal.main_arg0)
          ∧ r.2.mem ((c.tc : Thread Cert.AbIn2Ideal.nD Cert.AbIn2Ideal.τ).loc Cert.AbIn2Ideal.main_arg1) = m ((c.tc : Thread Cert.AbIn2Ideal.nD Cert.AbIn2Ideal.τ).loc Cert.AbIn2Ideal.main_arg1)
          ∧ r.2.mem ((c.tc : Thread Cert.AbIn2Ideal.nD Cert.AbIn2Ideal.τ).loc Cert.AbIn2Ideal.main_arg2) = m ((c.tc : Thread Cert.AbIn2Ideal.nD Cert.AbIn2Ideal.τ).loc Cert.AbIn2Ideal.main_arg2)
          ∧ r.2.mem ((c.tc : Thread Cert.AbIn2Ideal.nD Cert.AbIn2Ideal.τ).loc Cert.AbIn2Ideal.main_arg3) = m ((c.tc : Thread Cert.AbIn2Ideal.nD Cert.AbIn2Ideal.τ).loc Cert.AbIn2Ideal.main_arg3)
          ∧ r.2.mem ((c.tc : Thread Cert.AbIn2Ideal.nD Cert.AbIn2Ideal.τ).loc Cert.AbIn2Ideal.main_arg4) = m ((c.tc : Thread Cert.AbIn2Ideal.nD Cert.AbIn2Ideal.τ).loc Cert.AbIn2Ideal.main_arg4)
          ∧ r.2.mem ((c.tc : Thread Cert.AbIn2Ideal.nD Cert.AbIn2Ideal.τ).loc Cert.AbIn2Ideal.main_arg5) = m ((c.tc : Thread Cert.AbIn2Ideal.nD Cert.AbIn2Ideal.τ).loc Cert.AbIn2Ideal.main_arg5)
          ∧ r.2.mem ((c.tc : Thread Cert.AbIn2Ideal.nD Cert.AbIn2Ideal.τ).loc Cert.AbIn2Ideal.main_arg6) = m ((c.tc : Thread Cert.AbIn2Ideal.nD Cert.AbIn2Ideal.τ).loc Cert.AbIn2Ideal.main_arg6)
          ∧ r.2.mem ((c.tc : Thread Cert.AbIn2Ideal.nD Cert.AbIn2Ideal.τ).loc Cert.AbIn2Ideal.main_arg7) = m ((c.tc : Thread Cert.AbIn2Ideal.nD Cert.AbIn2Ideal.τ).loc Cert.AbIn2Ideal.main_arg7))
      ∧ θ_run (Cert.AbIn2ReferenceIdeal.defs (F := Ideal)) (onTc (τ := Cert.AbIn2ReferenceIdeal.τ) (Cert.AbIn2ReferenceIdeal.main (F := Ideal))) ⟨m', fun _ => 0, g'⟩ (fun r => ∀ c : Dev Cert.AbIn2ReferenceIdeal.nD,
          r.2.mem ((c.tc : Thread Cert.AbIn2ReferenceIdeal.nD Cert.AbIn2ReferenceIdeal.τ).loc Cert.AbIn2ReferenceIdeal.main_v134) = v0 c
          ∧ r.2.mem ((c.tc : Thread Cert.AbIn2ReferenceIdeal.nD Cert.AbIn2ReferenceIdeal.τ).loc Cert.AbIn2ReferenceIdeal.main_v142) = v1 c
          ∧ r.2.mem ((c.tc : Thread Cert.AbIn2ReferenceIdeal.nD Cert.AbIn2ReferenceIdeal.τ).loc Cert.AbIn2ReferenceIdeal.main_v152) = v2 c
          ∧ r.2.mem ((c.tc : Thread Cert.AbIn2ReferenceIdeal.nD Cert.AbIn2ReferenceIdeal.τ).loc Cert.AbIn2ReferenceIdeal.main_v156) = v3 c
          ∧ r.2.mem ((c.tc : Thread Cert.AbIn2ReferenceIdeal.nD Cert.AbIn2ReferenceIdeal.τ).loc Cert.AbIn2ReferenceIdeal.main_v160) = v4 c
          ∧ r.2.mem ((c.tc : Thread Cert.AbIn2ReferenceIdeal.nD Cert.AbIn2ReferenceIdeal.τ).loc Cert.AbIn2ReferenceIdeal.main_arg0) = m' ((c.tc : Thread Cert.AbIn2ReferenceIdeal.nD Cert.AbIn2ReferenceIdeal.τ).loc Cert.AbIn2ReferenceIdeal.main_arg0)
          ∧ r.2.mem ((c.tc : Thread Cert.AbIn2ReferenceIdeal.nD Cert.AbIn2ReferenceIdeal.τ).loc Cert.AbIn2ReferenceIdeal.main_arg1) = m' ((c.tc : Thread Cert.AbIn2ReferenceIdeal.nD Cert.AbIn2ReferenceIdeal.τ).loc Cert.AbIn2ReferenceIdeal.main_arg1)
          ∧ r.2.mem ((c.tc : Thread Cert.AbIn2ReferenceIdeal.nD Cert.AbIn2ReferenceIdeal.τ).loc Cert.AbIn2ReferenceIdeal.main_arg2) = m' ((c.tc : Thread Cert.AbIn2ReferenceIdeal.nD Cert.AbIn2ReferenceIdeal.τ).loc Cert.AbIn2ReferenceIdeal.main_arg2)
          ∧ r.2.mem ((c.tc : Thread Cert.AbIn2ReferenceIdeal.nD Cert.AbIn2ReferenceIdeal.τ).loc Cert.AbIn2ReferenceIdeal.main_arg3) = m' ((c.tc : Thread Cert.AbIn2ReferenceIdeal.nD Cert.AbIn2ReferenceIdeal.τ).loc Cert.AbIn2ReferenceIdeal.main_arg3)
          ∧ r.2.mem ((c.tc : Thread Cert.AbIn2ReferenceIdeal.nD Cert.AbIn2ReferenceIdeal.τ).loc Cert.AbIn2ReferenceIdeal.main_arg4) = m' ((c.tc : Thread Cert.AbIn2ReferenceIdeal.nD Cert.AbIn2ReferenceIdeal.τ).loc Cert.AbIn2ReferenceIdeal.main_arg4)
          ∧ r.2.mem ((c.tc : Thread Cert.AbIn2ReferenceIdeal.nD Cert.AbIn2ReferenceIdeal.τ).loc Cert.AbIn2ReferenceIdeal.main_arg5) = m' ((c.tc : Thread Cert.AbIn2ReferenceIdeal.nD Cert.AbIn2ReferenceIdeal.τ).loc Cert.AbIn2ReferenceIdeal.main_arg5)
          ∧ r.2.mem ((c.tc : Thread Cert.AbIn2ReferenceIdeal.nD Cert.AbIn2ReferenceIdeal.τ).loc Cert.AbIn2ReferenceIdeal.main_arg6) = m' ((c.tc : Thread Cert.AbIn2ReferenceIdeal.nD Cert.AbIn2ReferenceIdeal.τ).loc Cert.AbIn2ReferenceIdeal.main_arg6)
          ∧ r.2.mem ((c.tc : Thread Cert.AbIn2ReferenceIdeal.nD Cert.AbIn2ReferenceIdeal.τ).loc Cert.AbIn2ReferenceIdeal.main_arg7) = m' ((c.tc : Thread Cert.AbIn2ReferenceIdeal.nD Cert.AbIn2ReferenceIdeal.τ).loc Cert.AbIn2ReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfn00 : Cert.Ffn00.Facts) (hFfn00Ideal : Cert.Ffn00Ideal.Facts) (hFfn00ReferenceIdeal : Cert.Ffn00ReferenceIdeal.Facts) (hFfn01 : Cert.Ffn01.Facts) (hFfn01Ideal : Cert.Ffn01Ideal.Facts) (hFfn01ReferenceIdeal : Cert.Ffn01ReferenceIdeal.Facts) (hFfn10 : Cert.Ffn10.Facts) (hFfn10Ideal : Cert.Ffn10Ideal.Facts) (hFfn10ReferenceIdeal : Cert.Ffn10ReferenceIdeal.Facts) (hFfn11 : Cert.Ffn11.Facts) (hFfn11Ideal : Cert.Ffn11Ideal.Facts) (hFfn11ReferenceIdeal : Cert.Ffn11ReferenceIdeal.Facts) (hFfn20 : Cert.Ffn20.Facts) (hFfn20Ideal : Cert.Ffn20Ideal.Facts) (hFfn20ReferenceIdeal : Cert.Ffn20ReferenceIdeal.Facts) (hFfn21 : Cert.Ffn21.Facts) (hFfn21Ideal : Cert.Ffn21Ideal.Facts) (hFfn21ReferenceIdeal : Cert.Ffn21ReferenceIdeal.Facts) (hFfn30 : Cert.Ffn30.Facts) (hFfn30Ideal : Cert.Ffn30Ideal.Facts) (hFfn30ReferenceIdeal : Cert.Ffn30ReferenceIdeal.Facts) (hAbIn0 : Cert.AbIn0.Facts) (hAbIn0Ideal : Cert.AbIn0Ideal.Facts) (hAbIn0ReferenceIdeal : Cert.AbIn0ReferenceIdeal.Facts) (hAbIn2 : Cert.AbIn2.Facts) (hAbIn2Ideal : Cert.AbIn2Ideal.Facts) (hAbIn2ReferenceIdeal : Cert.AbIn2ReferenceIdeal.Facts) (hPre_finite : Cert.Pre_finite.Facts) (hOn_latent_rows : Cert.On_latent_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Ffn00 (hFfn00 := hFfn00)
    ∧ quiescent_Ffn00Ideal (hFfn00Ideal := hFfn00Ideal)
    ∧ quiescent_Ffn00ReferenceIdeal (hFfn00ReferenceIdeal := hFfn00ReferenceIdeal)
    ∧ quiescent_Ffn01 (hFfn01 := hFfn01)
    ∧ quiescent_Ffn01Ideal (hFfn01Ideal := hFfn01Ideal)
    ∧ quiescent_Ffn01ReferenceIdeal (hFfn01ReferenceIdeal := hFfn01ReferenceIdeal)
    ∧ quiescent_Ffn10 (hFfn10 := hFfn10)
    ∧ quiescent_Ffn10Ideal (hFfn10Ideal := hFfn10Ideal)
    ∧ quiescent_Ffn10ReferenceIdeal (hFfn10ReferenceIdeal := hFfn10ReferenceIdeal)
    ∧ quiescent_Ffn11 (hFfn11 := hFfn11)
    ∧ quiescent_Ffn11Ideal (hFfn11Ideal := hFfn11Ideal)
    ∧ quiescent_Ffn11ReferenceIdeal (hFfn11ReferenceIdeal := hFfn11ReferenceIdeal)
    ∧ quiescent_Ffn20 (hFfn20 := hFfn20)
    ∧ quiescent_Ffn20Ideal (hFfn20Ideal := hFfn20Ideal)
    ∧ quiescent_Ffn20ReferenceIdeal (hFfn20ReferenceIdeal := hFfn20ReferenceIdeal)
    ∧ quiescent_Ffn21 (hFfn21 := hFfn21)
    ∧ quiescent_Ffn21Ideal (hFfn21Ideal := hFfn21Ideal)
    ∧ quiescent_Ffn21ReferenceIdeal (hFfn21ReferenceIdeal := hFfn21ReferenceIdeal)
    ∧ quiescent_Ffn30 (hFfn30 := hFfn30)
    ∧ quiescent_Ffn30Ideal (hFfn30Ideal := hFfn30Ideal)
    ∧ quiescent_Ffn30ReferenceIdeal (hFfn30ReferenceIdeal := hFfn30ReferenceIdeal)
    ∧ quiescent_AbIn0 (hAbIn0 := hAbIn0)
    ∧ quiescent_AbIn0Ideal (hAbIn0Ideal := hAbIn0Ideal)
    ∧ quiescent_AbIn0ReferenceIdeal (hAbIn0ReferenceIdeal := hAbIn0ReferenceIdeal)
    ∧ quiescent_AbIn2 (hAbIn2 := hAbIn2)
    ∧ quiescent_AbIn2Ideal (hAbIn2Ideal := hAbIn2Ideal)
    ∧ quiescent_AbIn2ReferenceIdeal (hAbIn2ReferenceIdeal := hAbIn2ReferenceIdeal)
    ∧ preserves_Kernel_KernelIdeal
    ∧ algebraic_KernelIdeal_ReferenceIdeal_on_latent_rows_pre_finite (hKernelIdeal := hKernelIdeal) (hReferenceIdeal := hReferenceIdeal) (hPre_finite := hPre_finite) (hOn_latent_rows := hOn_latent_rows)
    ∧ preserves_Ffn_FfnIdeal
    ∧ algebraic_FfnIdeal_FfnReferenceIdeal (hFfnIdeal := hFfnIdeal) (hFfnReferenceIdeal := hFfnReferenceIdeal)
    ∧ preserves_Ffn00_Ffn00Ideal
    ∧ algebraic_Ffn00Ideal_Ffn00ReferenceIdeal (hFfn00Ideal := hFfn00Ideal) (hFfn00ReferenceIdeal := hFfn00ReferenceIdeal)
    ∧ preserves_Ffn01_Ffn01Ideal
    ∧ algebraic_Ffn01Ideal_Ffn01ReferenceIdeal (hFfn01Ideal := hFfn01Ideal) (hFfn01ReferenceIdeal := hFfn01ReferenceIdeal)
    ∧ preserves_Ffn10_Ffn10Ideal
    ∧ algebraic_Ffn10Ideal_Ffn10ReferenceIdeal (hFfn10Ideal := hFfn10Ideal) (hFfn10ReferenceIdeal := hFfn10ReferenceIdeal)
    ∧ preserves_Ffn11_Ffn11Ideal
    ∧ algebraic_Ffn11Ideal_Ffn11ReferenceIdeal (hFfn11Ideal := hFfn11Ideal) (hFfn11ReferenceIdeal := hFfn11ReferenceIdeal)
    ∧ preserves_Ffn20_Ffn20Ideal
    ∧ algebraic_Ffn20Ideal_Ffn20ReferenceIdeal (hFfn20Ideal := hFfn20Ideal) (hFfn20ReferenceIdeal := hFfn20ReferenceIdeal)
    ∧ preserves_Ffn21_Ffn21Ideal
    ∧ algebraic_Ffn21Ideal_Ffn21ReferenceIdeal (hFfn21Ideal := hFfn21Ideal) (hFfn21ReferenceIdeal := hFfn21ReferenceIdeal)
    ∧ preserves_Ffn30_Ffn30Ideal
    ∧ algebraic_Ffn30Ideal_Ffn30ReferenceIdeal (hFfn30Ideal := hFfn30Ideal) (hFfn30ReferenceIdeal := hFfn30ReferenceIdeal)
    ∧ preserves_AbIn0_AbIn0Ideal
    ∧ algebraic_AbIn0Ideal_AbIn0ReferenceIdeal (hAbIn0Ideal := hAbIn0Ideal) (hAbIn0ReferenceIdeal := hAbIn0ReferenceIdeal)
    ∧ preserves_AbIn2_AbIn2Ideal
    ∧ algebraic_AbIn2Ideal_AbIn2ReferenceIdeal (hAbIn2Ideal := hAbIn2Ideal) (hAbIn2ReferenceIdeal := hAbIn2ReferenceIdeal)
-- ==== On_latent_rows.lean ====
abbrev S4x8192x8x96 : Shape := ⟨4, ![4, 8192, 8, 96]⟩
abbrev S4x8192x8x128 : Shape := ⟨4, ![4, 8192, 8, 128]⟩
abbrev S4x256x8x96 : Shape := ⟨4, ![4, 256, 8, 96]⟩
abbrev S4x256x8x128 : Shape := ⟨4, ![4, 256, 8, 128]⟩
abbrev S33792x1024 : Shape := ⟨2, ![33792, 1024]⟩
abbrev S_ : Shape := ⟨0, ![]⟩

class Facts : Prop where
  bcast_S_S33792x1024 : S_.BroadcastsInDim S33792x1024 (![] : Fin 0 → Fin S33792x1024.rank)

variable [Facts]

def fn {F : FTy → Type} [FloatOps F] (main_arg0 : FVec F S4x8192x8x96 .f32) (main_arg1 : FVec F S4x8192x8x96 .f32) (main_arg2 : FVec F S4x8192x8x128 .f32) (main_arg3 : FVec F S4x256x8x96 .f32) (main_arg4 : FVec F S4x256x8x96 .f32) (main_arg5 : FVec F S4x256x8x128 .f32) : IVec S33792x1024 1 :=
  let main_v0 : IVec S33792x1024 32 := iotaInDim S33792x1024 32 0
  let main_c : IVec S_ 32 := constantI S_ 32 32768#32
  let main_v1 : IVec S33792x1024 32 := broadcastInDim S33792x1024 ![] bcast_S_S33792x1024 main_c
  let main_v2 : IVec S33792x1024 1 := cmpi .slt main_v0 main_v1
  main_v2
-- ==== Pre_finite.lean ====
abbrev S4x8192x8x96 : Shape := ⟨4, ![4, 8192, 8, 96]⟩
abbrev S4x8192x8x128 : Shape := ⟨4, ![4, 8192, 8, 128]⟩
abbrev S4x256x8x96 : Shape := ⟨4, ![4, 256, 8, 96]⟩
abbrev S4x256x8x128 : Shape := ⟨4, ![4, 256, 8, 128]⟩
abbrev S_ : Shape := ⟨0, ![]⟩

class Facts : Prop where
  bcast_S_S4x8192x8x96 : S_.BroadcastsInDim S4x8192x8x96 (![] : Fin 0 → Fin S4x8192x8x96.rank)
  reducesTo_S4x8192x8x96_S_d0_1_2_3 : S4x8192x8x96.ReducesTo [0, 1, 2, 3] S_
  h_S_ : 0 < S_.numel
  bcast_S_S4x8192x8x128 : S_.BroadcastsInDim S4x8192x8x128 (![] : Fin 0 → Fin S4x8192x8x128.rank)
  reducesTo_S4x8192x8x128_S_d0_1_2_3 : S4x8192x8x128.ReducesTo [0, 1, 2, 3] S_
  bcast_S_S4x256x8x96 : S_.BroadcastsInDim S4x256x8x96 (![] : Fin 0 → Fin S4x256x8x96.rank)
  reducesTo_S4x256x8x96_S_d0_1_2_3 : S4x256x8x96.ReducesTo [0, 1, 2, 3] S_
  bcast_S_S4x256x8x128 : S_.BroadcastsInDim S4x256x8x128 (![] : Fin 0 → Fin S4x256x8x128.rank)
  reducesTo_S4x256x8x128_S_d0_1_2_3 : S4x256x8x128.ReducesTo [0, 1, 2, 3] S_

variable [Facts]

def fn_part1 {F : FTy → Type} [FloatOps F] (main_arg5 : FVec F S4x256x8x128 .f32) (main_v13 : IVec S_ 1) (main_v16 : IVec S4x256x8x96 1) : IVec S_ 1 :=
  let main_c_5 : IVec S_ 1 := constantI S_ 1 1#1
  let main_v17 : IVec S_ 1 := (fun x v => Host.reduce IntOp.andi x v reducesTo_S4x256x8x96_S_d0_1_2_3 h_S_) main_v16 main_c_5
  let main_v18 : IVec S_ 1 := andi main_v13 main_v17
  let main_v19 : FVec F S4x256x8x128 .f32 := Host.absf main_arg5
  let main_cst_6 : FVec F S_ .f32 := constant S_ .f32 0x7F800000#32
  let main_v20 : FVec F S4x256x8x128 .f32 := broadcastInDim S4x256x8x128 ![] bcast_S_S4x256x8x128 main_cst_6
  let main_v21 : IVec S4x256x8x128 1 := cmpf .olt main_v19 main_v20
  let main_c_7 : IVec S_ 1 := constantI S_ 1 1#1
  let main_v22 : IVec S_ 1 := (fun x v => Host.reduce IntOp.andi x v reducesTo_S4x256x8x128_S_d0_1_2_3 h_S_) main_v21 main_c_7
  let main_v23 : IVec S_ 1 := andi main_v18 main_v22
  main_v23

def fn {F : FTy → Type} [FloatOps F] (main_arg0 : FVec F S4x8192x8x96 .f32) (main_arg1 : FVec F S4x8192x8x96 .f32) (main_arg2 : FVec F S4x8192x8x128 .f32) (main_arg3 : FVec F S4x256x8x96 .f32) (main_arg4 : FVec F S4x256x8x96 .f32) (main_arg5 : FVec F S4x256x8x128 .f32) : IVec S_ 1 :=
  let main_v0 : FVec F S4x8192x8x96 .f32 := Host.absf main_arg0
  let main_cst : FVec F S_ .f32 := constant S_ .f32 0x7F800000#32
  let main_v1 : FVec F S4x8192x8x96 .f32 := broadcastInDim S4x8192x8x96 ![] bcast_S_S4x8192x8x96 main_cst
  let main_v2 : IVec S4x8192x8x96 1 := cmpf .olt main_v0 main_v1
  let main_c : IVec S_ 1 := constantI S_ 1 1#1
  let main_v3 : IVec S_ 1 := (fun x v => Host.reduce IntOp.andi x v reducesTo_S4x8192x8x96_S_d0_1_2_3 h_S_) main_v2 main_c
  let main_v4 : FVec F S4x8192x8x96 .f32 := Host.absf main_arg1
  let main_cst_0 : FVec F S_ .f32 := constant S_ .f32 0x7F800000#32
  let main_v5 : FVec F S4x8192x8x96 .f32 := broadcastInDim S4x8192x8x96 ![] bcast_S_S4x8192x8x96 main_cst_0
  let main_v6 : IVec S4x8192x8x96 1 := cmpf .olt main_v4 main_v5
  let main_c_1 : IVec S_ 1 := constantI S_ 1 1#1
  let main_v7 : IVec S_ 1 := (fun x v => Host.reduce IntOp.andi x v reducesTo_S4x8192x8x96_S_d0_1_2_3 h_S_) main_v6 main_c_1
  let main_v8 : IVec S_ 1 := andi main_v3 main_v7
  let main_v9 : FVec F S4x8192x8x128 .f32 := Host.absf main_arg2
  let main_cst_2 : FVec F S_ .f32 := constant S_ .f32 0x7F800000#32
  let main_v10 : FVec F S4x8192x8x128 .f32 := broadcastInDim S4x8192x8x128 ![] bcast_S_S4x8192x8x128 main_cst_2
  let main_v11 : IVec S4x8192x8x128 1 := cmpf .olt main_v9 main_v10
  let main_c_3 : IVec S_ 1 := constantI S_ 1 1#1
  let main_v12 : IVec S_ 1 := (fun x v => Host.reduce IntOp.andi x v reducesTo_S4x8192x8x128_S_d0_1_2_3 h_S_) main_v11 main_c_3
  let main_v13 : IVec S_ 1 := andi main_v8 main_v12
  let main_v14 : FVec F S4x256x8x96 .f32 := Host.absf main_arg4
  let main_cst_4 : FVec F S_ .f32 := constant S_ .f32 0x7F800000#32
  let main_v15 : FVec F S4x256x8x96 .f32 := broadcastInDim S4x256x8x96 ![] bcast_S_S4x256x8x96 main_cst_4
  let main_v16 : IVec S4x256x8x96 1 := cmpf .olt main_v14 main_v15
  fn_part1 (F := F) main_arg5 main_v13 main_v16
-- ==== Kernel.lean ====
abbrev S4x8192x8x96 : Shape := ⟨4, ![4, 8192, 8, 96]⟩
abbrev S4x8192x8x128 : Shape := ⟨4, ![4, 8192, 8, 128]⟩
abbrev S4x256x8x96 : Shape := ⟨4, ![4, 256, 8, 96]⟩
abbrev S4x256x8x128 : Shape := ⟨4, ![4, 256, 8, 128]⟩
abbrev S_ : Shape := ⟨0, ![]⟩
abbrev S4x8192x8x64 : Shape := ⟨4, ![4, 8192, 8, 64]⟩
abbrev S4x8192x8x32 : Shape := ⟨4, ![4, 8192, 8, 32]⟩
abbrev S4x8192x8x16 : Shape := ⟨4, ![4, 8192, 8, 16]⟩
abbrev S4x8192x8x48 : Shape := ⟨4, ![4, 8192, 8, 48]⟩
abbrev S4x256x8x64 : Shape := ⟨4, ![4, 256, 8, 64]⟩
abbrev S4x256x8x32 : Shape := ⟨4, ![4, 256, 8, 32]⟩
abbrev S4x256x8x16 : Shape := ⟨4, ![4, 256, 8, 16]⟩
abbrev S4x256x8x48 : Shape := ⟨4, ![4, 256, 8, 48]⟩
abbrev S32768x1024 : Shape := ⟨2, ![32768, 1024]⟩
abbrev S1024x1024 : Shape := ⟨2, ![1024, 1024]⟩
abbrev S33792x1024 : Shape := ⟨2, ![33792, 1024]⟩
abbrev S66x512x1024 : Shape := ⟨3, ![66, 512, 1024]⟩
abbrev S66x1024x512 : Shape := ⟨3, ![66, 1024, 512]⟩
abbrev S4x128x512 : Shape := ⟨3, ![4, 128, 512]⟩
abbrev S256x128 : Shape := ⟨2, ![256, 128]⟩
abbrev S1x128x256 : Shape := ⟨3, ![1, 128, 256]⟩
abbrev S8192x128 : Shape := ⟨2, ![8192, 128]⟩
abbrev S16x128x512 : Shape := ⟨3, ![16, 128, 512]⟩
abbrev S2048x128 : Shape := ⟨2, ![2048, 128]⟩
abbrev S4x144x512 : Shape := ⟨3, ![4, 144, 512]⟩
abbrev S4x1x512 : Shape := ⟨3, ![4, 1, 512]⟩
abbrev S1x128x512 : Shape := ⟨3, ![1, 128, 512]⟩
abbrev S128x512 : Shape := ⟨2, ![128, 512]⟩
abbrev S256x512 : Shape := ⟨2, ![256, 512]⟩
abbrev S512 : Shape := ⟨1, ![512]⟩
abbrev S1x512 : Shape := ⟨2, ![1, 512]⟩
abbrev S1x1x512 : Shape := ⟨3, ![1, 1, 512]⟩
abbrev S128x256 : Shape := ⟨2, ![128, 256]⟩
abbrev S16x256 : Shape := ⟨2, ![16, 256]⟩
abbrev S144x256 : Shape := ⟨2, ![144, 256]⟩
abbrev S144x512 : Shape := ⟨2, ![144, 512]⟩
abbrev S1x144x512 : Shape := ⟨3, ![1, 144, 512]⟩
abbrev S1024x128 : Shape := ⟨2, ![1024, 128]⟩
abbrev S1024x512 : Shape := ⟨2, ![1024, 512]⟩
abbrev S128x1024 : Shape := ⟨2, ![128, 1024]⟩
abbrev S16x1024 : Shape := ⟨2, ![16, 1024]⟩
abbrev S144x1024 : Shape := ⟨2, ![144, 1024]⟩
abbrev S512x128 : Shape := ⟨2, ![512, 128]⟩

abbrev nBuf : Space → Nat
  | .hbm => 67
  | .vmem => 14
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x128, .f32⟩
  | .hbm, ⟨3, _⟩ => ⟨S4x256x8x96, .f32⟩
  | .hbm, ⟨4, _⟩ => ⟨S4x256x8x96, .f32⟩
  | .hbm, ⟨5, _⟩ => ⟨S4x256x8x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8192x8x64, .f32⟩
  | .hbm, ⟨11, _⟩ => ⟨S4x8192x8x32, .f32⟩
  | .hbm, ⟨12, _⟩ => ⟨S4x8192x8x16, .f32⟩
  | .hbm, ⟨13, _⟩ => ⟨S4x8192x8x16, .f32⟩
  | .hbm, ⟨14, _⟩ => ⟨S_, .f32⟩
  | .hbm, ⟨15, _⟩ => ⟨S4x8192x8x32, .f32⟩
  | .hbm, ⟨16, _⟩ => ⟨S4x8192x8x48, .f32⟩
  | .hbm, ⟨17, _⟩ => ⟨S4x8192x8x16, .f32⟩
  | .hbm, ⟨18, _⟩ => ⟨S4x8192x8x128, .f32⟩
  | .hbm, ⟨19, _⟩ => ⟨S4x8192x8x128, .f32⟩
  | .hbm, ⟨20, _⟩ => ⟨S4x8192x8x128, .f32⟩
  | .hbm, ⟨21, _⟩ => ⟨S4x256x8x64, .f32⟩
  | .hbm, ⟨22, _⟩ => ⟨S4x256x8x32, .f32⟩
  | .hbm, ⟨23, _⟩ => ⟨S4x256x8x16, .f32⟩
  | .hbm, ⟨24, _⟩ => ⟨S4x256x8x16, .f32⟩
  | .hbm, ⟨25, _⟩ => ⟨S_, .f32⟩
  | .hbm, ⟨26, _⟩ => ⟨S4x256x8x32, .f32⟩
  | .hbm, ⟨27, _⟩ => ⟨S4x256x8x48, .f32⟩
  | .hbm, ⟨28, _⟩ => ⟨S4x256x8x16, .f32⟩
  | .hbm, ⟨29, _⟩ => ⟨S4x256x8x128, .f32⟩
  | .hbm, ⟨30, _⟩ => ⟨S4x256x8x128, .f32⟩
  | .hbm, ⟨31, _⟩ => ⟨S4x256x8x128, .f32⟩
  | .hbm, ⟨32, _⟩ => ⟨S32768x1024, .f32⟩
  | .hbm, ⟨33, _⟩ => ⟨S1024x1024, .f32⟩
  | .hbm, ⟨34, _⟩ => ⟨S33792x1024, .f32⟩
  | .hbm, ⟨35, _⟩ => ⟨S66x512x1024, .f32⟩
  | .hbm, ⟨36, _⟩ => ⟨S66x1024x512, .f32⟩
  | .hbm, ⟨37, _⟩ => ⟨S66x1024x512, .bf16⟩
  | .hbm, ⟨38, _⟩ => ⟨S4x8192x8x64, .f32⟩
  | .hbm, ⟨39, _⟩ => ⟨S4x8192x8x32, .f32⟩
  | .hbm, ⟨40, _⟩ => ⟨S4x8192x8x16, .f32⟩
  | .hbm, ⟨41, _⟩ => ⟨S4x8192x8x16, .f32⟩
  | .hbm, ⟨42, _⟩ => ⟨S_, .f32⟩
  | .hbm, ⟨43, _⟩ => ⟨S4x8192x8x32, .f32⟩
  | .hbm, ⟨44, _⟩ => ⟨S4x8192x8x48, .f32⟩
  | .hbm, ⟨45, _⟩ => ⟨S4x8192x8x16, .f32⟩
  | .hbm, ⟨46, _⟩ => ⟨S4x8192x8x128, .f32⟩
  | .hbm, ⟨47, _⟩ => ⟨S4x256x8x64, .f32⟩
  | .hbm, ⟨48, _⟩ => ⟨S4x256x8x32, .f32⟩
  | .hbm, ⟨49, _⟩ => ⟨S4x256x8x16, .f32⟩
  | .hbm, ⟨50, _⟩ => ⟨S4x256x8x16, .f32⟩
  | .hbm, ⟨51, _⟩ => ⟨S_, .f32⟩
  | .hbm, ⟨52, _⟩ => ⟨S4x256x8x32, .f32⟩
  | .hbm, ⟨53, _⟩ => ⟨S4x256x8x48, .f32⟩
  | .hbm, ⟨54, _⟩ => ⟨S4x256x8x16, .f32⟩
  | .hbm, ⟨55, _⟩ => ⟨S4x256x8x128, .f32⟩
  | .hbm, ⟨56, _⟩ => ⟨S32768x1024, .f32⟩
  | .hbm, ⟨57, _⟩ => ⟨S1024x1024, .f32⟩
  | .hbm, ⟨58, _⟩ => ⟨S33792x1024, .f32⟩
  | .hbm, ⟨59, _⟩ => ⟨S33792x1024, .bf16⟩
  | .hbm, ⟨60, _⟩ => ⟨S32768x1024, .f32⟩
  | .hbm, ⟨61, _⟩ => ⟨S1024x1024, .f32⟩
  | .hbm, ⟨62, _⟩ => ⟨S33792x1024, .f32⟩
  | .hbm, ⟨63, _⟩ => ⟨S66x512x1024, .f32⟩
  | .hbm, ⟨64, _⟩ => ⟨S66x1024x512, .f32⟩
  | .hbm, ⟨65, _⟩ => ⟨S66x1024x512, .bf16⟩
  | .hbm, ⟨66, _⟩ => ⟨S33792x1024, .bf16⟩
  | .local _ .vmem, ⟨0, _⟩ => ⟨S4x128x512, .bf16⟩
  | .local _ .vmem, ⟨1, _⟩ => ⟨S4x128x512, .bf16⟩
  | .local _ .vmem, ⟨2, _⟩ => ⟨S256x128, .bf16⟩
  | .local _ .vmem, ⟨3, _⟩ => ⟨S256x128, .bf16⟩
  | .local _ .vmem, ⟨4, _⟩ => ⟨S1x128x256, .bf16⟩
  | .local _ .vmem, ⟨5, _⟩ => ⟨S1x128x256, .bf16⟩
  | .local _ .vmem, ⟨6, _⟩ => ⟨S8192x128, .bf16⟩
  | .local _ .vmem, ⟨7, _⟩ => ⟨S8192x128, .bf16⟩
  | .local _ .vmem, ⟨8, _⟩ => ⟨S16x128x512, .bf16⟩
  | .local _ .vmem, ⟨9, _⟩ => ⟨S16x128x512, .bf16⟩
  | .local _ .vmem, ⟨10, _⟩ => ⟨S2048x128, .bf16⟩
  | .local _ .vmem, ⟨11, _⟩ => ⟨S2048x128, .bf16⟩
  | .local _ .vmem, ⟨12, _⟩ => ⟨S4x144x512, .f32⟩
  | .local _ .vmem, ⟨13, _⟩ => ⟨S4x1x512, .f32⟩
  | _, _ => ⟨S4x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.addi c64_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, arg1.toNat, v27.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S16x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
abbrev S4x8192x8x96 : Shape := ⟨4, ![4, 8192, 8, 96]⟩
abbrev S4x8192x8x128 : Shape := ⟨4, ![4, 8192, 8, 128]⟩
abbrev S4x256x8x96 : Shape := ⟨4, ![4, 256, 8, 96]⟩
abbrev S4x256x8x128 : Shape := ⟨4, ![4, 256, 8, 128]⟩
abbrev S_ : Shape := ⟨0, ![]⟩
abbrev S4x8192x8x64 : Shape := ⟨4, ![4, 8192, 8, 64]⟩
abbrev S4x8192x8x32 : Shape := ⟨4, ![4, 8192, 8, 32]⟩
abbrev S4x8192x8x16 : Shape := ⟨4, ![4, 8192, 8, 16]⟩
abbrev S4x8192x8x48 : Shape := ⟨4, ![4, 8192, 8, 48]⟩
abbrev S4x256x8x64 : Shape := ⟨4, ![4, 256, 8, 64]⟩
abbrev S4x256x8x32 : Shape := ⟨4, ![4, 256, 8, 32]⟩
abbrev S4x256x8x16 : Shape := ⟨4, ![4, 256, 8, 16]⟩
abbrev S4x256x8x48 : Shape := ⟨4, ![4, 256, 8, 48]⟩
abbrev S32768x1024 : Shape := ⟨2, ![32768, 1024]⟩
abbrev S1024x1024 : Shape := ⟨2, ![1024, 1024]⟩
abbrev S33792x1024 : Shape := ⟨2, ![33792, 1024]⟩
abbrev S66x512x1024 : Shape := ⟨3, ![66, 512, 1024]⟩
abbrev S66x1024x512 : Shape := ⟨3, ![66, 1024, 512]⟩
abbrev S4x128x512 : Shape := ⟨3, ![4, 128, 512]⟩
abbrev S256x128 : Shape := ⟨2, ![256, 128]⟩
abbrev S1x128x256 : Shape := ⟨3, ![1, 128, 256]⟩
abbrev S8192x128 : Shape := ⟨2, ![8192, 128]⟩
abbrev S16x128x512 : Shape := ⟨3, ![16, 128, 512]⟩
abbrev S2048x128 : Shape := ⟨2, ![2048, 128]⟩
abbrev S4x144x512 : Shape := ⟨3, ![4, 144, 512]⟩
abbrev S4x1x512 : Shape := ⟨3, ![4, 1, 512]⟩
abbrev S1x128x512 : Shape := ⟨3, ![1, 128, 512]⟩
abbrev S128x512 : Shape := ⟨2, ![128, 512]⟩
abbrev S256x512 : Shape := ⟨2, ![256, 512]⟩
abbrev S512 : Shape := ⟨1, ![512]⟩
abbrev S1x512 : Shape := ⟨2, ![1, 512]⟩
abbrev S1x1x512 : Shape := ⟨3, ![1, 1, 512]⟩
abbrev S128x256 : Shape := ⟨2, ![128, 256]⟩
abbrev S16x256 : Shape := ⟨2, ![16, 256]⟩
abbrev S144x256 : Shape := ⟨2, ![144, 256]⟩
abbrev S144x512 : Shape := ⟨2, ![144, 512]⟩
abbrev S1x144x512 : Shape := ⟨3, ![1, 144, 512]⟩
abbrev S1024x128 : Shape := ⟨2, ![1024, 128]⟩
abbrev S1024x512 : Shape := ⟨2, ![1024, 512]⟩
abbrev S128x1024 : Shape := ⟨2, ![128, 1024]⟩
abbrev S16x1024 : Shape := ⟨2, ![16, 1024]⟩
abbrev S144x1024 : Shape := ⟨2, ![144, 1024]⟩
abbrev S512x128 : Shape := ⟨2, ![512, 128]⟩

abbrev nBuf : Space → Nat
  | .hbm => 67
  | .vmem => 14
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x128, .f32⟩
  | .hbm, ⟨3, _⟩ => ⟨S4x256x8x96, .f32⟩
  | .hbm, ⟨4, _⟩ => ⟨S4x256x8x96, .f32⟩
  | .hbm, ⟨5, _⟩ => ⟨S4x256x8x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8192x8x64, .f32⟩
  | .hbm, ⟨11, _⟩ => ⟨S4x8192x8x32, .f32⟩
  | .hbm, ⟨12, _⟩ => ⟨S4x8192x8x16, .f32⟩
  | .hbm, ⟨13, _⟩ => ⟨S4x8192x8x16, .f32⟩
  | .hbm, ⟨14, _⟩ => ⟨S_, .f32⟩
  | .hbm, ⟨15, _⟩ => ⟨S4x8192x8x32, .f32⟩
  | .hbm, ⟨16, _⟩ => ⟨S4x8192x8x48, .f32⟩
  | .hbm, ⟨17, _⟩ => ⟨S4x8192x8x16, .f32⟩
  | .hbm, ⟨18, _⟩ => ⟨S4x8192x8x128, .f32⟩
  | .hbm, ⟨19, _⟩ => ⟨S4x8192x8x128, .f32⟩
  | .hbm, ⟨20, _⟩ => ⟨S4x8192x8x128, .f32⟩
  | .hbm, ⟨21, _⟩ => ⟨S4x256x8x64, .f32⟩
  | .hbm, ⟨22, _⟩ => ⟨S4x256x8x32, .f32⟩
  | .hbm, ⟨23, _⟩ => ⟨S4x256x8x16, .f32⟩
  | .hbm, ⟨24, _⟩ => ⟨S4x256x8x16, .f32⟩
  | .hbm, ⟨25, _⟩ => ⟨S_, .f32⟩
  | .hbm, ⟨26, _⟩ => ⟨S4x256x8x32, .f32⟩
  | .hbm, ⟨27, _⟩ => ⟨S4x256x8x48, .f32⟩
  | .hbm, ⟨28, _⟩ => ⟨S4x256x8x16, .f32⟩
  | .hbm, ⟨29, _⟩ => ⟨S4x256x8x128, .f32⟩
  | .hbm, ⟨30, _⟩ => ⟨S4x256x8x128, .f32⟩
  | .hbm, ⟨31, _⟩ => ⟨S4x256x8x128, .f32⟩
  | .hbm, ⟨32, _⟩ => ⟨S32768x1024, .f32⟩
  | .hbm, ⟨33, _⟩ => ⟨S1024x1024, .f32⟩
  | .hbm, ⟨34, _⟩ => ⟨S33792x1024, .f32⟩
  | .hbm, ⟨35, _⟩ => ⟨S66x512x1024, .f32⟩
  | .hbm, ⟨36, _⟩ => ⟨S66x1024x512, .f32⟩
  | .hbm, ⟨37, _⟩ => ⟨S66x1024x512, .bf16⟩
  | .hbm, ⟨38, _⟩ => ⟨S4x8192x8x64, .f32⟩
  | .hbm, ⟨39, _⟩ => ⟨S4x8192x8x32, .f32⟩
  | .hbm, ⟨40, _⟩ => ⟨S4x8192x8x16, .f32⟩
  | .hbm, ⟨41, _⟩ => ⟨S4x8192x8x16, .f32⟩
  | .hbm, ⟨42, _⟩ => ⟨S_, .f32⟩
  | .hbm, ⟨43, _⟩ => ⟨S4x8192x8x32, .f32⟩
  | .hbm, ⟨44, _⟩ => ⟨S4x8192x8x48, .f32⟩
  | .hbm, ⟨45, _⟩ => ⟨S4x8192x8x16, .f32⟩
  | .hbm, ⟨46, _⟩ => ⟨S4x8192x8x128, .f32⟩
  | .hbm, ⟨47, _⟩ => ⟨S4x256x8x64, .f32⟩
  | .hbm, ⟨48, _⟩ => ⟨S4x256x8x32, .f32⟩
  | .hbm, ⟨49, _⟩ => ⟨S4x256x8x16, .f32⟩
  | .hbm, ⟨50, _⟩ => ⟨S4x256x8x16, .f32⟩
  | .hbm, ⟨51, _⟩ => ⟨S_, .f32⟩
  | .hbm, ⟨52, _⟩ => ⟨S4x256x8x32, .f32⟩
  | .hbm, ⟨53, _⟩ => ⟨S4x256x8x48, .f32⟩
  | .hbm, ⟨54, _⟩ => ⟨S4x256x8x16, .f32⟩
  | .hbm, ⟨55, _⟩ => ⟨S4x256x8x128, .f32⟩
  | .hbm, ⟨56, _⟩ => ⟨S32768x1024, .f32⟩
  | .hbm, ⟨57, _⟩ => ⟨S1024x1024, .f32⟩
  | .hbm, ⟨58, _⟩ => ⟨S33792x1024, .f32⟩
  | .hbm, ⟨59, _⟩ => ⟨S33792x1024, .bf16⟩
  | .hbm, ⟨60, _⟩ => ⟨S32768x1024, .f32⟩
  | .hbm, ⟨61, _⟩ => ⟨S1024x1024, .f32⟩
  | .hbm, ⟨62, _⟩ => ⟨S33792x1024, .f32⟩
  | .hbm, ⟨63, _⟩ => ⟨S66x512x1024, .f32⟩
  | .hbm, ⟨64, _⟩ => ⟨S66x1024x512, .f32⟩
  | .hbm, ⟨65, _⟩ => ⟨S66x1024x512, .bf16⟩
  | .hbm, ⟨66, _⟩ => ⟨S33792x1024, .bf16⟩
  | .local _ .vmem, ⟨0, _⟩ => ⟨S4x128x512, .bf16⟩
  | .local _ .vmem, ⟨1, _⟩ => ⟨S4x128x512, .bf16⟩
  | .local _ .vmem, ⟨2, _⟩ => ⟨S256x128, .bf16⟩
  | .local _ .vmem, ⟨3, _⟩ => ⟨S256x128, .bf16⟩
  | .local _ .vmem, ⟨4, _⟩ => ⟨S1x128x256, .bf16⟩
  | .local _ .vmem, ⟨5, _⟩ => ⟨S1x128x256, .bf16⟩
  | .local _ .vmem, ⟨6, _⟩ => ⟨S8192x128, .bf16⟩
  | .local _ .vmem, ⟨7, _⟩ => ⟨S8192x128, .bf16⟩
  | .local _ .vmem, ⟨8, _⟩ => ⟨S16x128x512, .bf16⟩
  | .local _ .vmem, ⟨9, _⟩ => ⟨S16x128x512, .bf16⟩
  | .local _ .vmem, ⟨10, _⟩ => ⟨S2048x128, .bf16⟩
  | .local _ .vmem, ⟨11, _⟩ => ⟨S2048x128, .bf16⟩
  | .local _ .vmem, ⟨12, _⟩ => ⟨S4x144x512, .f32⟩
  | .local _ .vmem, ⟨13, _⟩ => ⟨S4x1x512, .f32⟩
  | _, _ => ⟨S4x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.addi c64_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, arg1.toNat, v27.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S16x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x8192x8x96 : Shape := ⟨4, ![4, 8192, 8, 96]⟩
abbrev S4x8192x8x128 : Shape := ⟨4, ![4, 8192, 8, 128]⟩
abbrev S4x256x8x96 : Shape := ⟨4, ![4, 256, 8, 96]⟩
abbrev S4x256x8x128 : Shape := ⟨4, ![4, 256, 8, 128]⟩
abbrev S4x8448x8x96 : Shape := ⟨4, ![4, 8448, 8, 96]⟩
abbrev S4x8448x8x128 : Shape := ⟨4, ![4, 8448, 8, 128]⟩
abbrev S4x8x8192x8448 : Shape := ⟨4, ![4, 8, 8192, 8448]⟩
abbrev S_ : Shape := ⟨0, ![]⟩
abbrev S4x8x8192 : Shape := ⟨3, ![4, 8, 8192]⟩
abbrev S4x8x8192x1 : Shape := ⟨4, ![4, 8, 8192, 1]⟩
abbrev S4x8x128x8192 : Shape := ⟨4, ![4, 8, 128, 8192]⟩
abbrev S32768x1024 : Shape := ⟨2, ![32768, 1024]⟩
abbrev S1024x1024 : Shape := ⟨2, ![1024, 1024]⟩
abbrev S33792x1024 : Shape := ⟨2, ![33792, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x128, .f32⟩
  | .hbm, ⟨3, _⟩ => ⟨S4x256x8x96, .f32⟩
  | .hbm, ⟨4, _⟩ => ⟨S4x256x8x96, .f32⟩
  | .hbm, ⟨5, _⟩ => ⟨S4x256x8x128, .f32⟩
  | .hbm, ⟨6, _⟩ => ⟨S4x8448x8x96, .f32⟩
  | .hbm, ⟨7, _⟩ => ⟨S4x8448x8x128, .f32⟩
  | .hbm, ⟨8, _⟩ => ⟨S4x8x8192x8448, .f32⟩
  | .hbm, ⟨9, _⟩ => ⟨S_, .f32⟩
  | .hbm, ⟨10, _⟩ => ⟨S4x8x8192x8448, .f32⟩
  | .hbm, ⟨11, _⟩ => ⟨S4x8x8192x8448, .f32⟩
  | .hbm, ⟨12, _⟩ => ⟨S_, .f32⟩
  | .hbm, ⟨13, _⟩ => ⟨S4x8x8192, .f32⟩
  | .hbm, ⟨14, _⟩ => ⟨S_, .f32⟩
  | .hbm, ⟨15, _⟩ => ⟨S4x8x8192, .f32⟩
  | .hbm, ⟨16, _⟩ => ⟨S4x8x8192, .f32⟩
  | .hbm, ⟨17, _⟩ => ⟨S4x8x8192x1, .f32⟩
  | .hbm, ⟨18, _⟩ => ⟨S4x8x8192x8448, .f32⟩
  | .hbm, ⟨19, _⟩ => ⟨S4x8x8192x8448, .f32⟩
  | .hbm, ⟨20, _⟩ => ⟨S4x8x8192x8448, .f32⟩
  | .hbm, ⟨21, _⟩ => ⟨S_, .f32⟩
  | .hbm, ⟨22, _⟩ => ⟨S4x8x8192, .f32⟩
  | .hbm, ⟨23, _⟩ => ⟨S4x8x8192x1, .f32⟩
  | .hbm, ⟨24, _⟩ => ⟨S4x8x8192x8448, .f32⟩
  | .hbm, ⟨25, _⟩ => ⟨S4x8x8192x8448, .f32⟩
  | .hbm, ⟨26, _⟩ => ⟨S4x8x128x8192, .f32⟩
  | .hbm, ⟨27, _⟩ => ⟨S4x8192x8x128, .f32⟩
  | .hbm, ⟨28, _⟩ => ⟨S32768x1024, .f32⟩
  | .hbm, ⟨29, _⟩ => ⟨S_, .f32⟩
  | .hbm, ⟨30, _⟩ => ⟨S1024x1024, .f32⟩
  | .hbm, ⟨31, _⟩ => ⟨S33792x1024, .f32⟩
  | .hbm, ⟨32, _⟩ => ⟨S33792x1024, .bf16⟩
  | _, _ => ⟨S4x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Ffn.lean ====
abbrev S4x8192x1024 : Shape := ⟨3, ![4, 8192, 1024]⟩
abbrev S4x256x1024 : Shape := ⟨3, ![4, 256, 1024]⟩
abbrev S33792x1024 : Shape := ⟨2, ![33792, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1024x1024 : Shape := ⟨2, ![1024, 1024]⟩
abbrev S32768x1024 : Shape := ⟨2, ![32768, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 24
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S33792x1024, .f32⟩
  | .hbm, ⟨3, _⟩ => ⟨S4x9x1024, .f32⟩
  | .hbm, ⟨4, _⟩ => ⟨S9x1024, .f32⟩
  | .hbm, ⟨5, _⟩ => ⟨S4x3x1024, .f32⟩
  | .hbm, ⟨6, _⟩ => ⟨S4x2x1024x5632, .f32⟩
  | .hbm, ⟨7, _⟩ => ⟨S4x2x2816x1024, .f32⟩
  | .hbm, ⟨8, _⟩ => ⟨S1024x1024, .f32⟩
  | .hbm, ⟨9, _⟩ => ⟨S32768x1024, .f32⟩
  | .hbm, ⟨10, _⟩ => ⟨S1024x1024, .f32⟩
  | .hbm, ⟨11, _⟩ => ⟨S33792x1024, .f32⟩
  | .hbm, ⟨12, _⟩ => ⟨S1x9x1024, .f32⟩
  | .hbm, ⟨13, _⟩ => ⟨S_, .f32⟩
  | .hbm, ⟨14, _⟩ => ⟨S3x9x1024, .f32⟩
  | .hbm, ⟨15, _⟩ => ⟨S8x9x1024, .f32⟩
  | .hbm, ⟨16, _⟩ => ⟨S1x1x1024, .f32⟩
  | .hbm, ⟨17, _⟩ => ⟨S1024, .f32⟩
  | .hbm, ⟨18, _⟩ => ⟨S1x1024, .f32⟩
  | .hbm, ⟨19, _⟩ => ⟨S4x2x1024x5632, .bf16⟩
  | .hbm, ⟨20, _⟩ => ⟨S4x2x2816x1024, .bf16⟩
  | .hbm, ⟨21, _⟩ => ⟨S33792x1024, .bf16⟩
  | .hbm, ⟨22, _⟩ => ⟨S1024x1024, .bf16⟩
  | .hbm, ⟨23, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x9x1024, .f32⟩
  | .local _ .vmem, ⟨6, _⟩ => ⟨S1x9x1024, .f32⟩
  | .local _ .vmem, ⟨7, _⟩ => ⟨S1x1024, .f32⟩
  | .local _ .vmem, ⟨8, _⟩ => ⟨S1x1x1024x5632, .bf16⟩
  | .local _ .vmem, ⟨9, _⟩ => ⟨S1x1x2816x1024, .bf16⟩
  | .local _ .vmem, ⟨10, _⟩ => ⟨S512x1024, .f32⟩
  | .local _ .vmem, ⟨11, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_6 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnReferenceIdeal.lean ====
abbrev S4x8192x1024 : Shape := ⟨3, ![4, 8192, 1024]⟩
abbrev S4x256x1024 : Shape := ⟨3, ![4, 256, 1024]⟩
abbrev S33792x1024 : Shape := ⟨2, ![33792, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1024x1024 : Shape := ⟨2, ![1024, 1024]⟩
abbrev S32768x1024 : Shape := ⟨2, ![32768, 1024]⟩
abbrev S4x1x1024 : Shape := ⟨3, ![4, 1, 1024]⟩
abbrev S4x1024 : Shape := ⟨2, ![4, 1024]⟩
abbrev S1x1x1024 : Shape := ⟨3, ![1, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024x5632 : Shape := ⟨4, ![1, 1, 1024, 5632]⟩
abbrev S1024x5632 : Shape := ⟨2, ![1024, 5632]⟩
abbrev S4x8192x5632 : Shape := ⟨3, ![4, 8192, 5632]⟩
abbrev S4x8192x2816 : Shape := ⟨3, ![4, 8192, 2816]⟩
abbrev S1x1x2816x1024 : Shape := ⟨4, ![1, 1, 2816, 1024]⟩
abbrev S2816x1024 : Shape := ⟨2, ![2816, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S33792x1024, .f32⟩
  | .hbm, ⟨3, _⟩ => ⟨S4x9x1024, .f32⟩
  | .hbm, ⟨4, _⟩ => ⟨S9x1024, .f32⟩
  | .hbm, ⟨5, _⟩ => ⟨S4x3x1024, .f32⟩
  | .hbm, ⟨6, _⟩ => ⟨S4x2x1024x5632, .f32⟩
  | .hbm, ⟨7, _⟩ => ⟨S4x2x2816x1024, .f32⟩
  | .hbm, ⟨8, _⟩ => ⟨S1024x1024, .f32⟩
  | .hbm, ⟨9, _⟩ => ⟨S32768x1024, .f32⟩
  | .hbm, ⟨10, _⟩ => ⟨S4x8192x1024, .f32⟩
  | .hbm, ⟨11, _⟩ => ⟨S4x1x1024, .f32⟩
  | .hbm, ⟨12, _⟩ => ⟨S4x1024, .f32⟩
  | .hbm, ⟨13, _⟩ => ⟨S4x1x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x1x1024, .f32⟩
  | .hbm, ⟨19, _⟩ => ⟨S4x1024, .f32⟩
  | .hbm, ⟨20, _⟩ => ⟨S4x1x1024, .f32⟩
  | .hbm, ⟨21, _⟩ => ⟨S4x1x1024, .f32⟩
  | .hbm, ⟨22, _⟩ => ⟨S4x1024, .f32⟩
  | .hbm, ⟨23, _⟩ => ⟨S4x1x1024, .f32⟩
  | .hbm, ⟨24, _⟩ => ⟨S4x1x1024, .f32⟩
  | .hbm, ⟨25, _⟩ => ⟨S4x1024, .f32⟩
  | .hbm, ⟨26, _⟩ => ⟨S4x1x1024, .f32⟩
  | .hbm, ⟨27, _⟩ => ⟨S1x1x1024, .f32⟩
  | .hbm, ⟨28, _⟩ => ⟨S1024, .f32⟩
  | .hbm, ⟨29, _⟩ => ⟨S4x8192x1024, .f32⟩
  | .hbm, ⟨30, _⟩ => ⟨S_, .f32⟩
  | .hbm, ⟨31, _⟩ => ⟨S4x8192, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1, .f32⟩
  | .hbm, ⟨40, _⟩ => ⟨S4x8192x1024, .f32⟩
  | .hbm, ⟨41, _⟩ => ⟨S4x8192x1024, .f32⟩
  | .hbm, ⟨42, _⟩ => ⟨S1x1x1024, .f32⟩
  | .hbm, ⟨43, _⟩ => ⟨S4x8192x1024, .f32⟩
  | .hbm, ⟨44, _⟩ => ⟨S4x8192x1024, .f32⟩
  | .hbm, ⟨45, _⟩ => ⟨S_, .f32⟩
  | .hbm, ⟨46, _⟩ => ⟨S4x1x1024, .f32⟩
  | .hbm, ⟨47, _⟩ => ⟨S4x1x1024, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S1x1x1024x5632, .f32⟩
  | .hbm, ⟨53, _⟩ => ⟨S1024x5632, .f32⟩
  | .hbm, ⟨54, _⟩ => ⟨S4x8192x5632, .f32⟩
  | .hbm, ⟨55, _⟩ => ⟨S4x8192x2816, .f32⟩
  | .hbm, ⟨56, _⟩ => ⟨S4x8192x2816, .f32⟩
  | .hbm, ⟨57, _⟩ => ⟨S4x8192x2816, .f32⟩
  | .hbm, ⟨58, _⟩ => ⟨S4x8192x2816, .f32⟩
  | .hbm, ⟨59, _⟩ => ⟨S_, .f32⟩
  | .hbm, ⟨60, _⟩ => ⟨S4x8192x2816, .f32⟩
  | .hbm, ⟨61, _⟩ => ⟨S4x8192x2816, .f32⟩
  | .hbm, ⟨62, _⟩ => ⟨S_, .f32⟩
  | .hbm, ⟨63, _⟩ => ⟨S4x8192x2816, .f32⟩
  | .hbm, ⟨64, _⟩ => ⟨S4x8192x2816, .f32⟩
  | .hbm, ⟨65, _⟩ => ⟨S4x8192x2816, .f32⟩
  | .hbm, ⟨66, _⟩ => ⟨S4x8192x2816, .f32⟩
  | .hbm, ⟨67, _⟩ => ⟨S1x1x2816x1024, .f32⟩
  | .hbm, ⟨68, _⟩ => ⟨S2816x1024, .f32⟩
  | .hbm, ⟨69, _⟩ => ⟨S4x8192x1024, .f32⟩
  | .hbm, ⟨70, _⟩ => ⟨S_, .f32⟩
  | .hbm, ⟨71, _⟩ => ⟨S4x1x1024, .f32⟩
  | .hbm, ⟨72, _⟩ => ⟨S4x1x1024, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_3 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Ffn00.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S1024x1024 : Shape := ⟨2, ![1024, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S33792x1024 : Shape := ⟨2, ![33792, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 19
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x9x1024, .f32⟩
  | .hbm, ⟨3, _⟩ => ⟨S9x1024, .f32⟩
  | .hbm, ⟨4, _⟩ => ⟨S4x3x1024, .f32⟩
  | .hbm, ⟨5, _⟩ => ⟨S4x2x1024x5632, .f32⟩
  | .hbm, ⟨6, _⟩ => ⟨S4x2x2816x1024, .f32⟩
  | .hbm, ⟨7, _⟩ => ⟨S32768x1024, .f32⟩
  | .hbm, ⟨8, _⟩ => ⟨S1024x1024, .f32⟩
  | .hbm, ⟨9, _⟩ => ⟨S1x9x1024, .f32⟩
  | .hbm, ⟨10, _⟩ => ⟨S_, .f32⟩
  | .hbm, ⟨11, _⟩ => ⟨S3x9x1024, .f32⟩
  | .hbm, ⟨12, _⟩ => ⟨S8x9x1024, .f32⟩
  | .hbm, ⟨13, _⟩ => ⟨S1x1x1024, .f32⟩
  | .hbm, ⟨14, _⟩ => ⟨S1024, .f32⟩
  | .hbm, ⟨15, _⟩ => ⟨S1x1024, .f32⟩
  | .hbm, ⟨16, _⟩ => ⟨S4x2x1024x5632, .bf16⟩
  | .hbm, ⟨17, _⟩ => ⟨S4x2x2816x1024, .bf16⟩
  | .hbm, ⟨18, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x9x1024, .f32⟩
  | .local _ .vmem, ⟨5, _⟩ => ⟨S1x9x1024, .f32⟩
  | .local _ .vmem, ⟨6, _⟩ => ⟨S1x1024, .f32⟩
  | .local _ .vmem, ⟨7, _⟩ => ⟨S1x1x1024x5632, .bf16⟩
  | .local _ .vmem, ⟨8, _⟩ => ⟨S1x1x2816x1024, .bf16⟩
  | .local _ .vmem, ⟨9, _⟩ => ⟨S512x1024, .f32⟩
  | .local _ .vmem, ⟨10, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Ffn00Ideal.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S1024x1024 : Shape := ⟨2, ![1024, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S33792x1024 : Shape := ⟨2, ![33792, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 19
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x9x1024, .f32⟩
  | .hbm, ⟨3, _⟩ => ⟨S9x1024, .f32⟩
  | .hbm, ⟨4, _⟩ => ⟨S4x3x1024, .f32⟩
  | .hbm, ⟨5, _⟩ => ⟨S4x2x1024x5632, .f32⟩
  | .hbm, ⟨6, _⟩ => ⟨S4x2x2816x1024, .f32⟩
  | .hbm, ⟨7, _⟩ => ⟨S32768x1024, .f32⟩
  | .hbm, ⟨8, _⟩ => ⟨S1024x1024, .f32⟩
  | .hbm, ⟨9, _⟩ => ⟨S1x9x1024, .f32⟩
  | .hbm, ⟨10, _⟩ => ⟨S_, .f32⟩
  | .hbm, ⟨11, _⟩ => ⟨S3x9x1024, .f32⟩
  | .hbm, ⟨12, _⟩ => ⟨S8x9x1024, .f32⟩
  | .hbm, ⟨13, _⟩ => ⟨S1x1x1024, .f32⟩
  | .hbm, ⟨14, _⟩ => ⟨S1024, .f32⟩
  | .hbm, ⟨15, _⟩ => ⟨S1x1024, .f32⟩
  | .hbm, ⟨16, _⟩ => ⟨S4x2x1024x5632, .bf16⟩
  | .hbm, ⟨17, _⟩ => ⟨S4x2x2816x1024, .bf16⟩
  | .hbm, ⟨18, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x9x1024, .f32⟩
  | .local _ .vmem, ⟨5, _⟩ => ⟨S1x9x1024, .f32⟩
  | .local _ .vmem, ⟨6, _⟩ => ⟨S1x1024, .f32⟩
  | .local _ .vmem, ⟨7, _⟩ => ⟨S1x1x1024x5632, .bf16⟩
  | .local _ .vmem, ⟨8, _⟩ => ⟨S1x1x2816x1024, .bf16⟩
  | .local _ .vmem, ⟨9, _⟩ => ⟨S512x1024, .f32⟩
  | .local _ .vmem, ⟨10, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Ffn00ReferenceIdeal.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1x1024 : Shape := ⟨3, ![1, 1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S4x8192x5632 : Shape := ⟨3, ![4, 8192, 5632]⟩
abbrev S4x8192x2816 : Shape := ⟨3, ![4, 8192, 2816]⟩
abbrev S1x1024 : Shape := ⟨2, ![1, 1024]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩
abbrev S32768x1024 : Shape := ⟨2, ![32768, 1024]⟩
abbrev S1024x1024 : Shape := ⟨2, ![1024, 1024]⟩
abbrev S33792x1024 : Shape := ⟨2, ![33792, 1024]⟩

abbrev nBuf : Space → Nat
  | .hbm => 129
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x9x1024, .f32⟩
  | 3 => ⟨S9x1024, .f32⟩
  | 4 => ⟨S4x3x1024, .f32⟩
  | 5 => ⟨S4x2x1024x5632, .f32⟩
  | 6 => ⟨S4x2x2816x1024, .f32⟩
  | 7 => ⟨S1x1x1024, .f32⟩
  | 8 => ⟨S1024, .f32⟩
  | 9 => ⟨S1x1x1024x5632, .f32⟩
  | 10 => ⟨S1024x5632, .f32⟩
  | 11 => ⟨S1x1x2816x1024, .f32⟩
  | 12 => ⟨S2816x1024, .f32⟩
  | 13 => ⟨S4x1x1024, .f32⟩
  | 14 => ⟨S4x1024, .f32⟩
  | 15 => ⟨S4x1x1024, .f32⟩
  | 16 => ⟨S4x1x1024, .f32⟩
  | 17 => ⟨S4x1024, .f32⟩
  | 18 => ⟨S4x1x1024, .f32⟩
  | 19 => ⟨S4x1x1024, .f32⟩
  | 20 => ⟨S4x1024, .f32⟩
  | 21 => ⟨S4x1x1024, .f32⟩
  | 22 => ⟨S4x8192x1024, .f32⟩
  | 23 => ⟨S_, .f32⟩
  | 24 => ⟨S4x8192, .f32⟩
  | 25 => ⟨S4x8192x1, .f32⟩
  | 26 => ⟨S_, .f32⟩
  | 27 => ⟨S4x8192x1, .f32⟩
  | 28 => ⟨S4x8192x1, .f32⟩
  | 29 => ⟨S_, .f32⟩
  | 30 => ⟨S4x8192x1, .f32⟩
  | 31 => ⟨S4x8192x1, .f32⟩
  | 32 => ⟨S4x8192x1, .f32⟩
  | 33 => ⟨S4x8192x1024, .f32⟩
  | 34 => ⟨S4x8192x1024, .f32⟩
  | 35 => ⟨S1x1x1024, .f32⟩
  | 36 => ⟨S4x8192x1024, .f32⟩
  | 37 => ⟨S4x8192x1024, .f32⟩
  | 38 => ⟨S_, .f32⟩
  | 39 => ⟨S4x1x1024, .f32⟩
  | 40 => ⟨S4x1x1024, .f32⟩
  | 41 => ⟨S4x8192x1024, .f32⟩
  | 42 => ⟨S4x8192x1024, .f32⟩
  | 43 => ⟨S4x8192x1024, .f32⟩
  | 44 => ⟨S4x8192x1024, .f32⟩
  | 45 => ⟨S4x8192x5632, .f32⟩
  | 46 => ⟨S4x8192x2816, .f32⟩
  | 47 => ⟨S4x8192x2816, .f32⟩
  | 48 => ⟨S_, .f32⟩
  | 49 => ⟨S4x1x1024, .f32⟩
  | 50 => ⟨S4x1x1024, .f32⟩
  | 51 => ⟨S4x8192x2816, .f32⟩
  | 52 => ⟨S4x8192x2816, .f32⟩
  | 53 => ⟨S_, .f32⟩
  | 54 => ⟨S4x8192x2816, .f32⟩
  | 55 => ⟨S4x8192x2816, .f32⟩
  | 56 => ⟨S_, .f32⟩
  | 57 => ⟨S4x8192x2816, .f32⟩
  | 58 => ⟨S4x8192x2816, .f32⟩
  | 59 => ⟨S4x8192x2816, .f32⟩
  | 60 => ⟨S4x8192x2816, .f32⟩
  | 61 => ⟨S4x8192x1024, .f32⟩
  | 62 => ⟨S4x8192x1024, .f32⟩
  | 63 => ⟨S4x8192x1024, .f32⟩
  | 64 => ⟨S4x8192x1024, .f32⟩
  | 65 => ⟨S1x1x1024, .f32⟩
  | 66 => ⟨S1024, .f32⟩
  | 67 => ⟨S1x1x1024x5632, .f32⟩
  | 68 => ⟨S1024x5632, .f32⟩
  | 69 => ⟨S1x1x2816x1024, .f32⟩
  | 70 => ⟨S2816x1024, .f32⟩
  | 71 => ⟨S1x1024, .f32⟩
  | 72 => ⟨S1024, .f32⟩
  | 73 => ⟨S1x1024, .f32⟩
  | 74 => ⟨S1x1024, .f32⟩
  | 75 => ⟨S1024, .f32⟩
  | 76 => ⟨S1x1024, .f32⟩
  | 77 => ⟨S1x1024, .f32⟩
  | 78 => ⟨S1024, .f32⟩
  | 79 => ⟨S1x1024, .f32⟩
  | 80 => ⟨S4x256x1024, .f32⟩
  | 81 => ⟨S_, .f32⟩
  | 82 => ⟨S4x256, .f32⟩
  | 83 => ⟨S4x256x1, .f32⟩
  | 84 => ⟨S_, .f32⟩
  | 85 => ⟨S4x256x1, .f32⟩
  | 86 => ⟨S4x256x1, .f32⟩
  | 87 => ⟨S_, .f32⟩
  | 88 => ⟨S4x256x1, .f32⟩
  | 89 => ⟨S4x256x1, .f32⟩
  | 90 => ⟨S4x256x1, .f32⟩
  | 91 => ⟨S4x256x1024, .f32⟩
  | 92 => ⟨S4x256x1024, .f32⟩
  | 93 => ⟨S1x1x1024, .f32⟩
  | 94 => ⟨S4x256x1024, .f32⟩
  | 95 => ⟨S4x256x1024, .f32⟩
  | 96 => ⟨S_, .f32⟩
  | 97 => ⟨S1x1024, .f32⟩
  | 98 => ⟨S1x1024, .f32⟩
  | 99 => ⟨S1x1x1024, .f32⟩
  | 100 => ⟨S4x256x1024, .f32⟩
  | 101 => ⟨S4x256x1024, .f32⟩
  | 102 => ⟨S1x1x1024, .f32⟩
  | 103 => ⟨S4x256x1024, .f32⟩
  | 104 => ⟨S4x256x1024, .f32⟩
  | 105 => ⟨S4x256x5632, .f32⟩
  | 106 => ⟨S4x256x2816, .f32⟩
  | 107 => ⟨S4x256x2816, .f32⟩
  | 108 => ⟨S_, .f32⟩
  | 109 => ⟨S1x1024, .f32⟩
  | 110 => ⟨S1x1024, .f32⟩
  | 111 => ⟨S4x256x2816, .f32⟩
  | 112 => ⟨S4x256x2816, .f32⟩
  | 113 => ⟨S_, .f32⟩
  | 114 => ⟨S4x256x2816, .f32⟩
  | 115 => ⟨S4x256x2816, .f32⟩
  | 116 => ⟨S_, .f32⟩
  | 117 => ⟨S4x256x2816, .f32⟩
  | 118 => ⟨S4x256x2816, .f32⟩
  | 119 => ⟨S4x256x2816, .f32⟩
  | 120 => ⟨S4x256x2816, .f32⟩
  | 121 => ⟨S4x256x1024, .f32⟩
  | 122 => ⟨S1x1x1024, .f32⟩
  | 123 => ⟨S4x256x1024, .f32⟩
  | 124 => ⟨S4x256x1024, .f32⟩
  | 125 => ⟨S4x256x1024, .f32⟩
  | 126 => ⟨S32768x1024, .f32⟩
  | 127 => ⟨S1024x1024, .f32⟩
  | _ => ⟨S4x8192x1024, .f32⟩

abbrev hbmTy0_1 (i : Nat) : BufTy := match i % 128 with
  | 0 => ⟨S33792x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_4 : Ref sig .tc := ⟨.hbm, 81, rfl⟩
abbrev main_v61 : Ref sig .tc := ⟨.hbm, 82, rfl⟩
abbrev main_v62 : Ref sig .tc := ⟨.hbm, 83, rfl⟩
abbrev main_cst_5 : Ref sig .tc := ⟨.hbm, 84, rfl⟩
abbrev main_v63 : Ref sig .tc := ⟨.hbm, 85, rfl⟩
abbrev main_v64 : Ref sig .tc := ⟨.hbm, 86, rfl⟩
abbrev main_cst_6 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_7 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_8 : Ref sig .tc := ⟨.hbm, 108, rfl⟩
abbrev main_v84 : Ref sig .tc := ⟨.hbm, 109, rfl⟩
abbrev main_v85 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]
-- ==== Ffn01.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S1024x1024 : Shape := ⟨2, ![1024, 1024]⟩
abbrev S33792x1024 : Shape := ⟨2, ![33792, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 20
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x9x1024, .f32⟩
  | .hbm, ⟨3, _⟩ => ⟨S9x1024, .f32⟩
  | .hbm, ⟨4, _⟩ => ⟨S4x3x1024, .f32⟩
  | .hbm, ⟨5, _⟩ => ⟨S4x2x1024x5632, .f32⟩
  | .hbm, ⟨6, _⟩ => ⟨S4x2x2816x1024, .f32⟩
  | .hbm, ⟨7, _⟩ => ⟨S32768x1024, .f32⟩
  | .hbm, ⟨8, _⟩ => ⟨S1024x1024, .f32⟩
  | .hbm, ⟨9, _⟩ => ⟨S33792x1024, .f32⟩
  | .hbm, ⟨10, _⟩ => ⟨S1x9x1024, .f32⟩
  | .hbm, ⟨11, _⟩ => ⟨S_, .f32⟩
  | .hbm, ⟨12, _⟩ => ⟨S3x9x1024, .f32⟩
  | .hbm, ⟨13, _⟩ => ⟨S8x9x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S4x2x1024x5632, .bf16⟩
  | .hbm, ⟨18, _⟩ => ⟨S4x2x2816x1024, .bf16⟩
  | .hbm, ⟨19, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn01Ideal.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S1024x1024 : Shape := ⟨2, ![1024, 1024]⟩
abbrev S33792x1024 : Shape := ⟨2, ![33792, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 20
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x9x1024, .f32⟩
  | .hbm, ⟨3, _⟩ => ⟨S9x1024, .f32⟩
  | .hbm, ⟨4, _⟩ => ⟨S4x3x1024, .f32⟩
  | .hbm, ⟨5, _⟩ => ⟨S4x2x1024x5632, .f32⟩
  | .hbm, ⟨6, _⟩ => ⟨S4x2x2816x1024, .f32⟩
  | .hbm, ⟨7, _⟩ => ⟨S32768x1024, .f32⟩
  | .hbm, ⟨8, _⟩ => ⟨S1024x1024, .f32⟩
  | .hbm, ⟨9, _⟩ => ⟨S33792x1024, .f32⟩
  | .hbm, ⟨10, _⟩ => ⟨S1x9x1024, .f32⟩
  | .hbm, ⟨11, _⟩ => ⟨S_, .f32⟩
  | .hbm, ⟨12, _⟩ => ⟨S3x9x1024, .f32⟩
  | .hbm, ⟨13, _⟩ => ⟨S8x9x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S4x2x1024x5632, .bf16⟩
  | .hbm, ⟨18, _⟩ => ⟨S4x2x2816x1024, .bf16⟩
  | .hbm, ⟨19, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn01ReferenceIdeal.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1x1024 : Shape := ⟨3, ![1, 1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S4x8192x5632 : Shape := ⟨3, ![4, 8192, 5632]⟩
abbrev S4x8192x2816 : Shape := ⟨3, ![4, 8192, 2816]⟩
abbrev S1x1024 : Shape := ⟨2, ![1, 1024]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩
abbrev S32768x1024 : Shape := ⟨2, ![32768, 1024]⟩
abbrev S1024x1024 : Shape := ⟨2, ![1024, 1024]⟩
abbrev S33792x1024 : Shape := ⟨2, ![33792, 1024]⟩

abbrev nBuf : Space → Nat
  | .hbm => 129
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x9x1024, .f32⟩
  | 3 => ⟨S9x1024, .f32⟩
  | 4 => ⟨S4x3x1024, .f32⟩
  | 5 => ⟨S4x2x1024x5632, .f32⟩
  | 6 => ⟨S4x2x2816x1024, .f32⟩
  | 7 => ⟨S1x1x1024, .f32⟩
  | 8 => ⟨S1024, .f32⟩
  | 9 => ⟨S1x1x1024x5632, .f32⟩
  | 10 => ⟨S1024x5632, .f32⟩
  | 11 => ⟨S1x1x2816x1024, .f32⟩
  | 12 => ⟨S2816x1024, .f32⟩
  | 13 => ⟨S4x1x1024, .f32⟩
  | 14 => ⟨S4x1024, .f32⟩
  | 15 => ⟨S4x1x1024, .f32⟩
  | 16 => ⟨S4x1x1024, .f32⟩
  | 17 => ⟨S4x1024, .f32⟩
  | 18 => ⟨S4x1x1024, .f32⟩
  | 19 => ⟨S4x1x1024, .f32⟩
  | 20 => ⟨S4x1024, .f32⟩
  | 21 => ⟨S4x1x1024, .f32⟩
  | 22 => ⟨S4x8192x1024, .f32⟩
  | 23 => ⟨S_, .f32⟩
  | 24 => ⟨S4x8192, .f32⟩
  | 25 => ⟨S4x8192x1, .f32⟩
  | 26 => ⟨S_, .f32⟩
  | 27 => ⟨S4x8192x1, .f32⟩
  | 28 => ⟨S4x8192x1, .f32⟩
  | 29 => ⟨S_, .f32⟩
  | 30 => ⟨S4x8192x1, .f32⟩
  | 31 => ⟨S4x8192x1, .f32⟩
  | 32 => ⟨S4x8192x1, .f32⟩
  | 33 => ⟨S4x8192x1024, .f32⟩
  | 34 => ⟨S4x8192x1024, .f32⟩
  | 35 => ⟨S1x1x1024, .f32⟩
  | 36 => ⟨S4x8192x1024, .f32⟩
  | 37 => ⟨S4x8192x1024, .f32⟩
  | 38 => ⟨S_, .f32⟩
  | 39 => ⟨S4x1x1024, .f32⟩
  | 40 => ⟨S4x1x1024, .f32⟩
  | 41 => ⟨S4x8192x1024, .f32⟩
  | 42 => ⟨S4x8192x1024, .f32⟩
  | 43 => ⟨S4x8192x1024, .f32⟩
  | 44 => ⟨S4x8192x1024, .f32⟩
  | 45 => ⟨S4x8192x5632, .f32⟩
  | 46 => ⟨S4x8192x2816, .f32⟩
  | 47 => ⟨S4x8192x2816, .f32⟩
  | 48 => ⟨S_, .f32⟩
  | 49 => ⟨S4x1x1024, .f32⟩
  | 50 => ⟨S4x1x1024, .f32⟩
  | 51 => ⟨S4x8192x2816, .f32⟩
  | 52 => ⟨S4x8192x2816, .f32⟩
  | 53 => ⟨S_, .f32⟩
  | 54 => ⟨S4x8192x2816, .f32⟩
  | 55 => ⟨S4x8192x2816, .f32⟩
  | 56 => ⟨S_, .f32⟩
  | 57 => ⟨S4x8192x2816, .f32⟩
  | 58 => ⟨S4x8192x2816, .f32⟩
  | 59 => ⟨S4x8192x2816, .f32⟩
  | 60 => ⟨S4x8192x2816, .f32⟩
  | 61 => ⟨S4x8192x1024, .f32⟩
  | 62 => ⟨S4x8192x1024, .f32⟩
  | 63 => ⟨S4x8192x1024, .f32⟩
  | 64 => ⟨S4x8192x1024, .f32⟩
  | 65 => ⟨S1x1x1024, .f32⟩
  | 66 => ⟨S1024, .f32⟩
  | 67 => ⟨S1x1x1024x5632, .f32⟩
  | 68 => ⟨S1024x5632, .f32⟩
  | 69 => ⟨S1x1x2816x1024, .f32⟩
  | 70 => ⟨S2816x1024, .f32⟩
  | 71 => ⟨S1x1024, .f32⟩
  | 72 => ⟨S1024, .f32⟩
  | 73 => ⟨S1x1024, .f32⟩
  | 74 => ⟨S1x1024, .f32⟩
  | 75 => ⟨S1024, .f32⟩
  | 76 => ⟨S1x1024, .f32⟩
  | 77 => ⟨S1x1024, .f32⟩
  | 78 => ⟨S1024, .f32⟩
  | 79 => ⟨S1x1024, .f32⟩
  | 80 => ⟨S4x256x1024, .f32⟩
  | 81 => ⟨S_, .f32⟩
  | 82 => ⟨S4x256, .f32⟩
  | 83 => ⟨S4x256x1, .f32⟩
  | 84 => ⟨S_, .f32⟩
  | 85 => ⟨S4x256x1, .f32⟩
  | 86 => ⟨S4x256x1, .f32⟩
  | 87 => ⟨S_, .f32⟩
  | 88 => ⟨S4x256x1, .f32⟩
  | 89 => ⟨S4x256x1, .f32⟩
  | 90 => ⟨S4x256x1, .f32⟩
  | 91 => ⟨S4x256x1024, .f32⟩
  | 92 => ⟨S4x256x1024, .f32⟩
  | 93 => ⟨S1x1x1024, .f32⟩
  | 94 => ⟨S4x256x1024, .f32⟩
  | 95 => ⟨S4x256x1024, .f32⟩
  | 96 => ⟨S_, .f32⟩
  | 97 => ⟨S1x1024, .f32⟩
  | 98 => ⟨S1x1024, .f32⟩
  | 99 => ⟨S1x1x1024, .f32⟩
  | 100 => ⟨S4x256x1024, .f32⟩
  | 101 => ⟨S4x256x1024, .f32⟩
  | 102 => ⟨S1x1x1024, .f32⟩
  | 103 => ⟨S4x256x1024, .f32⟩
  | 104 => ⟨S4x256x1024, .f32⟩
  | 105 => ⟨S4x256x5632, .f32⟩
  | 106 => ⟨S4x256x2816, .f32⟩
  | 107 => ⟨S4x256x2816, .f32⟩
  | 108 => ⟨S_, .f32⟩
  | 109 => ⟨S1x1024, .f32⟩
  | 110 => ⟨S1x1024, .f32⟩
  | 111 => ⟨S4x256x2816, .f32⟩
  | 112 => ⟨S4x256x2816, .f32⟩
  | 113 => ⟨S_, .f32⟩
  | 114 => ⟨S4x256x2816, .f32⟩
  | 115 => ⟨S4x256x2816, .f32⟩
  | 116 => ⟨S_, .f32⟩
  | 117 => ⟨S4x256x2816, .f32⟩
  | 118 => ⟨S4x256x2816, .f32⟩
  | 119 => ⟨S4x256x2816, .f32⟩
  | 120 => ⟨S4x256x2816, .f32⟩
  | 121 => ⟨S4x256x1024, .f32⟩
  | 122 => ⟨S1x1x1024, .f32⟩
  | 123 => ⟨S4x256x1024, .f32⟩
  | 124 => ⟨S4x256x1024, .f32⟩
  | 125 => ⟨S4x256x1024, .f32⟩
  | 126 => ⟨S32768x1024, .f32⟩
  | 127 => ⟨S1024x1024, .f32⟩
  | _ => ⟨S4x8192x1024, .f32⟩

abbrev hbmTy0_1 (i : Nat) : BufTy := match i % 128 with
  | 0 => ⟨S33792x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_4 : Ref sig .tc := ⟨.hbm, 81, rfl⟩
abbrev main_v61 : Ref sig .tc := ⟨.hbm, 82, rfl⟩
abbrev main_v62 : Ref sig .tc := ⟨.hbm, 83, rfl⟩
abbrev main_cst_5 : Ref sig .tc := ⟨.hbm, 84, rfl⟩
abbrev main_v63 : Ref sig .tc := ⟨.hbm, 85, rfl⟩
abbrev main_v64 : Ref sig .tc := ⟨.hbm, 86, rfl⟩
abbrev main_cst_6 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_7 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_8 : Ref sig .tc := ⟨.hbm, 108, rfl⟩
abbrev main_v84 : Ref sig .tc := ⟨.hbm, 109, rfl⟩
abbrev main_v85 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]
-- ==== Ffn10.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S1024x1024 : Shape := ⟨2, ![1024, 1024]⟩
abbrev S33792x1024 : Shape := ⟨2, ![33792, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 20
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x9x1024, .f32⟩
  | .hbm, ⟨3, _⟩ => ⟨S9x1024, .f32⟩
  | .hbm, ⟨4, _⟩ => ⟨S4x3x1024, .f32⟩
  | .hbm, ⟨5, _⟩ => ⟨S4x2x1024x5632, .f32⟩
  | .hbm, ⟨6, _⟩ => ⟨S4x2x2816x1024, .f32⟩
  | .hbm, ⟨7, _⟩ => ⟨S32768x1024, .f32⟩
  | .hbm, ⟨8, _⟩ => ⟨S1024x1024, .f32⟩
  | .hbm, ⟨9, _⟩ => ⟨S33792x1024, .f32⟩
  | .hbm, ⟨10, _⟩ => ⟨S1x9x1024, .f32⟩
  | .hbm, ⟨11, _⟩ => ⟨S_, .f32⟩
  | .hbm, ⟨12, _⟩ => ⟨S3x9x1024, .f32⟩
  | .hbm, ⟨13, _⟩ => ⟨S8x9x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S4x2x1024x5632, .bf16⟩
  | .hbm, ⟨18, _⟩ => ⟨S4x2x2816x1024, .bf16⟩
  | .hbm, ⟨19, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn10Ideal.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S1024x1024 : Shape := ⟨2, ![1024, 1024]⟩
abbrev S33792x1024 : Shape := ⟨2, ![33792, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 20
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x9x1024, .f32⟩
  | .hbm, ⟨3, _⟩ => ⟨S9x1024, .f32⟩
  | .hbm, ⟨4, _⟩ => ⟨S4x3x1024, .f32⟩
  | .hbm, ⟨5, _⟩ => ⟨S4x2x1024x5632, .f32⟩
  | .hbm, ⟨6, _⟩ => ⟨S4x2x2816x1024, .f32⟩
  | .hbm, ⟨7, _⟩ => ⟨S32768x1024, .f32⟩
  | .hbm, ⟨8, _⟩ => ⟨S1024x1024, .f32⟩
  | .hbm, ⟨9, _⟩ => ⟨S33792x1024, .f32⟩
  | .hbm, ⟨10, _⟩ => ⟨S1x9x1024, .f32⟩
  | .hbm, ⟨11, _⟩ => ⟨S_, .f32⟩
  | .hbm, ⟨12, _⟩ => ⟨S3x9x1024, .f32⟩
  | .hbm, ⟨13, _⟩ => ⟨S8x9x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S4x2x1024x5632, .bf16⟩
  | .hbm, ⟨18, _⟩ => ⟨S4x2x2816x1024, .bf16⟩
  | .hbm, ⟨19, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn10ReferenceIdeal.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1x1024 : Shape := ⟨3, ![1, 1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S4x8192x5632 : Shape := ⟨3, ![4, 8192, 5632]⟩
abbrev S4x8192x2816 : Shape := ⟨3, ![4, 8192, 2816]⟩
abbrev S1x1024 : Shape := ⟨2, ![1, 1024]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩
abbrev S32768x1024 : Shape := ⟨2, ![32768, 1024]⟩
abbrev S1024x1024 : Shape := ⟨2, ![1024, 1024]⟩
abbrev S33792x1024 : Shape := ⟨2, ![33792, 1024]⟩

abbrev nBuf : Space → Nat
  | .hbm => 129
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x9x1024, .f32⟩
  | 3 => ⟨S9x1024, .f32⟩
  | 4 => ⟨S4x3x1024, .f32⟩
  | 5 => ⟨S4x2x1024x5632, .f32⟩
  | 6 => ⟨S4x2x2816x1024, .f32⟩
  | 7 => ⟨S1x1x1024, .f32⟩
  | 8 => ⟨S1024, .f32⟩
  | 9 => ⟨S1x1x1024x5632, .f32⟩
  | 10 => ⟨S1024x5632, .f32⟩
  | 11 => ⟨S1x1x2816x1024, .f32⟩
  | 12 => ⟨S2816x1024, .f32⟩
  | 13 => ⟨S4x1x1024, .f32⟩
  | 14 => ⟨S4x1024, .f32⟩
  | 15 => ⟨S4x1x1024, .f32⟩
  | 16 => ⟨S4x1x1024, .f32⟩
  | 17 => ⟨S4x1024, .f32⟩
  | 18 => ⟨S4x1x1024, .f32⟩
  | 19 => ⟨S4x1x1024, .f32⟩
  | 20 => ⟨S4x1024, .f32⟩
  | 21 => ⟨S4x1x1024, .f32⟩
  | 22 => ⟨S4x8192x1024, .f32⟩
  | 23 => ⟨S_, .f32⟩
  | 24 => ⟨S4x8192, .f32⟩
  | 25 => ⟨S4x8192x1, .f32⟩
  | 26 => ⟨S_, .f32⟩
  | 27 => ⟨S4x8192x1, .f32⟩
  | 28 => ⟨S4x8192x1, .f32⟩
  | 29 => ⟨S_, .f32⟩
  | 30 => ⟨S4x8192x1, .f32⟩
  | 31 => ⟨S4x8192x1, .f32⟩
  | 32 => ⟨S4x8192x1, .f32⟩
  | 33 => ⟨S4x8192x1024, .f32⟩
  | 34 => ⟨S4x8192x1024, .f32⟩
  | 35 => ⟨S1x1x1024, .f32⟩
  | 36 => ⟨S4x8192x1024, .f32⟩
  | 37 => ⟨S4x8192x1024, .f32⟩
  | 38 => ⟨S_, .f32⟩
  | 39 => ⟨S4x1x1024, .f32⟩
  | 40 => ⟨S4x1x1024, .f32⟩
  | 41 => ⟨S4x8192x1024, .f32⟩
  | 42 => ⟨S4x8192x1024, .f32⟩
  | 43 => ⟨S4x8192x1024, .f32⟩
  | 44 => ⟨S4x8192x1024, .f32⟩
  | 45 => ⟨S4x8192x5632, .f32⟩
  | 46 => ⟨S4x8192x2816, .f32⟩
  | 47 => ⟨S4x8192x2816, .f32⟩
  | 48 => ⟨S_, .f32⟩
  | 49 => ⟨S4x1x1024, .f32⟩
  | 50 => ⟨S4x1x1024, .f32⟩
  | 51 => ⟨S4x8192x2816, .f32⟩
  | 52 => ⟨S4x8192x2816, .f32⟩
  | 53 => ⟨S_, .f32⟩
  | 54 => ⟨S4x8192x2816, .f32⟩
  | 55 => ⟨S4x8192x2816, .f32⟩
  | 56 => ⟨S_, .f32⟩
  | 57 => ⟨S4x8192x2816, .f32⟩
  | 58 => ⟨S4x8192x2816, .f32⟩
  | 59 => ⟨S4x8192x2816, .f32⟩
  | 60 => ⟨S4x8192x2816, .f32⟩
  | 61 => ⟨S4x8192x1024, .f32⟩
  | 62 => ⟨S4x8192x1024, .f32⟩
  | 63 => ⟨S4x8192x1024, .f32⟩
  | 64 => ⟨S4x8192x1024, .f32⟩
  | 65 => ⟨S1x1x1024, .f32⟩
  | 66 => ⟨S1024, .f32⟩
  | 67 => ⟨S1x1x1024x5632, .f32⟩
  | 68 => ⟨S1024x5632, .f32⟩
  | 69 => ⟨S1x1x2816x1024, .f32⟩
  | 70 => ⟨S2816x1024, .f32⟩
  | 71 => ⟨S1x1024, .f32⟩
  | 72 => ⟨S1024, .f32⟩
  | 73 => ⟨S1x1024, .f32⟩
  | 74 => ⟨S1x1024, .f32⟩
  | 75 => ⟨S1024, .f32⟩
  | 76 => ⟨S1x1024, .f32⟩
  | 77 => ⟨S1x1024, .f32⟩
  | 78 => ⟨S1024, .f32⟩
  | 79 => ⟨S1x1024, .f32⟩
  | 80 => ⟨S4x256x1024, .f32⟩
  | 81 => ⟨S_, .f32⟩
  | 82 => ⟨S4x256, .f32⟩
  | 83 => ⟨S4x256x1, .f32⟩
  | 84 => ⟨S_, .f32⟩
  | 85 => ⟨S4x256x1, .f32⟩
  | 86 => ⟨S4x256x1, .f32⟩
  | 87 => ⟨S_, .f32⟩
  | 88 => ⟨S4x256x1, .f32⟩
  | 89 => ⟨S4x256x1, .f32⟩
  | 90 => ⟨S4x256x1, .f32⟩
  | 91 => ⟨S4x256x1024, .f32⟩
  | 92 => ⟨S4x256x1024, .f32⟩
  | 93 => ⟨S1x1x1024, .f32⟩
  | 94 => ⟨S4x256x1024, .f32⟩
  | 95 => ⟨S4x256x1024, .f32⟩
  | 96 => ⟨S_, .f32⟩
  | 97 => ⟨S1x1024, .f32⟩
  | 98 => ⟨S1x1024, .f32⟩
  | 99 => ⟨S1x1x1024, .f32⟩
  | 100 => ⟨S4x256x1024, .f32⟩
  | 101 => ⟨S4x256x1024, .f32⟩
  | 102 => ⟨S1x1x1024, .f32⟩
  | 103 => ⟨S4x256x1024, .f32⟩
  | 104 => ⟨S4x256x1024, .f32⟩
  | 105 => ⟨S4x256x5632, .f32⟩
  | 106 => ⟨S4x256x2816, .f32⟩
  | 107 => ⟨S4x256x2816, .f32⟩
  | 108 => ⟨S_, .f32⟩
  | 109 => ⟨S1x1024, .f32⟩
  | 110 => ⟨S1x1024, .f32⟩
  | 111 => ⟨S4x256x2816, .f32⟩
  | 112 => ⟨S4x256x2816, .f32⟩
  | 113 => ⟨S_, .f32⟩
  | 114 => ⟨S4x256x2816, .f32⟩
  | 115 => ⟨S4x256x2816, .f32⟩
  | 116 => ⟨S_, .f32⟩
  | 117 => ⟨S4x256x2816, .f32⟩
  | 118 => ⟨S4x256x2816, .f32⟩
  | 119 => ⟨S4x256x2816, .f32⟩
  | 120 => ⟨S4x256x2816, .f32⟩
  | 121 => ⟨S4x256x1024, .f32⟩
  | 122 => ⟨S1x1x1024, .f32⟩
  | 123 => ⟨S4x256x1024, .f32⟩
  | 124 => ⟨S4x256x1024, .f32⟩
  | 125 => ⟨S4x256x1024, .f32⟩
  | 126 => ⟨S32768x1024, .f32⟩
  | 127 => ⟨S1024x1024, .f32⟩
  | _ => ⟨S4x8192x1024, .f32⟩

abbrev hbmTy0_1 (i : Nat) : BufTy := match i % 128 with
  | 0 => ⟨S33792x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_4 : Ref sig .tc := ⟨.hbm, 81, rfl⟩
abbrev main_v61 : Ref sig .tc := ⟨.hbm, 82, rfl⟩
abbrev main_v62 : Ref sig .tc := ⟨.hbm, 83, rfl⟩
abbrev main_cst_5 : Ref sig .tc := ⟨.hbm, 84, rfl⟩
abbrev main_v63 : Ref sig .tc := ⟨.hbm, 85, rfl⟩
abbrev main_v64 : Ref sig .tc := ⟨.hbm, 86, rfl⟩
abbrev main_cst_6 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_7 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_8 : Ref sig .tc := ⟨.hbm, 108, rfl⟩
abbrev main_v84 : Ref sig .tc := ⟨.hbm, 109, rfl⟩
abbrev main_v85 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]
-- ==== Ffn11.lean ====
abbrev S4x8192x1024 : Shape := ⟨3, ![4, 8192, 1024]⟩
abbrev S4x256x1024 : Shape := ⟨3, ![4, 256, 1024]⟩
abbrev S33792x1024 : Shape := ⟨2, ![33792, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1024x1024 : Shape := ⟨2, ![1024, 1024]⟩
abbrev S32768x1024 : Shape := ⟨2, ![32768, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 24
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S33792x1024, .f32⟩
  | .hbm, ⟨3, _⟩ => ⟨S4x9x1024, .f32⟩
  | .hbm, ⟨4, _⟩ => ⟨S9x1024, .f32⟩
  | .hbm, ⟨5, _⟩ => ⟨S4x3x1024, .f32⟩
  | .hbm, ⟨6, _⟩ => ⟨S4x2x1024x5632, .f32⟩
  | .hbm, ⟨7, _⟩ => ⟨S4x2x2816x1024, .f32⟩
  | .hbm, ⟨8, _⟩ => ⟨S1024x1024, .f32⟩
  | .hbm, ⟨9, _⟩ => ⟨S32768x1024, .f32⟩
  | .hbm, ⟨10, _⟩ => ⟨S1024x1024, .f32⟩
  | .hbm, ⟨11, _⟩ => ⟨S33792x1024, .f32⟩
  | .hbm, ⟨12, _⟩ => ⟨S33792x1024, .bf16⟩
  | .hbm, ⟨13, _⟩ => ⟨S1024x1024, .bf16⟩
  | .hbm, ⟨14, _⟩ => ⟨S1x9x1024, .f32⟩
  | .hbm, ⟨15, _⟩ => ⟨S_, .f32⟩
  | .hbm, ⟨16, _⟩ => ⟨S3x9x1024, .f32⟩
  | .hbm, ⟨17, _⟩ => ⟨S8x9x1024, .f32⟩
  | .hbm, ⟨18, _⟩ => ⟨S1x1x1024, .f32⟩
  | .hbm, ⟨19, _⟩ => ⟨S1024, .f32⟩
  | .hbm, ⟨20, _⟩ => ⟨S1x1024, .f32⟩
  | .hbm, ⟨21, _⟩ => ⟨S4x2x1024x5632, .bf16⟩
  | .hbm, ⟨22, _⟩ => ⟨S4x2x2816x1024, .bf16⟩
  | .hbm, ⟨23, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x9x1024, .f32⟩
  | .local _ .vmem, ⟨6, _⟩ => ⟨S1x9x1024, .f32⟩
  | .local _ .vmem, ⟨7, _⟩ => ⟨S1x1024, .f32⟩
  | .local _ .vmem, ⟨8, _⟩ => ⟨S1x1x1024x5632, .bf16⟩
  | .local _ .vmem, ⟨9, _⟩ => ⟨S1x1x2816x1024, .bf16⟩
  | .local _ .vmem, ⟨10, _⟩ => ⟨S512x1024, .f32⟩
  | .local _ .vmem, ⟨11, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Ffn11Ideal.lean ====
abbrev S4x8192x1024 : Shape := ⟨3, ![4, 8192, 1024]⟩
abbrev S4x256x1024 : Shape := ⟨3, ![4, 256, 1024]⟩
abbrev S33792x1024 : Shape := ⟨2, ![33792, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1024x1024 : Shape := ⟨2, ![1024, 1024]⟩
abbrev S32768x1024 : Shape := ⟨2, ![32768, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 24
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S33792x1024, .f32⟩
  | .hbm, ⟨3, _⟩ => ⟨S4x9x1024, .f32⟩
  | .hbm, ⟨4, _⟩ => ⟨S9x1024, .f32⟩
  | .hbm, ⟨5, _⟩ => ⟨S4x3x1024, .f32⟩
  | .hbm, ⟨6, _⟩ => ⟨S4x2x1024x5632, .f32⟩
  | .hbm, ⟨7, _⟩ => ⟨S4x2x2816x1024, .f32⟩
  | .hbm, ⟨8, _⟩ => ⟨S1024x1024, .f32⟩
  | .hbm, ⟨9, _⟩ => ⟨S32768x1024, .f32⟩
  | .hbm, ⟨10, _⟩ => ⟨S1024x1024, .f32⟩
  | .hbm, ⟨11, _⟩ => ⟨S33792x1024, .f32⟩
  | .hbm, ⟨12, _⟩ => ⟨S33792x1024, .bf16⟩
  | .hbm, ⟨13, _⟩ => ⟨S1024x1024, .bf16⟩
  | .hbm, ⟨14, _⟩ => ⟨S1x9x1024, .f32⟩
  | .hbm, ⟨15, _⟩ => ⟨S_, .f32⟩
  | .hbm, ⟨16, _⟩ => ⟨S3x9x1024, .f32⟩
  | .hbm, ⟨17, _⟩ => ⟨S8x9x1024, .f32⟩
  | .hbm, ⟨18, _⟩ => ⟨S1x1x1024, .f32⟩
  | .hbm, ⟨19, _⟩ => ⟨S1024, .f32⟩
  | .hbm, ⟨20, _⟩ => ⟨S1x1024, .f32⟩
  | .hbm, ⟨21, _⟩ => ⟨S4x2x1024x5632, .bf16⟩
  | .hbm, ⟨22, _⟩ => ⟨S4x2x2816x1024, .bf16⟩
  | .hbm, ⟨23, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x9x1024, .f32⟩
  | .local _ .vmem, ⟨6, _⟩ => ⟨S1x9x1024, .f32⟩
  | .local _ .vmem, ⟨7, _⟩ => ⟨S1x1024, .f32⟩
  | .local _ .vmem, ⟨8, _⟩ => ⟨S1x1x1024x5632, .bf16⟩
  | .local _ .vmem, ⟨9, _⟩ => ⟨S1x1x2816x1024, .bf16⟩
  | .local _ .vmem, ⟨10, _⟩ => ⟨S512x1024, .f32⟩
  | .local _ .vmem, ⟨11, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Ffn11ReferenceIdeal.lean ====
abbrev S4x8192x1024 : Shape := ⟨3, ![4, 8192, 1024]⟩
abbrev S4x256x1024 : Shape := ⟨3, ![4, 256, 1024]⟩
abbrev S33792x1024 : Shape := ⟨2, ![33792, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1024x1024 : Shape := ⟨2, ![1024, 1024]⟩
abbrev S32768x1024 : Shape := ⟨2, ![32768, 1024]⟩
abbrev S4x1x1024 : Shape := ⟨3, ![4, 1, 1024]⟩
abbrev S4x1024 : Shape := ⟨2, ![4, 1024]⟩
abbrev S1x1024 : Shape := ⟨2, ![1, 1024]⟩
abbrev S1024 : Shape := ⟨1, ![1024]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S4x8192x5632 : Shape := ⟨3, ![4, 8192, 5632]⟩
abbrev S4x8192x2816 : Shape := ⟨3, ![4, 8192, 2816]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩

abbrev nBuf : Space → Nat
  | .hbm => 150
  | .vmem => 0
  | .smem => 0
  | _ => 0

abbrev hbmTy0_0 (i : Nat) : BufTy := match i % 128 with
  | 0 => ⟨S4x8192x1024, .f32⟩
  | 1 => ⟨S4x256x1024, .f32⟩
  | 2 => ⟨S33792x1024, .f32⟩
  | 3 => ⟨S4x9x1024, .f32⟩
  | 4 => ⟨S9x1024, .f32⟩
  | 5 => ⟨S4x3x1024, .f32⟩
  | 6 => ⟨S4x2x1024x5632, .f32⟩
  | 7 => ⟨S4x2x2816x1024, .f32⟩
  | 8 => ⟨S1024x1024, .f32⟩
  | 9 => ⟨S32768x1024, .f32⟩
  | 10 => ⟨S4x8192x1024, .f32⟩
  | 11 => ⟨S1024x1024, .f32⟩
  | 12 => ⟨S4x256x1024, .f32⟩
  | 13 => ⟨S4x1x1024, .f32⟩
  | 14 => ⟨S4x1024, .f32⟩
  | 15 => ⟨S4x1x1024, .f32⟩
  | 16 => ⟨S4x8192x1024, .f32⟩
  | 17 => ⟨S4x8192x1024, .f32⟩
  | 18 => ⟨S4x8192x1024, .f32⟩
  | 19 => ⟨S4x8192x1024, .f32⟩
  | 20 => ⟨S1x1024, .f32⟩
  | 21 => ⟨S1024, .f32⟩
  | 22 => ⟨S1x1024, .f32⟩
  | 23 => ⟨S4x256x1024, .f32⟩
  | 24 => ⟨S1x1x1024, .f32⟩
  | 25 => ⟨S4x256x1024, .f32⟩
  | 26 => ⟨S4x256x1024, .f32⟩
  | 27 => ⟨S4x256x1024, .f32⟩
  | 28 => ⟨S1x1x1024, .f32⟩
  | 29 => ⟨S1024, .f32⟩
  | 30 => ⟨S1x1x1024x5632, .f32⟩
  | 31 => ⟨S1024x5632, .f32⟩
  | 32 => ⟨S1x1x2816x1024, .f32⟩
  | 33 => ⟨S2816x1024, .f32⟩
  | 34 => ⟨S4x1x1024, .f32⟩
  | 35 => ⟨S4x1024, .f32⟩
  | 36 => ⟨S4x1x1024, .f32⟩
  | 37 => ⟨S4x1x1024, .f32⟩
  | 38 => ⟨S4x1024, .f32⟩
  | 39 => ⟨S4x1x1024, .f32⟩
  | 40 => ⟨S4x1x1024, .f32⟩
  | 41 => ⟨S4x1024, .f32⟩
  | 42 => ⟨S4x1x1024, .f32⟩
  | 43 => ⟨S4x8192x1024, .f32⟩
  | 44 => ⟨S_, .f32⟩
  | 45 => ⟨S4x8192, .f32⟩
  | 46 => ⟨S4x8192x1, .f32⟩
  | 47 => ⟨S_, .f32⟩
  | 48 => ⟨S4x8192x1, .f32⟩
  | 49 => ⟨S4x8192x1, .f32⟩
  | 50 => ⟨S_, .f32⟩
  | 51 => ⟨S4x8192x1, .f32⟩
  | 52 => ⟨S4x8192x1, .f32⟩
  | 53 => ⟨S4x8192x1, .f32⟩
  | 54 => ⟨S4x8192x1024, .f32⟩
  | 55 => ⟨S4x8192x1024, .f32⟩
  | 56 => ⟨S1x1x1024, .f32⟩
  | 57 => ⟨S4x8192x1024, .f32⟩
  | 58 => ⟨S4x8192x1024, .f32⟩
  | 59 => ⟨S_, .f32⟩
  | 60 => ⟨S4x1x1024, .f32⟩
  | 61 => ⟨S4x1x1024, .f32⟩
  | 62 => ⟨S4x8192x1024, .f32⟩
  | 63 => ⟨S4x8192x1024, .f32⟩
  | 64 => ⟨S4x8192x1024, .f32⟩
  | 65 => ⟨S4x8192x1024, .f32⟩
  | 66 => ⟨S4x8192x5632, .f32⟩
  | 67 => ⟨S4x8192x2816, .f32⟩
  | 68 => ⟨S4x8192x2816, .f32⟩
  | 69 => ⟨S_, .f32⟩
  | 70 => ⟨S4x1x1024, .f32⟩
  | 71 => ⟨S4x1x1024, .f32⟩
  | 72 => ⟨S4x8192x2816, .f32⟩
  | 73 => ⟨S4x8192x2816, .f32⟩
  | 74 => ⟨S_, .f32⟩
  | 75 => ⟨S4x8192x2816, .f32⟩
  | 76 => ⟨S4x8192x2816, .f32⟩
  | 77 => ⟨S_, .f32⟩
  | 78 => ⟨S4x8192x2816, .f32⟩
  | 79 => ⟨S4x8192x2816, .f32⟩
  | 80 => ⟨S4x8192x2816, .f32⟩
  | 81 => ⟨S4x8192x2816, .f32⟩
  | 82 => ⟨S4x8192x1024, .f32⟩
  | 83 => ⟨S4x8192x1024, .f32⟩
  | 84 => ⟨S4x8192x1024, .f32⟩
  | 85 => ⟨S4x8192x1024, .f32⟩
  | 86 => ⟨S1x1x1024, .f32⟩
  | 87 => ⟨S1024, .f32⟩
  | 88 => ⟨S1x1x1024x5632, .f32⟩
  | 89 => ⟨S1024x5632, .f32⟩
  | 90 => ⟨S1x1x2816x1024, .f32⟩
  | 91 => ⟨S2816x1024, .f32⟩
  | 92 => ⟨S1x1024, .f32⟩
  | 93 => ⟨S1024, .f32⟩
  | 94 => ⟨S1x1024, .f32⟩
  | 95 => ⟨S1x1024, .f32⟩
  | 96 => ⟨S1024, .f32⟩
  | 97 => ⟨S1x1024, .f32⟩
  | 98 => ⟨S1x1024, .f32⟩
  | 99 => ⟨S1024, .f32⟩
  | 100 => ⟨S1x1024, .f32⟩
  | 101 => ⟨S4x256x1024, .f32⟩
  | 102 => ⟨S_, .f32⟩
  | 103 => ⟨S4x256, .f32⟩
  | 104 => ⟨S4x256x1, .f32⟩
  | 105 => ⟨S_, .f32⟩
  | 106 => ⟨S4x256x1, .f32⟩
  | 107 => ⟨S4x256x1, .f32⟩
  | 108 => ⟨S_, .f32⟩
  | 109 => ⟨S4x256x1, .f32⟩
  | 110 => ⟨S4x256x1, .f32⟩
  | 111 => ⟨S4x256x1, .f32⟩
  | 112 => ⟨S4x256x1024, .f32⟩
  | 113 => ⟨S4x256x1024, .f32⟩
  | 114 => ⟨S1x1x1024, .f32⟩
  | 115 => ⟨S4x256x1024, .f32⟩
  | 116 => ⟨S4x256x1024, .f32⟩
  | 117 => ⟨S_, .f32⟩
  | 118 => ⟨S1x1024, .f32⟩
  | 119 => ⟨S1x1024, .f32⟩
  | 120 => ⟨S1x1x1024, .f32⟩
  | 121 => ⟨S4x256x1024, .f32⟩
  | 122 => ⟨S4x256x1024, .f32⟩
  | 123 => ⟨S1x1x1024, .f32⟩
  | 124 => ⟨S4x256x1024, .f32⟩
  | 125 => ⟨S4x256x1024, .f32⟩
  | 126 => ⟨S4x256x5632, .f32⟩
  | 127 => ⟨S4x256x2816, .f32⟩
  | _ => ⟨S4x8192x1024, .f32⟩

abbrev hbmTy0_1 (i : Nat) : BufTy := match i % 128 with
  | 0 => ⟨S4x256x2816, .f32⟩
  | 1 => ⟨S_, .f32⟩
  | 2 => ⟨S1x1024, .f32⟩
  | 3 => ⟨S1x1024, .f32⟩
  | 4 => ⟨S4x256x2816, .f32⟩
  | 5 => ⟨S4x256x2816, .f32⟩
  | 6 => ⟨S_, .f32⟩
  | 7 => ⟨S4x256x2816, .f32⟩
  | 8 => ⟨S4x256x2816, .f32⟩
  | 9 => ⟨S_, .f32⟩
  | 10 => ⟨S4x256x2816, .f32⟩
  | 11 => ⟨S4x256x2816, .f32⟩
  | 12 => ⟨S4x256x2816, .f32⟩
  | 13 => ⟨S4x256x2816, .f32⟩
  | 14 => ⟨S4x256x1024, .f32⟩
  | 15 => ⟨S1x1x1024, .f32⟩
  | 16 => ⟨S4x256x1024, .f32⟩
  | 17 => ⟨S4x256x1024, .f32⟩
  | 18 => ⟨S4x256x1024, .f32⟩
  | 19 => ⟨S32768x1024, .f32⟩
  | 20 => ⟨S1024x1024, .f32⟩
  | 21 => ⟨S33792x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst : Ref sig .tc := ⟨.hbm, 44, rfl⟩
abbrev main_v35 : Ref sig .tc := ⟨.hbm, 45, rfl⟩
abbrev main_v36 : Ref sig .tc := ⟨.hbm, 46, rfl⟩
abbrev main_cst_0 : Ref sig .tc := ⟨.hbm, 47, rfl⟩
abbrev main_v37 : Ref sig .tc := ⟨.hbm, 48, rfl⟩
abbrev main_v38 : Ref sig .tc := ⟨.hbm, 49, rfl⟩
abbrev main_cst_1 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_2 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_3 : Ref sig .tc := ⟨.hbm, 69, rfl⟩
abbrev main_v56 : Ref sig .tc := ⟨.hbm, 70, rfl⟩
abbrev main_v57 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_4 : Ref sig .tc := ⟨.hbm, 102, rfl⟩
abbrev main_v80 : Ref sig .tc := ⟨.hbm, 103, rfl⟩
abbrev main_v81 : Ref sig .tc := ⟨.hbm, 104, rfl⟩
abbrev main_cst_5 : Ref sig .tc := ⟨.hbm, 105, rfl⟩
abbrev main_v82 : Ref sig .tc := ⟨.hbm, 106, rfl⟩
abbrev main_v83 : Ref sig .tc := ⟨.hbm, 107, rfl⟩
abbrev main_cst_6 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_7 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_8 : Ref sig .tc := ⟨.hbm, 129, rfl⟩
abbrev main_v103 : Ref sig .tc := ⟨.hbm, 130, rfl⟩
abbrev main_v104 : Ref sig .tc := ⟨.hbm, 131, rfl⟩
abbrev main_call1_v0 : Ref sig .tc := ⟨.hbm, 132, rfl⟩
abbrev main_call1_v1 : Ref sig .tc := ⟨.hbm, 133, rfl⟩
abbrev main_call1_cst : Ref sig .tc := ⟨.hbm, 134, rfl⟩
abbrev main_call1_v2 : Ref sig .tc := ⟨.hbm, 135, rfl⟩
abbrev main_call1_v3 : Ref sig .tc := ⟨.hbm, 136, rfl⟩
abbrev main_call1_cst_0 : Ref sig .tc := ⟨.hbm, 137, rfl⟩
abbrev main_call1_v4 : Ref sig .tc := ⟨.hbm, 138, rfl⟩
abbrev main_call1_v5 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩

abbrev nD : Nat := 1
abbrev τ : Topo := Topo.v7x

variable {F : FTy → Type} [FloatOps F]
-- ==== Ffn20.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S1024x1024 : Shape := ⟨2, ![1024, 1024]⟩
abbrev S33792x1024 : Shape := ⟨2, ![33792, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 20
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x9x1024, .f32⟩
  | .hbm, ⟨3, _⟩ => ⟨S9x1024, .f32⟩
  | .hbm, ⟨4, _⟩ => ⟨S4x3x1024, .f32⟩
  | .hbm, ⟨5, _⟩ => ⟨S4x2x1024x5632, .f32⟩
  | .hbm, ⟨6, _⟩ => ⟨S4x2x2816x1024, .f32⟩
  | .hbm, ⟨7, _⟩ => ⟨S32768x1024, .f32⟩
  | .hbm, ⟨8, _⟩ => ⟨S1024x1024, .f32⟩
  | .hbm, ⟨9, _⟩ => ⟨S33792x1024, .f32⟩
  | .hbm, ⟨10, _⟩ => ⟨S1x9x1024, .f32⟩
  | .hbm, ⟨11, _⟩ => ⟨S_, .f32⟩
  | .hbm, ⟨12, _⟩ => ⟨S3x9x1024, .f32⟩
  | .hbm, ⟨13, _⟩ => ⟨S8x9x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S4x2x1024x5632, .bf16⟩
  | .hbm, ⟨18, _⟩ => ⟨S4x2x2816x1024, .bf16⟩
  | .hbm, ⟨19, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_4 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn20Ideal.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S1024x1024 : Shape := ⟨2, ![1024, 1024]⟩
abbrev S33792x1024 : Shape := ⟨2, ![33792, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 20
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x9x1024, .f32⟩
  | .hbm, ⟨3, _⟩ => ⟨S9x1024, .f32⟩
  | .hbm, ⟨4, _⟩ => ⟨S4x3x1024, .f32⟩
  | .hbm, ⟨5, _⟩ => ⟨S4x2x1024x5632, .f32⟩
  | .hbm, ⟨6, _⟩ => ⟨S4x2x2816x1024, .f32⟩
  | .hbm, ⟨7, _⟩ => ⟨S32768x1024, .f32⟩
  | .hbm, ⟨8, _⟩ => ⟨S1024x1024, .f32⟩
  | .hbm, ⟨9, _⟩ => ⟨S33792x1024, .f32⟩
  | .hbm, ⟨10, _⟩ => ⟨S1x9x1024, .f32⟩
  | .hbm, ⟨11, _⟩ => ⟨S_, .f32⟩
  | .hbm, ⟨12, _⟩ => ⟨S3x9x1024, .f32⟩
  | .hbm, ⟨13, _⟩ => ⟨S8x9x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S4x2x1024x5632, .bf16⟩
  | .hbm, ⟨18, _⟩ => ⟨S4x2x2816x1024, .bf16⟩
  | .hbm, ⟨19, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_4 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn20ReferenceIdeal.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1x1024 : Shape := ⟨3, ![1, 1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S4x8192x5632 : Shape := ⟨3, ![4, 8192, 5632]⟩
abbrev S4x8192x2816 : Shape := ⟨3, ![4, 8192, 2816]⟩
abbrev S1x1024 : Shape := ⟨2, ![1, 1024]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩
abbrev S32768x1024 : Shape := ⟨2, ![32768, 1024]⟩
abbrev S1024x1024 : Shape := ⟨2, ![1024, 1024]⟩
abbrev S33792x1024 : Shape := ⟨2, ![33792, 1024]⟩

abbrev nBuf : Space → Nat
  | .hbm => 129
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x9x1024, .f32⟩
  | 3 => ⟨S9x1024, .f32⟩
  | 4 => ⟨S4x3x1024, .f32⟩
  | 5 => ⟨S4x2x1024x5632, .f32⟩
  | 6 => ⟨S4x2x2816x1024, .f32⟩
  | 7 => ⟨S1x1x1024, .f32⟩
  | 8 => ⟨S1024, .f32⟩
  | 9 => ⟨S1x1x1024x5632, .f32⟩
  | 10 => ⟨S1024x5632, .f32⟩
  | 11 => ⟨S1x1x2816x1024, .f32⟩
  | 12 => ⟨S2816x1024, .f32⟩
  | 13 => ⟨S4x1x1024, .f32⟩
  | 14 => ⟨S4x1024, .f32⟩
  | 15 => ⟨S4x1x1024, .f32⟩
  | 16 => ⟨S4x1x1024, .f32⟩
  | 17 => ⟨S4x1024, .f32⟩
  | 18 => ⟨S4x1x1024, .f32⟩
  | 19 => ⟨S4x1x1024, .f32⟩
  | 20 => ⟨S4x1024, .f32⟩
  | 21 => ⟨S4x1x1024, .f32⟩
  | 22 => ⟨S4x8192x1024, .f32⟩
  | 23 => ⟨S_, .f32⟩
  | 24 => ⟨S4x8192, .f32⟩
  | 25 => ⟨S4x8192x1, .f32⟩
  | 26 => ⟨S_, .f32⟩
  | 27 => ⟨S4x8192x1, .f32⟩
  | 28 => ⟨S4x8192x1, .f32⟩
  | 29 => ⟨S_, .f32⟩
  | 30 => ⟨S4x8192x1, .f32⟩
  | 31 => ⟨S4x8192x1, .f32⟩
  | 32 => ⟨S4x8192x1, .f32⟩
  | 33 => ⟨S4x8192x1024, .f32⟩
  | 34 => ⟨S4x8192x1024, .f32⟩
  | 35 => ⟨S1x1x1024, .f32⟩
  | 36 => ⟨S4x8192x1024, .f32⟩
  | 37 => ⟨S4x8192x1024, .f32⟩
  | 38 => ⟨S_, .f32⟩
  | 39 => ⟨S4x1x1024, .f32⟩
  | 40 => ⟨S4x1x1024, .f32⟩
  | 41 => ⟨S4x8192x1024, .f32⟩
  | 42 => ⟨S4x8192x1024, .f32⟩
  | 43 => ⟨S4x8192x1024, .f32⟩
  | 44 => ⟨S4x8192x1024, .f32⟩
  | 45 => ⟨S4x8192x5632, .f32⟩
  | 46 => ⟨S4x8192x2816, .f32⟩
  | 47 => ⟨S4x8192x2816, .f32⟩
  | 48 => ⟨S_, .f32⟩
  | 49 => ⟨S4x1x1024, .f32⟩
  | 50 => ⟨S4x1x1024, .f32⟩
  | 51 => ⟨S4x8192x2816, .f32⟩
  | 52 => ⟨S4x8192x2816, .f32⟩
  | 53 => ⟨S_, .f32⟩
  | 54 => ⟨S4x8192x2816, .f32⟩
  | 55 => ⟨S4x8192x2816, .f32⟩
  | 56 => ⟨S_, .f32⟩
  | 57 => ⟨S4x8192x2816, .f32⟩
  | 58 => ⟨S4x8192x2816, .f32⟩
  | 59 => ⟨S4x8192x2816, .f32⟩
  | 60 => ⟨S4x8192x2816, .f32⟩
  | 61 => ⟨S4x8192x1024, .f32⟩
  | 62 => ⟨S4x8192x1024, .f32⟩
  | 63 => ⟨S4x8192x1024, .f32⟩
  | 64 => ⟨S4x8192x1024, .f32⟩
  | 65 => ⟨S1x1x1024, .f32⟩
  | 66 => ⟨S1024, .f32⟩
  | 67 => ⟨S1x1x1024x5632, .f32⟩
  | 68 => ⟨S1024x5632, .f32⟩
  | 69 => ⟨S1x1x2816x1024, .f32⟩
  | 70 => ⟨S2816x1024, .f32⟩
  | 71 => ⟨S1x1024, .f32⟩
  | 72 => ⟨S1024, .f32⟩
  | 73 => ⟨S1x1024, .f32⟩
  | 74 => ⟨S1x1024, .f32⟩
  | 75 => ⟨S1024, .f32⟩
  | 76 => ⟨S1x1024, .f32⟩
  | 77 => ⟨S1x1024, .f32⟩
  | 78 => ⟨S1024, .f32⟩
  | 79 => ⟨S1x1024, .f32⟩
  | 80 => ⟨S4x256x1024, .f32⟩
  | 81 => ⟨S_, .f32⟩
  | 82 => ⟨S4x256, .f32⟩
  | 83 => ⟨S4x256x1, .f32⟩
  | 84 => ⟨S_, .f32⟩
  | 85 => ⟨S4x256x1, .f32⟩
  | 86 => ⟨S4x256x1, .f32⟩
  | 87 => ⟨S_, .f32⟩
  | 88 => ⟨S4x256x1, .f32⟩
  | 89 => ⟨S4x256x1, .f32⟩
  | 90 => ⟨S4x256x1, .f32⟩
  | 91 => ⟨S4x256x1024, .f32⟩
  | 92 => ⟨S4x256x1024, .f32⟩
  | 93 => ⟨S1x1x1024, .f32⟩
  | 94 => ⟨S4x256x1024, .f32⟩
  | 95 => ⟨S4x256x1024, .f32⟩
  | 96 => ⟨S_, .f32⟩
  | 97 => ⟨S1x1024, .f32⟩
  | 98 => ⟨S1x1024, .f32⟩
  | 99 => ⟨S1x1x1024, .f32⟩
  | 100 => ⟨S4x256x1024, .f32⟩
  | 101 => ⟨S4x256x1024, .f32⟩
  | 102 => ⟨S1x1x1024, .f32⟩
  | 103 => ⟨S4x256x1024, .f32⟩
  | 104 => ⟨S4x256x1024, .f32⟩
  | 105 => ⟨S4x256x5632, .f32⟩
  | 106 => ⟨S4x256x2816, .f32⟩
  | 107 => ⟨S4x256x2816, .f32⟩
  | 108 => ⟨S_, .f32⟩
  | 109 => ⟨S1x1024, .f32⟩
  | 110 => ⟨S1x1024, .f32⟩
  | 111 => ⟨S4x256x2816, .f32⟩
  | 112 => ⟨S4x256x2816, .f32⟩
  | 113 => ⟨S_, .f32⟩
  | 114 => ⟨S4x256x2816, .f32⟩
  | 115 => ⟨S4x256x2816, .f32⟩
  | 116 => ⟨S_, .f32⟩
  | 117 => ⟨S4x256x2816, .f32⟩
  | 118 => ⟨S4x256x2816, .f32⟩
  | 119 => ⟨S4x256x2816, .f32⟩
  | 120 => ⟨S4x256x2816, .f32⟩
  | 121 => ⟨S4x256x1024, .f32⟩
  | 122 => ⟨S1x1x1024, .f32⟩
  | 123 => ⟨S4x256x1024, .f32⟩
  | 124 => ⟨S4x256x1024, .f32⟩
  | 125 => ⟨S4x256x1024, .f32⟩
  | 126 => ⟨S32768x1024, .f32⟩
  | 127 => ⟨S1024x1024, .f32⟩
  | _ => ⟨S4x8192x1024, .f32⟩

abbrev hbmTy0_1 (i : Nat) : BufTy := match i % 128 with
  | 0 => ⟨S33792x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_4 : Ref sig .tc := ⟨.hbm, 81, rfl⟩
abbrev main_v61 : Ref sig .tc := ⟨.hbm, 82, rfl⟩
abbrev main_v62 : Ref sig .tc := ⟨.hbm, 83, rfl⟩
abbrev main_cst_5 : Ref sig .tc := ⟨.hbm, 84, rfl⟩
abbrev main_v63 : Ref sig .tc := ⟨.hbm, 85, rfl⟩
abbrev main_v64 : Ref sig .tc := ⟨.hbm, 86, rfl⟩
abbrev main_cst_6 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_7 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_8 : Ref sig .tc := ⟨.hbm, 108, rfl⟩
abbrev main_v84 : Ref sig .tc := ⟨.hbm, 109, rfl⟩
abbrev main_v85 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]
-- ==== Ffn21.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S1024x1024 : Shape := ⟨2, ![1024, 1024]⟩
abbrev S33792x1024 : Shape := ⟨2, ![33792, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 20
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x9x1024, .f32⟩
  | .hbm, ⟨3, _⟩ => ⟨S9x1024, .f32⟩
  | .hbm, ⟨4, _⟩ => ⟨S4x3x1024, .f32⟩
  | .hbm, ⟨5, _⟩ => ⟨S4x2x1024x5632, .f32⟩
  | .hbm, ⟨6, _⟩ => ⟨S4x2x2816x1024, .f32⟩
  | .hbm, ⟨7, _⟩ => ⟨S32768x1024, .f32⟩
  | .hbm, ⟨8, _⟩ => ⟨S1024x1024, .f32⟩
  | .hbm, ⟨9, _⟩ => ⟨S33792x1024, .f32⟩
  | .hbm, ⟨10, _⟩ => ⟨S1x9x1024, .f32⟩
  | .hbm, ⟨11, _⟩ => ⟨S_, .f32⟩
  | .hbm, ⟨12, _⟩ => ⟨S3x9x1024, .f32⟩
  | .hbm, ⟨13, _⟩ => ⟨S8x9x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S4x2x1024x5632, .bf16⟩
  | .hbm, ⟨18, _⟩ => ⟨S4x2x2816x1024, .bf16⟩
  | .hbm, ⟨19, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_4 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn21Ideal.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S1024x1024 : Shape := ⟨2, ![1024, 1024]⟩
abbrev S33792x1024 : Shape := ⟨2, ![33792, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 20
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x9x1024, .f32⟩
  | .hbm, ⟨3, _⟩ => ⟨S9x1024, .f32⟩
  | .hbm, ⟨4, _⟩ => ⟨S4x3x1024, .f32⟩
  | .hbm, ⟨5, _⟩ => ⟨S4x2x1024x5632, .f32⟩
  | .hbm, ⟨6, _⟩ => ⟨S4x2x2816x1024, .f32⟩
  | .hbm, ⟨7, _⟩ => ⟨S32768x1024, .f32⟩
  | .hbm, ⟨8, _⟩ => ⟨S1024x1024, .f32⟩
  | .hbm, ⟨9, _⟩ => ⟨S33792x1024, .f32⟩
  | .hbm, ⟨10, _⟩ => ⟨S1x9x1024, .f32⟩
  | .hbm, ⟨11, _⟩ => ⟨S_, .f32⟩
  | .hbm, ⟨12, _⟩ => ⟨S3x9x1024, .f32⟩
  | .hbm, ⟨13, _⟩ => ⟨S8x9x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S4x2x1024x5632, .bf16⟩
  | .hbm, ⟨18, _⟩ => ⟨S4x2x2816x1024, .bf16⟩
  | .hbm, ⟨19, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_4 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn21ReferenceIdeal.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1x1024 : Shape := ⟨3, ![1, 1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S4x8192x5632 : Shape := ⟨3, ![4, 8192, 5632]⟩
abbrev S4x8192x2816 : Shape := ⟨3, ![4, 8192, 2816]⟩
abbrev S1x1024 : Shape := ⟨2, ![1, 1024]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩
abbrev S32768x1024 : Shape := ⟨2, ![32768, 1024]⟩
abbrev S1024x1024 : Shape := ⟨2, ![1024, 1024]⟩
abbrev S33792x1024 : Shape := ⟨2, ![33792, 1024]⟩

abbrev nBuf : Space → Nat
  | .hbm => 129
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x9x1024, .f32⟩
  | 3 => ⟨S9x1024, .f32⟩
  | 4 => ⟨S4x3x1024, .f32⟩
  | 5 => ⟨S4x2x1024x5632, .f32⟩
  | 6 => ⟨S4x2x2816x1024, .f32⟩
  | 7 => ⟨S1x1x1024, .f32⟩
  | 8 => ⟨S1024, .f32⟩
  | 9 => ⟨S1x1x1024x5632, .f32⟩
  | 10 => ⟨S1024x5632, .f32⟩
  | 11 => ⟨S1x1x2816x1024, .f32⟩
  | 12 => ⟨S2816x1024, .f32⟩
  | 13 => ⟨S4x1x1024, .f32⟩
  | 14 => ⟨S4x1024, .f32⟩
  | 15 => ⟨S4x1x1024, .f32⟩
  | 16 => ⟨S4x1x1024, .f32⟩
  | 17 => ⟨S4x1024, .f32⟩
  | 18 => ⟨S4x1x1024, .f32⟩
  | 19 => ⟨S4x1x1024, .f32⟩
  | 20 => ⟨S4x1024, .f32⟩
  | 21 => ⟨S4x1x1024, .f32⟩
  | 22 => ⟨S4x8192x1024, .f32⟩
  | 23 => ⟨S_, .f32⟩
  | 24 => ⟨S4x8192, .f32⟩
  | 25 => ⟨S4x8192x1, .f32⟩
  | 26 => ⟨S_, .f32⟩
  | 27 => ⟨S4x8192x1, .f32⟩
  | 28 => ⟨S4x8192x1, .f32⟩
  | 29 => ⟨S_, .f32⟩
  | 30 => ⟨S4x8192x1, .f32⟩
  | 31 => ⟨S4x8192x1, .f32⟩
  | 32 => ⟨S4x8192x1, .f32⟩
  | 33 => ⟨S4x8192x1024, .f32⟩
  | 34 => ⟨S4x8192x1024, .f32⟩
  | 35 => ⟨S1x1x1024, .f32⟩
  | 36 => ⟨S4x8192x1024, .f32⟩
  | 37 => ⟨S4x8192x1024, .f32⟩
  | 38 => ⟨S_, .f32⟩
  | 39 => ⟨S4x1x1024, .f32⟩
  | 40 => ⟨S4x1x1024, .f32⟩
  | 41 => ⟨S4x8192x1024, .f32⟩
  | 42 => ⟨S4x8192x1024, .f32⟩
  | 43 => ⟨S4x8192x1024, .f32⟩
  | 44 => ⟨S4x8192x1024, .f32⟩
  | 45 => ⟨S4x8192x5632, .f32⟩
  | 46 => ⟨S4x8192x2816, .f32⟩
  | 47 => ⟨S4x8192x2816, .f32⟩
  | 48 => ⟨S_, .f32⟩
  | 49 => ⟨S4x1x1024, .f32⟩
  | 50 => ⟨S4x1x1024, .f32⟩
  | 51 => ⟨S4x8192x2816, .f32⟩
  | 52 => ⟨S4x8192x2816, .f32⟩
  | 53 => ⟨S_, .f32⟩
  | 54 => ⟨S4x8192x2816, .f32⟩
  | 55 => ⟨S4x8192x2816, .f32⟩
  | 56 => ⟨S_, .f32⟩
  | 57 => ⟨S4x8192x2816, .f32⟩
  | 58 => ⟨S4x8192x2816, .f32⟩
  | 59 => ⟨S4x8192x2816, .f32⟩
  | 60 => ⟨S4x8192x2816, .f32⟩
  | 61 => ⟨S4x8192x1024, .f32⟩
  | 62 => ⟨S4x8192x1024, .f32⟩
  | 63 => ⟨S4x8192x1024, .f32⟩
  | 64 => ⟨S4x8192x1024, .f32⟩
  | 65 => ⟨S1x1x1024, .f32⟩
  | 66 => ⟨S1024, .f32⟩
  | 67 => ⟨S1x1x1024x5632, .f32⟩
  | 68 => ⟨S1024x5632, .f32⟩
  | 69 => ⟨S1x1x2816x1024, .f32⟩
  | 70 => ⟨S2816x1024, .f32⟩
  | 71 => ⟨S1x1024, .f32⟩
  | 72 => ⟨S1024, .f32⟩
  | 73 => ⟨S1x1024, .f32⟩
  | 74 => ⟨S1x1024, .f32⟩
  | 75 => ⟨S1024, .f32⟩
  | 76 => ⟨S1x1024, .f32⟩
  | 77 => ⟨S1x1024, .f32⟩
  | 78 => ⟨S1024, .f32⟩
  | 79 => ⟨S1x1024, .f32⟩
  | 80 => ⟨S4x256x1024, .f32⟩
  | 81 => ⟨S_, .f32⟩
  | 82 => ⟨S4x256, .f32⟩
  | 83 => ⟨S4x256x1, .f32⟩
  | 84 => ⟨S_, .f32⟩
  | 85 => ⟨S4x256x1, .f32⟩
  | 86 => ⟨S4x256x1, .f32⟩
  | 87 => ⟨S_, .f32⟩
  | 88 => ⟨S4x256x1, .f32⟩
  | 89 => ⟨S4x256x1, .f32⟩
  | 90 => ⟨S4x256x1, .f32⟩
  | 91 => ⟨S4x256x1024, .f32⟩
  | 92 => ⟨S4x256x1024, .f32⟩
  | 93 => ⟨S1x1x1024, .f32⟩
  | 94 => ⟨S4x256x1024, .f32⟩
  | 95 => ⟨S4x256x1024, .f32⟩
  | 96 => ⟨S_, .f32⟩
  | 97 => ⟨S1x1024, .f32⟩
  | 98 => ⟨S1x1024, .f32⟩
  | 99 => ⟨S1x1x1024, .f32⟩
  | 100 => ⟨S4x256x1024, .f32⟩
  | 101 => ⟨S4x256x1024, .f32⟩
  | 102 => ⟨S1x1x1024, .f32⟩
  | 103 => ⟨S4x256x1024, .f32⟩
  | 104 => ⟨S4x256x1024, .f32⟩
  | 105 => ⟨S4x256x5632, .f32⟩
  | 106 => ⟨S4x256x2816, .f32⟩
  | 107 => ⟨S4x256x2816, .f32⟩
  | 108 => ⟨S_, .f32⟩
  | 109 => ⟨S1x1024, .f32⟩
  | 110 => ⟨S1x1024, .f32⟩
  | 111 => ⟨S4x256x2816, .f32⟩
  | 112 => ⟨S4x256x2816, .f32⟩
  | 113 => ⟨S_, .f32⟩
  | 114 => ⟨S4x256x2816, .f32⟩
  | 115 => ⟨S4x256x2816, .f32⟩
  | 116 => ⟨S_, .f32⟩
  | 117 => ⟨S4x256x2816, .f32⟩
  | 118 => ⟨S4x256x2816, .f32⟩
  | 119 => ⟨S4x256x2816, .f32⟩
  | 120 => ⟨S4x256x2816, .f32⟩
  | 121 => ⟨S4x256x1024, .f32⟩
  | 122 => ⟨S1x1x1024, .f32⟩
  | 123 => ⟨S4x256x1024, .f32⟩
  | 124 => ⟨S4x256x1024, .f32⟩
  | 125 => ⟨S4x256x1024, .f32⟩
  | 126 => ⟨S32768x1024, .f32⟩
  | 127 => ⟨S1024x1024, .f32⟩
  | _ => ⟨S4x8192x1024, .f32⟩

abbrev hbmTy0_1 (i : Nat) : BufTy := match i % 128 with
  | 0 => ⟨S33792x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_4 : Ref sig .tc := ⟨.hbm, 81, rfl⟩
abbrev main_v61 : Ref sig .tc := ⟨.hbm, 82, rfl⟩
abbrev main_v62 : Ref sig .tc := ⟨.hbm, 83, rfl⟩
abbrev main_cst_5 : Ref sig .tc := ⟨.hbm, 84, rfl⟩
abbrev main_v63 : Ref sig .tc := ⟨.hbm, 85, rfl⟩
abbrev main_v64 : Ref sig .tc := ⟨.hbm, 86, rfl⟩
abbrev main_cst_6 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_7 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_8 : Ref sig .tc := ⟨.hbm, 108, rfl⟩
abbrev main_v84 : Ref sig .tc := ⟨.hbm, 109, rfl⟩
abbrev main_v85 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]
-- ==== Ffn30.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S1024x1024 : Shape := ⟨2, ![1024, 1024]⟩
abbrev S33792x1024 : Shape := ⟨2, ![33792, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 20
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x9x1024, .f32⟩
  | .hbm, ⟨3, _⟩ => ⟨S9x1024, .f32⟩
  | .hbm, ⟨4, _⟩ => ⟨S4x3x1024, .f32⟩
  | .hbm, ⟨5, _⟩ => ⟨S4x2x1024x5632, .f32⟩
  | .hbm, ⟨6, _⟩ => ⟨S4x2x2816x1024, .f32⟩
  | .hbm, ⟨7, _⟩ => ⟨S32768x1024, .f32⟩
  | .hbm, ⟨8, _⟩ => ⟨S1024x1024, .f32⟩
  | .hbm, ⟨9, _⟩ => ⟨S33792x1024, .f32⟩
  | .hbm, ⟨10, _⟩ => ⟨S1x9x1024, .f32⟩
  | .hbm, ⟨11, _⟩ => ⟨S_, .f32⟩
  | .hbm, ⟨12, _⟩ => ⟨S3x9x1024, .f32⟩
  | .hbm, ⟨13, _⟩ => ⟨S8x9x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S4x2x1024x5632, .bf16⟩
  | .hbm, ⟨18, _⟩ => ⟨S4x2x2816x1024, .bf16⟩
  | .hbm, ⟨19, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_4 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn30Ideal.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S1024x1024 : Shape := ⟨2, ![1024, 1024]⟩
abbrev S33792x1024 : Shape := ⟨2, ![33792, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x5632 : Shape := ⟨4, ![1, 1, 1024, 5632]⟩
abbrev S1x1x2816x1024 : Shape := ⟨4, ![1, 1, 2816, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 20
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x9x1024, .f32⟩
  | .hbm, ⟨3, _⟩ => ⟨S9x1024, .f32⟩
  | .hbm, ⟨4, _⟩ => ⟨S4x3x1024, .f32⟩
  | .hbm, ⟨5, _⟩ => ⟨S4x2x1024x5632, .f32⟩
  | .hbm, ⟨6, _⟩ => ⟨S4x2x2816x1024, .f32⟩
  | .hbm, ⟨7, _⟩ => ⟨S32768x1024, .f32⟩
  | .hbm, ⟨8, _⟩ => ⟨S1024x1024, .f32⟩
  | .hbm, ⟨9, _⟩ => ⟨S33792x1024, .f32⟩
  | .hbm, ⟨10, _⟩ => ⟨S1x9x1024, .f32⟩
  | .hbm, ⟨11, _⟩ => ⟨S_, .f32⟩
  | .hbm, ⟨12, _⟩ => ⟨S3x9x1024, .f32⟩
  | .hbm, ⟨13, _⟩ => ⟨S8x9x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S4x2x1024x5632, .bf16⟩
  | .hbm, ⟨18, _⟩ => ⟨S4x2x2816x1024, .bf16⟩
  | .hbm, ⟨19, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_4 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ffn30ReferenceIdeal.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1x1024 : Shape := ⟨3, ![1, 1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S4x8192x5632 : Shape := ⟨3, ![4, 8192, 5632]⟩
abbrev S4x8192x2816 : Shape := ⟨3, ![4, 8192, 2816]⟩
abbrev S1x1024 : Shape := ⟨2, ![1, 1024]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩
abbrev S32768x1024 : Shape := ⟨2, ![32768, 1024]⟩
abbrev S1024x1024 : Shape := ⟨2, ![1024, 1024]⟩
abbrev S33792x1024 : Shape := ⟨2, ![33792, 1024]⟩

abbrev nBuf : Space → Nat
  | .hbm => 129
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x9x1024, .f32⟩
  | 3 => ⟨S9x1024, .f32⟩
  | 4 => ⟨S4x3x1024, .f32⟩
  | 5 => ⟨S4x2x1024x5632, .f32⟩
  | 6 => ⟨S4x2x2816x1024, .f32⟩
  | 7 => ⟨S1x1x1024, .f32⟩
  | 8 => ⟨S1024, .f32⟩
  | 9 => ⟨S1x1x1024x5632, .f32⟩
  | 10 => ⟨S1024x5632, .f32⟩
  | 11 => ⟨S1x1x2816x1024, .f32⟩
  | 12 => ⟨S2816x1024, .f32⟩
  | 13 => ⟨S4x1x1024, .f32⟩
  | 14 => ⟨S4x1024, .f32⟩
  | 15 => ⟨S4x1x1024, .f32⟩
  | 16 => ⟨S4x1x1024, .f32⟩
  | 17 => ⟨S4x1024, .f32⟩
  | 18 => ⟨S4x1x1024, .f32⟩
  | 19 => ⟨S4x1x1024, .f32⟩
  | 20 => ⟨S4x1024, .f32⟩
  | 21 => ⟨S4x1x1024, .f32⟩
  | 22 => ⟨S4x8192x1024, .f32⟩
  | 23 => ⟨S_, .f32⟩
  | 24 => ⟨S4x8192, .f32⟩
  | 25 => ⟨S4x8192x1, .f32⟩
  | 26 => ⟨S_, .f32⟩
  | 27 => ⟨S4x8192x1, .f32⟩
  | 28 => ⟨S4x8192x1, .f32⟩
  | 29 => ⟨S_, .f32⟩
  | 30 => ⟨S4x8192x1, .f32⟩
  | 31 => ⟨S4x8192x1, .f32⟩
  | 32 => ⟨S4x8192x1, .f32⟩
  | 33 => ⟨S4x8192x1024, .f32⟩
  | 34 => ⟨S4x8192x1024, .f32⟩
  | 35 => ⟨S1x1x1024, .f32⟩
  | 36 => ⟨S4x8192x1024, .f32⟩
  | 37 => ⟨S4x8192x1024, .f32⟩
  | 38 => ⟨S_, .f32⟩
  | 39 => ⟨S4x1x1024, .f32⟩
  | 40 => ⟨S4x1x1024, .f32⟩
  | 41 => ⟨S4x8192x1024, .f32⟩
  | 42 => ⟨S4x8192x1024, .f32⟩
  | 43 => ⟨S4x8192x1024, .f32⟩
  | 44 => ⟨S4x8192x1024, .f32⟩
  | 45 => ⟨S4x8192x5632, .f32⟩
  | 46 => ⟨S4x8192x2816, .f32⟩
  | 47 => ⟨S4x8192x2816, .f32⟩
  | 48 => ⟨S_, .f32⟩
  | 49 => ⟨S4x1x1024, .f32⟩
  | 50 => ⟨S4x1x1024, .f32⟩
  | 51 => ⟨S4x8192x2816, .f32⟩
  | 52 => ⟨S4x8192x2816, .f32⟩
  | 53 => ⟨S_, .f32⟩
  | 54 => ⟨S4x8192x2816, .f32⟩
  | 55 => ⟨S4x8192x2816, .f32⟩
  | 56 => ⟨S_, .f32⟩
  | 57 => ⟨S4x8192x2816, .f32⟩
  | 58 => ⟨S4x8192x2816, .f32⟩
  | 59 => ⟨S4x8192x2816, .f32⟩
  | 60 => ⟨S4x8192x2816, .f32⟩
  | 61 => ⟨S4x8192x1024, .f32⟩
  | 62 => ⟨S4x8192x1024, .f32⟩
  | 63 => ⟨S4x8192x1024, .f32⟩
  | 64 => ⟨S4x8192x1024, .f32⟩
  | 65 => ⟨S1x1x1024, .f32⟩
  | 66 => ⟨S1024, .f32⟩
  | 67 => ⟨S1x1x1024x5632, .f32⟩
  | 68 => ⟨S1024x5632, .f32⟩
  | 69 => ⟨S1x1x2816x1024, .f32⟩
  | 70 => ⟨S2816x1024, .f32⟩
  | 71 => ⟨S1x1024, .f32⟩
  | 72 => ⟨S1024, .f32⟩
  | 73 => ⟨S1x1024, .f32⟩
  | 74 => ⟨S1x1024, .f32⟩
  | 75 => ⟨S1024, .f32⟩
  | 76 => ⟨S1x1024, .f32⟩
  | 77 => ⟨S1x1024, .f32⟩
  | 78 => ⟨S1024, .f32⟩
  | 79 => ⟨S1x1024, .f32⟩
  | 80 => ⟨S4x256x1024, .f32⟩
  | 81 => ⟨S_, .f32⟩
  | 82 => ⟨S4x256, .f32⟩
  | 83 => ⟨S4x256x1, .f32⟩
  | 84 => ⟨S_, .f32⟩
  | 85 => ⟨S4x256x1, .f32⟩
  | 86 => ⟨S4x256x1, .f32⟩
  | 87 => ⟨S_, .f32⟩
  | 88 => ⟨S4x256x1, .f32⟩
  | 89 => ⟨S4x256x1, .f32⟩
  | 90 => ⟨S4x256x1, .f32⟩
  | 91 => ⟨S4x256x1024, .f32⟩
  | 92 => ⟨S4x256x1024, .f32⟩
  | 93 => ⟨S1x1x1024, .f32⟩
  | 94 => ⟨S4x256x1024, .f32⟩
  | 95 => ⟨S4x256x1024, .f32⟩
  | 96 => ⟨S_, .f32⟩
  | 97 => ⟨S1x1024, .f32⟩
  | 98 => ⟨S1x1024, .f32⟩
  | 99 => ⟨S1x1x1024, .f32⟩
  | 100 => ⟨S4x256x1024, .f32⟩
  | 101 => ⟨S4x256x1024, .f32⟩
  | 102 => ⟨S1x1x1024, .f32⟩
  | 103 => ⟨S4x256x1024, .f32⟩
  | 104 => ⟨S4x256x1024, .f32⟩
  | 105 => ⟨S4x256x5632, .f32⟩
  | 106 => ⟨S4x256x2816, .f32⟩
  | 107 => ⟨S4x256x2816, .f32⟩
  | 108 => ⟨S_, .f32⟩
  | 109 => ⟨S1x1024, .f32⟩
  | 110 => ⟨S1x1024, .f32⟩
  | 111 => ⟨S4x256x2816, .f32⟩
  | 112 => ⟨S4x256x2816, .f32⟩
  | 113 => ⟨S_, .f32⟩
  | 114 => ⟨S4x256x2816, .f32⟩
  | 115 => ⟨S4x256x2816, .f32⟩
  | 116 => ⟨S_, .f32⟩
  | 117 => ⟨S4x256x2816, .f32⟩
  | 118 => ⟨S4x256x2816, .f32⟩
  | 119 => ⟨S4x256x2816, .f32⟩
  | 120 => ⟨S4x256x2816, .f32⟩
  | 121 => ⟨S4x256x1024, .f32⟩
  | 122 => ⟨S1x1x1024, .f32⟩
  | 123 => ⟨S4x256x1024, .f32⟩
  | 124 => ⟨S4x256x1024, .f32⟩
  | 125 => ⟨S4x256x1024, .f32⟩
  | 126 => ⟨S32768x1024, .f32⟩
  | 127 => ⟨S1024x1024, .f32⟩
  | _ => ⟨S4x8192x1024, .f32⟩

abbrev hbmTy0_1 (i : Nat) : BufTy := match i % 128 with
  | 0 => ⟨S33792x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_4 : Ref sig .tc := ⟨.hbm, 81, rfl⟩
abbrev main_v61 : Ref sig .tc := ⟨.hbm, 82, rfl⟩
abbrev main_v62 : Ref sig .tc := ⟨.hbm, 83, rfl⟩
abbrev main_cst_5 : Ref sig .tc := ⟨.hbm, 84, rfl⟩
abbrev main_v63 : Ref sig .tc := ⟨.hbm, 85, rfl⟩
abbrev main_v64 : Ref sig .tc := ⟨.hbm, 86, rfl⟩
abbrev main_cst_6 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_7 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_8 : Ref sig .tc := ⟨.hbm, 108, rfl⟩
abbrev main_v84 : Ref sig .tc := ⟨.hbm, 109, rfl⟩
abbrev main_v85 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]
-- ==== AbIn0.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S2x1024x2560 : Shape := ⟨3, ![2, 1024, 2560]⟩
abbrev S8192x32 : Shape := ⟨2, ![8192, 32]⟩
abbrev S384 : Shape := ⟨1, ![384]⟩
abbrev S32768x1024 : Shape := ⟨2, ![32768, 1024]⟩
abbrev S1024x1024 : Shape := ⟨2, ![1024, 1024]⟩
abbrev S33792x1024 : Shape := ⟨2, ![33792, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S8192x128 : Shape := ⟨2, ![8192, 128]⟩
abbrev S512x128 : Shape := ⟨2, ![512, 128]⟩
abbrev S8704x128 : Shape := ⟨2, ![8704, 128]⟩
abbrev S1x1024x2560 : Shape := ⟨3, ![1, 1024, 2560]⟩
abbrev S1024x2560 : Shape := ⟨2, ![1024, 2560]⟩
abbrev S1024x256 : Shape := ⟨2, ![1024, 256]⟩
abbrev S1024x384 : Shape := ⟨2, ![1024, 384]⟩
abbrev S384x1 : Shape := ⟨2, ![384, 1]⟩
abbrev S1024x1536 : Shape := ⟨2, ![1024, 1536]⟩
abbrev S1x1x1024 : Shape := ⟨3, ![1, 1, 1024]⟩
abbrev S1024 : Shape := ⟨1, ![1024]⟩
abbrev S1x1024 : Shape := ⟨2, ![1, 1024]⟩
abbrev S33792x256 : Shape := ⟨2, ![33792, 256]⟩
abbrev S33792x384 : Shape := ⟨2, ![33792, 384]⟩
abbrev S66x384x512 : Shape := ⟨3, ![66, 384, 512]⟩
abbrev S33792x768 : Shape := ⟨2, ![33792, 768]⟩
abbrev S512x1024 : Shape := ⟨2, ![512, 1024]⟩
abbrev S512x256 : Shape := ⟨2, ![512, 256]⟩
abbrev S512x384 : Shape := ⟨2, ![512, 384]⟩
abbrev S1x384x512 : Shape := ⟨3, ![1, 384, 512]⟩
abbrev S512x768 : Shape := ⟨2, ![512, 768]⟩
abbrev S512 : Shape := ⟨1, ![512]⟩
abbrev S512x1 : Shape := ⟨2, ![512, 1]⟩
abbrev S512x2560 : Shape := ⟨2, ![512, 2560]⟩
abbrev S128x512 : Shape := ⟨2, ![128, 512]⟩
abbrev S1x128x512 : Shape := ⟨3, ![1, 128, 512]⟩

abbrev nBuf : Space → Nat
  | .hbm => 59
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x9x1024, .f32⟩
  | .hbm, ⟨3, _⟩ => ⟨S9x1024, .f32⟩
  | .hbm, ⟨4, _⟩ => ⟨S4x3x1024, .f32⟩
  | .hbm, ⟨5, _⟩ => ⟨S2x1024x2560, .f32⟩
  | .hbm, ⟨6, _⟩ => ⟨S8192x32, .f32⟩
  | .hbm, ⟨7, _⟩ => ⟨S8192x32, .f32⟩
  | .hbm, ⟨8, _⟩ => ⟨S384, .i32⟩
  | .hbm, ⟨9, _⟩ => ⟨S384, .i1⟩
  | .hbm, ⟨10, _⟩ => ⟨S384, .i1⟩
  | .hbm, ⟨11, _⟩ => ⟨S32768x1024, .f32⟩
  | .hbm, ⟨12, _⟩ => ⟨S1024x1024, .f32⟩
  | .hbm, ⟨13, _⟩ => ⟨S33792x1024, .f32⟩
  | .hbm, ⟨14, _⟩ => ⟨S1x9x1024, .f32⟩
  | .hbm, ⟨15, _⟩ => ⟨S_, .f32⟩
  | .hbm, ⟨16, _⟩ => ⟨S3x9x1024, .f32⟩
  | .hbm, ⟨17, _⟩ => ⟨S8x9x1024, .f32⟩
  | .hbm, ⟨18, _⟩ => ⟨S8192x128, .f32⟩
  | .hbm, ⟨19, _⟩ => ⟨S8192x32, .f32⟩
  | .hbm, ⟨20, _⟩ => ⟨S8192x32, .f32⟩
  | .hbm, ⟨21, _⟩ => ⟨S8192x128, .f32⟩
  | .hbm, ⟨22, _⟩ => ⟨S_, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S8704x128, .f32⟩
  | .hbm, ⟨27, _⟩ => ⟨S8704x128, .f32⟩
  | .hbm, ⟨28, _⟩ => ⟨S1x1024x2560, .f32⟩
  | .hbm, ⟨29, _⟩ => ⟨S1024x2560, .f32⟩
  | .hbm, ⟨30, _⟩ => ⟨S1024x256, .f32⟩
  | .hbm, ⟨31, _⟩ => ⟨S1024x384, .f32⟩
  | .hbm, ⟨32, _⟩ => ⟨S_, .i32⟩
  | .hbm, ⟨33, _⟩ => ⟨S384, .i32⟩
  | .hbm, ⟨34, _⟩ => ⟨S384, .i32⟩
  | .hbm, ⟨35, _⟩ => ⟨S384, .i32⟩
  | .hbm, ⟨36, _⟩ => ⟨S384x1, .i32⟩
  | .hbm, ⟨37, _⟩ => ⟨S1024x384, .f32⟩
  | .hbm, ⟨38, _⟩ => ⟨S1024x384, .f32⟩
  | .hbm, ⟨39, _⟩ => ⟨S_, .i32⟩
  | .hbm, ⟨40, _⟩ => ⟨S384, .i32⟩
  | .hbm, ⟨41, _⟩ => ⟨S384, .i32⟩
  | .hbm, ⟨42, _⟩ => ⟨S384, .i32⟩
  | .hbm, ⟨43, _⟩ => ⟨S384x1, .i32⟩
  | .hbm, ⟨44, _⟩ => ⟨S1024x384, .f32⟩
  | .hbm, ⟨45, _⟩ => ⟨S_, .f32⟩
  | .hbm, ⟨46, _⟩ => ⟨S1024x384, .f32⟩
  | .hbm, ⟨47, _⟩ => ⟨S1024x384, .f32⟩
  | .hbm, ⟨48, _⟩ => ⟨S1024x1536, .f32⟩
  | .hbm, ⟨49, _⟩ => ⟨S1024x2560, .f32⟩
  | .hbm, ⟨50, _⟩ => ⟨S1024x2560, .bf16⟩
  | .hbm, ⟨51, _⟩ => ⟨S1x1x1024, .f32⟩
  | .hbm, ⟨52, _⟩ => ⟨S1024, .f32⟩
  | .hbm, ⟨53, _⟩ => ⟨S1x1024, .f32⟩
  | .hbm, ⟨54, _⟩ => ⟨S33792x256, .f32⟩
  | .hbm, ⟨55, _⟩ => ⟨S33792x384, .bf16⟩
  | .hbm, ⟨56, _⟩ => ⟨S66x384x512, .bf16⟩
  | .hbm, ⟨57, _⟩ => ⟨S33792x768, .bf16⟩
  | .hbm, ⟨58, _⟩ => ⟨S33792x768, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2560, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x256, .f32⟩
  | .local _ .vmem, ⟨11, _⟩ => ⟨S512x256, .f32⟩
  | .local _ .vmem, ⟨12, _⟩ => ⟨S512x384, .bf16⟩
  | .local _ .vmem, ⟨13, _⟩ => ⟨S512x384, .bf16⟩
  | .local _ .vmem, ⟨14, _⟩ => ⟨S1x384x512, .bf16⟩
  | .local _ .vmem, ⟨15, _⟩ => ⟨S1x384x512, .bf16⟩
  | .local _ .vmem, ⟨16, _⟩ => ⟨S512x768, .bf16⟩
  | .local _ .vmem, ⟨17, _⟩ => ⟨S512x768, .bf16⟩
  | .local _ .vmem, ⟨18, _⟩ => ⟨S512x768, .bf16⟩
  | .local _ .vmem, ⟨19, _⟩ => ⟨S512x768, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37_0 : Ref sig .tc := ⟨.hbm, 54, rfl⟩
abbrev main_v37_1 : Ref sig .tc := ⟨.hbm, 55, rfl⟩
abbrev main_v37_2 : Ref sig .tc := ⟨.hbm, 56, rfl⟩
abbrev main_v37_3 : Ref sig .tc := ⟨.hbm, 57, rfl⟩
abbrev main_v37_4 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c64_i32 : BitVec 32 := 64#32
  let v0 : BitVec 1 := Scalar.cmpi .slt arg0 c64_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c64_i32 : BitVec 32 := 64#32
  let v0 : BitVec 1 := Scalar.cmpi .slt arg0 c64_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x384x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AbIn0ReferenceIdeal.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S2x1024x2560 : Shape := ⟨3, ![2, 1024, 2560]⟩
abbrev S8192x32 : Shape := ⟨2, ![8192, 32]⟩
abbrev S1x1x1024 : Shape := ⟨3, ![1, 1, 1024]⟩
abbrev S1024 : Shape := ⟨1, ![1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1024 : Shape := ⟨2, ![1, 1024]⟩
abbrev S4x256 : Shape := ⟨2, ![4, 256]⟩
abbrev S4x256x1 : Shape := ⟨3, ![4, 256, 1]⟩
abbrev S1x1024x2560 : Shape := ⟨3, ![1, 1024, 2560]⟩
abbrev S1024x2560 : Shape := ⟨2, ![1024, 2560]⟩
abbrev S4x8192x2560 : Shape := ⟨3, ![4, 8192, 2560]⟩
abbrev S4x8192x256 : Shape := ⟨3, ![4, 8192, 256]⟩
abbrev S4x8192x384 : Shape := ⟨3, ![4, 8192, 384]⟩
abbrev S4x8192x768 : Shape := ⟨3, ![4, 8192, 768]⟩
abbrev S4x8192x6x64 : Shape := ⟨4, ![4, 8192, 6, 64]⟩
abbrev S4x8192x6x128 : Shape := ⟨4, ![4, 8192, 6, 128]⟩
abbrev S4x256x2560 : Shape := ⟨3, ![4, 256, 2560]⟩
abbrev S4x256x256 : Shape := ⟨3, ![4, 256, 256]⟩
abbrev S4x256x384 : Shape := ⟨3, ![4, 256, 384]⟩
abbrev S4x256x768 : Shape := ⟨3, ![4, 256, 768]⟩
abbrev S4x256x6x64 : Shape := ⟨4, ![4, 256, 6, 64]⟩
abbrev S4x256x6x128 : Shape := ⟨4, ![4, 256, 6, 128]⟩
abbrev S4x8192x6x32x2 : Shape := ⟨5, ![4, 8192, 6, 32, 2]⟩
abbrev S4x8192x6x32x1 : Shape := ⟨5, ![4, 8192, 6, 32, 1]⟩
abbrev S4x8192x6x32 : Shape := ⟨4, ![4, 8192, 6, 32]⟩
abbrev S8192x1x32 : Shape := ⟨3, ![8192, 1, 32]⟩
abbrev S1x8192x1x32 : Shape := ⟨4, ![1, 8192, 1, 32]⟩
abbrev S32768x256 : Shape := ⟨2, ![32768, 256]⟩
abbrev S1024x256 : Shape := ⟨2, ![1024, 256]⟩
abbrev S33792x256 : Shape := ⟨2, ![33792, 256]⟩
abbrev S4x8192x6x2x32 : Shape := ⟨5, ![4, 8192, 6, 2, 32]⟩
abbrev S4x256x6x32x2 : Shape := ⟨5, ![4, 256, 6, 32, 2]⟩
abbrev S4x256x6x2x32 : Shape := ⟨5, ![4, 256, 6, 2, 32]⟩
abbrev S32768x384 : Shape := ⟨2, ![32768, 384]⟩
abbrev S1024x384 : Shape := ⟨2, ![1024, 384]⟩
abbrev S33792x384 : Shape := ⟨2, ![33792, 384]⟩
abbrev S66x512x384 : Shape := ⟨3, ![66, 512, 384]⟩
abbrev S66x384x512 : Shape := ⟨3, ![66, 384, 512]⟩
abbrev S32768x768 : Shape := ⟨2, ![32768, 768]⟩
abbrev S1024x768 : Shape := ⟨2, ![1024, 768]⟩
abbrev S33792x768 : Shape := ⟨2, ![33792, 768]⟩

abbrev nBuf : Space → Nat
  | .hbm => 179
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x9x1024, .f32⟩
  | 3 => ⟨S9x1024, .f32⟩
  | 4 => ⟨S4x3x1024, .f32⟩
  | 5 => ⟨S2x1024x2560, .f32⟩
  | 6 => ⟨S8192x32, .f32⟩
  | 7 => ⟨S8192x32, .f32⟩
  | 8 => ⟨S1x1x1024, .f32⟩
  | 9 => ⟨S1024, .f32⟩
  | 10 => ⟨S4x1x1024, .f32⟩
  | 11 => ⟨S4x1024, .f32⟩
  | 12 => ⟨S4x1x1024, .f32⟩
  | 13 => ⟨S4x1x1024, .f32⟩
  | 14 => ⟨S4x1024, .f32⟩
  | 15 => ⟨S4x1x1024, .f32⟩
  | 16 => ⟨S4x8192x1024, .f32⟩
  | 17 => ⟨S_, .f32⟩
  | 18 => ⟨S4x8192, .f32⟩
  | 19 => ⟨S4x8192x1, .f32⟩
  | 20 => ⟨S_, .f32⟩
  | 21 => ⟨S4x8192x1, .f32⟩
  | 22 => ⟨S4x8192x1, .f32⟩
  | 23 => ⟨S_, .f32⟩
  | 24 => ⟨S4x8192x1, .f32⟩
  | 25 => ⟨S4x8192x1, .f32⟩
  | 26 => ⟨S4x8192x1, .f32⟩
  | 27 => ⟨S4x8192x1024, .f32⟩
  | 28 => ⟨S4x8192x1024, .f32⟩
  | 29 => ⟨S1x1x1024, .f32⟩
  | 30 => ⟨S4x8192x1024, .f32⟩
  | 31 => ⟨S4x8192x1024, .f32⟩
  | 32 => ⟨S_, .f32⟩
  | 33 => ⟨S4x1x1024, .f32⟩
  | 34 => ⟨S4x1x1024, .f32⟩
  | 35 => ⟨S4x8192x1024, .f32⟩
  | 36 => ⟨S4x8192x1024, .f32⟩
  | 37 => ⟨S4x8192x1024, .f32⟩
  | 38 => ⟨S4x8192x1024, .f32⟩
  | 39 => ⟨S1x1x1024, .f32⟩
  | 40 => ⟨S1024, .f32⟩
  | 41 => ⟨S1x1024, .f32⟩
  | 42 => ⟨S1024, .f32⟩
  | 43 => ⟨S1x1024, .f32⟩
  | 44 => ⟨S1x1024, .f32⟩
  | 45 => ⟨S1024, .f32⟩
  | 46 => ⟨S1x1024, .f32⟩
  | 47 => ⟨S4x256x1024, .f32⟩
  | 48 => ⟨S_, .f32⟩
  | 49 => ⟨S4x256, .f32⟩
  | 50 => ⟨S4x256x1, .f32⟩
  | 51 => ⟨S_, .f32⟩
  | 52 => ⟨S4x256x1, .f32⟩
  | 53 => ⟨S4x256x1, .f32⟩
  | 54 => ⟨S_, .f32⟩
  | 55 => ⟨S4x256x1, .f32⟩
  | 56 => ⟨S4x256x1, .f32⟩
  | 57 => ⟨S4x256x1, .f32⟩
  | 58 => ⟨S4x256x1024, .f32⟩
  | 59 => ⟨S4x256x1024, .f32⟩
  | 60 => ⟨S1x1x1024, .f32⟩
  | 61 => ⟨S4x256x1024, .f32⟩
  | 62 => ⟨S4x256x1024, .f32⟩
  | 63 => ⟨S_, .f32⟩
  | 64 => ⟨S1x1024, .f32⟩
  | 65 => ⟨S1x1024, .f32⟩
  | 66 => ⟨S1x1x1024, .f32⟩
  | 67 => ⟨S4x256x1024, .f32⟩
  | 68 => ⟨S4x256x1024, .f32⟩
  | 69 => ⟨S1x1x1024, .f32⟩
  | 70 => ⟨S4x256x1024, .f32⟩
  | 71 => ⟨S4x256x1024, .f32⟩
  | 72 => ⟨S1x1024x2560, .f32⟩
  | 73 => ⟨S1024x2560, .f32⟩
  | 74 => ⟨S4x8192x2560, .f32⟩
  | 75 => ⟨S4x8192x256, .f32⟩
  | 76 => ⟨S4x8192x384, .f32⟩
  | 77 => ⟨S4x8192x384, .f32⟩
  | 78 => ⟨S4x8192x768, .f32⟩
  | 79 => ⟨S4x8192x768, .f32⟩
  | 80 => ⟨S4x8192x6x64, .f32⟩
  | 81 => ⟨S4x8192x6x64, .f32⟩
  | 82 => ⟨S_, .f32⟩
  | 83 => ⟨S4x8192x6x64, .f32⟩
  | 84 => ⟨S4x8192x6x64, .f32⟩
  | 85 => ⟨S4x8192x6x128, .f32⟩
  | 86 => ⟨S1x1024x2560, .f32⟩
  | 87 => ⟨S1024x2560, .f32⟩
  | 88 => ⟨S4x256x2560, .f32⟩
  | 89 => ⟨S4x256x256, .f32⟩
  | 90 => ⟨S4x256x384, .f32⟩
  | 91 => ⟨S4x256x384, .f32⟩
  | 92 => ⟨S4x256x768, .f32⟩
  | 93 => ⟨S4x256x768, .f32⟩
  | 94 => ⟨S4x256x6x64, .f32⟩
  | 95 => ⟨S4x256x6x64, .f32⟩
  | 96 => ⟨S_, .f32⟩
  | 97 => ⟨S4x256x6x64, .f32⟩
  | 98 => ⟨S4x256x6x64, .f32⟩
  | 99 => ⟨S4x256x6x128, .f32⟩
  | 100 => ⟨S4x8192x6x32x2, .f32⟩
  | 101 => ⟨S4x8192x6x32x1, .f32⟩
  | 102 => ⟨S4x8192x6x32, .f32⟩
  | 103 => ⟨S4x8192x6x32x1, .f32⟩
  | 104 => ⟨S4x8192x6x32, .f32⟩
  | 105 => ⟨S8192x1x32, .f32⟩
  | 106 => ⟨S8192x1x32, .f32⟩
  | 107 => ⟨S1x8192x1x32, .f32⟩
  | 108 => ⟨S4x8192x6x32, .f32⟩
  | 109 => ⟨S4x8192x6x32, .f32⟩
  | 110 => ⟨S1x8192x1x32, .f32⟩
  | 111 => ⟨S4x8192x6x32, .f32⟩
  | 112 => ⟨S4x8192x6x32, .f32⟩
  | 113 => ⟨S4x8192x6x32, .f32⟩
  | 114 => ⟨S1x8192x1x32, .f32⟩
  | 115 => ⟨S4x8192x6x32, .f32⟩
  | 116 => ⟨S4x8192x6x32, .f32⟩
  | 117 => ⟨S1x8192x1x32, .f32⟩
  | 118 => ⟨S4x8192x6x32, .f32⟩
  | 119 => ⟨S4x8192x6x32, .f32⟩
  | 120 => ⟨S4x8192x6x32, .f32⟩
  | 121 => ⟨S4x8192x6x32x1, .f32⟩
  | 122 => ⟨S4x8192x6x32x1, .f32⟩
  | 123 => ⟨S4x8192x6x32x2, .f32⟩
  | 124 => ⟨S4x8192x6x64, .f32⟩
  | 125 => ⟨S4x8192x6x32x2, .f32⟩
  | 126 => ⟨S4x8192x6x32x1, .f32⟩
  | 127 => ⟨S4x8192x6x32, .f32⟩
  | _ => ⟨S4x8192x1024, .f32⟩

abbrev hbmTy0_1 (i : Nat) : BufTy := match i % 128 with
  | 0 => ⟨S4x8192x6x32x1, .f32⟩
  | 1 => ⟨S4x8192x6x32, .f32⟩
  | 2 => ⟨S8192x1x32, .f32⟩
  | 3 => ⟨S8192x1x32, .f32⟩
  | 4 => ⟨S1x8192x1x32, .f32⟩
  | 5 => ⟨S4x8192x6x32, .f32⟩
  | 6 => ⟨S4x8192x6x32, .f32⟩
  | 7 => ⟨S1x8192x1x32, .f32⟩
  | 8 => ⟨S4x8192x6x32, .f32⟩
  | 9 => ⟨S4x8192x6x32, .f32⟩
  | 10 => ⟨S4x8192x6x32, .f32⟩
  | 11 => ⟨S1x8192x1x32, .f32⟩
  | 12 => ⟨S4x8192x6x32, .f32⟩
  | 13 => ⟨S4x8192x6x32, .f32⟩
  | 14 => ⟨S1x8192x1x32, .f32⟩
  | 15 => ⟨S4x8192x6x32, .f32⟩
  | 16 => ⟨S4x8192x6x32, .f32⟩
  | 17 => ⟨S4x8192x6x32, .f32⟩
  | 18 => ⟨S4x8192x6x32x1, .f32⟩
  | 19 => ⟨S4x8192x6x32x1, .f32⟩
  | 20 => ⟨S4x8192x6x32x2, .f32⟩
  | 21 => ⟨S4x8192x6x64, .f32⟩
  | 22 => ⟨S32768x256, .f32⟩
  | 23 => ⟨S1024x256, .f32⟩
  | 24 => ⟨S33792x256, .f32⟩
  | 25 => ⟨S4x8192x6x32x2, .f32⟩
  | 26 => ⟨S4x8192x6x2x32, .f32⟩
  | 27 => ⟨S4x256x6x32x2, .f32⟩
  | 28 => ⟨S4x256x6x2x32, .f32⟩
  | 29 => ⟨S32768x384, .f32⟩
  | 30 => ⟨S1024x384, .f32⟩
  | 31 => ⟨S33792x384, .f32⟩
  | 32 => ⟨S33792x384, .bf16⟩
  | 33 => ⟨S4x8192x6x32x2, .f32⟩
  | 34 => ⟨S4x8192x6x2x32, .f32⟩
  | 35 => ⟨S4x256x6x32x2, .f32⟩
  | 36 => ⟨S4x256x6x2x32, .f32⟩
  | 37 => ⟨S32768x384, .f32⟩
  | 38 => ⟨S1024x384, .f32⟩
  | 39 => ⟨S33792x384, .f32⟩
  | 40 => ⟨S66x512x384, .f32⟩
  | 41 => ⟨S66x384x512, .f32⟩
  | 42 => ⟨S66x384x512, .bf16⟩
  | 43 => ⟨S32768x768, .f32⟩
  | 44 => ⟨S1024x768, .f32⟩
  | 45 => ⟨S33792x768, .f32⟩
  | 46 => ⟨S33792x768, .bf16⟩
  | 47 => ⟨S32768x768, .f32⟩
  | 48 => ⟨S1024x768, .f32⟩
  | 49 => ⟨S33792x768, .f32⟩
  | 50 => ⟨S33792x768, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_7 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_8 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩

abbrev nD : Nat := 1
abbrev τ : Topo := Topo.v7x

variable {F : FTy → Type} [FloatOps F]
-- ==== AbIn2.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S2x1024x2560 : Shape := ⟨3, ![2, 1024, 2560]⟩
abbrev S8192x32 : Shape := ⟨2, ![8192, 32]⟩
abbrev S384 : Shape := ⟨1, ![384]⟩
abbrev S32768x1024 : Shape := ⟨2, ![32768, 1024]⟩
abbrev S1024x1024 : Shape := ⟨2, ![1024, 1024]⟩
abbrev S33792x1024 : Shape := ⟨2, ![33792, 1024]⟩
abbrev S1x9x1024 : Shape := ⟨3, ![1, 9, 1024]⟩
abbrev S_ : Shape := ⟨0, ![]⟩
abbrev S3x9x1024 : Shape := ⟨3, ![3, 9, 1024]⟩
abbrev S8x9x1024 : Shape := ⟨3, ![8, 9, 1024]⟩
abbrev S8192x128 : Shape := ⟨2, ![8192, 128]⟩
abbrev S512x128 : Shape := ⟨2, ![512, 128]⟩
abbrev S8704x128 : Shape := ⟨2, ![8704, 128]⟩
abbrev S1x1024x2560 : Shape := ⟨3, ![1, 1024, 2560]⟩
abbrev S1024x2560 : Shape := ⟨2, ![1024, 2560]⟩
abbrev S1024x256 : Shape := ⟨2, ![1024, 256]⟩
abbrev S1024x384 : Shape := ⟨2, ![1024, 384]⟩
abbrev S384x1 : Shape := ⟨2, ![384, 1]⟩
abbrev S1024x1536 : Shape := ⟨2, ![1024, 1536]⟩
abbrev S1x1x1024 : Shape := ⟨3, ![1, 1, 1024]⟩
abbrev S1024 : Shape := ⟨1, ![1024]⟩
abbrev S1x1024 : Shape := ⟨2, ![1, 1024]⟩
abbrev S33792x256 : Shape := ⟨2, ![33792, 256]⟩
abbrev S33792x384 : Shape := ⟨2, ![33792, 384]⟩
abbrev S66x384x512 : Shape := ⟨3, ![66, 384, 512]⟩
abbrev S33792x768 : Shape := ⟨2, ![33792, 768]⟩
abbrev S512x1024 : Shape := ⟨2, ![512, 1024]⟩
abbrev S512x256 : Shape := ⟨2, ![512, 256]⟩
abbrev S512x384 : Shape := ⟨2, ![512, 384]⟩
abbrev S1x384x512 : Shape := ⟨3, ![1, 384, 512]⟩
abbrev S512x768 : Shape := ⟨2, ![512, 768]⟩
abbrev S512 : Shape := ⟨1, ![512]⟩
abbrev S512x1 : Shape := ⟨2, ![512, 1]⟩
abbrev S512x2560 : Shape := ⟨2, ![512, 2560]⟩
abbrev S128x512 : Shape := ⟨2, ![128, 512]⟩
abbrev S1x128x512 : Shape := ⟨3, ![1, 128, 512]⟩

abbrev nBuf : Space → Nat
  | .hbm => 59
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x9x1024, .f32⟩
  | .hbm, ⟨3, _⟩ => ⟨S9x1024, .f32⟩
  | .hbm, ⟨4, _⟩ => ⟨S4x3x1024, .f32⟩
  | .hbm, ⟨5, _⟩ => ⟨S2x1024x2560, .f32⟩
  | .hbm, ⟨6, _⟩ => ⟨S8192x32, .f32⟩
  | .hbm, ⟨7, _⟩ => ⟨S8192x32, .f32⟩
  | .hbm, ⟨8, _⟩ => ⟨S384, .i32⟩
  | .hbm, ⟨9, _⟩ => ⟨S384, .i1⟩
  | .hbm, ⟨10, _⟩ => ⟨S384, .i1⟩
  | .hbm, ⟨11, _⟩ => ⟨S32768x1024, .f32⟩
  | .hbm, ⟨12, _⟩ => ⟨S1024x1024, .f32⟩
  | .hbm, ⟨13, _⟩ => ⟨S33792x1024, .f32⟩
  | .hbm, ⟨14, _⟩ => ⟨S1x9x1024, .f32⟩
  | .hbm, ⟨15, _⟩ => ⟨S_, .f32⟩
  | .hbm, ⟨16, _⟩ => ⟨S3x9x1024, .f32⟩
  | .hbm, ⟨17, _⟩ => ⟨S8x9x1024, .f32⟩
  | .hbm, ⟨18, _⟩ => ⟨S8192x128, .f32⟩
  | .hbm, ⟨19, _⟩ => ⟨S8192x32, .f32⟩
  | .hbm, ⟨20, _⟩ => ⟨S8192x32, .f32⟩
  | .hbm, ⟨21, _⟩ => ⟨S8192x128, .f32⟩
  | .hbm, ⟨22, _⟩ => ⟨S_, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S8704x128, .f32⟩
  | .hbm, ⟨27, _⟩ => ⟨S8704x128, .f32⟩
  | .hbm, ⟨28, _⟩ => ⟨S1x1024x2560, .f32⟩
  | .hbm, ⟨29, _⟩ => ⟨S1024x2560, .f32⟩
  | .hbm, ⟨30, _⟩ => ⟨S1024x256, .f32⟩
  | .hbm, ⟨31, _⟩ => ⟨S1024x384, .f32⟩
  | .hbm, ⟨32, _⟩ => ⟨S_, .i32⟩
  | .hbm, ⟨33, _⟩ => ⟨S384, .i32⟩
  | .hbm, ⟨34, _⟩ => ⟨S384, .i32⟩
  | .hbm, ⟨35, _⟩ => ⟨S384, .i32⟩
  | .hbm, ⟨36, _⟩ => ⟨S384x1, .i32⟩
  | .hbm, ⟨37, _⟩ => ⟨S1024x384, .f32⟩
  | .hbm, ⟨38, _⟩ => ⟨S1024x384, .f32⟩
  | .hbm, ⟨39, _⟩ => ⟨S_, .i32⟩
  | .hbm, ⟨40, _⟩ => ⟨S384, .i32⟩
  | .hbm, ⟨41, _⟩ => ⟨S384, .i32⟩
  | .hbm, ⟨42, _⟩ => ⟨S384, .i32⟩
  | .hbm, ⟨43, _⟩ => ⟨S384x1, .i32⟩
  | .hbm, ⟨44, _⟩ => ⟨S1024x384, .f32⟩
  | .hbm, ⟨45, _⟩ => ⟨S_, .f32⟩
  | .hbm, ⟨46, _⟩ => ⟨S1024x384, .f32⟩
  | .hbm, ⟨47, _⟩ => ⟨S1024x384, .f32⟩
  | .hbm, ⟨48, _⟩ => ⟨S1024x1536, .f32⟩
  | .hbm, ⟨49, _⟩ => ⟨S1024x2560, .f32⟩
  | .hbm, ⟨50, _⟩ => ⟨S1024x2560, .bf16⟩
  | .hbm, ⟨51, _⟩ => ⟨S1x1x1024, .f32⟩
  | .hbm, ⟨52, _⟩ => ⟨S1024, .f32⟩
  | .hbm, ⟨53, _⟩ => ⟨S1x1024, .f32⟩
  | .hbm, ⟨54, _⟩ => ⟨S33792x256, .f32⟩
  | .hbm, ⟨55, _⟩ => ⟨S33792x384, .bf16⟩
  | .hbm, ⟨56, _⟩ => ⟨S66x384x512, .bf16⟩
  | .hbm, ⟨57, _⟩ => ⟨S33792x768, .bf16⟩
  | .hbm, ⟨58, _⟩ => ⟨S33792x768, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2560, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x256, .f32⟩
  | .local _ .vmem, ⟨11, _⟩ => ⟨S512x256, .f32⟩
  | .local _ .vmem, ⟨12, _⟩ => ⟨S512x384, .bf16⟩
  | .local _ .vmem, ⟨13, _⟩ => ⟨S512x384, .bf16⟩
  | .local _ .vmem, ⟨14, _⟩ => ⟨S1x384x512, .bf16⟩
  | .local _ .vmem, ⟨15, _⟩ => ⟨S1x384x512, .bf16⟩
  | .local _ .vmem, ⟨16, _⟩ => ⟨S512x768, .bf16⟩
  | .local _ .vmem, ⟨17, _⟩ => ⟨S512x768, .bf16⟩
  | .local _ .vmem, ⟨18, _⟩ => ⟨S512x768, .bf16⟩
  | .local _ .vmem, ⟨19, _⟩ => ⟨S512x768, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37_0 : Ref sig .tc := ⟨.hbm, 54, rfl⟩
abbrev main_v37_1 : Ref sig .tc := ⟨.hbm, 55, rfl⟩
abbrev main_v37_2 : Ref sig .tc := ⟨.hbm, 56, rfl⟩
abbrev main_v37_3 : Ref sig .tc := ⟨.hbm, 57, rfl⟩
abbrev main_v37_4 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c64_i32 : BitVec 32 := 64#32
  let v0 : BitVec 1 := Scalar.cmpi .slt arg0 c64_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c64_i32 : BitVec 32 := 64#32
  let v0 : BitVec 1 := Scalar.cmpi .slt arg0 c64_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x384x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AbIn2ReferenceIdeal.lean ====
abbrev S4x8192x1024 : Shape := ⟨3, ![4, 8192, 1024]⟩
abbrev S4x256x1024 : Shape := ⟨3, ![4, 256, 1024]⟩
abbrev S4x9x1024 : Shape := ⟨3, ![4, 9, 1024]⟩
abbrev S9x1024 : Shape := ⟨2, ![9, 1024]⟩
abbrev S4x3x1024 : Shape := ⟨3, ![4, 3, 1024]⟩
abbrev S2x1024x2560 : Shape := ⟨3, ![2, 1024, 2560]⟩
abbrev S8192x32 : Shape := ⟨2, ![8192, 32]⟩
abbrev S1x1x1024 : Shape := ⟨3, ![1, 1, 1024]⟩
abbrev S1024 : Shape := ⟨1, ![1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1024 : Shape := ⟨2, ![1, 1024]⟩
abbrev S4x256 : Shape := ⟨2, ![4, 256]⟩
abbrev S4x256x1 : Shape := ⟨3, ![4, 256, 1]⟩
abbrev S1x1024x2560 : Shape := ⟨3, ![1, 1024, 2560]⟩
abbrev S1024x2560 : Shape := ⟨2, ![1024, 2560]⟩
abbrev S4x8192x2560 : Shape := ⟨3, ![4, 8192, 2560]⟩
abbrev S4x8192x256 : Shape := ⟨3, ![4, 8192, 256]⟩
abbrev S4x8192x384 : Shape := ⟨3, ![4, 8192, 384]⟩
abbrev S4x8192x768 : Shape := ⟨3, ![4, 8192, 768]⟩
abbrev S4x8192x6x64 : Shape := ⟨4, ![4, 8192, 6, 64]⟩
abbrev S4x8192x6x128 : Shape := ⟨4, ![4, 8192, 6, 128]⟩
abbrev S4x256x2560 : Shape := ⟨3, ![4, 256, 2560]⟩
abbrev S4x256x256 : Shape := ⟨3, ![4, 256, 256]⟩
abbrev S4x256x384 : Shape := ⟨3, ![4, 256, 384]⟩
abbrev S4x256x768 : Shape := ⟨3, ![4, 256, 768]⟩
abbrev S4x256x6x64 : Shape := ⟨4, ![4, 256, 6, 64]⟩
abbrev S4x256x6x128 : Shape := ⟨4, ![4, 256, 6, 128]⟩
abbrev S4x8192x6x32x2 : Shape := ⟨5, ![4, 8192, 6, 32, 2]⟩
abbrev S4x8192x6x32x1 : Shape := ⟨5, ![4, 8192, 6, 32, 1]⟩
abbrev S4x8192x6x32 : Shape := ⟨4, ![4, 8192, 6, 32]⟩
abbrev S8192x1x32 : Shape := ⟨3, ![8192, 1, 32]⟩
abbrev S1x8192x1x32 : Shape := ⟨4, ![1, 8192, 1, 32]⟩
abbrev S32768x256 : Shape := ⟨2, ![32768, 256]⟩
abbrev S1024x256 : Shape := ⟨2, ![1024, 256]⟩
abbrev S33792x256 : Shape := ⟨2, ![33792, 256]⟩
abbrev S4x8192x6x2x32 : Shape := ⟨5, ![4, 8192, 6, 2, 32]⟩
abbrev S4x256x6x32x2 : Shape := ⟨5, ![4, 256, 6, 32, 2]⟩
abbrev S4x256x6x2x32 : Shape := ⟨5, ![4, 256, 6, 2, 32]⟩
abbrev S32768x384 : Shape := ⟨2, ![32768, 384]⟩
abbrev S1024x384 : Shape := ⟨2, ![1024, 384]⟩
abbrev S33792x384 : Shape := ⟨2, ![33792, 384]⟩
abbrev S66x512x384 : Shape := ⟨3, ![66, 512, 384]⟩
abbrev S66x384x512 : Shape := ⟨3, ![66, 384, 512]⟩
abbrev S32768x768 : Shape := ⟨2, ![32768, 768]⟩
abbrev S1024x768 : Shape := ⟨2, ![1024, 768]⟩
abbrev S33792x768 : Shape := ⟨2, ![33792, 768]⟩

abbrev nBuf : Space → Nat
  | .hbm => 179
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x9x1024, .f32⟩
  | 3 => ⟨S9x1024, .f32⟩
  | 4 => ⟨S4x3x1024, .f32⟩
  | 5 => ⟨S2x1024x2560, .f32⟩
  | 6 => ⟨S8192x32, .f32⟩
  | 7 => ⟨S8192x32, .f32⟩
  | 8 => ⟨S1x1x1024, .f32⟩
  | 9 => ⟨S1024, .f32⟩
  | 10 => ⟨S4x1x1024, .f32⟩
  | 11 => ⟨S4x1024, .f32⟩
  | 12 => ⟨S4x1x1024, .f32⟩
  | 13 => ⟨S4x1x1024, .f32⟩
  | 14 => ⟨S4x1024, .f32⟩
  | 15 => ⟨S4x1x1024, .f32⟩
  | 16 => ⟨S4x8192x1024, .f32⟩
  | 17 => ⟨S_, .f32⟩
  | 18 => ⟨S4x8192, .f32⟩
  | 19 => ⟨S4x8192x1, .f32⟩
  | 20 => ⟨S_, .f32⟩
  | 21 => ⟨S4x8192x1, .f32⟩
  | 22 => ⟨S4x8192x1, .f32⟩
  | 23 => ⟨S_, .f32⟩
  | 24 => ⟨S4x8192x1, .f32⟩
  | 25 => ⟨S4x8192x1, .f32⟩
  | 26 => ⟨S4x8192x1, .f32⟩
  | 27 => ⟨S4x8192x1024, .f32⟩
  | 28 => ⟨S4x8192x1024, .f32⟩
  | 29 => ⟨S1x1x1024, .f32⟩
  | 30 => ⟨S4x8192x1024, .f32⟩
  | 31 => ⟨S4x8192x1024, .f32⟩
  | 32 => ⟨S_, .f32⟩
  | 33 => ⟨S4x1x1024, .f32⟩
  | 34 => ⟨S4x1x1024, .f32⟩
  | 35 => ⟨S4x8192x1024, .f32⟩
  | 36 => ⟨S4x8192x1024, .f32⟩
  | 37 => ⟨S4x8192x1024, .f32⟩
  | 38 => ⟨S4x8192x1024, .f32⟩
  | 39 => ⟨S1x1x1024, .f32⟩
  | 40 => ⟨S1024, .f32⟩
  | 41 => ⟨S1x1024, .f32⟩
  | 42 => ⟨S1024, .f32⟩
  | 43 => ⟨S1x1024, .f32⟩
  | 44 => ⟨S1x1024, .f32⟩
  | 45 => ⟨S1024, .f32⟩
  | 46 => ⟨S1x1024, .f32⟩
  | 47 => ⟨S4x256x1024, .f32⟩
  | 48 => ⟨S_, .f32⟩
  | 49 => ⟨S4x256, .f32⟩
  | 50 => ⟨S4x256x1, .f32⟩
  | 51 => ⟨S_, .f32⟩
  | 52 => ⟨S4x256x1, .f32⟩
  | 53 => ⟨S4x256x1, .f32⟩
  | 54 => ⟨S_, .f32⟩
  | 55 => ⟨S4x256x1, .f32⟩
  | 56 => ⟨S4x256x1, .f32⟩
  | 57 => ⟨S4x256x1, .f32⟩
  | 58 => ⟨S4x256x1024, .f32⟩
  | 59 => ⟨S4x256x1024, .f32⟩
  | 60 => ⟨S1x1x1024, .f32⟩
  | 61 => ⟨S4x256x1024, .f32⟩
  | 62 => ⟨S4x256x1024, .f32⟩
  | 63 => ⟨S_, .f32⟩
  | 64 => ⟨S1x1024, .f32⟩
  | 65 => ⟨S1x1024, .f32⟩
  | 66 => ⟨S1x1x1024, .f32⟩
  | 67 => ⟨S4x256x1024, .f32⟩
  | 68 => ⟨S4x256x1024, .f32⟩
  | 69 => ⟨S1x1x1024, .f32⟩
  | 70 => ⟨S4x256x1024, .f32⟩
  | 71 => ⟨S4x256x1024, .f32⟩
  | 72 => ⟨S1x1024x2560, .f32⟩
  | 73 => ⟨S1024x2560, .f32⟩
  | 74 => ⟨S4x8192x2560, .f32⟩
  | 75 => ⟨S4x8192x256, .f32⟩
  | 76 => ⟨S4x8192x384, .f32⟩
  | 77 => ⟨S4x8192x384, .f32⟩
  | 78 => ⟨S4x8192x768, .f32⟩
  | 79 => ⟨S4x8192x768, .f32⟩
  | 80 => ⟨S4x8192x6x64, .f32⟩
  | 81 => ⟨S4x8192x6x64, .f32⟩
  | 82 => ⟨S_, .f32⟩
  | 83 => ⟨S4x8192x6x64, .f32⟩
  | 84 => ⟨S4x8192x6x64, .f32⟩
  | 85 => ⟨S4x8192x6x128, .f32⟩
  | 86 => ⟨S1x1024x2560, .f32⟩
  | 87 => ⟨S1024x2560, .f32⟩
  | 88 => ⟨S4x256x2560, .f32⟩
  | 89 => ⟨S4x256x256, .f32⟩
  | 90 => ⟨S4x256x384, .f32⟩
  | 91 => ⟨S4x256x384, .f32⟩
  | 92 => ⟨S4x256x768, .f32⟩
  | 93 => ⟨S4x256x768, .f32⟩
  | 94 => ⟨S4x256x6x64, .f32⟩
  | 95 => ⟨S4x256x6x64, .f32⟩
  | 96 => ⟨S_, .f32⟩
  | 97 => ⟨S4x256x6x64, .f32⟩
  | 98 => ⟨S4x256x6x64, .f32⟩
  | 99 => ⟨S4x256x6x128, .f32⟩
  | 100 => ⟨S4x8192x6x32x2, .f32⟩
  | 101 => ⟨S4x8192x6x32x1, .f32⟩
  | 102 => ⟨S4x8192x6x32, .f32⟩
  | 103 => ⟨S4x8192x6x32x1, .f32⟩
  | 104 => ⟨S4x8192x6x32, .f32⟩
  | 105 => ⟨S8192x1x32, .f32⟩
  | 106 => ⟨S8192x1x32, .f32⟩
  | 107 => ⟨S1x8192x1x32, .f32⟩
  | 108 => ⟨S4x8192x6x32, .f32⟩
  | 109 => ⟨S4x8192x6x32, .f32⟩
  | 110 => ⟨S1x8192x1x32, .f32⟩
  | 111 => ⟨S4x8192x6x32, .f32⟩
  | 112 => ⟨S4x8192x6x32, .f32⟩
  | 113 => ⟨S4x8192x6x32, .f32⟩
  | 114 => ⟨S1x8192x1x32, .f32⟩
  | 115 => ⟨S4x8192x6x32, .f32⟩
  | 116 => ⟨S4x8192x6x32, .f32⟩
  | 117 => ⟨S1x8192x1x32, .f32⟩
  | 118 => ⟨S4x8192x6x32, .f32⟩
  | 119 => ⟨S4x8192x6x32, .f32⟩
  | 120 => ⟨S4x8192x6x32, .f32⟩
  | 121 => ⟨S4x8192x6x32x1, .f32⟩
  | 122 => ⟨S4x8192x6x32x1, .f32⟩
  | 123 => ⟨S4x8192x6x32x2, .f32⟩
  | 124 => ⟨S4x8192x6x64, .f32⟩
  | 125 => ⟨S4x8192x6x32x2, .f32⟩
  | 126 => ⟨S4x8192x6x32x1, .f32⟩
  | 127 => ⟨S4x8192x6x32, .f32⟩
  | _ => ⟨S4x8192x1024, .f32⟩

abbrev hbmTy0_1 (i : Nat) : BufTy := match i % 128 with
  | 0 => ⟨S4x8192x6x32x1, .f32⟩
  | 1 => ⟨S4x8192x6x32, .f32⟩
  | 2 => ⟨S8192x1x32, .f32⟩
  | 3 => ⟨S8192x1x32, .f32⟩
  | 4 => ⟨S1x8192x1x32, .f32⟩
  | 5 => ⟨S4x8192x6x32, .f32⟩
  | 6 => ⟨S4x8192x6x32, .f32⟩
  | 7 => ⟨S1x8192x1x32, .f32⟩
  | 8 => ⟨S4x8192x6x32, .f32⟩
  | 9 => ⟨S4x8192x6x32, .f32⟩
  | 10 => ⟨S4x8192x6x32, .f32⟩
  | 11 => ⟨S1x8192x1x32, .f32⟩
  | 12 => ⟨S4x8192x6x32, .f32⟩
  | 13 => ⟨S4x8192x6x32, .f32⟩
  | 14 => ⟨S1x8192x1x32, .f32⟩
  | 15 => ⟨S4x8192x6x32, .f32⟩
  | 16 => ⟨S4x8192x6x32, .f32⟩
  | 17 => ⟨S4x8192x6x32, .f32⟩
  | 18 => ⟨S4x8192x6x32x1, .f32⟩
  | 19 => ⟨S4x8192x6x32x1, .f32⟩
  | 20 => ⟨S4x8192x6x32x2, .f32⟩
  | 21 => ⟨S4x8192x6x64, .f32⟩
  | 22 => ⟨S32768x256, .f32⟩
  | 23 => ⟨S1024x256, .f32⟩
  | 24 => ⟨S33792x256, .f32⟩
  | 25 => ⟨S4x8192x6x32x2, .f32⟩
  | 26 => ⟨S4x8192x6x2x32, .f32⟩
  | 27 => ⟨S4x256x6x32x2, .f32⟩
  | 28 => ⟨S4x256x6x2x32, .f32⟩
  | 29 => ⟨S32768x384, .f32⟩
  | 30 => ⟨S1024x384, .f32⟩
  | 31 => ⟨S33792x384, .f32⟩
  | 32 => ⟨S33792x384, .bf16⟩
  | 33 => ⟨S4x8192x6x32x2, .f32⟩
  | 34 => ⟨S4x8192x6x2x32, .f32⟩
  | 35 => ⟨S4x256x6x32x2, .f32⟩
  | 36 => ⟨S4x256x6x2x32, .f32⟩
  | 37 => ⟨S32768x384, .f32⟩
  | 38 => ⟨S1024x384, .f32⟩
  | 39 => ⟨S33792x384, .f32⟩
  | 40 => ⟨S66x512x384, .f32⟩
  | 41 => ⟨S66x384x512, .f32⟩
  | 42 => ⟨S66x384x512, .bf16⟩
  | 43 => ⟨S32768x768, .f32⟩
  | 44 => ⟨S1024x768, .f32⟩
  | 45 => ⟨S33792x768, .f32⟩
  | 46 => ⟨S33792x768, .bf16⟩
  | 47 => ⟨S32768x768, .f32⟩
  | 48 => ⟨S1024x768, .f32⟩
  | 49 => ⟨S33792x768, .f32⟩
  | 50 => ⟨S33792x768, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_7 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_8 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩

abbrev nD : Nat := 1
abbrev τ : Topo := Topo.v7x

variable {F : FTy → Type} [FloatOps F]
-- ==== Proof.FfnRow.lean ====
/-
  The mathematics of one row of the half feed-forward block, on extended reals: the two programs of this directory
  that compute it are both read down to these definitions, one row of the activations at a time.

  `joined` adds the mixer's output, projected and gated, to the residual row; `scaled` is the RMS-normalised row under
  its gain, scale and shift; `hidden` is one unit of the gated layer (the first half of the columns of the first
  projection through the SiLU, times the second half); `half` adds the gated, halved output of the second projection.
-/
module

public import Idealize.ShloMosaic.Lib.Pointwise

@[expose] public section

noncomputable section

namespace Cert.FfnRow

open Idealize.ShloMosaic

/-- The residual row with the mixer's output added: `x + gate · (a W)`. -/
def joined (x a : Fin 1024 → EReal) (w : Fin 1024 → Fin 1024 → EReal) (gate : Fin 1024 → EReal) : Fin 1024 → EReal :=
  fun j => x j + gate j * ∑ k, a k * w k j

/-- The row divided by the root of its mean square, under gain `g`, scale and shift. -/
def scaled (r g shift scale : Fin 1024 → EReal) : Fin 1024 → EReal :=
  fun j => r j * Ideal.rsqrt (Ideal.div (∑ k, r k * r k) (Ideal.ofBits FTy.f32 0x44800000#32)
      + Ideal.ofBits FTy.f32 0x358637BD#32) * (g j * (1 + scale j)) + shift j

/-- One column of the first projection. -/
def proj (h : Fin 1024 → EReal) (w : Fin 1024 → Fin 5632 → EReal) (n : Fin 5632) : EReal := ∑ k, h k * w k n

/-- One hidden unit: `silu a · b`. -/
def hidden (h : Fin 1024 → EReal) (w : Fin 1024 → Fin 5632 → EReal) (n : Fin 2816) : EReal :=
  proj h w ⟨n, by omega⟩ * Ideal.logistic (proj h w ⟨n, by omega⟩) * proj h w ⟨2816 + n, by omega⟩

/-- The half block's output row: `r + (½ · gate) · (hidden W)`. -/
def half (r g shift scale gate : Fin 1024 → EReal) (win : Fin 1024 → Fin 5632 → EReal)
    (wout : Fin 2816 → Fin 1024 → EReal) (j : Fin 1024) : EReal :=
  r j + Ideal.ofBits FTy.f32 0x3F000000#32 * gate j * ∑ n, hidden (scaled r g shift scale) win n * wout n j

/-- A sum over the 2816 hidden units, cut behind the first 1536. -/
theorem sum_cut (f : Fin 2816 → EReal) :
    ∑ n, f n = ∑ n : Fin 1536, f ⟨n, by omega⟩ + ∑ n : Fin 1280, f ⟨1536 + n, by omega⟩ :=
  Fin.sum_univ_two_halves 1536 1280 rfl f

end Cert.FfnRow

end
-- ==== Proof.FfnBody.lean ====
/-
  What one grid point of the half feed-forward kernel writes, at an index of its block: row `p` of the block is
  `FfnRow.half` of row `p` of the operands' blocks. The kernel cuts the hidden units in two parts and adds the two
  products; `FfnRow.sum_cut` puts them together.
-/
module

public import proofs.«01_k».proof.Proof.Gen.FfnIdeal.Value
public import proofs.«01_k».proof.Proof.FfnRow

@[expose] public section

set_option maxRecDepth 16384

noncomputable section

namespace Cert.FfnIdeal.Body

open Cert.FfnIdeal Cert.FfnIdeal.Gen Idealize.ShloMosaic

/-- The row with the mixer's output added. -/
theorem pay2_apply (v0 : Vec Ideal S512x1024 .f32) (v2 : Vec Ideal S1x1x1024 .f32) (v4 : Vec Ideal S512x1024 .bf16)
    (v6 : Vec Ideal S1024x1024 .bf16) (p : Fin 512) (j : Fin 1024) :
    k0_pay2 (F := Ideal) v0 v2 v4 v6 (ix2 p j)
      = FfnRow.joined (fun k => v0 (ix2 p k)) (fun k => v4 (ix2 p k)) (fun k n => v6 (ix2 k n)) (fun k => v2 (ix3 0 0 k)) j := by
  pointwise [k0_pay2]
  rfl

/-- The normalised and modulated row, from the joined row. -/
theorem pay3_apply (v0 : Vec Ideal S512x1024 .f32) (v2 : Vec Ideal S1x1x1024 .f32) (v4 : Vec Ideal S512x1024 .bf16)
    (v6 : Vec Ideal S1024x1024 .bf16) (v12 : Vec Ideal S1x1024 .f32) (v14 v16 : Vec Ideal S1x1x1024 .f32) (p : Fin 512)
    (j : Fin 1024) :
    k0_pay3 (F := Ideal) v0 v2 v4 v6 v12 v14 v16 (ix2 p j)
      = FfnRow.scaled (fun k => k0_pay2 (F := Ideal) v0 v2 v4 v6 (ix2 p k)) (fun k => v12 (ix2 0 k))
          (fun k => v14 (ix3 0 0 k)) (fun k => v16 (ix3 0 0 k)) j := by
  pointwise [k0_pay3]
  rfl

/-- The two parts of the hidden units, each through its rows of the second projection. -/
theorem pay4_apply (v35 : FVec Ideal S512x1024 .bf16) (X : Vec Ideal S1x1x1024x5632 .bf16) (Y : Vec Ideal S1x1x2816x1024 .bf16)
    (p : Fin 512) (j : Fin 1024) :
    k0_pay4 (F := Ideal) v35 (View.ld X r0_6) (View.ld X r0_7) (View.ld Y r0_8) (View.ld X r0_9) (View.ld X r0_10)
        (View.ld Y r0_11) (ix2 p j)
      = ∑ n : Fin 2816, FfnRow.hidden (fun k => v35 (ix2 p k)) (fun k n => X (ix4 0 0 k n)) n * Y (ix4 0 0 n j) := by
  rw [FfnRow.sum_cut]
  pointwise [k0_pay4]
  refine congrArg₂ (· + ·) (Finset.sum_congr rfl fun n _ => ?_) (Finset.sum_congr rfl fun n _ => ?_)
  · rfl
  · simp only [FfnRow.hidden, FfnRow.proj, ← Nat.add_assoc, Nat.reduceAdd]

/-- One grid point's block, index by index. -/
theorem out_apply (x0 : Vec Ideal S512x1024 .f32) (x1 : Vec Ideal S512x1024 .bf16) (x2 : Vec Ideal S1024x1024 .bf16)
    (x3 : Vec Ideal S1x9x1024 .f32) (x4 : Vec Ideal S1x1024 .f32) (x5 : Vec Ideal S1x1x1024x5632 .bf16)
    (x6 : Vec Ideal S1x1x2816x1024 .bf16) (p : Fin 512) (j : Fin 1024) :
    out0_7 (F := Ideal) x0 x1 x2 x3 x4 x5 x6 (ix2 p j)
      = FfnRow.half (FfnRow.joined (fun k => x0 (ix2 p k)) (fun k => x1 (ix2 p k)) (fun k n => x2 (ix2 k n))
            (fun k => x3 (ix3 0 5 k)))
          (fun k => x4 (ix2 0 k)) (fun k => x3 (ix3 0 6 k)) (fun k => x3 (ix3 0 7 k)) (fun k => x3 (ix3 0 8 k))
          (fun k n => x5 (ix4 0 0 k n)) (fun n k => x6 (ix4 0 0 n k)) j := by
  unfold out0_7
  rw [Value.canon7_eq]
  show k0_pay2 (F := Ideal) (View.ld x0 r0_0) (View.ld x3 r0_1) (View.ld x1 r0_0) (View.ld x2 r0_2) (Value.ix7_0 (ix2 p j))
      + Ideal.ofBits FTy.f32 0x3F000000#32 * (View.ld x3 r0_12) (Value.ix7_1 (ix2 p j))
        * k0_pay4 (F := Ideal) (k0_pay3 (View.ld x0 r0_0) (View.ld x3 r0_1) (View.ld x1 r0_0) (View.ld x2 r0_2)
            (View.ld x4 r0_3) (View.ld x3 r0_4) (View.ld x3 r0_5)) (View.ld x5 r0_6) (View.ld x5 r0_7) (View.ld x6 r0_8)
            (View.ld x5 r0_9) (View.ld x5 r0_10) (View.ld x6 r0_11) (Value.ix7_2 (ix2 p j)) = _
  have e0 : Value.ix7_0 (ix2 p j) = ix2 p j := by funext a; match a with | ⟨0, _⟩ => rfl | ⟨1, _⟩ => rfl
  have e1 : Value.ix7_1 (ix2 p j) = ix3 0 0 j := by
    funext a; match a with | ⟨0, _⟩ => rfl | ⟨1, _⟩ => rfl | ⟨2, _⟩ => rfl
  have e2 : Value.ix7_2 (ix2 p j) = ix2 p j := by funext a; match a with | ⟨0, _⟩ => rfl | ⟨1, _⟩ => rfl
  rw [e0, e1, e2, pay4_apply]
  simp only [pay3_apply, pay2_apply]
  pointwise [FfnRow.half]

end Cert.FfnIdeal.Body

end
-- ==== Proof.FfnRef.lean ====
/-
  The reference of the half feed-forward block, index by index: row `l` of sequence `b` is `FfnRow.half` of that row of
  the arguments.
-/
module

public import proofs.«01_k».proof.Proof.Gen.FfnReferenceIdeal.Read
public import proofs.«01_k».proof.Proof.FfnRow

@[expose] public section

set_option maxRecDepth 16384

noncomputable section

namespace Cert.FfnReferenceIdeal.Rows

open Cert.FfnReferenceIdeal Cert.FfnReferenceIdeal.Read Idealize.ShloMosaic

variable (x0 : (⟨S4x8192x1024, .f32⟩ : BufTy).Contents (Elt Ideal)) (x2 : (⟨S33792x1024, .f32⟩ : BufTy).Contents (Elt Ideal))
  (x3 : (⟨S4x9x1024, .f32⟩ : BufTy).Contents (Elt Ideal)) (x5 : (⟨S4x3x1024, .f32⟩ : BufTy).Contents (Elt Ideal))
  (x6 : (⟨S4x2x1024x5632, .f32⟩ : BufTy).Contents (Elt Ideal)) (x7 : (⟨S4x2x2816x1024, .f32⟩ : BufTy).Contents (Elt Ideal))
  (x8 : (⟨S1024x1024, .f32⟩ : BufTy).Contents (Elt Ideal))

/-- The row with the mixer's output added. -/
theorem v8_apply (b : Fin 4) (l : Fin 8192) (j : Fin 1024) :
    val_main_v8 (F := Ideal) x0 x2 x3 x8 (ix3 b l j)
      = FfnRow.joined (fun k => x0 (ix3 b l k)) (fun k => x2 (ix2 ⟨b * 8192 + l, by omega⟩ k)) (fun k n => x8 (ix2 k n))
          (fun k => x3 (ix3 b 5 k)) j := by
  pointwise [val_main_v8, val_main_v7, val_main_v6, val_main_v5, val_main_v4, val_main_v3, val_main_v2, val_main_v1, val_main_v0]
  rfl

/-- The normalised and modulated row, from the joined row. -/
theorem v38_apply (b : Fin 4) (l : Fin 8192) (j : Fin 1024) :
    val_main_v38 (F := Ideal) x0 x2 x3 x5 x8 (ix3 b l j)
      = FfnRow.scaled (fun k => val_main_v8 (F := Ideal) x0 x2 x3 x8 (ix3 b l k)) (fun k => x5 (ix3 3 2 k))
          (fun k => x3 (ix3 b 6 k)) (fun k => x3 (ix3 b 7 k)) j := by
  pointwise [val_main_v38, val_main_v37, val_main_v36, val_main_v35, val_main_v34, val_main_v33, val_main_cst_2, val_main_v32,
    val_main_v31, val_main_v30, val_main_v29, val_main_v28, val_main_v27, val_main_v26, val_main_v25, val_main_cst_1, val_main_v24,
    val_main_v23, val_main_cst_0, val_main_v22, val_main_v21, val_main_cst, val_main_v20, val_main_v19, val_main_v18,
    val_main_v14, val_main_v13, val_main_v12, val_main_v11, val_main_v10, val_main_v9, FfnRow.scaled]
  simp only [mul_assoc]

/-- The gated layer's hidden unit. -/
theorem v45_apply (b : Fin 4) (l : Fin 8192) (n : Fin 2816) :
    val_main_v45 (F := Ideal) x0 x2 x3 x5 x6 x8 (ix3 b l n)
      = FfnRow.hidden (fun k => val_main_v38 (F := Ideal) x0 x2 x3 x5 x8 (ix3 b l k)) (fun k n => x6 (ix4 3 1 k n)) n := by
  pointwise [val_main_v45, val_main_v44, val_main_call0_v5, val_main_call0_v4, val_main_call0_cst_0, val_main_call0_v3,
    val_main_call0_v2, val_main_call0_cst, val_main_call0_v1, val_main_call0_v0, val_main_v43, val_main_v42, val_main_v41,
    val_main_v40, val_main_v39, FfnRow.hidden, FfnRow.proj, Ideal.logistic]

/-- The reference's result, index by index. -/
theorem v54_apply (r : Fin 32768) (j : Fin 1024) :
    val_main_v54 (F := Ideal) x0 x2 x3 x5 x6 x7 x8 (ix2 r j)
      = FfnRow.half (FfnRow.joined (fun k => x0 (ix3 ⟨r / 8192, by omega⟩ ⟨r % 8192, by omega⟩ k)) (fun k => x2 (ix2 ⟨r, by omega⟩ k))
            (fun k n => x8 (ix2 k n)) (fun k => x3 (ix3 ⟨r / 8192, by omega⟩ 5 k)))
          (fun k => x5 (ix3 3 2 k)) (fun k => x3 (ix3 ⟨r / 8192, by omega⟩ 6 k)) (fun k => x3 (ix3 ⟨r / 8192, by omega⟩ 7 k))
          (fun k => x3 (ix3 ⟨r / 8192, by omega⟩ 8 k)) (fun k n => x6 (ix4 3 1 k n)) (fun n k => x7 (ix4 3 1 n k)) j := by
  have hr : ∀ h, (⟨r.val / 8192 * 8192 + r.val % 8192, h⟩ : Fin 33792) = ⟨r.val, by omega⟩ := fun h => Fin.ext (Nat.div_add_mod' r.val 8192)
  pointwise [val_main_v54, val_main_v53, val_main_v52, val_main_v51, val_main_v50, val_main_v49, val_main_cst_3, val_main_v48,
    val_main_v47, val_main_v46, val_main_v17, val_main_v16, val_main_v15]
  simp only [v45_apply, v38_apply, v8_apply, hr]
  rfl

end Cert.FfnReferenceIdeal.Rows

end
-- ==== Proof.FfnHost.lean ====
/-
  The half feed-forward kernel's operands as its grid points see them: what each window's block holds, in terms of the
  arguments the program was launched with.
-/
module

public import proofs.«01_k».proof.Proof.Gen.FfnIdeal.Value
public import Idealize.ShloMosaic.Lib.Pointwise

@[expose] public section

set_option maxRecDepth 16384

noncomputable section

namespace Cert.FfnIdeal.Host

open Cert.FfnIdeal Cert.FfnIdeal.Gen Idealize.ShloMosaic Idealize.ShloMosaic.TcCoe Idealize.SL.Sem

/-- The block indices of the windows that move, and of the two that stand at layer 3, half 1. -/
theorem index_facts : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0)
    ∧ (win0_3.index t 0 = t.val / 16 ∧ win0_3.index t 1 = 0 ∧ win0_3.index t 2 = 0)
    ∧ (win0_4.index t 0 = 0 ∧ win0_4.index t 1 = 0)
    ∧ (win0_5.index t 0 = 3 ∧ win0_5.index t 1 = 1 ∧ win0_5.index t 2 = 0 ∧ win0_5.index t 3 = 0)
    ∧ (win0_6.index t 0 = 3 ∧ win0_6.index t 1 = 1 ∧ win0_6.index t 2 = 0 ∧ win0_6.index t 3 = 0)
    ∧ (win0_7.index t 0 = t.val ∧ win0_7.index t 1 = 0) := by decide +kernel

theorem t_lt (t : Fin cfg0.N) : t.val < 64 := by have h := t.isLt; have hN : cfg0.N = 64 := N_0; omega

variable (m : (ℓ : Loc nD τ sig) → Buf (Elt Ideal) ℓ) (c : Dev nD)

/-- A row of the activations below 32768 is a latent row. -/
theorem rows_apply (A : Vec Ideal S4x8192x1024 .f32) (B : Vec Ideal S1024x1024 .f32) (r : Fin 33792) (h : r.val < 32768) (k : Fin 1024) :
    concatenate S33792x1024 0 [⟨S32768x1024, shapeCast S32768x1024 A shapeCasts_S4x8192x1024_S32768x1024⟩, ⟨S1024x1024, B⟩]
      concatenates_S32768x1024_S1024x1024_S33792x1024_d0 (ix2 r k) = A (ix3 ⟨r / 8192, by omega⟩ ⟨r % 8192, by omega⟩ k) := by
  rw [concatenate_pair_apply]
  refine (dif_pos h).trans ?_
  pointwise

/-- One of the first four blocks of modulations is the sequence's own. -/
theorem mods_apply (A : Vec Ideal S4x9x1024 .f32) (B : Vec Ideal S1x9x1024 .f32) (C : Vec Ideal S3x9x1024 .f32) (b : Fin 8)
    (h : b.val < 4) (n : Fin 9) (k : Fin 1024) :
    concatenate S8x9x1024 0 [⟨S4x9x1024, A⟩, ⟨S1x9x1024, B⟩, ⟨S3x9x1024, C⟩]
      concatenates_S4x9x1024_S1x9x1024_S3x9x1024_S8x9x1024_d0 (ix3 b n k) = A (ix3 ⟨b, h⟩ n k) := by
  pointwise
  rw [dif_pos h]

theorem V_v2 (r : Fin 33792) (h : r.val < 32768) (k : Fin 1024) :
    V m c main_v2 (ix2 r k) = m ((c : Thread nD τ).loc main_arg0) (ix3 ⟨r / 8192, by omega⟩ ⟨r % 8192, by omega⟩ k) := by
  have e : V m c main_v2 = concatenate S33792x1024 0 [⟨S32768x1024, shapeCast S32768x1024 (m ((c : Thread nD τ).loc main_arg0)) shapeCasts_S4x8192x1024_S32768x1024⟩, ⟨S1024x1024, shapeCast S1024x1024 (m ((c : Thread nD τ).loc main_arg1)) shapeCasts_S4x256x1024_S1024x1024⟩] concatenates_S32768x1024_S1024x1024_S33792x1024_d0 := by
    unfold_abbrev_sides
    after_results
    rfl
  rw [e]
  exact rows_apply _ _ r h k

theorem V_v5 (b : Fin 8) (h : b.val < 4) (n : Fin 9) (k : Fin 1024) :
    V m c main_v5 (ix3 b n k) = m ((c : Thread nD τ).loc main_arg3) (ix3 ⟨b, h⟩ n k) := by
  have e : V m c main_v5 = concatenate S8x9x1024 0 [⟨S4x9x1024, m ((c : Thread nD τ).loc main_arg3)⟩, ⟨S1x9x1024, broadcastInDim S1x9x1024 ![1, 2] bcast_S9x1024_S1x9x1024_1_2 (m ((c : Thread nD τ).loc main_arg4))⟩, ⟨S3x9x1024, broadcastInDim S3x9x1024 ![] bcast_S_S3x9x1024 (constant (F := Ideal) S_ .f32 0x00000000#32)⟩] concatenates_S4x9x1024_S1x9x1024_S3x9x1024_S8x9x1024_d0 := by
    unfold_abbrev_sides
    after_results
    rfl
  rw [e]
  exact mods_apply _ _ _ b h n k

theorem V_v8 (k : Fin 1024) : V m c main_v8 (ix2 0 k) = m ((c : Thread nD τ).loc main_arg5) (ix3 3 2 k) := by
  have e : V m c main_v8 = broadcastInDim S1x1024 ![1] bcast_S1024_S1x1024_1 (shapeCast S1024 (extractStridedSlice S1x1x1024 ![3, 2, 0] (m ((c : Thread nD τ).loc main_arg5)) slices_S4x3x1024_S1x1x1024_3_2_0) shapeCasts_S1x1x1024_S1024) := by
    unfold_abbrev_sides
    after_results
    rfl
  rw [e]
  pointwise

theorem V_v9 : V m c main_v9 = m ((c : Thread nD τ).loc main_arg6) := by
  unfold_abbrev_sides
  after_results
  rfl

theorem V_v10 : V m c main_v10 = m ((c : Thread nD τ).loc main_arg7) := by
  unfold_abbrev_sides
  after_results
  rfl

theorem V_v11 : V m c main_v11 = m ((c : Thread nD τ).loc main_arg2) := by
  unfold_abbrev_sides
  after_results
  rfl

theorem V_v12 : V m c main_v12 = m ((c : Thread nD τ).loc main_arg8) := by
  unfold_abbrev_sides
  after_results
  rfl

theorem iblk0 (t : Fin cfg0.N) (p : Fin 512) (k : Fin 1024) :
    iblk m c 0 t (ix2 p k) = V m c main_v2 (ix2 ⟨t.val * 512 + p.val, by have := t_lt t; omega⟩ k) := by
  refine congrArg (V m c main_v2) (funext fun a => Fin.ext ?_)
  have e := (index_facts t).1
  match a with
  | ⟨0, _⟩ => show win0_0.index t 0 * 512 + 1 * p.val = t.val * 512 + p.val; rw [e.1]; omega
  | ⟨1, _⟩ => show win0_0.index t 1 * 1024 + 1 * k.val = k.val; rw [e.2]; omega

theorem iblk1 (t : Fin cfg0.N) (p : Fin 512) (k : Fin 1024) :
    iblk m c 1 t (ix2 p k) = V m c main_v11 (ix2 ⟨t.val * 512 + p.val, by have := t_lt t; omega⟩ k) := by
  refine congrArg (V m c main_v11) (funext fun a => Fin.ext ?_)
  have e := (index_facts t).2.1
  match a with
  | ⟨0, _⟩ => show win0_1.index t 0 * 512 + 1 * p.val = t.val * 512 + p.val; rw [e.1]; omega
  | ⟨1, _⟩ => show win0_1.index t 1 * 1024 + 1 * k.val = k.val; rw [e.2]; omega

theorem iblk2 (t : Fin cfg0.N) (p k : Fin 1024) : iblk m c 2 t (ix2 p k) = V m c main_v12 (ix2 p k) := by
  refine congrArg (V m c main_v12) (funext fun a => Fin.ext ?_)
  have e := (index_facts t).2.2.1
  match a with
  | ⟨0, _⟩ => show win0_2.index t 0 * 1024 + 1 * p.val = p.val; rw [e.1]; omega
  | ⟨1, _⟩ => show win0_2.index t 1 * 1024 + 1 * k.val = k.val; rw [e.2]; omega

theorem iblk3 (t : Fin cfg0.N) (n : Fin 9) (k : Fin 1024) :
    iblk m c 3 t (ix3 0 n k) = V m c main_v5 (ix3 ⟨t.val / 16, by have := t_lt t; omega⟩ n k) := by
  refine congrArg (V m c main_v5) (funext fun a => Fin.ext ?_)
  have e := (index_facts t).2.2.2.1
  match a with
  | ⟨0, _⟩ => show win0_3.index t 0 * 1 + 1 * 0 = t.val / 16; rw [e.1]; omega
  | ⟨1, _⟩ => show win0_3.index t 1 * 9 + 1 * n.val = n.val; rw [e.2.1]; omega
  | ⟨2, _⟩ => show win0_3.index t 2 * 1024 + 1 * k.val = k.val; rw [e.2.2]; omega

theorem iblk4 (t : Fin cfg0.N) (k : Fin 1024) : iblk m c 4 t (ix2 0 k) = V m c main_v8 (ix2 0 k) := by
  refine congrArg (V m c main_v8) (funext fun a => Fin.ext ?_)
  have e := (index_facts t).2.2.2.2.1
  match a with
  | ⟨0, _⟩ => show win0_4.index t 0 * 1 + 1 * 0 = 0; rw [e.1]
  | ⟨1, _⟩ => show win0_4.index t 1 * 1024 + 1 * k.val = k.val; rw [e.2]; omega

theorem iblk5 (t : Fin cfg0.N) (k : Fin 1024) (n : Fin 5632) :
    iblk m c 5 t (ix4 0 0 k n) = V m c main_v9 (ix4 3 1 k n) := by
  refine congrArg (V m c main_v9) (funext fun a => Fin.ext ?_)
  have e := (index_facts t).2.2.2.2.2.1
  match a with
  | ⟨0, _⟩ => show win0_5.index t 0 * 1 + 1 * 0 = 3; rw [e.1]
  | ⟨1, _⟩ => show win0_5.index t 1 * 1 + 1 * 0 = 1; rw [e.2.1]
  | ⟨2, _⟩ => show win0_5.index t 2 * 1024 + 1 * k.val = k.val; rw [e.2.2.1]; omega
  | ⟨3, _⟩ => show win0_5.index t 3 * 5632 + 1 * n.val = n.val; rw [e.2.2.2]; omega

theorem iblk6 (t : Fin cfg0.N) (n : Fin 2816) (k : Fin 1024) :
    iblk m c 6 t (ix4 0 0 n k) = V m c main_v10 (ix4 3 1 n k) := by
  refine congrArg (V m c main_v10) (funext fun a => Fin.ext ?_)
  have e := (index_facts t).2.2.2.2.2.2.1
  match a with
  | ⟨0, _⟩ => show win0_6.index t 0 * 1 + 1 * 0 = 3; rw [e.1]
  | ⟨1, _⟩ => show win0_6.index t 1 * 1 + 1 * 0 = 1; rw [e.2.1]
  | ⟨2, _⟩ => show win0_6.index t 2 * 2816 + 1 * n.val = n.val; rw [e.2.2.1]; omega
  | ⟨3, _⟩ => show win0_6.index t 3 * 1024 + 1 * k.val = k.val; rw [e.2.2.2]; omega

end Cert.FfnIdeal.Host

end
-- ==== Proof.FfnClaim.lean ====
/-
  The half feed-forward program and its reference leave the same array: every row of either is `FfnRow.half` of the
  same row of the arguments.
-/
module

public import proofs.«01_k».proof.Defs
public import proofs.«01_k».proof.Proof.FfnBody
public import proofs.«01_k».proof.Proof.FfnRef
public import proofs.«01_k».proof.Proof.FfnHost
public import proofs.«01_k».proof.Proof.Gen.FfnReferenceIdeal.Run

@[expose] public section

set_option maxRecDepth 16384

noncomputable section

namespace Cert.FfnIdeal.Whole

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The whole result as one function of the arguments. -/
def G : Vec Ideal S32768x1024 .f32 :=
  fun i => FfnReferenceIdeal.Read.val_main_v54 (F := Ideal) (m ((c : Thread nD τ).loc main_arg0)) (m ((c : Thread nD τ).loc main_arg2))
    (m ((c : Thread nD τ).loc main_arg3)) (m ((c : Thread nD τ).loc main_arg5)) (m ((c : Thread nD τ).loc main_arg6))
    (m ((c : Thread nD τ).loc main_arg7)) (m ((c : Thread nD τ).loc main_arg8)) i

theorem block_apply (t : Fin cfg0.N) (p : Fin 512) (j : Fin 1024) :
    out0_7 (F := Ideal) (iblk m c 0 t) (iblk m c 1 t) (iblk m c 2 t) (iblk m c 3 t) (iblk m c 4 t) (iblk m c 5 t) (iblk m c 6 t) (ix2 p j)
      = G m c (ix2 ⟨t.val * 512 + p.val, by have := Host.t_lt t; omega⟩ j) := by
  have ht := Host.t_lt t
  have h1 : ∀ h, (⟨(t.val * 512 + p.val) / 8192, h⟩ : Fin 4) = ⟨t.val / 16, by omega⟩ := fun h => Fin.ext (by show (t.val * 512 + p.val) / 8192 = t.val / 16; omega)
  rw [Body.out_apply, G, FfnReferenceIdeal.Rows.v54_apply]
  simp only [Host.iblk0, Host.iblk1, Host.iblk2, Host.iblk3, Host.iblk4, Host.iblk5, Host.iblk6]
  have e0 := fun k => Host.V_v2 m c ⟨t.val * 512 + p.val, by omega⟩ (by show t.val * 512 + p.val < 32768; omega) k
  have e3 := fun n k => Host.V_v5 m c ⟨t.val / 16, by omega⟩ (by show t.val / 16 < 4; omega) n k
  simp only [h1] at e0 ⊢
  have e8 := Host.V_v8 m c
  simp only [e0, e3, e8]
  rw [Host.V_v9, Host.V_v10, Host.V_v11, Host.V_v12]

theorem flushed_eq (t : Fin cfg0.N) : (dats m 0 c).flushed 7 t = ((cfg0.win 7).blk t).view.read (Elt Ideal) (G m c) := by
  rw [Value.flushed7]
  have ht := Host.t_lt t
  have key : ∀ y : S512x1024.Idx, out0_7 (F := Ideal) (iblk m c 0 t) (iblk m c 1 t) (iblk m c 2 t) (iblk m c 3 t) (iblk m c 4 t) (iblk m c 5 t) (iblk m c 6 t) y
      = G m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block_apply m c t (y 0) (y 1)
  funext y
  refine (key y).trans (congrArg (G m c) (funext fun a => Fin.ext ?_))
  have e := (Host.index_facts t).2.2.2.2.2.2.2
  match a with
  | ⟨0, _⟩ => show t.val * 512 + (y 0).val = win0_7.index t 0 * 512 + 1 * (y 0).val; rw [e.1]; omega
  | ⟨1, _⟩ => show (y 1).val = win0_7.index t 1 * 1024 + 1 * (y 1).val; rw [e.2]; omega

theorem mem_blk (t : Fin cfg0.N) (i : S32768x1024.Idx) : i ∈ ((cfg0.win 7).blk t).view.set ↔
    ∀ a, win0_7.index t a * win0_7.size a ≤ (i a).val ∧ (i a).val < win0_7.index t a * win0_7.size a + win0_7.xsize (grid0.coords t) a := by
  show i ∈ ((View.whole main_v13).slice (win0_7.rect t)).set ↔ _
  rw [View.set_slice_whole, Rect.mem_set_unit]

theorem cover (i : S32768x1024.Idx) : ∃ t : Fin cfg0.N, (cfg0.win 7).flush t = true ∧ i ∈ ((cfg0.win 7).blk t).view.set := by
  have h0 : (i 0).val < 32768 := (i 0).isLt
  have h1 : (i 1).val < 1024 := (i 1).isLt
  have hN : cfg0.N = 64 := N_0
  have hlt : (i 0).val / 512 < cfg0.N := by omega
  refine ⟨⟨(i 0).val / 512, hlt⟩, flush0_7 _, (mem_blk _ i).2 fun a => ?_⟩
  have e := (Host.index_facts ⟨(i 0).val / 512, hlt⟩).2.2.2.2.2.2.2
  match a with
  | ⟨0, _⟩ =>
    show win0_7.index _ 0 * 512 ≤ (i 0).val ∧ (i 0).val < win0_7.index _ 0 * 512 + 512
    rw [e.1]; show (i 0).val / 512 * 512 ≤ (i 0).val ∧ (i 0).val < (i 0).val / 512 * 512 + 512; omega
  | ⟨1, _⟩ =>
    show win0_7.index _ 1 * 1024 ≤ (i 1).val ∧ (i 1).val < win0_7.index _ 1 * 1024 + 1024
    rw [e.2]; omega

theorem final : (dats m 0 c).arrAt 7 cfg0.N = G m c :=
  (dats m 0 c).arrAt_eq_of_cover 7 (G m c) (fun t _ => flushed_eq m c t) cover

/-- The value claim of the half feed-forward program. -/
theorem agrees : @Cert.algebraic_FfnIdeal_FfnReferenceIdeal Cert.FfnIdeal.Gen.facts Cert.FfnReferenceIdeal.Gen.facts := by
  intro m ρ m' ρ' _ hagree
  refine ⟨fun c => G m c, ?_, ?_⟩
  · exact (θ_run Cert.FfnIdeal.defs _ _).mono (fun _ h c => ⟨(h c).1.trans (final m c), (h c).2⟩) (Value.run_blocks m ρ)
  · refine (θ_run Cert.FfnReferenceIdeal.defs _ _).mono (fun _ h c => ⟨(h c).1.trans ?_, (h c).2⟩) (Cert.FfnReferenceIdeal.Value.run (F := Ideal) m' ρ')
    obtain ⟨a0, -, a2, a3, -, a5, a6, a7, a8⟩ := hagree c
    rw [FfnReferenceIdeal.Read.val_main_v54_eq, a0, a2, a3, a5, a6, a7, a8]
    rfl

end Cert.FfnIdeal.Whole

end
-- ==== Proof.Ffn00Body.lean ====
/-
  What one grid point of the half feed-forward kernel of layer 0, half 0, writes, at an index of its block: row `p`
  of the block is `FfnRow.half` of row `p` of the operands' blocks. The kernel cuts the hidden units in two parts and
  adds the two products; `FfnRow.sum_cut` puts them together.
-/
module

public import proofs.«01_k».proof.Proof.Gen.Ffn00Ideal.Value
public import proofs.«01_k».proof.Proof.FfnRow

@[expose] public section

set_option maxRecDepth 16384

noncomputable section

namespace Cert.Ffn00Ideal.Body

open Cert.Ffn00Ideal Cert.Ffn00Ideal.Gen Idealize.ShloMosaic

/-- The block a grid point works on: the latents' for the first 64 points, the context's for the others. -/
theorem pay1_lt (i : grid0.Coords) (h : (i 0).val < 64) (v1 v3 : Vec Ideal S512x1024 .f32) : k0_pay1 (F := Ideal) i v1 v3 = v1 := by
  have hc : Scalar.cmpi .slt (BitVec.ofNat 32 (i 0).val) 64#32 = 1#1 := by
    generalize (i 0).val = n at h
    interval_cases n <;> rfl
  unfold k0_pay1
  simp only [hc]
  funext y
  rw [show y = ix2 (y 0) (y 1) by funext a; match a with | ⟨0, _⟩ => rfl | ⟨1, _⟩ => rfl]
  pointwise

theorem pay1_ge (i : grid0.Coords) (h : ¬ (i 0).val < 64) (v1 v3 : Vec Ideal S512x1024 .f32) : k0_pay1 (F := Ideal) i v1 v3 = v3 := by
  have hc : Scalar.cmpi .slt (BitVec.ofNat 32 (i 0).val) 64#32 = 0#1 := by
    have hi : (i 0).val < 66 := (i 0).isLt
    generalize (i 0).val = n at h hi
    interval_cases n <;> first | rfl | omega
  unfold k0_pay1
  simp only [hc]
  funext y
  rw [show y = ix2 (y 0) (y 1) by funext a; match a with | ⟨0, _⟩ => rfl | ⟨1, _⟩ => rfl]
  pointwise

/-- The normalised and modulated row. -/
theorem pay2_apply (i : grid0.Coords) (u w : Vec Ideal S512x1024 .f32) (v6 : Vec Ideal S1x1024 .f32) (v8 v10 : Vec Ideal S1x1x1024 .f32)
    (p : Fin 512) (j : Fin 1024) :
    k0_pay2 (F := Ideal) i u w v6 v8 v10 (ix2 p j)
      = FfnRow.scaled (fun k => k0_pay1 (F := Ideal) i u w (ix2 p k)) (fun k => v6 (ix2 0 k)) (fun k => v8 (ix3 0 0 k))
          (fun k => v10 (ix3 0 0 k)) j := by
  pointwise [k0_pay2]
  rfl

/-- The first product, with the columns that gate the first part of the hidden units. -/
theorem pay3_apply (i : grid0.Coords) (u w : Vec Ideal S512x1024 .f32) (v6 : Vec Ideal S1x1024 .f32) (v8 v10 : Vec Ideal S1x1x1024 .f32)
    (X : Vec Ideal S1x1x1024x5632 .bf16) (p : Fin 512) (n : Fin 1536) :
    k0_pay3 (F := Ideal) i u w v6 v8 v10 (View.ld X r0_4) (ix2 p n)
      = FfnRow.proj (fun k => k0_pay2 (F := Ideal) i u w v6 v8 v10 (ix2 p k)) (fun k n => X (ix4 0 0 k n)) ⟨n, by omega⟩ := by
  pointwise [k0_pay3]
  rfl

/-- The hidden units in two parts, the two products and the residual sum. -/
theorem pay4_apply (v5 : FVec Ideal S512x1024 .f32) (v29 : FVec Ideal S512x1024 .bf16) (v32 : FVec Ideal S512x1536 .f32)
    (X : Vec Ideal S1x1x1024x5632 .bf16) (Y : Vec Ideal S1x1x2816x1024 .bf16) (v57 : Vec Ideal S1x1x1024 .f32)
    (h : ∀ (p : Fin 512) (n : Fin 1536), v32 (ix2 p n)
      = FfnRow.proj (fun k => v29 (ix2 p k)) (fun k n => X (ix4 0 0 k n)) ⟨n, by omega⟩) (p : Fin 512) (j : Fin 1024) :
    k0_pay4 (F := Ideal) v5 v29 v32 (View.ld X r0_5) (View.ld Y r0_6) (View.ld X r0_7) (View.ld X r0_8) (View.ld Y r0_9) v57 (ix2 p j)
      = v5 (ix2 p j) + Ideal.ofBits FTy.f32 0x3F000000#32 * v57 (ix3 0 0 j)
          * (∑ n : Fin 1536, FfnRow.hidden (fun k => v29 (ix2 p k)) (fun k n => X (ix4 0 0 k n)) ⟨n, by omega⟩ * Y (ix4 0 0 ⟨n, by omega⟩ j)
            + ∑ n : Fin 1280, FfnRow.hidden (fun k => v29 (ix2 p k)) (fun k n => X (ix4 0 0 k n)) ⟨1536 + n, by omega⟩
                * Y (ix4 0 0 ⟨1536 + n, by omega⟩ j)) := by
  pointwise [k0_pay4]
  simp only [h]
  refine congrArg (v5 (ix2 p j) + Ideal.ofBits FTy.f32 0x3F000000#32 * v57 (ix3 0 0 j) * ·)
    (congrArg₂ (· + ·) rfl (Finset.sum_congr rfl fun n _ => ?_))
  simp only [FfnRow.hidden, FfnRow.proj, ← Nat.add_assoc, Nat.reduceAdd]

/-- One grid point's block, index by index. -/
theorem out_apply (i : grid0.Coords) (x0 x1 : Vec Ideal S512x1024 .f32) (x2 : Vec Ideal S1x9x1024 .f32) (x3 : Vec Ideal S1x1024 .f32)
    (x4 : Vec Ideal S1x1x1024x5632 .bf16) (x5 : Vec Ideal S1x1x2816x1024 .bf16) (p : Fin 512) (j : Fin 1024) :
    out0_6 (F := Ideal) i x0 x1 x2 x3 x4 x5 (ix2 p j)
      = FfnRow.half (fun k => k0_pay1 (F := Ideal) i (View.ld x0 r0_0) (View.ld x1 r0_0) (ix2 p k)) (fun k => x3 (ix2 0 k))
          (fun k => x2 (ix3 0 0 k)) (fun k => x2 (ix3 0 1 k))
          (fun k => x2 (ix3 0 2 k)) (fun k n => x4 (ix4 0 0 k n)) (fun n k => x5 (ix4 0 0 n k)) j := by
  unfold out0_6
  rw [View.canon_unit_zero (by funext a; match a with | ⟨0, _⟩ => rfl | ⟨1, _⟩ => rfl),
    pay4_apply _ _ _ _ _ _ (fun p n => pay3_apply _ _ _ _ _ _ _ p n), FfnRow.half, FfnRow.sum_cut]
  simp only [pay2_apply]
  pointwise

/-- At a latent point the row is the latents'. -/
theorem out_latent (i : grid0.Coords) (h : (i 0).val < 64) (x0 x1 : Vec Ideal S512x1024 .f32) (x2 : Vec Ideal S1x9x1024 .f32)
    (x3 : Vec Ideal S1x1024 .f32) (x4 : Vec Ideal S1x1x1024x5632 .bf16) (x5 : Vec Ideal S1x1x2816x1024 .bf16) (p : Fin 512) (j : Fin 1024) :
    out0_6 (F := Ideal) i x0 x1 x2 x3 x4 x5 (ix2 p j)
      = FfnRow.half (fun k => x0 (ix2 p k)) (fun k => x3 (ix2 0 k)) (fun k => x2 (ix3 0 0 k)) (fun k => x2 (ix3 0 1 k))
          (fun k => x2 (ix3 0 2 k)) (fun k n => x4 (ix4 0 0 k n)) (fun n k => x5 (ix4 0 0 n k)) j := by
  rw [out_apply, pay1_lt i h]
  pointwise

/-- At a context point it is the context's. -/
theorem out_context (i : grid0.Coords) (h : ¬ (i 0).val < 64) (x0 x1 : Vec Ideal S512x1024 .f32) (x2 : Vec Ideal S1x9x1024 .f32)
    (x3 : Vec Ideal S1x1024 .f32) (x4 : Vec Ideal S1x1x1024x5632 .bf16) (x5 : Vec Ideal S1x1x2816x1024 .bf16) (p : Fin 512) (j : Fin 1024) :
    out0_6 (F := Ideal) i x0 x1 x2 x3 x4 x5 (ix2 p j)
      = FfnRow.half (fun k => x1 (ix2 p k)) (fun k => x3 (ix2 0 k)) (fun k => x2 (ix3 0 0 k)) (fun k => x2 (ix3 0 1 k))
          (fun k => x2 (ix3 0 2 k)) (fun k n => x4 (ix4 0 0 k n)) (fun n k => x5 (ix4 0 0 n k)) j := by
  rw [out_apply, pay1_ge i h]
  pointwise

end Cert.Ffn00Ideal.Body

end
-- ==== Proof.Ffn00Ref.lean ====
/-
  The reference of the half feed-forward block of layer 0, half 0, index by index: row `l` of a latent or of a context
  sequence `b` is `FfnRow.half` of that row of the arguments.
-/
module

public import proofs.«01_k».proof.Proof.Gen.Ffn00ReferenceIdeal.Read
public import proofs.«01_k».proof.Proof.FfnRow

@[expose] public section

set_option maxRecDepth 16384

noncomputable section

namespace Cert.Ffn00ReferenceIdeal.Rows

open Cert.Ffn00ReferenceIdeal Cert.Ffn00ReferenceIdeal.Gen Cert.Ffn00ReferenceIdeal.Read Idealize.ShloMosaic

variable (x0 : (⟨S4x8192x1024, .f32⟩ : BufTy).Contents (Elt Ideal)) (x1 : (⟨S4x256x1024, .f32⟩ : BufTy).Contents (Elt Ideal))
  (x2 : (⟨S4x9x1024, .f32⟩ : BufTy).Contents (Elt Ideal)) (x3 : (⟨S9x1024, .f32⟩ : BufTy).Contents (Elt Ideal))
  (x4 : (⟨S4x3x1024, .f32⟩ : BufTy).Contents (Elt Ideal)) (x5 : (⟨S4x2x1024x5632, .f32⟩ : BufTy).Contents (Elt Ideal))
  (x6 : (⟨S4x2x2816x1024, .f32⟩ : BufTy).Contents (Elt Ideal))

/-- A latent row, normalised and modulated. -/
theorem v33_apply (b : Fin 4) (l : Fin 8192) (j : Fin 1024) :
    val_main_v33 (F := Ideal) x0 x2 x4 (ix3 b l j)
      = FfnRow.scaled (fun k => x0 (ix3 b l k)) (fun k => x4 (ix3 0 0 k)) (fun k => x2 (ix3 b 0 k)) (fun k => x2 (ix3 b 1 k)) j := by
  pointwise [val_main_v33, val_main_v32, val_main_v31, val_main_v30, val_main_v29, val_main_v28, val_main_cst_2, val_main_v27,
    val_main_v26, val_main_v25, val_main_v24, val_main_v23, val_main_v22, val_main_v21, val_main_v20, val_main_cst_1,
    val_main_v19, val_main_v18, val_main_cst_0, val_main_v17, val_main_v16, val_main_cst, val_main_v15, val_main_v11,
    val_main_v10, val_main_v9, val_main_v8, val_main_v7, val_main_v6, val_main_v1, val_main_v0, FfnRow.scaled]
  simp only [mul_assoc]

/-- A latent row's hidden unit. -/
theorem v40_apply (b : Fin 4) (l : Fin 8192) (n : Fin 2816) :
    val_main_v40 (F := Ideal) x0 x2 x4 x5 (ix3 b l n)
      = FfnRow.hidden (fun k => val_main_v33 (F := Ideal) x0 x2 x4 (ix3 b l k)) (fun k n => x5 (ix4 0 0 k n)) n := by
  pointwise [val_main_v40, val_main_v39, val_main_call0_v5, val_main_call0_v4, val_main_call0_cst_0, val_main_call0_v3,
    val_main_call0_v2, val_main_call0_cst, val_main_call0_v1, val_main_call0_v0, val_main_v36, val_main_v35, val_main_v34,
    val_main_v3, val_main_v2, FfnRow.hidden, FfnRow.proj, Ideal.logistic]

/-- The latent rows of the result. -/
theorem v93_apply (r : Fin 32768) (j : Fin 1024) :
    val_main_v93 (F := Ideal) x0 x2 x4 x5 x6 (ix2 r j)
      = FfnRow.half (fun k => x0 (ix3 ⟨r / 8192, by omega⟩ ⟨r % 8192, by omega⟩ k)) (fun k => x4 (ix3 0 0 k))
          (fun k => x2 (ix3 ⟨r / 8192, by omega⟩ 0 k)) (fun k => x2 (ix3 ⟨r / 8192, by omega⟩ 1 k))
          (fun k => x2 (ix3 ⟨r / 8192, by omega⟩ 2 k)) (fun k n => x5 (ix4 0 0 k n)) (fun n k => x6 (ix4 0 0 n k)) j := by
  pointwise [val_main_v93, val_main_v44, val_main_v43, val_main_v42, val_main_v41, val_main_v38, val_main_v37, val_main_cst_3,
    val_main_v14, val_main_v13, val_main_v12, val_main_v5, val_main_v4]
  simp only [v40_apply, v33_apply]
  rfl

/-- A context row, normalised and modulated. -/
theorem v80_apply (b : Fin 4) (l : Fin 256) (j : Fin 1024) :
    val_main_v80 (F := Ideal) x1 x3 x4 (ix3 b l j)
      = FfnRow.scaled (fun k => x1 (ix3 b l k)) (fun k => x4 (ix3 0 0 k)) (fun k => x3 (ix2 0 k)) (fun k => x3 (ix2 1 k)) j := by
  pointwise [val_main_v80, val_main_v79, val_main_v78, val_main_v77, val_main_v76, val_main_v75, val_main_v74, val_main_v73,
    val_main_cst_7, val_main_v72, val_main_v71, val_main_v70, val_main_v69, val_main_v68, val_main_v67, val_main_v66,
    val_main_v65, val_main_cst_6, val_main_v64, val_main_v63, val_main_cst_5, val_main_v62, val_main_v61, val_main_cst_4,
    val_main_v60, val_main_v56, val_main_v55, val_main_v54, val_main_v53, val_main_v52, val_main_v51, val_main_v46,
    val_main_v45, FfnRow.scaled]
  simp only [mul_assoc]

/-- A context row's hidden unit. -/
theorem v87_apply (b : Fin 4) (l : Fin 256) (n : Fin 2816) :
    val_main_v87 (F := Ideal) x1 x3 x4 x5 (ix3 b l n)
      = FfnRow.hidden (fun k => val_main_v80 (F := Ideal) x1 x3 x4 (ix3 b l k)) (fun k n => x5 (ix4 0 0 k n)) n := by
  pointwise [val_main_v87, val_main_v86, val_main_call1_v5, val_main_call1_v4, val_main_call1_cst_0, val_main_call1_v3,
    val_main_call1_v2, val_main_call1_cst, val_main_call1_v1, val_main_call1_v0, val_main_v83, val_main_v82, val_main_v81,
    val_main_v48, val_main_v47, FfnRow.hidden, FfnRow.proj, Ideal.logistic]

/-- The context rows of the result. -/
theorem v94_apply (r : Fin 1024) (j : Fin 1024) :
    val_main_v94 (F := Ideal) x1 x3 x4 x5 x6 (ix2 r j)
      = FfnRow.half (fun k => x1 (ix3 ⟨r / 256, by omega⟩ ⟨r % 256, by omega⟩ k)) (fun k => x4 (ix3 0 0 k))
          (fun k => x3 (ix2 0 k)) (fun k => x3 (ix2 1 k)) (fun k => x3 (ix2 2 k))
          (fun k n => x5 (ix4 0 0 k n)) (fun n k => x6 (ix4 0 0 n k)) j := by
  pointwise [val_main_v94, val_main_v92, val_main_v91, val_main_v90, val_main_v89, val_main_v88, val_main_v85, val_main_v84,
    val_main_cst_8, val_main_v59, val_main_v58, val_main_v57, val_main_v50, val_main_v49]
  simp only [v87_apply, v80_apply]
  rfl

/-- The result's first 32768 rows are the latent ones. -/
theorem v95_latent (r : Fin 33792) (h : r.val < 32768) (j : Fin 1024) :
    val_main_v95 (F := Ideal) x0 x1 x2 x3 x4 x5 x6 (ix2 r j) = val_main_v93 (F := Ideal) x0 x2 x4 x5 x6 (ix2 ⟨r, h⟩ j) := by
  unfold val_main_v95
  rw [concatenate_pair_apply]
  refine (dif_pos h).trans (congrArg _ ?_)
  funext a; match a with | ⟨0, _⟩ => rfl | ⟨1, _⟩ => rfl

/-- The other rows are those of the context. -/
theorem v95_context (r : Fin 33792) (h : ¬ r.val < 32768) (j : Fin 1024) :
    val_main_v95 (F := Ideal) x0 x1 x2 x3 x4 x5 x6 (ix2 r j)
      = val_main_v94 (F := Ideal) x1 x3 x4 x5 x6 (ix2 ⟨r - 32768, by omega⟩ j) := by
  unfold val_main_v95
  rw [concatenate_pair_apply]
  refine (dif_neg h).trans (congrArg _ ?_)
  funext a; match a with | ⟨0, _⟩ => rfl | ⟨1, _⟩ => rfl

end Cert.Ffn00ReferenceIdeal.Rows

end
-- ==== Proof.Ffn00Host.lean ====
/-
  The operands of the half feed-forward kernel of layer 0, half 0, as its grid points see them: what each window's
  block holds, in terms of the arguments the program was launched with. The first 64 points work on the latent rows, 16
  to a sequence; the last two on the context rows, which share one block of modulations.
-/
module

public import proofs.«01_k».proof.Proof.Gen.Ffn00Ideal.Value
public import Idealize.ShloMosaic.Lib.Pointwise

@[expose] public section

set_option maxRecDepth 16384

noncomputable section

namespace Cert.Ffn00Ideal.Host

open Cert.Ffn00Ideal Cert.Ffn00Ideal.Gen Idealize.ShloMosaic Idealize.ShloMosaic.TcCoe Idealize.SL.Sem

/-- The block indices of the windows that move, and of the two that stand at layer 0, half 0. -/
theorem index_facts : ∀ t : Fin grid0.N,
    (win0_0.index t 0 = min t.val 63 ∧ win0_0.index t 1 = 0) ∧ (win0_1.index t 0 = t.val - 64 ∧ win0_1.index t 1 = 0)
    ∧ (win0_2.index t 0 = min (t.val / 16) 4 ∧ win0_2.index t 1 = 0 ∧ win0_2.index t 2 = 0)
    ∧ (win0_3.index t 0 = 0 ∧ win0_3.index t 1 = 0)
    ∧ (win0_4.index t 0 = 0 ∧ win0_4.index t 1 = 0 ∧ win0_4.index t 2 = 0 ∧ win0_4.index t 3 = 0)
    ∧ (win0_5.index t 0 = 0 ∧ win0_5.index t 1 = 0 ∧ win0_5.index t 2 = 0 ∧ win0_5.index t 3 = 0)
    ∧ (win0_6.index t 0 = t.val ∧ win0_6.index t 1 = 0) := by decide +kernel

theorem t_lt (t : Fin cfg0.N) : t.val < 66 := by have h := t.isLt; have hN : cfg0.N = 66 := N_0; omega

/-- A grid point's coordinate is its number. -/
theorem coord : ∀ t : Fin grid0.N, (grid0.coords t 0).val = t.val := by decide +kernel

variable (m : (ℓ : Loc nD τ sig) → Buf (Elt Ideal) ℓ) (c : Dev nD)

/-- One of the first four blocks of modulations is the sequence's own. -/
theorem mods_latent (A : Vec Ideal S4x9x1024 .f32) (B : Vec Ideal S1x9x1024 .f32) (C : Vec Ideal S3x9x1024 .f32) (b : Fin 8)
    (h : b.val < 4) (n : Fin 9) (k : Fin 1024) :
    concatenate S8x9x1024 0 [⟨S4x9x1024, A⟩, ⟨S1x9x1024, B⟩, ⟨S3x9x1024, C⟩]
      concatenates_S4x9x1024_S1x9x1024_S3x9x1024_S8x9x1024_d0 (ix3 b n k) = A (ix3 ⟨b, h⟩ n k) := by
  pointwise
  rw [dif_pos h]

/-- The fifth is that of the context. -/
theorem mods_context (A : Vec Ideal S4x9x1024 .f32) (B : Vec Ideal S9x1024 .f32) (C : Vec Ideal S3x9x1024 .f32) (n : Fin 9) (k : Fin 1024) :
    concatenate S8x9x1024 0 [⟨S4x9x1024, A⟩, ⟨S1x9x1024, broadcastInDim S1x9x1024 ![1, 2] bcast_S9x1024_S1x9x1024_1_2 B⟩, ⟨S3x9x1024, C⟩]
      concatenates_S4x9x1024_S1x9x1024_S3x9x1024_S8x9x1024_d0 (ix3 4 n k) = B (ix2 n k) := by
  pointwise

/-- A row of the latents. -/
theorem rows_latent (A : Vec Ideal S4x8192x1024 .f32) (r : Fin 32768) (k : Fin 1024) :
    shapeCast S32768x1024 A shapeCasts_S4x8192x1024_S32768x1024 (ix2 r k) = A (ix3 ⟨r / 8192, by omega⟩ ⟨r % 8192, by omega⟩ k) := by
  pointwise

/-- A row of the context. -/
theorem rows_context (B : Vec Ideal S4x256x1024 .f32) (r : Fin 1024) (k : Fin 1024) :
    shapeCast S1024x1024 B shapeCasts_S4x256x1024_S1024x1024 (ix2 r k) = B (ix3 ⟨r / 256, by omega⟩ ⟨r % 256, by omega⟩ k) := by
  pointwise

theorem V_v0 : V m c main_v0 = shapeCast S32768x1024 (m ((c : Thread nD τ).loc main_arg0)) shapeCasts_S4x8192x1024_S32768x1024 := by
  unfold_abbrev_sides
  after_results
  rfl

theorem V_v1 : V m c main_v1 = shapeCast S1024x1024 (m ((c : Thread nD τ).loc main_arg1)) shapeCasts_S4x256x1024_S1024x1024 := by
  unfold_abbrev_sides
  after_results
  rfl

theorem V_v4 : V m c main_v4 = concatenate S8x9x1024 0 [⟨S4x9x1024, m ((c : Thread nD τ).loc main_arg2)⟩, ⟨S1x9x1024, broadcastInDim S1x9x1024 ![1, 2] bcast_S9x1024_S1x9x1024_1_2 (m ((c : Thread nD τ).loc main_arg3))⟩, ⟨S3x9x1024, broadcastInDim S3x9x1024 ![] bcast_S_S3x9x1024 (constant (F := Ideal) S_ .f32 0x00000000#32)⟩] concatenates_S4x9x1024_S1x9x1024_S3x9x1024_S8x9x1024_d0 := by
  unfold_abbrev_sides
  after_results
  rfl

theorem V_v7 (k : Fin 1024) : V m c main_v7 (ix2 0 k) = m ((c : Thread nD τ).loc main_arg4) (ix3 0 0 k) := by
  have e : V m c main_v7 = broadcastInDim S1x1024 ![1] bcast_S1024_S1x1024_1 (shapeCast S1024 (extractStridedSlice S1x1x1024 ![0, 0, 0] (m ((c : Thread nD τ).loc main_arg4)) slices_S4x3x1024_S1x1x1024_0_0_0) shapeCasts_S1x1x1024_S1024) := by
    unfold_abbrev_sides
    after_results
    rfl
  rw [e]
  pointwise

theorem V_v8 : V m c main_v8 = m ((c : Thread nD τ).loc main_arg5) := by
  unfold_abbrev_sides
  after_results
  rfl

theorem V_v9 : V m c main_v9 = m ((c : Thread nD τ).loc main_arg6) := by
  unfold_abbrev_sides
  after_results
  rfl

theorem iblk0 (t : Fin cfg0.N) (ht : t.val < 64) (p : Fin 512) (k : Fin 1024) :
    iblk m c 0 t (ix2 p k) = V m c main_v0 (ix2 ⟨t.val * 512 + p.val, by omega⟩ k) := by
  refine congrArg (V m c main_v0) (funext fun a => Fin.ext ?_)
  have e := (index_facts t).1
  match a with
  | ⟨0, _⟩ => show win0_0.index t 0 * 512 + 1 * p.val = t.val * 512 + p.val; rw [e.1]; omega
  | ⟨1, _⟩ => show win0_0.index t 1 * 1024 + 1 * k.val = k.val; rw [e.2]; omega

theorem iblk1 (t : Fin cfg0.N) (ht : ¬ t.val < 64) (p : Fin 512) (k : Fin 1024) :
    iblk m c 1 t (ix2 p k) = V m c main_v1 (ix2 ⟨t.val * 512 + p.val - 32768, by have := t_lt t; omega⟩ k) := by
  refine congrArg (V m c main_v1) (funext fun a => Fin.ext ?_)
  have e := (index_facts t).2.1
  match a with
  | ⟨0, _⟩ => show win0_1.index t 0 * 512 + 1 * p.val = t.val * 512 + p.val - 32768; rw [e.1]; omega
  | ⟨1, _⟩ => show win0_1.index t 1 * 1024 + 1 * k.val = k.val; rw [e.2]; omega

theorem iblk2 (t : Fin cfg0.N) (n : Fin 9) (k : Fin 1024) :
    iblk m c 2 t (ix3 0 n k) = V m c main_v4 (ix3 ⟨min (t.val / 16) 4, by omega⟩ n k) := by
  refine congrArg (V m c main_v4) (funext fun a => Fin.ext ?_)
  have e := (index_facts t).2.2.1
  match a with
  | ⟨0, _⟩ => show win0_2.index t 0 * 1 + 1 * 0 = min (t.val / 16) 4; rw [e.1]; omega
  | ⟨1, _⟩ => show win0_2.index t 1 * 9 + 1 * n.val = n.val; rw [e.2.1]; omega
  | ⟨2, _⟩ => show win0_2.index t 2 * 1024 + 1 * k.val = k.val; rw [e.2.2]; omega

theorem iblk3 (t : Fin cfg0.N) (k : Fin 1024) : iblk m c 3 t (ix2 0 k) = V m c main_v7 (ix2 0 k) := by
  refine congrArg (V m c main_v7) (funext fun a => Fin.ext ?_)
  have e := (index_facts t).2.2.2.1
  match a with
  | ⟨0, _⟩ => show win0_3.index t 0 * 1 + 1 * 0 = 0; rw [e.1]
  | ⟨1, _⟩ => show win0_3.index t 1 * 1024 + 1 * k.val = k.val; rw [e.2]; omega

theorem iblk4 (t : Fin cfg0.N) (k : Fin 1024) (n : Fin 5632) :
    iblk m c 4 t (ix4 0 0 k n) = V m c main_v8 (ix4 0 0 k n) := by
  refine congrArg (V m c main_v8) (funext fun a => Fin.ext ?_)
  have e := (index_facts t).2.2.2.2.1
  match a with
  | ⟨0, _⟩ => show win0_4.index t 0 * 1 + 1 * 0 = 0; rw [e.1]
  | ⟨1, _⟩ => show win0_4.index t 1 * 1 + 1 * 0 = 0; rw [e.2.1]
  | ⟨2, _⟩ => show win0_4.index t 2 * 1024 + 1 * k.val = k.val; rw [e.2.2.1]; omega
  | ⟨3, _⟩ => show win0_4.index t 3 * 5632 + 1 * n.val = n.val; rw [e.2.2.2]; omega

theorem iblk5 (t : Fin cfg0.N) (n : Fin 2816) (k : Fin 1024) :
    iblk m c 5 t (ix4 0 0 n k) = V m c main_v9 (ix4 0 0 n k) := by
  refine congrArg (V m c main_v9) (funext fun a => Fin.ext ?_)
  have e := (index_facts t).2.2.2.2.2.1
  match a with
  | ⟨0, _⟩ => show win0_5.index t 0 * 1 + 1 * 0 = 0; rw [e.1]
  | ⟨1, _⟩ => show win0_5.index t 1 * 1 + 1 * 0 = 0; rw [e.2.1]
  | ⟨2, _⟩ => show win0_5.index t 2 * 2816 + 1 * n.val = n.val; rw [e.2.2.1]; omega
  | ⟨3, _⟩ => show win0_5.index t 3 * 1024 + 1 * k.val = k.val; rw [e.2.2.2]; omega

/-- The row a latent point reads. -/
theorem row_latent (t : Fin cfg0.N) (ht : t.val < 64) (p : Fin 512) (k : Fin 1024) :
    iblk m c 0 t (ix2 p k) = m ((c : Thread nD τ).loc main_arg0)
      (ix3 ⟨(t.val * 512 + p.val) / 8192, by omega⟩ ⟨(t.val * 512 + p.val) % 8192, by omega⟩ k) := by
  rw [iblk0 m c t ht, V_v0]
  exact rows_latent _ ⟨t.val * 512 + p.val, by omega⟩ k

/-- The row a context point reads. -/
theorem row_context (t : Fin cfg0.N) (ht : ¬ t.val < 64) (p : Fin 512) (k : Fin 1024) :
    iblk m c 1 t (ix2 p k) = m ((c : Thread nD τ).loc main_arg1)
      (ix3 ⟨(t.val * 512 + p.val - 32768) / 256, by have := t_lt t; omega⟩ ⟨(t.val * 512 + p.val - 32768) % 256, by omega⟩ k) := by
  rw [iblk1 m c t ht, V_v1]
  exact rows_context _ ⟨t.val * 512 + p.val - 32768, by have := t_lt t; omega⟩ k

/-- The modulations a latent point reads. -/
theorem mod_latent (t : Fin cfg0.N) (ht : t.val < 64) (p : Fin 512) (n : Fin 9) (k : Fin 1024) :
    iblk m c 2 t (ix3 0 n k) = m ((c : Thread nD τ).loc main_arg2) (ix3 ⟨(t.val * 512 + p.val) / 8192, by omega⟩ n k) := by
  have e : (⟨min (t.val / 16) 4, by omega⟩ : Fin 8) = ⟨(t.val * 512 + p.val) / 8192, by omega⟩ :=
    Fin.ext (by show min (t.val / 16) 4 = (t.val * 512 + p.val) / 8192; omega)
  rw [iblk2, V_v4, e]
  exact mods_latent _ _ _ ⟨(t.val * 512 + p.val) / 8192, by omega⟩ (by show (t.val * 512 + p.val) / 8192 < 4; omega) n k

/-- The modulations a context point reads. -/
theorem mod_context (t : Fin cfg0.N) (ht : ¬ t.val < 64) (n : Fin 9) (k : Fin 1024) :
    iblk m c 2 t (ix3 0 n k) = m ((c : Thread nD τ).loc main_arg3) (ix2 n k) := by
  have e : (⟨min (t.val / 16) 4, by omega⟩ : Fin 8) = 4 := Fin.ext (by show min (t.val / 16) 4 = 4; omega)
  rw [iblk2, V_v4, e]
  exact mods_context _ _ _ n k

end Cert.Ffn00Ideal.Host

end
-- ==== Proof.Ffn00Claim.lean ====
/-
  The half feed-forward program of layer 0, half 0, and its reference leave the same array: every row of either is
  `FfnRow.half` of the same row of the arguments, the latent rows under their sequence's modulations and the context rows
  under the context's.
-/
module

public import proofs.«01_k».proof.Defs
public import proofs.«01_k».proof.Proof.Ffn00Body
public import proofs.«01_k».proof.Proof.Ffn00Ref
public import proofs.«01_k».proof.Proof.Ffn00Host
public import proofs.«01_k».proof.Proof.Gen.Ffn00ReferenceIdeal.Run
public import Idealize.ShloMosaic.Lib.Quiescent

@[expose] public section

set_option maxRecDepth 16384

noncomputable section

namespace Cert.Ffn00Ideal.Whole

open Cert.Ffn00Ideal Cert.Ffn00Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The whole result as one function of the arguments. -/
def G : Vec Ideal S33792x1024 .f32 :=
  fun i => Ffn00ReferenceIdeal.Read.val_main_v95 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) i

theorem block_apply (t : Fin cfg0.N) (p : Fin 512) (j : Fin 1024) :
    out0_6 (F := Ideal) (grid0.coords t) (iblk m c 0 t) (iblk m c 1 t) (iblk m c 2 t) (iblk m c 3 t) (iblk m c 4 t) (iblk m c 5 t) (ix2 p j)
      = G m c (ix2 ⟨t.val * 512 + p.val, by have := Host.t_lt t; omega⟩ j) := by
  have hlt := Host.t_lt t
  have e2 := Host.V_v7 m c
  by_cases ht : t.val < 64
  · rw [Body.out_latent _ (by rw [Host.coord]; exact ht), G, Ffn00ReferenceIdeal.Rows.v95_latent _ _ _ _ _ _ _ _ (by show t.val * 512 + p.val < 32768; omega),
      Ffn00ReferenceIdeal.Rows.v93_apply]
    simp only [Host.row_latent m c t ht, Host.mod_latent m c t ht p, Host.iblk3, Host.iblk4, Host.iblk5, e2]
    rw [Host.V_v8, Host.V_v9]
  · rw [Body.out_context _ (by rw [Host.coord]; exact ht), G, Ffn00ReferenceIdeal.Rows.v95_context _ _ _ _ _ _ _ _ (by show ¬ t.val * 512 + p.val < 32768; omega),
      Ffn00ReferenceIdeal.Rows.v94_apply]
    simp only [Host.row_context m c t ht, Host.mod_context m c t ht, Host.iblk3, Host.iblk4, Host.iblk5, e2]
    rw [Host.V_v8, Host.V_v9]

theorem flushed_eq (t : Fin cfg0.N) : (dats m 0 c).flushed 6 t = ((cfg0.win 6).blk t).view.read (Elt Ideal) (G m c) := by
  rw [Value.flushed6]
  have ht := Host.t_lt t
  have key : ∀ y : S512x1024.Idx, out0_6 (F := Ideal) (grid0.coords t) (iblk m c 0 t) (iblk m c 1 t) (iblk m c 2 t) (iblk m c 3 t) (iblk m c 4 t) (iblk m c 5 t) y
      = G m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block_apply m c t (y 0) (y 1)
  funext y
  refine (key y).trans (congrArg (G m c) (funext fun a => Fin.ext ?_))
  have e := (Host.index_facts t).2.2.2.2.2.2
  match a with
  | ⟨0, _⟩ => show t.val * 512 + (y 0).val = win0_6.index t 0 * 512 + 1 * (y 0).val; rw [e.1]; omega
  | ⟨1, _⟩ => show (y 1).val = win0_6.index t 1 * 1024 + 1 * (y 1).val; rw [e.2]; omega

theorem mem_blk (t : Fin cfg0.N) (i : S33792x1024.Idx) : i ∈ ((cfg0.win 6).blk t).view.set ↔
    ∀ a, win0_6.index t a * win0_6.size a ≤ (i a).val ∧ (i a).val < win0_6.index t a * win0_6.size a + win0_6.xsize (grid0.coords t) a := by
  show i ∈ ((View.whole main_v10).slice (win0_6.rect t)).set ↔ _
  rw [View.set_slice_whole, Rect.mem_set_unit]

theorem cover (i : S33792x1024.Idx) : ∃ t : Fin cfg0.N, (cfg0.win 6).flush t = true ∧ i ∈ ((cfg0.win 6).blk t).view.set := by
  have h0 : (i 0).val < 33792 := (i 0).isLt
  have h1 : (i 1).val < 1024 := (i 1).isLt
  have hN : cfg0.N = 66 := N_0
  have hlt : (i 0).val / 512 < cfg0.N := by omega
  refine ⟨⟨(i 0).val / 512, hlt⟩, flush0_6 _, (mem_blk _ i).2 fun a => ?_⟩
  have e := (Host.index_facts ⟨(i 0).val / 512, hlt⟩).2.2.2.2.2.2
  match a with
  | ⟨0, _⟩ =>
    show win0_6.index _ 0 * 512 ≤ (i 0).val ∧ (i 0).val < win0_6.index _ 0 * 512 + 512
    rw [e.1]; show (i 0).val / 512 * 512 ≤ (i 0).val ∧ (i 0).val < (i 0).val / 512 * 512 + 512; omega
  | ⟨1, _⟩ =>
    show win0_6.index _ 1 * 1024 ≤ (i 1).val ∧ (i 1).val < win0_6.index _ 1 * 1024 + 1024
    rw [e.2]; omega

theorem final : (dats m 0 c).arrAt 6 cfg0.N = G m c :=
  (dats m 0 c).arrAt_eq_of_cover 6 (G m c) (fun t _ => flushed_eq m c t) cover

/-- The value claim of this half feed-forward program. -/
theorem agrees : @Cert.algebraic_Ffn00Ideal_Ffn00ReferenceIdeal Cert.Ffn00Ideal.Gen.facts Cert.Ffn00ReferenceIdeal.Gen.facts := by
  intro m ρ m' ρ' _ hagree
  refine ⟨fun c => G m c, ?_, ?_⟩
  · exact (θ_run Cert.Ffn00Ideal.defs _ _).mono (fun _ h c => ⟨(h c).1.trans (final m c), (h c).2⟩) (Value.run_blocks m ρ)
  · refine (θ_run Cert.Ffn00ReferenceIdeal.defs _ _).mono (fun _ h c => ⟨(h c).1.trans ?_, (h c).2⟩) (Cert.Ffn00ReferenceIdeal.Value.run (F := Ideal) m' ρ')
    obtain ⟨a0, a1, a2, a3, a4, a5, a6⟩ := hagree c
    rw [Ffn00ReferenceIdeal.Read.val_main_v95_eq, a0, a1, a2, a3, a4, a5, a6]
    rfl

/-- The reference keeps its arguments and leaves no semaphore raised. -/
theorem reference_frame : @Cert.quiescent_Ffn00ReferenceIdeal Cert.Ffn00ReferenceIdeal.Gen.facts := fun m ρ _ =>
  (θ_run Cert.Ffn00ReferenceIdeal.defs _ _).mono
    (fun r h => ⟨fun c => (h c).2, sem_eq_zero_of_no_sems (by decide) r.2⟩) (Cert.Ffn00ReferenceIdeal.Value.run (F := Ideal) m ρ)

end Cert.Ffn00Ideal.Whole

end
-- ==== Proof.Ffn01Body.lean ====
/-
  What one grid point of the half feed-forward kernel of layer 0, half 1, writes, at an index of its block: row `p`
  of the block is `FfnRow.half` of row `p` of the operands' blocks. The kernel cuts the hidden units in two parts and
  adds the two products; `FfnRow.sum_cut` puts them together.
-/
module

public import proofs.«01_k».proof.Proof.Gen.Ffn01Ideal.Value
public import proofs.«01_k».proof.Proof.FfnRow

@[expose] public section

set_option maxRecDepth 16384

noncomputable section

namespace Cert.Ffn01Ideal.Body

open Cert.Ffn01Ideal Cert.Ffn01Ideal.Gen Idealize.ShloMosaic

theorem pay2_apply (v0 : Vec Ideal S512x1024 .f32) (p : Fin 512) (j : Fin 1024) :
    k0_pay2 (F := Ideal) v0 (ix2 p j) = v0 (ix2 p j) := by
  pointwise [k0_pay2]

/-- The normalised and modulated row. -/
theorem pay3_apply (v0 : Vec Ideal S512x1024 .f32) (v2 : Vec Ideal S1x1024 .f32) (v4 v6 : Vec Ideal S1x1x1024 .f32)
    (p : Fin 512) (j : Fin 1024) :
    k0_pay3 (F := Ideal) v0 v2 v4 v6 (ix2 p j)
      = FfnRow.scaled (fun k => v0 (ix2 p k)) (fun k => v2 (ix2 0 k)) (fun k => v4 (ix3 0 0 k)) (fun k => v6 (ix3 0 0 k)) j := by
  pointwise [k0_pay3, k0_pay2]
  rfl

/-- The first part of the hidden units. -/
theorem pay4_apply (v0 : Vec Ideal S512x1024 .f32) (v2 : Vec Ideal S1x1024 .f32) (v4 v6 : Vec Ideal S1x1x1024 .f32)
    (X : Vec Ideal S1x1x1024x5632 .bf16) (p : Fin 512) (n : Fin 1536) :
    k0_pay4 (F := Ideal) v0 v2 v4 v6 (View.ld X r0_4) (View.ld X r0_5) (ix2 p n)
      = FfnRow.hidden (fun k => k0_pay3 (F := Ideal) v0 v2 v4 v6 (ix2 p k)) (fun k n => X (ix4 0 0 k n)) ⟨n, by omega⟩ := by
  pointwise [k0_pay4]
  rfl

/-- The second part of the hidden units, the two products and the residual sum. -/
theorem pay1_apply (v1 : FVec Ideal S512x1024 .f32) (v25 : FVec Ideal S512x1024 .bf16) (v34 : FVec Ideal S512x1536 .f32)
    (X : Vec Ideal S1x1x1024x5632 .bf16) (Y : Vec Ideal S1x1x2816x1024 .bf16) (v53 : Vec Ideal S1x1x1024 .f32)
    (p : Fin 512) (j : Fin 1024) :
    k0_pay1 (F := Ideal) v1 v25 v34 (View.ld Y r0_6) (View.ld X r0_7) (View.ld X r0_8) (View.ld Y r0_9) v53 (ix2 p j)
      = v1 (ix2 p j) + Ideal.ofBits FTy.f32 0x3F000000#32 * v53 (ix3 0 0 j)
          * (∑ n : Fin 1536, v34 (ix2 p n) * Y (ix4 0 0 ⟨n, by omega⟩ j)
            + ∑ n : Fin 1280, FfnRow.hidden (fun k => v25 (ix2 p k)) (fun k n => X (ix4 0 0 k n)) ⟨1536 + n, by omega⟩
                * Y (ix4 0 0 ⟨1536 + n, by omega⟩ j)) := by
  pointwise [k0_pay1]
  refine congrArg (v1 (ix2 p j) + Ideal.ofBits FTy.f32 0x3F000000#32 * v53 (ix3 0 0 j) * ·) (congrArg₂ (· + ·) rfl (Finset.sum_congr rfl fun n _ => ?_))
  simp only [FfnRow.hidden, FfnRow.proj, ← Nat.add_assoc, Nat.reduceAdd]

/-- One grid point's block, index by index. -/
theorem out_apply (x0 : Vec Ideal S512x1024 .f32) (x1 : Vec Ideal S1x9x1024 .f32) (x2 : Vec Ideal S1x1024 .f32)
    (x3 : Vec Ideal S1x1x1024x5632 .bf16) (x4 : Vec Ideal S1x1x2816x1024 .bf16) (p : Fin 512) (j : Fin 1024) :
    out0_5 (F := Ideal) x0 x1 x2 x3 x4 (ix2 p j)
      = FfnRow.half (fun k => x0 (ix2 p k)) (fun k => x2 (ix2 0 k)) (fun k => x1 (ix3 0 6 k)) (fun k => x1 (ix3 0 7 k))
          (fun k => x1 (ix3 0 8 k)) (fun k n => x3 (ix4 0 0 k n)) (fun n k => x4 (ix4 0 0 n k)) j := by
  unfold out0_5
  rw [View.canon_unit_zero (by funext a; match a with | ⟨0, _⟩ => rfl | ⟨1, _⟩ => rfl), pay1_apply, FfnRow.half, FfnRow.sum_cut]
  simp only [pay4_apply, pay3_apply, pay2_apply]
  pointwise

end Cert.Ffn01Ideal.Body

end
-- ==== Proof.Ffn01Ref.lean ====
/-
  The reference of the half feed-forward block of layer 0, half 1, index by index: row `l` of a latent or of a context
  sequence `b` is `FfnRow.half` of that row of the arguments.
-/
module

public import proofs.«01_k».proof.Proof.Gen.Ffn01ReferenceIdeal.Read
public import proofs.«01_k».proof.Proof.FfnRow

@[expose] public section

set_option maxRecDepth 16384

noncomputable section

namespace Cert.Ffn01ReferenceIdeal.Rows

open Cert.Ffn01ReferenceIdeal Cert.Ffn01ReferenceIdeal.Gen Cert.Ffn01ReferenceIdeal.Read Idealize.ShloMosaic

variable (x0 : (⟨S4x8192x1024, .f32⟩ : BufTy).Contents (Elt Ideal)) (x1 : (⟨S4x256x1024, .f32⟩ : BufTy).Contents (Elt Ideal))
  (x2 : (⟨S4x9x1024, .f32⟩ : BufTy).Contents (Elt Ideal)) (x3 : (⟨S9x1024, .f32⟩ : BufTy).Contents (Elt Ideal))
  (x4 : (⟨S4x3x1024, .f32⟩ : BufTy).Contents (Elt Ideal)) (x5 : (⟨S4x2x1024x5632, .f32⟩ : BufTy).Contents (Elt Ideal))
  (x6 : (⟨S4x2x2816x1024, .f32⟩ : BufTy).Contents (Elt Ideal))

/-- A latent row, normalised and modulated. -/
theorem v33_apply (b : Fin 4) (l : Fin 8192) (j : Fin 1024) :
    val_main_v33 (F := Ideal) x0 x2 x4 (ix3 b l j)
      = FfnRow.scaled (fun k => x0 (ix3 b l k)) (fun k => x4 (ix3 0 2 k)) (fun k => x2 (ix3 b 6 k)) (fun k => x2 (ix3 b 7 k)) j := by
  pointwise [val_main_v33, val_main_v32, val_main_v31, val_main_v30, val_main_v29, val_main_v28, val_main_cst_2, val_main_v27,
    val_main_v26, val_main_v25, val_main_v24, val_main_v23, val_main_v22, val_main_v21, val_main_v20, val_main_cst_1,
    val_main_v19, val_main_v18, val_main_cst_0, val_main_v17, val_main_v16, val_main_cst, val_main_v15, val_main_v11,
    val_main_v10, val_main_v9, val_main_v8, val_main_v7, val_main_v6, val_main_v1, val_main_v0, FfnRow.scaled]
  simp only [mul_assoc]

/-- A latent row's hidden unit. -/
theorem v40_apply (b : Fin 4) (l : Fin 8192) (n : Fin 2816) :
    val_main_v40 (F := Ideal) x0 x2 x4 x5 (ix3 b l n)
      = FfnRow.hidden (fun k => val_main_v33 (F := Ideal) x0 x2 x4 (ix3 b l k)) (fun k n => x5 (ix4 0 1 k n)) n := by
  pointwise [val_main_v40, val_main_v39, val_main_call0_v5, val_main_call0_v4, val_main_call0_cst_0, val_main_call0_v3,
    val_main_call0_v2, val_main_call0_cst, val_main_call0_v1, val_main_call0_v0, val_main_v36, val_main_v35, val_main_v34,
    val_main_v3, val_main_v2, FfnRow.hidden, FfnRow.proj, Ideal.logistic]

/-- The latent rows of the result. -/
theorem v93_apply (r : Fin 32768) (j : Fin 1024) :
    val_main_v93 (F := Ideal) x0 x2 x4 x5 x6 (ix2 r j)
      = FfnRow.half (fun k => x0 (ix3 ⟨r / 8192, by omega⟩ ⟨r % 8192, by omega⟩ k)) (fun k => x4 (ix3 0 2 k))
          (fun k => x2 (ix3 ⟨r / 8192, by omega⟩ 6 k)) (fun k => x2 (ix3 ⟨r / 8192, by omega⟩ 7 k))
          (fun k => x2 (ix3 ⟨r / 8192, by omega⟩ 8 k)) (fun k n => x5 (ix4 0 1 k n)) (fun n k => x6 (ix4 0 1 n k)) j := by
  pointwise [val_main_v93, val_main_v44, val_main_v43, val_main_v42, val_main_v41, val_main_v38, val_main_v37, val_main_cst_3,
    val_main_v14, val_main_v13, val_main_v12, val_main_v5, val_main_v4]
  simp only [v40_apply, v33_apply]
  rfl

/-- A context row, normalised and modulated. -/
theorem v80_apply (b : Fin 4) (l : Fin 256) (j : Fin 1024) :
    val_main_v80 (F := Ideal) x1 x3 x4 (ix3 b l j)
      = FfnRow.scaled (fun k => x1 (ix3 b l k)) (fun k => x4 (ix3 0 2 k)) (fun k => x3 (ix2 6 k)) (fun k => x3 (ix2 7 k)) j := by
  pointwise [val_main_v80, val_main_v79, val_main_v78, val_main_v77, val_main_v76, val_main_v75, val_main_v74, val_main_v73,
    val_main_cst_7, val_main_v72, val_main_v71, val_main_v70, val_main_v69, val_main_v68, val_main_v67, val_main_v66,
    val_main_v65, val_main_cst_6, val_main_v64, val_main_v63, val_main_cst_5, val_main_v62, val_main_v61, val_main_cst_4,
    val_main_v60, val_main_v56, val_main_v55, val_main_v54, val_main_v53, val_main_v52, val_main_v51, val_main_v46,
    val_main_v45, FfnRow.scaled]
  simp only [mul_assoc]

/-- A context row's hidden unit. -/
theorem v87_apply (b : Fin 4) (l : Fin 256) (n : Fin 2816) :
    val_main_v87 (F := Ideal) x1 x3 x4 x5 (ix3 b l n)
      = FfnRow.hidden (fun k => val_main_v80 (F := Ideal) x1 x3 x4 (ix3 b l k)) (fun k n => x5 (ix4 0 1 k n)) n := by
  pointwise [val_main_v87, val_main_v86, val_main_call1_v5, val_main_call1_v4, val_main_call1_cst_0, val_main_call1_v3,
    val_main_call1_v2, val_main_call1_cst, val_main_call1_v1, val_main_call1_v0, val_main_v83, val_main_v82, val_main_v81,
    val_main_v48, val_main_v47, FfnRow.hidden, FfnRow.proj, Ideal.logistic]

/-- The context rows of the result. -/
theorem v94_apply (r : Fin 1024) (j : Fin 1024) :
    val_main_v94 (F := Ideal) x1 x3 x4 x5 x6 (ix2 r j)
      = FfnRow.half (fun k => x1 (ix3 ⟨r / 256, by omega⟩ ⟨r % 256, by omega⟩ k)) (fun k => x4 (ix3 0 2 k))
          (fun k => x3 (ix2 6 k)) (fun k => x3 (ix2 7 k)) (fun k => x3 (ix2 8 k))
          (fun k n => x5 (ix4 0 1 k n)) (fun n k => x6 (ix4 0 1 n k)) j := by
  pointwise [val_main_v94, val_main_v92, val_main_v91, val_main_v90, val_main_v89, val_main_v88, val_main_v85, val_main_v84,
    val_main_cst_8, val_main_v59, val_main_v58, val_main_v57, val_main_v50, val_main_v49]
  simp only [v87_apply, v80_apply]
  rfl

/-- The result's first 32768 rows are the latent ones. -/
theorem v95_latent (r : Fin 33792) (h : r.val < 32768) (j : Fin 1024) :
    val_main_v95 (F := Ideal) x0 x1 x2 x3 x4 x5 x6 (ix2 r j) = val_main_v93 (F := Ideal) x0 x2 x4 x5 x6 (ix2 ⟨r, h⟩ j) := by
  unfold val_main_v95
  rw [concatenate_pair_apply]
  refine (dif_pos h).trans (congrArg _ ?_)
  funext a; match a with | ⟨0, _⟩ => rfl | ⟨1, _⟩ => rfl

/-- The other rows are those of the context. -/
theorem v95_context (r : Fin 33792) (h : ¬ r.val < 32768) (j : Fin 1024) :
    val_main_v95 (F := Ideal) x0 x1 x2 x3 x4 x5 x6 (ix2 r j)
      = val_main_v94 (F := Ideal) x1 x3 x4 x5 x6 (ix2 ⟨r - 32768, by omega⟩ j) := by
  unfold val_main_v95
  rw [concatenate_pair_apply]
  refine (dif_neg h).trans (congrArg _ ?_)
  funext a; match a with | ⟨0, _⟩ => rfl | ⟨1, _⟩ => rfl

end Cert.Ffn01ReferenceIdeal.Rows

end
-- ==== Proof.Ffn01Host.lean ====
/-
  The operands of the half feed-forward kernel of layer 0, half 1, as its grid points see them: what each window's
  block holds, in terms of the arguments the program was launched with. The first 64 points work on the latent rows, 16
  to a sequence; the last two on the context rows, which share one block of modulations.
-/
module

public import proofs.«01_k».proof.Proof.Gen.Ffn01Ideal.Value
public import Idealize.ShloMosaic.Lib.Pointwise

@[expose] public section

set_option maxRecDepth 16384

noncomputable section

namespace Cert.Ffn01Ideal.Host

open Cert.Ffn01Ideal Cert.Ffn01Ideal.Gen Idealize.ShloMosaic Idealize.ShloMosaic.TcCoe Idealize.SL.Sem

/-- The block indices of the windows that move, and of the two that stand at layer 0, half 1. -/
theorem index_facts : ∀ t : Fin grid0.N,
    (win0_0.index t 0 = t.val ∧ win0_0.index t 1 = 0)
    ∧ (win0_1.index t 0 = min (t.val / 16) 4 ∧ win0_1.index t 1 = 0 ∧ win0_1.index t 2 = 0)
    ∧ (win0_2.index t 0 = 0 ∧ win0_2.index t 1 = 0)
    ∧ (win0_3.index t 0 = 0 ∧ win0_3.index t 1 = 1 ∧ win0_3.index t 2 = 0 ∧ win0_3.index t 3 = 0)
    ∧ (win0_4.index t 0 = 0 ∧ win0_4.index t 1 = 1 ∧ win0_4.index t 2 = 0 ∧ win0_4.index t 3 = 0)
    ∧ (win0_5.index t 0 = t.val ∧ win0_5.index t 1 = 0) := by decide +kernel

theorem t_lt (t : Fin cfg0.N) : t.val < 66 := by have h := t.isLt; have hN : cfg0.N = 66 := N_0; omega

variable (m : (ℓ : Loc nD τ sig) → Buf (Elt Ideal) ℓ) (c : Dev nD)

/-- A row below 32768 is a latent row. -/
theorem rows_latent (A : Vec Ideal S4x8192x1024 .f32) (B : Vec Ideal S1024x1024 .f32) (r : Fin 33792) (h : r.val < 32768) (k : Fin 1024) :
    concatenate S33792x1024 0 [⟨S32768x1024, shapeCast S32768x1024 A shapeCasts_S4x8192x1024_S32768x1024⟩, ⟨S1024x1024, B⟩]
      concatenates_S32768x1024_S1024x1024_S33792x1024_d0 (ix2 r k) = A (ix3 ⟨r / 8192, by omega⟩ ⟨r % 8192, by omega⟩ k) := by
  rw [concatenate_pair_apply]
  refine (dif_pos h).trans ?_
  pointwise

/-- The other rows are those of the context. -/
theorem rows_context (A : Vec Ideal S32768x1024 .f32) (B : Vec Ideal S4x256x1024 .f32) (r : Fin 33792) (h : ¬ r.val < 32768) (k : Fin 1024) :
    concatenate S33792x1024 0 [⟨S32768x1024, A⟩, ⟨S1024x1024, shapeCast S1024x1024 B shapeCasts_S4x256x1024_S1024x1024⟩]
      concatenates_S32768x1024_S1024x1024_S33792x1024_d0 (ix2 r k) = B (ix3 ⟨(r - 32768) / 256, by omega⟩ ⟨(r - 32768) % 256, by omega⟩ k) := by
  rw [concatenate_pair_apply]
  refine (dif_neg h).trans ?_
  pointwise

/-- One of the first four blocks of modulations is the sequence's own. -/
theorem mods_latent (A : Vec Ideal S4x9x1024 .f32) (B : Vec Ideal S1x9x1024 .f32) (C : Vec Ideal S3x9x1024 .f32) (b : Fin 8)
    (h : b.val < 4) (n : Fin 9) (k : Fin 1024) :
    concatenate S8x9x1024 0 [⟨S4x9x1024, A⟩, ⟨S1x9x1024, B⟩, ⟨S3x9x1024, C⟩]
      concatenates_S4x9x1024_S1x9x1024_S3x9x1024_S8x9x1024_d0 (ix3 b n k) = A (ix3 ⟨b, h⟩ n k) := by
  pointwise
  rw [dif_pos h]

/-- The fifth is that of the context. -/
theorem mods_context (A : Vec Ideal S4x9x1024 .f32) (B : Vec Ideal S9x1024 .f32) (C : Vec Ideal S3x9x1024 .f32) (n : Fin 9) (k : Fin 1024) :
    concatenate S8x9x1024 0 [⟨S4x9x1024, A⟩, ⟨S1x9x1024, broadcastInDim S1x9x1024 ![1, 2] bcast_S9x1024_S1x9x1024_1_2 B⟩, ⟨S3x9x1024, C⟩]
      concatenates_S4x9x1024_S1x9x1024_S3x9x1024_S8x9x1024_d0 (ix3 4 n k) = B (ix2 n k) := by
  pointwise

theorem V_v2 : V m c main_v2 = concatenate S33792x1024 0 [⟨S32768x1024, shapeCast S32768x1024 (m ((c : Thread nD τ).loc main_arg0)) shapeCasts_S4x8192x1024_S32768x1024⟩, ⟨S1024x1024, shapeCast S1024x1024 (m ((c : Thread nD τ).loc main_arg1)) shapeCasts_S4x256x1024_S1024x1024⟩] concatenates_S32768x1024_S1024x1024_S33792x1024_d0 := by
  unfold_abbrev_sides
  after_results
  rfl

theorem V_v5 : V m c main_v5 = concatenate S8x9x1024 0 [⟨S4x9x1024, m ((c : Thread nD τ).loc main_arg2)⟩, ⟨S1x9x1024, broadcastInDim S1x9x1024 ![1, 2] bcast_S9x1024_S1x9x1024_1_2 (m ((c : Thread nD τ).loc main_arg3))⟩, ⟨S3x9x1024, broadcastInDim S3x9x1024 ![] bcast_S_S3x9x1024 (constant (F := Ideal) S_ .f32 0x00000000#32)⟩] concatenates_S4x9x1024_S1x9x1024_S3x9x1024_S8x9x1024_d0 := by
  unfold_abbrev_sides
  after_results
  rfl

theorem V_v8 (k : Fin 1024) : V m c main_v8 (ix2 0 k) = m ((c : Thread nD τ).loc main_arg4) (ix3 0 2 k) := by
  have e : V m c main_v8 = broadcastInDim S1x1024 ![1] bcast_S1024_S1x1024_1 (shapeCast S1024 (extractStridedSlice S1x1x1024 ![0, 2, 0] (m ((c : Thread nD τ).loc main_arg4)) slices_S4x3x1024_S1x1x1024_0_2_0) shapeCasts_S1x1x1024_S1024) := by
    unfold_abbrev_sides
    after_results
    rfl
  rw [e]
  pointwise

theorem V_v9 : V m c main_v9 = m ((c : Thread nD τ).loc main_arg5) := by
  unfold_abbrev_sides
  after_results
  rfl

theorem V_v10 : V m c main_v10 = m ((c : Thread nD τ).loc main_arg6) := by
  unfold_abbrev_sides
  after_results
  rfl

theorem iblk0 (t : Fin cfg0.N) (p : Fin 512) (k : Fin 1024) :
    iblk m c 0 t (ix2 p k) = V m c main_v2 (ix2 ⟨t.val * 512 + p.val, by have := t_lt t; omega⟩ k) := by
  refine congrArg (V m c main_v2) (funext fun a => Fin.ext ?_)
  have e := (index_facts t).1
  match a with
  | ⟨0, _⟩ => show win0_0.index t 0 * 512 + 1 * p.val = t.val * 512 + p.val; rw [e.1]; omega
  | ⟨1, _⟩ => show win0_0.index t 1 * 1024 + 1 * k.val = k.val; rw [e.2]; omega

theorem iblk1 (t : Fin cfg0.N) (n : Fin 9) (k : Fin 1024) :
    iblk m c 1 t (ix3 0 n k) = V m c main_v5 (ix3 ⟨min (t.val / 16) 4, by omega⟩ n k) := by
  refine congrArg (V m c main_v5) (funext fun a => Fin.ext ?_)
  have e := (index_facts t).2.1
  match a with
  | ⟨0, _⟩ => show win0_1.index t 0 * 1 + 1 * 0 = min (t.val / 16) 4; rw [e.1]; omega
  | ⟨1, _⟩ => show win0_1.index t 1 * 9 + 1 * n.val = n.val; rw [e.2.1]; omega
  | ⟨2, _⟩ => show win0_1.index t 2 * 1024 + 1 * k.val = k.val; rw [e.2.2]; omega

theorem iblk2 (t : Fin cfg0.N) (k : Fin 1024) : iblk m c 2 t (ix2 0 k) = V m c main_v8 (ix2 0 k) := by
  refine congrArg (V m c main_v8) (funext fun a => Fin.ext ?_)
  have e := (index_facts t).2.2.1
  match a with
  | ⟨0, _⟩ => show win0_2.index t 0 * 1 + 1 * 0 = 0; rw [e.1]
  | ⟨1, _⟩ => show win0_2.index t 1 * 1024 + 1 * k.val = k.val; rw [e.2]; omega

theorem iblk3 (t : Fin cfg0.N) (k : Fin 1024) (n : Fin 5632) :
    iblk m c 3 t (ix4 0 0 k n) = V m c main_v9 (ix4 0 1 k n) := by
  refine congrArg (V m c main_v9) (funext fun a => Fin.ext ?_)
  have e := (index_facts t).2.2.2.1
  match a with
  | ⟨0, _⟩ => show win0_3.index t 0 * 1 + 1 * 0 = 0; rw [e.1]
  | ⟨1, _⟩ => show win0_3.index t 1 * 1 + 1 * 0 = 1; rw [e.2.1]
  | ⟨2, _⟩ => show win0_3.index t 2 * 1024 + 1 * k.val = k.val; rw [e.2.2.1]; omega
  | ⟨3, _⟩ => show win0_3.index t 3 * 5632 + 1 * n.val = n.val; rw [e.2.2.2]; omega

theorem iblk4 (t : Fin cfg0.N) (n : Fin 2816) (k : Fin 1024) :
    iblk m c 4 t (ix4 0 0 n k) = V m c main_v10 (ix4 0 1 n k) := by
  refine congrArg (V m c main_v10) (funext fun a => Fin.ext ?_)
  have e := (index_facts t).2.2.2.2.1
  match a with
  | ⟨0, _⟩ => show win0_4.index t 0 * 1 + 1 * 0 = 0; rw [e.1]
  | ⟨1, _⟩ => show win0_4.index t 1 * 1 + 1 * 0 = 1; rw [e.2.1]
  | ⟨2, _⟩ => show win0_4.index t 2 * 2816 + 1 * n.val = n.val; rw [e.2.2.1]; omega
  | ⟨3, _⟩ => show win0_4.index t 3 * 1024 + 1 * k.val = k.val; rw [e.2.2.2]; omega

/-- The row a latent point reads. -/
theorem row_latent (t : Fin cfg0.N) (ht : t.val < 64) (p : Fin 512) (k : Fin 1024) :
    iblk m c 0 t (ix2 p k) = m ((c : Thread nD τ).loc main_arg0)
      (ix3 ⟨(t.val * 512 + p.val) / 8192, by omega⟩ ⟨(t.val * 512 + p.val) % 8192, by omega⟩ k) := by
  rw [iblk0, V_v2]
  exact rows_latent _ _ ⟨t.val * 512 + p.val, by omega⟩ (by show t.val * 512 + p.val < 32768; omega) k

/-- The row a context point reads. -/
theorem row_context (t : Fin cfg0.N) (ht : ¬ t.val < 64) (p : Fin 512) (k : Fin 1024) :
    iblk m c 0 t (ix2 p k) = m ((c : Thread nD τ).loc main_arg1)
      (ix3 ⟨(t.val * 512 + p.val - 32768) / 256, by have := t_lt t; omega⟩ ⟨(t.val * 512 + p.val - 32768) % 256, by omega⟩ k) := by
  have := t_lt t
  rw [iblk0, V_v2]
  exact rows_context _ _ ⟨t.val * 512 + p.val, by omega⟩ (by show ¬ t.val * 512 + p.val < 32768; omega) k

/-- The modulations a latent point reads. -/
theorem mod_latent (t : Fin cfg0.N) (ht : t.val < 64) (p : Fin 512) (n : Fin 9) (k : Fin 1024) :
    iblk m c 1 t (ix3 0 n k) = m ((c : Thread nD τ).loc main_arg2) (ix3 ⟨(t.val * 512 + p.val) / 8192, by omega⟩ n k) := by
  have e : (⟨min (t.val / 16) 4, by omega⟩ : Fin 8) = ⟨(t.val * 512 + p.val) / 8192, by omega⟩ :=
    Fin.ext (by show min (t.val / 16) 4 = (t.val * 512 + p.val) / 8192; omega)
  rw [iblk1, V_v5, e]
  exact mods_latent _ _ _ ⟨(t.val * 512 + p.val) / 8192, by omega⟩ (by show (t.val * 512 + p.val) / 8192 < 4; omega) n k

/-- The modulations a context point reads. -/
theorem mod_context (t : Fin cfg0.N) (ht : ¬ t.val < 64) (n : Fin 9) (k : Fin 1024) :
    iblk m c 1 t (ix3 0 n k) = m ((c : Thread nD τ).loc main_arg3) (ix2 n k) := by
  have e : (⟨min (t.val / 16) 4, by omega⟩ : Fin 8) = 4 := Fin.ext (by show min (t.val / 16) 4 = 4; omega)
  rw [iblk1, V_v5, e]
  exact mods_context _ _ _ n k

end Cert.Ffn01Ideal.Host

end
-- ==== Proof.Ffn01Claim.lean ====
/-
  The half feed-forward program of layer 0, half 1, and its reference leave the same array: every row of either is
  `FfnRow.half` of the same row of the arguments, the latent rows under their sequence's modulations and the context rows
  under the context's.
-/
module

public import proofs.«01_k».proof.Defs
public import proofs.«01_k».proof.Proof.Ffn01Body
public import proofs.«01_k».proof.Proof.Ffn01Ref
public import proofs.«01_k».proof.Proof.Ffn01Host
public import proofs.«01_k».proof.Proof.Gen.Ffn01ReferenceIdeal.Run
public import Idealize.ShloMosaic.Lib.Quiescent

@[expose] public section

set_option maxRecDepth 16384

noncomputable section

namespace Cert.Ffn01Ideal.Whole

open Cert.Ffn01Ideal Cert.Ffn01Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The whole result as one function of the arguments. -/
def G : Vec Ideal S33792x1024 .f32 :=
  fun i => Ffn01ReferenceIdeal.Read.val_main_v95 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) i

theorem block_apply (t : Fin cfg0.N) (p : Fin 512) (j : Fin 1024) :
    out0_5 (F := Ideal) (iblk m c 0 t) (iblk m c 1 t) (iblk m c 2 t) (iblk m c 3 t) (iblk m c 4 t) (ix2 p j)
      = G m c (ix2 ⟨t.val * 512 + p.val, by have := Host.t_lt t; omega⟩ j) := by
  have hlt := Host.t_lt t
  have e2 := Host.V_v8 m c
  by_cases ht : t.val < 64
  · rw [Body.out_apply, G, Ffn01ReferenceIdeal.Rows.v95_latent _ _ _ _ _ _ _ _ (by show t.val * 512 + p.val < 32768; omega),
      Ffn01ReferenceIdeal.Rows.v93_apply]
    simp only [Host.row_latent m c t ht, Host.mod_latent m c t ht p, Host.iblk2, Host.iblk3, Host.iblk4, e2]
    rw [Host.V_v9, Host.V_v10]
  · rw [Body.out_apply, G, Ffn01ReferenceIdeal.Rows.v95_context _ _ _ _ _ _ _ _ (by show ¬ t.val * 512 + p.val < 32768; omega),
      Ffn01ReferenceIdeal.Rows.v94_apply]
    simp only [Host.row_context m c t ht, Host.mod_context m c t ht, Host.iblk2, Host.iblk3, Host.iblk4, e2]
    rw [Host.V_v9, Host.V_v10]

theorem flushed_eq (t : Fin cfg0.N) : (dats m 0 c).flushed 5 t = ((cfg0.win 5).blk t).view.read (Elt Ideal) (G m c) := by
  rw [Value.flushed5]
  have ht := Host.t_lt t
  have key : ∀ y : S512x1024.Idx, out0_5 (F := Ideal) (iblk m c 0 t) (iblk m c 1 t) (iblk m c 2 t) (iblk m c 3 t) (iblk m c 4 t) y
      = G m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block_apply m c t (y 0) (y 1)
  funext y
  refine (key y).trans (congrArg (G m c) (funext fun a => Fin.ext ?_))
  have e := (Host.index_facts t).2.2.2.2.2
  match a with
  | ⟨0, _⟩ => show t.val * 512 + (y 0).val = win0_5.index t 0 * 512 + 1 * (y 0).val; rw [e.1]; omega
  | ⟨1, _⟩ => show (y 1).val = win0_5.index t 1 * 1024 + 1 * (y 1).val; rw [e.2]; omega

theorem mem_blk (t : Fin cfg0.N) (i : S33792x1024.Idx) : i ∈ ((cfg0.win 5).blk t).view.set ↔
    ∀ a, win0_5.index t a * win0_5.size a ≤ (i a).val ∧ (i a).val < win0_5.index t a * win0_5.size a + win0_5.xsize (grid0.coords t) a := by
  show i ∈ ((View.whole main_v11).slice (win0_5.rect t)).set ↔ _
  rw [View.set_slice_whole, Rect.mem_set_unit]

theorem cover (i : S33792x1024.Idx) : ∃ t : Fin cfg0.N, (cfg0.win 5).flush t = true ∧ i ∈ ((cfg0.win 5).blk t).view.set := by
  have h0 : (i 0).val < 33792 := (i 0).isLt
  have h1 : (i 1).val < 1024 := (i 1).isLt
  have hN : cfg0.N = 66 := N_0
  have hlt : (i 0).val / 512 < cfg0.N := by omega
  refine ⟨⟨(i 0).val / 512, hlt⟩, flush0_5 _, (mem_blk _ i).2 fun a => ?_⟩
  have e := (Host.index_facts ⟨(i 0).val / 512, hlt⟩).2.2.2.2.2
  match a with
  | ⟨0, _⟩ =>
    show win0_5.index _ 0 * 512 ≤ (i 0).val ∧ (i 0).val < win0_5.index _ 0 * 512 + 512
    rw [e.1]; show (i 0).val / 512 * 512 ≤ (i 0).val ∧ (i 0).val < (i 0).val / 512 * 512 + 512; omega
  | ⟨1, _⟩ =>
    show win0_5.index _ 1 * 1024 ≤ (i 1).val ∧ (i 1).val < win0_5.index _ 1 * 1024 + 1024
    rw [e.2]; omega

theorem final : (dats m 0 c).arrAt 5 cfg0.N = G m c :=
  (dats m 0 c).arrAt_eq_of_cover 5 (G m c) (fun t _ => flushed_eq m c t) cover

/-- The value claim of this half feed-forward program. -/
theorem agrees : @Cert.algebraic_Ffn01Ideal_Ffn01ReferenceIdeal Cert.Ffn01Ideal.Gen.facts Cert.Ffn01ReferenceIdeal.Gen.facts := by
  intro m ρ m' ρ' _ hagree
  refine ⟨fun c => G m c, ?_, ?_⟩
  · exact (θ_run Cert.Ffn01Ideal.defs _ _).mono (fun _ h c => ⟨(h c).1.trans (final m c), (h c).2⟩) (Value.run_blocks m ρ)
  · refine (θ_run Cert.Ffn01ReferenceIdeal.defs _ _).mono (fun _ h c => ⟨(h c).1.trans ?_, (h c).2⟩) (Cert.Ffn01ReferenceIdeal.Value.run (F := Ideal) m' ρ')
    obtain ⟨a0, a1, a2, a3, a4, a5, a6⟩ := hagree c
    rw [Ffn01ReferenceIdeal.Read.val_main_v95_eq, a0, a1, a2, a3, a4, a5, a6]
    rfl

/-- The reference keeps its arguments and leaves no semaphore raised. -/
theorem reference_frame : @Cert.quiescent_Ffn01ReferenceIdeal Cert.Ffn01ReferenceIdeal.Gen.facts := fun m ρ _ =>
  (θ_run Cert.Ffn01ReferenceIdeal.defs _ _).mono
    (fun r h => ⟨fun c => (h c).2, sem_eq_zero_of_no_sems (by decide) r.2⟩) (Cert.Ffn01ReferenceIdeal.Value.run (F := Ideal) m ρ)

end Cert.Ffn01Ideal.Whole

end
-- ==== Proof.Ffn10Body.lean ====
/-
  What one grid point of the half feed-forward kernel of layer 1, half 0, writes, at an index of its block: row `p`
  of the block is `FfnRow.half` of row `p` of the operands' blocks. The kernel cuts the hidden units in two parts and
  adds the two products; `FfnRow.sum_cut` puts them together.
-/
module

public import proofs.«01_k».proof.Proof.Gen.Ffn10Ideal.Value
public import proofs.«01_k».proof.Proof.FfnRow

@[expose] public section

set_option maxRecDepth 16384

noncomputable section

namespace Cert.Ffn10Ideal.Body

open Cert.Ffn10Ideal Cert.Ffn10Ideal.Gen Idealize.ShloMosaic

theorem pay2_apply (v0 : Vec Ideal S512x1024 .f32) (p : Fin 512) (j : Fin 1024) :
    k0_pay2 (F := Ideal) v0 (ix2 p j) = v0 (ix2 p j) := by
  pointwise [k0_pay2]

/-- The normalised and modulated row. -/
theorem pay3_apply (v0 : Vec Ideal S512x1024 .f32) (v2 : Vec Ideal S1x1024 .f32) (v4 v6 : Vec Ideal S1x1x1024 .f32)
    (p : Fin 512) (j : Fin 1024) :
    k0_pay3 (F := Ideal) v0 v2 v4 v6 (ix2 p j)
      = FfnRow.scaled (fun k => v0 (ix2 p k)) (fun k => v2 (ix2 0 k)) (fun k => v4 (ix3 0 0 k)) (fun k => v6 (ix3 0 0 k)) j := by
  pointwise [k0_pay3, k0_pay2]
  rfl

/-- The first part of the hidden units. -/
theorem pay4_apply (v0 : Vec Ideal S512x1024 .f32) (v2 : Vec Ideal S1x1024 .f32) (v4 v6 : Vec Ideal S1x1x1024 .f32)
    (X : Vec Ideal S1x1x1024x5632 .bf16) (p : Fin 512) (n : Fin 1536) :
    k0_pay4 (F := Ideal) v0 v2 v4 v6 (View.ld X r0_4) (View.ld X r0_5) (ix2 p n)
      = FfnRow.hidden (fun k => k0_pay3 (F := Ideal) v0 v2 v4 v6 (ix2 p k)) (fun k n => X (ix4 0 0 k n)) ⟨n, by omega⟩ := by
  pointwise [k0_pay4]
  rfl

/-- The second part of the hidden units, the two products and the residual sum. -/
theorem pay1_apply (v1 : FVec Ideal S512x1024 .f32) (v25 : FVec Ideal S512x1024 .bf16) (v34 : FVec Ideal S512x1536 .f32)
    (X : Vec Ideal S1x1x1024x5632 .bf16) (Y : Vec Ideal S1x1x2816x1024 .bf16) (v53 : Vec Ideal S1x1x1024 .f32)
    (p : Fin 512) (j : Fin 1024) :
    k0_pay1 (F := Ideal) v1 v25 v34 (View.ld Y r0_6) (View.ld X r0_7) (View.ld X r0_8) (View.ld Y r0_9) v53 (ix2 p j)
      = v1 (ix2 p j) + Ideal.ofBits FTy.f32 0x3F000000#32 * v53 (ix3 0 0 j)
          * (∑ n : Fin 1536, v34 (ix2 p n) * Y (ix4 0 0 ⟨n, by omega⟩ j)
            + ∑ n : Fin 1280, FfnRow.hidden (fun k => v25 (ix2 p k)) (fun k n => X (ix4 0 0 k n)) ⟨1536 + n, by omega⟩
                * Y (ix4 0 0 ⟨1536 + n, by omega⟩ j)) := by
  pointwise [k0_pay1]
  refine congrArg (v1 (ix2 p j) + Ideal.ofBits FTy.f32 0x3F000000#32 * v53 (ix3 0 0 j) * ·) (congrArg₂ (· + ·) rfl (Finset.sum_congr rfl fun n _ => ?_))
  simp only [FfnRow.hidden, FfnRow.proj, ← Nat.add_assoc, Nat.reduceAdd]

/-- One grid point's block, index by index. -/
theorem out_apply (x0 : Vec Ideal S512x1024 .f32) (x1 : Vec Ideal S1x9x1024 .f32) (x2 : Vec Ideal S1x1024 .f32)
    (x3 : Vec Ideal S1x1x1024x5632 .bf16) (x4 : Vec Ideal S1x1x2816x1024 .bf16) (p : Fin 512) (j : Fin 1024) :
    out0_5 (F := Ideal) x0 x1 x2 x3 x4 (ix2 p j)
      = FfnRow.half (fun k => x0 (ix2 p k)) (fun k => x2 (ix2 0 k)) (fun k => x1 (ix3 0 0 k)) (fun k => x1 (ix3 0 1 k))
          (fun k => x1 (ix3 0 2 k)) (fun k n => x3 (ix4 0 0 k n)) (fun n k => x4 (ix4 0 0 n k)) j := by
  unfold out0_5
  rw [View.canon_unit_zero (by funext a; match a with | ⟨0, _⟩ => rfl | ⟨1, _⟩ => rfl), pay1_apply, FfnRow.half, FfnRow.sum_cut]
  simp only [pay4_apply, pay3_apply, pay2_apply]
  pointwise

end Cert.Ffn10Ideal.Body

end
-- ==== Proof.Ffn10Ref.lean ====
/-
  The reference of the half feed-forward block of layer 1, half 0, index by index: row `l` of a latent or of a context
  sequence `b` is `FfnRow.half` of that row of the arguments.
-/
module

public import proofs.«01_k».proof.Proof.Gen.Ffn10ReferenceIdeal.Read
public import proofs.«01_k».proof.Proof.FfnRow

@[expose] public section

set_option maxRecDepth 16384

noncomputable section

namespace Cert.Ffn10ReferenceIdeal.Rows

open Cert.Ffn10ReferenceIdeal Cert.Ffn10ReferenceIdeal.Gen Cert.Ffn10ReferenceIdeal.Read Idealize.ShloMosaic

variable (x0 : (⟨S4x8192x1024, .f32⟩ : BufTy).Contents (Elt Ideal)) (x1 : (⟨S4x256x1024, .f32⟩ : BufTy).Contents (Elt Ideal))
  (x2 : (⟨S4x9x1024, .f32⟩ : BufTy).Contents (Elt Ideal)) (x3 : (⟨S9x1024, .f32⟩ : BufTy).Contents (Elt Ideal))
  (x4 : (⟨S4x3x1024, .f32⟩ : BufTy).Contents (Elt Ideal)) (x5 : (⟨S4x2x1024x5632, .f32⟩ : BufTy).Contents (Elt Ideal))
  (x6 : (⟨S4x2x2816x1024, .f32⟩ : BufTy).Contents (Elt Ideal))

/-- A latent row, normalised and modulated. -/
theorem v33_apply (b : Fin 4) (l : Fin 8192) (j : Fin 1024) :
    val_main_v33 (F := Ideal) x0 x2 x4 (ix3 b l j)
      = FfnRow.scaled (fun k => x0 (ix3 b l k)) (fun k => x4 (ix3 1 0 k)) (fun k => x2 (ix3 b 0 k)) (fun k => x2 (ix3 b 1 k)) j := by
  pointwise [val_main_v33, val_main_v32, val_main_v31, val_main_v30, val_main_v29, val_main_v28, val_main_cst_2, val_main_v27,
    val_main_v26, val_main_v25, val_main_v24, val_main_v23, val_main_v22, val_main_v21, val_main_v20, val_main_cst_1,
    val_main_v19, val_main_v18, val_main_cst_0, val_main_v17, val_main_v16, val_main_cst, val_main_v15, val_main_v11,
    val_main_v10, val_main_v9, val_main_v8, val_main_v7, val_main_v6, val_main_v1, val_main_v0, FfnRow.scaled]
  simp only [mul_assoc]

/-- A latent row's hidden unit. -/
theorem v40_apply (b : Fin 4) (l : Fin 8192) (n : Fin 2816) :
    val_main_v40 (F := Ideal) x0 x2 x4 x5 (ix3 b l n)
      = FfnRow.hidden (fun k => val_main_v33 (F := Ideal) x0 x2 x4 (ix3 b l k)) (fun k n => x5 (ix4 1 0 k n)) n := by
  pointwise [val_main_v40, val_main_v39, val_main_call0_v5, val_main_call0_v4, val_main_call0_cst_0, val_main_call0_v3,
    val_main_call0_v2, val_main_call0_cst, val_main_call0_v1, val_main_call0_v0, val_main_v36, val_main_v35, val_main_v34,
    val_main_v3, val_main_v2, FfnRow.hidden, FfnRow.proj, Ideal.logistic]

/-- The latent rows of the result. -/
theorem v93_apply (r : Fin 32768) (j : Fin 1024) :
    val_main_v93 (F := Ideal) x0 x2 x4 x5 x6 (ix2 r j)
      = FfnRow.half (fun k => x0 (ix3 ⟨r / 8192, by omega⟩ ⟨r % 8192, by omega⟩ k)) (fun k => x4 (ix3 1 0 k))
          (fun k => x2 (ix3 ⟨r / 8192, by omega⟩ 0 k)) (fun k => x2 (ix3 ⟨r / 8192, by omega⟩ 1 k))
          (fun k => x2 (ix3 ⟨r / 8192, by omega⟩ 2 k)) (fun k n => x5 (ix4 1 0 k n)) (fun n k => x6 (ix4 1 0 n k)) j := by
  pointwise [val_main_v93, val_main_v44, val_main_v43, val_main_v42, val_main_v41, val_main_v38, val_main_v37, val_main_cst_3,
    val_main_v14, val_main_v13, val_main_v12, val_main_v5, val_main_v4]
  simp only [v40_apply, v33_apply]
  rfl

/-- A context row, normalised and modulated. -/
theorem v80_apply (b : Fin 4) (l : Fin 256) (j : Fin 1024) :
    val_main_v80 (F := Ideal) x1 x3 x4 (ix3 b l j)
      = FfnRow.scaled (fun k => x1 (ix3 b l k)) (fun k => x4 (ix3 1 0 k)) (fun k => x3 (ix2 0 k)) (fun k => x3 (ix2 1 k)) j := by
  pointwise [val_main_v80, val_main_v79, val_main_v78, val_main_v77, val_main_v76, val_main_v75, val_main_v74, val_main_v73,
    val_main_cst_7, val_main_v72, val_main_v71, val_main_v70, val_main_v69, val_main_v68, val_main_v67, val_main_v66,
    val_main_v65, val_main_cst_6, val_main_v64, val_main_v63, val_main_cst_5, val_main_v62, val_main_v61, val_main_cst_4,
    val_main_v60, val_main_v56, val_main_v55, val_main_v54, val_main_v53, val_main_v52, val_main_v51, val_main_v46,
    val_main_v45, FfnRow.scaled]
  simp only [mul_assoc]

/-- A context row's hidden unit. -/
theorem v87_apply (b : Fin 4) (l : Fin 256) (n : Fin 2816) :
    val_main_v87 (F := Ideal) x1 x3 x4 x5 (ix3 b l n)
      = FfnRow.hidden (fun k => val_main_v80 (F := Ideal) x1 x3 x4 (ix3 b l k)) (fun k n => x5 (ix4 1 0 k n)) n := by
  pointwise [val_main_v87, val_main_v86, val_main_call1_v5, val_main_call1_v4, val_main_call1_cst_0, val_main_call1_v3,
    val_main_call1_v2, val_main_call1_cst, val_main_call1_v1, val_main_call1_v0, val_main_v83, val_main_v82, val_main_v81,
    val_main_v48, val_main_v47, FfnRow.hidden, FfnRow.proj, Ideal.logistic]

/-- The context rows of the result. -/
theorem v94_apply (r : Fin 1024) (j : Fin 1024) :
    val_main_v94 (F := Ideal) x1 x3 x4 x5 x6 (ix2 r j)
      = FfnRow.half (fun k => x1 (ix3 ⟨r / 256, by omega⟩ ⟨r % 256, by omega⟩ k)) (fun k => x4 (ix3 1 0 k))
          (fun k => x3 (ix2 0 k)) (fun k => x3 (ix2 1 k)) (fun k => x3 (ix2 2 k))
          (fun k n => x5 (ix4 1 0 k n)) (fun n k => x6 (ix4 1 0 n k)) j := by
  pointwise [val_main_v94, val_main_v92, val_main_v91, val_main_v90, val_main_v89, val_main_v88, val_main_v85, val_main_v84,
    val_main_cst_8, val_main_v59, val_main_v58, val_main_v57, val_main_v50, val_main_v49]
  simp only [v87_apply, v80_apply]
  rfl

/-- The result's first 32768 rows are the latent ones. -/
theorem v95_latent (r : Fin 33792) (h : r.val < 32768) (j : Fin 1024) :
    val_main_v95 (F := Ideal) x0 x1 x2 x3 x4 x5 x6 (ix2 r j) = val_main_v93 (F := Ideal) x0 x2 x4 x5 x6 (ix2 ⟨r, h⟩ j) := by
  unfold val_main_v95
  rw [concatenate_pair_apply]
  refine (dif_pos h).trans (congrArg _ ?_)
  funext a; match a with | ⟨0, _⟩ => rfl | ⟨1, _⟩ => rfl

/-- The other rows are those of the context. -/
theorem v95_context (r : Fin 33792) (h : ¬ r.val < 32768) (j : Fin 1024) :
    val_main_v95 (F := Ideal) x0 x1 x2 x3 x4 x5 x6 (ix2 r j)
      = val_main_v94 (F := Ideal) x1 x3 x4 x5 x6 (ix2 ⟨r - 32768, by omega⟩ j) := by
  unfold val_main_v95
  rw [concatenate_pair_apply]
  refine (dif_neg h).trans (congrArg _ ?_)
  funext a; match a with | ⟨0, _⟩ => rfl | ⟨1, _⟩ => rfl

end Cert.Ffn10ReferenceIdeal.Rows

end
-- ==== Proof.Ffn10Host.lean ====
/-
  The operands of the half feed-forward kernel of layer 1, half 0, as its grid points see them: what each window's
  block holds, in terms of the arguments the program was launched with. The first 64 points work on the latent rows, 16
  to a sequence; the last two on the context rows, which share one block of modulations.
-/
module

public import proofs.«01_k».proof.Proof.Gen.Ffn10Ideal.Value
public import Idealize.ShloMosaic.Lib.Pointwise

@[expose] public section

set_option maxRecDepth 16384

noncomputable section

namespace Cert.Ffn10Ideal.Host

open Cert.Ffn10Ideal Cert.Ffn10Ideal.Gen Idealize.ShloMosaic Idealize.ShloMosaic.TcCoe Idealize.SL.Sem

/-- The block indices of the windows that move, and of the two that stand at layer 1, half 0. -/
theorem index_facts : ∀ t : Fin grid0.N,
    (win0_0.index t 0 = t.val ∧ win0_0.index t 1 = 0)
    ∧ (win0_1.index t 0 = min (t.val / 16) 4 ∧ win0_1.index t 1 = 0 ∧ win0_1.index t 2 = 0)
    ∧ (win0_2.index t 0 = 0 ∧ win0_2.index t 1 = 0)
    ∧ (win0_3.index t 0 = 1 ∧ win0_3.index t 1 = 0 ∧ win0_3.index t 2 = 0 ∧ win0_3.index t 3 = 0)
    ∧ (win0_4.index t 0 = 1 ∧ win0_4.index t 1 = 0 ∧ win0_4.index t 2 = 0 ∧ win0_4.index t 3 = 0)
    ∧ (win0_5.index t 0 = t.val ∧ win0_5.index t 1 = 0) := by decide +kernel

theorem t_lt (t : Fin cfg0.N) : t.val < 66 := by have h := t.isLt; have hN : cfg0.N = 66 := N_0; omega

variable (m : (ℓ : Loc nD τ sig) → Buf (Elt Ideal) ℓ) (c : Dev nD)

/-- A row below 32768 is a latent row. -/
theorem rows_latent (A : Vec Ideal S4x8192x1024 .f32) (B : Vec Ideal S1024x1024 .f32) (r : Fin 33792) (h : r.val < 32768) (k : Fin 1024) :
    concatenate S33792x1024 0 [⟨S32768x1024, shapeCast S32768x1024 A shapeCasts_S4x8192x1024_S32768x1024⟩, ⟨S1024x1024, B⟩]
      concatenates_S32768x1024_S1024x1024_S33792x1024_d0 (ix2 r k) = A (ix3 ⟨r / 8192, by omega⟩ ⟨r % 8192, by omega⟩ k) := by
  rw [concatenate_pair_apply]
  refine (dif_pos h).trans ?_
  pointwise

/-- The other rows are those of the context. -/
theorem rows_context (A : Vec Ideal S32768x1024 .f32) (B : Vec Ideal S4x256x1024 .f32) (r : Fin 33792) (h : ¬ r.val < 32768) (k : Fin 1024) :
    concatenate S33792x1024 0 [⟨S32768x1024, A⟩, ⟨S1024x1024, shapeCast S1024x1024 B shapeCasts_S4x256x1024_S1024x1024⟩]
      concatenates_S32768x1024_S1024x1024_S33792x1024_d0 (ix2 r k) = B (ix3 ⟨(r - 32768) / 256, by omega⟩ ⟨(r - 32768) % 256, by omega⟩ k) := by
  rw [concatenate_pair_apply]
  refine (dif_neg h).trans ?_
  pointwise

/-- One of the first four blocks of modulations is the sequence's own. -/
theorem mods_latent (A : Vec Ideal S4x9x1024 .f32) (B : Vec Ideal S1x9x1024 .f32) (C : Vec Ideal S3x9x1024 .f32) (b : Fin 8)
    (h : b.val < 4) (n : Fin 9) (k : Fin 1024) :
    concatenate S8x9x1024 0 [⟨S4x9x1024, A⟩, ⟨S1x9x1024, B⟩, ⟨S3x9x1024, C⟩]
      concatenates_S4x9x1024_S1x9x1024_S3x9x1024_S8x9x1024_d0 (ix3 b n k) = A (ix3 ⟨b, h⟩ n k) := by
  pointwise
  rw [dif_pos h]

/-- The fifth is that of the context. -/
theorem mods_context (A : Vec Ideal S4x9x1024 .f32) (B : Vec Ideal S9x1024 .f32) (C : Vec Ideal S3x9x1024 .f32) (n : Fin 9) (k : Fin 1024) :
    concatenate S8x9x1024 0 [⟨S4x9x1024, A⟩, ⟨S1x9x1024, broadcastInDim S1x9x1024 ![1, 2] bcast_S9x1024_S1x9x1024_1_2 B⟩, ⟨S3x9x1024, C⟩]
      concatenates_S4x9x1024_S1x9x1024_S3x9x1024_S8x9x1024_d0 (ix3 4 n k) = B (ix2 n k) := by
  pointwise

theorem V_v2 : V m c main_v2 = concatenate S33792x1024 0 [⟨S32768x1024, shapeCast S32768x1024 (m ((c : Thread nD τ).loc main_arg0)) shapeCasts_S4x8192x1024_S32768x1024⟩, ⟨S1024x1024, shapeCast S1024x1024 (m ((c : Thread nD τ).loc main_arg1)) shapeCasts_S4x256x1024_S1024x1024⟩] concatenates_S32768x1024_S1024x1024_S33792x1024_d0 := by
  unfold_abbrev_sides
  after_results
  rfl

theorem V_v5 : V m c main_v5 = concatenate S8x9x1024 0 [⟨S4x9x1024, m ((c : Thread nD τ).loc main_arg2)⟩, ⟨S1x9x1024, broadcastInDim S1x9x1024 ![1, 2] bcast_S9x1024_S1x9x1024_1_2 (m ((c : Thread nD τ).loc main_arg3))⟩, ⟨S3x9x1024, broadcastInDim S3x9x1024 ![] bcast_S_S3x9x1024 (constant (F := Ideal) S_ .f32 0x00000000#32)⟩] concatenates_S4x9x1024_S1x9x1024_S3x9x1024_S8x9x1024_d0 := by
  unfold_abbrev_sides
  after_results
  rfl

theorem V_v8 (k : Fin 1024) : V m c main_v8 (ix2 0 k) = m ((c : Thread nD τ).loc main_arg4) (ix3 1 0 k) := by
  have e : V m c main_v8 = broadcastInDim S1x1024 ![1] bcast_S1024_S1x1024_1 (shapeCast S1024 (extractStridedSlice S1x1x1024 ![1, 0, 0] (m ((c : Thread nD τ).loc main_arg4)) slices_S4x3x1024_S1x1x1024_1_0_0) shapeCasts_S1x1x1024_S1024) := by
    unfold_abbrev_sides
    after_results
    rfl
  rw [e]
  pointwise

theorem V_v9 : V m c main_v9 = m ((c : Thread nD τ).loc main_arg5) := by
  unfold_abbrev_sides
  after_results
  rfl

theorem V_v10 : V m c main_v10 = m ((c : Thread nD τ).loc main_arg6) := by
  unfold_abbrev_sides
  after_results
  rfl

theorem iblk0 (t : Fin cfg0.N) (p : Fin 512) (k : Fin 1024) :
    iblk m c 0 t (ix2 p k) = V m c main_v2 (ix2 ⟨t.val * 512 + p.val, by have := t_lt t; omega⟩ k) := by
  refine congrArg (V m c main_v2) (funext fun a => Fin.ext ?_)
  have e := (index_facts t).1
  match a with
  | ⟨0, _⟩ => show win0_0.index t 0 * 512 + 1 * p.val = t.val * 512 + p.val; rw [e.1]; omega
  | ⟨1, _⟩ => show win0_0.index t 1 * 1024 + 1 * k.val = k.val; rw [e.2]; omega

theorem iblk1 (t : Fin cfg0.N) (n : Fin 9) (k : Fin 1024) :
    iblk m c 1 t (ix3 0 n k) = V m c main_v5 (ix3 ⟨min (t.val / 16) 4, by omega⟩ n k) := by
  refine congrArg (V m c main_v5) (funext fun a => Fin.ext ?_)
  have e := (index_facts t).2.1
  match a with
  | ⟨0, _⟩ => show win0_1.index t 0 * 1 + 1 * 0 = min (t.val / 16) 4; rw [e.1]; omega
  | ⟨1, _⟩ => show win0_1.index t 1 * 9 + 1 * n.val = n.val; rw [e.2.1]; omega
  | ⟨2, _⟩ => show win0_1.index t 2 * 1024 + 1 * k.val = k.val; rw [e.2.2]; omega

theorem iblk2 (t : Fin cfg0.N) (k : Fin 1024) : iblk m c 2 t (ix2 0 k) = V m c main_v8 (ix2 0 k) := by
  refine congrArg (V m c main_v8) (funext fun a => Fin.ext ?_)
  have e := (index_facts t).2.2.1
  match a with
  | ⟨0, _⟩ => show win0_2.index t 0 * 1 + 1 * 0 = 0; rw [e.1]
  | ⟨1, _⟩ => show win0_2.index t 1 * 1024 + 1 * k.val = k.val; rw [e.2]; omega

theorem iblk3 (t : Fin cfg0.N) (k : Fin 1024) (n : Fin 5632) :
    iblk m c 3 t (ix4 0 0 k n) = V m c main_v9 (ix4 1 0 k n) := by
  refine congrArg (V m c main_v9) (funext fun a => Fin.ext ?_)
  have e := (index_facts t).2.2.2.1
  match a with
  | ⟨0, _⟩ => show win0_3.index t 0 * 1 + 1 * 0 = 1; rw [e.1]
  | ⟨1, _⟩ => show win0_3.index t 1 * 1 + 1 * 0 = 0; rw [e.2.1]
  | ⟨2, _⟩ => show win0_3.index t 2 * 1024 + 1 * k.val = k.val; rw [e.2.2.1]; omega
  | ⟨3, _⟩ => show win0_3.index t 3 * 5632 + 1 * n.val = n.val; rw [e.2.2.2]; omega

theorem iblk4 (t : Fin cfg0.N) (n : Fin 2816) (k : Fin 1024) :
    iblk m c 4 t (ix4 0 0 n k) = V m c main_v10 (ix4 1 0 n k) := by
  refine congrArg (V m c main_v10) (funext fun a => Fin.ext ?_)
  have e := (index_facts t).2.2.2.2.1
  match a with
  | ⟨0, _⟩ => show win0_4.index t 0 * 1 + 1 * 0 = 1; rw [e.1]
  | ⟨1, _⟩ => show win0_4.index t 1 * 1 + 1 * 0 = 0; rw [e.2.1]
  | ⟨2, _⟩ => show win0_4.index t 2 * 2816 + 1 * n.val = n.val; rw [e.2.2.1]; omega
  | ⟨3, _⟩ => show win0_4.index t 3 * 1024 + 1 * k.val = k.val; rw [e.2.2.2]; omega

/-- The row a latent point reads. -/
theorem row_latent (t : Fin cfg0.N) (ht : t.val < 64) (p : Fin 512) (k : Fin 1024) :
    iblk m c 0 t (ix2 p k) = m ((c : Thread nD τ).loc main_arg0)
      (ix3 ⟨(t.val * 512 + p.val) / 8192, by omega⟩ ⟨(t.val * 512 + p.val) % 8192, by omega⟩ k) := by
  rw [iblk0, V_v2]
  exact rows_latent _ _ ⟨t.val * 512 + p.val, by omega⟩ (by show t.val * 512 + p.val < 32768; omega) k

/-- The row a context point reads. -/
theorem row_context (t : Fin cfg0.N) (ht : ¬ t.val < 64) (p : Fin 512) (k : Fin 1024) :
    iblk m c 0 t (ix2 p k) = m ((c : Thread nD τ).loc main_arg1)
      (ix3 ⟨(t.val * 512 + p.val - 32768) / 256, by have := t_lt t; omega⟩ ⟨(t.val * 512 + p.val - 32768) % 256, by omega⟩ k) := by
  have := t_lt t
  rw [iblk0, V_v2]
  exact rows_context _ _ ⟨t.val * 512 + p.val, by omega⟩ (by show ¬ t.val * 512 + p.val < 32768; omega) k

/-- The modulations a latent point reads. -/
theorem mod_latent (t : Fin cfg0.N) (ht : t.val < 64) (p : Fin 512) (n : Fin 9) (k : Fin 1024) :
    iblk m c 1 t (ix3 0 n k) = m ((c : Thread nD τ).loc main_arg2) (ix3 ⟨(t.val * 512 + p.val) / 8192, by omega⟩ n k) := by
  have e : (⟨min (t.val / 16) 4, by omega⟩ : Fin 8) = ⟨(t.val * 512 + p.val) / 8192, by omega⟩ :=
    Fin.ext (by show min (t.val / 16) 4 = (t.val * 512 + p.val) / 8192; omega)
  rw [iblk1, V_v5, e]
  exact mods_latent _ _ _ ⟨(t.val * 512 + p.val) / 8192, by omega⟩ (by show (t.val * 512 + p.val) / 8192 < 4; omega) n k

/-- The modulations a context point reads. -/
theorem mod_context (t : Fin cfg0.N) (ht : ¬ t.val < 64) (n : Fin 9) (k : Fin 1024) :
    iblk m c 1 t (ix3 0 n k) = m ((c : Thread nD τ).loc main_arg3) (ix2 n k) := by
  have e : (⟨min (t.val / 16) 4, by omega⟩ : Fin 8) = 4 := Fin.ext (by show min (t.val / 16) 4 = 4; omega)
  rw [iblk1, V_v5, e]
  exact mods_context _ _ _ n k

end Cert.Ffn10Ideal.Host

end
-- ==== Proof.Ffn10Claim.lean ====
/-
  The half feed-forward program of layer 1, half 0, and its reference leave the same array: every row of either is
  `FfnRow.half` of the same row of the arguments, the latent rows under their sequence's modulations and the context rows
  under the context's.
-/
module

public import proofs.«01_k».proof.Defs
public import proofs.«01_k».proof.Proof.Ffn10Body
public import proofs.«01_k».proof.Proof.Ffn10Ref
public import proofs.«01_k».proof.Proof.Ffn10Host
public import proofs.«01_k».proof.Proof.Gen.Ffn10ReferenceIdeal.Run
public import Idealize.ShloMosaic.Lib.Quiescent

@[expose] public section

set_option maxRecDepth 16384

noncomputable section

namespace Cert.Ffn10Ideal.Whole

open Cert.Ffn10Ideal Cert.Ffn10Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The whole result as one function of the arguments. -/
def G : Vec Ideal S33792x1024 .f32 :=
  fun i => Ffn10ReferenceIdeal.Read.val_main_v95 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) i

theorem block_apply (t : Fin cfg0.N) (p : Fin 512) (j : Fin 1024) :
    out0_5 (F := Ideal) (iblk m c 0 t) (iblk m c 1 t) (iblk m c 2 t) (iblk m c 3 t) (iblk m c 4 t) (ix2 p j)
      = G m c (ix2 ⟨t.val * 512 + p.val, by have := Host.t_lt t; omega⟩ j) := by
  have hlt := Host.t_lt t
  have e2 := Host.V_v8 m c
  by_cases ht : t.val < 64
  · rw [Body.out_apply, G, Ffn10ReferenceIdeal.Rows.v95_latent _ _ _ _ _ _ _ _ (by show t.val * 512 + p.val < 32768; omega),
      Ffn10ReferenceIdeal.Rows.v93_apply]
    simp only [Host.row_latent m c t ht, Host.mod_latent m c t ht p, Host.iblk2, Host.iblk3, Host.iblk4, e2]
    rw [Host.V_v9, Host.V_v10]
  · rw [Body.out_apply, G, Ffn10ReferenceIdeal.Rows.v95_context _ _ _ _ _ _ _ _ (by show ¬ t.val * 512 + p.val < 32768; omega),
      Ffn10ReferenceIdeal.Rows.v94_apply]
    simp only [Host.row_context m c t ht, Host.mod_context m c t ht, Host.iblk2, Host.iblk3, Host.iblk4, e2]
    rw [Host.V_v9, Host.V_v10]

theorem flushed_eq (t : Fin cfg0.N) : (dats m 0 c).flushed 5 t = ((cfg0.win 5).blk t).view.read (Elt Ideal) (G m c) := by
  rw [Value.flushed5]
  have ht := Host.t_lt t
  have key : ∀ y : S512x1024.Idx, out0_5 (F := Ideal) (iblk m c 0 t) (iblk m c 1 t) (iblk m c 2 t) (iblk m c 3 t) (iblk m c 4 t) y
      = G m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block_apply m c t (y 0) (y 1)
  funext y
  refine (key y).trans (congrArg (G m c) (funext fun a => Fin.ext ?_))
  have e := (Host.index_facts t).2.2.2.2.2
  match a with
  | ⟨0, _⟩ => show t.val * 512 + (y 0).val = win0_5.index t 0 * 512 + 1 * (y 0).val; rw [e.1]; omega
  | ⟨1, _⟩ => show (y 1).val = win0_5.index t 1 * 1024 + 1 * (y 1).val; rw [e.2]; omega

theorem mem_blk (t : Fin cfg0.N) (i : S33792x1024.Idx) : i ∈ ((cfg0.win 5).blk t).view.set ↔
    ∀ a, win0_5.index t a * win0_5.size a ≤ (i a).val ∧ (i a).val < win0_5.index t a * win0_5.size a + win0_5.xsize (grid0.coords t) a := by
  show i ∈ ((View.whole main_v11).slice (win0_5.rect t)).set ↔ _
  rw [View.set_slice_whole, Rect.mem_set_unit]

theorem cover (i : S33792x1024.Idx) : ∃ t : Fin cfg0.N, (cfg0.win 5).flush t = true ∧ i ∈ ((cfg0.win 5).blk t).view.set := by
  have h0 : (i 0).val < 33792 := (i 0).isLt
  have h1 : (i 1).val < 1024 := (i 1).isLt
  have hN : cfg0.N = 66 := N_0
  have hlt : (i 0).val / 512 < cfg0.N := by omega
  refine ⟨⟨(i 0).val / 512, hlt⟩, flush0_5 _, (mem_blk _ i).2 fun a => ?_⟩
  have e := (Host.index_facts ⟨(i 0).val / 512, hlt⟩).2.2.2.2.2
  match a with
  | ⟨0, _⟩ =>
    show win0_5.index _ 0 * 512 ≤ (i 0).val ∧ (i 0).val < win0_5.index _ 0 * 512 + 512
    rw [e.1]; show (i 0).val / 512 * 512 ≤ (i 0).val ∧ (i 0).val < (i 0).val / 512 * 512 + 512; omega
  | ⟨1, _⟩ =>
    show win0_5.index _ 1 * 1024 ≤ (i 1).val ∧ (i 1).val < win0_5.index _ 1 * 1024 + 1024
    rw [e.2]; omega

theorem final : (dats m 0 c).arrAt 5 cfg0.N = G m c :=
  (dats m 0 c).arrAt_eq_of_cover 5 (G m c) (fun t _ => flushed_eq m c t) cover

/-- The value claim of this half feed-forward program. -/
theorem agrees : @Cert.algebraic_Ffn10Ideal_Ffn10ReferenceIdeal Cert.Ffn10Ideal.Gen.facts Cert.Ffn10ReferenceIdeal.Gen.facts := by
  intro m ρ m' ρ' _ hagree
  refine ⟨fun c => G m c, ?_, ?_⟩
  · exact (θ_run Cert.Ffn10Ideal.defs _ _).mono (fun _ h c => ⟨(h c).1.trans (final m c), (h c).2⟩) (Value.run_blocks m ρ)
  · refine (θ_run Cert.Ffn10ReferenceIdeal.defs _ _).mono (fun _ h c => ⟨(h c).1.trans ?_, (h c).2⟩) (Cert.Ffn10ReferenceIdeal.Value.run (F := Ideal) m' ρ')
    obtain ⟨a0, a1, a2, a3, a4, a5, a6⟩ := hagree c
    rw [Ffn10ReferenceIdeal.Read.val_main_v95_eq, a0, a1, a2, a3, a4, a5, a6]
    rfl

/-- The reference keeps its arguments and leaves no semaphore raised. -/
theorem reference_frame : @Cert.quiescent_Ffn10ReferenceIdeal Cert.Ffn10ReferenceIdeal.Gen.facts := fun m ρ _ =>
  (θ_run Cert.Ffn10ReferenceIdeal.defs _ _).mono
    (fun r h => ⟨fun c => (h c).2, sem_eq_zero_of_no_sems (by decide) r.2⟩) (Cert.Ffn10ReferenceIdeal.Value.run (F := Ideal) m ρ)

end Cert.Ffn10Ideal.Whole

end
-- ==== Proof.Ffn11Body.lean ====
/-
  What one grid point of the half feed-forward kernel writes, at an index of its block: row `p` of the block is
  `FfnRow.half` of row `p` of the operands' blocks. The kernel cuts the hidden units in two parts and adds the two
  products; `FfnRow.sum_cut` puts them together.
-/
module

public import proofs.«01_k».proof.Proof.Gen.Ffn11Ideal.Value
public import proofs.«01_k».proof.Proof.FfnRow

@[expose] public section

set_option maxRecDepth 16384

noncomputable section

namespace Cert.Ffn11Ideal.Body

open Cert.Ffn11Ideal Cert.Ffn11Ideal.Gen Idealize.ShloMosaic

/-- The row with the mixer's output added. -/
theorem pay2_apply (v0 : Vec Ideal S512x1024 .f32) (v2 : Vec Ideal S1x1x1024 .f32) (v4 : Vec Ideal S512x1024 .bf16)
    (v6 : Vec Ideal S1024x1024 .bf16) (p : Fin 512) (j : Fin 1024) :
    k0_pay2 (F := Ideal) v0 v2 v4 v6 (ix2 p j)
      = FfnRow.joined (fun k => v0 (ix2 p k)) (fun k => v4 (ix2 p k)) (fun k n => v6 (ix2 k n)) (fun k => v2 (ix3 0 0 k)) j := by
  pointwise [k0_pay2]
  rfl

/-- The normalised and modulated row, from the joined row. -/
theorem pay3_apply (v0 : Vec Ideal S512x1024 .f32) (v2 : Vec Ideal S1x1x1024 .f32) (v4 : Vec Ideal S512x1024 .bf16)
    (v6 : Vec Ideal S1024x1024 .bf16) (v12 : Vec Ideal S1x1024 .f32) (v14 v16 : Vec Ideal S1x1x1024 .f32) (p : Fin 512)
    (j : Fin 1024) :
    k0_pay3 (F := Ideal) v0 v2 v4 v6 v12 v14 v16 (ix2 p j)
      = FfnRow.scaled (fun k => k0_pay2 (F := Ideal) v0 v2 v4 v6 (ix2 p k)) (fun k => v12 (ix2 0 k))
          (fun k => v14 (ix3 0 0 k)) (fun k => v16 (ix3 0 0 k)) j := by
  pointwise [k0_pay3]
  rfl

/-- The two parts of the hidden units, each through its rows of the second projection. -/
theorem pay4_apply (v35 : FVec Ideal S512x1024 .bf16) (X : Vec Ideal S1x1x1024x5632 .bf16) (Y : Vec Ideal S1x1x2816x1024 .bf16)
    (p : Fin 512) (j : Fin 1024) :
    k0_pay4 (F := Ideal) v35 (View.ld X r0_6) (View.ld X r0_7) (View.ld Y r0_8) (View.ld X r0_9) (View.ld X r0_10)
        (View.ld Y r0_11) (ix2 p j)
      = ∑ n : Fin 2816, FfnRow.hidden (fun k => v35 (ix2 p k)) (fun k n => X (ix4 0 0 k n)) n * Y (ix4 0 0 n j) := by
  rw [FfnRow.sum_cut]
  pointwise [k0_pay4]
  refine congrArg₂ (· + ·) (Finset.sum_congr rfl fun n _ => ?_) (Finset.sum_congr rfl fun n _ => ?_)
  · rfl
  · simp only [FfnRow.hidden, FfnRow.proj, ← Nat.add_assoc, Nat.reduceAdd]

/-- One grid point's block, index by index. -/
theorem out_apply (x0 : Vec Ideal S512x1024 .f32) (x1 : Vec Ideal S512x1024 .bf16) (x2 : Vec Ideal S1024x1024 .bf16)
    (x3 : Vec Ideal S1x9x1024 .f32) (x4 : Vec Ideal S1x1024 .f32) (x5 : Vec Ideal S1x1x1024x5632 .bf16)
    (x6 : Vec Ideal S1x1x2816x1024 .bf16) (p : Fin 512) (j : Fin 1024) :
    out0_7 (F := Ideal) x0 x1 x2 x3 x4 x5 x6 (ix2 p j)
      = FfnRow.half (FfnRow.joined (fun k => x0 (ix2 p k)) (fun k => x1 (ix2 p k)) (fun k n => x2 (ix2 k n))
            (fun k => x3 (ix3 0 5 k)))
          (fun k => x4 (ix2 0 k)) (fun k => x3 (ix3 0 6 k)) (fun k => x3 (ix3 0 7 k)) (fun k => x3 (ix3 0 8 k))
          (fun k n => x5 (ix4 0 0 k n)) (fun n k => x6 (ix4 0 0 n k)) j := by
  unfold out0_7
  rw [Value.canon7_eq]
  show k0_pay2 (F := Ideal) (View.ld x0 r0_0) (View.ld x3 r0_1) (View.ld x1 r0_0) (View.ld x2 r0_2) (Value.ix7_0 (ix2 p j))
      + Ideal.ofBits FTy.f32 0x3F000000#32 * (View.ld x3 r0_12) (Value.ix7_1 (ix2 p j))
        * k0_pay4 (F := Ideal) (k0_pay3 (View.ld x0 r0_0) (View.ld x3 r0_1) (View.ld x1 r0_0) (View.ld x2 r0_2)
            (View.ld x4 r0_3) (View.ld x3 r0_4) (View.ld x3 r0_5)) (View.ld x5 r0_6) (View.ld x5 r0_7) (View.ld x6 r0_8)
            (View.ld x5 r0_9) (View.ld x5 r0_10) (View.ld x6 r0_11) (Value.ix7_2 (ix2 p j)) = _
  have e0 : Value.ix7_0 (ix2 p j) = ix2 p j := by funext a; match a with | ⟨0, _⟩ => rfl | ⟨1, _⟩ => rfl
  have e1 : Value.ix7_1 (ix2 p j) = ix3 0 0 j := by
    funext a; match a with | ⟨0, _⟩ => rfl | ⟨1, _⟩ => rfl | ⟨2, _⟩ => rfl
  have e2 : Value.ix7_2 (ix2 p j) = ix2 p j := by funext a; match a with | ⟨0, _⟩ => rfl | ⟨1, _⟩ => rfl
  rw [e0, e1, e2, pay4_apply]
  simp only [pay3_apply, pay2_apply]
  pointwise [FfnRow.half]

end Cert.Ffn11Ideal.Body

end
-- ==== Proof.Ffn11Ref.lean ====
/-
  The reference of the half feed-forward block of layer 1, half 1, index by index: row `l` of a latent or of a context
  sequence `b` is `FfnRow.half` of that row of the arguments.
-/
module

public import proofs.«01_k».proof.Proof.Gen.Ffn11ReferenceIdeal.Read
public import proofs.«01_k».proof.Proof.FfnRow

@[expose] public section

set_option maxRecDepth 16384

noncomputable section

namespace Cert.Ffn11ReferenceIdeal.Rows

open Cert.Ffn11ReferenceIdeal Cert.Ffn11ReferenceIdeal.Gen Cert.Ffn11ReferenceIdeal.Read Idealize.ShloMosaic

variable (x0 : (⟨S4x8192x1024, .f32⟩ : BufTy).Contents (Elt Ideal)) (x1 : (⟨S4x256x1024, .f32⟩ : BufTy).Contents (Elt Ideal))
  (x2 : (⟨S33792x1024, .f32⟩ : BufTy).Contents (Elt Ideal)) (x3 : (⟨S4x9x1024, .f32⟩ : BufTy).Contents (Elt Ideal))
  (x4 : (⟨S9x1024, .f32⟩ : BufTy).Contents (Elt Ideal)) (x5 : (⟨S4x3x1024, .f32⟩ : BufTy).Contents (Elt Ideal))
  (x6 : (⟨S4x2x1024x5632, .f32⟩ : BufTy).Contents (Elt Ideal)) (x7 : (⟨S4x2x2816x1024, .f32⟩ : BufTy).Contents (Elt Ideal))
  (x8 : (⟨S1024x1024, .f32⟩ : BufTy).Contents (Elt Ideal))

/-- A latent row with the attention's output added. -/
theorem v10_apply (b : Fin 4) (l : Fin 8192) (j : Fin 1024) :
    val_main_v10 (F := Ideal) x0 x2 x3 x8 (ix3 b l j)
      = FfnRow.joined (fun k => x0 (ix3 b l k)) (fun k => x2 (ix2 ⟨b * 8192 + l, by omega⟩ k)) (fun k n => x8 (ix2 k n))
          (fun k => x3 (ix3 b 5 k)) j := by
  pointwise [val_main_v10, val_main_v9, val_main_v8, val_main_v7, val_main_v6, val_main_v5, val_main_v4, val_main_v1,
    val_main_v0]
  rfl

/-- A context row with the attention's output added. -/
theorem v18_apply (b : Fin 4) (l : Fin 256) (j : Fin 1024) :
    val_main_v18 (F := Ideal) x1 x2 x4 x8 (ix3 b l j)
      = FfnRow.joined (fun k => x1 (ix3 b l k)) (fun k => x2 (ix2 ⟨32768 + (b * 256 + l), by omega⟩ k)) (fun k n => x8 (ix2 k n))
          (fun k => x4 (ix2 5 k)) j := by
  pointwise [val_main_v18, val_main_v17, val_main_v16, val_main_v15, val_main_v14, val_main_v13, val_main_v12, val_main_v11,
    val_main_v3, val_main_v2]
  rfl

/-- A latent row, normalised and modulated. -/
theorem v52_apply (b : Fin 4) (l : Fin 8192) (j : Fin 1024) :
    val_main_v52 (F := Ideal) x0 x2 x3 x5 x8 (ix3 b l j)
      = FfnRow.scaled (fun k => val_main_v10 (F := Ideal) x0 x2 x3 x8 (ix3 b l k)) (fun k => x5 (ix3 1 2 k)) (fun k => x3 (ix3 b 6 k)) (fun k => x3 (ix3 b 7 k)) j := by
  pointwise [val_main_v52, val_main_v51, val_main_v50, val_main_v49, val_main_v48, val_main_v47, val_main_cst_2, val_main_v46,
    val_main_v45, val_main_v44, val_main_v43, val_main_v42, val_main_v41, val_main_v40, val_main_v39, val_main_cst_1,
    val_main_v38, val_main_v37, val_main_cst_0, val_main_v36, val_main_v35, val_main_cst, val_main_v34, val_main_v30,
    val_main_v29, val_main_v28, val_main_v27, val_main_v26, val_main_v25, val_main_v20, val_main_v19, FfnRow.scaled]
  simp only [mul_assoc]

/-- A latent row's hidden unit. -/
theorem v59_apply (b : Fin 4) (l : Fin 8192) (n : Fin 2816) :
    val_main_v59 (F := Ideal) x0 x2 x3 x5 x6 x8 (ix3 b l n)
      = FfnRow.hidden (fun k => val_main_v52 (F := Ideal) x0 x2 x3 x5 x8 (ix3 b l k)) (fun k n => x6 (ix4 1 1 k n)) n := by
  pointwise [val_main_v59, val_main_v58, val_main_call0_v5, val_main_call0_v4, val_main_call0_cst_0, val_main_call0_v3,
    val_main_call0_v2, val_main_call0_cst, val_main_call0_v1, val_main_call0_v0, val_main_v55, val_main_v54, val_main_v53,
    val_main_v22, val_main_v21, FfnRow.hidden, FfnRow.proj, Ideal.logistic]

/-- The latent rows of the result. -/
theorem v112_apply (r : Fin 32768) (j : Fin 1024) :
    val_main_v112 (F := Ideal) x0 x2 x3 x5 x6 x7 x8 (ix2 r j)
      = FfnRow.half (FfnRow.joined (fun k => x0 (ix3 ⟨r / 8192, by omega⟩ ⟨r % 8192, by omega⟩ k)) (fun k => x2 (ix2 ⟨r, by omega⟩ k))
            (fun k n => x8 (ix2 k n)) (fun k => x3 (ix3 ⟨r / 8192, by omega⟩ 5 k)))
          (fun k => x5 (ix3 1 2 k))
          (fun k => x3 (ix3 ⟨r / 8192, by omega⟩ 6 k)) (fun k => x3 (ix3 ⟨r / 8192, by omega⟩ 7 k))
          (fun k => x3 (ix3 ⟨r / 8192, by omega⟩ 8 k)) (fun k n => x6 (ix4 1 1 k n)) (fun n k => x7 (ix4 1 1 n k)) j := by
  have hr : ∀ h, (⟨r.val / 8192 * 8192 + r.val % 8192, h⟩ : Fin 33792) = ⟨r.val, by omega⟩ := fun h => Fin.ext (Nat.div_add_mod' r.val 8192)
  pointwise [val_main_v112, val_main_v63, val_main_v62, val_main_v61, val_main_v60, val_main_v57, val_main_v56, val_main_cst_3,
    val_main_v33, val_main_v32, val_main_v31, val_main_v24, val_main_v23]
  simp only [v59_apply, v52_apply, v10_apply, hr]
  rfl

/-- A context row, normalised and modulated. -/
theorem v99_apply (b : Fin 4) (l : Fin 256) (j : Fin 1024) :
    val_main_v99 (F := Ideal) x1 x2 x4 x5 x8 (ix3 b l j)
      = FfnRow.scaled (fun k => val_main_v18 (F := Ideal) x1 x2 x4 x8 (ix3 b l k)) (fun k => x5 (ix3 1 2 k)) (fun k => x4 (ix2 6 k)) (fun k => x4 (ix2 7 k)) j := by
  pointwise [val_main_v99, val_main_v98, val_main_v97, val_main_v96, val_main_v95, val_main_v94, val_main_v93, val_main_v92,
    val_main_cst_7, val_main_v91, val_main_v90, val_main_v89, val_main_v88, val_main_v87, val_main_v86, val_main_v85,
    val_main_v84, val_main_cst_6, val_main_v83, val_main_v82, val_main_cst_5, val_main_v81, val_main_v80, val_main_cst_4,
    val_main_v79, val_main_v75, val_main_v74, val_main_v73, val_main_v72, val_main_v71, val_main_v70, val_main_v65,
    val_main_v64, FfnRow.scaled]
  simp only [mul_assoc]

/-- A context row's hidden unit. -/
theorem v106_apply (b : Fin 4) (l : Fin 256) (n : Fin 2816) :
    val_main_v106 (F := Ideal) x1 x2 x4 x5 x6 x8 (ix3 b l n)
      = FfnRow.hidden (fun k => val_main_v99 (F := Ideal) x1 x2 x4 x5 x8 (ix3 b l k)) (fun k n => x6 (ix4 1 1 k n)) n := by
  pointwise [val_main_v106, val_main_v105, val_main_call1_v5, val_main_call1_v4, val_main_call1_cst_0, val_main_call1_v3,
    val_main_call1_v2, val_main_call1_cst, val_main_call1_v1, val_main_call1_v0, val_main_v102, val_main_v101, val_main_v100,
    val_main_v67, val_main_v66, FfnRow.hidden, FfnRow.proj, Ideal.logistic]

/-- The context rows of the result. -/
theorem v113_apply (r : Fin 1024) (j : Fin 1024) :
    val_main_v113 (F := Ideal) x1 x2 x4 x5 x6 x7 x8 (ix2 r j)
      = FfnRow.half (FfnRow.joined (fun k => x1 (ix3 ⟨r / 256, by omega⟩ ⟨r % 256, by omega⟩ k)) (fun k => x2 (ix2 ⟨32768 + r, by omega⟩ k))
            (fun k n => x8 (ix2 k n)) (fun k => x4 (ix2 5 k)))
          (fun k => x5 (ix3 1 2 k))
          (fun k => x4 (ix2 6 k)) (fun k => x4 (ix2 7 k)) (fun k => x4 (ix2 8 k))
          (fun k n => x6 (ix4 1 1 k n)) (fun n k => x7 (ix4 1 1 n k)) j := by
  have hr : ∀ h, (⟨32768 + (r.val / 256 * 256 + r.val % 256), h⟩ : Fin 33792) = ⟨32768 + r.val, by omega⟩ :=
    fun h => Fin.ext (congrArg (32768 + ·) (Nat.div_add_mod' r.val 256))
  pointwise [val_main_v113, val_main_v111, val_main_v110, val_main_v109, val_main_v108, val_main_v107, val_main_v104, val_main_v103,
    val_main_cst_8, val_main_v78, val_main_v77, val_main_v76, val_main_v69, val_main_v68]
  simp only [v106_apply, v99_apply, v18_apply, hr]
  rfl

/-- The result's first 32768 rows are the latent ones. -/
theorem v114_latent (r : Fin 33792) (h : r.val < 32768) (j : Fin 1024) :
    val_main_v114 (F := Ideal) x0 x1 x2 x3 x4 x5 x6 x7 x8 (ix2 r j) = val_main_v112 (F := Ideal) x0 x2 x3 x5 x6 x7 x8 (ix2 ⟨r, h⟩ j) := by
  unfold val_main_v114
  rw [concatenate_pair_apply]
  refine (dif_pos h).trans (congrArg _ ?_)
  funext a; match a with | ⟨0, _⟩ => rfl | ⟨1, _⟩ => rfl

/-- The other rows are those of the context. -/
theorem v114_context (r : Fin 33792) (h : ¬ r.val < 32768) (j : Fin 1024) :
    val_main_v114 (F := Ideal) x0 x1 x2 x3 x4 x5 x6 x7 x8 (ix2 r j)
      = val_main_v113 (F := Ideal) x1 x2 x4 x5 x6 x7 x8 (ix2 ⟨r - 32768, by omega⟩ j) := by
  unfold val_main_v114
  rw [concatenate_pair_apply]
  refine (dif_neg h).trans (congrArg _ ?_)
  funext a; match a with | ⟨0, _⟩ => rfl | ⟨1, _⟩ => rfl

end Cert.Ffn11ReferenceIdeal.Rows

end
-- ==== Proof.Ffn11Host.lean ====
/-
  The operands of the half feed-forward kernel of layer 1, half 1, as its grid points see them: what each window's
  block holds, in terms of the arguments the program was launched with. The first 64 points work on the latent rows, 16
  to a sequence; the last two on the context rows, which share one block of modulations.
-/
module

public import proofs.«01_k».proof.Proof.Gen.Ffn11Ideal.Value
public import Idealize.ShloMosaic.Lib.Pointwise

@[expose] public section

set_option maxRecDepth 16384

noncomputable section

namespace Cert.Ffn11Ideal.Host

open Cert.Ffn11Ideal Cert.Ffn11Ideal.Gen Idealize.ShloMosaic Idealize.ShloMosaic.TcCoe Idealize.SL.Sem

/-- The block indices of the windows that move, and of the two that stand at layer 1, half 1. -/
theorem index_facts : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0)
    ∧ (win0_3.index t 0 = min (t.val / 16) 4 ∧ win0_3.index t 1 = 0 ∧ win0_3.index t 2 = 0)
    ∧ (win0_4.index t 0 = 0 ∧ win0_4.index t 1 = 0)
    ∧ (win0_5.index t 0 = 1 ∧ win0_5.index t 1 = 1 ∧ win0_5.index t 2 = 0 ∧ win0_5.index t 3 = 0)
    ∧ (win0_6.index t 0 = 1 ∧ win0_6.index t 1 = 1 ∧ win0_6.index t 2 = 0 ∧ win0_6.index t 3 = 0)
    ∧ (win0_7.index t 0 = t.val ∧ win0_7.index t 1 = 0) := by decide +kernel

theorem t_lt (t : Fin cfg0.N) : t.val < 66 := by have h := t.isLt; have hN : cfg0.N = 66 := N_0; omega

variable (m : (ℓ : Loc nD τ sig) → Buf (Elt Ideal) ℓ) (c : Dev nD)

/-- A row below 32768 is a latent row. -/
theorem rows_latent (A : Vec Ideal S4x8192x1024 .f32) (B : Vec Ideal S1024x1024 .f32) (r : Fin 33792) (h : r.val < 32768) (k : Fin 1024) :
    concatenate S33792x1024 0 [⟨S32768x1024, shapeCast S32768x1024 A shapeCasts_S4x8192x1024_S32768x1024⟩, ⟨S1024x1024, B⟩]
      concatenates_S32768x1024_S1024x1024_S33792x1024_d0 (ix2 r k) = A (ix3 ⟨r / 8192, by omega⟩ ⟨r % 8192, by omega⟩ k) := by
  rw [concatenate_pair_apply]
  refine (dif_pos h).trans ?_
  pointwise

/-- The other rows are those of the context. -/
theorem rows_context (A : Vec Ideal S32768x1024 .f32) (B : Vec Ideal S4x256x1024 .f32) (r : Fin 33792) (h : ¬ r.val < 32768) (k : Fin 1024) :
    concatenate S33792x1024 0 [⟨S32768x1024, A⟩, ⟨S1024x1024, shapeCast S1024x1024 B shapeCasts_S4x256x1024_S1024x1024⟩]
      concatenates_S32768x1024_S1024x1024_S33792x1024_d0 (ix2 r k) = B (ix3 ⟨(r - 32768) / 256, by omega⟩ ⟨(r - 32768) % 256, by omega⟩ k) := by
  rw [concatenate_pair_apply]
  refine (dif_neg h).trans ?_
  pointwise

/-- One of the first four blocks of modulations is the sequence's own. -/
theorem mods_latent (A : Vec Ideal S4x9x1024 .f32) (B : Vec Ideal S1x9x1024 .f32) (C : Vec Ideal S3x9x1024 .f32) (b : Fin 8)
    (h : b.val < 4) (n : Fin 9) (k : Fin 1024) :
    concatenate S8x9x1024 0 [⟨S4x9x1024, A⟩, ⟨S1x9x1024, B⟩, ⟨S3x9x1024, C⟩]
      concatenates_S4x9x1024_S1x9x1024_S3x9x1024_S8x9x1024_d0 (ix3 b n k) = A (ix3 ⟨b, h⟩ n k) := by
  pointwise
  rw [dif_pos h]

/-- The fifth is that of the context. -/
theorem mods_context (A : Vec Ideal S4x9x1024 .f32) (B : Vec Ideal S9x1024 .f32) (C : Vec Ideal S3x9x1024 .f32) (n : Fin 9) (k : Fin 1024) :
    concatenate S8x9x1024 0 [⟨S4x9x1024, A⟩, ⟨S1x9x1024, broadcastInDim S1x9x1024 ![1, 2] bcast_S9x1024_S1x9x1024_1_2 B⟩, ⟨S3x9x1024, C⟩]
      concatenates_S4x9x1024_S1x9x1024_S3x9x1024_S8x9x1024_d0 (ix3 4 n k) = B (ix2 n k) := by
  pointwise

theorem V_v2 : V m c main_v2 = concatenate S33792x1024 0 [⟨S32768x1024, shapeCast S32768x1024 (m ((c : Thread nD τ).loc main_arg0)) shapeCasts_S4x8192x1024_S32768x1024⟩, ⟨S1024x1024, shapeCast S1024x1024 (m ((c : Thread nD τ).loc main_arg1)) shapeCasts_S4x256x1024_S1024x1024⟩] concatenates_S32768x1024_S1024x1024_S33792x1024_d0 := by
  unfold_abbrev_sides
  after_results
  rfl

theorem V_v3 : V m c main_v3 = m ((c : Thread nD τ).loc main_arg2) := by
  unfold_abbrev_sides
  after_results
  rfl

theorem V_v4 : V m c main_v4 = m ((c : Thread nD τ).loc main_arg8) := by
  unfold_abbrev_sides
  after_results
  rfl

theorem V_v7 : V m c main_v7 = concatenate S8x9x1024 0 [⟨S4x9x1024, m ((c : Thread nD τ).loc main_arg3)⟩, ⟨S1x9x1024, broadcastInDim S1x9x1024 ![1, 2] bcast_S9x1024_S1x9x1024_1_2 (m ((c : Thread nD τ).loc main_arg4))⟩, ⟨S3x9x1024, broadcastInDim S3x9x1024 ![] bcast_S_S3x9x1024 (constant (F := Ideal) S_ .f32 0x00000000#32)⟩] concatenates_S4x9x1024_S1x9x1024_S3x9x1024_S8x9x1024_d0 := by
  unfold_abbrev_sides
  after_results
  rfl

theorem V_v10 (k : Fin 1024) : V m c main_v10 (ix2 0 k) = m ((c : Thread nD τ).loc main_arg5) (ix3 1 2 k) := by
  have e : V m c main_v10 = broadcastInDim S1x1024 ![1] bcast_S1024_S1x1024_1 (shapeCast S1024 (extractStridedSlice S1x1x1024 ![1, 2, 0] (m ((c : Thread nD τ).loc main_arg5)) slices_S4x3x1024_S1x1x1024_1_2_0) shapeCasts_S1x1x1024_S1024) := by
    unfold_abbrev_sides
    after_results
    rfl
  rw [e]
  pointwise

theorem V_v11 : V m c main_v11 = m ((c : Thread nD τ).loc main_arg6) := by
  unfold_abbrev_sides
  after_results
  rfl

theorem V_v12 : V m c main_v12 = m ((c : Thread nD τ).loc main_arg7) := by
  unfold_abbrev_sides
  after_results
  rfl

theorem iblk0 (t : Fin cfg0.N) (p : Fin 512) (k : Fin 1024) :
    iblk m c 0 t (ix2 p k) = V m c main_v2 (ix2 ⟨t.val * 512 + p.val, by have := t_lt t; omega⟩ k) := by
  refine congrArg (V m c main_v2) (funext fun a => Fin.ext ?_)
  have e := (index_facts t).1
  match a with
  | ⟨0, _⟩ => show win0_0.index t 0 * 512 + 1 * p.val = t.val * 512 + p.val; rw [e.1]; omega
  | ⟨1, _⟩ => show win0_0.index t 1 * 1024 + 1 * k.val = k.val; rw [e.2]; omega

theorem iblk1 (t : Fin cfg0.N) (p : Fin 512) (k : Fin 1024) :
    iblk m c 1 t (ix2 p k) = V m c main_v3 (ix2 ⟨t.val * 512 + p.val, by have := t_lt t; omega⟩ k) := by
  refine congrArg (V m c main_v3) (funext fun a => Fin.ext ?_)
  have e := (index_facts t).2.1
  match a with
  | ⟨0, _⟩ => show win0_1.index t 0 * 512 + 1 * p.val = t.val * 512 + p.val; rw [e.1]; omega
  | ⟨1, _⟩ => show win0_1.index t 1 * 1024 + 1 * k.val = k.val; rw [e.2]; omega

theorem iblk2 (t : Fin cfg0.N) (p k : Fin 1024) : iblk m c 2 t (ix2 p k) = V m c main_v4 (ix2 p k) := by
  refine congrArg (V m c main_v4) (funext fun a => Fin.ext ?_)
  have e := (index_facts t).2.2.1
  match a with
  | ⟨0, _⟩ => show win0_2.index t 0 * 1024 + 1 * p.val = p.val; rw [e.1]; omega
  | ⟨1, _⟩ => show win0_2.index t 1 * 1024 + 1 * k.val = k.val; rw [e.2]; omega

theorem iblk3 (t : Fin cfg0.N) (n : Fin 9) (k : Fin 1024) :
    iblk m c 3 t (ix3 0 n k) = V m c main_v7 (ix3 ⟨min (t.val / 16) 4, by omega⟩ n k) := by
  refine congrArg (V m c main_v7) (funext fun a => Fin.ext ?_)
  have e := (index_facts t).2.2.2.1
  match a with
  | ⟨0, _⟩ => show win0_3.index t 0 * 1 + 1 * 0 = min (t.val / 16) 4; rw [e.1]; omega
  | ⟨1, _⟩ => show win0_3.index t 1 * 9 + 1 * n.val = n.val; rw [e.2.1]; omega
  | ⟨2, _⟩ => show win0_3.index t 2 * 1024 + 1 * k.val = k.val; rw [e.2.2]; omega

theorem iblk4 (t : Fin cfg0.N) (k : Fin 1024) : iblk m c 4 t (ix2 0 k) = V m c main_v10 (ix2 0 k) := by
  refine congrArg (V m c main_v10) (funext fun a => Fin.ext ?_)
  have e := (index_facts t).2.2.2.2.1
  match a with
  | ⟨0, _⟩ => show win0_4.index t 0 * 1 + 1 * 0 = 0; rw [e.1]
  | ⟨1, _⟩ => show win0_4.index t 1 * 1024 + 1 * k.val = k.val; rw [e.2]; omega

theorem iblk5 (t : Fin cfg0.N) (k : Fin 1024) (n : Fin 5632) :
    iblk m c 5 t (ix4 0 0 k n) = V m c main_v11 (ix4 1 1 k n) := by
  refine congrArg (V m c main_v11) (funext fun a => Fin.ext ?_)
  have e := (index_facts t).2.2.2.2.2.1
  match a with
  | ⟨0, _⟩ => show win0_5.index t 0 * 1 + 1 * 0 = 1; rw [e.1]
  | ⟨1, _⟩ => show win0_5.index t 1 * 1 + 1 * 0 = 1; rw [e.2.1]
  | ⟨2, _⟩ => show win0_5.index t 2 * 1024 + 1 * k.val = k.val; rw [e.2.2.1]; omega
  | ⟨3, _⟩ => show win0_5.index t 3 * 5632 + 1 * n.val = n.val; rw [e.2.2.2]; omega

theorem iblk6 (t : Fin cfg0.N) (n : Fin 2816) (k : Fin 1024) :
    iblk m c 6 t (ix4 0 0 n k) = V m c main_v12 (ix4 1 1 n k) := by
  refine congrArg (V m c main_v12) (funext fun a => Fin.ext ?_)
  have e := (index_facts t).2.2.2.2.2.2.1
  match a with
  | ⟨0, _⟩ => show win0_6.index t 0 * 1 + 1 * 0 = 1; rw [e.1]
  | ⟨1, _⟩ => show win0_6.index t 1 * 1 + 1 * 0 = 1; rw [e.2.1]
  | ⟨2, _⟩ => show win0_6.index t 2 * 2816 + 1 * n.val = n.val; rw [e.2.2.1]; omega
  | ⟨3, _⟩ => show win0_6.index t 3 * 1024 + 1 * k.val = k.val; rw [e.2.2.2]; omega

/-- The row a latent point reads. -/
theorem row_latent (t : Fin cfg0.N) (ht : t.val < 64) (p : Fin 512) (k : Fin 1024) :
    iblk m c 0 t (ix2 p k) = m ((c : Thread nD τ).loc main_arg0)
      (ix3 ⟨(t.val * 512 + p.val) / 8192, by omega⟩ ⟨(t.val * 512 + p.val) % 8192, by omega⟩ k) := by
  rw [iblk0, V_v2]
  exact rows_latent _ _ ⟨t.val * 512 + p.val, by omega⟩ (by show t.val * 512 + p.val < 32768; omega) k

/-- The row a context point reads. -/
theorem row_context (t : Fin cfg0.N) (ht : ¬ t.val < 64) (p : Fin 512) (k : Fin 1024) :
    iblk m c 0 t (ix2 p k) = m ((c : Thread nD τ).loc main_arg1)
      (ix3 ⟨(t.val * 512 + p.val - 32768) / 256, by have := t_lt t; omega⟩ ⟨(t.val * 512 + p.val - 32768) % 256, by omega⟩ k) := by
  have := t_lt t
  rw [iblk0, V_v2]
  exact rows_context _ _ ⟨t.val * 512 + p.val, by omega⟩ (by show ¬ t.val * 512 + p.val < 32768; omega) k

/-- The modulations a latent point reads. -/
theorem mod_latent (t : Fin cfg0.N) (ht : t.val < 64) (p : Fin 512) (n : Fin 9) (k : Fin 1024) :
    iblk m c 3 t (ix3 0 n k) = m ((c : Thread nD τ).loc main_arg3) (ix3 ⟨(t.val * 512 + p.val) / 8192, by omega⟩ n k) := by
  have e : (⟨min (t.val / 16) 4, by omega⟩ : Fin 8) = ⟨(t.val * 512 + p.val) / 8192, by omega⟩ :=
    Fin.ext (by show min (t.val / 16) 4 = (t.val * 512 + p.val) / 8192; omega)
  rw [iblk3, V_v7, e]
  exact mods_latent _ _ _ ⟨(t.val * 512 + p.val) / 8192, by omega⟩ (by show (t.val * 512 + p.val) / 8192 < 4; omega) n k

/-- The modulations a context point reads. -/
theorem mod_context (t : Fin cfg0.N) (ht : ¬ t.val < 64) (n : Fin 9) (k : Fin 1024) :
    iblk m c 3 t (ix3 0 n k) = m ((c : Thread nD τ).loc main_arg4) (ix2 n k) := by
  have e : (⟨min (t.val / 16) 4, by omega⟩ : Fin 8) = 4 := Fin.ext (by show min (t.val / 16) 4 = 4; omega)
  rw [iblk3, V_v7, e]
  exact mods_context _ _ _ n k

end Cert.Ffn11Ideal.Host

end
-- ==== Proof.Ffn11Claim.lean ====
/-
  The half feed-forward program of layer 1, half 1, and its reference leave the same array: every row of either is
  `FfnRow.half` of the same row of the arguments with the attention's output added,
  the latent rows under their sequence's modulations and the context rows under the context's.
-/
module

public import proofs.«01_k».proof.Defs
public import proofs.«01_k».proof.Proof.Ffn11Body
public import proofs.«01_k».proof.Proof.Ffn11Ref
public import proofs.«01_k».proof.Proof.Ffn11Host
public import proofs.«01_k».proof.Proof.Gen.Ffn11ReferenceIdeal.Run
public import Idealize.ShloMosaic.Lib.Quiescent

@[expose] public section

set_option maxRecDepth 16384

noncomputable section

namespace Cert.Ffn11Ideal.Whole

open Cert.Ffn11Ideal Cert.Ffn11Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The whole result as one function of the arguments. -/
def G : Vec Ideal S33792x1024 .f32 :=
  fun i => Ffn11ReferenceIdeal.Read.val_main_v114 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) i

theorem block_apply (t : Fin cfg0.N) (p : Fin 512) (j : Fin 1024) :
    out0_7 (F := Ideal) (iblk m c 0 t) (iblk m c 1 t) (iblk m c 2 t) (iblk m c 3 t) (iblk m c 4 t) (iblk m c 5 t) (iblk m c 6 t) (ix2 p j)
      = G m c (ix2 ⟨t.val * 512 + p.val, by have := Host.t_lt t; omega⟩ j) := by
  have hlt := Host.t_lt t
  have e2 := Host.V_v10 m c
  by_cases ht : t.val < 64
  · rw [Body.out_apply, G, Ffn11ReferenceIdeal.Rows.v114_latent _ _ _ _ _ _ _ _ _ _ (by show t.val * 512 + p.val < 32768; omega),
      Ffn11ReferenceIdeal.Rows.v112_apply]
    simp only [Host.row_latent m c t ht, Host.mod_latent m c t ht p, Host.iblk1, Host.iblk2, Host.iblk4, Host.iblk5, Host.iblk6, e2]
    rw [Host.V_v11, Host.V_v12, Host.V_v3, Host.V_v4]
  · rw [Body.out_apply, G, Ffn11ReferenceIdeal.Rows.v114_context _ _ _ _ _ _ _ _ _ _ (by show ¬ t.val * 512 + p.val < 32768; omega),
      Ffn11ReferenceIdeal.Rows.v113_apply]
    have e1 : ∀ h, (⟨32768 + (t.val * 512 + p.val - 32768), h⟩ : Fin 33792) = ⟨t.val * 512 + p.val, by omega⟩ :=
      fun h => Fin.ext (by show 32768 + (t.val * 512 + p.val - 32768) = t.val * 512 + p.val; omega)
    simp only [Host.row_context m c t ht, Host.mod_context m c t ht, Host.iblk1, Host.iblk2, Host.iblk4, Host.iblk5, Host.iblk6, e1, e2]
    rw [Host.V_v11, Host.V_v12, Host.V_v3, Host.V_v4]

theorem flushed_eq (t : Fin cfg0.N) : (dats m 0 c).flushed 7 t = ((cfg0.win 7).blk t).view.read (Elt Ideal) (G m c) := by
  rw [Value.flushed7]
  have ht := Host.t_lt t
  have key : ∀ y : S512x1024.Idx, out0_7 (F := Ideal) (iblk m c 0 t) (iblk m c 1 t) (iblk m c 2 t) (iblk m c 3 t) (iblk m c 4 t) (iblk m c 5 t) (iblk m c 6 t) y
      = G m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block_apply m c t (y 0) (y 1)
  funext y
  refine (key y).trans (congrArg (G m c) (funext fun a => Fin.ext ?_))
  have e := (Host.index_facts t).2.2.2.2.2.2.2
  match a with
  | ⟨0, _⟩ => show t.val * 512 + (y 0).val = win0_7.index t 0 * 512 + 1 * (y 0).val; rw [e.1]; omega
  | ⟨1, _⟩ => show (y 1).val = win0_7.index t 1 * 1024 + 1 * (y 1).val; rw [e.2]; omega

theorem mem_blk (t : Fin cfg0.N) (i : S33792x1024.Idx) : i ∈ ((cfg0.win 7).blk t).view.set ↔
    ∀ a, win0_7.index t a * win0_7.size a ≤ (i a).val ∧ (i a).val < win0_7.index t a * win0_7.size a + win0_7.xsize (grid0.coords t) a := by
  show i ∈ ((View.whole main_v13).slice (win0_7.rect t)).set ↔ _
  rw [View.set_slice_whole, Rect.mem_set_unit]

theorem cover (i : S33792x1024.Idx) : ∃ t : Fin cfg0.N, (cfg0.win 7).flush t = true ∧ i ∈ ((cfg0.win 7).blk t).view.set := by
  have h0 : (i 0).val < 33792 := (i 0).isLt
  have h1 : (i 1).val < 1024 := (i 1).isLt
  have hN : cfg0.N = 66 := N_0
  have hlt : (i 0).val / 512 < cfg0.N := by omega
  refine ⟨⟨(i 0).val / 512, hlt⟩, flush0_7 _, (mem_blk _ i).2 fun a => ?_⟩
  have e := (Host.index_facts ⟨(i 0).val / 512, hlt⟩).2.2.2.2.2.2.2
  match a with
  | ⟨0, _⟩ =>
    show win0_7.index _ 0 * 512 ≤ (i 0).val ∧ (i 0).val < win0_7.index _ 0 * 512 + 512
    rw [e.1]; show (i 0).val / 512 * 512 ≤ (i 0).val ∧ (i 0).val < (i 0).val / 512 * 512 + 512; omega
  | ⟨1, _⟩ =>
    show win0_7.index _ 1 * 1024 ≤ (i 1).val ∧ (i 1).val < win0_7.index _ 1 * 1024 + 1024
    rw [e.2]; omega

theorem final : (dats m 0 c).arrAt 7 cfg0.N = G m c :=
  (dats m 0 c).arrAt_eq_of_cover 7 (G m c) (fun t _ => flushed_eq m c t) cover

/-- The value claim of this half feed-forward program. -/
theorem agrees : @Cert.algebraic_Ffn11Ideal_Ffn11ReferenceIdeal Cert.Ffn11Ideal.Gen.facts Cert.Ffn11ReferenceIdeal.Gen.facts := by
  intro m ρ m' ρ' _ hagree
  refine ⟨fun c => G m c, ?_, ?_⟩
  · exact (θ_run Cert.Ffn11Ideal.defs _ _).mono (fun _ h c => ⟨(h c).1.trans (final m c), (h c).2⟩) (Value.run_blocks m ρ)
  · refine (θ_run Cert.Ffn11ReferenceIdeal.defs _ _).mono (fun _ h c => ⟨(h c).1.trans ?_, (h c).2⟩) (Cert.Ffn11ReferenceIdeal.Value.run (F := Ideal) m' ρ')
    obtain ⟨a0, a1, a2, a3, a4, a5, a6, a7, a8⟩ := hagree c
    rw [Ffn11ReferenceIdeal.Read.val_main_v114_eq, a0, a1, a2, a3, a4, a5, a6, a7, a8]
    rfl

/-- The reference keeps its arguments and leaves no semaphore raised. -/
theorem reference_frame : @Cert.quiescent_Ffn11ReferenceIdeal Cert.Ffn11ReferenceIdeal.Gen.facts := fun m ρ _ =>
  (θ_run Cert.Ffn11ReferenceIdeal.defs _ _).mono
    (fun r h => ⟨fun c => (h c).2, sem_eq_zero_of_no_sems (by decide) r.2⟩) (Cert.Ffn11ReferenceIdeal.Value.run (F := Ideal) m ρ)

end Cert.Ffn11Ideal.Whole

end
-- ==== Proof.Ffn20Body.lean ====
/-
  What one grid point of the half feed-forward kernel of layer 2, half 0, writes, at an index of its block: row `p`
  of the block is `FfnRow.half` of row `p` of the operands' blocks. The kernel cuts the hidden units in two parts and
  adds the two products; `FfnRow.sum_cut` puts them together.
-/
module

public import proofs.«01_k».proof.Proof.Gen.Ffn20Ideal.Value
public import proofs.«01_k».proof.Proof.FfnRow

@[expose] public section

set_option maxRecDepth 16384

noncomputable section

namespace Cert.Ffn20Ideal.Body

open Cert.Ffn20Ideal Cert.Ffn20Ideal.Gen Idealize.ShloMosaic

theorem pay2_apply (v0 : Vec Ideal S512x1024 .f32) (p : Fin 512) (j : Fin 1024) :
    k0_pay2 (F := Ideal) v0 (ix2 p j) = v0 (ix2 p j) := by
  pointwise [k0_pay2]

/-- The normalised and modulated row. -/
theorem pay3_apply (v0 : Vec Ideal S512x1024 .f32) (v2 : Vec Ideal S1x1024 .f32) (v4 v6 : Vec Ideal S1x1x1024 .f32)
    (p : Fin 512) (j : Fin 1024) :
    k0_pay3 (F := Ideal) v0 v2 v4 v6 (ix2 p j)
      = FfnRow.scaled (fun k => v0 (ix2 p k)) (fun k => v2 (ix2 0 k)) (fun k => v4 (ix3 0 0 k)) (fun k => v6 (ix3 0 0 k)) j := by
  pointwise [k0_pay3, k0_pay2]
  rfl

/-- The first part of the hidden units. -/
theorem pay4_apply (v0 : Vec Ideal S512x1024 .f32) (v2 : Vec Ideal S1x1024 .f32) (v4 v6 : Vec Ideal S1x1x1024 .f32)
    (X : Vec Ideal S1x1x1024x5632 .bf16) (p : Fin 512) (n : Fin 1536) :
    k0_pay4 (F := Ideal) v0 v2 v4 v6 (View.ld X r0_4) (View.ld X r0_5) (ix2 p n)
      = FfnRow.hidden (fun k => k0_pay3 (F := Ideal) v0 v2 v4 v6 (ix2 p k)) (fun k n => X (ix4 0 0 k n)) ⟨n, by omega⟩ := by
  pointwise [k0_pay4]
  rfl

/-- The second part of the hidden units, the two products and the residual sum. -/
theorem pay1_apply (v1 : FVec Ideal S512x1024 .f32) (v25 : FVec Ideal S512x1024 .bf16) (v34 : FVec Ideal S512x1536 .f32)
    (X : Vec Ideal S1x1x1024x5632 .bf16) (Y : Vec Ideal S1x1x2816x1024 .bf16) (v53 : Vec Ideal S1x1x1024 .f32)
    (p : Fin 512) (j : Fin 1024) :
    k0_pay1 (F := Ideal) v1 v25 v34 (View.ld Y r0_6) (View.ld X r0_7) (View.ld X r0_8) (View.ld Y r0_9) v53 (ix2 p j)
      = v1 (ix2 p j) + Ideal.ofBits FTy.f32 0x3F000000#32 * v53 (ix3 0 0 j)
          * (∑ n : Fin 1536, v34 (ix2 p n) * Y (ix4 0 0 ⟨n, by omega⟩ j)
            + ∑ n : Fin 1280, FfnRow.hidden (fun k => v25 (ix2 p k)) (fun k n => X (ix4 0 0 k n)) ⟨1536 + n, by omega⟩
                * Y (ix4 0 0 ⟨1536 + n, by omega⟩ j)) := by
  pointwise [k0_pay1]
  refine congrArg (v1 (ix2 p j) + Ideal.ofBits FTy.f32 0x3F000000#32 * v53 (ix3 0 0 j) * ·) (congrArg₂ (· + ·) rfl (Finset.sum_congr rfl fun n _ => ?_))
  simp only [FfnRow.hidden, FfnRow.proj, ← Nat.add_assoc, Nat.reduceAdd]

/-- One grid point's block, index by index. -/
theorem out_apply (x0 : Vec Ideal S512x1024 .f32) (x1 : Vec Ideal S1x9x1024 .f32) (x2 : Vec Ideal S1x1024 .f32)
    (x3 : Vec Ideal S1x1x1024x5632 .bf16) (x4 : Vec Ideal S1x1x2816x1024 .bf16) (p : Fin 512) (j : Fin 1024) :
    out0_5 (F := Ideal) x0 x1 x2 x3 x4 (ix2 p j)
      = FfnRow.half (fun k => x0 (ix2 p k)) (fun k => x2 (ix2 0 k)) (fun k => x1 (ix3 0 0 k)) (fun k => x1 (ix3 0 1 k))
          (fun k => x1 (ix3 0 2 k)) (fun k n => x3 (ix4 0 0 k n)) (fun n k => x4 (ix4 0 0 n k)) j := by
  unfold out0_5
  rw [View.canon_unit_zero (by funext a; match a with | ⟨0, _⟩ => rfl | ⟨1, _⟩ => rfl), pay1_apply, FfnRow.half, FfnRow.sum_cut]
  simp only [pay4_apply, pay3_apply, pay2_apply]
  pointwise

end Cert.Ffn20Ideal.Body

end
-- ==== Proof.Ffn20Ref.lean ====
/-
  The reference of the half feed-forward block of layer 2, half 0, index by index: row `l` of a latent or of a context
  sequence `b` is `FfnRow.half` of that row of the arguments.
-/
module

public import proofs.«01_k».proof.Proof.Gen.Ffn20ReferenceIdeal.Read
public import proofs.«01_k».proof.Proof.FfnRow

@[expose] public section

set_option maxRecDepth 16384

noncomputable section

namespace Cert.Ffn20ReferenceIdeal.Rows

open Cert.Ffn20ReferenceIdeal Cert.Ffn20ReferenceIdeal.Gen Cert.Ffn20ReferenceIdeal.Read Idealize.ShloMosaic

variable (x0 : (⟨S4x8192x1024, .f32⟩ : BufTy).Contents (Elt Ideal)) (x1 : (⟨S4x256x1024, .f32⟩ : BufTy).Contents (Elt Ideal))
  (x2 : (⟨S4x9x1024, .f32⟩ : BufTy).Contents (Elt Ideal)) (x3 : (⟨S9x1024, .f32⟩ : BufTy).Contents (Elt Ideal))
  (x4 : (⟨S4x3x1024, .f32⟩ : BufTy).Contents (Elt Ideal)) (x5 : (⟨S4x2x1024x5632, .f32⟩ : BufTy).Contents (Elt Ideal))
  (x6 : (⟨S4x2x2816x1024, .f32⟩ : BufTy).Contents (Elt Ideal))

/-- A latent row, normalised and modulated. -/
theorem v33_apply (b : Fin 4) (l : Fin 8192) (j : Fin 1024) :
    val_main_v33 (F := Ideal) x0 x2 x4 (ix3 b l j)
      = FfnRow.scaled (fun k => x0 (ix3 b l k)) (fun k => x4 (ix3 2 0 k)) (fun k => x2 (ix3 b 0 k)) (fun k => x2 (ix3 b 1 k)) j := by
  pointwise [val_main_v33, val_main_v32, val_main_v31, val_main_v30, val_main_v29, val_main_v28, val_main_cst_2, val_main_v27,
    val_main_v26, val_main_v25, val_main_v24, val_main_v23, val_main_v22, val_main_v21, val_main_v20, val_main_cst_1,
    val_main_v19, val_main_v18, val_main_cst_0, val_main_v17, val_main_v16, val_main_cst, val_main_v15, val_main_v11,
    val_main_v10, val_main_v9, val_main_v8, val_main_v7, val_main_v6, val_main_v1, val_main_v0, FfnRow.scaled]
  simp only [mul_assoc]

/-- A latent row's hidden unit. -/
theorem v40_apply (b : Fin 4) (l : Fin 8192) (n : Fin 2816) :
    val_main_v40 (F := Ideal) x0 x2 x4 x5 (ix3 b l n)
      = FfnRow.hidden (fun k => val_main_v33 (F := Ideal) x0 x2 x4 (ix3 b l k)) (fun k n => x5 (ix4 2 0 k n)) n := by
  pointwise [val_main_v40, val_main_v39, val_main_call0_v5, val_main_call0_v4, val_main_call0_cst_0, val_main_call0_v3,
    val_main_call0_v2, val_main_call0_cst, val_main_call0_v1, val_main_call0_v0, val_main_v36, val_main_v35, val_main_v34,
    val_main_v3, val_main_v2, FfnRow.hidden, FfnRow.proj, Ideal.logistic]

/-- The latent rows of the result. -/
theorem v93_apply (r : Fin 32768) (j : Fin 1024) :
    val_main_v93 (F := Ideal) x0 x2 x4 x5 x6 (ix2 r j)
      = FfnRow.half (fun k => x0 (ix3 ⟨r / 8192, by omega⟩ ⟨r % 8192, by omega⟩ k)) (fun k => x4 (ix3 2 0 k))
          (fun k => x2 (ix3 ⟨r / 8192, by omega⟩ 0 k)) (fun k => x2 (ix3 ⟨r / 8192, by omega⟩ 1 k))
          (fun k => x2 (ix3 ⟨r / 8192, by omega⟩ 2 k)) (fun k n => x5 (ix4 2 0 k n)) (fun n k => x6 (ix4 2 0 n k)) j := by
  pointwise [val_main_v93, val_main_v44, val_main_v43, val_main_v42, val_main_v41, val_main_v38, val_main_v37, val_main_cst_3,
    val_main_v14, val_main_v13, val_main_v12, val_main_v5, val_main_v4]
  simp only [v40_apply, v33_apply]
  rfl

/-- A context row, normalised and modulated. -/
theorem v80_apply (b : Fin 4) (l : Fin 256) (j : Fin 1024) :
    val_main_v80 (F := Ideal) x1 x3 x4 (ix3 b l j)
      = FfnRow.scaled (fun k => x1 (ix3 b l k)) (fun k => x4 (ix3 2 0 k)) (fun k => x3 (ix2 0 k)) (fun k => x3 (ix2 1 k)) j := by
  pointwise [val_main_v80, val_main_v79, val_main_v78, val_main_v77, val_main_v76, val_main_v75, val_main_v74, val_main_v73,
    val_main_cst_7, val_main_v72, val_main_v71, val_main_v70, val_main_v69, val_main_v68, val_main_v67, val_main_v66,
    val_main_v65, val_main_cst_6, val_main_v64, val_main_v63, val_main_cst_5, val_main_v62, val_main_v61, val_main_cst_4,
    val_main_v60, val_main_v56, val_main_v55, val_main_v54, val_main_v53, val_main_v52, val_main_v51, val_main_v46,
    val_main_v45, FfnRow.scaled]
  simp only [mul_assoc]

/-- A context row's hidden unit. -/
theorem v87_apply (b : Fin 4) (l : Fin 256) (n : Fin 2816) :
    val_main_v87 (F := Ideal) x1 x3 x4 x5 (ix3 b l n)
      = FfnRow.hidden (fun k => val_main_v80 (F := Ideal) x1 x3 x4 (ix3 b l k)) (fun k n => x5 (ix4 2 0 k n)) n := by
  pointwise [val_main_v87, val_main_v86, val_main_call1_v5, val_main_call1_v4, val_main_call1_cst_0, val_main_call1_v3,
    val_main_call1_v2, val_main_call1_cst, val_main_call1_v1, val_main_call1_v0, val_main_v83, val_main_v82, val_main_v81,
    val_main_v48, val_main_v47, FfnRow.hidden, FfnRow.proj, Ideal.logistic]

/-- The context rows of the result. -/
theorem v94_apply (r : Fin 1024) (j : Fin 1024) :
    val_main_v94 (F := Ideal) x1 x3 x4 x5 x6 (ix2 r j)
      = FfnRow.half (fun k => x1 (ix3 ⟨r / 256, by omega⟩ ⟨r % 256, by omega⟩ k)) (fun k => x4 (ix3 2 0 k))
          (fun k => x3 (ix2 0 k)) (fun k => x3 (ix2 1 k)) (fun k => x3 (ix2 2 k))
          (fun k n => x5 (ix4 2 0 k n)) (fun n k => x6 (ix4 2 0 n k)) j := by
  pointwise [val_main_v94, val_main_v92, val_main_v91, val_main_v90, val_main_v89, val_main_v88, val_main_v85, val_main_v84,
    val_main_cst_8, val_main_v59, val_main_v58, val_main_v57, val_main_v50, val_main_v49]
  simp only [v87_apply, v80_apply]
  rfl

/-- The result's first 32768 rows are the latent ones. -/
theorem v95_latent (r : Fin 33792) (h : r.val < 32768) (j : Fin 1024) :
    val_main_v95 (F := Ideal) x0 x1 x2 x3 x4 x5 x6 (ix2 r j) = val_main_v93 (F := Ideal) x0 x2 x4 x5 x6 (ix2 ⟨r, h⟩ j) := by
  unfold val_main_v95
  rw [concatenate_pair_apply]
  refine (dif_pos h).trans (congrArg _ ?_)
  funext a; match a with | ⟨0, _⟩ => rfl | ⟨1, _⟩ => rfl

/-- The other rows are those of the context. -/
theorem v95_context (r : Fin 33792) (h : ¬ r.val < 32768) (j : Fin 1024) :
    val_main_v95 (F := Ideal) x0 x1 x2 x3 x4 x5 x6 (ix2 r j)
      = val_main_v94 (F := Ideal) x1 x3 x4 x5 x6 (ix2 ⟨r - 32768, by omega⟩ j) := by
  unfold val_main_v95
  rw [concatenate_pair_apply]
  refine (dif_neg h).trans (congrArg _ ?_)
  funext a; match a with | ⟨0, _⟩ => rfl | ⟨1, _⟩ => rfl

end Cert.Ffn20ReferenceIdeal.Rows

end
-- ==== Proof.Ffn20Host.lean ====
/-
  The operands of the half feed-forward kernel of layer 2, half 0, as its grid points see them: what each window's
  block holds, in terms of the arguments the program was launched with. The first 64 points work on the latent rows, 16
  to a sequence; the last two on the context rows, which share one block of modulations.
-/
module

public import proofs.«01_k».proof.Proof.Gen.Ffn20Ideal.Value
public import Idealize.ShloMosaic.Lib.Pointwise

@[expose] public section

set_option maxRecDepth 16384

noncomputable section

namespace Cert.Ffn20Ideal.Host

open Cert.Ffn20Ideal Cert.Ffn20Ideal.Gen Idealize.ShloMosaic Idealize.ShloMosaic.TcCoe Idealize.SL.Sem

/-- The block indices of the windows that move, and of the two that stand at layer 2, half 0. -/
theorem index_facts : ∀ t : Fin grid0.N,
    (win0_0.index t 0 = t.val ∧ win0_0.index t 1 = 0)
    ∧ (win0_1.index t 0 = min (t.val / 16) 4 ∧ win0_1.index t 1 = 0 ∧ win0_1.index t 2 = 0)
    ∧ (win0_2.index t 0 = 0 ∧ win0_2.index t 1 = 0)
    ∧ (win0_3.index t 0 = 2 ∧ win0_3.index t 1 = 0 ∧ win0_3.index t 2 = 0 ∧ win0_3.index t 3 = 0)
    ∧ (win0_4.index t 0 = 2 ∧ win0_4.index t 1 = 0 ∧ win0_4.index t 2 = 0 ∧ win0_4.index t 3 = 0)
    ∧ (win0_5.index t 0 = t.val ∧ win0_5.index t 1 = 0) := by decide +kernel

theorem t_lt (t : Fin cfg0.N) : t.val < 66 := by have h := t.isLt; have hN : cfg0.N = 66 := N_0; omega

variable (m : (ℓ : Loc nD τ sig) → Buf (Elt Ideal) ℓ) (c : Dev nD)

/-- A row below 32768 is a latent row. -/
theorem rows_latent (A : Vec Ideal S4x8192x1024 .f32) (B : Vec Ideal S1024x1024 .f32) (r : Fin 33792) (h : r.val < 32768) (k : Fin 1024) :
    concatenate S33792x1024 0 [⟨S32768x1024, shapeCast S32768x1024 A shapeCasts_S4x8192x1024_S32768x1024⟩, ⟨S1024x1024, B⟩]
      concatenates_S32768x1024_S1024x1024_S33792x1024_d0 (ix2 r k) = A (ix3 ⟨r / 8192, by omega⟩ ⟨r % 8192, by omega⟩ k) := by
  rw [concatenate_pair_apply]
  refine (dif_pos h).trans ?_
  pointwise

/-- The other rows are those of the context. -/
theorem rows_context (A : Vec Ideal S32768x1024 .f32) (B : Vec Ideal S4x256x1024 .f32) (r : Fin 33792) (h : ¬ r.val < 32768) (k : Fin 1024) :
    concatenate S33792x1024 0 [⟨S32768x1024, A⟩, ⟨S1024x1024, shapeCast S1024x1024 B shapeCasts_S4x256x1024_S1024x1024⟩]
      concatenates_S32768x1024_S1024x1024_S33792x1024_d0 (ix2 r k) = B (ix3 ⟨(r - 32768) / 256, by omega⟩ ⟨(r - 32768) % 256, by omega⟩ k) := by
  rw [concatenate_pair_apply]
  refine (dif_neg h).trans ?_
  pointwise

/-- One of the first four blocks of modulations is the sequence's own. -/
theorem mods_latent (A : Vec Ideal S4x9x1024 .f32) (B : Vec Ideal S1x9x1024 .f32) (C : Vec Ideal S3x9x1024 .f32) (b : Fin 8)
    (h : b.val < 4) (n : Fin 9) (k : Fin 1024) :
    concatenate S8x9x1024 0 [⟨S4x9x1024, A⟩, ⟨S1x9x1024, B⟩, ⟨S3x9x1024, C⟩]
      concatenates_S4x9x1024_S1x9x1024_S3x9x1024_S8x9x1024_d0 (ix3 b n k) = A (ix3 ⟨b, h⟩ n k) := by
  pointwise
  rw [dif_pos h]

/-- The fifth is that of the context. -/
theorem mods_context (A : Vec Ideal S4x9x1024 .f32) (B : Vec Ideal S9x1024 .f32) (C : Vec Ideal S3x9x1024 .f32) (n : Fin 9) (k : Fin 1024) :
    concatenate S8x9x1024 0 [⟨S4x9x1024, A⟩, ⟨S1x9x1024, broadcastInDim S1x9x1024 ![1, 2] bcast_S9x1024_S1x9x1024_1_2 B⟩, ⟨S3x9x1024, C⟩]
      concatenates_S4x9x1024_S1x9x1024_S3x9x1024_S8x9x1024_d0 (ix3 4 n k) = B (ix2 n k) := by
  pointwise

theorem V_v2 : V m c main_v2 = concatenate S33792x1024 0 [⟨S32768x1024, shapeCast S32768x1024 (m ((c : Thread nD τ).loc main_arg0)) shapeCasts_S4x8192x1024_S32768x1024⟩, ⟨S1024x1024, shapeCast S1024x1024 (m ((c : Thread nD τ).loc main_arg1)) shapeCasts_S4x256x1024_S1024x1024⟩] concatenates_S32768x1024_S1024x1024_S33792x1024_d0 := by
  unfold_abbrev_sides
  after_results
  rfl

theorem V_v5 : V m c main_v5 = concatenate S8x9x1024 0 [⟨S4x9x1024, m ((c : Thread nD τ).loc main_arg2)⟩, ⟨S1x9x1024, broadcastInDim S1x9x1024 ![1, 2] bcast_S9x1024_S1x9x1024_1_2 (m ((c : Thread nD τ).loc main_arg3))⟩, ⟨S3x9x1024, broadcastInDim S3x9x1024 ![] bcast_S_S3x9x1024 (constant (F := Ideal) S_ .f32 0x00000000#32)⟩] concatenates_S4x9x1024_S1x9x1024_S3x9x1024_S8x9x1024_d0 := by
  unfold_abbrev_sides
  after_results
  rfl

theorem V_v8 (k : Fin 1024) : V m c main_v8 (ix2 0 k) = m ((c : Thread nD τ).loc main_arg4) (ix3 2 0 k) := by
  have e : V m c main_v8 = broadcastInDim S1x1024 ![1] bcast_S1024_S1x1024_1 (shapeCast S1024 (extractStridedSlice S1x1x1024 ![2, 0, 0] (m ((c : Thread nD τ).loc main_arg4)) slices_S4x3x1024_S1x1x1024_2_0_0) shapeCasts_S1x1x1024_S1024) := by
    unfold_abbrev_sides
    after_results
    rfl
  rw [e]
  pointwise

theorem V_v9 : V m c main_v9 = m ((c : Thread nD τ).loc main_arg5) := by
  unfold_abbrev_sides
  after_results
  rfl

theorem V_v10 : V m c main_v10 = m ((c : Thread nD τ).loc main_arg6) := by
  unfold_abbrev_sides
  after_results
  rfl

theorem iblk0 (t : Fin cfg0.N) (p : Fin 512) (k : Fin 1024) :
    iblk m c 0 t (ix2 p k) = V m c main_v2 (ix2 ⟨t.val * 512 + p.val, by have := t_lt t; omega⟩ k) := by
  refine congrArg (V m c main_v2) (funext fun a => Fin.ext ?_)
  have e := (index_facts t).1
  match a with
  | ⟨0, _⟩ => show win0_0.index t 0 * 512 + 1 * p.val = t.val * 512 + p.val; rw [e.1]; omega
  | ⟨1, _⟩ => show win0_0.index t 1 * 1024 + 1 * k.val = k.val; rw [e.2]; omega

theorem iblk1 (t : Fin cfg0.N) (n : Fin 9) (k : Fin 1024) :
    iblk m c 1 t (ix3 0 n k) = V m c main_v5 (ix3 ⟨min (t.val / 16) 4, by omega⟩ n k) := by
  refine congrArg (V m c main_v5) (funext fun a => Fin.ext ?_)
  have e := (index_facts t).2.1
  match a with
  | ⟨0, _⟩ => show win0_1.index t 0 * 1 + 1 * 0 = min (t.val / 16) 4; rw [e.1]; omega
  | ⟨1, _⟩ => show win0_1.index t 1 * 9 + 1 * n.val = n.val; rw [e.2.1]; omega
  | ⟨2, _⟩ => show win0_1.index t 2 * 1024 + 1 * k.val = k.val; rw [e.2.2]; omega

theorem iblk2 (t : Fin cfg0.N) (k : Fin 1024) : iblk m c 2 t (ix2 0 k) = V m c main_v8 (ix2 0 k) := by
  refine congrArg (V m c main_v8) (funext fun a => Fin.ext ?_)
  have e := (index_facts t).2.2.1
  match a with
  | ⟨0, _⟩ => show win0_2.index t 0 * 1 + 1 * 0 = 0; rw [e.1]
  | ⟨1, _⟩ => show win0_2.index t 1 * 1024 + 1 * k.val = k.val; rw [e.2]; omega

theorem iblk3 (t : Fin cfg0.N) (k : Fin 1024) (n : Fin 5632) :
    iblk m c 3 t (ix4 0 0 k n) = V m c main_v9 (ix4 2 0 k n) := by
  refine congrArg (V m c main_v9) (funext fun a => Fin.ext ?_)
  have e := (index_facts t).2.2.2.1
  match a with
  | ⟨0, _⟩ => show win0_3.index t 0 * 1 + 1 * 0 = 2; rw [e.1]
  | ⟨1, _⟩ => show win0_3.index t 1 * 1 + 1 * 0 = 0; rw [e.2.1]
  | ⟨2, _⟩ => show win0_3.index t 2 * 1024 + 1 * k.val = k.val; rw [e.2.2.1]; omega
  | ⟨3, _⟩ => show win0_3.index t 3 * 5632 + 1 * n.val = n.val; rw [e.2.2.2]; omega

theorem iblk4 (t : Fin cfg0.N) (n : Fin 2816) (k : Fin 1024) :
    iblk m c 4 t (ix4 0 0 n k) = V m c main_v10 (ix4 2 0 n k) := by
  refine congrArg (V m c main_v10) (funext fun a => Fin.ext ?_)
  have e := (index_facts t).2.2.2.2.1
  match a with
  | ⟨0, _⟩ => show win0_4.index t 0 * 1 + 1 * 0 = 2; rw [e.1]
  | ⟨1, _⟩ => show win0_4.index t 1 * 1 + 1 * 0 = 0; rw [e.2.1]
  | ⟨2, _⟩ => show win0_4.index t 2 * 2816 + 1 * n.val = n.val; rw [e.2.2.1]; omega
  | ⟨3, _⟩ => show win0_4.index t 3 * 1024 + 1 * k.val = k.val; rw [e.2.2.2]; omega

/-- The row a latent point reads. -/
theorem row_latent (t : Fin cfg0.N) (ht : t.val < 64) (p : Fin 512) (k : Fin 1024) :
    iblk m c 0 t (ix2 p k) = m ((c : Thread nD τ).loc main_arg0)
      (ix3 ⟨(t.val * 512 + p.val) / 8192, by omega⟩ ⟨(t.val * 512 + p.val) % 8192, by omega⟩ k) := by
  rw [iblk0, V_v2]
  exact rows_latent _ _ ⟨t.val * 512 + p.val, by omega⟩ (by show t.val * 512 + p.val < 32768; omega) k

/-- The row a context point reads. -/
theorem row_context (t : Fin cfg0.N) (ht : ¬ t.val < 64) (p : Fin 512) (k : Fin 1024) :
    iblk m c 0 t (ix2 p k) = m ((c : Thread nD τ).loc main_arg1)
      (ix3 ⟨(t.val * 512 + p.val - 32768) / 256, by have := t_lt t; omega⟩ ⟨(t.val * 512 + p.val - 32768) % 256, by omega⟩ k) := by
  have := t_lt t
  rw [iblk0, V_v2]
  exact rows_context _ _ ⟨t.val * 512 + p.val, by omega⟩ (by show ¬ t.val * 512 + p.val < 32768; omega) k

/-- The modulations a latent point reads. -/
theorem mod_latent (t : Fin cfg0.N) (ht : t.val < 64) (p : Fin 512) (n : Fin 9) (k : Fin 1024) :
    iblk m c 1 t (ix3 0 n k) = m ((c : Thread nD τ).loc main_arg2) (ix3 ⟨(t.val * 512 + p.val) / 8192, by omega⟩ n k) := by
  have e : (⟨min (t.val / 16) 4, by omega⟩ : Fin 8) = ⟨(t.val * 512 + p.val) / 8192, by omega⟩ :=
    Fin.ext (by show min (t.val / 16) 4 = (t.val * 512 + p.val) / 8192; omega)
  rw [iblk1, V_v5, e]
  exact mods_latent _ _ _ ⟨(t.val * 512 + p.val) / 8192, by omega⟩ (by show (t.val * 512 + p.val) / 8192 < 4; omega) n k

/-- The modulations a context point reads. -/
theorem mod_context (t : Fin cfg0.N) (ht : ¬ t.val < 64) (n : Fin 9) (k : Fin 1024) :
    iblk m c 1 t (ix3 0 n k) = m ((c : Thread nD τ).loc main_arg3) (ix2 n k) := by
  have e : (⟨min (t.val / 16) 4, by omega⟩ : Fin 8) = 4 := Fin.ext (by show min (t.val / 16) 4 = 4; omega)
  rw [iblk1, V_v5, e]
  exact mods_context _ _ _ n k

end Cert.Ffn20Ideal.Host

end
-- ==== Proof.Ffn20Claim.lean ====
/-
  The half feed-forward program of layer 2, half 0, and its reference leave the same array: every row of either is
  `FfnRow.half` of the same row of the arguments, the latent rows under their sequence's modulations and the context rows
  under the context's.
-/
module

public import proofs.«01_k».proof.Defs
public import proofs.«01_k».proof.Proof.Ffn20Body
public import proofs.«01_k».proof.Proof.Ffn20Ref
public import proofs.«01_k».proof.Proof.Ffn20Host
public import proofs.«01_k».proof.Proof.Gen.Ffn20ReferenceIdeal.Run
public import Idealize.ShloMosaic.Lib.Quiescent

@[expose] public section

set_option maxRecDepth 16384

noncomputable section

namespace Cert.Ffn20Ideal.Whole

open Cert.Ffn20Ideal Cert.Ffn20Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The whole result as one function of the arguments. -/
def G : Vec Ideal S33792x1024 .f32 :=
  fun i => Ffn20ReferenceIdeal.Read.val_main_v95 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) i

theorem block_apply (t : Fin cfg0.N) (p : Fin 512) (j : Fin 1024) :
    out0_5 (F := Ideal) (iblk m c 0 t) (iblk m c 1 t) (iblk m c 2 t) (iblk m c 3 t) (iblk m c 4 t) (ix2 p j)
      = G m c (ix2 ⟨t.val * 512 + p.val, by have := Host.t_lt t; omega⟩ j) := by
  have hlt := Host.t_lt t
  have e2 := Host.V_v8 m c
  by_cases ht : t.val < 64
  · rw [Body.out_apply, G, Ffn20ReferenceIdeal.Rows.v95_latent _ _ _ _ _ _ _ _ (by show t.val * 512 + p.val < 32768; omega),
      Ffn20ReferenceIdeal.Rows.v93_apply]
    simp only [Host.row_latent m c t ht, Host.mod_latent m c t ht p, Host.iblk2, Host.iblk3, Host.iblk4, e2]
    rw [Host.V_v9, Host.V_v10]
  · rw [Body.out_apply, G, Ffn20ReferenceIdeal.Rows.v95_context _ _ _ _ _ _ _ _ (by show ¬ t.val * 512 + p.val < 32768; omega),
      Ffn20ReferenceIdeal.Rows.v94_apply]
    simp only [Host.row_context m c t ht, Host.mod_context m c t ht, Host.iblk2, Host.iblk3, Host.iblk4, e2]
    rw [Host.V_v9, Host.V_v10]

theorem flushed_eq (t : Fin cfg0.N) : (dats m 0 c).flushed 5 t = ((cfg0.win 5).blk t).view.read (Elt Ideal) (G m c) := by
  rw [Value.flushed5]
  have ht := Host.t_lt t
  have key : ∀ y : S512x1024.Idx, out0_5 (F := Ideal) (iblk m c 0 t) (iblk m c 1 t) (iblk m c 2 t) (iblk m c 3 t) (iblk m c 4 t) y
      = G m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block_apply m c t (y 0) (y 1)
  funext y
  refine (key y).trans (congrArg (G m c) (funext fun a => Fin.ext ?_))
  have e := (Host.index_facts t).2.2.2.2.2
  match a with
  | ⟨0, _⟩ => show t.val * 512 + (y 0).val = win0_5.index t 0 * 512 + 1 * (y 0).val; rw [e.1]; omega
  | ⟨1, _⟩ => show (y 1).val = win0_5.index t 1 * 1024 + 1 * (y 1).val; rw [e.2]; omega

theorem mem_blk (t : Fin cfg0.N) (i : S33792x1024.Idx) : i ∈ ((cfg0.win 5).blk t).view.set ↔
    ∀ a, win0_5.index t a * win0_5.size a ≤ (i a).val ∧ (i a).val < win0_5.index t a * win0_5.size a + win0_5.xsize (grid0.coords t) a := by
  show i ∈ ((View.whole main_v11).slice (win0_5.rect t)).set ↔ _
  rw [View.set_slice_whole, Rect.mem_set_unit]

theorem cover (i : S33792x1024.Idx) : ∃ t : Fin cfg0.N, (cfg0.win 5).flush t = true ∧ i ∈ ((cfg0.win 5).blk t).view.set := by
  have h0 : (i 0).val < 33792 := (i 0).isLt
  have h1 : (i 1).val < 1024 := (i 1).isLt
  have hN : cfg0.N = 66 := N_0
  have hlt : (i 0).val / 512 < cfg0.N := by omega
  refine ⟨⟨(i 0).val / 512, hlt⟩, flush0_5 _, (mem_blk _ i).2 fun a => ?_⟩
  have e := (Host.index_facts ⟨(i 0).val / 512, hlt⟩).2.2.2.2.2
  match a with
  | ⟨0, _⟩ =>
    show win0_5.index _ 0 * 512 ≤ (i 0).val ∧ (i 0).val < win0_5.index _ 0 * 512 + 512
    rw [e.1]; show (i 0).val / 512 * 512 ≤ (i 0).val ∧ (i 0).val < (i 0).val / 512 * 512 + 512; omega
  | ⟨1, _⟩ =>
    show win0_5.index _ 1 * 1024 ≤ (i 1).val ∧ (i 1).val < win0_5.index _ 1 * 1024 + 1024
    rw [e.2]; omega

theorem final : (dats m 0 c).arrAt 5 cfg0.N = G m c :=
  (dats m 0 c).arrAt_eq_of_cover 5 (G m c) (fun t _ => flushed_eq m c t) cover

/-- The value claim of this half feed-forward program. -/
theorem agrees : @Cert.algebraic_Ffn20Ideal_Ffn20ReferenceIdeal Cert.Ffn20Ideal.Gen.facts Cert.Ffn20ReferenceIdeal.Gen.facts := by
  intro m ρ m' ρ' _ hagree
  refine ⟨fun c => G m c, ?_, ?_⟩
  · exact (θ_run Cert.Ffn20Ideal.defs _ _).mono (fun _ h c => ⟨(h c).1.trans (final m c), (h c).2⟩) (Value.run_blocks m ρ)
  · refine (θ_run Cert.Ffn20ReferenceIdeal.defs _ _).mono (fun _ h c => ⟨(h c).1.trans ?_, (h c).2⟩) (Cert.Ffn20ReferenceIdeal.Value.run (F := Ideal) m' ρ')
    obtain ⟨a0, a1, a2, a3, a4, a5, a6⟩ := hagree c
    rw [Ffn20ReferenceIdeal.Read.val_main_v95_eq, a0, a1, a2, a3, a4, a5, a6]
    rfl

/-- The reference keeps its arguments and leaves no semaphore raised. -/
theorem reference_frame : @Cert.quiescent_Ffn20ReferenceIdeal Cert.Ffn20ReferenceIdeal.Gen.facts := fun m ρ _ =>
  (θ_run Cert.Ffn20ReferenceIdeal.defs _ _).mono
    (fun r h => ⟨fun c => (h c).2, sem_eq_zero_of_no_sems (by decide) r.2⟩) (Cert.Ffn20ReferenceIdeal.Value.run (F := Ideal) m ρ)

end Cert.Ffn20Ideal.Whole

end
-- ==== Proof.Ffn21Body.lean ====
/-
  What one grid point of the half feed-forward kernel of layer 2, half 1, writes, at an index of its block: row `p`
  of the block is `FfnRow.half` of row `p` of the operands' blocks. The kernel cuts the hidden units in two parts and
  adds the two products; `FfnRow.sum_cut` puts them together.
-/
module

public import proofs.«01_k».proof.Proof.Gen.Ffn21Ideal.Value
public import proofs.«01_k».proof.Proof.FfnRow

@[expose] public section

set_option maxRecDepth 16384

noncomputable section

namespace Cert.Ffn21Ideal.Body

open Cert.Ffn21Ideal Cert.Ffn21Ideal.Gen Idealize.ShloMosaic

theorem pay2_apply (v0 : Vec Ideal S512x1024 .f32) (p : Fin 512) (j : Fin 1024) :
    k0_pay2 (F := Ideal) v0 (ix2 p j) = v0 (ix2 p j) := by
  pointwise [k0_pay2]

/-- The normalised and modulated row. -/
theorem pay3_apply (v0 : Vec Ideal S512x1024 .f32) (v2 : Vec Ideal S1x1024 .f32) (v4 v6 : Vec Ideal S1x1x1024 .f32)
    (p : Fin 512) (j : Fin 1024) :
    k0_pay3 (F := Ideal) v0 v2 v4 v6 (ix2 p j)
      = FfnRow.scaled (fun k => v0 (ix2 p k)) (fun k => v2 (ix2 0 k)) (fun k => v4 (ix3 0 0 k)) (fun k => v6 (ix3 0 0 k)) j := by
  pointwise [k0_pay3, k0_pay2]
  rfl

/-- The first part of the hidden units. -/
theorem pay4_apply (v0 : Vec Ideal S512x1024 .f32) (v2 : Vec Ideal S1x1024 .f32) (v4 v6 : Vec Ideal S1x1x1024 .f32)
    (X : Vec Ideal S1x1x1024x5632 .bf16) (p : Fin 512) (n : Fin 1536) :
    k0_pay4 (F := Ideal) v0 v2 v4 v6 (View.ld X r0_4) (View.ld X r0_5) (ix2 p n)
      = FfnRow.hidden (fun k => k0_pay3 (F := Ideal) v0 v2 v4 v6 (ix2 p k)) (fun k n => X (ix4 0 0 k n)) ⟨n, by omega⟩ := by
  pointwise [k0_pay4]
  rfl

/-- The second part of the hidden units, the two products and the residual sum. -/
theorem pay1_apply (v1 : FVec Ideal S512x1024 .f32) (v25 : FVec Ideal S512x1024 .bf16) (v34 : FVec Ideal S512x1536 .f32)
    (X : Vec Ideal S1x1x1024x5632 .bf16) (Y : Vec Ideal S1x1x2816x1024 .bf16) (v53 : Vec Ideal S1x1x1024 .f32)
    (p : Fin 512) (j : Fin 1024) :
    k0_pay1 (F := Ideal) v1 v25 v34 (View.ld Y r0_6) (View.ld X r0_7) (View.ld X r0_8) (View.ld Y r0_9) v53 (ix2 p j)
      = v1 (ix2 p j) + Ideal.ofBits FTy.f32 0x3F000000#32 * v53 (ix3 0 0 j)
          * (∑ n : Fin 1536, v34 (ix2 p n) * Y (ix4 0 0 ⟨n, by omega⟩ j)
            + ∑ n : Fin 1280, FfnRow.hidden (fun k => v25 (ix2 p k)) (fun k n => X (ix4 0 0 k n)) ⟨1536 + n, by omega⟩
                * Y (ix4 0 0 ⟨1536 + n, by omega⟩ j)) := by
  pointwise [k0_pay1]
  refine congrArg (v1 (ix2 p j) + Ideal.ofBits FTy.f32 0x3F000000#32 * v53 (ix3 0 0 j) * ·) (congrArg₂ (· + ·) rfl (Finset.sum_congr rfl fun n _ => ?_))
  simp only [FfnRow.hidden, FfnRow.proj, ← Nat.add_assoc, Nat.reduceAdd]

/-- One grid point's block, index by index. -/
theorem out_apply (x0 : Vec Ideal S512x1024 .f32) (x1 : Vec Ideal S1x9x1024 .f32) (x2 : Vec Ideal S1x1024 .f32)
    (x3 : Vec Ideal S1x1x1024x5632 .bf16) (x4 : Vec Ideal S1x1x2816x1024 .bf16) (p : Fin 512) (j : Fin 1024) :
    out0_5 (F := Ideal) x0 x1 x2 x3 x4 (ix2 p j)
      = FfnRow.half (fun k => x0 (ix2 p k)) (fun k => x2 (ix2 0 k)) (fun k => x1 (ix3 0 6 k)) (fun k => x1 (ix3 0 7 k))
          (fun k => x1 (ix3 0 8 k)) (fun k n => x3 (ix4 0 0 k n)) (fun n k => x4 (ix4 0 0 n k)) j := by
  unfold out0_5
  rw [View.canon_unit_zero (by funext a; match a with | ⟨0, _⟩ => rfl | ⟨1, _⟩ => rfl), pay1_apply, FfnRow.half, FfnRow.sum_cut]
  simp only [pay4_apply, pay3_apply, pay2_apply]
  pointwise

end Cert.Ffn21Ideal.Body

end
-- ==== Proof.Ffn21Ref.lean ====
/-
  The reference of the half feed-forward block of layer 2, half 1, index by index: row `l` of a latent or of a context
  sequence `b` is `FfnRow.half` of that row of the arguments.
-/
module

public import proofs.«01_k».proof.Proof.Gen.Ffn21ReferenceIdeal.Read
public import proofs.«01_k».proof.Proof.FfnRow

@[expose] public section

set_option maxRecDepth 16384

noncomputable section

namespace Cert.Ffn21ReferenceIdeal.Rows

open Cert.Ffn21ReferenceIdeal Cert.Ffn21ReferenceIdeal.Gen Cert.Ffn21ReferenceIdeal.Read Idealize.ShloMosaic

variable (x0 : (⟨S4x8192x1024, .f32⟩ : BufTy).Contents (Elt Ideal)) (x1 : (⟨S4x256x1024, .f32⟩ : BufTy).Contents (Elt Ideal))
  (x2 : (⟨S4x9x1024, .f32⟩ : BufTy).Contents (Elt Ideal)) (x3 : (⟨S9x1024, .f32⟩ : BufTy).Contents (Elt Ideal))
  (x4 : (⟨S4x3x1024, .f32⟩ : BufTy).Contents (Elt Ideal)) (x5 : (⟨S4x2x1024x5632, .f32⟩ : BufTy).Contents (Elt Ideal))
  (x6 : (⟨S4x2x2816x1024, .f32⟩ : BufTy).Contents (Elt Ideal))

/-- A latent row, normalised and modulated. -/
theorem v33_apply (b : Fin 4) (l : Fin 8192) (j : Fin 1024) :
    val_main_v33 (F := Ideal) x0 x2 x4 (ix3 b l j)
      = FfnRow.scaled (fun k => x0 (ix3 b l k)) (fun k => x4 (ix3 2 2 k)) (fun k => x2 (ix3 b 6 k)) (fun k => x2 (ix3 b 7 k)) j := by
  pointwise [val_main_v33, val_main_v32, val_main_v31, val_main_v30, val_main_v29, val_main_v28, val_main_cst_2, val_main_v27,
    val_main_v26, val_main_v25, val_main_v24, val_main_v23, val_main_v22, val_main_v21, val_main_v20, val_main_cst_1,
    val_main_v19, val_main_v18, val_main_cst_0, val_main_v17, val_main_v16, val_main_cst, val_main_v15, val_main_v11,
    val_main_v10, val_main_v9, val_main_v8, val_main_v7, val_main_v6, val_main_v1, val_main_v0, FfnRow.scaled]
  simp only [mul_assoc]

/-- A latent row's hidden unit. -/
theorem v40_apply (b : Fin 4) (l : Fin 8192) (n : Fin 2816) :
    val_main_v40 (F := Ideal) x0 x2 x4 x5 (ix3 b l n)
      = FfnRow.hidden (fun k => val_main_v33 (F := Ideal) x0 x2 x4 (ix3 b l k)) (fun k n => x5 (ix4 2 1 k n)) n := by
  pointwise [val_main_v40, val_main_v39, val_main_call0_v5, val_main_call0_v4, val_main_call0_cst_0, val_main_call0_v3,
    val_main_call0_v2, val_main_call0_cst, val_main_call0_v1, val_main_call0_v0, val_main_v36, val_main_v35, val_main_v34,
    val_main_v3, val_main_v2, FfnRow.hidden, FfnRow.proj, Ideal.logistic]

/-- The latent rows of the result. -/
theorem v93_apply (r : Fin 32768) (j : Fin 1024) :
    val_main_v93 (F := Ideal) x0 x2 x4 x5 x6 (ix2 r j)
      = FfnRow.half (fun k => x0 (ix3 ⟨r / 8192, by omega⟩ ⟨r % 8192, by omega⟩ k)) (fun k => x4 (ix3 2 2 k))
          (fun k => x2 (ix3 ⟨r / 8192, by omega⟩ 6 k)) (fun k => x2 (ix3 ⟨r / 8192, by omega⟩ 7 k))
          (fun k => x2 (ix3 ⟨r / 8192, by omega⟩ 8 k)) (fun k n => x5 (ix4 2 1 k n)) (fun n k => x6 (ix4 2 1 n k)) j := by
  pointwise [val_main_v93, val_main_v44, val_main_v43, val_main_v42, val_main_v41, val_main_v38, val_main_v37, val_main_cst_3,
    val_main_v14, val_main_v13, val_main_v12, val_main_v5, val_main_v4]
  simp only [v40_apply, v33_apply]
  rfl

/-- A context row, normalised and modulated. -/
theorem v80_apply (b : Fin 4) (l : Fin 256) (j : Fin 1024) :
    val_main_v80 (F := Ideal) x1 x3 x4 (ix3 b l j)
      = FfnRow.scaled (fun k => x1 (ix3 b l k)) (fun k => x4 (ix3 2 2 k)) (fun k => x3 (ix2 6 k)) (fun k => x3 (ix2 7 k)) j := by
  pointwise [val_main_v80, val_main_v79, val_main_v78, val_main_v77, val_main_v76, val_main_v75, val_main_v74, val_main_v73,
    val_main_cst_7, val_main_v72, val_main_v71, val_main_v70, val_main_v69, val_main_v68, val_main_v67, val_main_v66,
    val_main_v65, val_main_cst_6, val_main_v64, val_main_v63, val_main_cst_5, val_main_v62, val_main_v61, val_main_cst_4,
    val_main_v60, val_main_v56, val_main_v55, val_main_v54, val_main_v53, val_main_v52, val_main_v51, val_main_v46,
    val_main_v45, FfnRow.scaled]
  simp only [mul_assoc]

/-- A context row's hidden unit. -/
theorem v87_apply (b : Fin 4) (l : Fin 256) (n : Fin 2816) :
    val_main_v87 (F := Ideal) x1 x3 x4 x5 (ix3 b l n)
      = FfnRow.hidden (fun k => val_main_v80 (F := Ideal) x1 x3 x4 (ix3 b l k)) (fun k n => x5 (ix4 2 1 k n)) n := by
  pointwise [val_main_v87, val_main_v86, val_main_call1_v5, val_main_call1_v4, val_main_call1_cst_0, val_main_call1_v3,
    val_main_call1_v2, val_main_call1_cst, val_main_call1_v1, val_main_call1_v0, val_main_v83, val_main_v82, val_main_v81,
    val_main_v48, val_main_v47, FfnRow.hidden, FfnRow.proj, Ideal.logistic]

/-- The context rows of the result. -/
theorem v94_apply (r : Fin 1024) (j : Fin 1024) :
    val_main_v94 (F := Ideal) x1 x3 x4 x5 x6 (ix2 r j)
      = FfnRow.half (fun k => x1 (ix3 ⟨r / 256, by omega⟩ ⟨r % 256, by omega⟩ k)) (fun k => x4 (ix3 2 2 k))
          (fun k => x3 (ix2 6 k)) (fun k => x3 (ix2 7 k)) (fun k => x3 (ix2 8 k))
          (fun k n => x5 (ix4 2 1 k n)) (fun n k => x6 (ix4 2 1 n k)) j := by
  pointwise [val_main_v94, val_main_v92, val_main_v91, val_main_v90, val_main_v89, val_main_v88, val_main_v85, val_main_v84,
    val_main_cst_8, val_main_v59, val_main_v58, val_main_v57, val_main_v50, val_main_v49]
  simp only [v87_apply, v80_apply]
  rfl

/-- The result's first 32768 rows are the latent ones. -/
theorem v95_latent (r : Fin 33792) (h : r.val < 32768) (j : Fin 1024) :
    val_main_v95 (F := Ideal) x0 x1 x2 x3 x4 x5 x6 (ix2 r j) = val_main_v93 (F := Ideal) x0 x2 x4 x5 x6 (ix2 ⟨r, h⟩ j) := by
  unfold val_main_v95
  rw [concatenate_pair_apply]
  refine (dif_pos h).trans (congrArg _ ?_)
  funext a; match a with | ⟨0, _⟩ => rfl | ⟨1, _⟩ => rfl

/-- The other rows are those of the context. -/
theorem v95_context (r : Fin 33792) (h : ¬ r.val < 32768) (j : Fin 1024) :
    val_main_v95 (F := Ideal) x0 x1 x2 x3 x4 x5 x6 (ix2 r j)
      = val_main_v94 (F := Ideal) x1 x3 x4 x5 x6 (ix2 ⟨r - 32768, by omega⟩ j) := by
  unfold val_main_v95
  rw [concatenate_pair_apply]
  refine (dif_neg h).trans (congrArg _ ?_)
  funext a; match a with | ⟨0, _⟩ => rfl | ⟨1, _⟩ => rfl

end Cert.Ffn21ReferenceIdeal.Rows

end
-- ==== Proof.Ffn21Host.lean ====
/-
  The operands of the half feed-forward kernel of layer 2, half 1, as its grid points see them: what each window's
  block holds, in terms of the arguments the program was launched with. The first 64 points work on the latent rows, 16
  to a sequence; the last two on the context rows, which share one block of modulations.
-/
module

public import proofs.«01_k».proof.Proof.Gen.Ffn21Ideal.Value
public import Idealize.ShloMosaic.Lib.Pointwise

@[expose] public section

set_option maxRecDepth 16384

noncomputable section

namespace Cert.Ffn21Ideal.Host

open Cert.Ffn21Ideal Cert.Ffn21Ideal.Gen Idealize.ShloMosaic Idealize.ShloMosaic.TcCoe Idealize.SL.Sem

/-- The block indices of the windows that move, and of the two that stand at layer 2, half 1. -/
theorem index_facts : ∀ t : Fin grid0.N,
    (win0_0.index t 0 = t.val ∧ win0_0.index t 1 = 0)
    ∧ (win0_1.index t 0 = min (t.val / 16) 4 ∧ win0_1.index t 1 = 0 ∧ win0_1.index t 2 = 0)
    ∧ (win0_2.index t 0 = 0 ∧ win0_2.index t 1 = 0)
    ∧ (win0_3.index t 0 = 2 ∧ win0_3.index t 1 = 1 ∧ win0_3.index t 2 = 0 ∧ win0_3.index t 3 = 0)
    ∧ (win0_4.index t 0 = 2 ∧ win0_4.index t 1 = 1 ∧ win0_4.index t 2 = 0 ∧ win0_4.index t 3 = 0)
    ∧ (win0_5.index t 0 = t.val ∧ win0_5.index t 1 = 0) := by decide +kernel

theorem t_lt (t : Fin cfg0.N) : t.val < 66 := by have h := t.isLt; have hN : cfg0.N = 66 := N_0; omega

variable (m : (ℓ : Loc nD τ sig) → Buf (Elt Ideal) ℓ) (c : Dev nD)

/-- A row below 32768 is a latent row. -/
theorem rows_latent (A : Vec Ideal S4x8192x1024 .f32) (B : Vec Ideal S1024x1024 .f32) (r : Fin 33792) (h : r.val < 32768) (k : Fin 1024) :
    concatenate S33792x1024 0 [⟨S32768x1024, shapeCast S32768x1024 A shapeCasts_S4x8192x1024_S32768x1024⟩, ⟨S1024x1024, B⟩]
      concatenates_S32768x1024_S1024x1024_S33792x1024_d0 (ix2 r k) = A (ix3 ⟨r / 8192, by omega⟩ ⟨r % 8192, by omega⟩ k) := by
  rw [concatenate_pair_apply]
  refine (dif_pos h).trans ?_
  pointwise

/-- The other rows are those of the context. -/
theorem rows_context (A : Vec Ideal S32768x1024 .f32) (B : Vec Ideal S4x256x1024 .f32) (r : Fin 33792) (h : ¬ r.val < 32768) (k : Fin 1024) :
    concatenate S33792x1024 0 [⟨S32768x1024, A⟩, ⟨S1024x1024, shapeCast S1024x1024 B shapeCasts_S4x256x1024_S1024x1024⟩]
      concatenates_S32768x1024_S1024x1024_S33792x1024_d0 (ix2 r k) = B (ix3 ⟨(r - 32768) / 256, by omega⟩ ⟨(r - 32768) % 256, by omega⟩ k) := by
  rw [concatenate_pair_apply]
  refine (dif_neg h).trans ?_
  pointwise

/-- One of the first four blocks of modulations is the sequence's own. -/
theorem mods_latent (A : Vec Ideal S4x9x1024 .f32) (B : Vec Ideal S1x9x1024 .f32) (C : Vec Ideal S3x9x1024 .f32) (b : Fin 8)
    (h : b.val < 4) (n : Fin 9) (k : Fin 1024) :
    concatenate S8x9x1024 0 [⟨S4x9x1024, A⟩, ⟨S1x9x1024, B⟩, ⟨S3x9x1024, C⟩]
      concatenates_S4x9x1024_S1x9x1024_S3x9x1024_S8x9x1024_d0 (ix3 b n k) = A (ix3 ⟨b, h⟩ n k) := by
  pointwise
  rw [dif_pos h]

/-- The fifth is that of the context. -/
theorem mods_context (A : Vec Ideal S4x9x1024 .f32) (B : Vec Ideal S9x1024 .f32) (C : Vec Ideal S3x9x1024 .f32) (n : Fin 9) (k : Fin 1024) :
    concatenate S8x9x1024 0 [⟨S4x9x1024, A⟩, ⟨S1x9x1024, broadcastInDim S1x9x1024 ![1, 2] bcast_S9x1024_S1x9x1024_1_2 B⟩, ⟨S3x9x1024, C⟩]
      concatenates_S4x9x1024_S1x9x1024_S3x9x1024_S8x9x1024_d0 (ix3 4 n k) = B (ix2 n k) := by
  pointwise

theorem V_v2 : V m c main_v2 = concatenate S33792x1024 0 [⟨S32768x1024, shapeCast S32768x1024 (m ((c : Thread nD τ).loc main_arg0)) shapeCasts_S4x8192x1024_S32768x1024⟩, ⟨S1024x1024, shapeCast S1024x1024 (m ((c : Thread nD τ).loc main_arg1)) shapeCasts_S4x256x1024_S1024x1024⟩] concatenates_S32768x1024_S1024x1024_S33792x1024_d0 := by
  unfold_abbrev_sides
  after_results
  rfl

theorem V_v5 : V m c main_v5 = concatenate S8x9x1024 0 [⟨S4x9x1024, m ((c : Thread nD τ).loc main_arg2)⟩, ⟨S1x9x1024, broadcastInDim S1x9x1024 ![1, 2] bcast_S9x1024_S1x9x1024_1_2 (m ((c : Thread nD τ).loc main_arg3))⟩, ⟨S3x9x1024, broadcastInDim S3x9x1024 ![] bcast_S_S3x9x1024 (constant (F := Ideal) S_ .f32 0x00000000#32)⟩] concatenates_S4x9x1024_S1x9x1024_S3x9x1024_S8x9x1024_d0 := by
  unfold_abbrev_sides
  after_results
  rfl

theorem V_v8 (k : Fin 1024) : V m c main_v8 (ix2 0 k) = m ((c : Thread nD τ).loc main_arg4) (ix3 2 2 k) := by
  have e : V m c main_v8 = broadcastInDim S1x1024 ![1] bcast_S1024_S1x1024_1 (shapeCast S1024 (extractStridedSlice S1x1x1024 ![2, 2, 0] (m ((c : Thread nD τ).loc main_arg4)) slices_S4x3x1024_S1x1x1024_2_2_0) shapeCasts_S1x1x1024_S1024) := by
    unfold_abbrev_sides
    after_results
    rfl
  rw [e]
  pointwise

theorem V_v9 : V m c main_v9 = m ((c : Thread nD τ).loc main_arg5) := by
  unfold_abbrev_sides
  after_results
  rfl

theorem V_v10 : V m c main_v10 = m ((c : Thread nD τ).loc main_arg6) := by
  unfold_abbrev_sides
  after_results
  rfl

theorem iblk0 (t : Fin cfg0.N) (p : Fin 512) (k : Fin 1024) :
    iblk m c 0 t (ix2 p k) = V m c main_v2 (ix2 ⟨t.val * 512 + p.val, by have := t_lt t; omega⟩ k) := by
  refine congrArg (V m c main_v2) (funext fun a => Fin.ext ?_)
  have e := (index_facts t).1
  match a with
  | ⟨0, _⟩ => show win0_0.index t 0 * 512 + 1 * p.val = t.val * 512 + p.val; rw [e.1]; omega
  | ⟨1, _⟩ => show win0_0.index t 1 * 1024 + 1 * k.val = k.val; rw [e.2]; omega

theorem iblk1 (t : Fin cfg0.N) (n : Fin 9) (k : Fin 1024) :
    iblk m c 1 t (ix3 0 n k) = V m c main_v5 (ix3 ⟨min (t.val / 16) 4, by omega⟩ n k) := by
  refine congrArg (V m c main_v5) (funext fun a => Fin.ext ?_)
  have e := (index_facts t).2.1
  match a with
  | ⟨0, _⟩ => show win0_1.index t 0 * 1 + 1 * 0 = min (t.val / 16) 4; rw [e.1]; omega
  | ⟨1, _⟩ => show win0_1.index t 1 * 9 + 1 * n.val = n.val; rw [e.2.1]; omega
  | ⟨2, _⟩ => show win0_1.index t 2 * 1024 + 1 * k.val = k.val; rw [e.2.2]; omega

theorem iblk2 (t : Fin cfg0.N) (k : Fin 1024) : iblk m c 2 t (ix2 0 k) = V m c main_v8 (ix2 0 k) := by
  refine congrArg (V m c main_v8) (funext fun a => Fin.ext ?_)
  have e := (index_facts t).2.2.1
  match a with
  | ⟨0, _⟩ => show win0_2.index t 0 * 1 + 1 * 0 = 0; rw [e.1]
  | ⟨1, _⟩ => show win0_2.index t 1 * 1024 + 1 * k.val = k.val; rw [e.2]; omega

theorem iblk3 (t : Fin cfg0.N) (k : Fin 1024) (n : Fin 5632) :
    iblk m c 3 t (ix4 0 0 k n) = V m c main_v9 (ix4 2 1 k n) := by
  refine congrArg (V m c main_v9) (funext fun a => Fin.ext ?_)
  have e := (index_facts t).2.2.2.1
  match a with
  | ⟨0, _⟩ => show win0_3.index t 0 * 1 + 1 * 0 = 2; rw [e.1]
  | ⟨1, _⟩ => show win0_3.index t 1 * 1 + 1 * 0 = 1; rw [e.2.1]
  | ⟨2, _⟩ => show win0_3.index t 2 * 1024 + 1 * k.val = k.val; rw [e.2.2.1]; omega
  | ⟨3, _⟩ => show win0_3.index t 3 * 5632 + 1 * n.val = n.val; rw [e.2.2.2]; omega

theorem iblk4 (t : Fin cfg0.N) (n : Fin 2816) (k : Fin 1024) :
    iblk m c 4 t (ix4 0 0 n k) = V m c main_v10 (ix4 2 1 n k) := by
  refine congrArg (V m c main_v10) (funext fun a => Fin.ext ?_)
  have e := (index_facts t).2.2.2.2.1
  match a with
  | ⟨0, _⟩ => show win0_4.index t 0 * 1 + 1 * 0 = 2; rw [e.1]
  | ⟨1, _⟩ => show win0_4.index t 1 * 1 + 1 * 0 = 1; rw [e.2.1]
  | ⟨2, _⟩ => show win0_4.index t 2 * 2816 + 1 * n.val = n.val; rw [e.2.2.1]; omega
  | ⟨3, _⟩ => show win0_4.index t 3 * 1024 + 1 * k.val = k.val; rw [e.2.2.2]; omega

/-- The row a latent point reads. -/
theorem row_latent (t : Fin cfg0.N) (ht : t.val < 64) (p : Fin 512) (k : Fin 1024) :
    iblk m c 0 t (ix2 p k) = m ((c : Thread nD τ).loc main_arg0)
      (ix3 ⟨(t.val * 512 + p.val) / 8192, by omega⟩ ⟨(t.val * 512 + p.val) % 8192, by omega⟩ k) := by
  rw [iblk0, V_v2]
  exact rows_latent _ _ ⟨t.val * 512 + p.val, by omega⟩ (by show t.val * 512 + p.val < 32768; omega) k

/-- The row a context point reads. -/
theorem row_context (t : Fin cfg0.N) (ht : ¬ t.val < 64) (p : Fin 512) (k : Fin 1024) :
    iblk m c 0 t (ix2 p k) = m ((c : Thread nD τ).loc main_arg1)
      (ix3 ⟨(t.val * 512 + p.val - 32768) / 256, by have := t_lt t; omega⟩ ⟨(t.val * 512 + p.val - 32768) % 256, by omega⟩ k) := by
  have := t_lt t
  rw [iblk0, V_v2]
  exact rows_context _ _ ⟨t.val * 512 + p.val, by omega⟩ (by show ¬ t.val * 512 + p.val < 32768; omega) k

/-- The modulations a latent point reads. -/
theorem mod_latent (t : Fin cfg0.N) (ht : t.val < 64) (p : Fin 512) (n : Fin 9) (k : Fin 1024) :
    iblk m c 1 t (ix3 0 n k) = m ((c : Thread nD τ).loc main_arg2) (ix3 ⟨(t.val * 512 + p.val) / 8192, by omega⟩ n k) := by
  have e : (⟨min (t.val / 16) 4, by omega⟩ : Fin 8) = ⟨(t.val * 512 + p.val) / 8192, by omega⟩ :=
    Fin.ext (by show min (t.val / 16) 4 = (t.val * 512 + p.val) / 8192; omega)
  rw [iblk1, V_v5, e]
  exact mods_latent _ _ _ ⟨(t.val * 512 + p.val) / 8192, by omega⟩ (by show (t.val * 512 + p.val) / 8192 < 4; omega) n k

/-- The modulations a context point reads. -/
theorem mod_context (t : Fin cfg0.N) (ht : ¬ t.val < 64) (n : Fin 9) (k : Fin 1024) :
    iblk m c 1 t (ix3 0 n k) = m ((c : Thread nD τ).loc main_arg3) (ix2 n k) := by
  have e : (⟨min (t.val / 16) 4, by omega⟩ : Fin 8) = 4 := Fin.ext (by show min (t.val / 16) 4 = 4; omega)
  rw [iblk1, V_v5, e]
  exact mods_context _ _ _ n k

end Cert.Ffn21Ideal.Host

end
-- ==== Proof.Ffn21Claim.lean ====
/-
  The half feed-forward program of layer 2, half 1, and its reference leave the same array: every row of either is
  `FfnRow.half` of the same row of the arguments, the latent rows under their sequence's modulations and the context rows
  under the context's.
-/
module

public import proofs.«01_k».proof.Defs
public import proofs.«01_k».proof.Proof.Ffn21Body
public import proofs.«01_k».proof.Proof.Ffn21Ref
public import proofs.«01_k».proof.Proof.Ffn21Host
public import proofs.«01_k».proof.Proof.Gen.Ffn21ReferenceIdeal.Run
public import Idealize.ShloMosaic.Lib.Quiescent

@[expose] public section

set_option maxRecDepth 16384

noncomputable section

namespace Cert.Ffn21Ideal.Whole

open Cert.Ffn21Ideal Cert.Ffn21Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The whole result as one function of the arguments. -/
def G : Vec Ideal S33792x1024 .f32 :=
  fun i => Ffn21ReferenceIdeal.Read.val_main_v95 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) i

theorem block_apply (t : Fin cfg0.N) (p : Fin 512) (j : Fin 1024) :
    out0_5 (F := Ideal) (iblk m c 0 t) (iblk m c 1 t) (iblk m c 2 t) (iblk m c 3 t) (iblk m c 4 t) (ix2 p j)
      = G m c (ix2 ⟨t.val * 512 + p.val, by have := Host.t_lt t; omega⟩ j) := by
  have hlt := Host.t_lt t
  have e2 := Host.V_v8 m c
  by_cases ht : t.val < 64
  · rw [Body.out_apply, G, Ffn21ReferenceIdeal.Rows.v95_latent _ _ _ _ _ _ _ _ (by show t.val * 512 + p.val < 32768; omega),
      Ffn21ReferenceIdeal.Rows.v93_apply]
    simp only [Host.row_latent m c t ht, Host.mod_latent m c t ht p, Host.iblk2, Host.iblk3, Host.iblk4, e2]
    rw [Host.V_v9, Host.V_v10]
  · rw [Body.out_apply, G, Ffn21ReferenceIdeal.Rows.v95_context _ _ _ _ _ _ _ _ (by show ¬ t.val * 512 + p.val < 32768; omega),
      Ffn21ReferenceIdeal.Rows.v94_apply]
    simp only [Host.row_context m c t ht, Host.mod_context m c t ht, Host.iblk2, Host.iblk3, Host.iblk4, e2]
    rw [Host.V_v9, Host.V_v10]

theorem flushed_eq (t : Fin cfg0.N) : (dats m 0 c).flushed 5 t = ((cfg0.win 5).blk t).view.read (Elt Ideal) (G m c) := by
  rw [Value.flushed5]
  have ht := Host.t_lt t
  have key : ∀ y : S512x1024.Idx, out0_5 (F := Ideal) (iblk m c 0 t) (iblk m c 1 t) (iblk m c 2 t) (iblk m c 3 t) (iblk m c 4 t) y
      = G m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block_apply m c t (y 0) (y 1)
  funext y
  refine (key y).trans (congrArg (G m c) (funext fun a => Fin.ext ?_))
  have e := (Host.index_facts t).2.2.2.2.2
  match a with
  | ⟨0, _⟩ => show t.val * 512 + (y 0).val = win0_5.index t 0 * 512 + 1 * (y 0).val; rw [e.1]; omega
  | ⟨1, _⟩ => show (y 1).val = win0_5.index t 1 * 1024 + 1 * (y 1).val; rw [e.2]; omega

theorem mem_blk (t : Fin cfg0.N) (i : S33792x1024.Idx) : i ∈ ((cfg0.win 5).blk t).view.set ↔
    ∀ a, win0_5.index t a * win0_5.size a ≤ (i a).val ∧ (i a).val < win0_5.index t a * win0_5.size a + win0_5.xsize (grid0.coords t) a := by
  show i ∈ ((View.whole main_v11).slice (win0_5.rect t)).set ↔ _
  rw [View.set_slice_whole, Rect.mem_set_unit]

theorem cover (i : S33792x1024.Idx) : ∃ t : Fin cfg0.N, (cfg0.win 5).flush t = true ∧ i ∈ ((cfg0.win 5).blk t).view.set := by
  have h0 : (i 0).val < 33792 := (i 0).isLt
  have h1 : (i 1).val < 1024 := (i 1).isLt
  have hN : cfg0.N = 66 := N_0
  have hlt : (i 0).val / 512 < cfg0.N := by omega
  refine ⟨⟨(i 0).val / 512, hlt⟩, flush0_5 _, (mem_blk _ i).2 fun a => ?_⟩
  have e := (Host.index_facts ⟨(i 0).val / 512, hlt⟩).2.2.2.2.2
  match a with
  | ⟨0, _⟩ =>
    show win0_5.index _ 0 * 512 ≤ (i 0).val ∧ (i 0).val < win0_5.index _ 0 * 512 + 512
    rw [e.1]; show (i 0).val / 512 * 512 ≤ (i 0).val ∧ (i 0).val < (i 0).val / 512 * 512 + 512; omega
  | ⟨1, _⟩ =>
    show win0_5.index _ 1 * 1024 ≤ (i 1).val ∧ (i 1).val < win0_5.index _ 1 * 1024 + 1024
    rw [e.2]; omega

theorem final : (dats m 0 c).arrAt 5 cfg0.N = G m c :=
  (dats m 0 c).arrAt_eq_of_cover 5 (G m c) (fun t _ => flushed_eq m c t) cover

/-- The value claim of this half feed-forward program. -/
theorem agrees : @Cert.algebraic_Ffn21Ideal_Ffn21ReferenceIdeal Cert.Ffn21Ideal.Gen.facts Cert.Ffn21ReferenceIdeal.Gen.facts := by
  intro m ρ m' ρ' _ hagree
  refine ⟨fun c => G m c, ?_, ?_⟩
  · exact (θ_run Cert.Ffn21Ideal.defs _ _).mono (fun _ h c => ⟨(h c).1.trans (final m c), (h c).2⟩) (Value.run_blocks m ρ)
  · refine (θ_run Cert.Ffn21ReferenceIdeal.defs _ _).mono (fun _ h c => ⟨(h c).1.trans ?_, (h c).2⟩) (Cert.Ffn21ReferenceIdeal.Value.run (F := Ideal) m' ρ')
    obtain ⟨a0, a1, a2, a3, a4, a5, a6⟩ := hagree c
    rw [Ffn21ReferenceIdeal.Read.val_main_v95_eq, a0, a1, a2, a3, a4, a5, a6]
    rfl

/-- The reference keeps its arguments and leaves no semaphore raised. -/
theorem reference_frame : @Cert.quiescent_Ffn21ReferenceIdeal Cert.Ffn21ReferenceIdeal.Gen.facts := fun m ρ _ =>
  (θ_run Cert.Ffn21ReferenceIdeal.defs _ _).mono
    (fun r h => ⟨fun c => (h c).2, sem_eq_zero_of_no_sems (by decide) r.2⟩) (Cert.Ffn21ReferenceIdeal.Value.run (F := Ideal) m ρ)

end Cert.Ffn21Ideal.Whole

end
-- ==== Proof.Ffn30Body.lean ====
/-
  What one grid point of the half feed-forward kernel of layer 3, half 0, writes, at an index of its block: row `p`
  of the block is `FfnRow.half` of row `p` of the operands' blocks. The kernel cuts the hidden units in two parts and
  adds the two products; `FfnRow.sum_cut` puts them together.
-/
module

public import proofs.«01_k».proof.Proof.Gen.Ffn30Ideal.Value
public import proofs.«01_k».proof.Proof.FfnRow

@[expose] public section

set_option maxRecDepth 16384

noncomputable section

namespace Cert.Ffn30Ideal.Body

open Cert.Ffn30Ideal Cert.Ffn30Ideal.Gen Idealize.ShloMosaic

theorem pay2_apply (v0 : Vec Ideal S512x1024 .f32) (p : Fin 512) (j : Fin 1024) :
    k0_pay2 (F := Ideal) v0 (ix2 p j) = v0 (ix2 p j) := by
  pointwise [k0_pay2]

/-- The normalised and modulated row. -/
theorem pay3_apply (v0 : Vec Ideal S512x1024 .f32) (v2 : Vec Ideal S1x1024 .f32) (v4 v6 : Vec Ideal S1x1x1024 .f32)
    (p : Fin 512) (j : Fin 1024) :
    k0_pay3 (F := Ideal) v0 v2 v4 v6 (ix2 p j)
      = FfnRow.scaled (fun k => v0 (ix2 p k)) (fun k => v2 (ix2 0 k)) (fun k => v4 (ix3 0 0 k)) (fun k => v6 (ix3 0 0 k)) j := by
  pointwise [k0_pay3, k0_pay2]
  rfl

/-- The first part of the hidden units. -/
theorem pay4_apply (v0 : Vec Ideal S512x1024 .f32) (v2 : Vec Ideal S1x1024 .f32) (v4 v6 : Vec Ideal S1x1x1024 .f32)
    (X : Vec Ideal S1x1x1024x5632 .bf16) (p : Fin 512) (n : Fin 1536) :
    k0_pay4 (F := Ideal) v0 v2 v4 v6 (View.ld X r0_4) (View.ld X r0_5) (ix2 p n)
      = FfnRow.hidden (fun k => k0_pay3 (F := Ideal) v0 v2 v4 v6 (ix2 p k)) (fun k n => X (ix4 0 0 k n)) ⟨n, by omega⟩ := by
  pointwise [k0_pay4]
  rfl

/-- The second part of the hidden units, the two products and the residual sum. -/
theorem pay1_apply (v1 : FVec Ideal S512x1024 .f32) (v25 : FVec Ideal S512x1024 .bf16) (v34 : FVec Ideal S512x1536 .f32)
    (X : Vec Ideal S1x1x1024x5632 .bf16) (Y : Vec Ideal S1x1x2816x1024 .bf16) (v53 : Vec Ideal S1x1x1024 .f32)
    (p : Fin 512) (j : Fin 1024) :
    k0_pay1 (F := Ideal) v1 v25 v34 (View.ld Y r0_6) (View.ld X r0_7) (View.ld X r0_8) (View.ld Y r0_9) v53 (ix2 p j)
      = v1 (ix2 p j) + Ideal.ofBits FTy.f32 0x3F000000#32 * v53 (ix3 0 0 j)
          * (∑ n : Fin 1536, v34 (ix2 p n) * Y (ix4 0 0 ⟨n, by omega⟩ j)
            + ∑ n : Fin 1280, FfnRow.hidden (fun k => v25 (ix2 p k)) (fun k n => X (ix4 0 0 k n)) ⟨1536 + n, by omega⟩
                * Y (ix4 0 0 ⟨1536 + n, by omega⟩ j)) := by
  pointwise [k0_pay1]
  refine congrArg (v1 (ix2 p j) + Ideal.ofBits FTy.f32 0x3F000000#32 * v53 (ix3 0 0 j) * ·) (congrArg₂ (· + ·) rfl (Finset.sum_congr rfl fun n _ => ?_))
  simp only [FfnRow.hidden, FfnRow.proj, ← Nat.add_assoc, Nat.reduceAdd]

/-- One grid point's block, index by index. -/
theorem out_apply (x0 : Vec Ideal S512x1024 .f32) (x1 : Vec Ideal S1x9x1024 .f32) (x2 : Vec Ideal S1x1024 .f32)
    (x3 : Vec Ideal S1x1x1024x5632 .bf16) (x4 : Vec Ideal S1x1x2816x1024 .bf16) (p : Fin 512) (j : Fin 1024) :
    out0_5 (F := Ideal) x0 x1 x2 x3 x4 (ix2 p j)
      = FfnRow.half (fun k => x0 (ix2 p k)) (fun k => x2 (ix2 0 k)) (fun k => x1 (ix3 0 0 k)) (fun k => x1 (ix3 0 1 k))
          (fun k => x1 (ix3 0 2 k)) (fun k n => x3 (ix4 0 0 k n)) (fun n k => x4 (ix4 0 0 n k)) j := by
  unfold out0_5
  rw [View.canon_unit_zero (by funext a; match a with | ⟨0, _⟩ => rfl | ⟨1, _⟩ => rfl), pay1_apply, FfnRow.half, FfnRow.sum_cut]
  simp only [pay4_apply, pay3_apply, pay2_apply]
  pointwise

end Cert.Ffn30Ideal.Body

end
-- ==== Proof.Ffn30Ref.lean ====
/-
  The reference of the half feed-forward block of layer 3, half 0, index by index: row `l` of a latent or of a context
  sequence `b` is `FfnRow.half` of that row of the arguments.
-/
module

public import proofs.«01_k».proof.Proof.Gen.Ffn30ReferenceIdeal.Read
public import proofs.«01_k».proof.Proof.FfnRow

@[expose] public section

set_option maxRecDepth 16384

noncomputable section

namespace Cert.Ffn30ReferenceIdeal.Rows

open Cert.Ffn30ReferenceIdeal Cert.Ffn30ReferenceIdeal.Gen Cert.Ffn30ReferenceIdeal.Read Idealize.ShloMosaic

variable (x0 : (⟨S4x8192x1024, .f32⟩ : BufTy).Contents (Elt Ideal)) (x1 : (⟨S4x256x1024, .f32⟩ : BufTy).Contents (Elt Ideal))
  (x2 : (⟨S4x9x1024, .f32⟩ : BufTy).Contents (Elt Ideal)) (x3 : (⟨S9x1024, .f32⟩ : BufTy).Contents (Elt Ideal))
  (x4 : (⟨S4x3x1024, .f32⟩ : BufTy).Contents (Elt Ideal)) (x5 : (⟨S4x2x1024x5632, .f32⟩ : BufTy).Contents (Elt Ideal))
  (x6 : (⟨S4x2x2816x1024, .f32⟩ : BufTy).Contents (Elt Ideal))

/-- A latent row, normalised and modulated. -/
theorem v33_apply (b : Fin 4) (l : Fin 8192) (j : Fin 1024) :
    val_main_v33 (F := Ideal) x0 x2 x4 (ix3 b l j)
      = FfnRow.scaled (fun k => x0 (ix3 b l k)) (fun k => x4 (ix3 3 0 k)) (fun k => x2 (ix3 b 0 k)) (fun k => x2 (ix3 b 1 k)) j := by
  pointwise [val_main_v33, val_main_v32, val_main_v31, val_main_v30, val_main_v29, val_main_v28, val_main_cst_2, val_main_v27,
    val_main_v26, val_main_v25, val_main_v24, val_main_v23, val_main_v22, val_main_v21, val_main_v20, val_main_cst_1,
    val_main_v19, val_main_v18, val_main_cst_0, val_main_v17, val_main_v16, val_main_cst, val_main_v15, val_main_v11,
    val_main_v10, val_main_v9, val_main_v8, val_main_v7, val_main_v6, val_main_v1, val_main_v0, FfnRow.scaled]
  simp only [mul_assoc]

/-- A latent row's hidden unit. -/
theorem v40_apply (b : Fin 4) (l : Fin 8192) (n : Fin 2816) :
    val_main_v40 (F := Ideal) x0 x2 x4 x5 (ix3 b l n)
      = FfnRow.hidden (fun k => val_main_v33 (F := Ideal) x0 x2 x4 (ix3 b l k)) (fun k n => x5 (ix4 3 0 k n)) n := by
  pointwise [val_main_v40, val_main_v39, val_main_call0_v5, val_main_call0_v4, val_main_call0_cst_0, val_main_call0_v3,
    val_main_call0_v2, val_main_call0_cst, val_main_call0_v1, val_main_call0_v0, val_main_v36, val_main_v35, val_main_v34,
    val_main_v3, val_main_v2, FfnRow.hidden, FfnRow.proj, Ideal.logistic]

/-- The latent rows of the result. -/
theorem v93_apply (r : Fin 32768) (j : Fin 1024) :
    val_main_v93 (F := Ideal) x0 x2 x4 x5 x6 (ix2 r j)
      = FfnRow.half (fun k => x0 (ix3 ⟨r / 8192, by omega⟩ ⟨r % 8192, by omega⟩ k)) (fun k => x4 (ix3 3 0 k))
          (fun k => x2 (ix3 ⟨r / 8192, by omega⟩ 0 k)) (fun k => x2 (ix3 ⟨r / 8192, by omega⟩ 1 k))
          (fun k => x2 (ix3 ⟨r / 8192, by omega⟩ 2 k)) (fun k n => x5 (ix4 3 0 k n)) (fun n k => x6 (ix4 3 0 n k)) j := by
  pointwise [val_main_v93, val_main_v44, val_main_v43, val_main_v42, val_main_v41, val_main_v38, val_main_v37, val_main_cst_3,
    val_main_v14, val_main_v13, val_main_v12, val_main_v5, val_main_v4]
  simp only [v40_apply, v33_apply]
  rfl

/-- A context row, normalised and modulated. -/
theorem v80_apply (b : Fin 4) (l : Fin 256) (j : Fin 1024) :
    val_main_v80 (F := Ideal) x1 x3 x4 (ix3 b l j)
      = FfnRow.scaled (fun k => x1 (ix3 b l k)) (fun k => x4 (ix3 3 0 k)) (fun k => x3 (ix2 0 k)) (fun k => x3 (ix2 1 k)) j := by
  pointwise [val_main_v80, val_main_v79, val_main_v78, val_main_v77, val_main_v76, val_main_v75, val_main_v74, val_main_v73,
    val_main_cst_7, val_main_v72, val_main_v71, val_main_v70, val_main_v69, val_main_v68, val_main_v67, val_main_v66,
    val_main_v65, val_main_cst_6, val_main_v64, val_main_v63, val_main_cst_5, val_main_v62, val_main_v61, val_main_cst_4,
    val_main_v60, val_main_v56, val_main_v55, val_main_v54, val_main_v53, val_main_v52, val_main_v51, val_main_v46,
    val_main_v45, FfnRow.scaled]
  simp only [mul_assoc]

/-- A context row's hidden unit. -/
theorem v87_apply (b : Fin 4) (l : Fin 256) (n : Fin 2816) :
    val_main_v87 (F := Ideal) x1 x3 x4 x5 (ix3 b l n)
      = FfnRow.hidden (fun k => val_main_v80 (F := Ideal) x1 x3 x4 (ix3 b l k)) (fun k n => x5 (ix4 3 0 k n)) n := by
  pointwise [val_main_v87, val_main_v86, val_main_call1_v5, val_main_call1_v4, val_main_call1_cst_0, val_main_call1_v3,
    val_main_call1_v2, val_main_call1_cst, val_main_call1_v1, val_main_call1_v0, val_main_v83, val_main_v82, val_main_v81,
    val_main_v48, val_main_v47, FfnRow.hidden, FfnRow.proj, Ideal.logistic]

/-- The context rows of the result. -/
theorem v94_apply (r : Fin 1024) (j : Fin 1024) :
    val_main_v94 (F := Ideal) x1 x3 x4 x5 x6 (ix2 r j)
      = FfnRow.half (fun k => x1 (ix3 ⟨r / 256, by omega⟩ ⟨r % 256, by omega⟩ k)) (fun k => x4 (ix3 3 0 k))
          (fun k => x3 (ix2 0 k)) (fun k => x3 (ix2 1 k)) (fun k => x3 (ix2 2 k))
          (fun k n => x5 (ix4 3 0 k n)) (fun n k => x6 (ix4 3 0 n k)) j := by
  pointwise [val_main_v94, val_main_v92, val_main_v91, val_main_v90, val_main_v89, val_main_v88, val_main_v85, val_main_v84,
    val_main_cst_8, val_main_v59, val_main_v58, val_main_v57, val_main_v50, val_main_v49]
  simp only [v87_apply, v80_apply]
  rfl

/-- The result's first 32768 rows are the latent ones. -/
theorem v95_latent (r : Fin 33792) (h : r.val < 32768) (j : Fin 1024) :
    val_main_v95 (F := Ideal) x0 x1 x2 x3 x4 x5 x6 (ix2 r j) = val_main_v93 (F := Ideal) x0 x2 x4 x5 x6 (ix2 ⟨r, h⟩ j) := by
  unfold val_main_v95
  rw [concatenate_pair_apply]
  refine (dif_pos h).trans (congrArg _ ?_)
  funext a; match a with | ⟨0, _⟩ => rfl | ⟨1, _⟩ => rfl

/-- The other rows are those of the context. -/
theorem v95_context (r : Fin 33792) (h : ¬ r.val < 32768) (j : Fin 1024) :
    val_main_v95 (F := Ideal) x0 x1 x2 x3 x4 x5 x6 (ix2 r j)
      = val_main_v94 (F := Ideal) x1 x3 x4 x5 x6 (ix2 ⟨r - 32768, by omega⟩ j) := by
  unfold val_main_v95
  rw [concatenate_pair_apply]
  refine (dif_neg h).trans (congrArg _ ?_)
  funext a; match a with | ⟨0, _⟩ => rfl | ⟨1, _⟩ => rfl

end Cert.Ffn30ReferenceIdeal.Rows

end
-- ==== Proof.Ffn30Host.lean ====
/-
  The operands of the half feed-forward kernel of layer 3, half 0, as its grid points see them: what each window's
  block holds, in terms of the arguments the program was launched with. The first 64 points work on the latent rows, 16
  to a sequence; the last two on the context rows, which share one block of modulations.
-/
module

public import proofs.«01_k».proof.Proof.Gen.Ffn30Ideal.Value
public import Idealize.ShloMosaic.Lib.Pointwise

@[expose] public section

set_option maxRecDepth 16384

noncomputable section

namespace Cert.Ffn30Ideal.Host

open Cert.Ffn30Ideal Cert.Ffn30Ideal.Gen Idealize.ShloMosaic Idealize.ShloMosaic.TcCoe Idealize.SL.Sem

/-- The block indices of the windows that move, and of the two that stand at layer 3, half 0. -/
theorem index_facts : ∀ t : Fin grid0.N,
    (win0_0.index t 0 = t.val ∧ win0_0.index t 1 = 0)
    ∧ (win0_1.index t 0 = min (t.val / 16) 4 ∧ win0_1.index t 1 = 0 ∧ win0_1.index t 2 = 0)
    ∧ (win0_2.index t 0 = 0 ∧ win0_2.index t 1 = 0)
    ∧ (win0_3.index t 0 = 3 ∧ win0_3.index t 1 = 0 ∧ win0_3.index t 2 = 0 ∧ win0_3.index t 3 = 0)
    ∧ (win0_4.index t 0 = 3 ∧ win0_4.index t 1 = 0 ∧ win0_4.index t 2 = 0 ∧ win0_4.index t 3 = 0)
    ∧ (win0_5.index t 0 = t.val ∧ win0_5.index t 1 = 0) := by decide +kernel

theorem t_lt (t : Fin cfg0.N) : t.val < 66 := by have h := t.isLt; have hN : cfg0.N = 66 := N_0; omega

variable (m : (ℓ : Loc nD τ sig) → Buf (Elt Ideal) ℓ) (c : Dev nD)

/-- A row below 32768 is a latent row. -/
theorem rows_latent (A : Vec Ideal S4x8192x1024 .f32) (B : Vec Ideal S1024x1024 .f32) (r : Fin 33792) (h : r.val < 32768) (k : Fin 1024) :
    concatenate S33792x1024 0 [⟨S32768x1024, shapeCast S32768x1024 A shapeCasts_S4x8192x1024_S32768x1024⟩, ⟨S1024x1024, B⟩]
      concatenates_S32768x1024_S1024x1024_S33792x1024_d0 (ix2 r k) = A (ix3 ⟨r / 8192, by omega⟩ ⟨r % 8192, by omega⟩ k) := by
  rw [concatenate_pair_apply]
  refine (dif_pos h).trans ?_
  pointwise

/-- The other rows are those of the context. -/
theorem rows_context (A : Vec Ideal S32768x1024 .f32) (B : Vec Ideal S4x256x1024 .f32) (r : Fin 33792) (h : ¬ r.val < 32768) (k : Fin 1024) :
    concatenate S33792x1024 0 [⟨S32768x1024, A⟩, ⟨S1024x1024, shapeCast S1024x1024 B shapeCasts_S4x256x1024_S1024x1024⟩]
      concatenates_S32768x1024_S1024x1024_S33792x1024_d0 (ix2 r k) = B (ix3 ⟨(r - 32768) / 256, by omega⟩ ⟨(r - 32768) % 256, by omega⟩ k) := by
  rw [concatenate_pair_apply]
  refine (dif_neg h).trans ?_
  pointwise

/-- One of the first four blocks of modulations is the sequence's own. -/
theorem mods_latent (A : Vec Ideal S4x9x1024 .f32) (B : Vec Ideal S1x9x1024 .f32) (C : Vec Ideal S3x9x1024 .f32) (b : Fin 8)
    (h : b.val < 4) (n : Fin 9) (k : Fin 1024) :
    concatenate S8x9x1024 0 [⟨S4x9x1024, A⟩, ⟨S1x9x1024, B⟩, ⟨S3x9x1024, C⟩]
      concatenates_S4x9x1024_S1x9x1024_S3x9x1024_S8x9x1024_d0 (ix3 b n k) = A (ix3 ⟨b, h⟩ n k) := by
  pointwise
  rw [dif_pos h]

/-- The fifth is that of the context. -/
theorem mods_context (A : Vec Ideal S4x9x1024 .f32) (B : Vec Ideal S9x1024 .f32) (C : Vec Ideal S3x9x1024 .f32) (n : Fin 9) (k : Fin 1024) :
    concatenate S8x9x1024 0 [⟨S4x9x1024, A⟩, ⟨S1x9x1024, broadcastInDim S1x9x1024 ![1, 2] bcast_S9x1024_S1x9x1024_1_2 B⟩, ⟨S3x9x1024, C⟩]
      concatenates_S4x9x1024_S1x9x1024_S3x9x1024_S8x9x1024_d0 (ix3 4 n k) = B (ix2 n k) := by
  pointwise

theorem V_v2 : V m c main_v2 = concatenate S33792x1024 0 [⟨S32768x1024, shapeCast S32768x1024 (m ((c : Thread nD τ).loc main_arg0)) shapeCasts_S4x8192x1024_S32768x1024⟩, ⟨S1024x1024, shapeCast S1024x1024 (m ((c : Thread nD τ).loc main_arg1)) shapeCasts_S4x256x1024_S1024x1024⟩] concatenates_S32768x1024_S1024x1024_S33792x1024_d0 := by
  unfold_abbrev_sides
  after_results
  rfl

theorem V_v5 : V m c main_v5 = concatenate S8x9x1024 0 [⟨S4x9x1024, m ((c : Thread nD τ).loc main_arg2)⟩, ⟨S1x9x1024, broadcastInDim S1x9x1024 ![1, 2] bcast_S9x1024_S1x9x1024_1_2 (m ((c : Thread nD τ).loc main_arg3))⟩, ⟨S3x9x1024, broadcastInDim S3x9x1024 ![] bcast_S_S3x9x1024 (constant (F := Ideal) S_ .f32 0x00000000#32)⟩] concatenates_S4x9x1024_S1x9x1024_S3x9x1024_S8x9x1024_d0 := by
  unfold_abbrev_sides
  after_results
  rfl

theorem V_v8 (k : Fin 1024) : V m c main_v8 (ix2 0 k) = m ((c : Thread nD τ).loc main_arg4) (ix3 3 0 k) := by
  have e : V m c main_v8 = broadcastInDim S1x1024 ![1] bcast_S1024_S1x1024_1 (shapeCast S1024 (extractStridedSlice S1x1x1024 ![3, 0, 0] (m ((c : Thread nD τ).loc main_arg4)) slices_S4x3x1024_S1x1x1024_3_0_0) shapeCasts_S1x1x1024_S1024) := by
    unfold_abbrev_sides
    after_results
    rfl
  rw [e]
  pointwise

theorem V_v9 : V m c main_v9 = m ((c : Thread nD τ).loc main_arg5) := by
  unfold_abbrev_sides
  after_results
  rfl

theorem V_v10 : V m c main_v10 = m ((c : Thread nD τ).loc main_arg6) := by
  unfold_abbrev_sides
  after_results
  rfl

theorem iblk0 (t : Fin cfg0.N) (p : Fin 512) (k : Fin 1024) :
    iblk m c 0 t (ix2 p k) = V m c main_v2 (ix2 ⟨t.val * 512 + p.val, by have := t_lt t; omega⟩ k) := by
  refine congrArg (V m c main_v2) (funext fun a => Fin.ext ?_)
  have e := (index_facts t).1
  match a with
  | ⟨0, _⟩ => show win0_0.index t 0 * 512 + 1 * p.val = t.val * 512 + p.val; rw [e.1]; omega
  | ⟨1, _⟩ => show win0_0.index t 1 * 1024 + 1 * k.val = k.val; rw [e.2]; omega

theorem iblk1 (t : Fin cfg0.N) (n : Fin 9) (k : Fin 1024) :
    iblk m c 1 t (ix3 0 n k) = V m c main_v5 (ix3 ⟨min (t.val / 16) 4, by omega⟩ n k) := by
  refine congrArg (V m c main_v5) (funext fun a => Fin.ext ?_)
  have e := (index_facts t).2.1
  match a with
  | ⟨0, _⟩ => show win0_1.index t 0 * 1 + 1 * 0 = min (t.val / 16) 4; rw [e.1]; omega
  | ⟨1, _⟩ => show win0_1.index t 1 * 9 + 1 * n.val = n.val; rw [e.2.1]; omega
  | ⟨2, _⟩ => show win0_1.index t 2 * 1024 + 1 * k.val = k.val; rw [e.2.2]; omega

theorem iblk2 (t : Fin cfg0.N) (k : Fin 1024) : iblk m c 2 t (ix2 0 k) = V m c main_v8 (ix2 0 k) := by
  refine congrArg (V m c main_v8) (funext fun a => Fin.ext ?_)
  have e := (index_facts t).2.2.1
  match a with
  | ⟨0, _⟩ => show win0_2.index t 0 * 1 + 1 * 0 = 0; rw [e.1]
  | ⟨1, _⟩ => show win0_2.index t 1 * 1024 + 1 * k.val = k.val; rw [e.2]; omega

theorem iblk3 (t : Fin cfg0.N) (k : Fin 1024) (n : Fin 5632) :
    iblk m c 3 t (ix4 0 0 k n) = V m c main_v9 (ix4 3 0 k n) := by
  refine congrArg (V m c main_v9) (funext fun a => Fin.ext ?_)
  have e := (index_facts t).2.2.2.1
  match a with
  | ⟨0, _⟩ => show win0_3.index t 0 * 1 + 1 * 0 = 3; rw [e.1]
  | ⟨1, _⟩ => show win0_3.index t 1 * 1 + 1 * 0 = 0; rw [e.2.1]
  | ⟨2, _⟩ => show win0_3.index t 2 * 1024 + 1 * k.val = k.val; rw [e.2.2.1]; omega
  | ⟨3, _⟩ => show win0_3.index t 3 * 5632 + 1 * n.val = n.val; rw [e.2.2.2]; omega

theorem iblk4 (t : Fin cfg0.N) (n : Fin 2816) (k : Fin 1024) :
    iblk m c 4 t (ix4 0 0 n k) = V m c main_v10 (ix4 3 0 n k) := by
  refine congrArg (V m c main_v10) (funext fun a => Fin.ext ?_)
  have e := (index_facts t).2.2.2.2.1
  match a with
  | ⟨0, _⟩ => show win0_4.index t 0 * 1 + 1 * 0 = 3; rw [e.1]
  | ⟨1, _⟩ => show win0_4.index t 1 * 1 + 1 * 0 = 0; rw [e.2.1]
  | ⟨2, _⟩ => show win0_4.index t 2 * 2816 + 1 * n.val = n.val; rw [e.2.2.1]; omega
  | ⟨3, _⟩ => show win0_4.index t 3 * 1024 + 1 * k.val = k.val; rw [e.2.2.2]; omega

/-- The row a latent point reads. -/
theorem row_latent (t : Fin cfg0.N) (ht : t.val < 64) (p : Fin 512) (k : Fin 1024) :
    iblk m c 0 t (ix2 p k) = m ((c : Thread nD τ).loc main_arg0)
      (ix3 ⟨(t.val * 512 + p.val) / 8192, by omega⟩ ⟨(t.val * 512 + p.val) % 8192, by omega⟩ k) := by
  rw [iblk0, V_v2]
  exact rows_latent _ _ ⟨t.val * 512 + p.val, by omega⟩ (by show t.val * 512 + p.val < 32768; omega) k

/-- The row a context point reads. -/
theorem row_context (t : Fin cfg0.N) (ht : ¬ t.val < 64) (p : Fin 512) (k : Fin 1024) :
    iblk m c 0 t (ix2 p k) = m ((c : Thread nD τ).loc main_arg1)
      (ix3 ⟨(t.val * 512 + p.val - 32768) / 256, by have := t_lt t; omega⟩ ⟨(t.val * 512 + p.val - 32768) % 256, by omega⟩ k) := by
  have := t_lt t
  rw [iblk0, V_v2]
  exact rows_context _ _ ⟨t.val * 512 + p.val, by omega⟩ (by show ¬ t.val * 512 + p.val < 32768; omega) k

/-- The modulations a latent point reads. -/
theorem mod_latent (t : Fin cfg0.N) (ht : t.val < 64) (p : Fin 512) (n : Fin 9) (k : Fin 1024) :
    iblk m c 1 t (ix3 0 n k) = m ((c : Thread nD τ).loc main_arg2) (ix3 ⟨(t.val * 512 + p.val) / 8192, by omega⟩ n k) := by
  have e : (⟨min (t.val / 16) 4, by omega⟩ : Fin 8) = ⟨(t.val * 512 + p.val) / 8192, by omega⟩ :=
    Fin.ext (by show min (t.val / 16) 4 = (t.val * 512 + p.val) / 8192; omega)
  rw [iblk1, V_v5, e]
  exact mods_latent _ _ _ ⟨(t.val * 512 + p.val) / 8192, by omega⟩ (by show (t.val * 512 + p.val) / 8192 < 4; omega) n k

/-- The modulations a context point reads. -/
theorem mod_context (t : Fin cfg0.N) (ht : ¬ t.val < 64) (n : Fin 9) (k : Fin 1024) :
    iblk m c 1 t (ix3 0 n k) = m ((c : Thread nD τ).loc main_arg3) (ix2 n k) := by
  have e : (⟨min (t.val / 16) 4, by omega⟩ : Fin 8) = 4 := Fin.ext (by show min (t.val / 16) 4 = 4; omega)
  rw [iblk1, V_v5, e]
  exact mods_context _ _ _ n k

end Cert.Ffn30Ideal.Host

end
-- ==== Proof.Ffn30Claim.lean ====
/-
  The half feed-forward program of layer 3, half 0, and its reference leave the same array: every row of either is
  `FfnRow.half` of the same row of the arguments, the latent rows under their sequence's modulations and the context rows
  under the context's.
-/
module

public import proofs.«01_k».proof.Defs
public import proofs.«01_k».proof.Proof.Ffn30Body
public import proofs.«01_k».proof.Proof.Ffn30Ref
public import proofs.«01_k».proof.Proof.Ffn30Host
public import proofs.«01_k».proof.Proof.Gen.Ffn30ReferenceIdeal.Run
public import Idealize.ShloMosaic.Lib.Quiescent

@[expose] public section

set_option maxRecDepth 16384

noncomputable section

namespace Cert.Ffn30Ideal.Whole

open Cert.Ffn30Ideal Cert.Ffn30Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The whole result as one function of the arguments. -/
def G : Vec Ideal S33792x1024 .f32 :=
  fun i => Ffn30ReferenceIdeal.Read.val_main_v95 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) i

theorem block_apply (t : Fin cfg0.N) (p : Fin 512) (j : Fin 1024) :
    out0_5 (F := Ideal) (iblk m c 0 t) (iblk m c 1 t) (iblk m c 2 t) (iblk m c 3 t) (iblk m c 4 t) (ix2 p j)
      = G m c (ix2 ⟨t.val * 512 + p.val, by have := Host.t_lt t; omega⟩ j) := by
  have hlt := Host.t_lt t
  have e2 := Host.V_v8 m c
  by_cases ht : t.val < 64
  · rw [Body.out_apply, G, Ffn30ReferenceIdeal.Rows.v95_latent _ _ _ _ _ _ _ _ (by show t.val * 512 + p.val < 32768; omega),
      Ffn30ReferenceIdeal.Rows.v93_apply]
    simp only [Host.row_latent m c t ht, Host.mod_latent m c t ht p, Host.iblk2, Host.iblk3, Host.iblk4, e2]
    rw [Host.V_v9, Host.V_v10]
  · rw [Body.out_apply, G, Ffn30ReferenceIdeal.Rows.v95_context _ _ _ _ _ _ _ _ (by show ¬ t.val * 512 + p.val < 32768; omega),
      Ffn30ReferenceIdeal.Rows.v94_apply]
    simp only [Host.row_context m c t ht, Host.mod_context m c t ht, Host.iblk2, Host.iblk3, Host.iblk4, e2]
    rw [Host.V_v9, Host.V_v10]

theorem flushed_eq (t : Fin cfg0.N) : (dats m 0 c).flushed 5 t = ((cfg0.win 5).blk t).view.read (Elt Ideal) (G m c) := by
  rw [Value.flushed5]
  have ht := Host.t_lt t
  have key : ∀ y : S512x1024.Idx, out0_5 (F := Ideal) (iblk m c 0 t) (iblk m c 1 t) (iblk m c 2 t) (iblk m c 3 t) (iblk m c 4 t) y
      = G m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block_apply m c t (y 0) (y 1)
  funext y
  refine (key y).trans (congrArg (G m c) (funext fun a => Fin.ext ?_))
  have e := (Host.index_facts t).2.2.2.2.2
  match a with
  | ⟨0, _⟩ => show t.val * 512 + (y 0).val = win0_5.index t 0 * 512 + 1 * (y 0).val; rw [e.1]; omega
  | ⟨1, _⟩ => show (y 1).val = win0_5.index t 1 * 1024 + 1 * (y 1).val; rw [e.2]; omega

theorem mem_blk (t : Fin cfg0.N) (i : S33792x1024.Idx) : i ∈ ((cfg0.win 5).blk t).view.set ↔
    ∀ a, win0_5.index t a * win0_5.size a ≤ (i a).val ∧ (i a).val < win0_5.index t a * win0_5.size a + win0_5.xsize (grid0.coords t) a := by
  show i ∈ ((View.whole main_v11).slice (win0_5.rect t)).set ↔ _
  rw [View.set_slice_whole, Rect.mem_set_unit]

theorem cover (i : S33792x1024.Idx) : ∃ t : Fin cfg0.N, (cfg0.win 5).flush t = true ∧ i ∈ ((cfg0.win 5).blk t).view.set := by
  have h0 : (i 0).val < 33792 := (i 0).isLt
  have h1 : (i 1).val < 1024 := (i 1).isLt
  have hN : cfg0.N = 66 := N_0
  have hlt : (i 0).val / 512 < cfg0.N := by omega
  refine ⟨⟨(i 0).val / 512, hlt⟩, flush0_5 _, (mem_blk _ i).2 fun a => ?_⟩
  have e := (Host.index_facts ⟨(i 0).val / 512, hlt⟩).2.2.2.2.2
  match a with
  | ⟨0, _⟩ =>
    show win0_5.index _ 0 * 512 ≤ (i 0).val ∧ (i 0).val < win0_5.index _ 0 * 512 + 512
    rw [e.1]; show (i 0).val / 512 * 512 ≤ (i 0).val ∧ (i 0).val < (i 0).val / 512 * 512 + 512; omega
  | ⟨1, _⟩ =>
    show win0_5.index _ 1 * 1024 ≤ (i 1).val ∧ (i 1).val < win0_5.index _ 1 * 1024 + 1024
    rw [e.2]; omega

theorem final : (dats m 0 c).arrAt 5 cfg0.N = G m c :=
  (dats m 0 c).arrAt_eq_of_cover 5 (G m c) (fun t _ => flushed_eq m c t) cover

/-- The value claim of this half feed-forward program. -/
theorem agrees : @Cert.algebraic_Ffn30Ideal_Ffn30ReferenceIdeal Cert.Ffn30Ideal.Gen.facts Cert.Ffn30ReferenceIdeal.Gen.facts := by
  intro m ρ m' ρ' _ hagree
  refine ⟨fun c => G m c, ?_, ?_⟩
  · exact (θ_run Cert.Ffn30Ideal.defs _ _).mono (fun _ h c => ⟨(h c).1.trans (final m c), (h c).2⟩) (Value.run_blocks m ρ)
  · refine (θ_run Cert.Ffn30ReferenceIdeal.defs _ _).mono (fun _ h c => ⟨(h c).1.trans ?_, (h c).2⟩) (Cert.Ffn30ReferenceIdeal.Value.run (F := Ideal) m' ρ')
    obtain ⟨a0, a1, a2, a3, a4, a5, a6⟩ := hagree c
    rw [Ffn30ReferenceIdeal.Read.val_main_v95_eq, a0, a1, a2, a3, a4, a5, a6]
    rfl

/-- The reference keeps its arguments and leaves no semaphore raised. -/
theorem reference_frame : @Cert.quiescent_Ffn30ReferenceIdeal Cert.Ffn30ReferenceIdeal.Gen.facts := fun m ρ _ =>
  (θ_run Cert.Ffn30ReferenceIdeal.defs _ _).mono
    (fun r h => ⟨fun c => (h c).2, sem_eq_zero_of_no_sems (by decide) r.2⟩) (Cert.Ffn30ReferenceIdeal.Value.run (F := Ideal) m ρ)

end Cert.Ffn30Ideal.Whole

end
-- ==== Proof.AbRow.lean ====
/-
  The mathematics of one row of the retention mixer's input projection, on extended reals: the two programs of this
  directory that compute it are both read down to these definitions, one row of the activations at a time.

  `proj` is one column of the projection. The queries and keys have six heads of 64 channels, each of 32 pairs; `rotated`
  turns a row of 384 such channels by the cosines and sines of its position and writes, head by head, the pairs' first
  members and then their second ones. The kernel meets the channels in that order already, because the columns of its
  weights were put so (`col`), and turns 128 channels at once with a table as wide (`turned`).
-/
module

public import Idealize.ShloMosaic.Lib.Pointwise

@[expose] public section

noncomputable section

namespace Cert.AbRow

open Idealize.ShloMosaic

/-- One column of the projection. -/
def proj (h : Fin 1024 → EReal) (w : Fin 1024 → Fin 2560 → EReal) (n : Fin 2560) : EReal := ∑ k, h k * w k n

/-- The channel that stands at place `c` once a head's pairs are split into first and second members. -/
def col (c : Fin 384) : Fin 384 := ⟨c.val / 64 * 64 + 2 * (c.val % 32) + c.val % 64 / 32, by omega⟩

/-- The channels in the kernel's order, turned with tables of cosines and signed sines, one lane of 128 each. -/
def turned (X : Fin 384 → EReal) (C S : Fin 128 → EReal) (c : Fin 384) : EReal :=
  X c * C ⟨c.val % 128, by omega⟩
    + (if c.val % 64 < 32 then X ⟨(c.val + 32) % 384, by omega⟩ else X ⟨(c.val + 352) % 384, by omega⟩) * S ⟨c.val % 128, by omega⟩

/-- A row of channels turned pair by pair, then put in the kernel's order. -/
def rotated (x : Fin 384 → EReal) (cos sin : Fin 32 → EReal) (c : Fin 384) : EReal :=
  if c.val % 64 < 32 then
    x ⟨c.val / 64 * 64 + 2 * (c.val % 32), by omega⟩ * cos ⟨c.val % 32, by omega⟩
      - x ⟨c.val / 64 * 64 + 2 * (c.val % 32) + 1, by omega⟩ * sin ⟨c.val % 32, by omega⟩
  else
    x ⟨c.val / 64 * 64 + 2 * (c.val % 32), by omega⟩ * sin ⟨c.val % 32, by omega⟩
      + x ⟨c.val / 64 * 64 + 2 * (c.val % 32) + 1, by omega⟩ * cos ⟨c.val % 32, by omega⟩

/-- With tables that repeat the cosines and the signed sines the two turn alike. -/
theorem turned_table (x : Fin 384 → EReal) (cos sin : Fin 32 → EReal) (C S : Fin 128 → EReal)
    (hC : ∀ n : Fin 128, C n = cos ⟨n.val % 32, by omega⟩)
    (hS : ∀ n : Fin 128, S n = if n.val % 64 < 32 then -sin ⟨n.val % 32, by omega⟩ else sin ⟨n.val % 32, by omega⟩) (c : Fin 384) :
    turned (fun c => x (col c)) C S c = rotated x cos sin c := by
  have e : (⟨c.val % 128 % 32, by omega⟩ : Fin 32) = ⟨c.val % 32, by omega⟩ := Fin.ext (by show c.val % 128 % 32 = c.val % 32; omega)
  unfold turned rotated
  rw [hC, hS]
  simp only [e, show c.val % 128 % 64 = c.val % 64 by omega]
  by_cases h : c.val % 64 < 32
  · simp only [h, if_true, col]
    rw [mul_neg, ← sub_eq_add_neg]
    congr 4 <;> omega
  · simp only [h, if_false, col]
    rw [add_comm]
    congr 4 <;> omega

/-- With ones for cosines and zeros for sines nothing turns. -/
theorem turned_still (X : Fin 384 → EReal) (C S : Fin 128 → EReal) (hC : ∀ n, C n = 1) (hS : ∀ n, S n = 0) (c : Fin 384) :
    turned X C S c = X c := by
  unfold turned
  rw [hC, hS, mul_one, mul_zero, add_zero]

/-- The scale of the keys is a positive number. -/
theorem scale_eq : Ideal.ofBits FTy.f32 0x3E000000#32 = ((1 / 8 : ℝ) : EReal) := by
  simp [Ideal.ofBits, Ideal.ieee, BitVec.toNat, BitVec.toInt]
  rw [← EReal.coe_mul]
  norm_num

/-- A scale on the weights of a column is one on the column. -/
theorem sum_scaled (h w : Fin 1024 → EReal) :
    ∑ k, h k * (w k * Ideal.ofBits FTy.f32 0x3E000000#32) = (∑ k, h k * w k) * Ideal.ofBits FTy.f32 0x3E000000#32 := by
  rw [scale_eq]
  have hp : (0 : EReal) ≤ ((1 / 8 : ℝ) : EReal) := by exact_mod_cast (by norm_num : (0 : ℝ) ≤ 1 / 8)
  have step : ∀ s : Finset (Fin 1024),
      ∑ k ∈ s, h k * (w k * ((1 / 8 : ℝ) : EReal)) = (∑ k ∈ s, h k * w k) * ((1 / 8 : ℝ) : EReal) := by
    intro s
    induction s using Finset.induction_on with
    | empty => simp
    | insert a s ha ih =>
      rw [Finset.sum_insert ha, Finset.sum_insert ha, ih, EReal.right_distrib_of_nonneg_of_ne_top hp (EReal.coe_ne_top _), mul_assoc]
  exact step _

end Cert.AbRow

end
-- ==== Proof.AbIn0Body.lean ====
/-
  What one grid point of the retention mixer's input projection of layer 0 writes, at an index of its five blocks: every
  block is columns of `AbRow.proj` of the modulated rows, and those of the queries and keys are turned, 128 channels at a
  time, with the blocks of the two tables (`AbRow.turned`).
-/
module

public import proofs.«01_k».proof.Proof.Gen.AbIn0Ideal.Value
public import proofs.«01_k».proof.Proof.FfnRow
public import proofs.«01_k».proof.Proof.AbRow

@[expose] public section

set_option maxRecDepth 16384

noncomputable section

namespace Cert.AbIn0Ideal.Body

open Cert.AbIn0Ideal Cert.AbIn0Ideal.Gen Idealize.ShloMosaic

/-- One column of the projection of one row of a block, from the blocks of the activations, the modulations, the gain
    and the weights. -/
def column (x0 : Vec Ideal S512x1024 .f32) (x1 : Vec Ideal S1x9x1024 .f32) (x2 : Vec Ideal S1x1024 .f32) (x3 : Vec Ideal S1024x2560 .bf16)
    (p : Fin 512) : Fin 2560 → EReal :=
  AbRow.proj (FfnRow.scaled (fun k => x0 (ix2 p k)) (fun k => x2 (ix2 0 k)) (fun k => x1 (ix3 0 3 k)) (fun k => x1 (ix3 0 4 k)))
    (fun k n => x3 (ix2 k n))

variable (x0 : Vec Ideal S512x1024 .f32) (x1 : Vec Ideal S1x9x1024 .f32) (x2 : Vec Ideal S1x1024 .f32)
  (x3 : Vec Ideal S1024x2560 .bf16) (x4 x5 : Vec Ideal S512x128 .f32)

/-- The whole projection. -/
theorem pay23_apply (p : Fin 512) (n : Fin 2560) : k0_pay23 (F := Ideal) x0 x1 x2 x3 x4 x5 (ix2 p n) = column x0 x1 x2 x3 p n := by
  unfold k0_pay23
  pointwise [k0_pay4]
  rfl

theorem pay24_apply (p : Fin 512) (n : Fin 128) : k0_pay24 (F := Ideal) x0 x1 x2 x3 x4 x5 (ix2 p n) = x4 (ix2 p n) := by
  unfold k0_pay24
  pointwise [k0_pay6]

theorem pay25_apply (p : Fin 512) (n : Fin 128) : k0_pay25 (F := Ideal) x0 x1 x2 x3 x4 x5 (ix2 p n) = x5 (ix2 p n) := by
  unfold k0_pay25
  pointwise [k0_pay7]

/-- Whether a lane holds a pair's first member: its number modulo 64 is below 32. -/
def lane : IVec S512x128 1 :=
  have a : IVec S512x128 32 := remsi (iota .tc S512x128 32 [1] iota_S512x128_d1_w32) (broadcast S512x128 (Scalar.select (Scalar.cmpi .eq 64#32 0#32) 1#32 64#32))
  cmpi .slt (select (andi (xori (cmpi .slt a (broadcast S512x128 0#32))
    (broadcastTo S512x128 (broadcast S512x128 (Scalar.cmpi .slt (Scalar.select (Scalar.cmpi .eq 64#32 0#32) 1#32 64#32) 0#32)) broadcasts_S512x128_S512x128))
      (cmpi .ne a (broadcast S512x128 0#32))) (addi a (broadcast S512x128 (Scalar.select (Scalar.cmpi .eq 64#32 0#32) 1#32 64#32))) a)
    (broadcast S512x128 32#32)

/-- 128 channels turned with a block of each table. -/
def turn (x C S : FVec Ideal S512x128 .f32) : FVec Ideal S512x128 .f32 :=
  addf (mulf x C) (mulf (select lane (dynamicRotate 1 96#32 none x rotates_S512x128_d1) (dynamicRotate 1 32#32 none x rotates_S512x128_d1)) S)

theorem pay8_eq (v : FVec Ideal S512x2560 .f32) (C S : FVec Ideal S512x128 .f32) :
    k0_pay8 (F := Ideal) v C S = turn (extractStridedSlice S512x128 ![0, 256] v slices_S512x2560_o0_256_S512x128) C S := rfl

theorem pay13_eq (v : FVec Ideal S512x2560 .f32) (C S : FVec Ideal S512x128 .f32) :
    k0_pay13 (F := Ideal) C S (k0_pay9 v) (Scalar.select (Scalar.cmpi .eq 64#32 0#32) 1#32 64#32) k0_pay10 k0_pay11 k0_pay12
      = turn (extractStridedSlice S512x128 ![0, 384] v slices_S512x2560_o0_384_S512x128) C S := rfl

theorem pay14_eq (v : FVec Ideal S512x2560 .f32) (C S : FVec Ideal S512x128 .f32) :
    k0_pay14 (F := Ideal) v C S = turn (extractStridedSlice S512x128 ![0, 512] v slices_S512x2560_o0_512_S512x128) C S := rfl

theorem lane_apply (p : Fin 512) (n : Fin 128) : lane (ix2 p n) = if n.val % 64 < 32 then 1#1 else 0#1 := by
  pointwise [lane]
  revert n
  decide +kernel

theorem turn_apply (x C S : FVec Ideal S512x128 .f32) (p : Fin 512) (n : Fin 128) :
    turn x C S (ix2 p n) = x (ix2 p n) * C (ix2 p n)
      + (if n.val % 64 < 32 then x (ix2 p ⟨(n.val + 32) % 128, by omega⟩) else x (ix2 p ⟨(n.val + 96) % 128, by omega⟩)) * S (ix2 p n) := by
  pointwise [turn, lane_apply]
  by_cases h : n.val % 64 < 32
  · simp only [h, if_true]
    rfl
  · simp only [h, if_false]
    rfl

/-- 128 channels of the kernel's order, from channel `b` of 384 on, turned. -/
theorem turn_block (X : Fin 384 → EReal) (x C S : FVec Ideal S512x128 .f32) (p : Fin 512) (j : ℕ) (hj : j < 3)
    (hx : ∀ n : Fin 128, x (ix2 p n) = X ⟨128 * j + n.val, by omega⟩) (n : Fin 128) :
    turn x C S (ix2 p n) = AbRow.turned X (fun n => C (ix2 p n)) (fun n => S (ix2 p n)) ⟨128 * j + n.val, by omega⟩ := by
  rw [turn_apply]
  simp only [hx, AbRow.turned]
  have e : (⟨(128 * j + n.val) % 128, by omega⟩ : Fin 128) = n := Fin.ext (by show (128 * j + n.val) % 128 = n.val; omega)
  have e' : (128 * j + n.val) % 64 = n.val % 64 := by omega
  simp only [e, e']
  by_cases h : n.val % 64 < 32
  · simp only [h, if_true]
    congr 4; omega
  · simp only [h, if_false]
    congr 4; omega

/-- The pooled channels a grid point writes. -/
theorem out6_apply (p : Fin 512) (j : Fin 256) :
    out0_6 (F := Ideal) x0 x1 x2 x3 x4 x5 (ix2 p j) = column x0 x1 x2 x3 p ⟨j.val, by omega⟩ := by
  unfold out0_6
  rw [View.canon_unit_zero (by funext a; match a with | ⟨0, _⟩ => rfl | ⟨1, _⟩ => rfl)]
  refine Eq.trans ?_ (pay23_apply x0 x1 x2 x3 x4 x5 p ⟨j.val, by omega⟩)
  pointwise [k0_pay5]
  rfl

/-- The values. -/
theorem out9_apply (p : Fin 512) (j : Fin 768) :
    out0_9 (F := Ideal) x0 x1 x2 x3 x4 x5 (ix2 p j) = column x0 x1 x2 x3 p ⟨1024 + j.val, by omega⟩ := by
  unfold out0_9
  rw [View.canon_unit_zero (by funext a; match a with | ⟨0, _⟩ => rfl | ⟨1, _⟩ => rfl)]
  refine Eq.trans ?_ (pay23_apply x0 x1 x2 x3 x4 x5 p ⟨1024 + j.val, by omega⟩)
  pointwise [k0_pay2]

/-- The gate. -/
theorem out10_apply (p : Fin 512) (j : Fin 768) :
    out0_10 (F := Ideal) x0 x1 x2 x3 x4 x5 (ix2 p j) = column x0 x1 x2 x3 p ⟨1792 + j.val, by omega⟩ := by
  unfold out0_10
  rw [View.canon_unit_zero (by funext a; match a with | ⟨0, _⟩ => rfl | ⟨1, _⟩ => rfl)]
  refine Eq.trans ?_ (pay23_apply x0 x1 x2 x3 x4 x5 p ⟨1792 + j.val, by omega⟩)
  pointwise [k0_pay3]

/-- What one of the three stores of 128 channels each writes, at the channels it writes. -/
theorem piece (v : FVec Ideal S512x2560 .f32) (b o j : ℕ) (hb : b ≤ 640) (hj : j < 3) (ho : o = b + 128 * j) (h : S512x2560.Slices ![0, o] S512x128)
    (hv : ∀ p n, v (ix2 p n) = column x0 x1 x2 x3 p n) (C S : FVec Ideal S512x128 .f32)
    (hC : ∀ p n, C (ix2 p n) = x4 (ix2 p n)) (hS : ∀ p n, S (ix2 p n) = x5 (ix2 p n)) (p : Fin 512) (n : Fin 128) :
    turn (extractStridedSlice S512x128 ![0, o] v h) C S (ix2 p n)
      = AbRow.turned (fun c => column x0 x1 x2 x3 p ⟨b + c.val, by omega⟩) (fun n => x4 (ix2 p n)) (fun n => x5 (ix2 p n)) ⟨128 * j + n.val, by omega⟩ := by
  simp only [← hC, ← hS]
  refine turn_block _ _ _ _ _ j hj (fun n => ?_) n
  refine Eq.trans ?_ (hv p ⟨b + (128 * j + n.val), by omega⟩)
  refine congrArg v (funext fun a => Fin.ext ?_)
  match a with
  | ⟨0, _⟩ => show 0 + p.val = p.val; omega
  | ⟨1, _⟩ => show o + n.val = b + (128 * j + n.val); omega

/-- The queries of a grid point's block. -/
def queries : Vec Ideal S512x384 .bf16 := fun y =>
  AbRow.turned (fun c => column x0 x1 x2 x3 (y 0) ⟨256 + c.val, by omega⟩) (fun n => x4 (ix2 (y 0) n)) (fun n => x5 (ix2 (y 0) n)) (y 1)

/-- The keys of a grid point's block, a column to a row of the activations. -/
def keys : Vec Ideal S1x384x512 .bf16 := fun y =>
  AbRow.turned (fun c => column x0 x1 x2 x3 (y 2) ⟨640 + c.val, by omega⟩) (fun n => x4 (ix2 (y 2) n)) (fun n => x5 (ix2 (y 2) n)) (y 1)

/-- A store of 128 channels of the queries. -/
theorem queries_piece (j : ℕ) (hj : j < 3) (h : S512x2560.Slices ![0, 256 + 128 * j] S512x128) (x : S512x128.Idx) :
    turn (extractStridedSlice S512x128 ![0, 256 + 128 * j] (k0_pay23 (F := Ideal) x0 x1 x2 x3 x4 x5) h)
      (k0_pay24 x0 x1 x2 x3 x4 x5) (k0_pay25 x0 x1 x2 x3 x4 x5) x
      = queries x0 x1 x2 x3 x4 x5 (ix2 (x 0) ⟨128 * j + (x 1).val, by have : (x 1).val < 128 := (x 1).isLt; omega⟩) := by
  rw [show x = ix2 (x 0) (x 1) by funext a; match a with | ⟨0, _⟩ => rfl | ⟨1, _⟩ => rfl]
  exact piece x0 x1 x2 x3 x4 x5 _ 256 _ j (by omega) hj rfl h (pay23_apply x0 x1 x2 x3 x4 x5) _ _ (pay24_apply x0 x1 x2 x3 x4 x5)
    (pay25_apply x0 x1 x2 x3 x4 x5) (x 0) (x 1)

theorem out7_eq : out0_7 (F := Ideal) x0 x1 x2 x3 x4 x5 = queries x0 x1 x2 x3 x4 x5 := by
  funext y
  unfold out0_7
  rw [pay8_eq, pay13_eq, pay14_eq]
  refine View.canon_apply_of_pieces (queries x0 x1 x2 x3 x4 x5) _ (fun pc hpc x => ?_) y (cover0_7 _ _ _ y)
  simp only [List.mem_cons, List.mem_nil_iff, or_false] at hpc
  rcases hpc with rfl | rfl | rfl
  · refine (queries_piece x0 x1 x2 x3 x4 x5 2 (by omega) slices_S512x2560_o0_512_S512x128 x).trans (congrArg _ (funext fun a => Fin.ext ?_))
    match a with
    | ⟨0, _⟩ => show (x 0).val = 0 + 1 * (x 0).val; omega
    | ⟨1, _⟩ => show 128 * 2 + (x 1).val = 256 + 1 * (x 1).val; omega
  · refine (queries_piece x0 x1 x2 x3 x4 x5 1 (by omega) slices_S512x2560_o0_384_S512x128 x).trans (congrArg _ (funext fun a => Fin.ext ?_))
    match a with
    | ⟨0, _⟩ => show (x 0).val = 0 + 1 * (x 0).val; omega
    | ⟨1, _⟩ => show 128 * 1 + (x 1).val = 128 + 1 * (x 1).val; omega
  · refine (queries_piece x0 x1 x2 x3 x4 x5 0 (by omega) slices_S512x2560_o0_256_S512x128 x).trans (congrArg _ (funext fun a => Fin.ext ?_))
    match a with
    | ⟨0, _⟩ => show (x 0).val = 0 + 1 * (x 0).val; omega
    | ⟨1, _⟩ => show 128 * 0 + (x 1).val = 0 + 1 * (x 1).val; omega

/-- 128 channels of keys, transposed as they are stored. -/
def tile (x : FVec Ideal S512x128 .f32) : FVec Ideal S1x128x512 .bf16 :=
  shapeCast S1x128x512 (truncf .bf16 (transpose S128x512 [1, 0] x transposes_S512x128_p1_0_S128x512) bitsLt_bf16_f32) shapeCasts_S128x512_S1x128x512

theorem tile_apply (x : FVec Ideal S512x128 .f32) (u : Fin 1) (n : Fin 128) (p : Fin 512) : tile x (ix3 u n p) = x (ix2 p n) := by
  pointwise [tile]

theorem pay15_eq (v : FVec Ideal S512x2560 .f32) (C S : FVec Ideal S512x128 .f32) :
    k0_pay15 (F := Ideal) v C S = tile (turn (extractStridedSlice S512x128 ![0, 640] v slices_S512x2560_o0_640_S512x128) C S) := rfl

theorem pay20_eq (v : FVec Ideal S512x2560 .f32) (C S : FVec Ideal S512x128 .f32) :
    k0_pay20 (F := Ideal) C S (k0_pay16 v) (Scalar.select (Scalar.cmpi .eq 64#32 0#32) 1#32 64#32) k0_pay17 k0_pay18 k0_pay19 0#32
      = tile (turn (extractStridedSlice S512x128 ![0, 768] v slices_S512x2560_o0_768_S512x128) C S) := rfl

theorem pay1_eq (v : FVec Ideal S512x2560 .f32) (C S : FVec Ideal S512x128 .f32) :
    k0_pay1 (F := Ideal) C S (k0_pay21 v) (k0_pay22 v)
      = tile (turn (extractStridedSlice S512x128 ![0, 896] v slices_S512x2560_o0_896_S512x128) C S) := rfl

/-- A store of 128 channels of the keys. -/
theorem keys_piece (j : ℕ) (hj : j < 3) (h : S512x2560.Slices ![0, 640 + 128 * j] S512x128) (x : S1x128x512.Idx) :
    tile (turn (extractStridedSlice S512x128 ![0, 640 + 128 * j] (k0_pay23 (F := Ideal) x0 x1 x2 x3 x4 x5) h)
      (k0_pay24 x0 x1 x2 x3 x4 x5) (k0_pay25 x0 x1 x2 x3 x4 x5)) x
      = keys x0 x1 x2 x3 x4 x5 (ix3 (x 0) ⟨128 * j + (x 1).val, by have : (x 1).val < 128 := (x 1).isLt; omega⟩ (x 2)) := by
  rw [show x = ix3 (x 0) (x 1) (x 2) by funext a; match a with | ⟨0, _⟩ => rfl | ⟨1, _⟩ => rfl | ⟨2, _⟩ => rfl]
  exact (tile_apply _ (x 0) (x 1) (x 2)).trans
    (piece x0 x1 x2 x3 x4 x5 _ 640 _ j (by omega) hj rfl h (pay23_apply x0 x1 x2 x3 x4 x5) _ _ (pay24_apply x0 x1 x2 x3 x4 x5)
      (pay25_apply x0 x1 x2 x3 x4 x5) (x 2) (x 1))

theorem out8_eq : out0_8 (F := Ideal) x0 x1 x2 x3 x4 x5 = keys x0 x1 x2 x3 x4 x5 := by
  funext y
  unfold out0_8
  rw [pay15_eq, pay20_eq, pay1_eq]
  refine View.canon_apply_of_pieces (keys x0 x1 x2 x3 x4 x5) _ (fun pc hpc x => ?_) y (cover0_8 _ _ _ y)
  simp only [List.mem_cons, List.mem_nil_iff, or_false] at hpc
  rcases hpc with rfl | rfl | rfl
  · refine (keys_piece x0 x1 x2 x3 x4 x5 2 (by omega) slices_S512x2560_o0_896_S512x128 x).trans (congrArg _ (funext fun a => Fin.ext ?_))
    match a with
    | ⟨0, _⟩ => show (x 0).val = 0 + 1 * (x 0).val; omega
    | ⟨1, _⟩ => show 128 * 2 + (x 1).val = 256 + 1 * (x 1).val; omega
    | ⟨2, _⟩ => show (x 2).val = 0 + 1 * (x 2).val; omega
  · refine (keys_piece x0 x1 x2 x3 x4 x5 1 (by omega) slices_S512x2560_o0_768_S512x128 x).trans (congrArg _ (funext fun a => Fin.ext ?_))
    match a with
    | ⟨0, _⟩ => show (x 0).val = 0 + 1 * (x 0).val; omega
    | ⟨1, _⟩ => show 128 * 1 + (x 1).val = 128 + 1 * (x 1).val; omega
    | ⟨2, _⟩ => show (x 2).val = 0 + 1 * (x 2).val; omega
  · refine (keys_piece x0 x1 x2 x3 x4 x5 0 (by omega) slices_S512x2560_o0_640_S512x128 x).trans (congrArg _ (funext fun a => Fin.ext ?_))
    match a with
    | ⟨0, _⟩ => show (x 0).val = 0 + 1 * (x 0).val; omega
    | ⟨1, _⟩ => show 128 * 0 + (x 1).val = 0 + 1 * (x 1).val; omega
    | ⟨2, _⟩ => show (x 2).val = 0 + 1 * (x 2).val; omega

end Cert.AbIn0Ideal.Body

end
-- ==== Proof.AbIn0Ref.lean ====
/-
  The reference of the retention mixer's input projection of layer 0, index by index: a row of every result is columns of
  `AbRow.proj` of that row of the arguments, modulated; the queries and keys of a latent row are turned by its position
  (`AbRow.rotated`), those of a context row are put in the kernel's order (`AbRow.col`).
-/
module

public import proofs.«01_k».proof.Proof.Gen.AbIn0ReferenceIdeal.Read
public import proofs.«01_k».proof.Proof.FfnRow
public import proofs.«01_k».proof.Proof.AbRow

@[expose] public section

set_option maxRecDepth 16384

noncomputable section

namespace Cert.AbIn0ReferenceIdeal.Rows

open Cert.AbIn0ReferenceIdeal Cert.AbIn0ReferenceIdeal.Gen Cert.AbIn0ReferenceIdeal.Read Idealize.ShloMosaic

variable (x0 : (⟨S4x8192x1024, .f32⟩ : BufTy).Contents (Elt Ideal)) (x1 : (⟨S4x256x1024, .f32⟩ : BufTy).Contents (Elt Ideal))
  (x2 : (⟨S4x9x1024, .f32⟩ : BufTy).Contents (Elt Ideal)) (x3 : (⟨S9x1024, .f32⟩ : BufTy).Contents (Elt Ideal))
  (x4 : (⟨S4x3x1024, .f32⟩ : BufTy).Contents (Elt Ideal)) (x5 : (⟨S2x1024x2560, .f32⟩ : BufTy).Contents (Elt Ideal))
  (x6 x7 : (⟨S8192x32, .f32⟩ : BufTy).Contents (Elt Ideal))

/-- The projection of a latent row. -/
def latent (b : Fin 4) (l : Fin 8192) : Fin 2560 → EReal :=
  AbRow.proj (FfnRow.scaled (fun k => x0 (ix3 b l k)) (fun k => x4 (ix3 0 1 k)) (fun k => x2 (ix3 b 3 k)) (fun k => x2 (ix3 b 4 k)))
    (fun k n => x5 (ix3 0 k n))

/-- The projection of a context row. -/
def context (b : Fin 4) (l : Fin 256) : Fin 2560 → EReal :=
  AbRow.proj (FfnRow.scaled (fun k => x1 (ix3 b l k)) (fun k => x4 (ix3 0 1 k)) (fun k => x3 (ix2 3 k)) (fun k => x3 (ix2 4 k)))
    (fun k n => x5 (ix3 0 k n))

theorem v26_apply (b : Fin 4) (l : Fin 8192) (j : Fin 1024) :
    val_main_v26 (F := Ideal) x0 x2 x4 (ix3 b l j)
      = FfnRow.scaled (fun k => x0 (ix3 b l k)) (fun k => x4 (ix3 0 1 k)) (fun k => x2 (ix3 b 3 k)) (fun k => x2 (ix3 b 4 k)) j := by
  pointwise [val_main_v26, val_main_v25, val_main_v24, val_main_v23, val_main_v22, val_main_v21, val_main_cst_2, val_main_v20,
    val_main_v19, val_main_v18, val_main_v17, val_main_v16, val_main_v15, val_main_v14, val_main_v13, val_main_cst_1,
    val_main_v12, val_main_v11, val_main_cst_0, val_main_v10, val_main_v9, val_main_cst, val_main_v8, val_main_v7,
    val_main_v6, val_main_v5, val_main_v4, val_main_v3, val_main_v2, val_main_v1, val_main_v0, FfnRow.scaled]
  simp only [mul_assoc]

theorem v55_apply (b : Fin 4) (l : Fin 256) (j : Fin 1024) :
    val_main_v55 (F := Ideal) x1 x3 x4 (ix3 b l j)
      = FfnRow.scaled (fun k => x1 (ix3 b l k)) (fun k => x4 (ix3 0 1 k)) (fun k => x3 (ix2 3 k)) (fun k => x3 (ix2 4 k)) j := by
  pointwise [val_main_v55, val_main_v54, val_main_v53, val_main_v52, val_main_v51, val_main_v50, val_main_v49, val_main_v48,
    val_main_cst_6, val_main_v47, val_main_v46, val_main_v45, val_main_v44, val_main_v43, val_main_v42, val_main_v41,
    val_main_v40, val_main_cst_5, val_main_v39, val_main_v38, val_main_cst_4, val_main_v37, val_main_v36, val_main_cst_3,
    val_main_v35, val_main_v34, val_main_v33, val_main_v32, val_main_v31, val_main_v30, val_main_v29, val_main_v28,
    val_main_v27, FfnRow.scaled]
  simp only [mul_assoc]

theorem v58_apply (b : Fin 4) (l : Fin 8192) (n : Fin 2560) :
    val_main_v58 (F := Ideal) x0 x2 x4 x5 (ix3 b l n) = latent x0 x2 x4 x5 b l n := by
  pointwise [val_main_v58, val_main_v57, val_main_v56]
  simp only [v26_apply]
  rfl

theorem v71_apply (b : Fin 4) (l : Fin 256) (n : Fin 2560) :
    val_main_v71 (F := Ideal) x1 x3 x4 x5 (ix3 b l n) = context x1 x3 x4 x5 b l n := by
  pointwise [val_main_v71, val_main_v70, val_main_v69]
  simp only [v55_apply]
  rfl

/-- The pooled channels. -/
theorem v132_apply (r : Fin 32768) (j : Fin 256) :
    val_main_v132 (F := Ideal) x0 x2 x4 x5 (ix2 r j) = latent x0 x2 x4 x5 ⟨r / 8192, by omega⟩ ⟨r % 8192, by omega⟩ ⟨j.val, by omega⟩ := by
  rw [← v58_apply]
  pointwise [val_main_v132, val_main_v59]

theorem v133_apply (r : Fin 1024) (j : Fin 256) :
    val_main_v133 (F := Ideal) x1 x3 x4 x5 (ix2 r j) = context x1 x3 x4 x5 ⟨r / 256, by omega⟩ ⟨r % 256, by omega⟩ ⟨j.val, by omega⟩ := by
  rw [← v71_apply]
  pointwise [val_main_v133, val_main_v72]

/-- The values. -/
theorem v153_apply (r : Fin 32768) (j : Fin 768) :
    val_main_v153 (F := Ideal) x0 x2 x4 x5 (ix2 r j) = latent x0 x2 x4 x5 ⟨r / 8192, by omega⟩ ⟨r % 8192, by omega⟩ ⟨1024 + j.val, by omega⟩ := by
  rw [← v58_apply]
  pointwise [val_main_v153, val_main_v68, val_main_v62]

theorem v154_apply (r : Fin 1024) (j : Fin 768) :
    val_main_v154 (F := Ideal) x1 x3 x4 x5 (ix2 r j) = context x1 x3 x4 x5 ⟨r / 256, by omega⟩ ⟨r % 256, by omega⟩ ⟨1024 + j.val, by omega⟩ := by
  rw [← v71_apply]
  pointwise [val_main_v154, val_main_v81, val_main_v75]

/-- The gate. -/
theorem v157_apply (r : Fin 32768) (j : Fin 768) :
    val_main_v157 (F := Ideal) x0 x2 x4 x5 (ix2 r j) = latent x0 x2 x4 x5 ⟨r / 8192, by omega⟩ ⟨r % 8192, by omega⟩ ⟨1792 + j.val, by omega⟩ := by
  rw [← v58_apply]
  pointwise [val_main_v157, val_main_v63]

theorem v158_apply (r : Fin 1024) (j : Fin 768) :
    val_main_v158 (F := Ideal) x1 x3 x4 x5 (ix2 r j) = context x1 x3 x4 x5 ⟨r / 256, by omega⟩ ⟨r % 256, by omega⟩ ⟨1792 + j.val, by omega⟩ := by
  rw [← v71_apply]
  pointwise [val_main_v158, val_main_v76]

/-- The members of a pair of the queries, and of the keys, which are scaled. -/
theorem v84_apply (b : Fin 4) (l : Fin 8192) (h : Fin 6) (r : Fin 32) :
    val_main_v84 (F := Ideal) x0 x2 x4 x5 (ix4 b l h r) = latent x0 x2 x4 x5 b l ⟨256 + (h.val * 64 + r.val * 2), by omega⟩ := by
  rw [← v58_apply]
  pointwise [val_main_v84, val_main_v83, val_main_v82, val_main_v64, val_main_v60]

theorem v86_apply (b : Fin 4) (l : Fin 8192) (h : Fin 6) (r : Fin 32) :
    val_main_v86 (F := Ideal) x0 x2 x4 x5 (ix4 b l h r) = latent x0 x2 x4 x5 b l ⟨256 + (h.val * 64 + r.val * 2 + 1), by omega⟩ := by
  rw [← v58_apply]
  pointwise [val_main_v86, val_main_v85, val_main_v82, val_main_v64, val_main_v60]

theorem v67_apply (b : Fin 4) (l : Fin 8192) (h : Fin 6) (e : Fin 64) :
    val_main_v67 (F := Ideal) x0 x2 x4 x5 (ix4 b l h e)
      = latent x0 x2 x4 x5 b l ⟨640 + (h.val * 64 + e.val), by omega⟩ * Ideal.ofBits FTy.f32 0x3E000000#32 := by
  rw [← v58_apply]
  pointwise [val_main_v67, val_main_v66, val_main_cst_7, val_main_v65, val_main_v61]

theorem v109_apply (b : Fin 4) (l : Fin 8192) (h : Fin 6) (r : Fin 32) :
    val_main_v109 (F := Ideal) x0 x2 x4 x5 (ix4 b l h r)
      = latent x0 x2 x4 x5 b l ⟨640 + (h.val * 64 + r.val * 2), by omega⟩ * Ideal.ofBits FTy.f32 0x3E000000#32 := by
  refine Eq.trans ?_ (v67_apply x0 x2 x4 x5 b l h ⟨r.val * 2, by omega⟩)
  pointwise [val_main_v109, val_main_v108, val_main_v107]

theorem v111_apply (b : Fin 4) (l : Fin 8192) (h : Fin 6) (r : Fin 32) :
    val_main_v111 (F := Ideal) x0 x2 x4 x5 (ix4 b l h r)
      = latent x0 x2 x4 x5 b l ⟨640 + (h.val * 64 + r.val * 2 + 1), by omega⟩ * Ideal.ofBits FTy.f32 0x3E000000#32 := by
  refine Eq.trans ?_ (v67_apply x0 x2 x4 x5 b l h ⟨r.val * 2 + 1, by omega⟩)
  pointwise [val_main_v111, val_main_v110, val_main_v107]

/-- A pair of the queries, turned. -/
theorem v105_fst (b : Fin 4) (l : Fin 8192) (h : Fin 6) (r : Fin 32) :
    val_main_v105 (F := Ideal) x0 x2 x4 x5 x6 x7 (ix5 b l h r 0)
      = val_main_v84 (F := Ideal) x0 x2 x4 x5 (ix4 b l h r) * x6 (ix2 l r) - val_main_v86 (F := Ideal) x0 x2 x4 x5 (ix4 b l h r) * x7 (ix2 l r) := by
  unfold val_main_v105
  rw [concatenate_pair_apply]
  refine (dif_pos (show (0 : ℕ) < 1 by omega)).trans ?_
  pointwise [val_main_v103, val_main_v95, val_main_v94, val_main_v93, val_main_v92, val_main_v91, val_main_v90, val_main_v89, val_main_v88, val_main_v87]

theorem v105_snd (b : Fin 4) (l : Fin 8192) (h : Fin 6) (r : Fin 32) :
    val_main_v105 (F := Ideal) x0 x2 x4 x5 x6 x7 (ix5 b l h r 1)
      = val_main_v84 (F := Ideal) x0 x2 x4 x5 (ix4 b l h r) * x7 (ix2 l r) + val_main_v86 (F := Ideal) x0 x2 x4 x5 (ix4 b l h r) * x6 (ix2 l r) := by
  unfold val_main_v105
  rw [concatenate_pair_apply]
  refine (dif_neg (show ¬ (1 : ℕ) < 1 by omega)).trans ?_
  pointwise [val_main_v104, val_main_v102, val_main_v101, val_main_v100, val_main_v99, val_main_v98, val_main_v97, val_main_v96, val_main_v88, val_main_v87]

/-- A pair of the keys, turned. -/
theorem v130_fst (b : Fin 4) (l : Fin 8192) (h : Fin 6) (r : Fin 32) :
    val_main_v130 (F := Ideal) x0 x2 x4 x5 x6 x7 (ix5 b l h r 0)
      = val_main_v109 (F := Ideal) x0 x2 x4 x5 (ix4 b l h r) * x6 (ix2 l r) - val_main_v111 (F := Ideal) x0 x2 x4 x5 (ix4 b l h r) * x7 (ix2 l r) := by
  unfold val_main_v130
  rw [concatenate_pair_apply]
  refine (dif_pos (show (0 : ℕ) < 1 by omega)).trans ?_
  pointwise [val_main_v128, val_main_v120, val_main_v119, val_main_v118, val_main_v117, val_main_v116, val_main_v115, val_main_v114, val_main_v113, val_main_v112]

theorem v130_snd (b : Fin 4) (l : Fin 8192) (h : Fin 6) (r : Fin 32) :
    val_main_v130 (F := Ideal) x0 x2 x4 x5 x6 x7 (ix5 b l h r 1)
      = val_main_v109 (F := Ideal) x0 x2 x4 x5 (ix4 b l h r) * x7 (ix2 l r) + val_main_v111 (F := Ideal) x0 x2 x4 x5 (ix4 b l h r) * x6 (ix2 l r) := by
  unfold val_main_v130
  rw [concatenate_pair_apply]
  refine (dif_neg (show ¬ (1 : ℕ) < 1 by omega)).trans ?_
  pointwise [val_main_v129, val_main_v127, val_main_v126, val_main_v125, val_main_v124, val_main_v123, val_main_v122, val_main_v121, val_main_v113, val_main_v112]

/-- The queries of a latent row. -/
theorem v139_apply (r : Fin 32768) (c : Fin 384) :
    val_main_v139 (F := Ideal) x0 x2 x4 x5 x6 x7 (ix2 r c)
      = AbRow.rotated (fun c => latent x0 x2 x4 x5 ⟨r / 8192, by omega⟩ ⟨r % 8192, by omega⟩ ⟨256 + c.val, by omega⟩)
          (fun k => x6 (ix2 ⟨r % 8192, by omega⟩ k)) (fun k => x7 (ix2 ⟨r % 8192, by omega⟩ k)) c := by
  have e : val_main_v139 (F := Ideal) x0 x2 x4 x5 x6 x7 (ix2 r c)
      = val_main_v105 (F := Ideal) x0 x2 x4 x5 x6 x7 (ix5 ⟨r / 8192, by omega⟩ ⟨r % 8192, by omega⟩ ⟨c.val / 64, by omega⟩ ⟨c.val % 32, by omega⟩
          ⟨c.val / 32 % 2, by omega⟩) := by
    pointwise [val_main_v139, val_main_v136, val_main_v135, val_main_v106]
  rw [e, AbRow.rotated]
  by_cases h : c.val % 64 < 32
  · rw [show (⟨c.val / 32 % 2, by omega⟩ : Fin 2) = 0 from Fin.ext (by show c.val / 32 % 2 = 0; omega), v105_fst, v84_apply, v86_apply, if_pos h]
    simp only [mul_comm 2]
  · rw [show (⟨c.val / 32 % 2, by omega⟩ : Fin 2) = 1 from Fin.ext (by show c.val / 32 % 2 = 1; omega), v105_snd, v84_apply, v86_apply, if_neg h]
    simp only [mul_comm 2]

/-- The keys of a latent row. -/
theorem v147_apply (r : Fin 32768) (c : Fin 384) :
    val_main_v147 (F := Ideal) x0 x2 x4 x5 x6 x7 (ix2 r c)
      = AbRow.rotated (fun c => latent x0 x2 x4 x5 ⟨r / 8192, by omega⟩ ⟨r % 8192, by omega⟩ ⟨640 + c.val, by omega⟩ * Ideal.ofBits FTy.f32 0x3E000000#32)
          (fun k => x6 (ix2 ⟨r % 8192, by omega⟩ k)) (fun k => x7 (ix2 ⟨r % 8192, by omega⟩ k)) c := by
  have e : val_main_v147 (F := Ideal) x0 x2 x4 x5 x6 x7 (ix2 r c)
      = val_main_v130 (F := Ideal) x0 x2 x4 x5 x6 x7 (ix5 ⟨r / 8192, by omega⟩ ⟨r % 8192, by omega⟩ ⟨c.val / 64, by omega⟩ ⟨c.val % 32, by omega⟩
          ⟨c.val / 32 % 2, by omega⟩) := by
    pointwise [val_main_v147, val_main_v144, val_main_v143, val_main_v131]
  rw [e, AbRow.rotated]
  by_cases h : c.val % 64 < 32
  · rw [show (⟨c.val / 32 % 2, by omega⟩ : Fin 2) = 0 from Fin.ext (by show c.val / 32 % 2 = 0; omega), v130_fst, v109_apply, v111_apply, if_pos h]
    simp only [mul_comm 2]
  · rw [show (⟨c.val / 32 % 2, by omega⟩ : Fin 2) = 1 from Fin.ext (by show c.val / 32 % 2 = 1; omega), v130_snd, v109_apply, v111_apply, if_neg h]
    simp only [mul_comm 2]

/-- The queries of a context row. -/
theorem v140_apply (r : Fin 1024) (c : Fin 384) :
    val_main_v140 (F := Ideal) x1 x3 x4 x5 (ix2 r c)
      = context x1 x3 x4 x5 ⟨r / 256, by omega⟩ ⟨r % 256, by omega⟩ ⟨256 + (AbRow.col c).val, by have := (AbRow.col c).isLt; omega⟩ := by
  rw [← v71_apply]
  pointwise [val_main_v140, val_main_v138, val_main_v137, val_main_v77, val_main_v73]
  refine congrArg (fun n => val_main_v71 (F := Ideal) x1 x3 x4 x5 (ix3 _ _ n)) (Fin.ext ?_)
  show 256 + (c.val / 64 * 64 + c.val % 32 * 2 + c.val / 32 % 2) = 256 + (c.val / 64 * 64 + 2 * (c.val % 32) + c.val % 64 / 32)
  omega

/-- The keys of a context row. -/
theorem v148_apply (r : Fin 1024) (c : Fin 384) :
    val_main_v148 (F := Ideal) x1 x3 x4 x5 (ix2 r c)
      = context x1 x3 x4 x5 ⟨r / 256, by omega⟩ ⟨r % 256, by omega⟩ ⟨640 + (AbRow.col c).val, by have := (AbRow.col c).isLt; omega⟩
          * Ideal.ofBits FTy.f32 0x3E000000#32 := by
  rw [← v71_apply]
  pointwise [val_main_v148, val_main_v146, val_main_v145, val_main_v80, val_main_v79, val_main_cst_8, val_main_v78, val_main_v74]
  refine congrArg (fun n => val_main_v71 (F := Ideal) x1 x3 x4 x5 (ix3 _ _ n) * _) (Fin.ext ?_)
  show 640 + (c.val / 64 * 64 + (c.val % 32 * 2 + c.val / 32 % 2)) = 640 + (c.val / 64 * 64 + 2 * (c.val % 32) + c.val % 64 / 32)
  omega

/-- The pooled channels: the first 32768 rows are the latent ones, the others those of the context. -/
theorem v134_latent (r : Fin 33792) (h : r.val < 32768) (j : Fin 256) :
    val_main_v134 (F := Ideal) x0 x1 x2 x3 x4 x5 (ix2 r j) = val_main_v132 (F := Ideal) x0 x2 x4 x5 (ix2 ⟨r, h⟩ j) := by
  unfold val_main_v134
  rw [concatenate_pair_apply]
  refine (dif_pos h).trans (congrArg _ ?_)
  funext a; match a with | ⟨0, _⟩ => rfl | ⟨1, _⟩ => rfl

theorem v134_context (r : Fin 33792) (h : ¬ r.val < 32768) (j : Fin 256) :
    val_main_v134 (F := Ideal) x0 x1 x2 x3 x4 x5 (ix2 r j) = val_main_v133 (F := Ideal) x1 x3 x4 x5 (ix2 ⟨r - 32768, by omega⟩ j) := by
  unfold val_main_v134
  rw [concatenate_pair_apply]
  refine (dif_neg h).trans (congrArg _ ?_)
  funext a; match a with | ⟨0, _⟩ => rfl | ⟨1, _⟩ => rfl

/-- The queries, likewise. -/
theorem v141_latent (r : Fin 33792) (h : r.val < 32768) (j : Fin 384) :
    val_main_v141 (F := Ideal) x0 x1 x2 x3 x4 x5 x6 x7 (ix2 r j) = val_main_v139 (F := Ideal) x0 x2 x4 x5 x6 x7 (ix2 ⟨r, h⟩ j) := by
  unfold val_main_v141
  rw [concatenate_pair_apply]
  refine (dif_pos h).trans (congrArg _ ?_)
  funext a; match a with | ⟨0, _⟩ => rfl | ⟨1, _⟩ => rfl

theorem v141_context (r : Fin 33792) (h : ¬ r.val < 32768) (j : Fin 384) :
    val_main_v141 (F := Ideal) x0 x1 x2 x3 x4 x5 x6 x7 (ix2 r j) = val_main_v140 (F := Ideal) x1 x3 x4 x5 (ix2 ⟨r - 32768, by omega⟩ j) := by
  unfold val_main_v141
  rw [concatenate_pair_apply]
  refine (dif_neg h).trans (congrArg _ ?_)
  funext a; match a with | ⟨0, _⟩ => rfl | ⟨1, _⟩ => rfl

/-- The keys, likewise. -/
theorem v149_latent (r : Fin 33792) (h : r.val < 32768) (j : Fin 384) :
    val_main_v149 (F := Ideal) x0 x1 x2 x3 x4 x5 x6 x7 (ix2 r j) = val_main_v147 (F := Ideal) x0 x2 x4 x5 x6 x7 (ix2 ⟨r, h⟩ j) := by
  unfold val_main_v149
  rw [concatenate_pair_apply]
  refine (dif_pos h).trans (congrArg _ ?_)
  funext a; match a with | ⟨0, _⟩ => rfl | ⟨1, _⟩ => rfl

theorem v149_context (r : Fin 33792) (h : ¬ r.val < 32768) (j : Fin 384) :
    val_main_v149 (F := Ideal) x0 x1 x2 x3 x4 x5 x6 x7 (ix2 r j) = val_main_v148 (F := Ideal) x1 x3 x4 x5 (ix2 ⟨r - 32768, by omega⟩ j) := by
  unfold val_main_v149
  rw [concatenate_pair_apply]
  refine (dif_neg h).trans (congrArg _ ?_)
  funext a; match a with | ⟨0, _⟩ => rfl | ⟨1, _⟩ => rfl

/-- The values, likewise. -/
theorem v155_latent (r : Fin 33792) (h : r.val < 32768) (j : Fin 768) :
    val_main_v155 (F := Ideal) x0 x1 x2 x3 x4 x5 (ix2 r j) = val_main_v153 (F := Ideal) x0 x2 x4 x5 (ix2 ⟨r, h⟩ j) := by
  unfold val_main_v155
  rw [concatenate_pair_apply]
  refine (dif_pos h).trans (congrArg _ ?_)
  funext a; match a with | ⟨0, _⟩ => rfl | ⟨1, _⟩ => rfl

theorem v155_context (r : Fin 33792) (h : ¬ r.val < 32768) (j : Fin 768) :
    val_main_v155 (F := Ideal) x0 x1 x2 x3 x4 x5 (ix2 r j) = val_main_v154 (F := Ideal) x1 x3 x4 x5 (ix2 ⟨r - 32768, by omega⟩ j) := by
  unfold val_main_v155
  rw [concatenate_pair_apply]
  refine (dif_neg h).trans (congrArg _ ?_)
  funext a; match a with | ⟨0, _⟩ => rfl | ⟨1, _⟩ => rfl

/-- The gate, likewise. -/
theorem v159_latent (r : Fin 33792) (h : r.val < 32768) (j : Fin 768) :
    val_main_v159 (F := Ideal) x0 x1 x2 x3 x4 x5 (ix2 r j) = val_main_v157 (F := Ideal) x0 x2 x4 x5 (ix2 ⟨r, h⟩ j) := by
  unfold val_main_v159
  rw [concatenate_pair_apply]
  refine (dif_pos h).trans (congrArg _ ?_)
  funext a; match a with | ⟨0, _⟩ => rfl | ⟨1, _⟩ => rfl

theorem v159_context (r : Fin 33792) (h : ¬ r.val < 32768) (j : Fin 768) :
    val_main_v159 (F := Ideal) x0 x1 x2 x3 x4 x5 (ix2 r j) = val_main_v158 (F := Ideal) x1 x3 x4 x5 (ix2 ⟨r - 32768, by omega⟩ j) := by
  unfold val_main_v159
  rw [concatenate_pair_apply]
  refine (dif_neg h).trans (congrArg _ ?_)
  funext a; match a with | ⟨0, _⟩ => rfl | ⟨1, _⟩ => rfl

/-- The keys in tiles of 512 rows, transposed. -/
theorem v152_apply (t : Fin 66) (c : Fin 384) (p : Fin 512) :
    val_main_v152 (F := Ideal) x0 x1 x2 x3 x4 x5 x6 x7 (ix3 t c p)
      = val_main_v149 (F := Ideal) x0 x1 x2 x3 x4 x5 x6 x7 (ix2 ⟨t.val * 512 + p.val, by omega⟩ c) := by
  pointwise [val_main_v152, val_main_v151, val_main_v150]

end Cert.AbIn0ReferenceIdeal.Rows

end
-- ==== Proof.AbIn0Host.lean ====
/-
  The operands of the retention mixer's input projection of layer 0 as its grid points see them: what each window's
  block holds, in terms of the arguments the program was launched with. The first 64 points work on the latent rows, 16
  to a sequence; the last two on the context rows, which share one block of modulations and are not turned.
-/
module

public import proofs.«01_k».proof.Proof.Gen.AbIn0Ideal.Value
public import proofs.«01_k».proof.Proof.AbRow
public import Idealize.ShloMosaic.Lib.Pointwise

@[expose] public section

set_option maxRecDepth 16384

noncomputable section

namespace Cert.AbIn0Ideal.Host

open Cert.AbIn0Ideal Cert.AbIn0Ideal.Gen Idealize.ShloMosaic Idealize.ShloMosaic.TcCoe Idealize.SL.Sem

/-- The block indices of the windows. -/
theorem index_facts : ∀ t : Fin grid0.N,
    (win0_0.index t 0 = t.val ∧ win0_0.index t 1 = 0)
    ∧ (win0_1.index t 0 = min (t.val / 16) 4 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = (if t.val < 64 then t.val % 16 else 16) ∧ win0_4.index t 1 = 0)
    ∧ (win0_5.index t 0 = (if t.val < 64 then t.val % 16 else 16) ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0 ∧ win0_8.index t 2 = 0)
    ∧ (win0_9.index t 0 = t.val ∧ win0_9.index t 1 = 0)
    ∧ (win0_10.index t 0 = t.val ∧ win0_10.index t 1 = 0) := by decide +kernel

theorem t_lt (t : Fin cfg0.N) : t.val < 66 := by have h := t.isLt; have hN : cfg0.N = 66 := N_0; omega

variable (m : (ℓ : Loc nD τ sig) → Buf (Elt Ideal) ℓ) (c : Dev nD)

/-- One of the first four blocks of modulations is the sequence's own. -/
theorem mods_latent (A : Vec Ideal S4x9x1024 .f32) (B : Vec Ideal S1x9x1024 .f32) (C : Vec Ideal S3x9x1024 .f32) (b : Fin 8)
    (h : b.val < 4) (n : Fin 9) (k : Fin 1024) :
    concatenate S8x9x1024 0 [⟨S4x9x1024, A⟩, ⟨S1x9x1024, B⟩, ⟨S3x9x1024, C⟩]
      concatenates_S4x9x1024_S1x9x1024_S3x9x1024_S8x9x1024_d0 (ix3 b n k) = A (ix3 ⟨b, h⟩ n k) := by
  pointwise
  rw [dif_pos h]

/-- The fifth is that of the context. -/
theorem mods_context (A : Vec Ideal S4x9x1024 .f32) (B : Vec Ideal S9x1024 .f32) (C : Vec Ideal S3x9x1024 .f32) (n : Fin 9) (k : Fin 1024) :
    concatenate S8x9x1024 0 [⟨S4x9x1024, A⟩, ⟨S1x9x1024, broadcastInDim S1x9x1024 ![1, 2] bcast_S9x1024_S1x9x1024_1_2 B⟩, ⟨S3x9x1024, C⟩]
      concatenates_S4x9x1024_S1x9x1024_S3x9x1024_S8x9x1024_d0 (ix3 4 n k) = B (ix2 n k) := by
  pointwise

/-- A row of the latents. -/
theorem rows_latent (A : Vec Ideal S4x8192x1024 .f32) (r : Fin 32768) (k : Fin 1024) :
    shapeCast S32768x1024 A shapeCasts_S4x8192x1024_S32768x1024 (ix2 r k) = A (ix3 ⟨r / 8192, by omega⟩ ⟨r % 8192, by omega⟩ k) := by
  pointwise

/-- A row of the context. -/
theorem rows_context (B : Vec Ideal S4x256x1024 .f32) (r : Fin 1024) (k : Fin 1024) :
    shapeCast S1024x1024 B shapeCasts_S4x256x1024_S1024x1024 (ix2 r k) = B (ix3 ⟨r / 256, by omega⟩ ⟨r % 256, by omega⟩ k) := by
  pointwise

/-- A column that the gather takes: the one its index names. -/
theorem gather_apply (x : Vec Ideal S1024x384 .f32) (idx : IVec S384x1 32) (k : Fin 1024) (n : Fin 384) :
    Host.gather gather_S1024x384_S384x1_S1024x384_0_1_n_n_1_1_10241 x idx (ix2 k n)
      = x (ix2 k ⟨min (idx (ix2 n 0)).toInt.toNat 383, by omega⟩) := by
  refine congrArg x (funext fun a => Fin.ext ?_)
  match a with
  | ⟨0, _⟩ =>
    show GatherDims.start _ _ idx 0 + GatherDims.batchCoord _ _ 0 + GatherDims.offCoord _ _ 0 = k.val
    rw [GatherDims.batchCoord_eq_zero _ _ _ List.not_mem_nil]
    unfold GatherDims.start
    rw [dif_neg (by decide)]
    unfold GatherDims.offCoord
    rw [dif_pos (by decide), Nat.zero_add]
    rfl
  | ⟨1, _⟩ =>
    show GatherDims.start _ _ idx 1 + GatherDims.batchCoord _ _ 1 + GatherDims.offCoord _ _ 1 = min (idx (ix2 n 0)).toInt.toNat 383
    rw [GatherDims.batchCoord_eq_zero _ _ _ List.not_mem_nil, GatherDims.offCoord_eq_zero _ _ _ (by decide)]
    unfold GatherDims.start
    rw [dif_pos (by decide)]
    refine congrArg (fun i => min (idx i).toInt.toNat 383) (funext fun b => Fin.ext ?_)
    match b with
    | ⟨0, _⟩ => rfl
    | ⟨1, _⟩ => rfl

/-- The columns that the version takes for the queries and the keys. -/
theorem order_apply : ∀ n : Fin 384, min (lit0 (S384.rowMajor (ix1 n))).toInt.toNat 383 = (AbRow.col n).val := by decide +kernel

/-- The layer's weights. -/
def plain (A : Vec Ideal S2x1024x2560 .f32) : Vec Ideal S1024x2560 .f32 :=
  shapeCast S1024x2560 (extractStridedSlice S1x1024x2560 ![0, 0, 0] A slices_S2x1024x2560_S1x1024x2560_0_0_0) shapeCasts_S1x1024x2560_S1024x2560

theorem plain_apply (A : Vec Ideal S2x1024x2560 .f32) (k : Fin 1024) (n : Fin 2560) : plain A (ix2 k n) = A (ix3 0 k n) := by
  pointwise [plain]

/-- The columns of the queries or keys in the version's order. -/
def order : IVec S384x1 32 :=
  broadcastInDim S384x1 ![0] bcast_S384_S384x1_0 (select (constantI S384 1 0#1)
    (addi (fun i => lit0 (S384.rowMajor i)) (broadcastInDim S384 ![] bcast_S_S384 (constantI S_ 32 384#32))) (fun i => lit0 (S384.rowMajor i)))

theorem order_at (n : Fin 384) : min (order (ix2 n 0)).toInt.toNat 383 = (AbRow.col n).val := by
  rw [← order_apply n]
  pointwise [order]

theorem gather_order (x : Vec Ideal S1024x384 .f32) (k : Fin 1024) (n : Fin 384) :
    Host.gather gather_S1024x384_S384x1_S1024x384_0_1_n_n_1_1_10241 x order (ix2 k n) = x (ix2 k (AbRow.col n)) :=
  (gather_apply x order k n).trans (congrArg (fun i => x (ix2 k i)) (Fin.ext (order_at n)))

/-- The weights as the kernel takes them: the columns of the queries and keys in the version's order, the keys' scaled. -/
def weights (A : Vec Ideal S2x1024x2560 .f32) : Vec Ideal S1024x2560 .bf16 :=
  truncf .bf16 (concatenate S1024x2560 1 [
      ⟨S1024x256, extractStridedSlice S1024x256 ![0, 0] (plain A) slices_S1024x2560_S1024x256_0_0⟩,
      ⟨S1024x384, Host.gather gather_S1024x384_S384x1_S1024x384_0_1_n_n_1_1_10241
        (extractStridedSlice S1024x384 ![0, 256] (plain A) slices_S1024x2560_S1024x384_0_256) order⟩,
      ⟨S1024x384, mulf (Host.gather gather_S1024x384_S384x1_S1024x384_0_1_n_n_1_1_10241
        (extractStridedSlice S1024x384 ![0, 640] (plain A) slices_S1024x2560_S1024x384_0_640) order)
          (broadcastInDim S1024x384 ![] bcast_S_S1024x384 (constant (F := Ideal) S_ .f32 0x3E000000#32))⟩,
      ⟨S1024x1536, extractStridedSlice S1024x1536 ![0, 1024] (plain A) slices_S1024x2560_S1024x1536_0_1024⟩]
    concatenates_S1024x256_S1024x384_S1024x384_S1024x1536_S1024x2560_d1) bitsLt_bf16_f32

theorem weights_p (A : Vec Ideal S2x1024x2560 .f32) (k : Fin 1024) (n : Fin 256) :
    weights A (ix2 k ⟨n.val, by omega⟩) = A (ix3 0 k ⟨n.val, by omega⟩) := by
  pointwise [weights, plain]

theorem weights_q (A : Vec Ideal S2x1024x2560 .f32) (k : Fin 1024) (n : Fin 384) :
    weights A (ix2 k ⟨256 + n.val, by omega⟩) = A (ix3 0 k ⟨256 + (AbRow.col n).val, by have := (AbRow.col n).isLt; omega⟩) := by
  pointwise [weights]
  rw [gather_order]
  pointwise [plain]

theorem weights_k (A : Vec Ideal S2x1024x2560 .f32) (k : Fin 1024) (n : Fin 384) :
    weights A (ix2 k ⟨640 + n.val, by omega⟩)
      = A (ix3 0 k ⟨640 + (AbRow.col n).val, by have := (AbRow.col n).isLt; omega⟩) * Ideal.ofBits FTy.f32 0x3E000000#32 := by
  pointwise [weights]
  rw [dif_neg (by omega), dif_neg (by omega), dif_pos (by omega)]
  rw [gather_order, show (⟨640 + n.val - 256 - 384, by omega⟩ : Fin 384) = n from Fin.ext (by show 640 + n.val - 256 - 384 = n.val; omega)]
  pointwise [plain]

theorem weights_v (A : Vec Ideal S2x1024x2560 .f32) (k : Fin 1024) (n : Fin 1536) :
    weights A (ix2 k ⟨1024 + n.val, by omega⟩) = A (ix3 0 k ⟨1024 + n.val, by omega⟩) := by
  pointwise [weights, plain]
  rw [dif_neg (by omega), dif_neg (by omega), dif_neg (by omega)]
  exact congrArg (fun i => A (ix3 0 k i)) (Fin.ext (by show 1024 + (1024 + n.val - 256 - 384 - 384) = 1024 + n.val; omega))

/-- The table of the cosines, and that of the signed sines. -/
def cosines (A : Vec Ideal S8192x32 .f32) : Vec Ideal S8704x128 .f32 :=
  concatenate S8704x128 0 [⟨S8192x128, concatenate S8192x128 1 [⟨S8192x32, A⟩, ⟨S8192x32, A⟩, ⟨S8192x32, A⟩, ⟨S8192x32, A⟩]
      concatenates_S8192x32_S8192x32_S8192x32_S8192x32_S8192x128_d1⟩,
    ⟨S512x128, broadcastInDim S512x128 ![] bcast_S_S512x128 (constant (F := Ideal) S_ .f32 0x3F800000#32)⟩] concatenates_S8192x128_S512x128_S8704x128_d0

def sines (A : Vec Ideal S8192x32 .f32) : Vec Ideal S8704x128 .f32 :=
  concatenate S8704x128 0 [⟨S8192x128, concatenate S8192x128 1 [⟨S8192x32, Host.negf (F := Ideal) (s := S8192x32) (φ := .f32) A⟩, ⟨S8192x32, A⟩, ⟨S8192x32, Host.negf (F := Ideal) (s := S8192x32) (φ := .f32) A⟩, ⟨S8192x32, A⟩]
      concatenates_S8192x32_S8192x32_S8192x32_S8192x32_S8192x128_d1⟩,
    ⟨S512x128, broadcastInDim S512x128 ![] bcast_S_S512x128 (constant (F := Ideal) S_ .f32 0x00000000#32)⟩] concatenates_S8192x128_S512x128_S8704x128_d0

theorem cosines_latent (A : Vec Ideal S8192x32 .f32) (r : Fin 8704) (h : r.val < 8192) (n : Fin 128) :
    cosines A (ix2 r n) = A (ix2 ⟨r.val, h⟩ ⟨n.val % 32, by omega⟩) := by
  unfold cosines
  rw [concatenate_pair_apply]
  refine (dif_pos h).trans ?_
  pointwise
  split
  · exact congrArg (fun i => A (ix2 _ i)) (Fin.ext (by show n.val = n.val % 32; omega))
  split
  · exact congrArg (fun i => A (ix2 _ i)) (Fin.ext (by show n.val - 32 = n.val % 32; omega))
  split
  · exact congrArg (fun i => A (ix2 _ i)) (Fin.ext (by show n.val - 32 - 32 = n.val % 32; omega))
  · exact congrArg (fun i => A (ix2 _ i)) (Fin.ext (by show n.val - 32 - 32 - 32 = n.val % 32; omega))

theorem cosines_context (A : Vec Ideal S8192x32 .f32) (r : Fin 8704) (h : ¬ r.val < 8192) (n : Fin 128) :
    cosines A (ix2 r n) = 1 := by
  unfold cosines
  rw [concatenate_pair_apply]
  refine (dif_neg h).trans ?_
  pointwise

theorem sines_latent (A : Vec Ideal S8192x32 .f32) (r : Fin 8704) (h : r.val < 8192) (n : Fin 128) :
    sines A (ix2 r n) = if n.val % 64 < 32 then -A (ix2 ⟨r.val, h⟩ ⟨n.val % 32, by omega⟩) else A (ix2 ⟨r.val, h⟩ ⟨n.val % 32, by omega⟩) := by
  unfold sines
  rw [concatenate_pair_apply]
  refine (dif_pos h).trans ?_
  pointwise
  split
  · refine Eq.trans ?_ (if_pos (by omega)).symm
    exact congrArg (fun i => -A (ix2 _ i)) (Fin.ext (by show n.val = n.val % 32; omega))
  split
  · refine Eq.trans ?_ (if_neg (by omega)).symm
    exact congrArg (fun i => A (ix2 _ i)) (Fin.ext (by show n.val - 32 = n.val % 32; omega))
  split
  · refine Eq.trans ?_ (if_pos (by omega)).symm
    exact congrArg (fun i => -A (ix2 _ i)) (Fin.ext (by show n.val - 32 - 32 = n.val % 32; omega))
  · refine Eq.trans ?_ (if_neg (by omega)).symm
    exact congrArg (fun i => A (ix2 _ i)) (Fin.ext (by show n.val - 32 - 32 - 32 = n.val % 32; omega))

theorem sines_context (A : Vec Ideal S8192x32 .f32) (r : Fin 8704) (h : ¬ r.val < 8192) (n : Fin 128) :
    sines A (ix2 r n) = 0 := by
  unfold sines
  rw [concatenate_pair_apply]
  refine (dif_neg h).trans ?_
  pointwise

theorem V_v12 : V m c main_v12 = cosines (m ((c : Thread nD τ).loc main_arg6)) := by
  unfold_abbrev_sides
  after_results_simp
  rfl

theorem V_v13 : V m c main_v13 = sines (m ((c : Thread nD τ).loc main_arg7)) := by
  unfold_abbrev_sides
  after_results_simp
  rfl

theorem V_v33 : V m c main_v33 = weights (m ((c : Thread nD τ).loc main_arg5)) := by
  unfold_abbrev_sides
  after_results_simp
  rfl

theorem V_v36 (k : Fin 1024) : V m c main_v36 (ix2 0 k) = m ((c : Thread nD τ).loc main_arg4) (ix3 0 1 k) := by
  have e : V m c main_v36 = broadcastInDim S1x1024 ![1] bcast_S1024_S1x1024_1 (shapeCast S1024 (extractStridedSlice S1x1x1024 ![0, 1, 0] (m ((c : Thread nD τ).loc main_arg4)) slices_S4x3x1024_S1x1x1024_0_1_0) shapeCasts_S1x1x1024_S1024) := by
    unfold_abbrev_sides
    after_results_simp
    rfl
  rw [e]
  pointwise

theorem V_v2 : V m c main_v2 = concatenate S33792x1024 0 [⟨S32768x1024, shapeCast S32768x1024 (m ((c : Thread nD τ).loc main_arg0)) shapeCasts_S4x8192x1024_S32768x1024⟩, ⟨S1024x1024, shapeCast S1024x1024 (m ((c : Thread nD τ).loc main_arg1)) shapeCasts_S4x256x1024_S1024x1024⟩] concatenates_S32768x1024_S1024x1024_S33792x1024_d0 := by
  unfold_abbrev_sides
  after_results_simp
  rfl

theorem V_v5 : V m c main_v5 = concatenate S8x9x1024 0 [⟨S4x9x1024, m ((c : Thread nD τ).loc main_arg2)⟩, ⟨S1x9x1024, broadcastInDim S1x9x1024 ![1, 2] bcast_S9x1024_S1x9x1024_1_2 (m ((c : Thread nD τ).loc main_arg3))⟩, ⟨S3x9x1024, broadcastInDim S3x9x1024 ![] bcast_S_S3x9x1024 (constant (F := Ideal) S_ .f32 0x00000000#32)⟩] concatenates_S4x9x1024_S1x9x1024_S3x9x1024_S8x9x1024_d0 := by
  unfold_abbrev_sides
  after_results_simp
  rfl

theorem iblk0 (t : Fin cfg0.N) (p : Fin 512) (k : Fin 1024) :
    iblk m c 0 t (ix2 p k) = V m c main_v2 (ix2 ⟨t.val * 512 + p.val, by have := t_lt t; omega⟩ k) := by
  refine congrArg (V m c main_v2) (funext fun a => Fin.ext ?_)
  have e := (index_facts t).1
  match a with
  | ⟨0, _⟩ => show win0_0.index t 0 * 512 + 1 * p.val = t.val * 512 + p.val; rw [e.1]; omega
  | ⟨1, _⟩ => show win0_0.index t 1 * 1024 + 1 * k.val = k.val; rw [e.2]; omega

theorem iblk1 (t : Fin cfg0.N) (n : Fin 9) (k : Fin 1024) :
    iblk m c 1 t (ix3 0 n k) = V m c main_v5 (ix3 ⟨min (t.val / 16) 4, by omega⟩ n k) := by
  refine congrArg (V m c main_v5) (funext fun a => Fin.ext ?_)
  have e := (index_facts t).2.1
  match a with
  | ⟨0, _⟩ => show win0_1.index t 0 * 1 + 1 * 0 = min (t.val / 16) 4; rw [e.1]; omega
  | ⟨1, _⟩ => show win0_1.index t 1 * 9 + 1 * n.val = n.val; rw [e.2.1]; omega
  | ⟨2, _⟩ => show win0_1.index t 2 * 1024 + 1 * k.val = k.val; rw [e.2.2]; omega

theorem iblk2 (t : Fin cfg0.N) (k : Fin 1024) : iblk m c 2 t (ix2 0 k) = V m c main_v36 (ix2 0 k) := by
  refine congrArg (V m c main_v36) (funext fun a => Fin.ext ?_)
  have e := (index_facts t).2.2.1
  match a with
  | ⟨0, _⟩ => show win0_2.index t 0 * 1 + 1 * 0 = 0; rw [e.1]
  | ⟨1, _⟩ => show win0_2.index t 1 * 1024 + 1 * k.val = k.val; rw [e.2]; omega

theorem iblk3 (t : Fin cfg0.N) (k : Fin 1024) (n : Fin 2560) : iblk m c 3 t (ix2 k n) = V m c main_v33 (ix2 k n) := by
  refine congrArg (V m c main_v33) (funext fun a => Fin.ext ?_)
  have e := (index_facts t).2.2.2.1
  match a with
  | ⟨0, _⟩ => show win0_3.index t 0 * 1024 + 1 * k.val = k.val; rw [e.1]; omega
  | ⟨1, _⟩ => show win0_3.index t 1 * 2560 + 1 * n.val = n.val; rw [e.2]; omega

theorem iblk4_latent (t : Fin cfg0.N) (ht : t.val < 64) (p : Fin 512) (n : Fin 128) :
    iblk m c 4 t (ix2 p n) = V m c main_v12 (ix2 ⟨(t.val * 512 + p.val) % 8192, by omega⟩ n) := by
  refine congrArg (V m c main_v12) (funext fun a => Fin.ext ?_)
  have e := (index_facts t).2.2.2.2.1
  match a with
  | ⟨0, _⟩ => show win0_4.index t 0 * 512 + 1 * p.val = (t.val * 512 + p.val) % 8192; rw [e.1, if_pos ht]; omega
  | ⟨1, _⟩ => show win0_4.index t 1 * 128 + 1 * n.val = n.val; rw [e.2]; omega

theorem iblk4_context (t : Fin cfg0.N) (ht : ¬ t.val < 64) (p : Fin 512) (n : Fin 128) :
    iblk m c 4 t (ix2 p n) = V m c main_v12 (ix2 ⟨8192 + p.val, by omega⟩ n) := by
  refine congrArg (V m c main_v12) (funext fun a => Fin.ext ?_)
  have e := (index_facts t).2.2.2.2.1
  match a with
  | ⟨0, _⟩ => show win0_4.index t 0 * 512 + 1 * p.val = 8192 + p.val; rw [e.1, if_neg ht]; omega
  | ⟨1, _⟩ => show win0_4.index t 1 * 128 + 1 * n.val = n.val; rw [e.2]; omega

theorem iblk5_latent (t : Fin cfg0.N) (ht : t.val < 64) (p : Fin 512) (n : Fin 128) :
    iblk m c 5 t (ix2 p n) = V m c main_v13 (ix2 ⟨(t.val * 512 + p.val) % 8192, by omega⟩ n) := by
  refine congrArg (V m c main_v13) (funext fun a => Fin.ext ?_)
  have e := (index_facts t).2.2.2.2.2.1
  match a with
  | ⟨0, _⟩ => show win0_5.index t 0 * 512 + 1 * p.val = (t.val * 512 + p.val) % 8192; rw [e.1, if_pos ht]; omega
  | ⟨1, _⟩ => show win0_5.index t 1 * 128 + 1 * n.val = n.val; rw [e.2]; omega

theorem iblk5_context (t : Fin cfg0.N) (ht : ¬ t.val < 64) (p : Fin 512) (n : Fin 128) :
    iblk m c 5 t (ix2 p n) = V m c main_v13 (ix2 ⟨8192 + p.val, by omega⟩ n) := by
  refine congrArg (V m c main_v13) (funext fun a => Fin.ext ?_)
  have e := (index_facts t).2.2.2.2.2.1
  match a with
  | ⟨0, _⟩ => show win0_5.index t 0 * 512 + 1 * p.val = 8192 + p.val; rw [e.1, if_neg ht]; omega
  | ⟨1, _⟩ => show win0_5.index t 1 * 128 + 1 * n.val = n.val; rw [e.2]; omega

/-- The row a latent point reads. -/
theorem row_latent (t : Fin cfg0.N) (ht : t.val < 64) (p : Fin 512) (k : Fin 1024) :
    iblk m c 0 t (ix2 p k) = m ((c : Thread nD τ).loc main_arg0)
      (ix3 ⟨(t.val * 512 + p.val) / 8192, by omega⟩ ⟨(t.val * 512 + p.val) % 8192, by omega⟩ k) := by
  rw [iblk0 m c t, V_v2, concatenate_pair_apply]
  refine (dif_pos (show t.val * 512 + p.val < 32768 by omega)).trans (Eq.trans (congrArg _ ?_) (rows_latent _ ⟨t.val * 512 + p.val, by omega⟩ k))
  funext a; match a with | ⟨0, _⟩ => rfl | ⟨1, _⟩ => rfl

/-- The row a context point reads. -/
theorem row_context (t : Fin cfg0.N) (ht : ¬ t.val < 64) (p : Fin 512) (k : Fin 1024) :
    iblk m c 0 t (ix2 p k) = m ((c : Thread nD τ).loc main_arg1)
      (ix3 ⟨(t.val * 512 + p.val - 32768) / 256, by have := t_lt t; omega⟩ ⟨(t.val * 512 + p.val - 32768) % 256, by omega⟩ k) := by
  rw [iblk0 m c t, V_v2, concatenate_pair_apply]
  refine (dif_neg (show ¬ t.val * 512 + p.val < 32768 by omega)).trans
    (Eq.trans (congrArg _ ?_) (rows_context _ ⟨t.val * 512 + p.val - 32768, by have := t_lt t; omega⟩ k))
  funext a; match a with | ⟨0, _⟩ => rfl | ⟨1, _⟩ => rfl

/-- The modulations a latent point reads. -/
theorem mod_latent (t : Fin cfg0.N) (ht : t.val < 64) (p : Fin 512) (n : Fin 9) (k : Fin 1024) :
    iblk m c 1 t (ix3 0 n k) = m ((c : Thread nD τ).loc main_arg2) (ix3 ⟨(t.val * 512 + p.val) / 8192, by omega⟩ n k) := by
  have e : (⟨min (t.val / 16) 4, by omega⟩ : Fin 8) = ⟨(t.val * 512 + p.val) / 8192, by omega⟩ :=
    Fin.ext (by show min (t.val / 16) 4 = (t.val * 512 + p.val) / 8192; omega)
  rw [iblk1, V_v5, e]
  exact mods_latent _ _ _ ⟨(t.val * 512 + p.val) / 8192, by omega⟩ (by show (t.val * 512 + p.val) / 8192 < 4; omega) n k

/-- The modulations a context point reads. -/
theorem mod_context (t : Fin cfg0.N) (ht : ¬ t.val < 64) (n : Fin 9) (k : Fin 1024) :
    iblk m c 1 t (ix3 0 n k) = m ((c : Thread nD τ).loc main_arg3) (ix2 n k) := by
  have e : (⟨min (t.val / 16) 4, by omega⟩ : Fin 8) = 4 := Fin.ext (by show min (t.val / 16) 4 = 4; omega)
  rw [iblk1, V_v5, e]
  exact mods_context _ _ _ n k

/-- The tables a latent point reads: the cosines of the row's position, and its sines, the first 32 of every 64 with the other sign. -/
theorem cos_latent (t : Fin cfg0.N) (ht : t.val < 64) (p : Fin 512) (n : Fin 128) :
    iblk m c 4 t (ix2 p n) = m ((c : Thread nD τ).loc main_arg6) (ix2 ⟨(t.val * 512 + p.val) % 8192, by omega⟩ ⟨n.val % 32, by omega⟩) := by
  rw [iblk4_latent m c t ht, V_v12]
  exact cosines_latent _ ⟨(t.val * 512 + p.val) % 8192, by omega⟩ (by show (t.val * 512 + p.val) % 8192 < 8192; omega) n

theorem sin_latent (t : Fin cfg0.N) (ht : t.val < 64) (p : Fin 512) (n : Fin 128) :
    iblk m c 5 t (ix2 p n) = if n.val % 64 < 32
      then Neg.neg (α := EReal) (m ((c : Thread nD τ).loc main_arg7) (ix2 ⟨(t.val * 512 + p.val) % 8192, by omega⟩ ⟨n.val % 32, by omega⟩))
      else (m ((c : Thread nD τ).loc main_arg7) (ix2 ⟨(t.val * 512 + p.val) % 8192, by omega⟩ ⟨n.val % 32, by omega⟩) : EReal) := by
  rw [iblk5_latent m c t ht, V_v13]
  exact sines_latent _ ⟨(t.val * 512 + p.val) % 8192, by omega⟩ (by show (t.val * 512 + p.val) % 8192 < 8192; omega) n

/-- Those a context point reads: ones and zeros. -/
theorem cos_context (t : Fin cfg0.N) (ht : ¬ t.val < 64) (p : Fin 512) (n : Fin 128) : iblk m c 4 t (ix2 p n) = (1 : EReal) := by
  rw [iblk4_context m c t ht, V_v12]
  exact cosines_context _ ⟨8192 + p.val, by omega⟩ (by show ¬ 8192 + p.val < 8192; omega) n

theorem sin_context (t : Fin cfg0.N) (ht : ¬ t.val < 64) (p : Fin 512) (n : Fin 128) : iblk m c 5 t (ix2 p n) = (0 : EReal) := by
  rw [iblk5_context m c t ht, V_v13]
  exact sines_context _ ⟨8192 + p.val, by omega⟩ (by show ¬ 8192 + p.val < 8192; omega) n

end Cert.AbIn0Ideal.Host

end
-- ==== Proof.AbIn0Claim.lean ====
/-
  The retention mixer's input projection of layer 0 and its reference leave the same five arrays: the pooled channels, the
  queries, the keys, the values and the gate. Every row of either is one row of the activations through `AbRow.proj`, the
  latent rows under their sequence's modulations and turned by their position, the context rows under the context's.
-/
module

public import proofs.«01_k».proof.Defs
public import proofs.«01_k».proof.Proof.AbIn0Body
public import proofs.«01_k».proof.Proof.AbIn0Ref
public import proofs.«01_k».proof.Proof.AbIn0Host
public import proofs.«01_k».proof.Proof.Gen.AbIn0ReferenceIdeal.Run
public import Idealize.ShloMosaic.Lib.Quiescent

@[expose] public section

set_option maxRecDepth 16384

noncomputable section

namespace Cert.AbIn0Ideal.Whole

open Cert.AbIn0Ideal Cert.AbIn0Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The pooled channels, as one function of the arguments. -/
def G6 : Vec Ideal S33792x256 .f32 :=
  fun i => AbIn0ReferenceIdeal.Read.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i

/-- The queries, as one function of the arguments. -/
def G7 : Vec Ideal S33792x384 .bf16 :=
  fun i => AbIn0ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i

/-- The keys, a tile of columns to a grid point, as one function of the arguments. -/
def G8 : Vec Ideal S66x384x512 .bf16 :=
  fun i => AbIn0ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i

/-- The values, as one function of the arguments. -/
def G9 : Vec Ideal S33792x768 .bf16 :=
  fun i => AbIn0ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i

/-- The gate, as one function of the arguments. -/
def G10 : Vec Ideal S33792x768 .bf16 :=
  fun i => AbIn0ReferenceIdeal.Read.val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i

/-- Two columns of a projection whose weights agree. -/
theorem proj_eq (h : Fin 1024 → EReal) (w w' : Fin 1024 → Fin 2560 → EReal) (n n' : Fin 2560) (e : ∀ k, w k n = w' k n') :
    AbRow.proj h w n = AbRow.proj h w' n' := by
  unfold AbRow.proj
  simp only [e]

/-- Two columns of which one's weights are the other's, scaled. -/
theorem proj_scaled (h : Fin 1024 → EReal) (w w' : Fin 1024 → Fin 2560 → EReal) (n n' : Fin 2560)
    (e : ∀ k, w k n = w' k n' * Ideal.ofBits FTy.f32 0x3E000000#32) :
    AbRow.proj h w n = AbRow.proj h w' n' * Ideal.ofBits FTy.f32 0x3E000000#32 := by
  unfold AbRow.proj
  simp only [e]
  exact AbRow.sum_scaled _ _

/-- The projection of a latent row, over the weights as the kernel takes them. -/
theorem column_latent (t : Fin cfg0.N) (ht : t.val < 64) (p : Fin 512) (n : Fin 2560) :
    Body.column (iblk m c 0 t) (iblk m c 1 t) (iblk m c 2 t) (iblk m c 3 t) p n = AbRow.proj (FfnRow.scaled
        (fun k => (m ((c : Thread nD τ).loc main_arg0)) (ix3 ⟨(t.val * 512 + p.val) / 8192, by omega⟩ ⟨(t.val * 512 + p.val) % 8192, by omega⟩ k)) (fun k => (m ((c : Thread nD τ).loc main_arg4)) (ix3 0 1 k))
        (fun k => (m ((c : Thread nD τ).loc main_arg2)) (ix3 ⟨(t.val * 512 + p.val) / 8192, by omega⟩ 3 k)) (fun k => (m ((c : Thread nD τ).loc main_arg2)) (ix3 ⟨(t.val * 512 + p.val) / 8192, by omega⟩ 4 k)))
      (fun k n => Host.weights (m ((c : Thread nD τ).loc main_arg5)) (ix2 k n)) n := by
  unfold Body.column
  have e2 := Host.V_v36 m c
  simp only [Host.row_latent m c t ht, Host.mod_latent m c t ht p, Host.iblk2, Host.iblk3, e2]
  rw [Host.V_v33]

/-- That of a context row. -/
theorem column_context (t : Fin cfg0.N) (ht : ¬ t.val < 64) (p : Fin 512) (n : Fin 2560) :
    Body.column (iblk m c 0 t) (iblk m c 1 t) (iblk m c 2 t) (iblk m c 3 t) p n = AbRow.proj (FfnRow.scaled
        (fun k => (m ((c : Thread nD τ).loc main_arg1)) (ix3 ⟨(t.val * 512 + p.val - 32768) / 256, by have := Host.t_lt t; omega⟩ ⟨(t.val * 512 + p.val - 32768) % 256, by omega⟩ k))
        (fun k => (m ((c : Thread nD τ).loc main_arg4)) (ix3 0 1 k)) (fun k => (m ((c : Thread nD τ).loc main_arg3)) (ix2 3 k)) (fun k => (m ((c : Thread nD τ).loc main_arg3)) (ix2 4 k)))
      (fun k n => Host.weights (m ((c : Thread nD τ).loc main_arg5)) (ix2 k n)) n := by
  unfold Body.column
  have e2 := Host.V_v36 m c
  simp only [Host.row_context m c t ht, Host.mod_context m c t ht, Host.iblk2, Host.iblk3, e2]
  rw [Host.V_v33]

theorem p_latent (t : Fin cfg0.N) (ht : t.val < 64) (p : Fin 512) (j : Fin 256) :
    Body.column (iblk m c 0 t) (iblk m c 1 t) (iblk m c 2 t) (iblk m c 3 t) p ⟨j.val, by omega⟩
      = AbIn0ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨j.val, by omega⟩ :=
  (column_latent m c t ht p _).trans (proj_eq _ _ _ _ _ fun k => Host.weights_p (m ((c : Thread nD τ).loc main_arg5)) k j)

theorem q_latent (t : Fin cfg0.N) (ht : t.val < 64) (p : Fin 512) (j : Fin 384) :
    Body.column (iblk m c 0 t) (iblk m c 1 t) (iblk m c 2 t) (iblk m c 3 t) p ⟨256 + j.val, by omega⟩
      = AbIn0ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨256 + (AbRow.col j).val, by have := (AbRow.col j).isLt; omega⟩ :=
  (column_latent m c t ht p _).trans (proj_eq _ _ _ _ _ fun k => Host.weights_q (m ((c : Thread nD τ).loc main_arg5)) k j)

theorem k_latent (t : Fin cfg0.N) (ht : t.val < 64) (p : Fin 512) (j : Fin 384) :
    Body.column (iblk m c 0 t) (iblk m c 1 t) (iblk m c 2 t) (iblk m c 3 t) p ⟨640 + j.val, by omega⟩
      = AbIn0ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨640 + (AbRow.col j).val, by have := (AbRow.col j).isLt; omega⟩ * Ideal.ofBits FTy.f32 0x3E000000#32 :=
  (column_latent m c t ht p _).trans (proj_scaled _ _ _ _ _ fun k => Host.weights_k (m ((c : Thread nD τ).loc main_arg5)) k j)

theorem v_latent (t : Fin cfg0.N) (ht : t.val < 64) (p : Fin 512) (j : Fin 1536) :
    Body.column (iblk m c 0 t) (iblk m c 1 t) (iblk m c 2 t) (iblk m c 3 t) p ⟨1024 + j.val, by omega⟩
      = AbIn0ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨1024 + j.val, by omega⟩ :=
  (column_latent m c t ht p _).trans (proj_eq _ _ _ _ _ fun k => Host.weights_v (m ((c : Thread nD τ).loc main_arg5)) k j)

theorem p_context (t : Fin cfg0.N) (ht : ¬ t.val < 64) (p : Fin 512) (j : Fin 256) :
    Body.column (iblk m c 0 t) (iblk m c 1 t) (iblk m c 2 t) (iblk m c 3 t) p ⟨j.val, by omega⟩
      = AbIn0ReferenceIdeal.Rows.context (m ((c : Thread nD τ).loc main_arg1)) (m ((c : Thread nD τ).loc main_arg3)) (m ((c : Thread nD τ).loc main_arg4)) (m ((c : Thread nD τ).loc main_arg5)) ⟨(t.val * 512 + p.val - 32768) / 256, by have := Host.t_lt t; omega⟩ ⟨(t.val * 512 + p.val - 32768) % 256, by omega⟩ ⟨j.val, by omega⟩ :=
  (column_context m c t ht p _).trans (proj_eq _ _ _ _ _ fun k => Host.weights_p (m ((c : Thread nD τ).loc main_arg5)) k j)

theorem q_context (t : Fin cfg0.N) (ht : ¬ t.val < 64) (p : Fin 512) (j : Fin 384) :
    Body.column (iblk m c 0 t) (iblk m c 1 t) (iblk m c 2 t) (iblk m c 3 t) p ⟨256 + j.val, by omega⟩
      = AbIn0ReferenceIdeal.Rows.context (m ((c : Thread nD τ).loc main_arg1)) (m ((c : Thread nD τ).loc main_arg3)) (m ((c : Thread nD τ).loc main_arg4)) (m ((c : Thread nD τ).loc main_arg5)) ⟨(t.val * 512 + p.val - 32768) / 256, by have := Host.t_lt t; omega⟩ ⟨(t.val * 512 + p.val - 32768) % 256, by omega⟩ ⟨256 + (AbRow.col j).val, by have := (AbRow.col j).isLt; omega⟩ :=
  (column_context m c t ht p _).trans (proj_eq _ _ _ _ _ fun k => Host.weights_q (m ((c : Thread nD τ).loc main_arg5)) k j)

theorem k_context (t : Fin cfg0.N) (ht : ¬ t.val < 64) (p : Fin 512) (j : Fin 384) :
    Body.column (iblk m c 0 t) (iblk m c 1 t) (iblk m c 2 t) (iblk m c 3 t) p ⟨640 + j.val, by omega⟩
      = AbIn0ReferenceIdeal.Rows.context (m ((c : Thread nD τ).loc main_arg1)) (m ((c : Thread nD τ).loc main_arg3)) (m ((c : Thread nD τ).loc main_arg4)) (m ((c : Thread nD τ).loc main_arg5)) ⟨(t.val * 512 + p.val - 32768) / 256, by have := Host.t_lt t; omega⟩ ⟨(t.val * 512 + p.val - 32768) % 256, by omega⟩ ⟨640 + (AbRow.col j).val, by have := (AbRow.col j).isLt; omega⟩ * Ideal.ofBits FTy.f32 0x3E000000#32 :=
  (column_context m c t ht p _).trans (proj_scaled _ _ _ _ _ fun k => Host.weights_k (m ((c : Thread nD τ).loc main_arg5)) k j)

theorem v_context (t : Fin cfg0.N) (ht : ¬ t.val < 64) (p : Fin 512) (j : Fin 1536) :
    Body.column (iblk m c 0 t) (iblk m c 1 t) (iblk m c 2 t) (iblk m c 3 t) p ⟨1024 + j.val, by omega⟩
      = AbIn0ReferenceIdeal.Rows.context (m ((c : Thread nD τ).loc main_arg1)) (m ((c : Thread nD τ).loc main_arg3)) (m ((c : Thread nD τ).loc main_arg4)) (m ((c : Thread nD τ).loc main_arg5)) ⟨(t.val * 512 + p.val - 32768) / 256, by have := Host.t_lt t; omega⟩ ⟨(t.val * 512 + p.val - 32768) % 256, by omega⟩ ⟨1024 + j.val, by omega⟩ :=
  (column_context m c t ht p _).trans (proj_eq _ _ _ _ _ fun k => Host.weights_v (m ((c : Thread nD τ).loc main_arg5)) k j)

theorem turned_q_latent (t : Fin cfg0.N) (ht : t.val < 64) (p : Fin 512) (j : Fin 384) :
    AbRow.turned (fun j => Body.column (iblk m c 0 t) (iblk m c 1 t) (iblk m c 2 t) (iblk m c 3 t) p ⟨256 + j.val, by omega⟩) (fun n => iblk m c 4 t (ix2 p n)) (fun n => iblk m c 5 t (ix2 p n)) j
      = AbRow.rotated (fun j : Fin 384 => AbIn0ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨256 + j.val, by omega⟩)
          (fun k => (m ((c : Thread nD τ).loc main_arg6)) (ix2 ⟨(t.val * 512 + p.val) % 8192, by omega⟩ k)) (fun k => (m ((c : Thread nD τ).loc main_arg7)) (ix2 ⟨(t.val * 512 + p.val) % 8192, by omega⟩ k)) j := by
  rw [show (fun j : Fin 384 => Body.column (iblk m c 0 t) (iblk m c 1 t) (iblk m c 2 t) (iblk m c 3 t) p ⟨256 + j.val, by omega⟩)
    = fun j => (fun j : Fin 384 => AbIn0ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨256 + j.val, by omega⟩) (AbRow.col j) from funext fun j => q_latent m c t ht p j]
  exact AbRow.turned_table (fun j : Fin 384 => AbIn0ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨256 + j.val, by omega⟩) (fun k => (m ((c : Thread nD τ).loc main_arg6)) (ix2 ⟨(t.val * 512 + p.val) % 8192, by omega⟩ k)) (fun k => (m ((c : Thread nD τ).loc main_arg7)) (ix2 ⟨(t.val * 512 + p.val) % 8192, by omega⟩ k)) _ _ (Host.cos_latent m c t ht p) (Host.sin_latent m c t ht p) j

theorem turned_q_context (t : Fin cfg0.N) (ht : ¬ t.val < 64) (p : Fin 512) (j : Fin 384) :
    AbRow.turned (fun j => Body.column (iblk m c 0 t) (iblk m c 1 t) (iblk m c 2 t) (iblk m c 3 t) p ⟨256 + j.val, by omega⟩) (fun n => iblk m c 4 t (ix2 p n)) (fun n => iblk m c 5 t (ix2 p n)) j
      = AbIn0ReferenceIdeal.Rows.context (m ((c : Thread nD τ).loc main_arg1)) (m ((c : Thread nD τ).loc main_arg3)) (m ((c : Thread nD τ).loc main_arg4)) (m ((c : Thread nD τ).loc main_arg5)) ⟨(t.val * 512 + p.val - 32768) / 256, by have := Host.t_lt t; omega⟩ ⟨(t.val * 512 + p.val - 32768) % 256, by omega⟩ ⟨256 + (AbRow.col j).val, by have := (AbRow.col j).isLt; omega⟩ :=
  (AbRow.turned_still _ _ _ (Host.cos_context m c t ht p) (Host.sin_context m c t ht p) j).trans (q_context m c t ht p j)

theorem turned_k_latent (t : Fin cfg0.N) (ht : t.val < 64) (p : Fin 512) (j : Fin 384) :
    AbRow.turned (fun j => Body.column (iblk m c 0 t) (iblk m c 1 t) (iblk m c 2 t) (iblk m c 3 t) p ⟨640 + j.val, by omega⟩) (fun n => iblk m c 4 t (ix2 p n)) (fun n => iblk m c 5 t (ix2 p n)) j
      = AbRow.rotated (fun j : Fin 384 => AbIn0ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨640 + j.val, by omega⟩ * Ideal.ofBits FTy.f32 0x3E000000#32)
          (fun k => (m ((c : Thread nD τ).loc main_arg6)) (ix2 ⟨(t.val * 512 + p.val) % 8192, by omega⟩ k)) (fun k => (m ((c : Thread nD τ).loc main_arg7)) (ix2 ⟨(t.val * 512 + p.val) % 8192, by omega⟩ k)) j := by
  rw [show (fun j : Fin 384 => Body.column (iblk m c 0 t) (iblk m c 1 t) (iblk m c 2 t) (iblk m c 3 t) p ⟨640 + j.val, by omega⟩)
    = fun j => (fun j : Fin 384 => AbIn0ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨640 + j.val, by omega⟩ * Ideal.ofBits FTy.f32 0x3E000000#32) (AbRow.col j) from funext fun j => k_latent m c t ht p j]
  exact AbRow.turned_table (fun j : Fin 384 => AbIn0ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨640 + j.val, by omega⟩ * Ideal.ofBits FTy.f32 0x3E000000#32) (fun k => (m ((c : Thread nD τ).loc main_arg6)) (ix2 ⟨(t.val * 512 + p.val) % 8192, by omega⟩ k)) (fun k => (m ((c : Thread nD τ).loc main_arg7)) (ix2 ⟨(t.val * 512 + p.val) % 8192, by omega⟩ k)) _ _ (Host.cos_latent m c t ht p) (Host.sin_latent m c t ht p) j

theorem turned_k_context (t : Fin cfg0.N) (ht : ¬ t.val < 64) (p : Fin 512) (j : Fin 384) :
    AbRow.turned (fun j => Body.column (iblk m c 0 t) (iblk m c 1 t) (iblk m c 2 t) (iblk m c 3 t) p ⟨640 + j.val, by omega⟩) (fun n => iblk m c 4 t (ix2 p n)) (fun n => iblk m c 5 t (ix2 p n)) j
      = AbIn0ReferenceIdeal.Rows.context (m ((c : Thread nD τ).loc main_arg1)) (m ((c : Thread nD τ).loc main_arg3)) (m ((c : Thread nD τ).loc main_arg4)) (m ((c : Thread nD τ).loc main_arg5)) ⟨(t.val * 512 + p.val - 32768) / 256, by have := Host.t_lt t; omega⟩ ⟨(t.val * 512 + p.val - 32768) % 256, by omega⟩ ⟨640 + (AbRow.col j).val, by have := (AbRow.col j).isLt; omega⟩ * Ideal.ofBits FTy.f32 0x3E000000#32 :=
  (AbRow.turned_still _ _ _ (Host.cos_context m c t ht p) (Host.sin_context m c t ht p) j).trans (k_context m c t ht p j)

theorem block6 (t : Fin cfg0.N) (p : Fin 512) (j : Fin 256) :
    out0_6 (F := Ideal) (iblk m c 0 t) (iblk m c 1 t) (iblk m c 2 t) (iblk m c 3 t) (iblk m c 4 t) (iblk m c 5 t) (ix2 p j) = G6 m c (ix2 ⟨t.val * 512 + p.val, by have := Host.t_lt t; omega⟩ j) := by
  have hlt := Host.t_lt t
  refine (Body.out6_apply _ _ _ _ _ _ p j).trans ?_
  by_cases ht : t.val < 64
  · refine Eq.trans (p_latent m c t ht p j) ?_
    exact ((AbIn0ReferenceIdeal.Rows.v134_latent _ _ _ _ _ _ ⟨t.val * 512 + p.val, by have := Host.t_lt t; omega⟩ (by show t.val * 512 + p.val < 32768; omega) j).trans (AbIn0ReferenceIdeal.Rows.v132_apply _ _ _ _ ⟨t.val * 512 + p.val, by omega⟩ j)).symm
  · refine Eq.trans (p_context m c t ht p j) ?_
    exact ((AbIn0ReferenceIdeal.Rows.v134_context _ _ _ _ _ _ ⟨t.val * 512 + p.val, by have := Host.t_lt t; omega⟩ (by show ¬ t.val * 512 + p.val < 32768; omega) j).trans (AbIn0ReferenceIdeal.Rows.v133_apply _ _ _ _ ⟨t.val * 512 + p.val - 32768, by omega⟩ j)).symm

theorem block7 (t : Fin cfg0.N) (p : Fin 512) (j : Fin 384) :
    out0_7 (F := Ideal) (iblk m c 0 t) (iblk m c 1 t) (iblk m c 2 t) (iblk m c 3 t) (iblk m c 4 t) (iblk m c 5 t) (ix2 p j) = G7 m c (ix2 ⟨t.val * 512 + p.val, by have := Host.t_lt t; omega⟩ j) := by
  have hlt := Host.t_lt t
  refine (congrFun (Body.out7_eq _ _ _ _ _ _) (ix2 p j)).trans ?_
  by_cases ht : t.val < 64
  · refine Eq.trans (turned_q_latent m c t ht p j) ?_
    exact ((AbIn0ReferenceIdeal.Rows.v141_latent _ _ _ _ _ _ _ _ ⟨t.val * 512 + p.val, by have := Host.t_lt t; omega⟩ (by show t.val * 512 + p.val < 32768; omega) j).trans (AbIn0ReferenceIdeal.Rows.v139_apply _ _ _ _ _ _ ⟨t.val * 512 + p.val, by omega⟩ j)).symm
  · refine Eq.trans (turned_q_context m c t ht p j) ?_
    exact ((AbIn0ReferenceIdeal.Rows.v141_context _ _ _ _ _ _ _ _ ⟨t.val * 512 + p.val, by have := Host.t_lt t; omega⟩ (by show ¬ t.val * 512 + p.val < 32768; omega) j).trans (AbIn0ReferenceIdeal.Rows.v140_apply _ _ _ _ ⟨t.val * 512 + p.val - 32768, by omega⟩ j)).symm

theorem block8 (t : Fin cfg0.N) (p : Fin 512) (j : Fin 384) :
    out0_8 (F := Ideal) (iblk m c 0 t) (iblk m c 1 t) (iblk m c 2 t) (iblk m c 3 t) (iblk m c 4 t) (iblk m c 5 t) (ix3 0 j p) = G8 m c (ix3 ⟨t.val, Host.t_lt t⟩ j p) := by
  have hlt := Host.t_lt t
  refine (congrFun (Body.out8_eq _ _ _ _ _ _) (ix3 0 j p)).trans ?_
  by_cases ht : t.val < 64
  · refine Eq.trans (turned_k_latent m c t ht p j) ?_
    exact ((AbIn0ReferenceIdeal.Rows.v152_apply _ _ _ _ _ _ _ _ ⟨t.val, Host.t_lt t⟩ j p).trans ((AbIn0ReferenceIdeal.Rows.v149_latent _ _ _ _ _ _ _ _ ⟨t.val * 512 + p.val, by have := Host.t_lt t; omega⟩ (by show t.val * 512 + p.val < 32768; omega) j).trans (AbIn0ReferenceIdeal.Rows.v147_apply _ _ _ _ _ _ ⟨t.val * 512 + p.val, by omega⟩ j))).symm
  · refine Eq.trans (turned_k_context m c t ht p j) ?_
    exact ((AbIn0ReferenceIdeal.Rows.v152_apply _ _ _ _ _ _ _ _ ⟨t.val, Host.t_lt t⟩ j p).trans ((AbIn0ReferenceIdeal.Rows.v149_context _ _ _ _ _ _ _ _ ⟨t.val * 512 + p.val, by have := Host.t_lt t; omega⟩ (by show ¬ t.val * 512 + p.val < 32768; omega) j).trans (AbIn0ReferenceIdeal.Rows.v148_apply _ _ _ _ ⟨t.val * 512 + p.val - 32768, by omega⟩ j))).symm

theorem block9 (t : Fin cfg0.N) (p : Fin 512) (j : Fin 768) :
    out0_9 (F := Ideal) (iblk m c 0 t) (iblk m c 1 t) (iblk m c 2 t) (iblk m c 3 t) (iblk m c 4 t) (iblk m c 5 t) (ix2 p j) = G9 m c (ix2 ⟨t.val * 512 + p.val, by have := Host.t_lt t; omega⟩ j) := by
  have hlt := Host.t_lt t
  refine (Body.out9_apply _ _ _ _ _ _ p j).trans ?_
  by_cases ht : t.val < 64
  · refine Eq.trans (v_latent m c t ht p ⟨j.val, by omega⟩) ?_
    exact ((AbIn0ReferenceIdeal.Rows.v155_latent _ _ _ _ _ _ ⟨t.val * 512 + p.val, by have := Host.t_lt t; omega⟩ (by show t.val * 512 + p.val < 32768; omega) j).trans (AbIn0ReferenceIdeal.Rows.v153_apply _ _ _ _ ⟨t.val * 512 + p.val, by omega⟩ j)).symm
  · refine Eq.trans (v_context m c t ht p ⟨j.val, by omega⟩) ?_
    exact ((AbIn0ReferenceIdeal.Rows.v155_context _ _ _ _ _ _ ⟨t.val * 512 + p.val, by have := Host.t_lt t; omega⟩ (by show ¬ t.val * 512 + p.val < 32768; omega) j).trans (AbIn0ReferenceIdeal.Rows.v154_apply _ _ _ _ ⟨t.val * 512 + p.val - 32768, by omega⟩ j)).symm

theorem block10 (t : Fin cfg0.N) (p : Fin 512) (j : Fin 768) :
    out0_10 (F := Ideal) (iblk m c 0 t) (iblk m c 1 t) (iblk m c 2 t) (iblk m c 3 t) (iblk m c 4 t) (iblk m c 5 t) (ix2 p j) = G10 m c (ix2 ⟨t.val * 512 + p.val, by have := Host.t_lt t; omega⟩ j) := by
  have hlt := Host.t_lt t
  refine (Body.out10_apply _ _ _ _ _ _ p j).trans ?_
  by_cases ht : t.val < 64
  · refine Eq.trans (((congrArg (Body.column (iblk m c 0 t) (iblk m c 1 t) (iblk m c 2 t) (iblk m c 3 t) p) (Fin.ext (by show 1792 + j.val = 1024 + (768 + j.val); omega))).trans ((v_latent m c t ht p ⟨768 + j.val, by omega⟩).trans (congrArg (AbIn0ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩) (Fin.ext (by show 1024 + (768 + j.val) = 1792 + j.val; omega) : (⟨1024 + (768 + j.val), by omega⟩ : Fin 2560) = ⟨1792 + j.val, by omega⟩))))) ?_
    exact ((AbIn0ReferenceIdeal.Rows.v159_latent _ _ _ _ _ _ ⟨t.val * 512 + p.val, by have := Host.t_lt t; omega⟩ (by show t.val * 512 + p.val < 32768; omega) j).trans (AbIn0ReferenceIdeal.Rows.v157_apply _ _ _ _ ⟨t.val * 512 + p.val, by omega⟩ j)).symm
  · refine Eq.trans (((congrArg (Body.column (iblk m c 0 t) (iblk m c 1 t) (iblk m c 2 t) (iblk m c 3 t) p) (Fin.ext (by show 1792 + j.val = 1024 + (768 + j.val); omega))).trans ((v_context m c t ht p ⟨768 + j.val, by omega⟩).trans (congrArg (AbIn0ReferenceIdeal.Rows.context (m ((c : Thread nD τ).loc main_arg1)) (m ((c : Thread nD τ).loc main_arg3)) (m ((c : Thread nD τ).loc main_arg4)) (m ((c : Thread nD τ).loc main_arg5)) ⟨(t.val * 512 + p.val - 32768) / 256, by have := Host.t_lt t; omega⟩ ⟨(t.val * 512 + p.val - 32768) % 256, by omega⟩) (Fin.ext (by show 1024 + (768 + j.val) = 1792 + j.val; omega) : (⟨1024 + (768 + j.val), by omega⟩ : Fin 2560) = ⟨1792 + j.val, by omega⟩))))) ?_
    exact ((AbIn0ReferenceIdeal.Rows.v159_context _ _ _ _ _ _ ⟨t.val * 512 + p.val, by have := Host.t_lt t; omega⟩ (by show ¬ t.val * 512 + p.val < 32768; omega) j).trans (AbIn0ReferenceIdeal.Rows.v158_apply _ _ _ _ ⟨t.val * 512 + p.val - 32768, by omega⟩ j)).symm

theorem flushed6_eq (t : Fin cfg0.N) : (dats m 0 c).flushed 6 t = ((cfg0.win 6).blk t).view.read (Elt Ideal) (G6 m c) := by
  rw [Value.flushed6]
  have ht := Host.t_lt t
  have key : ∀ y : S512x256.Idx, out0_6 (F := Ideal) (iblk m c 0 t) (iblk m c 1 t) (iblk m c 2 t) (iblk m c 3 t) (iblk m c 4 t) (iblk m c 5 t) y
      = G6 m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block6 m c t (y 0) (y 1)
  funext y
  refine (key y).trans (congrArg (G6 m c) (funext fun a => Fin.ext ?_))
  have e := (Host.index_facts t).2.2.2.2.2.2.1
  match a with
  | ⟨0, _⟩ => show t.val * 512 + (y 0).val = win0_6.index t 0 * 512 + 1 * (y 0).val; rw [e.1]; omega
  | ⟨1, _⟩ => show (y 1).val = win0_6.index t 1 * 256 + 1 * (y 1).val; rw [e.2]; omega

theorem mem_blk6 (t : Fin cfg0.N) (i : S33792x256.Idx) : i ∈ ((cfg0.win 6).blk t).view.set ↔
    ∀ a, win0_6.index t a * win0_6.size a ≤ (i a).val ∧ (i a).val < win0_6.index t a * win0_6.size a + win0_6.xsize (grid0.coords t) a := by
  show i ∈ ((View.whole main_v37_0).slice (win0_6.rect t)).set ↔ _
  rw [View.set_slice_whole, Rect.mem_set_unit]

theorem cover6 (i : S33792x256.Idx) : ∃ t : Fin cfg0.N, (cfg0.win 6).flush t = true ∧ i ∈ ((cfg0.win 6).blk t).view.set := by
  have h0 : (i 0).val < 33792 := (i 0).isLt
  have h1 : (i 1).val < 256 := (i 1).isLt
  have hN : cfg0.N = 66 := N_0
  have hlt : (i 0).val / 512 < cfg0.N := by omega
  refine ⟨⟨(i 0).val / 512, hlt⟩, flush0_6 _, (mem_blk6 _ i).2 fun a => ?_⟩
  have e := (Host.index_facts ⟨(i 0).val / 512, hlt⟩).2.2.2.2.2.2.1
  match a with
  | ⟨0, _⟩ =>
    show win0_6.index _ 0 * 512 ≤ (i 0).val ∧ (i 0).val < win0_6.index _ 0 * 512 + 512
    rw [e.1]; show (i 0).val / 512 * 512 ≤ (i 0).val ∧ (i 0).val < (i 0).val / 512 * 512 + 512; omega
  | ⟨1, _⟩ =>
    show win0_6.index _ 1 * 256 ≤ (i 1).val ∧ (i 1).val < win0_6.index _ 1 * 256 + 256
    rw [e.2]; omega

theorem final6 : (dats m 0 c).arrAt 6 cfg0.N = G6 m c :=
  (dats m 0 c).arrAt_eq_of_cover 6 (G6 m c) (fun t _ => flushed6_eq m c t) cover6

theorem flushed7_eq (t : Fin cfg0.N) : (dats m 0 c).flushed 7 t = ((cfg0.win 7).blk t).view.read (Elt Ideal) (G7 m c) := by
  rw [Value.flushed7]
  have ht := Host.t_lt t
  have key : ∀ y : S512x384.Idx, out0_7 (F := Ideal) (iblk m c 0 t) (iblk m c 1 t) (iblk m c 2 t) (iblk m c 3 t) (iblk m c 4 t) (iblk m c 5 t) y
      = G7 m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block7 m c t (y 0) (y 1)
  funext y
  refine (key y).trans (congrArg (G7 m c) (funext fun a => Fin.ext ?_))
  have e := (Host.index_facts t).2.2.2.2.2.2.2.1
  match a with
  | ⟨0, _⟩ => show t.val * 512 + (y 0).val = win0_7.index t 0 * 512 + 1 * (y 0).val; rw [e.1]; omega
  | ⟨1, _⟩ => show (y 1).val = win0_7.index t 1 * 384 + 1 * (y 1).val; rw [e.2]; omega

theorem mem_blk7 (t : Fin cfg0.N) (i : S33792x384.Idx) : i ∈ ((cfg0.win 7).blk t).view.set ↔
    ∀ a, win0_7.index t a * win0_7.size a ≤ (i a).val ∧ (i a).val < win0_7.index t a * win0_7.size a + win0_7.xsize (grid0.coords t) a := by
  show i ∈ ((View.whole main_v37_1).slice (win0_7.rect t)).set ↔ _
  rw [View.set_slice_whole, Rect.mem_set_unit]

theorem cover7 (i : S33792x384.Idx) : ∃ t : Fin cfg0.N, (cfg0.win 7).flush t = true ∧ i ∈ ((cfg0.win 7).blk t).view.set := by
  have h0 : (i 0).val < 33792 := (i 0).isLt
  have h1 : (i 1).val < 384 := (i 1).isLt
  have hN : cfg0.N = 66 := N_0
  have hlt : (i 0).val / 512 < cfg0.N := by omega
  refine ⟨⟨(i 0).val / 512, hlt⟩, flush0_7 _, (mem_blk7 _ i).2 fun a => ?_⟩
  have e := (Host.index_facts ⟨(i 0).val / 512, hlt⟩).2.2.2.2.2.2.2.1
  match a with
  | ⟨0, _⟩ =>
    show win0_7.index _ 0 * 512 ≤ (i 0).val ∧ (i 0).val < win0_7.index _ 0 * 512 + 512
    rw [e.1]; show (i 0).val / 512 * 512 ≤ (i 0).val ∧ (i 0).val < (i 0).val / 512 * 512 + 512; omega
  | ⟨1, _⟩ =>
    show win0_7.index _ 1 * 384 ≤ (i 1).val ∧ (i 1).val < win0_7.index _ 1 * 384 + 384
    rw [e.2]; omega

theorem final7 : (dats m 0 c).arrAt 7 cfg0.N = G7 m c :=
  (dats m 0 c).arrAt_eq_of_cover 7 (G7 m c) (fun t _ => flushed7_eq m c t) cover7

theorem flushed8_eq (t : Fin cfg0.N) : (dats m 0 c).flushed 8 t = ((cfg0.win 8).blk t).view.read (Elt Ideal) (G8 m c) := by
  rw [Value.flushed8]
  have ht := Host.t_lt t
  have key : ∀ y : S1x384x512.Idx, out0_8 (F := Ideal) (iblk m c 0 t) (iblk m c 1 t) (iblk m c 2 t) (iblk m c 3 t) (iblk m c 4 t) (iblk m c 5 t) y = G8 m c (ix3 ⟨t.val, ht⟩ (y 1) (y 2)) := by
    intro y
    have h0 : (y 0).val < 1 := (y 0).isLt
    have hy : y = ix3 0 (y 1) (y 2) := by
      funext a
      match a with
      | ⟨0, _⟩ => exact Fin.ext (by show (y 0).val = 0; omega)
      | ⟨1, _⟩ => rfl
      | ⟨2, _⟩ => rfl
    rw [hy]; exact block8 m c t (y 2) (y 1)
  funext y
  have h0 : (y 0).val < 1 := (y 0).isLt
  refine (key y).trans (congrArg (G8 m c) (funext fun a => Fin.ext ?_))
  have e := (Host.index_facts t).2.2.2.2.2.2.2.2.1
  match a with
  | ⟨0, _⟩ => show t.val = win0_8.index t 0 * 1 + 1 * (y 0).val; rw [e.1]; omega
  | ⟨1, _⟩ => show (y 1).val = win0_8.index t 1 * 384 + 1 * (y 1).val; rw [e.2.1]; omega
  | ⟨2, _⟩ => show (y 2).val = win0_8.index t 2 * 512 + 1 * (y 2).val; rw [e.2.2]; omega

theorem mem_blk8 (t : Fin cfg0.N) (i : S66x384x512.Idx) : i ∈ ((cfg0.win 8).blk t).view.set ↔
    ∀ a, win0_8.index t a * win0_8.size a ≤ (i a).val ∧ (i a).val < win0_8.index t a * win0_8.size a + win0_8.xsize (grid0.coords t) a := by
  show i ∈ ((View.whole main_v37_2).slice (win0_8.rect t)).set ↔ _
  rw [View.set_slice_whole, Rect.mem_set_unit]

theorem cover8 (i : S66x384x512.Idx) : ∃ t : Fin cfg0.N, (cfg0.win 8).flush t = true ∧ i ∈ ((cfg0.win 8).blk t).view.set := by
  have h0 : (i 0).val < 66 := (i 0).isLt
  have h1 : (i 1).val < 384 := (i 1).isLt
  have h2 : (i 2).val < 512 := (i 2).isLt
  have hN : cfg0.N = 66 := N_0
  have hlt : (i 0).val < cfg0.N := by omega
  refine ⟨⟨(i 0).val, hlt⟩, flush0_8 _, (mem_blk8 _ i).2 fun a => ?_⟩
  have e := (Host.index_facts ⟨(i 0).val, hlt⟩).2.2.2.2.2.2.2.2.1
  match a with
  | ⟨0, _⟩ =>
    show win0_8.index _ 0 * 1 ≤ (i 0).val ∧ (i 0).val < win0_8.index _ 0 * 1 + 1
    rw [e.1]; show (i 0).val * 1 ≤ (i 0).val ∧ (i 0).val < (i 0).val * 1 + 1; omega
  | ⟨1, _⟩ =>
    show win0_8.index _ 1 * 384 ≤ (i 1).val ∧ (i 1).val < win0_8.index _ 1 * 384 + 384
    rw [e.2.1]; omega
  | ⟨2, _⟩ =>
    show win0_8.index _ 2 * 512 ≤ (i 2).val ∧ (i 2).val < win0_8.index _ 2 * 512 + 512
    rw [e.2.2]; omega

theorem final8 : (dats m 0 c).arrAt 8 cfg0.N = G8 m c :=
  (dats m 0 c).arrAt_eq_of_cover 8 (G8 m c) (fun t _ => flushed8_eq m c t) cover8

theorem flushed9_eq (t : Fin cfg0.N) : (dats m 0 c).flushed 9 t = ((cfg0.win 9).blk t).view.read (Elt Ideal) (G9 m c) := by
  rw [Value.flushed9]
  have ht := Host.t_lt t
  have key : ∀ y : S512x768.Idx, out0_9 (F := Ideal) (iblk m c 0 t) (iblk m c 1 t) (iblk m c 2 t) (iblk m c 3 t) (iblk m c 4 t) (iblk m c 5 t) y
      = G9 m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block9 m c t (y 0) (y 1)
  funext y
  refine (key y).trans (congrArg (G9 m c) (funext fun a => Fin.ext ?_))
  have e := (Host.index_facts t).2.2.2.2.2.2.2.2.2.1
  match a with
  | ⟨0, _⟩ => show t.val * 512 + (y 0).val = win0_9.index t 0 * 512 + 1 * (y 0).val; rw [e.1]; omega
  | ⟨1, _⟩ => show (y 1).val = win0_9.index t 1 * 768 + 1 * (y 1).val; rw [e.2]; omega

theorem mem_blk9 (t : Fin cfg0.N) (i : S33792x768.Idx) : i ∈ ((cfg0.win 9).blk t).view.set ↔
    ∀ a, win0_9.index t a * win0_9.size a ≤ (i a).val ∧ (i a).val < win0_9.index t a * win0_9.size a + win0_9.xsize (grid0.coords t) a := by
  show i ∈ ((View.whole main_v37_3).slice (win0_9.rect t)).set ↔ _
  rw [View.set_slice_whole, Rect.mem_set_unit]

theorem cover9 (i : S33792x768.Idx) : ∃ t : Fin cfg0.N, (cfg0.win 9).flush t = true ∧ i ∈ ((cfg0.win 9).blk t).view.set := by
  have h0 : (i 0).val < 33792 := (i 0).isLt
  have h1 : (i 1).val < 768 := (i 1).isLt
  have hN : cfg0.N = 66 := N_0
  have hlt : (i 0).val / 512 < cfg0.N := by omega
  refine ⟨⟨(i 0).val / 512, hlt⟩, flush0_9 _, (mem_blk9 _ i).2 fun a => ?_⟩
  have e := (Host.index_facts ⟨(i 0).val / 512, hlt⟩).2.2.2.2.2.2.2.2.2.1
  match a with
  | ⟨0, _⟩ =>
    show win0_9.index _ 0 * 512 ≤ (i 0).val ∧ (i 0).val < win0_9.index _ 0 * 512 + 512
    rw [e.1]; show (i 0).val / 512 * 512 ≤ (i 0).val ∧ (i 0).val < (i 0).val / 512 * 512 + 512; omega
  | ⟨1, _⟩ =>
    show win0_9.index _ 1 * 768 ≤ (i 1).val ∧ (i 1).val < win0_9.index _ 1 * 768 + 768
    rw [e.2]; omega

theorem final9 : (dats m 0 c).arrAt 9 cfg0.N = G9 m c :=
  (dats m 0 c).arrAt_eq_of_cover 9 (G9 m c) (fun t _ => flushed9_eq m c t) cover9

theorem flushed10_eq (t : Fin cfg0.N) : (dats m 0 c).flushed 10 t = ((cfg0.win 10).blk t).view.read (Elt Ideal) (G10 m c) := by
  rw [Value.flushed10]
  have ht := Host.t_lt t
  have key : ∀ y : S512x768.Idx, out0_10 (F := Ideal) (iblk m c 0 t) (iblk m c 1 t) (iblk m c 2 t) (iblk m c 3 t) (iblk m c 4 t) (iblk m c 5 t) y
      = G10 m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block10 m c t (y 0) (y 1)
  funext y
  refine (key y).trans (congrArg (G10 m c) (funext fun a => Fin.ext ?_))
  have e := (Host.index_facts t).2.2.2.2.2.2.2.2.2.2
  match a with
  | ⟨0, _⟩ => show t.val * 512 + (y 0).val = win0_10.index t 0 * 512 + 1 * (y 0).val; rw [e.1]; omega
  | ⟨1, _⟩ => show (y 1).val = win0_10.index t 1 * 768 + 1 * (y 1).val; rw [e.2]; omega

theorem mem_blk10 (t : Fin cfg0.N) (i : S33792x768.Idx) : i ∈ ((cfg0.win 10).blk t).view.set ↔
    ∀ a, win0_10.index t a * win0_10.size a ≤ (i a).val ∧ (i a).val < win0_10.index t a * win0_10.size a + win0_10.xsize (grid0.coords t) a := by
  show i ∈ ((View.whole main_v37_4).slice (win0_10.rect t)).set ↔ _
  rw [View.set_slice_whole, Rect.mem_set_unit]

theorem cover10 (i : S33792x768.Idx) : ∃ t : Fin cfg0.N, (cfg0.win 10).flush t = true ∧ i ∈ ((cfg0.win 10).blk t).view.set := by
  have h0 : (i 0).val < 33792 := (i 0).isLt
  have h1 : (i 1).val < 768 := (i 1).isLt
  have hN : cfg0.N = 66 := N_0
  have hlt : (i 0).val / 512 < cfg0.N := by omega
  refine ⟨⟨(i 0).val / 512, hlt⟩, flush0_10 _, (mem_blk10 _ i).2 fun a => ?_⟩
  have e := (Host.index_facts ⟨(i 0).val / 512, hlt⟩).2.2.2.2.2.2.2.2.2.2
  match a with
  | ⟨0, _⟩ =>
    show win0_10.index _ 0 * 512 ≤ (i 0).val ∧ (i 0).val < win0_10.index _ 0 * 512 + 512
    rw [e.1]; show (i 0).val / 512 * 512 ≤ (i 0).val ∧ (i 0).val < (i 0).val / 512 * 512 + 512; omega
  | ⟨1, _⟩ =>
    show win0_10.index _ 1 * 768 ≤ (i 1).val ∧ (i 1).val < win0_10.index _ 1 * 768 + 768
    rw [e.2]; omega

theorem final10 : (dats m 0 c).arrAt 10 cfg0.N = G10 m c :=
  (dats m 0 c).arrAt_eq_of_cover 10 (G10 m c) (fun t _ => flushed10_eq m c t) cover10

/-- The value claim of this input projection: each of its five results. -/
theorem agrees : @Cert.algebraic_AbIn0Ideal_AbIn0ReferenceIdeal Cert.AbIn0Ideal.Gen.facts Cert.AbIn0ReferenceIdeal.Gen.facts := by
  intro m ρ m' ρ' _ hagree
  refine ⟨fun c => G6 m c, fun c => G7 m c, fun c => G8 m c, fun c => G9 m c, fun c => G10 m c, ?_, ?_⟩
  · exact (θ_run Cert.AbIn0Ideal.defs _ _).mono (fun _ h c => by
      obtain ⟨h6, h7, h8, h9, h10, hk⟩ := h c
      exact ⟨h6.trans (final6 m c), h7.trans (final7 m c), h8.trans (final8 m c), h9.trans (final9 m c), h10.trans (final10 m c), hk⟩)
      (Value.run_blocks m ρ)
  · refine (θ_run Cert.AbIn0ReferenceIdeal.defs _ _).mono (fun _ h c => ?_) (Cert.AbIn0ReferenceIdeal.Value.run (F := Ideal) m' ρ')
    obtain ⟨a0, a1, a2, a3, a4, a5, a6, a7⟩ := hagree c
    obtain ⟨h0, h1, h2, h3, h4, hk⟩ := h c
    refine ⟨h0.trans ?_, h1.trans ?_, h2.trans ?_, h3.trans ?_, h4.trans ?_, hk⟩
    · rw [AbIn0ReferenceIdeal.Read.val_main_v134_eq, a0, a1, a2, a3, a4, a5]
      rfl
    · rw [AbIn0ReferenceIdeal.Read.val_main_v142_eq, a0, a1, a2, a3, a4, a5, a6, a7]
      rfl
    · rw [AbIn0ReferenceIdeal.Read.val_main_v152_eq, a0, a1, a2, a3, a4, a5, a6, a7]
      rfl
    · rw [AbIn0ReferenceIdeal.Read.val_main_v156_eq, a0, a1, a2, a3, a4, a5]
      rfl
    · rw [AbIn0ReferenceIdeal.Read.val_main_v160_eq, a0, a1, a2, a3, a4, a5]
      rfl

/-- The reference keeps its arguments and leaves no semaphore raised. -/
theorem reference_frame : @Cert.quiescent_AbIn0ReferenceIdeal Cert.AbIn0ReferenceIdeal.Gen.facts := fun m ρ _ =>
  (θ_run Cert.AbIn0ReferenceIdeal.defs _ _).mono
    (fun r h => ⟨fun c => (h c).2.2.2.2.2, sem_eq_zero_of_no_sems (by decide) r.2⟩) (Cert.AbIn0ReferenceIdeal.Value.run (F := Ideal) m ρ)

end Cert.AbIn0Ideal.Whole

end
-- ==== Proof.AbIn2Body.lean ====
/-
  What one grid point of the retention mixer's input projection of layer 2 writes, at an index of its five blocks: every
  block is columns of `AbRow.proj` of the modulated rows, and those of the queries and keys are turned, 128 channels at a
  time, with the blocks of the two tables (`AbRow.turned`).
-/
module

public import proofs.«01_k».proof.Proof.Gen.AbIn2Ideal.Value
public import proofs.«01_k».proof.Proof.FfnRow
public import proofs.«01_k».proof.Proof.AbRow

@[expose] public section

set_option maxRecDepth 16384

noncomputable section

namespace Cert.AbIn2Ideal.Body

open Cert.AbIn2Ideal Cert.AbIn2Ideal.Gen Idealize.ShloMosaic

/-- One column of the projection of one row of a block, from the blocks of the activations, the modulations, the gain
    and the weights. -/
def column (x0 : Vec Ideal S512x1024 .f32) (x1 : Vec Ideal S1x9x1024 .f32) (x2 : Vec Ideal S1x1024 .f32) (x3 : Vec Ideal S1024x2560 .bf16)
    (p : Fin 512) : Fin 2560 → EReal :=
  AbRow.proj (FfnRow.scaled (fun k => x0 (ix2 p k)) (fun k => x2 (ix2 0 k)) (fun k => x1 (ix3 0 3 k)) (fun k => x1 (ix3 0 4 k)))
    (fun k n => x3 (ix2 k n))

variable (x0 : Vec Ideal S512x1024 .f32) (x1 : Vec Ideal S1x9x1024 .f32) (x2 : Vec Ideal S1x1024 .f32)
  (x3 : Vec Ideal S1024x2560 .bf16) (x4 x5 : Vec Ideal S512x128 .f32)

/-- The whole projection. -/
theorem pay23_apply (p : Fin 512) (n : Fin 2560) : k0_pay23 (F := Ideal) x0 x1 x2 x3 x4 x5 (ix2 p n) = column x0 x1 x2 x3 p n := by
  unfold k0_pay23
  pointwise [k0_pay4]
  rfl

theorem pay24_apply (p : Fin 512) (n : Fin 128) : k0_pay24 (F := Ideal) x0 x1 x2 x3 x4 x5 (ix2 p n) = x4 (ix2 p n) := by
  unfold k0_pay24
  pointwise [k0_pay6]

theorem pay25_apply (p : Fin 512) (n : Fin 128) : k0_pay25 (F := Ideal) x0 x1 x2 x3 x4 x5 (ix2 p n) = x5 (ix2 p n) := by
  unfold k0_pay25
  pointwise [k0_pay7]

/-- Whether a lane holds a pair's first member: its number modulo 64 is below 32. -/
def lane : IVec S512x128 1 :=
  have a : IVec S512x128 32 := remsi (iota .tc S512x128 32 [1] iota_S512x128_d1_w32) (broadcast S512x128 (Scalar.select (Scalar.cmpi .eq 64#32 0#32) 1#32 64#32))
  cmpi .slt (select (andi (xori (cmpi .slt a (broadcast S512x128 0#32))
    (broadcastTo S512x128 (broadcast S512x128 (Scalar.cmpi .slt (Scalar.select (Scalar.cmpi .eq 64#32 0#32) 1#32 64#32) 0#32)) broadcasts_S512x128_S512x128))
      (cmpi .ne a (broadcast S512x128 0#32))) (addi a (broadcast S512x128 (Scalar.select (Scalar.cmpi .eq 64#32 0#32) 1#32 64#32))) a)
    (broadcast S512x128 32#32)

/-- 128 channels turned with a block of each table. -/
def turn (x C S : FVec Ideal S512x128 .f32) : FVec Ideal S512x128 .f32 :=
  addf (mulf x C) (mulf (select lane (dynamicRotate 1 96#32 none x rotates_S512x128_d1) (dynamicRotate 1 32#32 none x rotates_S512x128_d1)) S)

theorem pay8_eq (v : FVec Ideal S512x2560 .f32) (C S : FVec Ideal S512x128 .f32) :
    k0_pay8 (F := Ideal) v C S = turn (extractStridedSlice S512x128 ![0, 256] v slices_S512x2560_o0_256_S512x128) C S := rfl

theorem pay13_eq (v : FVec Ideal S512x2560 .f32) (C S : FVec Ideal S512x128 .f32) :
    k0_pay13 (F := Ideal) C S (k0_pay9 v) (Scalar.select (Scalar.cmpi .eq 64#32 0#32) 1#32 64#32) k0_pay10 k0_pay11 k0_pay12
      = turn (extractStridedSlice S512x128 ![0, 384] v slices_S512x2560_o0_384_S512x128) C S := rfl

theorem pay14_eq (v : FVec Ideal S512x2560 .f32) (C S : FVec Ideal S512x128 .f32) :
    k0_pay14 (F := Ideal) v C S = turn (extractStridedSlice S512x128 ![0, 512] v slices_S512x2560_o0_512_S512x128) C S := rfl

theorem lane_apply (p : Fin 512) (n : Fin 128) : lane (ix2 p n) = if n.val % 64 < 32 then 1#1 else 0#1 := by
  pointwise [lane]
  revert n
  decide +kernel

theorem turn_apply (x C S : FVec Ideal S512x128 .f32) (p : Fin 512) (n : Fin 128) :
    turn x C S (ix2 p n) = x (ix2 p n) * C (ix2 p n)
      + (if n.val % 64 < 32 then x (ix2 p ⟨(n.val + 32) % 128, by omega⟩) else x (ix2 p ⟨(n.val + 96) % 128, by omega⟩)) * S (ix2 p n) := by
  pointwise [turn, lane_apply]
  by_cases h : n.val % 64 < 32
  · simp only [h, if_true]
    rfl
  · simp only [h, if_false]
    rfl

/-- 128 channels of the kernel's order, from channel `b` of 384 on, turned. -/
theorem turn_block (X : Fin 384 → EReal) (x C S : FVec Ideal S512x128 .f32) (p : Fin 512) (j : ℕ) (hj : j < 3)
    (hx : ∀ n : Fin 128, x (ix2 p n) = X ⟨128 * j + n.val, by omega⟩) (n : Fin 128) :
    turn x C S (ix2 p n) = AbRow.turned X (fun n => C (ix2 p n)) (fun n => S (ix2 p n)) ⟨128 * j + n.val, by omega⟩ := by
  rw [turn_apply]
  simp only [hx, AbRow.turned]
  have e : (⟨(128 * j + n.val) % 128, by omega⟩ : Fin 128) = n := Fin.ext (by show (128 * j + n.val) % 128 = n.val; omega)
  have e' : (128 * j + n.val) % 64 = n.val % 64 := by omega
  simp only [e, e']
  by_cases h : n.val % 64 < 32
  · simp only [h, if_true]
    congr 4; omega
  · simp only [h, if_false]
    congr 4; omega

/-- The pooled channels a grid point writes. -/
theorem out6_apply (p : Fin 512) (j : Fin 256) :
    out0_6 (F := Ideal) x0 x1 x2 x3 x4 x5 (ix2 p j) = column x0 x1 x2 x3 p ⟨j.val, by omega⟩ := by
  unfold out0_6
  rw [View.canon_unit_zero (by funext a; match a with | ⟨0, _⟩ => rfl | ⟨1, _⟩ => rfl)]
  refine Eq.trans ?_ (pay23_apply x0 x1 x2 x3 x4 x5 p ⟨j.val, by omega⟩)
  pointwise [k0_pay5]
  rfl

/-- The values. -/
theorem out9_apply (p : Fin 512) (j : Fin 768) :
    out0_9 (F := Ideal) x0 x1 x2 x3 x4 x5 (ix2 p j) = column x0 x1 x2 x3 p ⟨1024 + j.val, by omega⟩ := by
  unfold out0_9
  rw [View.canon_unit_zero (by funext a; match a with | ⟨0, _⟩ => rfl | ⟨1, _⟩ => rfl)]
  refine Eq.trans ?_ (pay23_apply x0 x1 x2 x3 x4 x5 p ⟨1024 + j.val, by omega⟩)
  pointwise [k0_pay2]

/-- The gate. -/
theorem out10_apply (p : Fin 512) (j : Fin 768) :
    out0_10 (F := Ideal) x0 x1 x2 x3 x4 x5 (ix2 p j) = column x0 x1 x2 x3 p ⟨1792 + j.val, by omega⟩ := by
  unfold out0_10
  rw [View.canon_unit_zero (by funext a; match a with | ⟨0, _⟩ => rfl | ⟨1, _⟩ => rfl)]
  refine Eq.trans ?_ (pay23_apply x0 x1 x2 x3 x4 x5 p ⟨1792 + j.val, by omega⟩)
  pointwise [k0_pay3]

/-- What one of the three stores of 128 channels each writes, at the channels it writes. -/
theorem piece (v : FVec Ideal S512x2560 .f32) (b o j : ℕ) (hb : b ≤ 640) (hj : j < 3) (ho : o = b + 128 * j) (h : S512x2560.Slices ![0, o] S512x128)
    (hv : ∀ p n, v (ix2 p n) = column x0 x1 x2 x3 p n) (C S : FVec Ideal S512x128 .f32)
    (hC : ∀ p n, C (ix2 p n) = x4 (ix2 p n)) (hS : ∀ p n, S (ix2 p n) = x5 (ix2 p n)) (p : Fin 512) (n : Fin 128) :
    turn (extractStridedSlice S512x128 ![0, o] v h) C S (ix2 p n)
      = AbRow.turned (fun c => column x0 x1 x2 x3 p ⟨b + c.val, by omega⟩) (fun n => x4 (ix2 p n)) (fun n => x5 (ix2 p n)) ⟨128 * j + n.val, by omega⟩ := by
  simp only [← hC, ← hS]
  refine turn_block _ _ _ _ _ j hj (fun n => ?_) n
  refine Eq.trans ?_ (hv p ⟨b + (128 * j + n.val), by omega⟩)
  refine congrArg v (funext fun a => Fin.ext ?_)
  match a with
  | ⟨0, _⟩ => show 0 + p.val = p.val; omega
  | ⟨1, _⟩ => show o + n.val = b + (128 * j + n.val); omega

/-- The queries of a grid point's block. -/
def queries : Vec Ideal S512x384 .bf16 := fun y =>
  AbRow.turned (fun c => column x0 x1 x2 x3 (y 0) ⟨256 + c.val, by omega⟩) (fun n => x4 (ix2 (y 0) n)) (fun n => x5 (ix2 (y 0) n)) (y 1)

/-- The keys of a grid point's block, a column to a row of the activations. -/
def keys : Vec Ideal S1x384x512 .bf16 := fun y =>
  AbRow.turned (fun c => column x0 x1 x2 x3 (y 2) ⟨640 + c.val, by omega⟩) (fun n => x4 (ix2 (y 2) n)) (fun n => x5 (ix2 (y 2) n)) (y 1)

/-- A store of 128 channels of the queries. -/
theorem queries_piece (j : ℕ) (hj : j < 3) (h : S512x2560.Slices ![0, 256 + 128 * j] S512x128) (x : S512x128.Idx) :
    turn (extractStridedSlice S512x128 ![0, 256 + 128 * j] (k0_pay23 (F := Ideal) x0 x1 x2 x3 x4 x5) h)
      (k0_pay24 x0 x1 x2 x3 x4 x5) (k0_pay25 x0 x1 x2 x3 x4 x5) x
      = queries x0 x1 x2 x3 x4 x5 (ix2 (x 0) ⟨128 * j + (x 1).val, by have : (x 1).val < 128 := (x 1).isLt; omega⟩) := by
  rw [show x = ix2 (x 0) (x 1) by funext a; match a with | ⟨0, _⟩ => rfl | ⟨1, _⟩ => rfl]
  exact piece x0 x1 x2 x3 x4 x5 _ 256 _ j (by omega) hj rfl h (pay23_apply x0 x1 x2 x3 x4 x5) _ _ (pay24_apply x0 x1 x2 x3 x4 x5)
    (pay25_apply x0 x1 x2 x3 x4 x5) (x 0) (x 1)

theorem out7_eq : out0_7 (F := Ideal) x0 x1 x2 x3 x4 x5 = queries x0 x1 x2 x3 x4 x5 := by
  funext y
  unfold out0_7
  rw [pay8_eq, pay13_eq, pay14_eq]
  refine View.canon_apply_of_pieces (queries x0 x1 x2 x3 x4 x5) _ (fun pc hpc x => ?_) y (cover0_7 _ _ _ y)
  simp only [List.mem_cons, List.mem_nil_iff, or_false] at hpc
  rcases hpc with rfl | rfl | rfl
  · refine (queries_piece x0 x1 x2 x3 x4 x5 2 (by omega) slices_S512x2560_o0_512_S512x128 x).trans (congrArg _ (funext fun a => Fin.ext ?_))
    match a with
    | ⟨0, _⟩ => show (x 0).val = 0 + 1 * (x 0).val; omega
    | ⟨1, _⟩ => show 128 * 2 + (x 1).val = 256 + 1 * (x 1).val; omega
  · refine (queries_piece x0 x1 x2 x3 x4 x5 1 (by omega) slices_S512x2560_o0_384_S512x128 x).trans (congrArg _ (funext fun a => Fin.ext ?_))
    match a with
    | ⟨0, _⟩ => show (x 0).val = 0 + 1 * (x 0).val; omega
    | ⟨1, _⟩ => show 128 * 1 + (x 1).val = 128 + 1 * (x 1).val; omega
  · refine (queries_piece x0 x1 x2 x3 x4 x5 0 (by omega) slices_S512x2560_o0_256_S512x128 x).trans (congrArg _ (funext fun a => Fin.ext ?_))
    match a with
    | ⟨0, _⟩ => show (x 0).val = 0 + 1 * (x 0).val; omega
    | ⟨1, _⟩ => show 128 * 0 + (x 1).val = 0 + 1 * (x 1).val; omega

/-- 128 channels of keys, transposed as they are stored. -/
def tile (x : FVec Ideal S512x128 .f32) : FVec Ideal S1x128x512 .bf16 :=
  shapeCast S1x128x512 (truncf .bf16 (transpose S128x512 [1, 0] x transposes_S512x128_p1_0_S128x512) bitsLt_bf16_f32) shapeCasts_S128x512_S1x128x512

theorem tile_apply (x : FVec Ideal S512x128 .f32) (u : Fin 1) (n : Fin 128) (p : Fin 512) : tile x (ix3 u n p) = x (ix2 p n) := by
  pointwise [tile]

theorem pay15_eq (v : FVec Ideal S512x2560 .f32) (C S : FVec Ideal S512x128 .f32) :
    k0_pay15 (F := Ideal) v C S = tile (turn (extractStridedSlice S512x128 ![0, 640] v slices_S512x2560_o0_640_S512x128) C S) := rfl

theorem pay20_eq (v : FVec Ideal S512x2560 .f32) (C S : FVec Ideal S512x128 .f32) :
    k0_pay20 (F := Ideal) C S (k0_pay16 v) (Scalar.select (Scalar.cmpi .eq 64#32 0#32) 1#32 64#32) k0_pay17 k0_pay18 k0_pay19 0#32
      = tile (turn (extractStridedSlice S512x128 ![0, 768] v slices_S512x2560_o0_768_S512x128) C S) := rfl

theorem pay1_eq (v : FVec Ideal S512x2560 .f32) (C S : FVec Ideal S512x128 .f32) :
    k0_pay1 (F := Ideal) C S (k0_pay21 v) (k0_pay22 v)
      = tile (turn (extractStridedSlice S512x128 ![0, 896] v slices_S512x2560_o0_896_S512x128) C S) := rfl

/-- A store of 128 channels of the keys. -/
theorem keys_piece (j : ℕ) (hj : j < 3) (h : S512x2560.Slices ![0, 640 + 128 * j] S512x128) (x : S1x128x512.Idx) :
    tile (turn (extractStridedSlice S512x128 ![0, 640 + 128 * j] (k0_pay23 (F := Ideal) x0 x1 x2 x3 x4 x5) h)
      (k0_pay24 x0 x1 x2 x3 x4 x5) (k0_pay25 x0 x1 x2 x3 x4 x5)) x
      = keys x0 x1 x2 x3 x4 x5 (ix3 (x 0) ⟨128 * j + (x 1).val, by have : (x 1).val < 128 := (x 1).isLt; omega⟩ (x 2)) := by
  rw [show x = ix3 (x 0) (x 1) (x 2) by funext a; match a with | ⟨0, _⟩ => rfl | ⟨1, _⟩ => rfl | ⟨2, _⟩ => rfl]
  exact (tile_apply _ (x 0) (x 1) (x 2)).trans
    (piece x0 x1 x2 x3 x4 x5 _ 640 _ j (by omega) hj rfl h (pay23_apply x0 x1 x2 x3 x4 x5) _ _ (pay24_apply x0 x1 x2 x3 x4 x5)
      (pay25_apply x0 x1 x2 x3 x4 x5) (x 2) (x 1))

theorem out8_eq : out0_8 (F := Ideal) x0 x1 x2 x3 x4 x5 = keys x0 x1 x2 x3 x4 x5 := by
  funext y
  unfold out0_8
  rw [pay15_eq, pay20_eq, pay1_eq]
  refine View.canon_apply_of_pieces (keys x0 x1 x2 x3 x4 x5) _ (fun pc hpc x => ?_) y (cover0_8 _ _ _ y)
  simp only [List.mem_cons, List.mem_nil_iff, or_false] at hpc
  rcases hpc with rfl | rfl | rfl
  · refine (keys_piece x0 x1 x2 x3 x4 x5 2 (by omega) slices_S512x2560_o0_896_S512x128 x).trans (congrArg _ (funext fun a => Fin.ext ?_))
    match a with
    | ⟨0, _⟩ => show (x 0).val = 0 + 1 * (x 0).val; omega
    | ⟨1, _⟩ => show 128 * 2 + (x 1).val = 256 + 1 * (x 1).val; omega
    | ⟨2, _⟩ => show (x 2).val = 0 + 1 * (x 2).val; omega
  · refine (keys_piece x0 x1 x2 x3 x4 x5 1 (by omega) slices_S512x2560_o0_768_S512x128 x).trans (congrArg _ (funext fun a => Fin.ext ?_))
    match a with
    | ⟨0, _⟩ => show (x 0).val = 0 + 1 * (x 0).val; omega
    | ⟨1, _⟩ => show 128 * 1 + (x 1).val = 128 + 1 * (x 1).val; omega
    | ⟨2, _⟩ => show (x 2).val = 0 + 1 * (x 2).val; omega
  · refine (keys_piece x0 x1 x2 x3 x4 x5 0 (by omega) slices_S512x2560_o0_640_S512x128 x).trans (congrArg _ (funext fun a => Fin.ext ?_))
    match a with
    | ⟨0, _⟩ => show (x 0).val = 0 + 1 * (x 0).val; omega
    | ⟨1, _⟩ => show 128 * 0 + (x 1).val = 0 + 1 * (x 1).val; omega
    | ⟨2, _⟩ => show (x 2).val = 0 + 1 * (x 2).val; omega

end Cert.AbIn2Ideal.Body

end
-- ==== Proof.AbIn2Ref.lean ====
/-
  The reference of the retention mixer's input projection of layer 2, index by index: a row of every result is columns of
  `AbRow.proj` of that row of the arguments, modulated; the queries and keys of a latent row are turned by its position
  (`AbRow.rotated`), those of a context row are put in the kernel's order (`AbRow.col`).
-/
module

public import proofs.«01_k».proof.Proof.Gen.AbIn2ReferenceIdeal.Read
public import proofs.«01_k».proof.Proof.FfnRow
public import proofs.«01_k».proof.Proof.AbRow

@[expose] public section

set_option maxRecDepth 16384

noncomputable section

namespace Cert.AbIn2ReferenceIdeal.Rows

open Cert.AbIn2ReferenceIdeal Cert.AbIn2ReferenceIdeal.Gen Cert.AbIn2ReferenceIdeal.Read Idealize.ShloMosaic

variable (x0 : (⟨S4x8192x1024, .f32⟩ : BufTy).Contents (Elt Ideal)) (x1 : (⟨S4x256x1024, .f32⟩ : BufTy).Contents (Elt Ideal))
  (x2 : (⟨S4x9x1024, .f32⟩ : BufTy).Contents (Elt Ideal)) (x3 : (⟨S9x1024, .f32⟩ : BufTy).Contents (Elt Ideal))
  (x4 : (⟨S4x3x1024, .f32⟩ : BufTy).Contents (Elt Ideal)) (x5 : (⟨S2x1024x2560, .f32⟩ : BufTy).Contents (Elt Ideal))
  (x6 x7 : (⟨S8192x32, .f32⟩ : BufTy).Contents (Elt Ideal))

/-- The projection of a latent row. -/
def latent (b : Fin 4) (l : Fin 8192) : Fin 2560 → EReal :=
  AbRow.proj (FfnRow.scaled (fun k => x0 (ix3 b l k)) (fun k => x4 (ix3 2 1 k)) (fun k => x2 (ix3 b 3 k)) (fun k => x2 (ix3 b 4 k)))
    (fun k n => x5 (ix3 1 k n))

/-- The projection of a context row. -/
def context (b : Fin 4) (l : Fin 256) : Fin 2560 → EReal :=
  AbRow.proj (FfnRow.scaled (fun k => x1 (ix3 b l k)) (fun k => x4 (ix3 2 1 k)) (fun k => x3 (ix2 3 k)) (fun k => x3 (ix2 4 k)))
    (fun k n => x5 (ix3 1 k n))

theorem v26_apply (b : Fin 4) (l : Fin 8192) (j : Fin 1024) :
    val_main_v26 (F := Ideal) x0 x2 x4 (ix3 b l j)
      = FfnRow.scaled (fun k => x0 (ix3 b l k)) (fun k => x4 (ix3 2 1 k)) (fun k => x2 (ix3 b 3 k)) (fun k => x2 (ix3 b 4 k)) j := by
  pointwise [val_main_v26, val_main_v25, val_main_v24, val_main_v23, val_main_v22, val_main_v21, val_main_cst_2, val_main_v20,
    val_main_v19, val_main_v18, val_main_v17, val_main_v16, val_main_v15, val_main_v14, val_main_v13, val_main_cst_1,
    val_main_v12, val_main_v11, val_main_cst_0, val_main_v10, val_main_v9, val_main_cst, val_main_v8, val_main_v7,
    val_main_v6, val_main_v5, val_main_v4, val_main_v3, val_main_v2, val_main_v1, val_main_v0, FfnRow.scaled]
  simp only [mul_assoc]

theorem v55_apply (b : Fin 4) (l : Fin 256) (j : Fin 1024) :
    val_main_v55 (F := Ideal) x1 x3 x4 (ix3 b l j)
      = FfnRow.scaled (fun k => x1 (ix3 b l k)) (fun k => x4 (ix3 2 1 k)) (fun k => x3 (ix2 3 k)) (fun k => x3 (ix2 4 k)) j := by
  pointwise [val_main_v55, val_main_v54, val_main_v53, val_main_v52, val_main_v51, val_main_v50, val_main_v49, val_main_v48,
    val_main_cst_6, val_main_v47, val_main_v46, val_main_v45, val_main_v44, val_main_v43, val_main_v42, val_main_v41,
    val_main_v40, val_main_cst_5, val_main_v39, val_main_v38, val_main_cst_4, val_main_v37, val_main_v36, val_main_cst_3,
    val_main_v35, val_main_v34, val_main_v33, val_main_v32, val_main_v31, val_main_v30, val_main_v29, val_main_v28,
    val_main_v27, FfnRow.scaled]
  simp only [mul_assoc]

theorem v58_apply (b : Fin 4) (l : Fin 8192) (n : Fin 2560) :
    val_main_v58 (F := Ideal) x0 x2 x4 x5 (ix3 b l n) = latent x0 x2 x4 x5 b l n := by
  pointwise [val_main_v58, val_main_v57, val_main_v56]
  simp only [v26_apply]
  rfl

theorem v71_apply (b : Fin 4) (l : Fin 256) (n : Fin 2560) :
    val_main_v71 (F := Ideal) x1 x3 x4 x5 (ix3 b l n) = context x1 x3 x4 x5 b l n := by
  pointwise [val_main_v71, val_main_v70, val_main_v69]
  simp only [v55_apply]
  rfl

/-- The pooled channels. -/
theorem v132_apply (r : Fin 32768) (j : Fin 256) :
    val_main_v132 (F := Ideal) x0 x2 x4 x5 (ix2 r j) = latent x0 x2 x4 x5 ⟨r / 8192, by omega⟩ ⟨r % 8192, by omega⟩ ⟨j.val, by omega⟩ := by
  rw [← v58_apply]
  pointwise [val_main_v132, val_main_v59]

theorem v133_apply (r : Fin 1024) (j : Fin 256) :
    val_main_v133 (F := Ideal) x1 x3 x4 x5 (ix2 r j) = context x1 x3 x4 x5 ⟨r / 256, by omega⟩ ⟨r % 256, by omega⟩ ⟨j.val, by omega⟩ := by
  rw [← v71_apply]
  pointwise [val_main_v133, val_main_v72]

/-- The values. -/
theorem v153_apply (r : Fin 32768) (j : Fin 768) :
    val_main_v153 (F := Ideal) x0 x2 x4 x5 (ix2 r j) = latent x0 x2 x4 x5 ⟨r / 8192, by omega⟩ ⟨r % 8192, by omega⟩ ⟨1024 + j.val, by omega⟩ := by
  rw [← v58_apply]
  pointwise [val_main_v153, val_main_v68, val_main_v62]

theorem v154_apply (r : Fin 1024) (j : Fin 768) :
    val_main_v154 (F := Ideal) x1 x3 x4 x5 (ix2 r j) = context x1 x3 x4 x5 ⟨r / 256, by omega⟩ ⟨r % 256, by omega⟩ ⟨1024 + j.val, by omega⟩ := by
  rw [← v71_apply]
  pointwise [val_main_v154, val_main_v81, val_main_v75]

/-- The gate. -/
theorem v157_apply (r : Fin 32768) (j : Fin 768) :
    val_main_v157 (F := Ideal) x0 x2 x4 x5 (ix2 r j) = latent x0 x2 x4 x5 ⟨r / 8192, by omega⟩ ⟨r % 8192, by omega⟩ ⟨1792 + j.val, by omega⟩ := by
  rw [← v58_apply]
  pointwise [val_main_v157, val_main_v63]

theorem v158_apply (r : Fin 1024) (j : Fin 768) :
    val_main_v158 (F := Ideal) x1 x3 x4 x5 (ix2 r j) = context x1 x3 x4 x5 ⟨r / 256, by omega⟩ ⟨r % 256, by omega⟩ ⟨1792 + j.val, by omega⟩ := by
  rw [← v71_apply]
  pointwise [val_main_v158, val_main_v76]

/-- The members of a pair of the queries, and of the keys, which are scaled. -/
theorem v84_apply (b : Fin 4) (l : Fin 8192) (h : Fin 6) (r : Fin 32) :
    val_main_v84 (F := Ideal) x0 x2 x4 x5 (ix4 b l h r) = latent x0 x2 x4 x5 b l ⟨256 + (h.val * 64 + r.val * 2), by omega⟩ := by
  rw [← v58_apply]
  pointwise [val_main_v84, val_main_v83, val_main_v82, val_main_v64, val_main_v60]

theorem v86_apply (b : Fin 4) (l : Fin 8192) (h : Fin 6) (r : Fin 32) :
    val_main_v86 (F := Ideal) x0 x2 x4 x5 (ix4 b l h r) = latent x0 x2 x4 x5 b l ⟨256 + (h.val * 64 + r.val * 2 + 1), by omega⟩ := by
  rw [← v58_apply]
  pointwise [val_main_v86, val_main_v85, val_main_v82, val_main_v64, val_main_v60]

theorem v67_apply (b : Fin 4) (l : Fin 8192) (h : Fin 6) (e : Fin 64) :
    val_main_v67 (F := Ideal) x0 x2 x4 x5 (ix4 b l h e)
      = latent x0 x2 x4 x5 b l ⟨640 + (h.val * 64 + e.val), by omega⟩ * Ideal.ofBits FTy.f32 0x3E000000#32 := by
  rw [← v58_apply]
  pointwise [val_main_v67, val_main_v66, val_main_cst_7, val_main_v65, val_main_v61]

theorem v109_apply (b : Fin 4) (l : Fin 8192) (h : Fin 6) (r : Fin 32) :
    val_main_v109 (F := Ideal) x0 x2 x4 x5 (ix4 b l h r)
      = latent x0 x2 x4 x5 b l ⟨640 + (h.val * 64 + r.val * 2), by omega⟩ * Ideal.ofBits FTy.f32 0x3E000000#32 := by
  refine Eq.trans ?_ (v67_apply x0 x2 x4 x5 b l h ⟨r.val * 2, by omega⟩)
  pointwise [val_main_v109, val_main_v108, val_main_v107]

theorem v111_apply (b : Fin 4) (l : Fin 8192) (h : Fin 6) (r : Fin 32) :
    val_main_v111 (F := Ideal) x0 x2 x4 x5 (ix4 b l h r)
      = latent x0 x2 x4 x5 b l ⟨640 + (h.val * 64 + r.val * 2 + 1), by omega⟩ * Ideal.ofBits FTy.f32 0x3E000000#32 := by
  refine Eq.trans ?_ (v67_apply x0 x2 x4 x5 b l h ⟨r.val * 2 + 1, by omega⟩)
  pointwise [val_main_v111, val_main_v110, val_main_v107]

/-- A pair of the queries, turned. -/
theorem v105_fst (b : Fin 4) (l : Fin 8192) (h : Fin 6) (r : Fin 32) :
    val_main_v105 (F := Ideal) x0 x2 x4 x5 x6 x7 (ix5 b l h r 0)
      = val_main_v84 (F := Ideal) x0 x2 x4 x5 (ix4 b l h r) * x6 (ix2 l r) - val_main_v86 (F := Ideal) x0 x2 x4 x5 (ix4 b l h r) * x7 (ix2 l r) := by
  unfold val_main_v105
  rw [concatenate_pair_apply]
  refine (dif_pos (show (0 : ℕ) < 1 by omega)).trans ?_
  pointwise [val_main_v103, val_main_v95, val_main_v94, val_main_v93, val_main_v92, val_main_v91, val_main_v90, val_main_v89, val_main_v88, val_main_v87]

theorem v105_snd (b : Fin 4) (l : Fin 8192) (h : Fin 6) (r : Fin 32) :
    val_main_v105 (F := Ideal) x0 x2 x4 x5 x6 x7 (ix5 b l h r 1)
      = val_main_v84 (F := Ideal) x0 x2 x4 x5 (ix4 b l h r) * x7 (ix2 l r) + val_main_v86 (F := Ideal) x0 x2 x4 x5 (ix4 b l h r) * x6 (ix2 l r) := by
  unfold val_main_v105
  rw [concatenate_pair_apply]
  refine (dif_neg (show ¬ (1 : ℕ) < 1 by omega)).trans ?_
  pointwise [val_main_v104, val_main_v102, val_main_v101, val_main_v100, val_main_v99, val_main_v98, val_main_v97, val_main_v96, val_main_v88, val_main_v87]

/-- A pair of the keys, turned. -/
theorem v130_fst (b : Fin 4) (l : Fin 8192) (h : Fin 6) (r : Fin 32) :
    val_main_v130 (F := Ideal) x0 x2 x4 x5 x6 x7 (ix5 b l h r 0)
      = val_main_v109 (F := Ideal) x0 x2 x4 x5 (ix4 b l h r) * x6 (ix2 l r) - val_main_v111 (F := Ideal) x0 x2 x4 x5 (ix4 b l h r) * x7 (ix2 l r) := by
  unfold val_main_v130
  rw [concatenate_pair_apply]
  refine (dif_pos (show (0 : ℕ) < 1 by omega)).trans ?_
  pointwise [val_main_v128, val_main_v120, val_main_v119, val_main_v118, val_main_v117, val_main_v116, val_main_v115, val_main_v114, val_main_v113, val_main_v112]

theorem v130_snd (b : Fin 4) (l : Fin 8192) (h : Fin 6) (r : Fin 32) :
    val_main_v130 (F := Ideal) x0 x2 x4 x5 x6 x7 (ix5 b l h r 1)
      = val_main_v109 (F := Ideal) x0 x2 x4 x5 (ix4 b l h r) * x7 (ix2 l r) + val_main_v111 (F := Ideal) x0 x2 x4 x5 (ix4 b l h r) * x6 (ix2 l r) := by
  unfold val_main_v130
  rw [concatenate_pair_apply]
  refine (dif_neg (show ¬ (1 : ℕ) < 1 by omega)).trans ?_
  pointwise [val_main_v129, val_main_v127, val_main_v126, val_main_v125, val_main_v124, val_main_v123, val_main_v122, val_main_v121, val_main_v113, val_main_v112]

/-- The queries of a latent row. -/
theorem v139_apply (r : Fin 32768) (c : Fin 384) :
    val_main_v139 (F := Ideal) x0 x2 x4 x5 x6 x7 (ix2 r c)
      = AbRow.rotated (fun c => latent x0 x2 x4 x5 ⟨r / 8192, by omega⟩ ⟨r % 8192, by omega⟩ ⟨256 + c.val, by omega⟩)
          (fun k => x6 (ix2 ⟨r % 8192, by omega⟩ k)) (fun k => x7 (ix2 ⟨r % 8192, by omega⟩ k)) c := by
  have e : val_main_v139 (F := Ideal) x0 x2 x4 x5 x6 x7 (ix2 r c)
      = val_main_v105 (F := Ideal) x0 x2 x4 x5 x6 x7 (ix5 ⟨r / 8192, by omega⟩ ⟨r % 8192, by omega⟩ ⟨c.val / 64, by omega⟩ ⟨c.val % 32, by omega⟩
          ⟨c.val / 32 % 2, by omega⟩) := by
    pointwise [val_main_v139, val_main_v136, val_main_v135, val_main_v106]
  rw [e, AbRow.rotated]
  by_cases h : c.val % 64 < 32
  · rw [show (⟨c.val / 32 % 2, by omega⟩ : Fin 2) = 0 from Fin.ext (by show c.val / 32 % 2 = 0; omega), v105_fst, v84_apply, v86_apply, if_pos h]
    simp only [mul_comm 2]
  · rw [show (⟨c.val / 32 % 2, by omega⟩ : Fin 2) = 1 from Fin.ext (by show c.val / 32 % 2 = 1; omega), v105_snd, v84_apply, v86_apply, if_neg h]
    simp only [mul_comm 2]

/-- The keys of a latent row. -/
theorem v147_apply (r : Fin 32768) (c : Fin 384) :
    val_main_v147 (F := Ideal) x0 x2 x4 x5 x6 x7 (ix2 r c)
      = AbRow.rotated (fun c => latent x0 x2 x4 x5 ⟨r / 8192, by omega⟩ ⟨r % 8192, by omega⟩ ⟨640 + c.val, by omega⟩ * Ideal.ofBits FTy.f32 0x3E000000#32)
          (fun k => x6 (ix2 ⟨r % 8192, by omega⟩ k)) (fun k => x7 (ix2 ⟨r % 8192, by omega⟩ k)) c := by
  have e : val_main_v147 (F := Ideal) x0 x2 x4 x5 x6 x7 (ix2 r c)
      = val_main_v130 (F := Ideal) x0 x2 x4 x5 x6 x7 (ix5 ⟨r / 8192, by omega⟩ ⟨r % 8192, by omega⟩ ⟨c.val / 64, by omega⟩ ⟨c.val % 32, by omega⟩
          ⟨c.val / 32 % 2, by omega⟩) := by
    pointwise [val_main_v147, val_main_v144, val_main_v143, val_main_v131]
  rw [e, AbRow.rotated]
  by_cases h : c.val % 64 < 32
  · rw [show (⟨c.val / 32 % 2, by omega⟩ : Fin 2) = 0 from Fin.ext (by show c.val / 32 % 2 = 0; omega), v130_fst, v109_apply, v111_apply, if_pos h]
    simp only [mul_comm 2]
  · rw [show (⟨c.val / 32 % 2, by omega⟩ : Fin 2) = 1 from Fin.ext (by show c.val / 32 % 2 = 1; omega), v130_snd, v109_apply, v111_apply, if_neg h]
    simp only [mul_comm 2]

/-- The queries of a context row. -/
theorem v140_apply (r : Fin 1024) (c : Fin 384) :
    val_main_v140 (F := Ideal) x1 x3 x4 x5 (ix2 r c)
      = context x1 x3 x4 x5 ⟨r / 256, by omega⟩ ⟨r % 256, by omega⟩ ⟨256 + (AbRow.col c).val, by have := (AbRow.col c).isLt; omega⟩ := by
  rw [← v71_apply]
  pointwise [val_main_v140, val_main_v138, val_main_v137, val_main_v77, val_main_v73]
  refine congrArg (fun n => val_main_v71 (F := Ideal) x1 x3 x4 x5 (ix3 _ _ n)) (Fin.ext ?_)
  show 256 + (c.val / 64 * 64 + c.val % 32 * 2 + c.val / 32 % 2) = 256 + (c.val / 64 * 64 + 2 * (c.val % 32) + c.val % 64 / 32)
  omega

/-- The keys of a context row. -/
theorem v148_apply (r : Fin 1024) (c : Fin 384) :
    val_main_v148 (F := Ideal) x1 x3 x4 x5 (ix2 r c)
      = context x1 x3 x4 x5 ⟨r / 256, by omega⟩ ⟨r % 256, by omega⟩ ⟨640 + (AbRow.col c).val, by have := (AbRow.col c).isLt; omega⟩
          * Ideal.ofBits FTy.f32 0x3E000000#32 := by
  rw [← v71_apply]
  pointwise [val_main_v148, val_main_v146, val_main_v145, val_main_v80, val_main_v79, val_main_cst_8, val_main_v78, val_main_v74]
  refine congrArg (fun n => val_main_v71 (F := Ideal) x1 x3 x4 x5 (ix3 _ _ n) * _) (Fin.ext ?_)
  show 640 + (c.val / 64 * 64 + (c.val % 32 * 2 + c.val / 32 % 2)) = 640 + (c.val / 64 * 64 + 2 * (c.val % 32) + c.val % 64 / 32)
  omega

/-- The pooled channels: the first 32768 rows are the latent ones, the others those of the context. -/
theorem v134_latent (r : Fin 33792) (h : r.val < 32768) (j : Fin 256) :
    val_main_v134 (F := Ideal) x0 x1 x2 x3 x4 x5 (ix2 r j) = val_main_v132 (F := Ideal) x0 x2 x4 x5 (ix2 ⟨r, h⟩ j) := by
  unfold val_main_v134
  rw [concatenate_pair_apply]
  refine (dif_pos h).trans (congrArg _ ?_)
  funext a; match a with | ⟨0, _⟩ => rfl | ⟨1, _⟩ => rfl

theorem v134_context (r : Fin 33792) (h : ¬ r.val < 32768) (j : Fin 256) :
    val_main_v134 (F := Ideal) x0 x1 x2 x3 x4 x5 (ix2 r j) = val_main_v133 (F := Ideal) x1 x3 x4 x5 (ix2 ⟨r - 32768, by omega⟩ j) := by
  unfold val_main_v134
  rw [concatenate_pair_apply]
  refine (dif_neg h).trans (congrArg _ ?_)
  funext a; match a with | ⟨0, _⟩ => rfl | ⟨1, _⟩ => rfl

/-- The queries, likewise. -/
theorem v141_latent (r : Fin 33792) (h : r.val < 32768) (j : Fin 384) :
    val_main_v141 (F := Ideal) x0 x1 x2 x3 x4 x5 x6 x7 (ix2 r j) = val_main_v139 (F := Ideal) x0 x2 x4 x5 x6 x7 (ix2 ⟨r, h⟩ j) := by
  unfold val_main_v141
  rw [concatenate_pair_apply]
  refine (dif_pos h).trans (congrArg _ ?_)
  funext a; match a with | ⟨0, _⟩ => rfl | ⟨1, _⟩ => rfl

theorem v141_context (r : Fin 33792) (h : ¬ r.val < 32768) (j : Fin 384) :
    val_main_v141 (F := Ideal) x0 x1 x2 x3 x4 x5 x6 x7 (ix2 r j) = val_main_v140 (F := Ideal) x1 x3 x4 x5 (ix2 ⟨r - 32768, by omega⟩ j) := by
  unfold val_main_v141
  rw [concatenate_pair_apply]
  refine (dif_neg h).trans (congrArg _ ?_)
  funext a; match a with | ⟨0, _⟩ => rfl | ⟨1, _⟩ => rfl

/-- The keys, likewise. -/
theorem v149_latent (r : Fin 33792) (h : r.val < 32768) (j : Fin 384) :
    val_main_v149 (F := Ideal) x0 x1 x2 x3 x4 x5 x6 x7 (ix2 r j) = val_main_v147 (F := Ideal) x0 x2 x4 x5 x6 x7 (ix2 ⟨r, h⟩ j) := by
  unfold val_main_v149
  rw [concatenate_pair_apply]
  refine (dif_pos h).trans (congrArg _ ?_)
  funext a; match a with | ⟨0, _⟩ => rfl | ⟨1, _⟩ => rfl

theorem v149_context (r : Fin 33792) (h : ¬ r.val < 32768) (j : Fin 384) :
    val_main_v149 (F := Ideal) x0 x1 x2 x3 x4 x5 x6 x7 (ix2 r j) = val_main_v148 (F := Ideal) x1 x3 x4 x5 (ix2 ⟨r - 32768, by omega⟩ j) := by
  unfold val_main_v149
  rw [concatenate_pair_apply]
  refine (dif_neg h).trans (congrArg _ ?_)
  funext a; match a with | ⟨0, _⟩ => rfl | ⟨1, _⟩ => rfl

/-- The values, likewise. -/
theorem v155_latent (r : Fin 33792) (h : r.val < 32768) (j : Fin 768) :
    val_main_v155 (F := Ideal) x0 x1 x2 x3 x4 x5 (ix2 r j) = val_main_v153 (F := Ideal) x0 x2 x4 x5 (ix2 ⟨r, h⟩ j) := by
  unfold val_main_v155
  rw [concatenate_pair_apply]
  refine (dif_pos h).trans (congrArg _ ?_)
  funext a; match a with | ⟨0, _⟩ => rfl | ⟨1, _⟩ => rfl

theorem v155_context (r : Fin 33792) (h : ¬ r.val < 32768) (j : Fin 768) :
    val_main_v155 (F := Ideal) x0 x1 x2 x3 x4 x5 (ix2 r j) = val_main_v154 (F := Ideal) x1 x3 x4 x5 (ix2 ⟨r - 32768, by omega⟩ j) := by
  unfold val_main_v155
  rw [concatenate_pair_apply]
  refine (dif_neg h).trans (congrArg _ ?_)
  funext a; match a with | ⟨0, _⟩ => rfl | ⟨1, _⟩ => rfl

/-- The gate, likewise. -/
theorem v159_latent (r : Fin 33792) (h : r.val < 32768) (j : Fin 768) :
    val_main_v159 (F := Ideal) x0 x1 x2 x3 x4 x5 (ix2 r j) = val_main_v157 (F := Ideal) x0 x2 x4 x5 (ix2 ⟨r, h⟩ j) := by
  unfold val_main_v159
  rw [concatenate_pair_apply]
  refine (dif_pos h).trans (congrArg _ ?_)
  funext a; match a with | ⟨0, _⟩ => rfl | ⟨1, _⟩ => rfl

theorem v159_context (r : Fin 33792) (h : ¬ r.val < 32768) (j : Fin 768) :
    val_main_v159 (F := Ideal) x0 x1 x2 x3 x4 x5 (ix2 r j) = val_main_v158 (F := Ideal) x1 x3 x4 x5 (ix2 ⟨r - 32768, by omega⟩ j) := by
  unfold val_main_v159
  rw [concatenate_pair_apply]
  refine (dif_neg h).trans (congrArg _ ?_)
  funext a; match a with | ⟨0, _⟩ => rfl | ⟨1, _⟩ => rfl

/-- The keys in tiles of 512 rows, transposed. -/
theorem v152_apply (t : Fin 66) (c : Fin 384) (p : Fin 512) :
    val_main_v152 (F := Ideal) x0 x1 x2 x3 x4 x5 x6 x7 (ix3 t c p)
      = val_main_v149 (F := Ideal) x0 x1 x2 x3 x4 x5 x6 x7 (ix2 ⟨t.val * 512 + p.val, by omega⟩ c) := by
  pointwise [val_main_v152, val_main_v151, val_main_v150]

end Cert.AbIn2ReferenceIdeal.Rows

end
-- ==== Proof.AbIn2Host.lean ====
/-
  The operands of the retention mixer's input projection of layer 2 as its grid points see them: what each window's
  block holds, in terms of the arguments the program was launched with. The first 64 points work on the latent rows, 16
  to a sequence; the last two on the context rows, which share one block of modulations and are not turned.
-/
module

public import proofs.«01_k».proof.Proof.Gen.AbIn2Ideal.Value
public import proofs.«01_k».proof.Proof.AbRow
public import Idealize.ShloMosaic.Lib.Pointwise

@[expose] public section

set_option maxRecDepth 16384

noncomputable section

namespace Cert.AbIn2Ideal.Host

open Cert.AbIn2Ideal Cert.AbIn2Ideal.Gen Idealize.ShloMosaic Idealize.ShloMosaic.TcCoe Idealize.SL.Sem

/-- The block indices of the windows. -/
theorem index_facts : ∀ t : Fin grid0.N,
    (win0_0.index t 0 = t.val ∧ win0_0.index t 1 = 0)
    ∧ (win0_1.index t 0 = min (t.val / 16) 4 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = (if t.val < 64 then t.val % 16 else 16) ∧ win0_4.index t 1 = 0)
    ∧ (win0_5.index t 0 = (if t.val < 64 then t.val % 16 else 16) ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0 ∧ win0_8.index t 2 = 0)
    ∧ (win0_9.index t 0 = t.val ∧ win0_9.index t 1 = 0)
    ∧ (win0_10.index t 0 = t.val ∧ win0_10.index t 1 = 0) := by decide +kernel

theorem t_lt (t : Fin cfg0.N) : t.val < 66 := by have h := t.isLt; have hN : cfg0.N = 66 := N_0; omega

variable (m : (ℓ : Loc nD τ sig) → Buf (Elt Ideal) ℓ) (c : Dev nD)

/-- One of the first four blocks of modulations is the sequence's own. -/
theorem mods_latent (A : Vec Ideal S4x9x1024 .f32) (B : Vec Ideal S1x9x1024 .f32) (C : Vec Ideal S3x9x1024 .f32) (b : Fin 8)
    (h : b.val < 4) (n : Fin 9) (k : Fin 1024) :
    concatenate S8x9x1024 0 [⟨S4x9x1024, A⟩, ⟨S1x9x1024, B⟩, ⟨S3x9x1024, C⟩]
      concatenates_S4x9x1024_S1x9x1024_S3x9x1024_S8x9x1024_d0 (ix3 b n k) = A (ix3 ⟨b, h⟩ n k) := by
  pointwise
  rw [dif_pos h]

/-- The fifth is that of the context. -/
theorem mods_context (A : Vec Ideal S4x9x1024 .f32) (B : Vec Ideal S9x1024 .f32) (C : Vec Ideal S3x9x1024 .f32) (n : Fin 9) (k : Fin 1024) :
    concatenate S8x9x1024 0 [⟨S4x9x1024, A⟩, ⟨S1x9x1024, broadcastInDim S1x9x1024 ![1, 2] bcast_S9x1024_S1x9x1024_1_2 B⟩, ⟨S3x9x1024, C⟩]
      concatenates_S4x9x1024_S1x9x1024_S3x9x1024_S8x9x1024_d0 (ix3 4 n k) = B (ix2 n k) := by
  pointwise

/-- A row of the latents. -/
theorem rows_latent (A : Vec Ideal S4x8192x1024 .f32) (r : Fin 32768) (k : Fin 1024) :
    shapeCast S32768x1024 A shapeCasts_S4x8192x1024_S32768x1024 (ix2 r k) = A (ix3 ⟨r / 8192, by omega⟩ ⟨r % 8192, by omega⟩ k) := by
  pointwise

/-- A row of the context. -/
theorem rows_context (B : Vec Ideal S4x256x1024 .f32) (r : Fin 1024) (k : Fin 1024) :
    shapeCast S1024x1024 B shapeCasts_S4x256x1024_S1024x1024 (ix2 r k) = B (ix3 ⟨r / 256, by omega⟩ ⟨r % 256, by omega⟩ k) := by
  pointwise

/-- A column that the gather takes: the one its index names. -/
theorem gather_apply (x : Vec Ideal S1024x384 .f32) (idx : IVec S384x1 32) (k : Fin 1024) (n : Fin 384) :
    Host.gather gather_S1024x384_S384x1_S1024x384_0_1_n_n_1_1_10241 x idx (ix2 k n)
      = x (ix2 k ⟨min (idx (ix2 n 0)).toInt.toNat 383, by omega⟩) := by
  refine congrArg x (funext fun a => Fin.ext ?_)
  match a with
  | ⟨0, _⟩ =>
    show GatherDims.start _ _ idx 0 + GatherDims.batchCoord _ _ 0 + GatherDims.offCoord _ _ 0 = k.val
    rw [GatherDims.batchCoord_eq_zero _ _ _ List.not_mem_nil]
    unfold GatherDims.start
    rw [dif_neg (by decide)]
    unfold GatherDims.offCoord
    rw [dif_pos (by decide), Nat.zero_add]
    rfl
  | ⟨1, _⟩ =>
    show GatherDims.start _ _ idx 1 + GatherDims.batchCoord _ _ 1 + GatherDims.offCoord _ _ 1 = min (idx (ix2 n 0)).toInt.toNat 383
    rw [GatherDims.batchCoord_eq_zero _ _ _ List.not_mem_nil, GatherDims.offCoord_eq_zero _ _ _ (by decide)]
    unfold GatherDims.start
    rw [dif_pos (by decide)]
    refine congrArg (fun i => min (idx i).toInt.toNat 383) (funext fun b => Fin.ext ?_)
    match b with
    | ⟨0, _⟩ => rfl
    | ⟨1, _⟩ => rfl

/-- The columns that the version takes for the queries and the keys. -/
theorem order_apply : ∀ n : Fin 384, min (lit0 (S384.rowMajor (ix1 n))).toInt.toNat 383 = (AbRow.col n).val := by decide +kernel

/-- The layer's weights. -/
def plain (A : Vec Ideal S2x1024x2560 .f32) : Vec Ideal S1024x2560 .f32 :=
  shapeCast S1024x2560 (extractStridedSlice S1x1024x2560 ![1, 0, 0] A slices_S2x1024x2560_S1x1024x2560_1_0_0) shapeCasts_S1x1024x2560_S1024x2560

theorem plain_apply (A : Vec Ideal S2x1024x2560 .f32) (k : Fin 1024) (n : Fin 2560) : plain A (ix2 k n) = A (ix3 1 k n) := by
  pointwise [plain]

/-- The columns of the queries or keys in the version's order. -/
def order : IVec S384x1 32 :=
  broadcastInDim S384x1 ![0] bcast_S384_S384x1_0 (select (constantI S384 1 0#1)
    (addi (fun i => lit0 (S384.rowMajor i)) (broadcastInDim S384 ![] bcast_S_S384 (constantI S_ 32 384#32))) (fun i => lit0 (S384.rowMajor i)))

theorem order_at (n : Fin 384) : min (order (ix2 n 0)).toInt.toNat 383 = (AbRow.col n).val := by
  rw [← order_apply n]
  pointwise [order]

theorem gather_order (x : Vec Ideal S1024x384 .f32) (k : Fin 1024) (n : Fin 384) :
    Host.gather gather_S1024x384_S384x1_S1024x384_0_1_n_n_1_1_10241 x order (ix2 k n) = x (ix2 k (AbRow.col n)) :=
  (gather_apply x order k n).trans (congrArg (fun i => x (ix2 k i)) (Fin.ext (order_at n)))

/-- The weights as the kernel takes them: the columns of the queries and keys in the version's order, the keys' scaled. -/
def weights (A : Vec Ideal S2x1024x2560 .f32) : Vec Ideal S1024x2560 .bf16 :=
  truncf .bf16 (concatenate S1024x2560 1 [
      ⟨S1024x256, extractStridedSlice S1024x256 ![0, 0] (plain A) slices_S1024x2560_S1024x256_0_0⟩,
      ⟨S1024x384, Host.gather gather_S1024x384_S384x1_S1024x384_0_1_n_n_1_1_10241
        (extractStridedSlice S1024x384 ![0, 256] (plain A) slices_S1024x2560_S1024x384_0_256) order⟩,
      ⟨S1024x384, mulf (Host.gather gather_S1024x384_S384x1_S1024x384_0_1_n_n_1_1_10241
        (extractStridedSlice S1024x384 ![0, 640] (plain A) slices_S1024x2560_S1024x384_0_640) order)
          (broadcastInDim S1024x384 ![] bcast_S_S1024x384 (constant (F := Ideal) S_ .f32 0x3E000000#32))⟩,
      ⟨S1024x1536, extractStridedSlice S1024x1536 ![0, 1024] (plain A) slices_S1024x2560_S1024x1536_0_1024⟩]
    concatenates_S1024x256_S1024x384_S1024x384_S1024x1536_S1024x2560_d1) bitsLt_bf16_f32

theorem weights_p (A : Vec Ideal S2x1024x2560 .f32) (k : Fin 1024) (n : Fin 256) :
    weights A (ix2 k ⟨n.val, by omega⟩) = A (ix3 1 k ⟨n.val, by omega⟩) := by
  pointwise [weights, plain]

theorem weights_q (A : Vec Ideal S2x1024x2560 .f32) (k : Fin 1024) (n : Fin 384) :
    weights A (ix2 k ⟨256 + n.val, by omega⟩) = A (ix3 1 k ⟨256 + (AbRow.col n).val, by have := (AbRow.col n).isLt; omega⟩) := by
  pointwise [weights]
  rw [gather_order]
  pointwise [plain]

theorem weights_k (A : Vec Ideal S2x1024x2560 .f32) (k : Fin 1024) (n : Fin 384) :
    weights A (ix2 k ⟨640 + n.val, by omega⟩)
      = A (ix3 1 k ⟨640 + (AbRow.col n).val, by have := (AbRow.col n).isLt; omega⟩) * Ideal.ofBits FTy.f32 0x3E000000#32 := by
  pointwise [weights]
  rw [dif_neg (by omega), dif_neg (by omega), dif_pos (by omega)]
  rw [gather_order, show (⟨640 + n.val - 256 - 384, by omega⟩ : Fin 384) = n from Fin.ext (by show 640 + n.val - 256 - 384 = n.val; omega)]
  pointwise [plain]

theorem weights_v (A : Vec Ideal S2x1024x2560 .f32) (k : Fin 1024) (n : Fin 1536) :
    weights A (ix2 k ⟨1024 + n.val, by omega⟩) = A (ix3 1 k ⟨1024 + n.val, by omega⟩) := by
  pointwise [weights, plain]
  rw [dif_neg (by omega), dif_neg (by omega), dif_neg (by omega)]
  exact congrArg (fun i => A (ix3 1 k i)) (Fin.ext (by show 1024 + (1024 + n.val - 256 - 384 - 384) = 1024 + n.val; omega))

/-- The table of the cosines, and that of the signed sines. -/
def cosines (A : Vec Ideal S8192x32 .f32) : Vec Ideal S8704x128 .f32 :=
  concatenate S8704x128 0 [⟨S8192x128, concatenate S8192x128 1 [⟨S8192x32, A⟩, ⟨S8192x32, A⟩, ⟨S8192x32, A⟩, ⟨S8192x32, A⟩]
      concatenates_S8192x32_S8192x32_S8192x32_S8192x32_S8192x128_d1⟩,
    ⟨S512x128, broadcastInDim S512x128 ![] bcast_S_S512x128 (constant (F := Ideal) S_ .f32 0x3F800000#32)⟩] concatenates_S8192x128_S512x128_S8704x128_d0

def sines (A : Vec Ideal S8192x32 .f32) : Vec Ideal S8704x128 .f32 :=
  concatenate S8704x128 0 [⟨S8192x128, concatenate S8192x128 1 [⟨S8192x32, Host.negf (F := Ideal) (s := S8192x32) (φ := .f32) A⟩, ⟨S8192x32, A⟩, ⟨S8192x32, Host.negf (F := Ideal) (s := S8192x32) (φ := .f32) A⟩, ⟨S8192x32, A⟩]
      concatenates_S8192x32_S8192x32_S8192x32_S8192x32_S8192x128_d1⟩,
    ⟨S512x128, broadcastInDim S512x128 ![] bcast_S_S512x128 (constant (F := Ideal) S_ .f32 0x00000000#32)⟩] concatenates_S8192x128_S512x128_S8704x128_d0

theorem cosines_latent (A : Vec Ideal S8192x32 .f32) (r : Fin 8704) (h : r.val < 8192) (n : Fin 128) :
    cosines A (ix2 r n) = A (ix2 ⟨r.val, h⟩ ⟨n.val % 32, by omega⟩) := by
  unfold cosines
  rw [concatenate_pair_apply]
  refine (dif_pos h).trans ?_
  pointwise
  split
  · exact congrArg (fun i => A (ix2 _ i)) (Fin.ext (by show n.val = n.val % 32; omega))
  split
  · exact congrArg (fun i => A (ix2 _ i)) (Fin.ext (by show n.val - 32 = n.val % 32; omega))
  split
  · exact congrArg (fun i => A (ix2 _ i)) (Fin.ext (by show n.val - 32 - 32 = n.val % 32; omega))
  · exact congrArg (fun i => A (ix2 _ i)) (Fin.ext (by show n.val - 32 - 32 - 32 = n.val % 32; omega))

theorem cosines_context (A : Vec Ideal S8192x32 .f32) (r : Fin 8704) (h : ¬ r.val < 8192) (n : Fin 128) :
    cosines A (ix2 r n) = 1 := by
  unfold cosines
  rw [concatenate_pair_apply]
  refine (dif_neg h).trans ?_
  pointwise

theorem sines_latent (A : Vec Ideal S8192x32 .f32) (r : Fin 8704) (h : r.val < 8192) (n : Fin 128) :
    sines A (ix2 r n) = if n.val % 64 < 32 then -A (ix2 ⟨r.val, h⟩ ⟨n.val % 32, by omega⟩) else A (ix2 ⟨r.val, h⟩ ⟨n.val % 32, by omega⟩) := by
  unfold sines
  rw [concatenate_pair_apply]
  refine (dif_pos h).trans ?_
  pointwise
  split
  · refine Eq.trans ?_ (if_pos (by omega)).symm
    exact congrArg (fun i => -A (ix2 _ i)) (Fin.ext (by show n.val = n.val % 32; omega))
  split
  · refine Eq.trans ?_ (if_neg (by omega)).symm
    exact congrArg (fun i => A (ix2 _ i)) (Fin.ext (by show n.val - 32 = n.val % 32; omega))
  split
  · refine Eq.trans ?_ (if_pos (by omega)).symm
    exact congrArg (fun i => -A (ix2 _ i)) (Fin.ext (by show n.val - 32 - 32 = n.val % 32; omega))
  · refine Eq.trans ?_ (if_neg (by omega)).symm
    exact congrArg (fun i => A (ix2 _ i)) (Fin.ext (by show n.val - 32 - 32 - 32 = n.val % 32; omega))

theorem sines_context (A : Vec Ideal S8192x32 .f32) (r : Fin 8704) (h : ¬ r.val < 8192) (n : Fin 128) :
    sines A (ix2 r n) = 0 := by
  unfold sines
  rw [concatenate_pair_apply]
  refine (dif_neg h).trans ?_
  pointwise

theorem V_v12 : V m c main_v12 = cosines (m ((c : Thread nD τ).loc main_arg6)) := by
  unfold_abbrev_sides
  after_results_simp
  rfl

theorem V_v13 : V m c main_v13 = sines (m ((c : Thread nD τ).loc main_arg7)) := by
  unfold_abbrev_sides
  after_results_simp
  rfl

theorem V_v33 : V m c main_v33 = weights (m ((c : Thread nD τ).loc main_arg5)) := by
  unfold_abbrev_sides
  after_results_simp
  rfl

theorem V_v36 (k : Fin 1024) : V m c main_v36 (ix2 0 k) = m ((c : Thread nD τ).loc main_arg4) (ix3 2 1 k) := by
  have e : V m c main_v36 = broadcastInDim S1x1024 ![1] bcast_S1024_S1x1024_1 (shapeCast S1024 (extractStridedSlice S1x1x1024 ![2, 1, 0] (m ((c : Thread nD τ).loc main_arg4)) slices_S4x3x1024_S1x1x1024_2_1_0) shapeCasts_S1x1x1024_S1024) := by
    unfold_abbrev_sides
    after_results_simp
    rfl
  rw [e]
  pointwise

theorem V_v2 : V m c main_v2 = concatenate S33792x1024 0 [⟨S32768x1024, shapeCast S32768x1024 (m ((c : Thread nD τ).loc main_arg0)) shapeCasts_S4x8192x1024_S32768x1024⟩, ⟨S1024x1024, shapeCast S1024x1024 (m ((c : Thread nD τ).loc main_arg1)) shapeCasts_S4x256x1024_S1024x1024⟩] concatenates_S32768x1024_S1024x1024_S33792x1024_d0 := by
  unfold_abbrev_sides
  after_results_simp
  rfl

theorem V_v5 : V m c main_v5 = concatenate S8x9x1024 0 [⟨S4x9x1024, m ((c : Thread nD τ).loc main_arg2)⟩, ⟨S1x9x1024, broadcastInDim S1x9x1024 ![1, 2] bcast_S9x1024_S1x9x1024_1_2 (m ((c : Thread nD τ).loc main_arg3))⟩, ⟨S3x9x1024, broadcastInDim S3x9x1024 ![] bcast_S_S3x9x1024 (constant (F := Ideal) S_ .f32 0x00000000#32)⟩] concatenates_S4x9x1024_S1x9x1024_S3x9x1024_S8x9x1024_d0 := by
  unfold_abbrev_sides
  after_results_simp
  rfl

theorem iblk0 (t : Fin cfg0.N) (p : Fin 512) (k : Fin 1024) :
    iblk m c 0 t (ix2 p k) = V m c main_v2 (ix2 ⟨t.val * 512 + p.val, by have := t_lt t; omega⟩ k) := by
  refine congrArg (V m c main_v2) (funext fun a => Fin.ext ?_)
  have e := (index_facts t).1
  match a with
  | ⟨0, _⟩ => show win0_0.index t 0 * 512 + 1 * p.val = t.val * 512 + p.val; rw [e.1]; omega
  | ⟨1, _⟩ => show win0_0.index t 1 * 1024 + 1 * k.val = k.val; rw [e.2]; omega

theorem iblk1 (t : Fin cfg0.N) (n : Fin 9) (k : Fin 1024) :
    iblk m c 1 t (ix3 0 n k) = V m c main_v5 (ix3 ⟨min (t.val / 16) 4, by omega⟩ n k) := by
  refine congrArg (V m c main_v5) (funext fun a => Fin.ext ?_)
  have e := (index_facts t).2.1
  match a with
  | ⟨0, _⟩ => show win0_1.index t 0 * 1 + 1 * 0 = min (t.val / 16) 4; rw [e.1]; omega
  | ⟨1, _⟩ => show win0_1.index t 1 * 9 + 1 * n.val = n.val; rw [e.2.1]; omega
  | ⟨2, _⟩ => show win0_1.index t 2 * 1024 + 1 * k.val = k.val; rw [e.2.2]; omega

theorem iblk2 (t : Fin cfg0.N) (k : Fin 1024) : iblk m c 2 t (ix2 0 k) = V m c main_v36 (ix2 0 k) := by
  refine congrArg (V m c main_v36) (funext fun a => Fin.ext ?_)
  have e := (index_facts t).2.2.1
  match a with
  | ⟨0, _⟩ => show win0_2.index t 0 * 1 + 1 * 0 = 0; rw [e.1]
  | ⟨1, _⟩ => show win0_2.index t 1 * 1024 + 1 * k.val = k.val; rw [e.2]; omega

theorem iblk3 (t : Fin cfg0.N) (k : Fin 1024) (n : Fin 2560) : iblk m c 3 t (ix2 k n) = V m c main_v33 (ix2 k n) := by
  refine congrArg (V m c main_v33) (funext fun a => Fin.ext ?_)
  have e := (index_facts t).2.2.2.1
  match a with
  | ⟨0, _⟩ => show win0_3.index t 0 * 1024 + 1 * k.val = k.val; rw [e.1]; omega
  | ⟨1, _⟩ => show win0_3.index t 1 * 2560 + 1 * n.val = n.val; rw [e.2]; omega

theorem iblk4_latent (t : Fin cfg0.N) (ht : t.val < 64) (p : Fin 512) (n : Fin 128) :
    iblk m c 4 t (ix2 p n) = V m c main_v12 (ix2 ⟨(t.val * 512 + p.val) % 8192, by omega⟩ n) := by
  refine congrArg (V m c main_v12) (funext fun a => Fin.ext ?_)
  have e := (index_facts t).2.2.2.2.1
  match a with
  | ⟨0, _⟩ => show win0_4.index t 0 * 512 + 1 * p.val = (t.val * 512 + p.val) % 8192; rw [e.1, if_pos ht]; omega
  | ⟨1, _⟩ => show win0_4.index t 1 * 128 + 1 * n.val = n.val; rw [e.2]; omega

theorem iblk4_context (t : Fin cfg0.N) (ht : ¬ t.val < 64) (p : Fin 512) (n : Fin 128) :
    iblk m c 4 t (ix2 p n) = V m c main_v12 (ix2 ⟨8192 + p.val, by omega⟩ n) := by
  refine congrArg (V m c main_v12) (funext fun a => Fin.ext ?_)
  have e := (index_facts t).2.2.2.2.1
  match a with
  | ⟨0, _⟩ => show win0_4.index t 0 * 512 + 1 * p.val = 8192 + p.val; rw [e.1, if_neg ht]; omega
  | ⟨1, _⟩ => show win0_4.index t 1 * 128 + 1 * n.val = n.val; rw [e.2]; omega

theorem iblk5_latent (t : Fin cfg0.N) (ht : t.val < 64) (p : Fin 512) (n : Fin 128) :
    iblk m c 5 t (ix2 p n) = V m c main_v13 (ix2 ⟨(t.val * 512 + p.val) % 8192, by omega⟩ n) := by
  refine congrArg (V m c main_v13) (funext fun a => Fin.ext ?_)
  have e := (index_facts t).2.2.2.2.2.1
  match a with
  | ⟨0, _⟩ => show win0_5.index t 0 * 512 + 1 * p.val = (t.val * 512 + p.val) % 8192; rw [e.1, if_pos ht]; omega
  | ⟨1, _⟩ => show win0_5.index t 1 * 128 + 1 * n.val = n.val; rw [e.2]; omega

theorem iblk5_context (t : Fin cfg0.N) (ht : ¬ t.val < 64) (p : Fin 512) (n : Fin 128) :
    iblk m c 5 t (ix2 p n) = V m c main_v13 (ix2 ⟨8192 + p.val, by omega⟩ n) := by
  refine congrArg (V m c main_v13) (funext fun a => Fin.ext ?_)
  have e := (index_facts t).2.2.2.2.2.1
  match a with
  | ⟨0, _⟩ => show win0_5.index t 0 * 512 + 1 * p.val = 8192 + p.val; rw [e.1, if_neg ht]; omega
  | ⟨1, _⟩ => show win0_5.index t 1 * 128 + 1 * n.val = n.val; rw [e.2]; omega

/-- The row a latent point reads. -/
theorem row_latent (t : Fin cfg0.N) (ht : t.val < 64) (p : Fin 512) (k : Fin 1024) :
    iblk m c 0 t (ix2 p k) = m ((c : Thread nD τ).loc main_arg0)
      (ix3 ⟨(t.val * 512 + p.val) / 8192, by omega⟩ ⟨(t.val * 512 + p.val) % 8192, by omega⟩ k) := by
  rw [iblk0 m c t, V_v2, concatenate_pair_apply]
  refine (dif_pos (show t.val * 512 + p.val < 32768 by omega)).trans (Eq.trans (congrArg _ ?_) (rows_latent _ ⟨t.val * 512 + p.val, by omega⟩ k))
  funext a; match a with | ⟨0, _⟩ => rfl | ⟨1, _⟩ => rfl

/-- The row a context point reads. -/
theorem row_context (t : Fin cfg0.N) (ht : ¬ t.val < 64) (p : Fin 512) (k : Fin 1024) :
    iblk m c 0 t (ix2 p k) = m ((c : Thread nD τ).loc main_arg1)
      (ix3 ⟨(t.val * 512 + p.val - 32768) / 256, by have := t_lt t; omega⟩ ⟨(t.val * 512 + p.val - 32768) % 256, by omega⟩ k) := by
  rw [iblk0 m c t, V_v2, concatenate_pair_apply]
  refine (dif_neg (show ¬ t.val * 512 + p.val < 32768 by omega)).trans
    (Eq.trans (congrArg _ ?_) (rows_context _ ⟨t.val * 512 + p.val - 32768, by have := t_lt t; omega⟩ k))
  funext a; match a with | ⟨0, _⟩ => rfl | ⟨1, _⟩ => rfl

/-- The modulations a latent point reads. -/
theorem mod_latent (t : Fin cfg0.N) (ht : t.val < 64) (p : Fin 512) (n : Fin 9) (k : Fin 1024) :
    iblk m c 1 t (ix3 0 n k) = m ((c : Thread nD τ).loc main_arg2) (ix3 ⟨(t.val * 512 + p.val) / 8192, by omega⟩ n k) := by
  have e : (⟨min (t.val / 16) 4, by omega⟩ : Fin 8) = ⟨(t.val * 512 + p.val) / 8192, by omega⟩ :=
    Fin.ext (by show min (t.val / 16) 4 = (t.val * 512 + p.val) / 8192; omega)
  rw [iblk1, V_v5, e]
  exact mods_latent _ _ _ ⟨(t.val * 512 + p.val) / 8192, by omega⟩ (by show (t.val * 512 + p.val) / 8192 < 4; omega) n k

/-- The modulations a context point reads. -/
theorem mod_context (t : Fin cfg0.N) (ht : ¬ t.val < 64) (n : Fin 9) (k : Fin 1024) :
    iblk m c 1 t (ix3 0 n k) = m ((c : Thread nD τ).loc main_arg3) (ix2 n k) := by
  have e : (⟨min (t.val / 16) 4, by omega⟩ : Fin 8) = 4 := Fin.ext (by show min (t.val / 16) 4 = 4; omega)
  rw [iblk1, V_v5, e]
  exact mods_context _ _ _ n k

/-- The tables a latent point reads: the cosines of the row's position, and its sines, the first 32 of every 64 with the other sign. -/
theorem cos_latent (t : Fin cfg0.N) (ht : t.val < 64) (p : Fin 512) (n : Fin 128) :
    iblk m c 4 t (ix2 p n) = m ((c : Thread nD τ).loc main_arg6) (ix2 ⟨(t.val * 512 + p.val) % 8192, by omega⟩ ⟨n.val % 32, by omega⟩) := by
  rw [iblk4_latent m c t ht, V_v12]
  exact cosines_latent _ ⟨(t.val * 512 + p.val) % 8192, by omega⟩ (by show (t.val * 512 + p.val) % 8192 < 8192; omega) n

theorem sin_latent (t : Fin cfg0.N) (ht : t.val < 64) (p : Fin 512) (n : Fin 128) :
    iblk m c 5 t (ix2 p n) = if n.val % 64 < 32
      then Neg.neg (α := EReal) (m ((c : Thread nD τ).loc main_arg7) (ix2 ⟨(t.val * 512 + p.val) % 8192, by omega⟩ ⟨n.val % 32, by omega⟩))
      else (m ((c : Thread nD τ).loc main_arg7) (ix2 ⟨(t.val * 512 + p.val) % 8192, by omega⟩ ⟨n.val % 32, by omega⟩) : EReal) := by
  rw [iblk5_latent m c t ht, V_v13]
  exact sines_latent _ ⟨(t.val * 512 + p.val) % 8192, by omega⟩ (by show (t.val * 512 + p.val) % 8192 < 8192; omega) n

/-- Those a context point reads: ones and zeros. -/
theorem cos_context (t : Fin cfg0.N) (ht : ¬ t.val < 64) (p : Fin 512) (n : Fin 128) : iblk m c 4 t (ix2 p n) = (1 : EReal) := by
  rw [iblk4_context m c t ht, V_v12]
  exact cosines_context _ ⟨8192 + p.val, by omega⟩ (by show ¬ 8192 + p.val < 8192; omega) n

theorem sin_context (t : Fin cfg0.N) (ht : ¬ t.val < 64) (p : Fin 512) (n : Fin 128) : iblk m c 5 t (ix2 p n) = (0 : EReal) := by
  rw [iblk5_context m c t ht, V_v13]
  exact sines_context _ ⟨8192 + p.val, by omega⟩ (by show ¬ 8192 + p.val < 8192; omega) n

end Cert.AbIn2Ideal.Host

end
-- ==== Proof.AbIn2Claim.lean ====
/-
  The retention mixer's input projection of layer 2 and its reference leave the same five arrays: the pooled channels, the
  queries, the keys, the values and the gate. Every row of either is one row of the activations through `AbRow.proj`, the
  latent rows under their sequence's modulations and turned by their position, the context rows under the context's.
-/
module

public import proofs.«01_k».proof.Defs
public import proofs.«01_k».proof.Proof.AbIn2Body
public import proofs.«01_k».proof.Proof.AbIn2Ref
public import proofs.«01_k».proof.Proof.AbIn2Host
public import proofs.«01_k».proof.Proof.Gen.AbIn2ReferenceIdeal.Run
public import Idealize.ShloMosaic.Lib.Quiescent

@[expose] public section

set_option maxRecDepth 16384

noncomputable section

namespace Cert.AbIn2Ideal.Whole

open Cert.AbIn2Ideal Cert.AbIn2Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The pooled channels, as one function of the arguments. -/
def G6 : Vec Ideal S33792x256 .f32 :=
  fun i => AbIn2ReferenceIdeal.Read.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i

/-- The queries, as one function of the arguments. -/
def G7 : Vec Ideal S33792x384 .bf16 :=
  fun i => AbIn2ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i

/-- The keys, a tile of columns to a grid point, as one function of the arguments. -/
def G8 : Vec Ideal S66x384x512 .bf16 :=
  fun i => AbIn2ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i

/-- The values, as one function of the arguments. -/
def G9 : Vec Ideal S33792x768 .bf16 :=
  fun i => AbIn2ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i

/-- The gate, as one function of the arguments. -/
def G10 : Vec Ideal S33792x768 .bf16 :=
  fun i => AbIn2ReferenceIdeal.Read.val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i

/-- Two columns of a projection whose weights agree. -/
theorem proj_eq (h : Fin 1024 → EReal) (w w' : Fin 1024 → Fin 2560 → EReal) (n n' : Fin 2560) (e : ∀ k, w k n = w' k n') :
    AbRow.proj h w n = AbRow.proj h w' n' := by
  unfold AbRow.proj
  simp only [e]

/-- Two columns of which one's weights are the other's, scaled. -/
theorem proj_scaled (h : Fin 1024 → EReal) (w w' : Fin 1024 → Fin 2560 → EReal) (n n' : Fin 2560)
    (e : ∀ k, w k n = w' k n' * Ideal.ofBits FTy.f32 0x3E000000#32) :
    AbRow.proj h w n = AbRow.proj h w' n' * Ideal.ofBits FTy.f32 0x3E000000#32 := by
  unfold AbRow.proj
  simp only [e]
  exact AbRow.sum_scaled _ _

/-- The projection of a latent row, over the weights as the kernel takes them. -/
theorem column_latent (t : Fin cfg0.N) (ht : t.val < 64) (p : Fin 512) (n : Fin 2560) :
    Body.column (iblk m c 0 t) (iblk m c 1 t) (iblk m c 2 t) (iblk m c 3 t) p n = AbRow.proj (FfnRow.scaled
        (fun k => (m ((c : Thread nD τ).loc main_arg0)) (ix3 ⟨(t.val * 512 + p.val) / 8192, by omega⟩ ⟨(t.val * 512 + p.val) % 8192, by omega⟩ k)) (fun k => (m ((c : Thread nD τ).loc main_arg4)) (ix3 2 1 k))
        (fun k => (m ((c : Thread nD τ).loc main_arg2)) (ix3 ⟨(t.val * 512 + p.val) / 8192, by omega⟩ 3 k)) (fun k => (m ((c : Thread nD τ).loc main_arg2)) (ix3 ⟨(t.val * 512 + p.val) / 8192, by omega⟩ 4 k)))
      (fun k n => Host.weights (m ((c : Thread nD τ).loc main_arg5)) (ix2 k n)) n := by
  unfold Body.column
  have e2 := Host.V_v36 m c
  simp only [Host.row_latent m c t ht, Host.mod_latent m c t ht p, Host.iblk2, Host.iblk3, e2]
  rw [Host.V_v33]

/-- That of a context row. -/
theorem column_context (t : Fin cfg0.N) (ht : ¬ t.val < 64) (p : Fin 512) (n : Fin 2560) :
    Body.column (iblk m c 0 t) (iblk m c 1 t) (iblk m c 2 t) (iblk m c 3 t) p n = AbRow.proj (FfnRow.scaled
        (fun k => (m ((c : Thread nD τ).loc main_arg1)) (ix3 ⟨(t.val * 512 + p.val - 32768) / 256, by have := Host.t_lt t; omega⟩ ⟨(t.val * 512 + p.val - 32768) % 256, by omega⟩ k))
        (fun k => (m ((c : Thread nD τ).loc main_arg4)) (ix3 2 1 k)) (fun k => (m ((c : Thread nD τ).loc main_arg3)) (ix2 3 k)) (fun k => (m ((c : Thread nD τ).loc main_arg3)) (ix2 4 k)))
      (fun k n => Host.weights (m ((c : Thread nD τ).loc main_arg5)) (ix2 k n)) n := by
  unfold Body.column
  have e2 := Host.V_v36 m c
  simp only [Host.row_context m c t ht, Host.mod_context m c t ht, Host.iblk2, Host.iblk3, e2]
  rw [Host.V_v33]

theorem p_latent (t : Fin cfg0.N) (ht : t.val < 64) (p : Fin 512) (j : Fin 256) :
    Body.column (iblk m c 0 t) (iblk m c 1 t) (iblk m c 2 t) (iblk m c 3 t) p ⟨j.val, by omega⟩
      = AbIn2ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨j.val, by omega⟩ :=
  (column_latent m c t ht p _).trans (proj_eq _ _ _ _ _ fun k => Host.weights_p (m ((c : Thread nD τ).loc main_arg5)) k j)

theorem q_latent (t : Fin cfg0.N) (ht : t.val < 64) (p : Fin 512) (j : Fin 384) :
    Body.column (iblk m c 0 t) (iblk m c 1 t) (iblk m c 2 t) (iblk m c 3 t) p ⟨256 + j.val, by omega⟩
      = AbIn2ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨256 + (AbRow.col j).val, by have := (AbRow.col j).isLt; omega⟩ :=
  (column_latent m c t ht p _).trans (proj_eq _ _ _ _ _ fun k => Host.weights_q (m ((c : Thread nD τ).loc main_arg5)) k j)

theorem k_latent (t : Fin cfg0.N) (ht : t.val < 64) (p : Fin 512) (j : Fin 384) :
    Body.column (iblk m c 0 t) (iblk m c 1 t) (iblk m c 2 t) (iblk m c 3 t) p ⟨640 + j.val, by omega⟩
      = AbIn2ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨640 + (AbRow.col j).val, by have := (AbRow.col j).isLt; omega⟩ * Ideal.ofBits FTy.f32 0x3E000000#32 :=
  (column_latent m c t ht p _).trans (proj_scaled _ _ _ _ _ fun k => Host.weights_k (m ((c : Thread nD τ).loc main_arg5)) k j)

theorem v_latent (t : Fin cfg0.N) (ht : t.val < 64) (p : Fin 512) (j : Fin 1536) :
    Body.column (iblk m c 0 t) (iblk m c 1 t) (iblk m c 2 t) (iblk m c 3 t) p ⟨1024 + j.val, by omega⟩
      = AbIn2ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨1024 + j.val, by omega⟩ :=
  (column_latent m c t ht p _).trans (proj_eq _ _ _ _ _ fun k => Host.weights_v (m ((c : Thread nD τ).loc main_arg5)) k j)

theorem p_context (t : Fin cfg0.N) (ht : ¬ t.val < 64) (p : Fin 512) (j : Fin 256) :
    Body.column (iblk m c 0 t) (iblk m c 1 t) (iblk m c 2 t) (iblk m c 3 t) p ⟨j.val, by omega⟩
      = AbIn2ReferenceIdeal.Rows.context (m ((c : Thread nD τ).loc main_arg1)) (m ((c : Thread nD τ).loc main_arg3)) (m ((c : Thread nD τ).loc main_arg4)) (m ((c : Thread nD τ).loc main_arg5)) ⟨(t.val * 512 + p.val - 32768) / 256, by have := Host.t_lt t; omega⟩ ⟨(t.val * 512 + p.val - 32768) % 256, by omega⟩ ⟨j.val, by omega⟩ :=
  (column_context m c t ht p _).trans (proj_eq _ _ _ _ _ fun k => Host.weights_p (m ((c : Thread nD τ).loc main_arg5)) k j)

theorem q_context (t : Fin cfg0.N) (ht : ¬ t.val < 64) (p : Fin 512) (j : Fin 384) :
    Body.column (iblk m c 0 t) (iblk m c 1 t) (iblk m c 2 t) (iblk m c 3 t) p ⟨256 + j.val, by omega⟩
      = AbIn2ReferenceIdeal.Rows.context (m ((c : Thread nD τ).loc main_arg1)) (m ((c : Thread nD τ).loc main_arg3)) (m ((c : Thread nD τ).loc main_arg4)) (m ((c : Thread nD τ).loc main_arg5)) ⟨(t.val * 512 + p.val - 32768) / 256, by have := Host.t_lt t; omega⟩ ⟨(t.val * 512 + p.val - 32768) % 256, by omega⟩ ⟨256 + (AbRow.col j).val, by have := (AbRow.col j).isLt; omega⟩ :=
  (column_context m c t ht p _).trans (proj_eq _ _ _ _ _ fun k => Host.weights_q (m ((c : Thread nD τ).loc main_arg5)) k j)

theorem k_context (t : Fin cfg0.N) (ht : ¬ t.val < 64) (p : Fin 512) (j : Fin 384) :
    Body.column (iblk m c 0 t) (iblk m c 1 t) (iblk m c 2 t) (iblk m c 3 t) p ⟨640 + j.val, by omega⟩
      = AbIn2ReferenceIdeal.Rows.context (m ((c : Thread nD τ).loc main_arg1)) (m ((c : Thread nD τ).loc main_arg3)) (m ((c : Thread nD τ).loc main_arg4)) (m ((c : Thread nD τ).loc main_arg5)) ⟨(t.val * 512 + p.val - 32768) / 256, by have := Host.t_lt t; omega⟩ ⟨(t.val * 512 + p.val - 32768) % 256, by omega⟩ ⟨640 + (AbRow.col j).val, by have := (AbRow.col j).isLt; omega⟩ * Ideal.ofBits FTy.f32 0x3E000000#32 :=
  (column_context m c t ht p _).trans (proj_scaled _ _ _ _ _ fun k => Host.weights_k (m ((c : Thread nD τ).loc main_arg5)) k j)

theorem v_context (t : Fin cfg0.N) (ht : ¬ t.val < 64) (p : Fin 512) (j : Fin 1536) :
    Body.column (iblk m c 0 t) (iblk m c 1 t) (iblk m c 2 t) (iblk m c 3 t) p ⟨1024 + j.val, by omega⟩
      = AbIn2ReferenceIdeal.Rows.context (m ((c : Thread nD τ).loc main_arg1)) (m ((c : Thread nD τ).loc main_arg3)) (m ((c : Thread nD τ).loc main_arg4)) (m ((c : Thread nD τ).loc main_arg5)) ⟨(t.val * 512 + p.val - 32768) / 256, by have := Host.t_lt t; omega⟩ ⟨(t.val * 512 + p.val - 32768) % 256, by omega⟩ ⟨1024 + j.val, by omega⟩ :=
  (column_context m c t ht p _).trans (proj_eq _ _ _ _ _ fun k => Host.weights_v (m ((c : Thread nD τ).loc main_arg5)) k j)

theorem turned_q_latent (t : Fin cfg0.N) (ht : t.val < 64) (p : Fin 512) (j : Fin 384) :
    AbRow.turned (fun j => Body.column (iblk m c 0 t) (iblk m c 1 t) (iblk m c 2 t) (iblk m c 3 t) p ⟨256 + j.val, by omega⟩) (fun n => iblk m c 4 t (ix2 p n)) (fun n => iblk m c 5 t (ix2 p n)) j
      = AbRow.rotated (fun j : Fin 384 => AbIn2ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨256 + j.val, by omega⟩)
          (fun k => (m ((c : Thread nD τ).loc main_arg6)) (ix2 ⟨(t.val * 512 + p.val) % 8192, by omega⟩ k)) (fun k => (m ((c : Thread nD τ).loc main_arg7)) (ix2 ⟨(t.val * 512 + p.val) % 8192, by omega⟩ k)) j := by
  rw [show (fun j : Fin 384 => Body.column (iblk m c 0 t) (iblk m c 1 t) (iblk m c 2 t) (iblk m c 3 t) p ⟨256 + j.val, by omega⟩)
    = fun j => (fun j : Fin 384 => AbIn2ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨256 + j.val, by omega⟩) (AbRow.col j) from funext fun j => q_latent m c t ht p j]
  exact AbRow.turned_table (fun j : Fin 384 => AbIn2ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨256 + j.val, by omega⟩) (fun k => (m ((c : Thread nD τ).loc main_arg6)) (ix2 ⟨(t.val * 512 + p.val) % 8192, by omega⟩ k)) (fun k => (m ((c : Thread nD τ).loc main_arg7)) (ix2 ⟨(t.val * 512 + p.val) % 8192, by omega⟩ k)) _ _ (Host.cos_latent m c t ht p) (Host.sin_latent m c t ht p) j

theorem turned_q_context (t : Fin cfg0.N) (ht : ¬ t.val < 64) (p : Fin 512) (j : Fin 384) :
    AbRow.turned (fun j => Body.column (iblk m c 0 t) (iblk m c 1 t) (iblk m c 2 t) (iblk m c 3 t) p ⟨256 + j.val, by omega⟩) (fun n => iblk m c 4 t (ix2 p n)) (fun n => iblk m c 5 t (ix2 p n)) j
      = AbIn2ReferenceIdeal.Rows.context (m ((c : Thread nD τ).loc main_arg1)) (m ((c : Thread nD τ).loc main_arg3)) (m ((c : Thread nD τ).loc main_arg4)) (m ((c : Thread nD τ).loc main_arg5)) ⟨(t.val * 512 + p.val - 32768) / 256, by have := Host.t_lt t; omega⟩ ⟨(t.val * 512 + p.val - 32768) % 256, by omega⟩ ⟨256 + (AbRow.col j).val, by have := (AbRow.col j).isLt; omega⟩ :=
  (AbRow.turned_still _ _ _ (Host.cos_context m c t ht p) (Host.sin_context m c t ht p) j).trans (q_context m c t ht p j)

theorem turned_k_latent (t : Fin cfg0.N) (ht : t.val < 64) (p : Fin 512) (j : Fin 384) :
    AbRow.turned (fun j => Body.column (iblk m c 0 t) (iblk m c 1 t) (iblk m c 2 t) (iblk m c 3 t) p ⟨640 + j.val, by omega⟩) (fun n => iblk m c 4 t (ix2 p n)) (fun n => iblk m c 5 t (ix2 p n)) j
      = AbRow.rotated (fun j : Fin 384 => AbIn2ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨640 + j.val, by omega⟩ * Ideal.ofBits FTy.f32 0x3E000000#32)
          (fun k => (m ((c : Thread nD τ).loc main_arg6)) (ix2 ⟨(t.val * 512 + p.val) % 8192, by omega⟩ k)) (fun k => (m ((c : Thread nD τ).loc main_arg7)) (ix2 ⟨(t.val * 512 + p.val) % 8192, by omega⟩ k)) j := by
  rw [show (fun j : Fin 384 => Body.column (iblk m c 0 t) (iblk m c 1 t) (iblk m c 2 t) (iblk m c 3 t) p ⟨640 + j.val, by omega⟩)
    = fun j => (fun j : Fin 384 => AbIn2ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨640 + j.val, by omega⟩ * Ideal.ofBits FTy.f32 0x3E000000#32) (AbRow.col j) from funext fun j => k_latent m c t ht p j]
  exact AbRow.turned_table (fun j : Fin 384 => AbIn2ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩ ⟨640 + j.val, by omega⟩ * Ideal.ofBits FTy.f32 0x3E000000#32) (fun k => (m ((c : Thread nD τ).loc main_arg6)) (ix2 ⟨(t.val * 512 + p.val) % 8192, by omega⟩ k)) (fun k => (m ((c : Thread nD τ).loc main_arg7)) (ix2 ⟨(t.val * 512 + p.val) % 8192, by omega⟩ k)) _ _ (Host.cos_latent m c t ht p) (Host.sin_latent m c t ht p) j

theorem turned_k_context (t : Fin cfg0.N) (ht : ¬ t.val < 64) (p : Fin 512) (j : Fin 384) :
    AbRow.turned (fun j => Body.column (iblk m c 0 t) (iblk m c 1 t) (iblk m c 2 t) (iblk m c 3 t) p ⟨640 + j.val, by omega⟩) (fun n => iblk m c 4 t (ix2 p n)) (fun n => iblk m c 5 t (ix2 p n)) j
      = AbIn2ReferenceIdeal.Rows.context (m ((c : Thread nD τ).loc main_arg1)) (m ((c : Thread nD τ).loc main_arg3)) (m ((c : Thread nD τ).loc main_arg4)) (m ((c : Thread nD τ).loc main_arg5)) ⟨(t.val * 512 + p.val - 32768) / 256, by have := Host.t_lt t; omega⟩ ⟨(t.val * 512 + p.val - 32768) % 256, by omega⟩ ⟨640 + (AbRow.col j).val, by have := (AbRow.col j).isLt; omega⟩ * Ideal.ofBits FTy.f32 0x3E000000#32 :=
  (AbRow.turned_still _ _ _ (Host.cos_context m c t ht p) (Host.sin_context m c t ht p) j).trans (k_context m c t ht p j)

theorem block6 (t : Fin cfg0.N) (p : Fin 512) (j : Fin 256) :
    out0_6 (F := Ideal) (iblk m c 0 t) (iblk m c 1 t) (iblk m c 2 t) (iblk m c 3 t) (iblk m c 4 t) (iblk m c 5 t) (ix2 p j) = G6 m c (ix2 ⟨t.val * 512 + p.val, by have := Host.t_lt t; omega⟩ j) := by
  have hlt := Host.t_lt t
  refine (Body.out6_apply _ _ _ _ _ _ p j).trans ?_
  by_cases ht : t.val < 64
  · refine Eq.trans (p_latent m c t ht p j) ?_
    exact ((AbIn2ReferenceIdeal.Rows.v134_latent _ _ _ _ _ _ ⟨t.val * 512 + p.val, by have := Host.t_lt t; omega⟩ (by show t.val * 512 + p.val < 32768; omega) j).trans (AbIn2ReferenceIdeal.Rows.v132_apply _ _ _ _ ⟨t.val * 512 + p.val, by omega⟩ j)).symm
  · refine Eq.trans (p_context m c t ht p j) ?_
    exact ((AbIn2ReferenceIdeal.Rows.v134_context _ _ _ _ _ _ ⟨t.val * 512 + p.val, by have := Host.t_lt t; omega⟩ (by show ¬ t.val * 512 + p.val < 32768; omega) j).trans (AbIn2ReferenceIdeal.Rows.v133_apply _ _ _ _ ⟨t.val * 512 + p.val - 32768, by omega⟩ j)).symm

theorem block7 (t : Fin cfg0.N) (p : Fin 512) (j : Fin 384) :
    out0_7 (F := Ideal) (iblk m c 0 t) (iblk m c 1 t) (iblk m c 2 t) (iblk m c 3 t) (iblk m c 4 t) (iblk m c 5 t) (ix2 p j) = G7 m c (ix2 ⟨t.val * 512 + p.val, by have := Host.t_lt t; omega⟩ j) := by
  have hlt := Host.t_lt t
  refine (congrFun (Body.out7_eq _ _ _ _ _ _) (ix2 p j)).trans ?_
  by_cases ht : t.val < 64
  · refine Eq.trans (turned_q_latent m c t ht p j) ?_
    exact ((AbIn2ReferenceIdeal.Rows.v141_latent _ _ _ _ _ _ _ _ ⟨t.val * 512 + p.val, by have := Host.t_lt t; omega⟩ (by show t.val * 512 + p.val < 32768; omega) j).trans (AbIn2ReferenceIdeal.Rows.v139_apply _ _ _ _ _ _ ⟨t.val * 512 + p.val, by omega⟩ j)).symm
  · refine Eq.trans (turned_q_context m c t ht p j) ?_
    exact ((AbIn2ReferenceIdeal.Rows.v141_context _ _ _ _ _ _ _ _ ⟨t.val * 512 + p.val, by have := Host.t_lt t; omega⟩ (by show ¬ t.val * 512 + p.val < 32768; omega) j).trans (AbIn2ReferenceIdeal.Rows.v140_apply _ _ _ _ ⟨t.val * 512 + p.val - 32768, by omega⟩ j)).symm

theorem block8 (t : Fin cfg0.N) (p : Fin 512) (j : Fin 384) :
    out0_8 (F := Ideal) (iblk m c 0 t) (iblk m c 1 t) (iblk m c 2 t) (iblk m c 3 t) (iblk m c 4 t) (iblk m c 5 t) (ix3 0 j p) = G8 m c (ix3 ⟨t.val, Host.t_lt t⟩ j p) := by
  have hlt := Host.t_lt t
  refine (congrFun (Body.out8_eq _ _ _ _ _ _) (ix3 0 j p)).trans ?_
  by_cases ht : t.val < 64
  · refine Eq.trans (turned_k_latent m c t ht p j) ?_
    exact ((AbIn2ReferenceIdeal.Rows.v152_apply _ _ _ _ _ _ _ _ ⟨t.val, Host.t_lt t⟩ j p).trans ((AbIn2ReferenceIdeal.Rows.v149_latent _ _ _ _ _ _ _ _ ⟨t.val * 512 + p.val, by have := Host.t_lt t; omega⟩ (by show t.val * 512 + p.val < 32768; omega) j).trans (AbIn2ReferenceIdeal.Rows.v147_apply _ _ _ _ _ _ ⟨t.val * 512 + p.val, by omega⟩ j))).symm
  · refine Eq.trans (turned_k_context m c t ht p j) ?_
    exact ((AbIn2ReferenceIdeal.Rows.v152_apply _ _ _ _ _ _ _ _ ⟨t.val, Host.t_lt t⟩ j p).trans ((AbIn2ReferenceIdeal.Rows.v149_context _ _ _ _ _ _ _ _ ⟨t.val * 512 + p.val, by have := Host.t_lt t; omega⟩ (by show ¬ t.val * 512 + p.val < 32768; omega) j).trans (AbIn2ReferenceIdeal.Rows.v148_apply _ _ _ _ ⟨t.val * 512 + p.val - 32768, by omega⟩ j))).symm

theorem block9 (t : Fin cfg0.N) (p : Fin 512) (j : Fin 768) :
    out0_9 (F := Ideal) (iblk m c 0 t) (iblk m c 1 t) (iblk m c 2 t) (iblk m c 3 t) (iblk m c 4 t) (iblk m c 5 t) (ix2 p j) = G9 m c (ix2 ⟨t.val * 512 + p.val, by have := Host.t_lt t; omega⟩ j) := by
  have hlt := Host.t_lt t
  refine (Body.out9_apply _ _ _ _ _ _ p j).trans ?_
  by_cases ht : t.val < 64
  · refine Eq.trans (v_latent m c t ht p ⟨j.val, by omega⟩) ?_
    exact ((AbIn2ReferenceIdeal.Rows.v155_latent _ _ _ _ _ _ ⟨t.val * 512 + p.val, by have := Host.t_lt t; omega⟩ (by show t.val * 512 + p.val < 32768; omega) j).trans (AbIn2ReferenceIdeal.Rows.v153_apply _ _ _ _ ⟨t.val * 512 + p.val, by omega⟩ j)).symm
  · refine Eq.trans (v_context m c t ht p ⟨j.val, by omega⟩) ?_
    exact ((AbIn2ReferenceIdeal.Rows.v155_context _ _ _ _ _ _ ⟨t.val * 512 + p.val, by have := Host.t_lt t; omega⟩ (by show ¬ t.val * 512 + p.val < 32768; omega) j).trans (AbIn2ReferenceIdeal.Rows.v154_apply _ _ _ _ ⟨t.val * 512 + p.val - 32768, by omega⟩ j)).symm

theorem block10 (t : Fin cfg0.N) (p : Fin 512) (j : Fin 768) :
    out0_10 (F := Ideal) (iblk m c 0 t) (iblk m c 1 t) (iblk m c 2 t) (iblk m c 3 t) (iblk m c 4 t) (iblk m c 5 t) (ix2 p j) = G10 m c (ix2 ⟨t.val * 512 + p.val, by have := Host.t_lt t; omega⟩ j) := by
  have hlt := Host.t_lt t
  refine (Body.out10_apply _ _ _ _ _ _ p j).trans ?_
  by_cases ht : t.val < 64
  · refine Eq.trans (((congrArg (Body.column (iblk m c 0 t) (iblk m c 1 t) (iblk m c 2 t) (iblk m c 3 t) p) (Fin.ext (by show 1792 + j.val = 1024 + (768 + j.val); omega))).trans ((v_latent m c t ht p ⟨768 + j.val, by omega⟩).trans (congrArg (AbIn2ReferenceIdeal.Rows.latent (m ((c : Thread nD τ).loc main_arg0)) (m ((c : Thread nD τ).loc main_arg2)) (m ((c : Thread nD τ).loc main_arg4)) (m ((c : Thread nD τ).loc main_arg5)) ⟨(t.val * 512 + p.val) / 8192, by omega⟩ ⟨(t.val * 512 + p.val) % 8192, by omega⟩) (Fin.ext (by show 1024 + (768 + j.val) = 1792 + j.val; omega) : (⟨1024 + (768 + j.val), by omega⟩ : Fin 2560) = ⟨1792 + j.val, by omega⟩))))) ?_
    exact ((AbIn2ReferenceIdeal.Rows.v159_latent _ _ _ _ _ _ ⟨t.val * 512 + p.val, by have := Host.t_lt t; omega⟩ (by show t.val * 512 + p.val < 32768; omega) j).trans (AbIn2ReferenceIdeal.Rows.v157_apply _ _ _ _ ⟨t.val * 512 + p.val, by omega⟩ j)).symm
  · refine Eq.trans (((congrArg (Body.column (iblk m c 0 t) (iblk m c 1 t) (iblk m c 2 t) (iblk m c 3 t) p) (Fin.ext (by show 1792 + j.val = 1024 + (768 + j.val); omega))).trans ((v_context m c t ht p ⟨768 + j.val, by omega⟩).trans (congrArg (AbIn2ReferenceIdeal.Rows.context (m ((c : Thread nD τ).loc main_arg1)) (m ((c : Thread nD τ).loc main_arg3)) (m ((c : Thread nD τ).loc main_arg4)) (m ((c : Thread nD τ).loc main_arg5)) ⟨(t.val * 512 + p.val - 32768) / 256, by have := Host.t_lt t; omega⟩ ⟨(t.val * 512 + p.val - 32768) % 256, by omega⟩) (Fin.ext (by show 1024 + (768 + j.val) = 1792 + j.val; omega) : (⟨1024 + (768 + j.val), by omega⟩ : Fin 2560) = ⟨1792 + j.val, by omega⟩))))) ?_
    exact ((AbIn2ReferenceIdeal.Rows.v159_context _ _ _ _ _ _ ⟨t.val * 512 + p.val, by have := Host.t_lt t; omega⟩ (by show ¬ t.val * 512 + p.val < 32768; omega) j).trans (AbIn2ReferenceIdeal.Rows.v158_apply _ _ _ _ ⟨t.val * 512 + p.val - 32768, by omega⟩ j)).symm

theorem flushed6_eq (t : Fin cfg0.N) : (dats m 0 c).flushed 6 t = ((cfg0.win 6).blk t).view.read (Elt Ideal) (G6 m c) := by
  rw [Value.flushed6]
  have ht := Host.t_lt t
  have key : ∀ y : S512x256.Idx, out0_6 (F := Ideal) (iblk m c 0 t) (iblk m c 1 t) (iblk m c 2 t) (iblk m c 3 t) (iblk m c 4 t) (iblk m c 5 t) y
      = G6 m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block6 m c t (y 0) (y 1)
  funext y
  refine (key y).trans (congrArg (G6 m c) (funext fun a => Fin.ext ?_))
  have e := (Host.index_facts t).2.2.2.2.2.2.1
  match a with
  | ⟨0, _⟩ => show t.val * 512 + (y 0).val = win0_6.index t 0 * 512 + 1 * (y 0).val; rw [e.1]; omega
  | ⟨1, _⟩ => show (y 1).val = win0_6.index t 1 * 256 + 1 * (y 1).val; rw [e.2]; omega

theorem mem_blk6 (t : Fin cfg0.N) (i : S33792x256.Idx) : i ∈ ((cfg0.win 6).blk t).view.set ↔
    ∀ a, win0_6.index t a * win0_6.size a ≤ (i a).val ∧ (i a).val < win0_6.index t a * win0_6.size a + win0_6.xsize (grid0.coords t) a := by
  show i ∈ ((View.whole main_v37_0).slice (win0_6.rect t)).set ↔ _
  rw [View.set_slice_whole, Rect.mem_set_unit]

theorem cover6 (i : S33792x256.Idx) : ∃ t : Fin cfg0.N, (cfg0.win 6).flush t = true ∧ i ∈ ((cfg0.win 6).blk t).view.set := by
  have h0 : (i 0).val < 33792 := (i 0).isLt
  have h1 : (i 1).val < 256 := (i 1).isLt
  have hN : cfg0.N = 66 := N_0
  have hlt : (i 0).val / 512 < cfg0.N := by omega
  refine ⟨⟨(i 0).val / 512, hlt⟩, flush0_6 _, (mem_blk6 _ i).2 fun a => ?_⟩
  have e := (Host.index_facts ⟨(i 0).val / 512, hlt⟩).2.2.2.2.2.2.1
  match a with
  | ⟨0, _⟩ =>
    show win0_6.index _ 0 * 512 ≤ (i 0).val ∧ (i 0).val < win0_6.index _ 0 * 512 + 512
    rw [e.1]; show (i 0).val / 512 * 512 ≤ (i 0).val ∧ (i 0).val < (i 0).val / 512 * 512 + 512; omega
  | ⟨1, _⟩ =>
    show win0_6.index _ 1 * 256 ≤ (i 1).val ∧ (i 1).val < win0_6.index _ 1 * 256 + 256
    rw [e.2]; omega

theorem final6 : (dats m 0 c).arrAt 6 cfg0.N = G6 m c :=
  (dats m 0 c).arrAt_eq_of_cover 6 (G6 m c) (fun t _ => flushed6_eq m c t) cover6

theorem flushed7_eq (t : Fin cfg0.N) : (dats m 0 c).flushed 7 t = ((cfg0.win 7).blk t).view.read (Elt Ideal) (G7 m c) := by
  rw [Value.flushed7]
  have ht := Host.t_lt t
  have key : ∀ y : S512x384.Idx, out0_7 (F := Ideal) (iblk m c 0 t) (iblk m c 1 t) (iblk m c 2 t) (iblk m c 3 t) (iblk m c 4 t) (iblk m c 5 t) y
      = G7 m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block7 m c t (y 0) (y 1)
  funext y
  refine (key y).trans (congrArg (G7 m c) (funext fun a => Fin.ext ?_))
  have e := (Host.index_facts t).2.2.2.2.2.2.2.1
  match a with
  | ⟨0, _⟩ => show t.val * 512 + (y 0).val = win0_7.index t 0 * 512 + 1 * (y 0).val; rw [e.1]; omega
  | ⟨1, _⟩ => show (y 1).val = win0_7.index t 1 * 384 + 1 * (y 1).val; rw [e.2]; omega

theorem mem_blk7 (t : Fin cfg0.N) (i : S33792x384.Idx) : i ∈ ((cfg0.win 7).blk t).view.set ↔
    ∀ a, win0_7.index t a * win0_7.size a ≤ (i a).val ∧ (i a).val < win0_7.index t a * win0_7.size a + win0_7.xsize (grid0.coords t) a := by
  show i ∈ ((View.whole main_v37_1).slice (win0_7.rect t)).set ↔ _
  rw [View.set_slice_whole, Rect.mem_set_unit]

theorem cover7 (i : S33792x384.Idx) : ∃ t : Fin cfg0.N, (cfg0.win 7).flush t = true ∧ i ∈ ((cfg0.win 7).blk t).view.set := by
  have h0 : (i 0).val < 33792 := (i 0).isLt
  have h1 : (i 1).val < 384 := (i 1).isLt
  have hN : cfg0.N = 66 := N_0
  have hlt : (i 0).val / 512 < cfg0.N := by omega
  refine ⟨⟨(i 0).val / 512, hlt⟩, flush0_7 _, (mem_blk7 _ i).2 fun a => ?_⟩
  have e := (Host.index_facts ⟨(i 0).val / 512, hlt⟩).2.2.2.2.2.2.2.1
  match a with
  | ⟨0, _⟩ =>
    show win0_7.index _ 0 * 512 ≤ (i 0).val ∧ (i 0).val < win0_7.index _ 0 * 512 + 512
    rw [e.1]; show (i 0).val / 512 * 512 ≤ (i 0).val ∧ (i 0).val < (i 0).val / 512 * 512 + 512; omega
  | ⟨1, _⟩ =>
    show win0_7.index _ 1 * 384 ≤ (i 1).val ∧ (i 1).val < win0_7.index _ 1 * 384 + 384
    rw [e.2]; omega

theorem final7 : (dats m 0 c).arrAt 7 cfg0.N = G7 m c :=
  (dats m 0 c).arrAt_eq_of_cover 7 (G7 m c) (fun t _ => flushed7_eq m c t) cover7

theorem flushed8_eq (t : Fin cfg0.N) : (dats m 0 c).flushed 8 t = ((cfg0.win 8).blk t).view.read (Elt Ideal) (G8 m c) := by
  rw [Value.flushed8]
  have ht := Host.t_lt t
  have key : ∀ y : S1x384x512.Idx, out0_8 (F := Ideal) (iblk m c 0 t) (iblk m c 1 t) (iblk m c 2 t) (iblk m c 3 t) (iblk m c 4 t) (iblk m c 5 t) y = G8 m c (ix3 ⟨t.val, ht⟩ (y 1) (y 2)) := by
    intro y
    have h0 : (y 0).val < 1 := (y 0).isLt
    have hy : y = ix3 0 (y 1) (y 2) := by
      funext a
      match a with
      | ⟨0, _⟩ => exact Fin.ext (by show (y 0).val = 0; omega)
      | ⟨1, _⟩ => rfl
      | ⟨2, _⟩ => rfl
    rw [hy]; exact block8 m c t (y 2) (y 1)
  funext y
  have h0 : (y 0).val < 1 := (y 0).isLt
  refine (key y).trans (congrArg (G8 m c) (funext fun a => Fin.ext ?_))
  have e := (Host.index_facts t).2.2.2.2.2.2.2.2.1
  match a with
  | ⟨0, _⟩ => show t.val = win0_8.index t 0 * 1 + 1 * (y 0).val; rw [e.1]; omega
  | ⟨1, _⟩ => show (y 1).val = win0_8.index t 1 * 384 + 1 * (y 1).val; rw [e.2.1]; omega
  | ⟨2, _⟩ => show (y 2).val = win0_8.index t 2 * 512 + 1 * (y 2).val; rw [e.2.2]; omega

theorem mem_blk8 (t : Fin cfg0.N) (i : S66x384x512.Idx) : i ∈ ((cfg0.win 8).blk t).view.set ↔
    ∀ a, win0_8.index t a * win0_8.size a ≤ (i a).val ∧ (i a).val < win0_8.index t a * win0_8.size a + win0_8.xsize (grid0.coords t) a := by
  show i ∈ ((View.whole main_v37_2).slice (win0_8.rect t)).set ↔ _
  rw [View.set_slice_whole, Rect.mem_set_unit]

theorem cover8 (i : S66x384x512.Idx) : ∃ t : Fin cfg0.N, (cfg0.win 8).flush t = true ∧ i ∈ ((cfg0.win 8).blk t).view.set := by
  have h0 : (i 0).val < 66 := (i 0).isLt
  have h1 : (i 1).val < 384 := (i 1).isLt
  have h2 : (i 2).val < 512 := (i 2).isLt
  have hN : cfg0.N = 66 := N_0
  have hlt : (i 0).val < cfg0.N := by omega
  refine ⟨⟨(i 0).val, hlt⟩, flush0_8 _, (mem_blk8 _ i).2 fun a => ?_⟩
  have e := (Host.index_facts ⟨(i 0).val, hlt⟩).2.2.2.2.2.2.2.2.1
  match a with
  | ⟨0, _⟩ =>
    show win0_8.index _ 0 * 1 ≤ (i 0).val ∧ (i 0).val < win0_8.index _ 0 * 1 + 1
    rw [e.1]; show (i 0).val * 1 ≤ (i 0).val ∧ (i 0).val < (i 0).val * 1 + 1; omega
  | ⟨1, _⟩ =>
    show win0_8.index _ 1 * 384 ≤ (i 1).val ∧ (i 1).val < win0_8.index _ 1 * 384 + 384
    rw [e.2.1]; omega
  | ⟨2, _⟩ =>
    show win0_8.index _ 2 * 512 ≤ (i 2).val ∧ (i 2).val < win0_8.index _ 2 * 512 + 512
    rw [e.2.2]; omega

theorem final8 : (dats m 0 c).arrAt 8 cfg0.N = G8 m c :=
  (dats m 0 c).arrAt_eq_of_cover 8 (G8 m c) (fun t _ => flushed8_eq m c t) cover8

theorem flushed9_eq (t : Fin cfg0.N) : (dats m 0 c).flushed 9 t = ((cfg0.win 9).blk t).view.read (Elt Ideal) (G9 m c) := by
  rw [Value.flushed9]
  have ht := Host.t_lt t
  have key : ∀ y : S512x768.Idx, out0_9 (F := Ideal) (iblk m c 0 t) (iblk m c 1 t) (iblk m c 2 t) (iblk m c 3 t) (iblk m c 4 t) (iblk m c 5 t) y
      = G9 m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block9 m c t (y 0) (y 1)
  funext y
  refine (key y).trans (congrArg (G9 m c) (funext fun a => Fin.ext ?_))
  have e := (Host.index_facts t).2.2.2.2.2.2.2.2.2.1
  match a with
  | ⟨0, _⟩ => show t.val * 512 + (y 0).val = win0_9.index t 0 * 512 + 1 * (y 0).val; rw [e.1]; omega
  | ⟨1, _⟩ => show (y 1).val = win0_9.index t 1 * 768 + 1 * (y 1).val; rw [e.2]; omega

theorem mem_blk9 (t : Fin cfg0.N) (i : S33792x768.Idx) : i ∈ ((cfg0.win 9).blk t).view.set ↔
    ∀ a, win0_9.index t a * win0_9.size a ≤ (i a).val ∧ (i a).val < win0_9.index t a * win0_9.size a + win0_9.xsize (grid0.coords t) a := by
  show i ∈ ((View.whole main_v37_3).slice (win0_9.rect t)).set ↔ _
  rw [View.set_slice_whole, Rect.mem_set_unit]

theorem cover9 (i : S33792x768.Idx) : ∃ t : Fin cfg0.N, (cfg0.win 9).flush t = true ∧ i ∈ ((cfg0.win 9).blk t).view.set := by
  have h0 : (i 0).val < 33792 := (i 0).isLt
  have h1 : (i 1).val < 768 := (i 1).isLt
  have hN : cfg0.N = 66 := N_0
  have hlt : (i 0).val / 512 < cfg0.N := by omega
  refine ⟨⟨(i 0).val / 512, hlt⟩, flush0_9 _, (mem_blk9 _ i).2 fun a => ?_⟩
  have e := (Host.index_facts ⟨(i 0).val / 512, hlt⟩).2.2.2.2.2.2.2.2.2.1
  match a with
  | ⟨0, _⟩ =>
    show win0_9.index _ 0 * 512 ≤ (i 0).val ∧ (i 0).val < win0_9.index _ 0 * 512 + 512
    rw [e.1]; show (i 0).val / 512 * 512 ≤ (i 0).val ∧ (i 0).val < (i 0).val / 512 * 512 + 512; omega
  | ⟨1, _⟩ =>
    show win0_9.index _ 1 * 768 ≤ (i 1).val ∧ (i 1).val < win0_9.index _ 1 * 768 + 768
    rw [e.2]; omega

theorem final9 : (dats m 0 c).arrAt 9 cfg0.N = G9 m c :=
  (dats m 0 c).arrAt_eq_of_cover 9 (G9 m c) (fun t _ => flushed9_eq m c t) cover9

theorem flushed10_eq (t : Fin cfg0.N) : (dats m 0 c).flushed 10 t = ((cfg0.win 10).blk t).view.read (Elt Ideal) (G10 m c) := by
  rw [Value.flushed10]
  have ht := Host.t_lt t
  have key : ∀ y : S512x768.Idx, out0_10 (F := Ideal) (iblk m c 0 t) (iblk m c 1 t) (iblk m c 2 t) (iblk m c 3 t) (iblk m c 4 t) (iblk m c 5 t) y
      = G10 m c (ix2 ⟨t.val * 512 + (y 0).val, by have := (y 0).isLt; change _ < 512 at this; omega⟩ (y 1)) := by
    intro y
    have hy : y = ix2 (y 0) (y 1) := by funext a; match a with | ⟨0, _⟩ => rfl | ⟨1, _⟩ => rfl
    rw [hy]; exact block10 m c t (y 0) (y 1)
  funext y
  refine (key y).trans (congrArg (G10 m c) (funext fun a => Fin.ext ?_))
  have e := (Host.index_facts t).2.2.2.2.2.2.2.2.2.2
  match a with
  | ⟨0, _⟩ => show t.val * 512 + (y 0).val = win0_10.index t 0 * 512 + 1 * (y 0).val; rw [e.1]; omega
  | ⟨1, _⟩ => show (y 1).val = win0_10.index t 1 * 768 + 1 * (y 1).val; rw [e.2]; omega

theorem mem_blk10 (t : Fin cfg0.N) (i : S33792x768.Idx) : i ∈ ((cfg0.win 10).blk t).view.set ↔
    ∀ a, win0_10.index t a * win0_10.size a ≤ (i a).val ∧ (i a).val < win0_10.index t a * win0_10.size a + win0_10.xsize (grid0.coords t) a := by
  show i ∈ ((View.whole main_v37_4).slice (win0_10.rect t)).set ↔ _
  rw [View.set_slice_whole, Rect.mem_set_unit]

theorem cover10 (i : S33792x768.Idx) : ∃ t : Fin cfg0.N, (cfg0.win 10).flush t = true ∧ i ∈ ((cfg0.win 10).blk t).view.set := by
  have h0 : (i 0).val < 33792 := (i 0).isLt
  have h1 : (i 1).val < 768 := (i 1).isLt
  have hN : cfg0.N = 66 := N_0
  have hlt : (i 0).val / 512 < cfg0.N := by omega
  refine ⟨⟨(i 0).val / 512, hlt⟩, flush0_10 _, (mem_blk10 _ i).2 fun a => ?_⟩
  have e := (Host.index_facts ⟨(i 0).val / 512, hlt⟩).2.2.2.2.2.2.2.2.2.2
  match a with
  | ⟨0, _⟩ =>
    show win0_10.index _ 0 * 512 ≤ (i 0).val ∧ (i 0).val < win0_10.index _ 0 * 512 + 512
    rw [e.1]; show (i 0).val / 512 * 512 ≤ (i 0).val ∧ (i 0).val < (i 0).val / 512 * 512 + 512; omega
  | ⟨1, _⟩ =>
    show win0_10.index _ 1 * 768 ≤ (i 1).val ∧ (i 1).val < win0_10.index _ 1 * 768 + 768
    rw [e.2]; omega

theorem final10 : (dats m 0 c).arrAt 10 cfg0.N = G10 m c :=
  (dats m 0 c).arrAt_eq_of_cover 10 (G10 m c) (fun t _ => flushed10_eq m c t) cover10

/-- The value claim of this input projection: each of its five results. -/
theorem agrees : @Cert.algebraic_AbIn2Ideal_AbIn2ReferenceIdeal Cert.AbIn2Ideal.Gen.facts Cert.AbIn2ReferenceIdeal.Gen.facts := by
  intro m ρ m' ρ' _ hagree
  refine ⟨fun c => G6 m c, fun c => G7 m c, fun c => G8 m c, fun c => G9 m c, fun c => G10 m c, ?_, ?_⟩
  · exact (θ_run Cert.AbIn2Ideal.defs _ _).mono (fun _ h c => by
      obtain ⟨h6, h7, h8, h9, h10, hk⟩ := h c
      exact ⟨h6.trans (final6 m c), h7.trans (final7 m c), h8.trans (final8 m c), h9.trans (final9 m c), h10.trans (final10 m c), hk⟩)
      (Value.run_blocks m ρ)
  · refine (θ_run Cert.AbIn2ReferenceIdeal.defs _ _).mono (fun _ h c => ?_) (Cert.AbIn2ReferenceIdeal.Value.run (F := Ideal) m' ρ')
    obtain ⟨a0, a1, a2, a3, a4, a5, a6, a7⟩ := hagree c
    obtain ⟨h0, h1, h2, h3, h4, hk⟩ := h c
    refine ⟨h0.trans ?_, h1.trans ?_, h2.trans ?_, h3.trans ?_, h4.trans ?_, hk⟩
    · rw [AbIn2ReferenceIdeal.Read.val_main_v134_eq, a0, a1, a2, a3, a4, a5]
      rfl
    · rw [AbIn2ReferenceIdeal.Read.val_main_v142_eq, a0, a1, a2, a3, a4, a5, a6, a7]
      rfl
    · rw [AbIn2ReferenceIdeal.Read.val_main_v152_eq, a0, a1, a2, a3, a4, a5, a6, a7]
      rfl
    · rw [AbIn2ReferenceIdeal.Read.val_main_v156_eq, a0, a1, a2, a3, a4, a5]
      rfl
    · rw [AbIn2ReferenceIdeal.Read.val_main_v160_eq, a0, a1, a2, a3, a4, a5]
      rfl

/-- The reference keeps its arguments and leaves no semaphore raised. -/
theorem reference_frame : @Cert.quiescent_AbIn2ReferenceIdeal Cert.AbIn2ReferenceIdeal.Gen.facts := fun m ρ _ =>
  (θ_run Cert.AbIn2ReferenceIdeal.defs _ _).mono
    (fun r h => ⟨fun c => (h c).2.2.2.2.2, sem_eq_zero_of_no_sems (by decide) r.2⟩) (Cert.AbIn2ReferenceIdeal.Value.run (F := Ideal) m ρ)

end Cert.AbIn2Ideal.Whole

end
-- ==== Proof.Slots.lean ====
/-
  The order the attention kernel keeps a head's 96 channels in: 128 slots, the 32 rotary channels (64 to 95) parted into
  even and odd, the rest between them, and zeros in the last 32 slots. A product over the slots is the product over the
  channels.
-/
module

public import Idealize.ShloMosaic.Lib.Pointwise

@[expose] public section

noncomputable section

namespace Cert.Slots

open Idealize.ShloMosaic

/-- Slot `x` of a head. -/
def slot {α : Type} [Zero α] (f : Fin 96 → α) (x : Fin 128) : α :=
  if h : x.val < 16 then f ⟨64 + 2 * x.val, by omega⟩
  else if h : x.val < 64 then f ⟨x.val - 16, by omega⟩
  else if h : x.val < 80 then f ⟨64 + (1 + 2 * (x.val - 64)), by omega⟩
  else if h : x.val < 96 then f ⟨48 + (x.val - 80), by omega⟩
  else 0

theorem slot_coe (f : Fin 96 → ℝ) (x : Fin 128) : slot (fun d => (f d : EReal)) x = ((slot f x : ℝ) : EReal) := by
  unfold slot
  split_ifs <;> simp

theorem sum_pairs (h : ℕ → ℝ) (n : ℕ) :
    ∑ i ∈ Finset.range (2 * n), h i = ∑ i ∈ Finset.range n, h (2 * i) + ∑ i ∈ Finset.range n, h (1 + 2 * i) := by
  induction n with
  | zero => simp
  | succ n ih =>
    rw [show 2 * (n + 1) = 2 * n + 1 + 1 by ring, Finset.sum_range_succ, Finset.sum_range_succ, ih, Finset.sum_range_succ,
      Finset.sum_range_succ, show 2 * n + 1 = 1 + 2 * n by ring]
    ring

/-- A sum over the 96 channels, in the slots' order. -/
theorem sum_order (h : ℕ → ℝ) :
    ∑ i ∈ Finset.range 96, h i = ∑ i ∈ Finset.range 16, h (64 + 2 * i) + ∑ i ∈ Finset.range 48, h i
      + ∑ i ∈ Finset.range 16, h (64 + (1 + 2 * i)) + ∑ i ∈ Finset.range 16, h (48 + i) := by
  rw [show 96 = 48 + 16 + 2 * 16 by norm_num, Finset.sum_range_add, Finset.sum_range_add, sum_pairs (fun i => h (48 + 16 + i))]
  simp only [Nat.reduceAdd]
  ring

theorem sum_parts (h : ℕ → ℝ) :
    ∑ i ∈ Finset.range 128, h i = ∑ i ∈ Finset.range 16, h i + ∑ i ∈ Finset.range 48, h (16 + i)
      + ∑ i ∈ Finset.range 16, h (64 + i) + ∑ i ∈ Finset.range 16, h (80 + i) + ∑ i ∈ Finset.range 32, h (96 + i) := by
  rw [show 128 = 16 + 48 + 16 + 16 + 32 by norm_num, Finset.sum_range_add, Finset.sum_range_add, Finset.sum_range_add,
    Finset.sum_range_add]

theorem sum_slots (f g : Fin 96 → ℝ) : ∑ x : Fin 128, slot f x * slot g x = ∑ d : Fin 96, f d * g d := by
  have e : ∑ d : Fin 96, f d * g d
      = ∑ i ∈ Finset.range 96, (fun i : ℕ => if h : i < 96 then f ⟨i, h⟩ * g ⟨i, h⟩ else 0) i := by
    rw [Finset.sum_range]
    exact Finset.sum_congr rfl fun d _ => by simp
  have e' : ∑ x : Fin 128, slot f x * slot g x
      = ∑ i ∈ Finset.range 128, (fun i : ℕ => if h : i < 128 then slot f ⟨i, h⟩ * slot g ⟨i, h⟩ else 0) i := by
    rw [Finset.sum_range]
    exact Finset.sum_congr rfl fun d _ => by simp
  rw [e, e', sum_order, sum_parts]
  have z : ∑ i ∈ Finset.range 32, (fun i : ℕ => if h : i < 128 then slot f ⟨i, h⟩ * slot g ⟨i, h⟩ else 0) (96 + i) = 0 := by
    refine Finset.sum_eq_zero fun i hi => ?_
    have hi := Finset.mem_range.1 hi
    dsimp only
    rw [dif_pos (by omega)]
    unfold slot
    rw [dif_neg (by dsimp only; omega), dif_neg (by dsimp only; omega), dif_neg (by dsimp only; omega), dif_neg (by dsimp only; omega), zero_mul]
  rw [z, add_zero]
  refine congrArg₂ (· + ·) (congrArg₂ (· + ·) (congrArg₂ (· + ·) ?_ ?_) ?_) ?_ <;>
    refine Finset.sum_congr rfl fun i hi => ?_ <;> have hi := Finset.mem_range.1 hi <;>
    rw [dif_pos (by omega), dif_pos (by omega)] <;> unfold slot
  · rw [dif_pos (by dsimp only; omega), dif_pos (by dsimp only; omega)]
  · rw [dif_neg (by dsimp only; omega), dif_pos (by dsimp only; omega), dif_neg (by dsimp only; omega), dif_pos (by dsimp only; omega)]
    simp only [Nat.add_sub_cancel_left]
  · rw [dif_neg (by dsimp only; omega), dif_neg (by dsimp only; omega), dif_pos (by dsimp only; omega), dif_neg (by dsimp only; omega),
      dif_neg (by dsimp only; omega), dif_pos (by dsimp only; omega)]
    simp only [Nat.reduceAdd, Nat.add_sub_cancel_left]
  · rw [dif_neg (by dsimp only; omega), dif_neg (by dsimp only; omega), dif_neg (by dsimp only; omega), dif_pos (by dsimp only; omega),
      dif_neg (by dsimp only; omega), dif_neg (by dsimp only; omega), dif_neg (by dsimp only; omega), dif_pos (by dsimp only; omega)]
    simp only [Nat.reduceAdd, Nat.add_sub_cancel_left]

end Cert.Slots

end
-- ==== Proof.AttHost.lean ====
/-
  The attention kernel's operands as its grid points see them, in terms of the arguments the program was launched with:
  the queries' and the keys' heads in slots, the latents' rows over the context's, the queries and the values in
  transposed tiles.
-/
module

public import proofs.«01_k».proof.Proof.Gen.KernelIdeal.Value
public import proofs.«01_k».proof.Proof.Slots
public import Idealize.ShloMosaic.Lib.Pointwise

@[expose] public section

set_option maxRecDepth 16384

noncomputable section

namespace Cert.KernelIdeal.Host

open Cert.KernelIdeal Cert.KernelIdeal.Gen Idealize.ShloMosaic Idealize.ShloMosaic.TcCoe Idealize.SL.Sem
open Cert.Slots

/-- The latents' heads in slots. -/
def slotsL (X : Vec Ideal S4x8192x8x96 .f32) : Vec Ideal S4x8192x8x128 .f32 :=
  concatenate S4x8192x8x128 3
    [⟨S4x8192x8x16, Host.slice S4x8192x8x16 ![0, 0, 0, 0] ![1, 1, 1, 2] (extractStridedSlice S4x8192x8x32 ![0, 0, 0, 64] X slices_S4x8192x8x96_S4x8192x8x32_0_0_0_64) slicesBy_S4x8192x8x32_S4x8192x8x16_0s1_0s1_0s1_0s2⟩,
     ⟨S4x8192x8x48, extractStridedSlice S4x8192x8x48 ![0, 0, 0, 0] (extractStridedSlice S4x8192x8x64 ![0, 0, 0, 0] X slices_S4x8192x8x96_S4x8192x8x64_0_0_0_0) slices_S4x8192x8x64_S4x8192x8x48_0_0_0_0⟩,
     ⟨S4x8192x8x16, Host.slice S4x8192x8x16 ![0, 0, 0, 1] ![1, 1, 1, 2] (extractStridedSlice S4x8192x8x32 ![0, 0, 0, 64] X slices_S4x8192x8x96_S4x8192x8x32_0_0_0_64) slicesBy_S4x8192x8x32_S4x8192x8x16_0s1_0s1_0s1_1s2⟩,
     ⟨S4x8192x8x16, extractStridedSlice S4x8192x8x16 ![0, 0, 0, 48] (extractStridedSlice S4x8192x8x64 ![0, 0, 0, 0] X slices_S4x8192x8x96_S4x8192x8x64_0_0_0_0) slices_S4x8192x8x64_S4x8192x8x16_0_0_0_48⟩,
     ⟨S4x8192x8x32, broadcastInDim S4x8192x8x32 ![] bcast_S_S4x8192x8x32 (constant (F := Ideal) S_ .f32 0x00000000#32)⟩]
    concatenates_S4x8192x8x16_S4x8192x8x48_S4x8192x8x16_S4x8192x8x16_S4x8192x8x32_S4x8192x8x128_d3

/-- The context's heads in slots. -/
def slotsC (X : Vec Ideal S4x256x8x96 .f32) : Vec Ideal S4x256x8x128 .f32 :=
  concatenate S4x256x8x128 3
    [⟨S4x256x8x16, Host.slice S4x256x8x16 ![0, 0, 0, 0] ![1, 1, 1, 2] (extractStridedSlice S4x256x8x32 ![0, 0, 0, 64] X slices_S4x256x8x96_S4x256x8x32_0_0_0_64) slicesBy_S4x256x8x32_S4x256x8x16_0s1_0s1_0s1_0s2⟩,
     ⟨S4x256x8x48, extractStridedSlice S4x256x8x48 ![0, 0, 0, 0] (extractStridedSlice S4x256x8x64 ![0, 0, 0, 0] X slices_S4x256x8x96_S4x256x8x64_0_0_0_0) slices_S4x256x8x64_S4x256x8x48_0_0_0_0⟩,
     ⟨S4x256x8x16, Host.slice S4x256x8x16 ![0, 0, 0, 1] ![1, 1, 1, 2] (extractStridedSlice S4x256x8x32 ![0, 0, 0, 64] X slices_S4x256x8x96_S4x256x8x32_0_0_0_64) slicesBy_S4x256x8x32_S4x256x8x16_0s1_0s1_0s1_1s2⟩,
     ⟨S4x256x8x16, extractStridedSlice S4x256x8x16 ![0, 0, 0, 48] (extractStridedSlice S4x256x8x64 ![0, 0, 0, 0] X slices_S4x256x8x96_S4x256x8x64_0_0_0_0) slices_S4x256x8x64_S4x256x8x16_0_0_0_48⟩,
     ⟨S4x256x8x32, broadcastInDim S4x256x8x32 ![] bcast_S_S4x256x8x32 (constant (F := Ideal) S_ .f32 0x00000000#32)⟩]
    concatenates_S4x256x8x16_S4x256x8x48_S4x256x8x16_S4x256x8x16_S4x256x8x32_S4x256x8x128_d3

/-- The queries' scale, over the logarithm of two. -/
def scale : Vec Ideal S_ .f32 :=
  Host.divf (constant (F := Ideal) S_ .f32 0x3DD105EC#32) (Host.log (constant (F := Ideal) S_ .f32 0x40000000#32))

/-- The latents' queries in slots, scaled. -/
def queriesL (X : Vec Ideal S4x8192x8x96 .f32) : Vec Ideal S4x8192x8x128 .f32 :=
  (mulf (slotsL X : FVec Ideal S4x8192x8x128 .f32) (broadcastInDim S4x8192x8x128 ![] bcast_S_S4x8192x8x128 scale) : FVec Ideal S4x8192x8x128 .f32)

/-- The context's queries in slots, scaled. -/
def queriesC (X : Vec Ideal S4x256x8x96 .f32) : Vec Ideal S4x256x8x128 .f32 :=
  (mulf (slotsC X : FVec Ideal S4x256x8x128 .f32) (broadcastInDim S4x256x8x128 ![] bcast_S_S4x256x8x128 scale) : FVec Ideal S4x256x8x128 .f32)

/-- The latents' rows over the context's. -/
def rows (A : Vec Ideal S4x8192x8x128 .f32) (B : Vec Ideal S4x256x8x128 .f32) : Vec Ideal S33792x1024 .f32 :=
  concatenate S33792x1024 0 [⟨S32768x1024, shapeCast S32768x1024 A shapeCasts_S4x8192x8x128_S32768x1024⟩,
    ⟨S1024x1024, shapeCast S1024x1024 B shapeCasts_S4x256x8x128_S1024x1024⟩] concatenates_S32768x1024_S1024x1024_S33792x1024_d0

/-- Tiles of 512 rows, each transposed. -/
def tiles (X : Vec Ideal S33792x1024 .f32) : Vec Ideal S66x1024x512 .bf16 :=
  truncf .bf16 (transpose S66x1024x512 [0, 2, 1] (shapeCast S66x512x1024 X shapeCasts_S33792x1024_S66x512x1024)
    transposes_S66x512x1024_S66x1024x512_0_2_1 : FVec Ideal S66x1024x512 .f32) bitsLt_bf16_f32

theorem slotsL_at (X : Vec Ideal S4x8192x8x96 .f32) (b : Fin 4) (s : Fin 8192) (h : Fin 8) (x : Fin 128) :
    slotsL X (ix4 b s h x) = slot (fun d => (X (ix4 b s h d) : EReal)) x := by
  pointwise [slotsL, slot]
  by_cases h1 : x.val < 16
  · rw [dif_pos h1, dif_pos h1]
  rw [dif_neg h1, dif_neg h1]
  by_cases h2 : x.val < 64
  · rw [dif_pos (by omega), dif_pos h2]
  rw [dif_neg (by omega), dif_neg h2]
  by_cases h3 : x.val < 80
  · rw [dif_pos (by omega), dif_pos h3]
    exact congrArg X (congrArg (ix4 b s h) (Fin.ext (by show 64 + (1 + 2 * (x.val - 16 - 48)) = 64 + (1 + 2 * (x.val - 64)); omega)))
  rw [dif_neg (by omega), dif_neg h3]
  by_cases h4 : x.val < 96
  · rw [dif_pos (by omega), dif_pos h4]
    exact congrArg X (congrArg (ix4 b s h) (Fin.ext (by show 48 + (x.val - 16 - 48 - 16) = 48 + (x.val - 80); omega)))
  · rw [dif_neg (by omega), dif_neg h4]

theorem slotsC_at (X : Vec Ideal S4x256x8x96 .f32) (b : Fin 4) (s : Fin 256) (h : Fin 8) (x : Fin 128) :
    slotsC X (ix4 b s h x) = slot (fun d => (X (ix4 b s h d) : EReal)) x := by
  pointwise [slotsC, slot]
  by_cases h1 : x.val < 16
  · rw [dif_pos h1, dif_pos h1]
  rw [dif_neg h1, dif_neg h1]
  by_cases h2 : x.val < 64
  · rw [dif_pos (by omega), dif_pos h2]
  rw [dif_neg (by omega), dif_neg h2]
  by_cases h3 : x.val < 80
  · rw [dif_pos (by omega), dif_pos h3]
    exact congrArg X (congrArg (ix4 b s h) (Fin.ext (by show 64 + (1 + 2 * (x.val - 16 - 48)) = 64 + (1 + 2 * (x.val - 64)); omega)))
  rw [dif_neg (by omega), dif_neg h3]
  by_cases h4 : x.val < 96
  · rw [dif_pos (by omega), dif_pos h4]
    exact congrArg X (congrArg (ix4 b s h) (Fin.ext (by show 48 + (x.val - 16 - 48 - 16) = 48 + (x.val - 80); omega)))
  · rw [dif_neg (by omega), dif_neg h4]

theorem queriesL_at (X : Vec Ideal S4x8192x8x96 .f32) (b : Fin 4) (s : Fin 8192) (h : Fin 8) (x : Fin 128) :
    queriesL X (ix4 b s h x) = slot (fun d => (X (ix4 b s h d) : EReal)) x * Ideal.div (Ideal.ofBits .f32 0x3DD105EC#32) (Ideal.log (Ideal.ofBits .f32 0x40000000#32)) := by
  rw [← slotsL_at]
  pointwise [queriesL, scale]

theorem rows_lo (A : Vec Ideal S4x8192x8x128 .f32) (B : Vec Ideal S4x256x8x128 .f32) (r : Fin 33792) (hr : r.val < 32768) (k : Fin 1024) :
    rows A B (ix2 r k) = A (ix4 ⟨r.val / 8192, by omega⟩ ⟨r.val % 8192, by omega⟩ ⟨k.val / 128, by omega⟩ ⟨k.val % 128, by omega⟩) := by
  unfold rows
  rw [concatenate_pair_apply]
  refine (dif_pos hr).trans ?_
  pointwise

theorem rows_hi (A : Vec Ideal S4x8192x8x128 .f32) (B : Vec Ideal S4x256x8x128 .f32) (r : Fin 33792) (hr : ¬ r.val < 32768) (k : Fin 1024) :
    rows A B (ix2 r k) = B (ix4 ⟨(r.val - 32768) / 256, by omega⟩ ⟨(r.val - 32768) % 256, by omega⟩ ⟨k.val / 128, by omega⟩ ⟨k.val % 128, by omega⟩) := by
  unfold rows
  rw [concatenate_pair_apply]
  refine (dif_neg hr).trans ?_
  pointwise

/-- Row `b * 8192 + s` is row `s` of sequence `b`'s latents. -/
theorem rows_latent (A : Vec Ideal S4x8192x8x128 .f32) (B : Vec Ideal S4x256x8x128 .f32) (r : Fin 33792) (k : Fin 1024) (b : Fin 4) (s : Fin 8192)
    (h : Fin 8) (x : Fin 128) (hr : r.val = b.val * 8192 + s.val) (hk : k.val = h.val * 128 + x.val) : rows A B (ix2 r k) = A (ix4 b s h x) := by
  rw [rows_lo A B r (by omega) k]
  have e1 : (⟨r.val / 8192, by omega⟩ : Fin 4) = b := Fin.ext (by show r.val / 8192 = b.val; omega)
  have e2 : (⟨r.val % 8192, by omega⟩ : Fin 8192) = s := Fin.ext (by show r.val % 8192 = s.val; omega)
  have e3 : (⟨k.val / 128, by omega⟩ : Fin 8) = h := Fin.ext (by show k.val / 128 = h.val; omega)
  have e4 : (⟨k.val % 128, by omega⟩ : Fin 128) = x := Fin.ext (by show k.val % 128 = x.val; omega)
  exact congrArg A (congr (congr (congr (congrArg ix4 e1) e2) e3) e4)

/-- Row `32768 + b * 256 + s` is row `s` of sequence `b`'s context. -/
theorem rows_context (A : Vec Ideal S4x8192x8x128 .f32) (B : Vec Ideal S4x256x8x128 .f32) (r : Fin 33792) (k : Fin 1024) (b : Fin 4) (s : Fin 256)
    (h : Fin 8) (x : Fin 128) (hr : r.val = 32768 + b.val * 256 + s.val) (hk : k.val = h.val * 128 + x.val) : rows A B (ix2 r k) = B (ix4 b s h x) := by
  rw [rows_hi A B r (by omega) k]
  have e1 : (⟨(r.val - 32768) / 256, by omega⟩ : Fin 4) = b := Fin.ext (by show (r.val - 32768) / 256 = b.val; omega)
  have e2 : (⟨(r.val - 32768) % 256, by omega⟩ : Fin 256) = s := Fin.ext (by show (r.val - 32768) % 256 = s.val; omega)
  have e3 : (⟨k.val / 128, by omega⟩ : Fin 8) = h := Fin.ext (by show k.val / 128 = h.val; omega)
  have e4 : (⟨k.val % 128, by omega⟩ : Fin 128) = x := Fin.ext (by show k.val % 128 = x.val; omega)
  exact congrArg B (congr (congr (congr (congrArg ix4 e1) e2) e3) e4)

theorem tiles_at (X : Vec Ideal S33792x1024 .f32) (T : Fin 66) (k : Fin 1024) (i : Fin 512) :
    tiles X (ix3 T k i) = X (ix2 ⟨T.val * 512 + i.val, by omega⟩ k) := by
  pointwise [tiles]

/-- The block indices of the six windows at grid point `t`: sequence `t / 32`, head `t / 4 % 8`, quarter `t % 4`. -/
theorem index_facts : ∀ t : Fin grid0.N,
    (win0_0.index t 0 = t.val / 32 * 4 + t.val % 4 ∧ win0_0.index t 1 = t.val / 4 % 8 ∧ win0_0.index t 2 = 0)
    ∧ (win0_1.index t 0 = 128 + t.val / 32 ∧ win0_1.index t 1 = t.val / 4 % 8)
    ∧ (win0_2.index t 0 = 64 + t.val / 32 / 2 ∧ win0_2.index t 1 = t.val / 4 % 8 ∧ win0_2.index t 2 = t.val / 32 % 2)
    ∧ (win0_3.index t 0 = t.val / 32 ∧ win0_3.index t 1 = t.val / 4 % 8)
    ∧ (win0_4.index t 0 = t.val / 32 ∧ win0_4.index t 1 = t.val / 4 % 8 ∧ win0_4.index t 2 = 0)
    ∧ (win0_5.index t 0 = t.val / 32 * 4 + t.val % 4 ∧ win0_5.index t 1 = t.val / 4 % 8) := by decide +kernel

theorem t_lt (t : Fin cfg0.N) : t.val < 128 := by have h := t.isLt; have hN : cfg0.N = 128 := N_0; omega

variable (m : (ℓ : Loc nD τ sig) → Buf (Elt Ideal) ℓ) (c : Dev nD)

theorem V_v27 : V m c main_v27 = tiles (rows (queriesL (m ((c : Thread nD τ).loc main_arg0))) (queriesC (m ((c : Thread nD τ).loc main_arg3)))) := by
  unfold_abbrev_sides
  after_results
  rfl

theorem V_v47 : V m c main_v47 = (truncf .bf16 (rows (slotsL (m ((c : Thread nD τ).loc main_arg1))) (slotsC (m ((c : Thread nD τ).loc main_arg4))) : FVec Ideal S33792x1024 .f32)
    bitsLt_bf16_f32 : FVec Ideal S33792x1024 .bf16) := by
  unfold_abbrev_sides
  after_results
  rfl

theorem V_v53 : V m c main_v53 = tiles (rows (m ((c : Thread nD τ).loc main_arg2)) (m ((c : Thread nD τ).loc main_arg5))) := by
  unfold_abbrev_sides
  after_results
  rfl

/-- What a fetch puts at a place it moves. -/
theorem fill_moved {G : Pipeline.Grid} (w : Pipeline.Window sig G) {α : Type} (i : G.Coords) (d : w.block.Idx → α) (g : (w.xblock i).Idx → α)
    (j : w.block.Idx) (h : w.moved i j = true) : w.fill i d g j = g fun a => ⟨(j a).val, (w.moved_iff i j).mp h a⟩ := dif_pos h

/-- The blocks of the five operands, read off any array: place `a` of axis `i` is the block's start plus `a`. -/
theorem read0 (t : Fin cfg0.N) (f : Vec Ideal S66x1024x512 .bf16) (y : ((cfg0.win 0).xblock (cfg0.grid.coords t)).Idx) (z : S66x1024x512.Idx)
    (h : ∀ a, (z a).val = win0_0.index t a * win0_0.size a + 1 * (y a).val) : ((cfg0.win 0).blk t).view.read (Elt Ideal) f y = f z := by
  refine congrArg f (funext fun i => Fin.ext ?_)
  exact (h i).symm

theorem read1 (t : Fin cfg0.N) (f : Vec Ideal S33792x1024 .bf16) (y : ((cfg0.win 1).xblock (cfg0.grid.coords t)).Idx) (z : S33792x1024.Idx)
    (h : ∀ a, (z a).val = win0_1.index t a * win0_1.size a + 1 * (y a).val) : ((cfg0.win 1).blk t).view.read (Elt Ideal) f y = f z := by
  refine congrArg f (funext fun i => Fin.ext ?_)
  exact (h i).symm

theorem read2 (t : Fin cfg0.N) (f : Vec Ideal S66x1024x512 .bf16) (y : ((cfg0.win 2).xblock (cfg0.grid.coords t)).Idx) (z : S66x1024x512.Idx)
    (h : ∀ a, (z a).val = win0_2.index t a * win0_2.size a + 1 * (y a).val) : ((cfg0.win 2).blk t).view.read (Elt Ideal) f y = f z := by
  refine congrArg f (funext fun i => Fin.ext ?_)
  exact (h i).symm

theorem read3 (t : Fin cfg0.N) (f : Vec Ideal S33792x1024 .bf16) (y : ((cfg0.win 3).xblock (cfg0.grid.coords t)).Idx) (z : S33792x1024.Idx)
    (h : ∀ a, (z a).val = win0_3.index t a * win0_3.size a + 1 * (y a).val) : ((cfg0.win 3).blk t).view.read (Elt Ideal) f y = f z := by
  refine congrArg f (funext fun i => Fin.ext ?_)
  exact (h i).symm

theorem read4 (t : Fin cfg0.N) (f : Vec Ideal S66x1024x512 .bf16) (y : ((cfg0.win 4).xblock (cfg0.grid.coords t)).Idx) (z : S66x1024x512.Idx)
    (h : ∀ a, (z a).val = win0_4.index t a * win0_4.size a + 1 * (y a).val) : ((cfg0.win 4).blk t).view.read (Elt Ideal) f y = f z := by
  refine congrArg f (funext fun i => Fin.ext ?_)
  exact (h i).symm

/-- The sequence, the head and the quarter of a grid point. -/
def seq (t : Fin cfg0.N) : Fin 4 := ⟨t.val / 32, by have := t_lt t; omega⟩
def head (t : Fin cfg0.N) : Fin 8 := ⟨t.val / 4 % 8, by omega⟩

theorem queries_blk (t : Fin cfg0.N) (a : Fin 4) (x : Fin 128) (j : Fin 512) :
    X0_0 m c t (ix3 a x j) = V m c main_v27 (ix3 ⟨t.val / 32 * 16 + t.val % 4 * 4 + a.val, by have := t_lt t; omega⟩ ⟨t.val / 4 % 8 * 128 + x.val, by omega⟩ j) := by
  refine (fill_moved (cfg0.win 0) (cfg0.grid.coords t) dflt0_0 (iblk m c 0 t) _ (moved0_0 t _)).trans ?_
  refine read0 t (V m c main_v27) _ _ fun i => ?_
  have e := (index_facts t).1
  match i with
  | ⟨0, _⟩ => show t.val / 32 * 16 + t.val % 4 * 4 + a.val = win0_0.index t 0 * 4 + 1 * a.val; rw [e.1]; omega
  | ⟨1, _⟩ => show t.val / 4 % 8 * 128 + x.val = win0_0.index t 1 * 128 + 1 * x.val; rw [e.2.1]; omega
  | ⟨2, _⟩ => show j.val = win0_0.index t 2 * 512 + 1 * j.val; rw [e.2.2]; omega

theorem ctx_keys_blk (t : Fin cfg0.N) (κ : Fin 256) (x : Fin 128) :
    iblk m c 1 t (ix2 κ x) = V m c main_v47 (ix2 ⟨32768 + t.val / 32 * 256 + κ.val, by have := t_lt t; omega⟩ ⟨t.val / 4 % 8 * 128 + x.val, by omega⟩) := by
  refine read1 t (V m c main_v47) _ _ fun i => ?_
  have e := (index_facts t).2.1
  match i with
  | ⟨0, _⟩ => show 32768 + t.val / 32 * 256 + κ.val = win0_1.index t 0 * 256 + 1 * κ.val; rw [e.1]; omega
  | ⟨1, _⟩ => show t.val / 4 % 8 * 128 + x.val = win0_1.index t 1 * 128 + 1 * x.val; rw [e.2]; omega

theorem ctx_values_blk (t : Fin cfg0.N) (x : Fin 128) (κ : Fin 256) :
    iblk m c 2 t (ix3 0 x κ) = V m c main_v53 (ix3 ⟨64 + t.val / 32 / 2, by have := t_lt t; omega⟩ ⟨t.val / 4 % 8 * 128 + x.val, by omega⟩ ⟨t.val / 32 % 2 * 256 + κ.val, by omega⟩) := by
  refine read2 t (V m c main_v53) _ _ fun i => ?_
  have e := (index_facts t).2.2.1
  match i with
  | ⟨0, _⟩ => show 64 + t.val / 32 / 2 = win0_2.index t 0 * 1 + 1 * 0; rw [e.1]; omega
  | ⟨1, _⟩ => show t.val / 4 % 8 * 128 + x.val = win0_2.index t 1 * 128 + 1 * x.val; rw [e.2.1]; omega
  | ⟨2, _⟩ => show t.val / 32 % 2 * 256 + κ.val = win0_2.index t 2 * 256 + 1 * κ.val; rw [e.2.2]; omega

theorem keys_blk (t : Fin cfg0.N) (κ : Fin 8192) (x : Fin 128) :
    X0_3 m c t (ix2 κ x) = V m c main_v47 (ix2 ⟨t.val / 32 * 8192 + κ.val, by have := t_lt t; omega⟩ ⟨t.val / 4 % 8 * 128 + x.val, by omega⟩) := by
  refine (fill_moved (cfg0.win 3) (cfg0.grid.coords t) dflt0_3 (iblk m c 3 t) _ (moved0_3 t _)).trans ?_
  refine read3 t (V m c main_v47) _ _ fun i => ?_
  have e := (index_facts t).2.2.2.1
  match i with
  | ⟨0, _⟩ => show t.val / 32 * 8192 + κ.val = win0_3.index t 0 * 8192 + 1 * κ.val; rw [e.1]; omega
  | ⟨1, _⟩ => show t.val / 4 % 8 * 128 + x.val = win0_3.index t 1 * 128 + 1 * x.val; rw [e.2]; omega

theorem values_blk (t : Fin cfg0.N) (a : Fin 16) (x : Fin 128) (j : Fin 512) :
    X0_4 m c t (ix3 a x j) = V m c main_v53 (ix3 ⟨t.val / 32 * 16 + a.val, by have := t_lt t; omega⟩ ⟨t.val / 4 % 8 * 128 + x.val, by omega⟩ j) := by
  refine (fill_moved (cfg0.win 4) (cfg0.grid.coords t) dflt0_4 (iblk m c 4 t) _ (moved0_4 t _)).trans ?_
  refine read4 t (V m c main_v53) _ _ fun i => ?_
  have e := (index_facts t).2.2.2.2.1
  match i with
  | ⟨0, _⟩ => show t.val / 32 * 16 + a.val = win0_4.index t 0 * 16 + 1 * a.val; rw [e.1]; omega
  | ⟨1, _⟩ => show t.val / 4 % 8 * 128 + x.val = win0_4.index t 1 * 128 + 1 * x.val; rw [e.2.1]; omega
  | ⟨2, _⟩ => show j.val = win0_4.index t 2 * 512 + 1 * j.val; rw [e.2.2]; omega

/-- The queries a grid point's block holds. -/
theorem queries_eq (t : Fin cfg0.N) (a : Fin 4) (x : Fin 128) (j : Fin 512) :
    X0_0 m c t (ix3 a x j) = slot (α := EReal) (fun d => m ((c : Thread nD τ).loc main_arg0) (ix4 (seq t) ⟨(t.val % 4 * 4 + a.val) * 512 + j.val, by omega⟩ (head t) d)) x
      * Ideal.div (Ideal.ofBits .f32 0x3DD105EC#32) (Ideal.log (Ideal.ofBits .f32 0x40000000#32)) := by
  rw [queries_blk, V_v27, tiles_at, ← queriesL_at]
  exact rows_latent _ _ _ _ _ _ _ _ (by show (t.val / 32 * 16 + t.val % 4 * 4 + a.val) * 512 + j.val = t.val / 32 * 8192 + ((t.val % 4 * 4 + a.val) * 512 + j.val); omega) rfl

/-- The context's keys. -/
theorem ctx_keys_eq (t : Fin cfg0.N) (κ : Fin 256) (x : Fin 128) :
    iblk m c 1 t (ix2 κ x) = slot (α := EReal) (fun d => m ((c : Thread nD τ).loc main_arg4) (ix4 (seq t) κ (head t) d)) x := by
  rw [ctx_keys_blk, V_v47, ← slotsC_at]
  exact rows_context _ _ _ _ _ _ _ _ rfl rfl

/-- The context's values. -/
theorem ctx_values_eq (t : Fin cfg0.N) (x : Fin 128) (κ : Fin 256) :
    iblk m c 2 t (ix3 0 x κ) = m ((c : Thread nD τ).loc main_arg5) (ix4 (seq t) κ (head t) x) := by
  rw [ctx_values_blk, V_v53, tiles_at]
  exact rows_context _ _ _ _ _ _ _ _ (by show (64 + t.val / 32 / 2) * 512 + (t.val / 32 % 2 * 256 + κ.val) = 32768 + t.val / 32 * 256 + κ.val; omega) rfl

/-- The latents' keys. -/
theorem keys_eq (t : Fin cfg0.N) (κ : Fin 8192) (x : Fin 128) :
    X0_3 m c t (ix2 κ x) = slot (α := EReal) (fun d => m ((c : Thread nD τ).loc main_arg1) (ix4 (seq t) κ (head t) d)) x := by
  rw [keys_blk, V_v47, ← slotsL_at]
  exact rows_latent _ _ _ _ _ _ _ _ rfl rfl

/-- The latents' values. -/
theorem values_eq (t : Fin cfg0.N) (a : Fin 16) (x : Fin 128) (j : Fin 512) :
    X0_4 m c t (ix3 a x j) = m ((c : Thread nD τ).loc main_arg2) (ix4 (seq t) ⟨a.val * 512 + j.val, by omega⟩ (head t) x) := by
  rw [values_blk, V_v53, tiles_at]
  exact rows_latent _ _ _ _ _ _ _ _ (by show (t.val / 32 * 16 + a.val) * 512 + j.val = t.val / 32 * 8192 + (a.val * 512 + j.val); omega) rfl

end Cert.KernelIdeal.Host

end
-- ==== Proof.Online.lean ====
/-
  The mathematics of attention with a running maximum, on extended reals whose values are real numbers.

  A column of the accumulator stands for the sums `N e = ∑ w e k · 2 ^ s k` over the keys seen so far, each held divided
  by `2 ^ μ` for the running maximum `μ`. Any real `μ` will do: the closing quotient of two rows does not see it.
-/
module

public import Idealize.ShloMosaic.Lib.Pointwise

@[expose] public section

noncomputable section

namespace Cert.Online

open Idealize.ShloMosaic

/-- A sum of real numbers, read in the extended reals. -/
theorem coe_sum {ι : Type*} (s : Finset ι) (f : ι → ℝ) : (∑ i ∈ s, (f i : EReal)) = ((∑ i ∈ s, f i : ℝ) : EReal) := by
  classical
  refine Finset.induction_on s (by simp) fun a s ha ih => ?_
  rw [Finset.sum_insert ha, Finset.sum_insert ha, ih, EReal.coe_add]

/-- The greatest of finitely many real numbers, and of at least one, is real. -/
theorem fold_max_real {n : ℕ} [NeZero n] (f : Fin n → ℝ) :
    ∃ μ : ℝ, Finset.univ.fold max (⊥ : EReal) (fun k => (f k : EReal)) = (μ : EReal) := by
  have h : ∀ s : Finset (Fin n), s.Nonempty → ∃ μ : ℝ, s.fold max (⊥ : EReal) (fun k => (f k : EReal)) = (μ : EReal) := by
    intro s hs
    induction hs using Finset.Nonempty.cons_induction with
    | singleton a => exact ⟨f a, by simp⟩
    | cons a s ha hs ih =>
      obtain ⟨μ, e⟩ := ih
      exact ⟨max (f a) μ, by rw [Finset.fold_cons, e, EReal.coe_strictMono.monotone.map_max]⟩
  exact h Finset.univ Finset.univ_nonempty

/-- What an accumulator column `acc` under the running maximum `m` stands for: the sums `N`. -/
def Holds {E : ℕ} (acc : Fin E → EReal) (m : EReal) (N : Fin E → ℝ) : Prop :=
  ∃ μ : ℝ, m = (μ : EReal) ∧ ∀ e, acc e = ((N e * (2 : ℝ) ^ (-μ) : ℝ) : EReal)

theorem exp2_sub (s μ : ℝ) : Ideal.exp2 ((s : EReal) - (μ : EReal)) = (((2 : ℝ) ^ s * (2 : ℝ) ^ (-μ) : ℝ) : EReal) := by
  rw [← EReal.coe_sub, Ideal.exp2_coe]
  show (((2 : ℝ) ^ (s - μ) : ℝ) : EReal) = _
  rw [sub_eq_add_neg, Real.rpow_add two_pos]

/-- One block of keys, weighed under a maximum `μ`. -/
theorem block_sum {n : ℕ} (w : Fin n → ℝ) (σ : Fin n → ℝ) (μ : ℝ) :
    (∑ k, (w k : EReal) * Ideal.exp2 ((σ k : EReal) - (μ : EReal))) = (((∑ k, w k * (2 : ℝ) ^ σ k) * (2 : ℝ) ^ (-μ) : ℝ) : EReal) := by
  rw [Finset.sum_mul, ← coe_sum]
  refine Finset.sum_congr rfl fun k _ => ?_
  rw [exp2_sub, ← EReal.coe_mul, mul_assoc]

/-- The first block of keys. -/
theorem holds_first {E n : ℕ} [NeZero n] (w : Fin E → Fin n → ℝ) (σ : Fin n → ℝ) :
    Holds (fun e => ∑ k, (w e k : EReal) * Ideal.exp2 ((σ k : EReal) - Finset.univ.fold max (⊥ : EReal) (fun k => (σ k : EReal))))
      (Finset.univ.fold max (⊥ : EReal) (fun k => (σ k : EReal))) (fun e => ∑ k, w e k * (2 : ℝ) ^ σ k) := by
  obtain ⟨μ, e⟩ := fold_max_real σ
  rw [e]
  exact ⟨μ, rfl, fun e => block_sum (w e) σ μ⟩

/-- A further block of keys: weighed under the old maximum, then the column carried to the new one. -/
theorem holds_next {E n : ℕ} [NeZero n] {acc : Fin E → EReal} {m : EReal} {N : Fin E → ℝ} (h : Holds acc m N)
    (w : Fin E → Fin n → ℝ) (σ : Fin n → ℝ) :
    Holds (fun e => (acc e + ∑ k, (w e k : EReal) * Ideal.exp2 ((σ k : EReal) - m))
        * Ideal.exp2 (m - max m (Finset.univ.fold max (⊥ : EReal) (fun k => (σ k : EReal)))))
      (max m (Finset.univ.fold max (⊥ : EReal) (fun k => (σ k : EReal)))) (fun e => N e + ∑ k, w e k * (2 : ℝ) ^ σ k) := by
  obtain ⟨μ, rfl, ha⟩ := h
  obtain ⟨ν, e⟩ := fold_max_real σ
  rw [e, ← EReal.coe_strictMono.monotone.map_max]
  refine ⟨max μ ν, rfl, fun e => ?_⟩
  simp only [ha, block_sum]
  rw [exp2_sub]
  rw [← EReal.coe_add, ← EReal.coe_mul, ← add_mul]
  congr 1
  have h1 : (2 : ℝ) ^ (-μ) * (2 : ℝ) ^ μ = 1 := by rw [← Real.rpow_add two_pos]; simp
  calc (N e + ∑ k, w e k * (2 : ℝ) ^ σ k) * 2 ^ (-μ) * (2 ^ μ * 2 ^ (-max μ ν))
      = (N e + ∑ k, w e k * (2 : ℝ) ^ σ k) * 2 ^ (-max μ ν) * ((2 : ℝ) ^ (-μ) * (2 : ℝ) ^ μ) := by ring
    _ = _ := by rw [h1, mul_one]

/-- The quotient of two rows of a column: the maximum is gone. -/
theorem holds_div {E : ℕ} {acc : Fin E → EReal} {m : EReal} {N : Fin E → ℝ} (h : Holds acc m N) (a b : Fin E) (hb : N b ≠ 0) :
    Ideal.div (acc a) (acc b) = ((N a / N b : ℝ) : EReal) := by
  obtain ⟨μ, rfl, ha⟩ := h
  have hp : (2 : ℝ) ^ (-μ) ≠ 0 := (Real.rpow_pos_of_pos two_pos _).ne'
  rw [ha, ha, Ideal.div_coe (mul_ne_zero hb hp), ← EReal.coe_mul]
  congr 1
  field_simp

/-- The reference's row: the softmax of the scores `x` times the values, as the same quotient. -/
theorem softmax_row {n : ℕ} [NeZero n] (v : Fin n → ℝ) (x : Fin n → ℝ) :
    (∑ k, Ideal.div (Ideal.exp ((x k : EReal) - Finset.univ.fold max (⊥ : EReal) (fun k => (x k : EReal))))
        (∑ k, Ideal.exp ((x k : EReal) - Finset.univ.fold max (⊥ : EReal) (fun k => (x k : EReal)))) * (v k : EReal))
      = (((∑ k, v k * Real.exp (x k)) / (∑ k, Real.exp (x k)) : ℝ) : EReal) := by
  obtain ⟨μ, e⟩ := fold_max_real x
  rw [e]
  have hx : ∀ k, Ideal.exp ((x k : EReal) - (μ : EReal)) = ((Real.exp (x k) * Real.exp (-μ) : ℝ) : EReal) := fun k => by
    rw [← EReal.coe_sub, Ideal.exp_coe, sub_eq_add_neg, Real.exp_add]
  simp only [hx]
  rw [coe_sum]
  have hz : (∑ k, Real.exp (x k)) ≠ 0 := (Finset.sum_pos (fun k _ => Real.exp_pos _) Finset.univ_nonempty).ne'
  have hs : (∑ k, Real.exp (x k) * Real.exp (-μ)) ≠ 0 := by rw [← Finset.sum_mul]; exact mul_ne_zero hz (Real.exp_pos _).ne'
  simp only [Ideal.div_coe hs, ← EReal.coe_mul]
  rw [coe_sum]
  congr 1
  rw [← Finset.sum_mul, Finset.sum_div]
  refine Finset.sum_congr rfl fun k _ => ?_
  have := (Real.exp_pos (-μ)).ne'
  field_simp

end Cert.Online

end
-- ==== Proof.AttRef.lean ====
/-
  The reference of the attention, index by index: at finite arguments, row `r` of the output over the latents is the
  softmax-weighted mean of the values, a quotient of two real sums over the latent and the context positions.
-/
module

public import proofs.«01_k».proof.Proof.Gen.ReferenceIdeal.Read
public import proofs.«01_k».proof.Proof.Online
public import Idealize.ShloMosaic.Lib.Pointwise

@[expose] public section

set_option maxRecDepth 16384

noncomputable section

namespace Cert.ReferenceIdeal.Rows

open Cert.ReferenceIdeal Cert.ReferenceIdeal.Gen Cert.ReferenceIdeal.Read Idealize.ShloMosaic

variable (x0 x1 : (⟨S4x8192x8x96, .f32⟩ : BufTy).Contents (Elt Ideal)) (x2 : (⟨S4x8192x8x128, .f32⟩ : BufTy).Contents (Elt Ideal))
  (x4 : (⟨S4x256x8x96, .f32⟩ : BufTy).Contents (Elt Ideal)) (x5 : (⟨S4x256x8x128, .f32⟩ : BufTy).Contents (Elt Ideal))

/-- The scale of the scores, as the real number its float literal stands for. -/
def scale : ℝ := 3424635 / 33554432

theorem scale_bits : Ideal.ofBits .f32 0x3DD105EC#32 = ((scale : ℝ) : EReal) := by
  unfold scale
  simp [Ideal.ofBits, Ideal.ieee, -EReal.coe_mul]
  norm_num

/-- The largest score of a row, from minus infinity on. -/
theorem max_at (y : FVec Ideal S4x8x8192x8448 .f32) (b : Fin 4) (h : Fin 8) (s : Fin 8192) :
    Host.reduce (α := Ideal .f32) FloatOps.maximumf y (val_main_cst_0 (F := Ideal)) reducesTo_S4x8x8192x8448_S4x8x8192_d3 h_S_ (ix3 b h s)
      = (Finset.univ : Finset (Fin 8448)).fold max (⊥ : EReal) (fun κ => y (ix4 b h s κ)) := by
  have e0 : Ideal.ofBits .f32 0xFF800000#32 = (⊥ : EReal) := by simp [Ideal.ofBits, Ideal.ieee]
  pointwise [val_main_cst_0]
  exact congrArg (fun z => (Finset.univ : Finset (Fin 8448)).fold max z (fun κ => y (ix4 b h s κ))) e0

theorem v7_at (b : Fin 4) (h : Fin 8) (s : Fin 8192) : val_main_v7 (F := Ideal) x0 x1 x4 (ix3 b h s)
    = (Finset.univ : Finset (Fin 8448)).fold max (⊥ : EReal) (fun κ => val_main_v4 (F := Ideal) x0 x1 x4 (ix4 b h s κ)) := by
  rw [val_main_v7_apply, val_main_v6_apply]
  have e : val_main_cst_1 (F := Ideal) (idx_main_v6 (ix3 b h s)) = (⊥ : EReal) := by
    show Ideal.ofBits .f32 0xFF800000#32 = ⊥
    simp [Ideal.ofBits, Ideal.ieee]
  rw [e]
  refine (bot_sup_eq (α := EReal) _).trans ?_
  exact max_at _ b h s

theorem v4_at (b : Fin 4) (h : Fin 8) (s : Fin 8192) (κ : Fin 8448) : val_main_v4 (F := Ideal) x0 x1 x4 (ix4 b h s κ)
    = (∑ d : Fin 96, x0 (ix4 b s h d) * val_main_v0 (F := Ideal) x1 x4 (ix4 b κ h d)) * Ideal.ofBits .f32 0x3DD105EC#32 := by
  pointwise [val_main_v4, val_main_v3, val_main_v2, val_main_cst]

theorem v0_at (b : Fin 4) (h : Fin 8) (κ : Fin 8448) (d : Fin 96) : val_main_v0 (F := Ideal) x1 x4 (ix4 b κ h d)
    = if hκ : κ.val < 8192 then x1 (ix4 b ⟨κ.val, hκ⟩ h d) else x4 (ix4 b ⟨κ.val - 8192, by omega⟩ h d) := by
  pointwise [val_main_v0]

theorem v1_at (b : Fin 4) (h : Fin 8) (κ : Fin 8448) (e : Fin 128) : val_main_v1 (F := Ideal) x2 x5 (ix4 b κ h e)
    = if hκ : κ.val < 8192 then x2 (ix4 b ⟨κ.val, hκ⟩ h e) else x5 (ix4 b ⟨κ.val - 8192, by omega⟩ h e) := by
  pointwise [val_main_v1]

theorem v15_at (b : Fin 4) (h : Fin 8) (s : Fin 8192) (κ : Fin 8448) : val_main_v15 (F := Ideal) x0 x1 x4 (ix4 b h s κ)
    = Ideal.div (Ideal.exp (val_main_v4 (F := Ideal) x0 x1 x4 (ix4 b h s κ) - val_main_v7 (F := Ideal) x0 x1 x4 (ix3 b h s)))
        (∑ x : Fin 8448, Ideal.exp (val_main_v4 (F := Ideal) x0 x1 x4 (ix4 b h s x) - val_main_v7 (F := Ideal) x0 x1 x4 (ix3 b h s))) := by
  pointwise [val_main_v15, val_main_v14, val_main_v13, val_main_v12, val_main_v11, val_main_v10, val_main_v9, val_main_v8, val_main_cst_2]

theorem v17_at (b : Fin 4) (h : Fin 8) (s : Fin 8192) (e : Fin 128) : val_main_v17 (F := Ideal) x0 x1 x2 x4 x5 (ix4 b s h e)
    = ∑ x : Fin 8448, val_main_v1 (F := Ideal) x2 x5 (ix4 b x h e) * val_main_v15 (F := Ideal) x0 x1 x4 (ix4 b h s x) := by
  pointwise [val_main_v17, val_main_v16]

theorem v21_at (r : Fin 33792) (hr : r.val < 32768) (k : Fin 1024) : val_main_v21 (F := Ideal) x0 x1 x2 x4 x5 (ix2 r k)
    = val_main_v17 (F := Ideal) x0 x1 x2 x4 x5 (ix4 ⟨r.val / 8192, by omega⟩ ⟨r.val % 8192, by omega⟩ ⟨k.val / 128, by omega⟩ ⟨k.val % 128, by omega⟩) := by
  rw [val_main_v21_apply]
  unfold val_main_v20
  show concatenate S33792x1024 0 [⟨S32768x1024, val_main_v18 (F := Ideal) x0 x1 x2 x4 x5⟩, ⟨S1024x1024, val_main_v19 (F := Ideal)⟩]
    concatenates_S32768x1024_S1024x1024_S33792x1024_d0 (ix2 r k) = _
  rw [concatenate_pair_apply]
  refine (dif_pos hr).trans ?_
  pointwise [val_main_v18]

variable (Q K : S4x8192x8x96.Idx → ℝ) (V : S4x8192x8x128.Idx → ℝ) (C : S4x256x8x96.Idx → ℝ) (U : S4x256x8x128.Idx → ℝ)

/-- The score of query `s` against latent key `κ`. -/
def score (b : Fin 4) (h : Fin 8) (s : Fin 8192) (κ : Fin 8192) : ℝ := (∑ d : Fin 96, Q (ix4 b s h d) * K (ix4 b κ h d)) * scale

/-- The score of query `s` against context key `κ`. -/
def ctxScore (b : Fin 4) (h : Fin 8) (s : Fin 8192) (κ : Fin 256) : ℝ := (∑ d : Fin 96, Q (ix4 b s h d) * C (ix4 b κ h d)) * scale

/-- The attention's output at one place, over the reals. -/
def mean (b : Fin 4) (h : Fin 8) (s : Fin 8192) (e : Fin 128) : ℝ :=
  (∑ κ, V (ix4 b κ h e) * Real.exp (score Q K b h s κ) + ∑ κ, U (ix4 b κ h e) * Real.exp (ctxScore Q C b h s κ))
    / (∑ κ, Real.exp (score Q K b h s κ) + ∑ κ, Real.exp (ctxScore Q C b h s κ))

/-- A real function of the 8192 latent positions and then the 256 context positions. -/
def both (f : Fin 8192 → ℝ) (g : Fin 256 → ℝ) (κ : Fin 8448) : ℝ :=
  if hκ : κ.val < 8192 then f ⟨κ.val, hκ⟩ else g ⟨κ.val - 8192, by omega⟩

theorem sum_both (f f' : Fin 8192 → ℝ) (g g' : Fin 256 → ℝ) (op : ℝ → ℝ → ℝ) :
    ∑ κ, op (both f g κ) (both f' g' κ) = ∑ κ, op (f κ) (f' κ) + ∑ κ, op (g κ) (g' κ) := by
  refine (Fin.sum_univ_add (a := 8192) (b := 256) (fun κ => op (both f g κ) (both f' g' κ))).trans (congrArg₂ (· + ·) ?_ ?_)
  · refine Finset.sum_congr rfl fun κ _ => ?_
    unfold both
    rw [dif_pos (show (Fin.castAdd 256 κ).val < 8192 from κ.isLt), dif_pos (show (Fin.castAdd 256 κ).val < 8192 from κ.isLt)]
    rfl
  · refine Finset.sum_congr rfl fun κ _ => ?_
    have hn : ¬ (Fin.natAdd 8192 κ).val < 8192 := by show ¬ 8192 + κ.val < 8192; omega
    have he : (⟨(Fin.natAdd 8192 κ).val - 8192, by show 8192 + κ.val - 8192 < 256; omega⟩ : Fin 256) = κ :=
      Fin.ext (by show 8192 + κ.val - 8192 = κ.val; omega)
    unfold both
    rw [dif_neg hn, dif_neg hn, he]

variable (h0 : ∀ i, x0 i = ((Q i : ℝ) : EReal)) (h1 : ∀ i, x1 i = ((K i : ℝ) : EReal)) (h2 : ∀ i, x2 i = ((V i : ℝ) : EReal))
  (h4 : ∀ i, x4 i = ((C i : ℝ) : EReal)) (h5 : ∀ i, x5 i = ((U i : ℝ) : EReal))

include h0 h1 h4 in
theorem v4_real (b : Fin 4) (h : Fin 8) (s : Fin 8192) (κ : Fin 8448) : val_main_v4 (F := Ideal) x0 x1 x4 (ix4 b h s κ)
    = ((both (score Q K b h s) (ctxScore Q C b h s) κ : ℝ) : EReal) := by
  rw [v4_at, scale_bits]
  by_cases hκ : κ.val < 8192
  · have e : ∀ d, x0 (ix4 b s h d) * val_main_v0 (F := Ideal) x1 x4 (ix4 b κ h d)
        = ((Q (ix4 b s h d) * K (ix4 b ⟨κ.val, hκ⟩ h d) : ℝ) : EReal) := fun d => by
      rw [v0_at, dif_pos hκ, h0, h1, EReal.coe_mul]
    rw [Finset.sum_congr rfl fun d _ => e d, Online.coe_sum, ← EReal.coe_mul, both, dif_pos hκ]
    rfl
  · have e : ∀ d, x0 (ix4 b s h d) * val_main_v0 (F := Ideal) x1 x4 (ix4 b κ h d)
        = ((Q (ix4 b s h d) * C (ix4 b ⟨κ.val - 8192, by omega⟩ h d) : ℝ) : EReal) := fun d => by
      rw [v0_at, dif_neg hκ, h0, h4, EReal.coe_mul]
    rw [Finset.sum_congr rfl fun d _ => e d, Online.coe_sum, ← EReal.coe_mul, both, dif_neg hκ]
    rfl

include h2 h5 in
theorem v1_real (b : Fin 4) (h : Fin 8) (κ : Fin 8448) (e : Fin 128) : val_main_v1 (F := Ideal) x2 x5 (ix4 b κ h e)
    = ((both (fun κ => V (ix4 b κ h e)) (fun κ => U (ix4 b κ h e)) κ : ℝ) : EReal) := by
  rw [v1_at]
  by_cases hκ : κ.val < 8192
  · rw [dif_pos hκ, h2, both, dif_pos hκ]
  · rw [dif_neg hκ, h5, both, dif_neg hκ]

include h0 h1 h2 h4 h5 in
/-- The reference's output over the latents, at finite arguments. -/
theorem v17_real (b : Fin 4) (h : Fin 8) (s : Fin 8192) (e : Fin 128) :
    val_main_v17 (F := Ideal) x0 x1 x2 x4 x5 (ix4 b s h e) = ((mean Q K V C U b h s e : ℝ) : EReal) := by
  have hx := v4_real x0 x1 x4 Q K C h0 h1 h4 b h s
  have hv := fun κ => v1_real x2 x5 V U h2 h5 b h κ e
  have key := Online.softmax_row (both (fun κ => V (ix4 b κ h e)) (fun κ => U (ix4 b κ h e))) (both (score Q K b h s) (ctxScore Q C b h s))
  rw [v17_at]
  have h7 := v7_at x0 x1 x4 b h s
  rw [show (fun κ => val_main_v4 (F := Ideal) x0 x1 x4 (ix4 b h s κ)) = _ from funext hx] at h7
  refine (Finset.sum_congr rfl fun κ _ => ?_).trans (key.trans ?_)
  · rw [v15_at, h7, hv κ]
    simp only [hx]
    exact mul_comm _ _
  · rw [mean]
    refine congrArg (fun z : ℝ => (z : EReal)) ?_
    rw [sum_both (op := fun v x => v * Real.exp x)]
    rw [sum_both (f := score Q K b h s) (f' := score Q K b h s) (g := ctxScore Q C b h s) (g' := ctxScore Q C b h s) (op := fun _ x => Real.exp x)]

end Cert.ReferenceIdeal.Rows

end
-- ==== Proof.Tile.lean ====
module

public import proofs.«01_k».proof.Proof.Gen.KernelIdeal.Value
public import Idealize.ShloMosaic.Lib.Pipeline.ReadBack
public import Idealize.ShloMosaic.Lib.Pipeline.ValueKit

@[expose] public section

set_option maxRecDepth 16384

noncomputable section

namespace Cert.KernelIdeal.Tile

open Cert.KernelIdeal Cert.KernelIdeal.Gen Idealize.ShloMosaic Idealize.ShloMosaic.TcCoe Idealize.SL.Sem

variable {F : FTy → Type} [FloatOps F]

/-- The `n`th 1024 of the latent keys. -/
def keys (x3 : Vec F S8192x128 .bf16) (n : ℕ) : Vec F S1024x128 .bf16 :=
  View.ld x3 (Rect.unit (s := S8192x128) ![n % 8 * 1024, 0] ![1024, 128] (by
    intro a
    match a with
    | ⟨0, _⟩ => show n % 8 * 1024 + 1024 ≤ 8192; omega
    | ⟨1, _⟩ => show 0 + 128 ≤ 128; omega))

/-- The `n`th 512 of the latent values, transposed. -/
def values (x4 : Vec F S16x128x512 .bf16) (n : ℕ) : Vec F S1x128x512 .bf16 :=
  View.ld x4 (Rect.unit (s := S16x128x512) ![n % 16, 0, 0] ![1, 128, 512] (by
    intro a
    match a with
    | ⟨0, _⟩ => show n % 16 + 1 ≤ 16; omega
    | ⟨1, _⟩ => show 0 + 128 ≤ 128; omega
    | ⟨2, _⟩ => show 0 + 512 ≤ 512; omega))

/-- The `n`th 512 of the queries, transposed. -/
def queries (x0 : Vec F S4x128x512 .bf16) (n : ℕ) : Vec F S1x128x512 .bf16 :=
  View.ld x0 (Rect.unit (s := S4x128x512) ![n % 4, 0, 0] ![1, 128, 512] (by
    intro a
    match a with
    | ⟨0, _⟩ => show n % 4 + 1 ≤ 4; omega
    | ⟨1, _⟩ => show 0 + 128 ≤ 128; omega
    | ⟨2, _⟩ => show 0 + 512 ≤ 512; omega))

/-- The running maximum after the context's keys and `n` blocks of latent keys. -/
def maxAt (q : Vec F S1x128x512 .bf16) (x1 : Vec F S256x128 .bf16) (x3 : Vec F S8192x128 .bf16) : ℕ → FVec F S1x512 .f32
  | 0 => k0_pay5 q x1
  | n + 1 => k0_pay14 (k0_pay3 q) (maxAt q x1 x3 n) (keys x3 n)

/-- The accumulator after the context's keys and `n` blocks of latent keys. -/
def accAt (q : Vec F S1x128x512 .bf16) (x1 : Vec F S256x128 .bf16) (x2 : Vec F S1x128x256 .bf16) (x3 : Vec F S8192x128 .bf16)
    (x4 : Vec F S16x128x512 .bf16) : ℕ → FVec F S1x144x512 .f32
  | 0 => k0_pay7 q x1 x2
  | n + 1 => k0_pay16 (maxAt q x1 x3 n) (k0_pay13 (k0_pay3 q) (maxAt q x1 x3 n) (keys x3 n)) (maxAt q x1 x3 (n + 1))
      (k0_pay15 (values x4 (2 * n)) (values x4 (2 * n + 1))) (accAt q x1 x2 x3 x4 n)

/-- One tile of the result. -/
def tile (q : Vec F S1x128x512 .bf16) (x1 : Vec F S256x128 .bf16) (x2 : Vec F S1x128x256 .bf16) (x3 : Vec F S8192x128 .bf16)
    (x4 : Vec F S16x128x512 .bf16) : FVec F S512x128 .bf16 :=
  k0_pay2 (accAt q x1 x2 x3 x4 8)

/-- The body's output: four tiles, one under the other. -/
theorem out_eq (c : Dev nD) (i : grid0.Coords) (arg3 : Memref sig .tc .vmem S4x128x512 .bf16) (harg3 : arg3.IsWhole) (arg4 : Memref sig .tc .vmem S256x128 .bf16) (harg4 : arg4.IsWhole) (arg5 : Memref sig .tc .vmem S1x128x256 .bf16) (harg5 : arg5.IsWhole) (arg6 : Memref sig .tc .vmem S8192x128 .bf16) (harg6 : arg6.IsWhole) (arg7 : Memref sig .tc .vmem S16x128x512 .bf16) (harg7 : arg7.IsWhole) (arg8 : Memref sig .tc .vmem S2048x128 .bf16) (harg8 : arg8.IsWhole) (arg9 : Memref sig .tc .vmem S4x144x512 .f32) (harg9 : arg9.IsWhole) (arg10 : Memref sig .tc .vmem S4x1x512 .f32) (harg10 : arg10.IsWhole)
    (x0 : Vec F S4x128x512 .bf16) (x1 : Vec F S256x128 .bf16) (x2 : Vec F S1x128x256 .bf16) (x3 : Vec F S8192x128 .bf16) (x4 : Vec F S16x128x512 .bf16) :
    out0_A_5 c i arg3 harg3 arg4 harg4 arg5 harg5 arg6 harg6 arg7 harg7 arg8 harg8 arg9 harg9 arg10 harg10 x0 x1 x2 x3 x4 = View.canon
      [⟨Rect.unit (s := S2048x128) ![1536, 0] ![512, 128] (by decide), tile (queries x0 3) x1 x2 x3 x4⟩,
       ⟨Rect.unit (s := S2048x128) ![1024, 0] ![512, 128] (by decide), tile (queries x0 2) x1 x2 x3 x4⟩,
       ⟨Rect.unit (s := S2048x128) ![512, 0] ![512, 128] (by decide), tile (queries x0 1) x1 x2 x3 x4⟩,
       ⟨Rect.unit (s := S2048x128) ![0, 0] ![512, 128] (by decide), tile (queries x0 0) x1 x2 x3 x4⟩] := by
  frame_open
  simp (disch := decide) only [↓ View.readCov_skip, ↓ View.readCov_cons_toLoadRect, ↓ View.readCov_fill]
  frame_out
  rfl

end Cert.KernelIdeal.Tile

end
-- ==== Proof.TileRow.lean ====
/-
  One tile of the attention's result, index by index, where the scores and the values are real numbers: column `j` of
  the queries against every key, the context's first and then the latents' in eight blocks. The sixteen rows of ones
  under the values carry the sum of the weights, which the closing division uses.
-/
module

public import proofs.«01_k».proof.Proof.Tile
public import proofs.«01_k».proof.Proof.Online
public import Idealize.ShloMosaic.Lib.Pointwise

@[expose] public section

set_option maxRecDepth 16384

noncomputable section

namespace Cert.KernelIdeal.Tile

open Cert.KernelIdeal Cert.KernelIdeal.Gen Idealize.ShloMosaic Idealize.ShloMosaic.TcCoe Idealize.SL.Sem

/-- The pattern of minus infinity. -/
theorem ofBits_neg_inf : Ideal.ofBits .f32 0xFF800000#32 = (⊥ : EReal) := by
  simp [Ideal.ofBits, Ideal.ieee]

theorem pay4_at (q : Vec Ideal S1x128x512 .bf16) (k : Vec Ideal S256x128 .bf16) (κ : Fin 256) (j : Fin 512) :
    k0_pay4 (F := Ideal) q k (ix2 κ j) = ∑ x : Fin 128, k (ix2 κ x) * q (ix3 0 x j) := by
  pointwise [k0_pay4, k0_pay3]

theorem pay5_at (q : Vec Ideal S1x128x512 .bf16) (k : Vec Ideal S256x128 .bf16) (j : Fin 512) :
    k0_pay5 (F := Ideal) q k (ix2 0 j)
      = Finset.univ.fold max (⊥ : EReal) (fun κ : Fin 256 => ∑ x : Fin 128, k (ix2 κ x) * q (ix3 0 x j)) := by
  pointwise [k0_pay5, k0_pay4, k0_pay3]
  rw [ofBits_neg_inf]

theorem pay14_at (q : Vec Ideal S1x128x512 .bf16) (m : FVec Ideal S1x512 .f32) (k : Vec Ideal S1024x128 .bf16) (j : Fin 512) :
    k0_pay14 (F := Ideal) (k0_pay3 (F := Ideal) q) m k (ix2 0 j)
      = max (m (ix2 0 j)) (Finset.univ.fold max (⊥ : EReal) (fun κ : Fin 1024 => ∑ x : Fin 128, k (ix2 κ x) * q (ix3 0 x j))) := by
  pointwise [k0_pay14, k0_pay12, k0_pay3]
  rw [ofBits_neg_inf]

theorem pay7_at (q : Vec Ideal S1x128x512 .bf16) (k : Vec Ideal S256x128 .bf16) (v : Vec Ideal S1x128x256 .bf16) (e : Fin 144) (j : Fin 512) :
    k0_pay7 (F := Ideal) q k v (ix3 0 e j)
      = ∑ κ : Fin 256, (if h : e.val < 128 then v (ix3 0 ⟨e.val, h⟩ κ) else 1) *
          Ideal.exp2 (∑ x : Fin 128, k (ix2 κ x) * q (ix3 0 x j) - k0_pay5 (F := Ideal) q k (ix2 0 j)) := by
  pointwise [k0_pay7, k0_pay4, k0_pay3]
  rfl

theorem pay15_at (a b : Vec Ideal S1x128x512 .bf16) (e : Fin 144) (κ : Fin 1024) :
    k0_pay15 (F := Ideal) a b (ix2 e κ)
      = if h : e.val < 128 then
          (if h' : κ.val < 512 then a (ix3 0 ⟨e.val, h⟩ ⟨κ.val, h'⟩) else b (ix3 0 ⟨e.val, h⟩ ⟨κ.val - 512, by omega⟩))
        else 1 := by
  pointwise [k0_pay15]

theorem pay16_at (q : Vec Ideal S1x128x512 .bf16) (k : Vec Ideal S1024x128 .bf16) (m m' : FVec Ideal S1x512 .f32)
    (w : FVec Ideal S144x1024 .bf16) (acc : FVec Ideal S1x144x512 .f32) (e : Fin 144) (j : Fin 512) :
    k0_pay16 (F := Ideal) m (k0_pay13 (F := Ideal) (k0_pay3 (F := Ideal) q) m k) m' w acc (ix3 0 e j)
      = (acc (ix3 0 e j) + ∑ κ : Fin 1024, w (ix2 e κ) * Ideal.exp2 (∑ x : Fin 128, k (ix2 κ x) * q (ix3 0 x j) - m (ix2 0 j)))
        * Ideal.exp2 (m (ix2 0 j) - m' (ix2 0 j)) := by
  pointwise [k0_pay16, k0_pay13, k0_pay12, k0_pay3]
  rfl

theorem pay2_at (acc : Vec Ideal S1x144x512 .f32) (j : Fin 512) (e : Fin 128) :
    k0_pay2 (F := Ideal) acc (ix2 j e) = Ideal.div (acc (ix3 0 ⟨e.val, by omega⟩ j)) (acc (ix3 0 ⟨128, by omega⟩ j)) := by
  pointwise [k0_pay2]

theorem keys_at (x3 : Vec Ideal S8192x128 .bf16) (n : ℕ) (κ : Fin 1024) (x : Fin 128) :
    keys x3 n (ix2 κ x) = x3 (ix2 ⟨n % 8 * 1024 + κ.val, by omega⟩ x) := by
  pointwise [keys]

theorem values_at (x4 : Vec Ideal S16x128x512 .bf16) (n : ℕ) (e : Fin 128) (κ : Fin 512) :
    values x4 n (ix3 0 e κ) = x4 (ix3 ⟨n % 16, by omega⟩ e κ) := by
  pointwise [values]

theorem queries_at (x0 : Vec Ideal S4x128x512 .bf16) (n : ℕ) (x : Fin 128) (j : Fin 512) :
    queries x0 n (ix3 0 x j) = x0 (ix3 ⟨n % 4, by omega⟩ x j) := by
  pointwise [queries]

section Column

variable (q : Vec Ideal S1x128x512 .bf16) (x1 : Vec Ideal S256x128 .bf16) (x2 : Vec Ideal S1x128x256 .bf16)
  (x3 : Vec Ideal S8192x128 .bf16) (x4 : Vec Ideal S16x128x512 .bf16) (j : Fin 512)
  (σ₀ σ : ℕ → ℝ) (ω₀ ω : Fin 128 → ℕ → ℝ)

/-- A row of the values with the rows of ones under it. -/
def withOnes (ω : Fin 128 → ℕ → ℝ) (e : Fin 144) (κ : ℕ) : ℝ := if h : e.val < 128 then ω ⟨e.val, h⟩ κ else 1

/-- What row `e` of the accumulator stands for after `n` blocks. -/
def sums (n : ℕ) (e : Fin 144) : ℝ :=
  (∑ κ : Fin 256, withOnes ω₀ e κ.val * (2 : ℝ) ^ σ₀ κ.val)
    + ∑ b ∈ Finset.range n, ∑ κ : Fin 1024, withOnes ω e (b * 1024 + κ.val) * (2 : ℝ) ^ σ (b * 1024 + κ.val)

variable (hσ₀ : ∀ κ : Fin 256, ∑ x : Fin 128, x1 (ix2 κ x) * q (ix3 0 x j) = (σ₀ κ.val : EReal))
  (hσ : ∀ κ : Fin 8192, ∑ x : Fin 128, x3 (ix2 κ x) * q (ix3 0 x j) = (σ κ.val : EReal))
  (hω₀ : ∀ (e : Fin 128) (κ : Fin 256), x2 (ix3 0 e κ) = (ω₀ e κ.val : EReal))
  (hω : ∀ (e : Fin 128) (b : Fin 16) (κ : Fin 512), x4 (ix3 b e κ) = (ω e (b.val * 512 + κ.val) : EReal))

include hω in
theorem block_values (n : ℕ) (hn : n < 8) (e : Fin 144) (κ : Fin 1024) :
    k0_pay15 (F := Ideal) (values x4 (2 * n)) (values x4 (2 * n + 1)) (ix2 e κ) = (withOnes ω e (n * 1024 + κ.val) : EReal) := by
  rw [pay15_at]
  unfold withOnes
  by_cases h : e.val < 128
  · rw [dif_pos h, dif_pos h]
    by_cases h' : κ.val < 512
    · rw [dif_pos h', values_at, hω]
      refine congrArg (fun i => (ω _ i : EReal)) ?_
      show 2 * n % 16 * 512 + κ.val = n * 1024 + κ.val
      omega
    · rw [dif_neg h', values_at, hω]
      refine congrArg (fun i => (ω _ i : EReal)) ?_
      show (2 * n + 1) % 16 * 512 + (κ.val - 512) = n * 1024 + κ.val
      omega
  · rw [dif_neg h, dif_neg h, EReal.coe_one]

include hσ in
theorem block_scores (n : ℕ) (hn : n < 8) (κ : Fin 1024) :
    ∑ x : Fin 128, keys x3 n (ix2 κ x) * q (ix3 0 x j) = (σ (n * 1024 + κ.val) : EReal) := by
  simp only [keys_at]
  rw [hσ]
  refine congrArg (fun i => (σ i : EReal)) ?_
  show n % 8 * 1024 + κ.val = n * 1024 + κ.val
  omega

include hσ₀ hσ hω₀ hω in
/-- The accumulator and the maximum, after `n` blocks of latent keys. -/
theorem holds_at (n : ℕ) (hn : n ≤ 8) :
    Online.Holds (fun e : Fin 144 => accAt q x1 x2 x3 x4 n (ix3 0 e j)) (maxAt q x1 x3 n (ix2 0 j)) (sums σ₀ σ ω₀ ω n) := by
  induction n with
  | zero =>
    have h := Online.holds_first (fun (e : Fin 144) (κ : Fin 256) => withOnes ω₀ e κ.val) (fun κ => σ₀ κ.val)
    have hm : maxAt q x1 x3 0 (ix2 0 j) = Finset.univ.fold max (⊥ : EReal) (fun κ : Fin 256 => (σ₀ κ.val : EReal)) := by
      show k0_pay5 (F := Ideal) q x1 (ix2 0 j) = _
      rw [pay5_at]
      simp only [hσ₀]
    have ha : (fun e : Fin 144 => accAt q x1 x2 x3 x4 0 (ix3 0 e j))
        = fun e => ∑ κ : Fin 256, ((withOnes ω₀ e κ.val : ℝ) : EReal) * Ideal.exp2 ((σ₀ κ.val : EReal)
            - Finset.univ.fold max (⊥ : EReal) (fun κ : Fin 256 => (σ₀ κ.val : EReal))) := by
      funext e
      show k0_pay7 (F := Ideal) q x1 x2 (ix3 0 e j) = _
      rw [pay7_at, show k0_pay5 (F := Ideal) q x1 (ix2 0 j) = _ from hm]
      refine Finset.sum_congr rfl fun κ _ => ?_
      rw [hσ₀]
      refine congrArg (· * _) ?_
      unfold withOnes
      by_cases h : e.val < 128
      · rw [dif_pos h, dif_pos h, hω₀]
      · rw [dif_neg h, dif_neg h, EReal.coe_one]
    have hs : sums σ₀ σ ω₀ ω 0 = fun e => ∑ κ : Fin 256, withOnes ω₀ e κ.val * (2 : ℝ) ^ σ₀ κ.val := by
      funext e
      simp [sums]
    rw [hm, ha, hs]
    exact h
  | succ n ih =>
    have h := Online.holds_next (ih (by omega)) (fun (e : Fin 144) (κ : Fin 1024) => withOnes ω e (n * 1024 + κ.val))
      (fun κ => σ (n * 1024 + κ.val))
    have hm : maxAt q x1 x3 (n + 1) (ix2 0 j) = max (maxAt q x1 x3 n (ix2 0 j))
        (Finset.univ.fold max (⊥ : EReal) (fun κ : Fin 1024 => (σ (n * 1024 + κ.val) : EReal))) := by
      show k0_pay14 (F := Ideal) (k0_pay3 (F := Ideal) q) (maxAt q x1 x3 n) (keys x3 n) (ix2 0 j) = _
      rw [pay14_at]
      simp only [block_scores q x3 j σ hσ n (by omega)]
    have ha : (fun e : Fin 144 => accAt q x1 x2 x3 x4 (n + 1) (ix3 0 e j))
        = fun e => (accAt q x1 x2 x3 x4 n (ix3 0 e j) + ∑ κ : Fin 1024, ((withOnes ω e (n * 1024 + κ.val) : ℝ) : EReal)
              * Ideal.exp2 ((σ (n * 1024 + κ.val) : EReal) - maxAt q x1 x3 n (ix2 0 j)))
            * Ideal.exp2 (maxAt q x1 x3 n (ix2 0 j) - max (maxAt q x1 x3 n (ix2 0 j))
                (Finset.univ.fold max (⊥ : EReal) (fun κ : Fin 1024 => (σ (n * 1024 + κ.val) : EReal)))) := by
      funext e
      show k0_pay16 (F := Ideal) (maxAt q x1 x3 n) (k0_pay13 (F := Ideal) (k0_pay3 (F := Ideal) q) (maxAt q x1 x3 n) (keys x3 n))
        (maxAt q x1 x3 (n + 1)) (k0_pay15 (F := Ideal) (values x4 (2 * n)) (values x4 (2 * n + 1))) (accAt q x1 x2 x3 x4 n) (ix3 0 e j) = _
      rw [pay16_at, hm]
      simp only [block_scores q x3 j σ hσ n (by omega), block_values x4 ω hω n (by omega)]
    have hs : sums σ₀ σ ω₀ ω (n + 1)
        = fun e => sums σ₀ σ ω₀ ω n e + ∑ κ : Fin 1024, withOnes ω e (n * 1024 + κ.val) * (2 : ℝ) ^ σ (n * 1024 + κ.val) := by
      funext e
      simp only [sums, Finset.sum_range_succ, add_assoc]
    rw [hm, ha, hs]
    exact h

/-- The blocks of a sum, put together. -/
theorem sum_blocks (f : ℕ → ℝ) (n : ℕ) :
    ∑ b ∈ Finset.range n, ∑ κ : Fin 1024, f (b * 1024 + κ.val) = ∑ i ∈ Finset.range (n * 1024), f i := by
  induction n with
  | zero => simp
  | succ n ih =>
    rw [Finset.sum_range_succ, ih, Nat.succ_mul, Finset.sum_range_add, Finset.sum_range (n := 1024)]

/-- The sums after every block: over the context's keys and over all the latents'. -/
theorem sums_all (e : Fin 144) :
    sums σ₀ σ ω₀ ω 8 e = (∑ κ : Fin 256, withOnes ω₀ e κ.val * (2 : ℝ) ^ σ₀ κ.val)
      + ∑ κ : Fin 8192, withOnes ω e κ.val * (2 : ℝ) ^ σ κ.val := by
  unfold sums
  rw [sum_blocks (fun i => withOnes ω e i * (2 : ℝ) ^ σ i) 8, Finset.sum_range (n := 8 * 1024)]

include hσ₀ hσ hω₀ hω in
/-- One entry of a tile: the weighted sum of the values over the sum of the weights. -/
theorem tile_at (e : Fin 128) :
    tile q x1 x2 x3 x4 (ix2 j e)
      = ((((∑ κ : Fin 256, ω₀ e κ.val * (2 : ℝ) ^ σ₀ κ.val) + ∑ κ : Fin 8192, ω e κ.val * (2 : ℝ) ^ σ κ.val)
          / ((∑ κ : Fin 256, (2 : ℝ) ^ σ₀ κ.val) + ∑ κ : Fin 8192, (2 : ℝ) ^ σ κ.val) : ℝ) : EReal) := by
  have h := holds_at q x1 x2 x3 x4 j σ₀ σ ω₀ ω hσ₀ hσ hω₀ hω 8 le_rfl
  have hd : sums σ₀ σ ω₀ ω 8 ⟨128, by omega⟩ = (∑ κ : Fin 256, (2 : ℝ) ^ σ₀ κ.val) + ∑ κ : Fin 8192, (2 : ℝ) ^ σ κ.val := by
    rw [sums_all]
    simp [withOnes]
  have hn : sums σ₀ σ ω₀ ω 8 ⟨e.val, by omega⟩
      = (∑ κ : Fin 256, ω₀ e κ.val * (2 : ℝ) ^ σ₀ κ.val) + ∑ κ : Fin 8192, ω e κ.val * (2 : ℝ) ^ σ κ.val := by
    rw [sums_all]
    simp [withOnes]
  have hp : 0 < sums σ₀ σ ω₀ ω 8 ⟨128, by omega⟩ := by
    rw [hd]
    exact add_pos (Finset.sum_pos (fun κ _ => Real.rpow_pos_of_pos two_pos _) Finset.univ_nonempty)
      (Finset.sum_pos (fun κ _ => Real.rpow_pos_of_pos two_pos _) Finset.univ_nonempty)
  have hq := Online.holds_div h ⟨e.val, by omega⟩ ⟨128, by omega⟩ hp.ne'
  rw [hn, hd] at hq
  exact (pay2_at (accAt q x1 x2 x3 x4 8) j e).trans hq

end Column

end Cert.KernelIdeal.Tile

end
-- ==== Proof.AttClaim.lean ====
/-
  The value claim of the attention: where the arguments are finite, the kernel's rows of the latents are the reference's.
-/
module

public import proofs.«01_k».proof.Proof.AttHost
public import proofs.«01_k».proof.Proof.AttRef
public import proofs.«01_k».proof.Proof.TileRow
public import proofs.«01_k».proof.Proof.Gen.ReferenceIdeal.Run
public import proofs.«01_k».proof.Proof.Gen.Pre_finite
public import proofs.«01_k».proof.Proof.Gen.On_latent_rows
public import proofs.«01_k».proof.Defs
public import Idealize.ShloMosaic.Lib.ReduceAll

@[expose] public section

set_option maxRecDepth 16384

noncomputable section

namespace Cert.On_latent_rows

open Idealize.ShloMosaic

/-- The mask selects the rows of the latents. -/
theorem fn_apply_iff (a0 a1 : FVec Ideal S4x8192x8x96 .f32) (a2 : FVec Ideal S4x8192x8x128 .f32) (a3 a4 : FVec Ideal S4x256x8x96 .f32)
    (a5 : FVec Ideal S4x256x8x128 .f32) (i : S33792x1024.Idx) : fn (F := Ideal) a0 a1 a2 a3 a4 a5 i = 1#1 ↔ (i 0 : Nat) < 32768 := by
  have hi : (i 0 : Nat) < 33792 := (i 0).isLt
  show IntOp.cmpi .slt (BitVec.ofNat 32 (i 0 : Nat)) 32768#32 = 1#1 ↔ _
  generalize (i 0 : Nat) = n at hi
  have e : (BitVec.ofNat 32 n).slt 32768#32 = decide (n < 32768) := by
    rw [BitVec.slt_eq_decide, BitVec.toInt_eq_toNat_of_lt (by simp; omega), BitVec.toInt_eq_toNat_of_lt (by decide)]
    simp only [BitVec.toNat_ofNat]
    have : n % 2 ^ 32 = n := Nat.mod_eq_of_lt (by omega)
    rw [this]
    norm_num
  show BitVec.ofBool ((BitVec.ofNat 32 n).slt 32768#32) = 1#1 ↔ _
  rw [e]
  by_cases h : n < 32768 <;> simp [h]

end Cert.On_latent_rows

namespace Cert.Pre_finite

open Idealize.ShloMosaic Facts

/-- A number below infinity in size is a real number. -/
theorem real_of_lt (x : EReal) (h : max x (-x) < ⊤) : ∃ r : ℝ, x = (r : EReal) := by
  induction x using EReal.rec with
  | bot => simp at h
  | coe r => exact ⟨r, rfl⟩
  | top => simp at h

theorem and_one : ∀ x y : BitVec 1, x &&& y = 1#1 → x = 1#1 ∧ y = 1#1 := by decide

theorem inf_bits : Ideal.ofBits .f32 0x7F800000#32 = (⊤ : EReal) := by simp [Ideal.ofBits, Ideal.ieee]

/-- An array whose finiteness test is 1 has real entries. -/
theorem real_of_test {S : Shape} {axes : List (Fin S.rank)} (x : FVec Ideal S .f32) (hb : S_.BroadcastsInDim S ![]) (hr : S.ReducesTo axes S_) (hu : 0 < S_.numel)
    (j : S_.Idx) (h : Host.reduce IntOp.andi (cmpf .olt (Host.absf x) (broadcastInDim S ![] hb (constant (F := Ideal) S_ .f32 0x7F800000#32))) (constantI S_ 1 1#1) hr hu j = 1#1)
    (i : S.Idx) : ∃ r : ℝ, x i = (r : EReal) := by
  have : Subsingleton S_.Idx := ⟨fun a b => funext fun k => k.elim0⟩
  have h' := Host.reduce_andi_all _ _ hr hu j h i
  refine real_of_lt _ ?_
  have h'' : Ideal.cmp .olt (max (x i) (-(x i))) (Ideal.ofBits .f32 0x7F800000#32) = 1#1 := h'
  rw [inf_bits] at h''
  by_contra hn
  simp [Ideal.cmp, hn] at h''

theorem decode (a0 a1 : FVec Ideal S4x8192x8x96 .f32) (a2 : FVec Ideal S4x8192x8x128 .f32) (a3 a4 : FVec Ideal S4x256x8x96 .f32)
    (a5 : FVec Ideal S4x256x8x128 .f32) (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a4 i = (r : EReal)) ∧ (∀ i, ∃ r : ℝ, a5 i = (r : EReal)) := by
  have h := congrFun h (fun k => k.elim0)
  unfold fn fn_part1 at h
  dsimp only at h
  obtain ⟨h, h5⟩ := and_one _ _ h
  obtain ⟨h, h4⟩ := and_one _ _ h
  obtain ⟨h, h2⟩ := and_one _ _ h
  obtain ⟨h0, h1⟩ := and_one _ _ h
  exact ⟨real_of_test a0 _ _ _ _ h0, real_of_test a1 _ _ _ _ h1, real_of_test a2 _ _ _ _ h2, real_of_test a4 _ _ _ _ h4, real_of_test a5 _ _ _ _ h5⟩

end Cert.Pre_finite

namespace Cert.KernelIdeal.Whole

open Cert.KernelIdeal Cert.KernelIdeal.Gen Idealize.ShloMosaic Idealize.ShloMosaic.TcCoe Idealize.SL.Sem
open Cert.Slots Cert.KernelIdeal.Tile Cert.ReferenceIdeal.Rows

/-- Four tiles under one another, read at a place. -/
theorem canon_at (P : ℕ → FVec Ideal S512x128 .bf16) (p : Fin 2048) (e : Fin 128) :
    View.canon (Val := Elt Ideal) (s := S2048x128) (e := .bf16)
      [⟨Rect.unit (s := S2048x128) ![1536, 0] ![512, 128] (by decide), P 3⟩,
       ⟨Rect.unit (s := S2048x128) ![1024, 0] ![512, 128] (by decide), P 2⟩,
       ⟨Rect.unit (s := S2048x128) ![512, 0] ![512, 128] (by decide), P 1⟩,
       ⟨Rect.unit (s := S2048x128) ![0, 0] ![512, 128] (by decide), P 0⟩] (ix2 p e)
      = P (p.val / 512) (ix2 ⟨p.val % 512, by omega⟩ e) := by
  have piece : ∀ (n : ℕ) (hn : n < 4) (hi : ∀ a, (![n * 512, 0] : Fin 2 → ℕ) a + (![512, 128] : Fin 2 → ℕ) a ≤ S2048x128.size a)
      (x : (Rect.unit (s := S2048x128) ![n * 512, 0] ![512, 128] hi).shape.Idx),
      P n x = (fun y : S2048x128.Idx => P ((y 0).val / 512) (ix2 ⟨(y 0).val % 512, Nat.mod_lt _ (by decide)⟩ (y 1)))
        ((Rect.unit (s := S2048x128) ![n * 512, 0] ![512, 128] hi).emb x) := by
    intro n hn hi x
    have hx : (x 0).val < 512 := (x 0).isLt
    have e0 : (((Rect.unit (s := S2048x128) ![n * 512, 0] ![512, 128] hi).emb x) 0).val = n * 512 + 1 * (x 0).val := rfl
    have e1 : (((Rect.unit (s := S2048x128) ![n * 512, 0] ![512, 128] hi).emb x) 1).val = 0 + 1 * (x 1).val := rfl
    show P n x = P (_ / 512) (ix2 ⟨_ % 512, _⟩ _)
    have d : (((Rect.unit (s := S2048x128) ![n * 512, 0] ![512, 128] hi).emb x) 0).val / 512 = n := by rw [e0]; omega
    rw [d]
    refine congrArg (P n) (funext fun a => Fin.ext ?_)
    match a with
    | ⟨0, _⟩ => show (x 0).val = _ % 512; rw [e0]; omega
    | ⟨1, _⟩ => exact (e1.trans ((Nat.zero_add _).trans (Nat.one_mul _))).symm
  refine View.canon_apply_of_pieces (Val := Elt Ideal) (S := S2048x128) (e := .bf16) (fun y : S2048x128.Idx => P ((y 0).val / 512) (ix2 ⟨(y 0).val % 512, Nat.mod_lt _ (by decide)⟩ (y 1))) _ ?_ (ix2 p e) ?_
  · intro q hq
    simp only [List.mem_cons, List.not_mem_nil, or_false] at hq
    rcases hq with rfl | rfl | rfl | rfl
    · exact piece 3 (by decide) (by decide)
    · exact piece 2 (by decide) (by decide)
    · exact piece 1 (by decide) (by decide)
    · exact piece 0 (by decide) (by decide)
  · have hp := p.isLt
    have he := e.isLt
    have hm : ∀ (o : ℕ) (hi : ∀ a, (![o, 0] : Fin 2 → ℕ) a + (![512, 128] : Fin 2 → ℕ) a ≤ S2048x128.size a), p.val / 512 * 512 = o →
        (ix2 p e : S2048x128.Idx) ∈ (Rect.unit (s := S2048x128) ![o, 0] ![512, 128] hi).set := by
      intro o hi hn
      rw [Rect.mem_set_unit]
      intro a
      match a with
      | ⟨0, _⟩ => show o ≤ p.val ∧ p.val < o + 512; omega
      | ⟨1, _⟩ => show 0 ≤ e.val ∧ e.val < 0 + 128; omega
    have h4 : p.val / 512 = 3 ∨ p.val / 512 = 2 ∨ p.val / 512 = 1 ∨ p.val / 512 = 0 := by omega
    rcases h4 with h | h | h | h
    · exact ⟨_, List.mem_cons_self, hm 1536 (by decide) (by rw [h])⟩
    · exact ⟨_, List.mem_cons_of_mem _ List.mem_cons_self, hm 1024 (by decide) (by rw [h])⟩
    · exact ⟨_, List.mem_cons_of_mem _ (List.mem_cons_of_mem _ List.mem_cons_self), hm 512 (by decide) (by rw [h])⟩
    · exact ⟨_, List.mem_cons_of_mem _ (List.mem_cons_of_mem _ (List.mem_cons_of_mem _ List.mem_cons_self)), hm 0 (by decide) (by rw [h])⟩

/-- The scale the kernel's queries carry, over the reals. -/
theorem scale_eq : Ideal.div (Ideal.ofBits .f32 0x3DD105EC#32) (Ideal.log (Ideal.ofBits .f32 0x40000000#32)) = ((scale / Real.log 2 : ℝ) : EReal) := by
  have e2 : Ideal.ofBits .f32 0x40000000#32 = ((2 : ℝ) : EReal) := by simp [Ideal.ofBits, Ideal.ieee, -EReal.coe_mul]; norm_num
  rw [scale_bits, e2, Ideal.log_coe, if_neg (by norm_num), Ideal.div_coe (Real.log_pos one_lt_two).ne', ← EReal.coe_mul]
  congr 1; ring

/-- A score in base two, over the slots. -/
theorem dot_real (f g : Fin 96 → ℝ) :
    ∑ x : Fin 128, slot (α := EReal) (fun d => ((f d : ℝ) : EReal)) x * (slot (α := EReal) (fun d => ((g d : ℝ) : EReal)) x * ((scale / Real.log 2 : ℝ) : EReal))
      = (((∑ d : Fin 96, g d * f d) * scale / Real.log 2 : ℝ) : EReal) := by
  have e : ∀ x : Fin 128, slot (α := EReal) (fun d => ((f d : ℝ) : EReal)) x * (slot (α := EReal) (fun d => ((g d : ℝ) : EReal)) x * ((scale / Real.log 2 : ℝ) : EReal))
      = ((slot g x * slot f x * (scale / Real.log 2) : ℝ) : EReal) := fun x => by
    rw [slot_coe, slot_coe, ← EReal.coe_mul, ← EReal.coe_mul]
    congr 1; ring
  rw [Finset.sum_congr rfl fun x _ => e x, Online.coe_sum, ← Finset.sum_mul, sum_slots, mul_div_assoc]

/-- Powers of two of a score in base two are its exponentials. -/
theorem two_pow (x : ℝ) : (2 : ℝ) ^ (x / Real.log 2) = Real.exp x := by
  rw [Real.rpow_def_of_pos two_pos, mul_div_cancel₀ _ (Real.log_pos one_lt_two).ne']

/-- A function of the first `n` numbers, zero beyond. -/
def upTo {n : ℕ} (f : Fin n → ℝ) (i : ℕ) : ℝ := if h : i < n then f ⟨i, h⟩ else 0

theorem upTo_val {n : ℕ} (f : Fin n → ℝ) (i : Fin n) : upTo f i.val = f i := dif_pos i.isLt

variable (m : (ℓ : Loc nD τ sig) → Buf (Elt Ideal) ℓ) (c : Dev nD)
variable (Q K : S4x8192x8x96.Idx → ℝ) (V : S4x8192x8x128.Idx → ℝ) (C : S4x256x8x96.Idx → ℝ) (U : S4x256x8x128.Idx → ℝ)
variable (h0 : ∀ i, m ((c : Thread nD τ).loc main_arg0) i = ((Q i : ℝ) : EReal)) (h1 : ∀ i, m ((c : Thread nD τ).loc main_arg1) i = ((K i : ℝ) : EReal))
  (h2 : ∀ i, m ((c : Thread nD τ).loc main_arg2) i = ((V i : ℝ) : EReal)) (h4 : ∀ i, m ((c : Thread nD τ).loc main_arg4) i = ((C i : ℝ) : EReal))
  (h5 : ∀ i, m ((c : Thread nD τ).loc main_arg5) i = ((U i : ℝ) : EReal))

include h0 h1 h2 h4 h5 in
/-- One entry of a tile of a grid point. -/
theorem tile_real (t : Fin cfg0.N) (a : Fin 4) (j : Fin 512) (e : Fin 128) :
    tile (queries (X0_0 m c t) a.val) (iblk m c 1 t) (iblk m c 2 t) (X0_3 m c t) (X0_4 m c t) (ix2 j e)
      = ((mean Q K V C U (Host.seq t) (Host.head t) ⟨(t.val % 4 * 4 + a.val) * 512 + j.val, by omega⟩ e : ℝ) : EReal) := by
  have hq : ∀ x : Fin 128, queries (X0_0 m c t) a.val (ix3 0 x j)
      = slot (α := EReal) (fun d => ((Q (ix4 (Host.seq t) ⟨(t.val % 4 * 4 + a.val) * 512 + j.val, by omega⟩ (Host.head t) d) : ℝ) : EReal)) x
        * ((scale / Real.log 2 : ℝ) : EReal) := fun x => by
    have ea : (⟨a.val % 4, by omega⟩ : Fin 4) = a := Fin.ext (by show a.val % 4 = a.val; omega)
    rw [queries_at, ea, Host.queries_eq, scale_eq]
    simp only [h0]
  rw [tile_at (queries (X0_0 m c t) a.val) (iblk m c 1 t) (iblk m c 2 t) (X0_3 m c t) (X0_4 m c t) j
    (upTo fun κ => ctxScore Q C (Host.seq t) (Host.head t) ⟨(t.val % 4 * 4 + a.val) * 512 + j.val, by omega⟩ κ / Real.log 2)
    (upTo fun κ => score Q K (Host.seq t) (Host.head t) ⟨(t.val % 4 * 4 + a.val) * 512 + j.val, by omega⟩ κ / Real.log 2)
    (fun e => upTo fun κ => U (ix4 (Host.seq t) κ (Host.head t) e))
    (fun e => upTo fun κ => V (ix4 (Host.seq t) κ (Host.head t) e))]
  · simp only [upTo_val, two_pow]
    rw [mean, add_comm (∑ κ, V _ * _), add_comm (∑ κ, Real.exp (score _ _ _ _ _ κ))]
  · intro κ
    rw [upTo_val, ctxScore, ← dot_real]
    refine Finset.sum_congr rfl fun x _ => ?_
    rw [hq, Host.ctx_keys_eq]
    simp only [h4]
  · intro κ
    rw [upTo_val, score, ← dot_real]
    refine Finset.sum_congr rfl fun x _ => ?_
    rw [hq, Host.keys_eq]
    simp only [h1]
  · intro e κ
    rw [upTo_val, Host.ctx_values_eq, h5]
  · intro e b κ
    rw [Host.values_eq, h2]
    exact congrArg (fun z : ℝ => (z : EReal)) (upTo_val (fun κ => V (ix4 (Host.seq t) κ (Host.head t) e)) ⟨b.val * 512 + κ.val, by omega⟩).symm

theorem xsize5 : ∀ t : Fin grid0.N, win0_5.xsize (grid0.coords t) 0 = 2048 ∧ win0_5.xsize (grid0.coords t) 1 = 128 := by decide +kernel

theorem read5 (t : Fin cfg0.N) (f : Vec Ideal S33792x1024 .bf16) (y : ((cfg0.win 5).xblock (cfg0.grid.coords t)).Idx) (z : S33792x1024.Idx)
    (h : ∀ a, (z a).val = win0_5.index t a * win0_5.size a + 1 * (y a).val) : ((cfg0.win 5).blk t).view.read (Elt Ideal) f y = f z := by
  refine congrArg f (funext fun i => Fin.ext ?_)
  exact (h i).symm

include h0 h1 h2 h4 h5 in
/-- One entry of the kernel's result, in a row of the latents. -/
theorem final_real (r : Fin 33792) (hr : r.val < 32768) (k : Fin 1024) :
    (dats m 0 c).arrAt 5 cfg0.N (ix2 r k)
      = ((mean Q K V C U ⟨r.val / 8192, by omega⟩ ⟨k.val / 128, by omega⟩ ⟨r.val % 8192, by omega⟩ ⟨k.val % 128, by omega⟩ : ℝ) : EReal) := by
  have hN : cfg0.N = 128 := N_0
  obtain ⟨t, ht⟩ : ∃ t : Fin cfg0.N, t.val = r.val / 8192 * 32 + k.val / 128 * 4 + r.val % 8192 / 2048 := ⟨⟨_, by omega⟩, rfl⟩
  have hp : r.val % 2048 < 2048 := Nat.mod_lt _ (by decide)
  have he : k.val % 128 < 128 := Nat.mod_lt _ (by decide)
  have hx := xsize5 t
  let y : ((cfg0.win 5).xblock (cfg0.grid.coords t)).Idx := fun a => match a with
    | ⟨0, _⟩ => ⟨r.val % 2048, by show _ < win0_5.xsize (grid0.coords t) 0; rw [hx.1]; exact hp⟩
    | ⟨1, _⟩ => ⟨k.val % 128, by show _ < win0_5.xsize (grid0.coords t) 1; rw [hx.2]; exact he⟩
  have ei := (Host.index_facts t).2.2.2.2.2
  have step : ((cfg0.win 5).blk t).view.read (Elt Ideal) ((dats m 0 c).arrAt 5 cfg0.N) y = (dats m 0 c).arrAt 5 cfg0.N (ix2 r k) := by
    refine read5 t _ y (ix2 r k) fun a => ?_
    match a with
    | ⟨0, _⟩ => show r.val = win0_5.index t 0 * 2048 + 1 * (r.val % 2048); rw [ei.1]; omega
    | ⟨1, _⟩ => show k.val = win0_5.index t 1 * 128 + 1 * (k.val % 128); rw [ei.2]; omega
  rw [← step, Value.blocks5 m c t (flush0_5 t), Value.flushed5_A, out_eq]
  have hy : (cfg0.win 5).xinj (grid0.coords t) y = (ix2 ⟨r.val % 2048, hp⟩ ⟨k.val % 128, he⟩ : S2048x128.Idx) := by
    funext a
    match a with
    | ⟨0, _⟩ => rfl
    | ⟨1, _⟩ => rfl
  show View.canon _ ((cfg0.win 5).xinj (grid0.coords t) y) = _
  rw [hy]
  refine (canon_at (fun n => tile (queries (X0_0 m c t) n) (iblk m c 1 t) (iblk m c 2 t) (X0_3 m c t) (X0_4 m c t)) ⟨r.val % 2048, hp⟩ ⟨k.val % 128, he⟩).trans ?_
  refine (tile_real m c Q K V C U h0 h1 h2 h4 h5 t ⟨r.val % 2048 / 512, by omega⟩ ⟨r.val % 2048 % 512, by omega⟩ ⟨k.val % 128, he⟩).trans ?_
  have es : Host.seq t = ⟨r.val / 8192, by omega⟩ := Fin.ext (by show t.val / 32 = r.val / 8192; omega)
  have eh : Host.head t = ⟨k.val / 128, by omega⟩ := Fin.ext (by show t.val / 4 % 8 = k.val / 128; omega)
  have er : (⟨(t.val % 4 * 4 + r.val % 2048 / 512) * 512 + r.val % 2048 % 512, by omega⟩ : Fin 8192) = ⟨r.val % 8192, by omega⟩ :=
    Fin.ext (by show (t.val % 4 * 4 + r.val % 2048 / 512) * 512 + r.val % 2048 % 512 = r.val % 8192; omega)
  rw [es, eh]
  exact congrArg (fun s => ((mean Q K V C U ⟨r.val / 8192, by omega⟩ ⟨k.val / 128, by omega⟩ s ⟨k.val % 128, he⟩ : ℝ) : EReal)) er

/-- The value claim of the attention. -/
theorem agrees : @Cert.algebraic_KernelIdeal_ReferenceIdeal_on_latent_rows_pre_finite Cert.KernelIdeal.Gen.facts Cert.ReferenceIdeal.Gen.facts
    Cert.Pre_finite.Gen.facts Cert.On_latent_rows.Gen.facts := by
  intro m ρ m' ρ' hpre hagree
  refine ⟨fun c => (dats m 0 c).arrAt 5 cfg0.N, ?_, ?_⟩
  · exact (θ_run Cert.KernelIdeal.defs _ _).mono (fun _ h c => ⟨fun i _ => congrFun (h c).1 i, (h c).2⟩) (Value.run_blocks m ρ)
  · refine (θ_run Cert.ReferenceIdeal.defs _ _).mono (fun _ h c => ⟨fun i hi => (congrFun (h c).1 i).trans ?_, (h c).2⟩)
      (Cert.ReferenceIdeal.Value.run (F := Ideal) m' ρ')
    obtain ⟨a0, a1, a2, -, a4, a5⟩ := hagree c
    have hrow := (Cert.On_latent_rows.fn_apply_iff _ _ _ _ _ _ i).1 hi
    obtain ⟨f0, f1, f2, f4, f5⟩ := Cert.Pre_finite.decode _ _ _ _ _ _ (hpre c)
    choose Q h0 using f0
    choose K h1 using f1
    choose V h2 using f2
    choose C h4 using f4
    choose U h5 using f5
    have hi' : i = ix2 (i 0) (i 1) := by funext a; match a with | ⟨0, _⟩ => rfl | ⟨1, _⟩ => rfl
    rw [ReferenceIdeal.Read.val_main_v21_eq, a0, a1, a2, a4, a5, hi']
    exact (v21_at _ _ _ _ _ (i 0) hrow (i 1)).trans ((v17_real _ _ _ _ _ Q K V C U h0 h1 h2 h4 h5 _ _ _ _).trans
      (final_real m c Q K V C U h0 h1 h2 h4 h5 (i 0) hrow (i 1)).symm)

end Cert.KernelIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.Ffn00
public import proofs.«01_k».proof.Proof.Gen.Ffn00.Skeleton
public import proofs.«01_k».proof.Proof.Gen.Ffn00.Launch
public import proofs.«01_k».proof.Proof.Gen.Ffn00.Points
public import proofs.«01_k».proof.Proof.Gen.Ffn00.Frame
public import proofs.«01_k».proof.Proof.Gen.Ffn00Ideal
public import proofs.«01_k».proof.Proof.Gen.Ffn00Ideal.Skeleton
public import proofs.«01_k».proof.Proof.Gen.Ffn00Ideal.Launch
public import proofs.«01_k».proof.Proof.Gen.Ffn00Ideal.Points
public import proofs.«01_k».proof.Proof.Gen.Ffn00Ideal.Frame
public import proofs.«01_k».proof.Proof.Gen.Ffn00Ideal.Value
public import proofs.«01_k».proof.Proof.Gen.Ffn00ReferenceIdeal
public import proofs.«01_k».proof.Proof.Gen.Ffn00ReferenceIdeal.Run
public import proofs.«01_k».proof.Proof.Gen.Ffn00ReferenceIdeal.Read
public import proofs.«01_k».proof.Proof.Gen.Ffn01
public import proofs.«01_k».proof.Proof.Gen.Ffn01.Skeleton
public import proofs.«01_k».proof.Proof.Gen.Ffn01.Launch
public import proofs.«01_k».proof.Proof.Gen.Ffn01.Points
public import proofs.«01_k».proof.Proof.Gen.Ffn01.Frame
public import proofs.«01_k».proof.Proof.Gen.Ffn01Ideal
public import proofs.«01_k».proof.Proof.Gen.Ffn01Ideal.Skeleton
public import proofs.«01_k».proof.Proof.Gen.Ffn01Ideal.Launch
public import proofs.«01_k».proof.Proof.Gen.Ffn01Ideal.Points
public import proofs.«01_k».proof.Proof.Gen.Ffn01Ideal.Frame
public import proofs.«01_k».proof.Proof.Gen.Ffn01Ideal.Value
public import proofs.«01_k».proof.Proof.Gen.Ffn01ReferenceIdeal
public import proofs.«01_k».proof.Proof.Gen.Ffn01ReferenceIdeal.Run
public import proofs.«01_k».proof.Proof.Gen.Ffn01ReferenceIdeal.Read
public import proofs.«01_k».proof.Proof.Gen.Ffn10
public import proofs.«01_k».proof.Proof.Gen.Ffn10.Skeleton
public import proofs.«01_k».proof.Proof.Gen.Ffn10.Launch
public import proofs.«01_k».proof.Proof.Gen.Ffn10.Points
public import proofs.«01_k».proof.Proof.Gen.Ffn10.Frame
public import proofs.«01_k».proof.Proof.Gen.Ffn10Ideal
public import proofs.«01_k».proof.Proof.Gen.Ffn10Ideal.Skeleton
public import proofs.«01_k».proof.Proof.Gen.Ffn10Ideal.Launch
public import proofs.«01_k».proof.Proof.Gen.Ffn10Ideal.Points
public import proofs.«01_k».proof.Proof.Gen.Ffn10Ideal.Frame
public import proofs.«01_k».proof.Proof.Gen.Ffn10Ideal.Value
public import proofs.«01_k».proof.Proof.Gen.Ffn10ReferenceIdeal
public import proofs.«01_k».proof.Proof.Gen.Ffn10ReferenceIdeal.Run
public import proofs.«01_k».proof.Proof.Gen.Ffn10ReferenceIdeal.Read
public import proofs.«01_k».proof.Proof.Gen.Ffn11
public import proofs.«01_k».proof.Proof.Gen.Ffn11.Skeleton
public import proofs.«01_k».proof.Proof.Gen.Ffn11.Launch
public import proofs.«01_k».proof.Proof.Gen.Ffn11.Points
public import proofs.«01_k».proof.Proof.Gen.Ffn11.Frame
public import proofs.«01_k».proof.Proof.Gen.Ffn11Ideal
public import proofs.«01_k».proof.Proof.Gen.Ffn11Ideal.Skeleton
public import proofs.«01_k».proof.Proof.Gen.Ffn11Ideal.Launch
public import proofs.«01_k».proof.Proof.Gen.Ffn11Ideal.Points
public import proofs.«01_k».proof.Proof.Gen.Ffn11Ideal.Frame
public import proofs.«01_k».proof.Proof.Gen.Ffn11Ideal.Value
public import proofs.«01_k».proof.Proof.Gen.Ffn11ReferenceIdeal
public import proofs.«01_k».proof.Proof.Gen.Ffn11ReferenceIdeal.Run
public import proofs.«01_k».proof.Proof.Gen.Ffn11ReferenceIdeal.Read
public import proofs.«01_k».proof.Proof.Gen.Ffn20
public import proofs.«01_k».proof.Proof.Gen.Ffn20.Skeleton
public import proofs.«01_k».proof.Proof.Gen.Ffn20.Launch
public import proofs.«01_k».proof.Proof.Gen.Ffn20.Points
public import proofs.«01_k».proof.Proof.Gen.Ffn20.Frame
public import proofs.«01_k».proof.Proof.Gen.Ffn20Ideal
public import proofs.«01_k».proof.Proof.Gen.Ffn20Ideal.Skeleton
public import proofs.«01_k».proof.Proof.Gen.Ffn20Ideal.Launch
public import proofs.«01_k».proof.Proof.Gen.Ffn20Ideal.Points
public import proofs.«01_k».proof.Proof.Gen.Ffn20Ideal.Frame
public import proofs.«01_k».proof.Proof.Gen.Ffn20Ideal.Value
public import proofs.«01_k».proof.Proof.Gen.Ffn20ReferenceIdeal
public import proofs.«01_k».proof.Proof.Gen.Ffn20ReferenceIdeal.Run
public import proofs.«01_k».proof.Proof.Gen.Ffn20ReferenceIdeal.Read
public import proofs.«01_k».proof.Proof.Gen.Ffn21
public import proofs.«01_k».proof.Proof.Gen.Ffn21.Skeleton
public import proofs.«01_k».proof.Proof.Gen.Ffn21.Launch
public import proofs.«01_k».proof.Proof.Gen.Ffn21.Points
public import proofs.«01_k».proof.Proof.Gen.Ffn21.Frame
public import proofs.«01_k».proof.Proof.Gen.Ffn21Ideal
public import proofs.«01_k».proof.Proof.Gen.Ffn21Ideal.Skeleton
public import proofs.«01_k».proof.Proof.Gen.Ffn21Ideal.Launch
public import proofs.«01_k».proof.Proof.Gen.Ffn21Ideal.Points
public import proofs.«01_k».proof.Proof.Gen.Ffn21Ideal.Frame
public import proofs.«01_k».proof.Proof.Gen.Ffn21Ideal.Value
public import proofs.«01_k».proof.Proof.Gen.Ffn21ReferenceIdeal
public import proofs.«01_k».proof.Proof.Gen.Ffn21ReferenceIdeal.Run
public import proofs.«01_k».proof.Proof.Gen.Ffn21ReferenceIdeal.Read
public import proofs.«01_k».proof.Proof.Gen.Ffn30
public import proofs.«01_k».proof.Proof.Gen.Ffn30.Skeleton
public import proofs.«01_k».proof.Proof.Gen.Ffn30.Launch
public import proofs.«01_k».proof.Proof.Gen.Ffn30.Points
public import proofs.«01_k».proof.Proof.Gen.Ffn30.Frame
public import proofs.«01_k».proof.Proof.Gen.Ffn30Ideal
public import proofs.«01_k».proof.Proof.Gen.Ffn30Ideal.Skeleton
public import proofs.«01_k».proof.Proof.Gen.Ffn30Ideal.Launch
public import proofs.«01_k».proof.Proof.Gen.Ffn30Ideal.Points
public import proofs.«01_k».proof.Proof.Gen.Ffn30Ideal.Frame
public import proofs.«01_k».proof.Proof.Gen.Ffn30Ideal.Value
public import proofs.«01_k».proof.Proof.Gen.Ffn30ReferenceIdeal
public import proofs.«01_k».proof.Proof.Gen.Ffn30ReferenceIdeal.Run
public import proofs.«01_k».proof.Proof.Gen.Ffn30ReferenceIdeal.Read
public import proofs.«01_k».proof.Proof.Gen.AbIn0
public import proofs.«01_k».proof.Proof.Gen.AbIn0.Skeleton
public import proofs.«01_k».proof.Proof.Gen.AbIn0.Launch
public import proofs.«01_k».proof.Proof.Gen.AbIn0.Points
public import proofs.«01_k».proof.Proof.Gen.AbIn0.Frame
public import proofs.«01_k».proof.Proof.Gen.AbIn0Ideal
public import proofs.«01_k».proof.Proof.Gen.AbIn0Ideal.Skeleton
public import proofs.«01_k».proof.Proof.Gen.AbIn0Ideal.Launch
public import proofs.«01_k».proof.Proof.Gen.AbIn0Ideal.Points
public import proofs.«01_k».proof.Proof.Gen.AbIn0Ideal.Frame
public import proofs.«01_k».proof.Proof.Gen.AbIn0Ideal.Value
public import proofs.«01_k».proof.Proof.Gen.AbIn0ReferenceIdeal
public import proofs.«01_k».proof.Proof.Gen.AbIn0ReferenceIdeal.Run
public import proofs.«01_k».proof.Proof.Gen.AbIn0ReferenceIdeal.Read
public import proofs.«01_k».proof.Proof.Gen.AbIn2
public import proofs.«01_k».proof.Proof.Gen.AbIn2.Skeleton
public import proofs.«01_k».proof.Proof.Gen.AbIn2.Launch
public import proofs.«01_k».proof.Proof.Gen.AbIn2.Points
public import proofs.«01_k».proof.Proof.Gen.AbIn2.Frame
public import proofs.«01_k».proof.Proof.Gen.AbIn2Ideal
public import proofs.«01_k».proof.Proof.Gen.AbIn2Ideal.Skeleton
public import proofs.«01_k».proof.Proof.Gen.AbIn2Ideal.Launch
public import proofs.«01_k».proof.Proof.Gen.AbIn2Ideal.Points
public import proofs.«01_k».proof.Proof.Gen.AbIn2Ideal.Frame
public import proofs.«01_k».proof.Proof.Gen.AbIn2Ideal.Value
public import proofs.«01_k».proof.Proof.Gen.AbIn2ReferenceIdeal
public import proofs.«01_k».proof.Proof.Gen.AbIn2ReferenceIdeal.Run
public import proofs.«01_k».proof.Proof.Gen.AbIn2ReferenceIdeal.Read
public import proofs.«01_k».proof.Proof.Gen.Pre_finite
public import proofs.«01_k».proof.Proof.Gen.On_latent_rows
public import proofs.«01_k».proof.Proof.FfnClaim
public import proofs.«01_k».proof.Proof.Ffn00Claim
public import proofs.«01_k».proof.Proof.Ffn01Claim
public import proofs.«01_k».proof.Proof.Ffn10Claim
public import proofs.«01_k».proof.Proof.Ffn11Claim
public import proofs.«01_k».proof.Proof.Ffn20Claim
public import proofs.«01_k».proof.Proof.Ffn21Claim
public import proofs.«01_k».proof.Proof.Ffn30Claim
public import proofs.«01_k».proof.Proof.AbIn0Claim
public import proofs.«01_k».proof.Proof.AbIn2Claim
public import proofs.«01_k».proof.Proof.AttClaim
public import Idealize.ShloMosaic.Adequacy
public import Idealize.ShloMosaic.Init
public import Idealize.ShloMosaic.Lib.Quiescent

@[expose] public section

noncomputable section

namespace Cert.Proof

open Idealize.ShloMosaic Idealize.SL.Sem

/-- The attention reference keeps its arguments and leaves no semaphore raised. -/
theorem reference_frame : @Cert.quiescent_ReferenceIdeal Cert.ReferenceIdeal.Gen.facts := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- So does the feed-forward reference. -/
theorem ffn_reference_frame : @Cert.quiescent_FfnReferenceIdeal Cert.FfnReferenceIdeal.Gen.facts := fun m ρ _ =>
  (θ_run Cert.FfnReferenceIdeal.defs _ _).mono
    (fun r h => ⟨fun c => (h c).2, sem_eq_zero_of_no_sems (by decide) r.2⟩) (Cert.FfnReferenceIdeal.Value.run (F := Ideal) m ρ)

theorem claim : Cert.Claim := ⟨
  Cert.Kernel.Gen.facts, Cert.KernelIdeal.Gen.facts, Cert.ReferenceIdeal.Gen.facts,
  Cert.Ffn.Gen.facts, Cert.FfnIdeal.Gen.facts, Cert.FfnReferenceIdeal.Gen.facts,
  Cert.Ffn00.Gen.facts, Cert.Ffn00Ideal.Gen.facts, Cert.Ffn00ReferenceIdeal.Gen.facts,
  Cert.Ffn01.Gen.facts, Cert.Ffn01Ideal.Gen.facts, Cert.Ffn01ReferenceIdeal.Gen.facts,
  Cert.Ffn10.Gen.facts, Cert.Ffn10Ideal.Gen.facts, Cert.Ffn10ReferenceIdeal.Gen.facts,
  Cert.Ffn11.Gen.facts, Cert.Ffn11Ideal.Gen.facts, Cert.Ffn11ReferenceIdeal.Gen.facts,
  Cert.Ffn20.Gen.facts, Cert.Ffn20Ideal.Gen.facts, Cert.Ffn20ReferenceIdeal.Gen.facts,
  Cert.Ffn21.Gen.facts, Cert.Ffn21Ideal.Gen.facts, Cert.Ffn21ReferenceIdeal.Gen.facts,
  Cert.Ffn30.Gen.facts, Cert.Ffn30Ideal.Gen.facts, Cert.Ffn30ReferenceIdeal.Gen.facts,
  Cert.AbIn0.Gen.facts, Cert.AbIn0Ideal.Gen.facts, Cert.AbIn0ReferenceIdeal.Gen.facts,
  Cert.AbIn2.Gen.facts, Cert.AbIn2Ideal.Gen.facts, Cert.AbIn2ReferenceIdeal.Gen.facts,
  Cert.Pre_finite.Gen.facts, Cert.On_latent_rows.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Ffn.Gen.frame m ρ, fun m ρ _ => Cert.FfnIdeal.Gen.frame m ρ, ffn_reference_frame,
  fun m ρ _ => Cert.Ffn00.Gen.frame m ρ, fun m ρ _ => Cert.Ffn00Ideal.Gen.frame m ρ, Cert.Ffn00Ideal.Whole.reference_frame,
  fun m ρ _ => Cert.Ffn01.Gen.frame m ρ, fun m ρ _ => Cert.Ffn01Ideal.Gen.frame m ρ, Cert.Ffn01Ideal.Whole.reference_frame,
  fun m ρ _ => Cert.Ffn10.Gen.frame m ρ, fun m ρ _ => Cert.Ffn10Ideal.Gen.frame m ρ, Cert.Ffn10Ideal.Whole.reference_frame,
  fun m ρ _ => Cert.Ffn11.Gen.frame m ρ, fun m ρ _ => Cert.Ffn11Ideal.Gen.frame m ρ, Cert.Ffn11Ideal.Whole.reference_frame,
  fun m ρ _ => Cert.Ffn20.Gen.frame m ρ, fun m ρ _ => Cert.Ffn20Ideal.Gen.frame m ρ, Cert.Ffn20Ideal.Whole.reference_frame,
  fun m ρ _ => Cert.Ffn21.Gen.frame m ρ, fun m ρ _ => Cert.Ffn21Ideal.Gen.frame m ρ, Cert.Ffn21Ideal.Whole.reference_frame,
  fun m ρ _ => Cert.Ffn30.Gen.frame m ρ, fun m ρ _ => Cert.Ffn30Ideal.Gen.frame m ρ, Cert.Ffn30Ideal.Whole.reference_frame,
  fun m ρ _ => Cert.AbIn0.Gen.frame m ρ, fun m ρ _ => Cert.AbIn0Ideal.Gen.frame m ρ, Cert.AbIn0Ideal.Whole.reference_frame,
  fun m ρ _ => Cert.AbIn2.Gen.frame m ρ, fun m ρ _ => Cert.AbIn2Ideal.Gen.frame m ρ, Cert.AbIn2Ideal.Whole.reference_frame,
  trivial, Cert.KernelIdeal.Whole.agrees, trivial, Cert.FfnIdeal.Whole.agrees,
  trivial, Cert.Ffn00Ideal.Whole.agrees,
  trivial, Cert.Ffn01Ideal.Whole.agrees,
  trivial, Cert.Ffn10Ideal.Whole.agrees,
  trivial, Cert.Ffn11Ideal.Whole.agrees,
  trivial, Cert.Ffn20Ideal.Whole.agrees,
  trivial, Cert.Ffn21Ideal.Whole.agrees,
  trivial, Cert.Ffn30Ideal.Whole.agrees,
  trivial, Cert.AbIn0Ideal.Whole.agrees,
  trivial, Cert.AbIn2Ideal.Whole.agrees⟩

end Cert.Proof

end
